-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5)
      ∧ r.2.mem ((c.tc : Thread Cert.Kernel11.nD Cert.Kernel11.τ).loc Cert.Kernel11.main_arg6) = m ((c.tc : Thread Cert.Kernel11.nD Cert.Kernel11.τ).loc Cert.Kernel11.main_arg6))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5)
      ∧ r.2.mem ((c.tc : Thread Cert.Kernel12.nD Cert.Kernel12.τ).loc Cert.Kernel12.main_arg6) = m ((c.tc : Thread Cert.Kernel12.nD Cert.Kernel12.τ).loc Cert.Kernel12.main_arg6))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
      ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5)
      ∧ r.2.mem ((c.tc : Thread Cert.Reference12Ideal.nD Cert.Reference12Ideal.τ).loc Cert.Reference12Ideal.main_arg6) = m ((c.tc : Thread Cert.Reference12Ideal.nD Cert.Reference12Ideal.τ).loc Cert.Reference12Ideal.main_arg6))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4)
      ∧ r.2.mem ((c.tc : Thread Cert.Kernel13.nD Cert.Kernel13.τ).loc Cert.Kernel13.main_arg5) = m ((c.tc : Thread Cert.Kernel13.nD Cert.Kernel13.τ).loc Cert.Kernel13.main_arg5)
      ∧ r.2.mem ((c.tc : Thread Cert.Kernel13.nD Cert.Kernel13.τ).loc Cert.Kernel13.main_arg6) = m ((c.tc : Thread Cert.Kernel13.nD Cert.Kernel13.τ).loc Cert.Kernel13.main_arg6))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
      ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5)
      ∧ r.2.mem ((c.tc : Thread Cert.Reference13Ideal.nD Cert.Reference13Ideal.τ).loc Cert.Reference13Ideal.main_arg6) = m ((c.tc : Thread Cert.Reference13Ideal.nD Cert.Reference13Ideal.τ).loc Cert.Reference13Ideal.main_arg6))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4)
      ∧ r.2.mem ((c.tc : Thread Cert.Kernel14.nD Cert.Kernel14.τ).loc Cert.Kernel14.main_arg5) = m ((c.tc : Thread Cert.Kernel14.nD Cert.Kernel14.τ).loc Cert.Kernel14.main_arg5))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5))
      ∧ r.2.sem = fun _ => 0)

def preserves_Kernel_KernelIdeal : Prop :=
  IdealRules.named_const.Statement Cert.KernelIdeal.κ "inv_sqrt2" .f32 0x3F3504F3#32 (((Real.sqrt 2)⁻¹ : ℝ) : EReal)
  ∧ IdealRules.named_const.Statement Cert.KernelIdeal.κ "inv_sqrt2pi" .f32 0x3ECC422A#32 (((Real.sqrt (2 * Real.pi))⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)) (v2 : (c : Dev Cert.KernelIdeal.nD) → Buf (Elt Ideal) ((c.tc : Thread Cert.KernelIdeal.nD Cert.KernelIdeal.τ).loc Cert.KernelIdeal.main_v8_2)) (v3 : (c : Dev Cert.KernelIdeal.nD) → Buf (Elt Ideal) ((c.tc : Thread Cert.KernelIdeal.nD Cert.KernelIdeal.τ).loc Cert.KernelIdeal.main_v8_3)) (v4 : (c : Dev Cert.KernelIdeal.nD) → Buf (Elt Ideal) ((c.tc : Thread Cert.KernelIdeal.nD Cert.KernelIdeal.τ).loc Cert.KernelIdeal.main_v8_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_v8_2) = v2 c
          ∧ r.2.mem ((c.tc : Thread Cert.KernelIdeal.nD Cert.KernelIdeal.τ).loc Cert.KernelIdeal.main_v8_3) = v3 c
          ∧ r.2.mem ((c.tc : Thread Cert.KernelIdeal.nD Cert.KernelIdeal.τ).loc Cert.KernelIdeal.main_v8_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v147) = v0 c
          ∧ r.2.mem ((c.tc : Thread Cert.ReferenceIdeal.nD Cert.ReferenceIdeal.τ).loc Cert.ReferenceIdeal.main_v148) = v1 c
          ∧ r.2.mem ((c.tc : Thread Cert.ReferenceIdeal.nD Cert.ReferenceIdeal.τ).loc Cert.ReferenceIdeal.main_v100) = v2 c
          ∧ r.2.mem ((c.tc : Thread Cert.ReferenceIdeal.nD Cert.ReferenceIdeal.τ).loc Cert.ReferenceIdeal.main_v98) = v3 c
          ∧ r.2.mem ((c.tc : Thread Cert.ReferenceIdeal.nD Cert.ReferenceIdeal.τ).loc Cert.ReferenceIdeal.main_v149) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v3)) (v1 : (c : Dev Cert.Kernel2Ideal.nD) → Buf (Elt Ideal) ((c.tc : Thread Cert.Kernel2Ideal.nD Cert.Kernel2Ideal.τ).loc Cert.Kernel2Ideal.main_v4)) (v2 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_v4) = v1 c
          ∧ r.2.mem ((c.tc : Thread Cert.Kernel2Ideal.nD Cert.Kernel2Ideal.τ).loc Cert.Kernel2Ideal.main_v2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v31) = v0 c
          ∧ r.2.mem ((c.tc : Thread Cert.Reference2Ideal.nD Cert.Reference2Ideal.τ).loc Cert.Reference2Ideal.main_v32) = v1 c
          ∧ r.2.mem ((c.tc : Thread Cert.Reference2Ideal.nD Cert.Reference2Ideal.τ).loc Cert.Reference2Ideal.main_v33) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v14) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0)) (v1 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_v1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_v11) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v7) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v1)) (v1 : (c : Dev Cert.Kernel6Ideal.nD) → Buf (Elt Ideal) ((c.tc : Thread Cert.Kernel6Ideal.nD Cert.Kernel6Ideal.τ).loc Cert.Kernel6Ideal.main_v2)) (v2 : (c : Dev Cert.Kernel6Ideal.nD) → Buf (Elt Ideal) ((c.tc : Thread Cert.Kernel6Ideal.nD Cert.Kernel6Ideal.τ).loc Cert.Kernel6Ideal.main_v3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_v2) = v1 c
          ∧ r.2.mem ((c.tc : Thread Cert.Kernel6Ideal.nD Cert.Kernel6Ideal.τ).loc Cert.Kernel6Ideal.main_v3) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v11) = v0 c
          ∧ r.2.mem ((c.tc : Thread Cert.Reference6Ideal.nD Cert.Reference6Ideal.τ).loc Cert.Reference6Ideal.main_v12) = v1 c
          ∧ r.2.mem ((c.tc : Thread Cert.Reference6Ideal.nD Cert.Reference6Ideal.τ).loc Cert.Reference6Ideal.main_v13) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v1_0)) (v1 : (c : Dev Cert.Kernel7Ideal.nD) → Buf (Elt Ideal) ((c.tc : Thread Cert.Kernel7Ideal.nD Cert.Kernel7Ideal.τ).loc Cert.Kernel7Ideal.main_v1_1)) (v2 : (c : Dev Cert.Kernel7Ideal.nD) → Buf (Elt Ideal) ((c.tc : Thread Cert.Kernel7Ideal.nD Cert.Kernel7Ideal.τ).loc Cert.Kernel7Ideal.main_v1_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1_0) = v0 c
          ∧ r.2.mem ((c.tc : Thread Cert.Kernel7Ideal.nD Cert.Kernel7Ideal.τ).loc Cert.Kernel7Ideal.main_v1_1) = v1 c
          ∧ r.2.mem ((c.tc : Thread Cert.Kernel7Ideal.nD Cert.Kernel7Ideal.τ).loc Cert.Kernel7Ideal.main_v1_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v37) = v0 c
          ∧ r.2.mem ((c.tc : Thread Cert.Reference7Ideal.nD Cert.Reference7Ideal.τ).loc Cert.Reference7Ideal.main_v38) = v1 c
          ∧ r.2.mem ((c.tc : Thread Cert.Reference7Ideal.nD Cert.Reference7Ideal.τ).loc Cert.Reference7Ideal.main_v39) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v1_0)) (v1 : (c : Dev Cert.Kernel8Ideal.nD) → Buf (Elt Ideal) ((c.tc : Thread Cert.Kernel8Ideal.nD Cert.Kernel8Ideal.τ).loc Cert.Kernel8Ideal.main_v1_1)) (v2 : (c : Dev Cert.Kernel8Ideal.nD) → Buf (Elt Ideal) ((c.tc : Thread Cert.Kernel8Ideal.nD Cert.Kernel8Ideal.τ).loc Cert.Kernel8Ideal.main_v1_2)) (v3 : (c : Dev Cert.Kernel8Ideal.nD) → Buf (Elt Ideal) ((c.tc : Thread Cert.Kernel8Ideal.nD Cert.Kernel8Ideal.τ).loc Cert.Kernel8Ideal.main_v1_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1_0) = v0 c
          ∧ r.2.mem ((c.tc : Thread Cert.Kernel8Ideal.nD Cert.Kernel8Ideal.τ).loc Cert.Kernel8Ideal.main_v1_1) = v1 c
          ∧ r.2.mem ((c.tc : Thread Cert.Kernel8Ideal.nD Cert.Kernel8Ideal.τ).loc Cert.Kernel8Ideal.main_v1_2) = v2 c
          ∧ r.2.mem ((c.tc : Thread Cert.Kernel8Ideal.nD Cert.Kernel8Ideal.τ).loc Cert.Kernel8Ideal.main_v1_3) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v51) = v0 c
          ∧ r.2.mem ((c.tc : Thread Cert.Reference8Ideal.nD Cert.Reference8Ideal.τ).loc Cert.Reference8Ideal.main_v50) = v1 c
          ∧ r.2.mem ((c.tc : Thread Cert.Reference8Ideal.nD Cert.Reference8Ideal.τ).loc Cert.Reference8Ideal.main_v52) = v2 c
          ∧ r.2.mem ((c.tc : Thread Cert.Reference8Ideal.nD Cert.Reference8Ideal.τ).loc Cert.Reference8Ideal.main_v53) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v0_2) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v23) = v0 c
          ∧ r.2.mem ((c.tc : Thread Cert.Reference9Ideal.nD Cert.Reference9Ideal.τ).loc Cert.Reference9Ideal.main_v4) = v1 c
          ∧ r.2.mem ((c.tc : Thread Cert.Reference9Ideal.nD Cert.Reference9Ideal.τ).loc Cert.Reference9Ideal.main_v10) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)) →
    ∃ (v0 : (c : Dev Cert.Kernel10Ideal.nD) → Buf (Elt Ideal) ((c.tc : Thread Cert.Kernel10Ideal.nD Cert.Kernel10Ideal.τ).loc Cert.Kernel10Ideal.main_v3_0)) (v1 : (c : Dev Cert.Kernel10Ideal.nD) → Buf (Elt Ideal) ((c.tc : Thread Cert.Kernel10Ideal.nD Cert.Kernel10Ideal.τ).loc Cert.Kernel10Ideal.main_v3_1)) (v2 : (c : Dev Cert.Kernel10Ideal.nD) → Buf (Elt Ideal) ((c.tc : Thread Cert.Kernel10Ideal.nD Cert.Kernel10Ideal.τ).loc Cert.Kernel10Ideal.main_v3_2)) (v3 : (c : Dev Cert.Kernel10Ideal.nD) → Buf (Elt Ideal) ((c.tc : Thread Cert.Kernel10Ideal.nD Cert.Kernel10Ideal.τ).loc Cert.Kernel10Ideal.main_v3_3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v3_0) = v0 c
          ∧ r.2.mem ((c.tc : Thread Cert.Kernel10Ideal.nD Cert.Kernel10Ideal.τ).loc Cert.Kernel10Ideal.main_v3_1) = v1 c
          ∧ r.2.mem ((c.tc : Thread Cert.Kernel10Ideal.nD Cert.Kernel10Ideal.τ).loc Cert.Kernel10Ideal.main_v3_2) = v2 c
          ∧ r.2.mem ((c.tc : Thread Cert.Kernel10Ideal.nD Cert.Kernel10Ideal.τ).loc Cert.Kernel10Ideal.main_v3_3) = v3 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v5) = v0 c
          ∧ r.2.mem ((c.tc : Thread Cert.Reference10Ideal.nD Cert.Reference10Ideal.τ).loc Cert.Reference10Ideal.main_v29) = v1 c
          ∧ r.2.mem ((c.tc : Thread Cert.Reference10Ideal.nD Cert.Reference10Ideal.τ).loc Cert.Reference10Ideal.main_v10) = v2 c
          ∧ r.2.mem ((c.tc : Thread Cert.Reference10Ideal.nD Cert.Reference10Ideal.τ).loc Cert.Reference10Ideal.main_v16) = v3 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)
      ∧ m' ((c.tc : Thread Cert.Reference11Ideal.nD Cert.Reference11Ideal.τ).loc Cert.Reference11Ideal.main_arg6) = m ((c.tc : Thread Cert.Kernel11Ideal.nD Cert.Kernel11Ideal.τ).loc Cert.Kernel11Ideal.main_arg6)) →
    ∃ (v0 : (c : Dev Cert.Kernel11Ideal.nD) → Buf (Elt Ideal) ((c.tc : Thread Cert.Kernel11Ideal.nD Cert.Kernel11Ideal.τ).loc Cert.Kernel11Ideal.main_v3_0)) (v1 : (c : Dev Cert.Kernel11Ideal.nD) → Buf (Elt Ideal) ((c.tc : Thread Cert.Kernel11Ideal.nD Cert.Kernel11Ideal.τ).loc Cert.Kernel11Ideal.main_v3_1)) (v2 : (c : Dev Cert.Kernel11Ideal.nD) → Buf (Elt Ideal) ((c.tc : Thread Cert.Kernel11Ideal.nD Cert.Kernel11Ideal.τ).loc Cert.Kernel11Ideal.main_v3_2)) (v3 : (c : Dev Cert.Kernel11Ideal.nD) → Buf (Elt Ideal) ((c.tc : Thread Cert.Kernel11Ideal.nD Cert.Kernel11Ideal.τ).loc Cert.Kernel11Ideal.main_v3_3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v3_0) = v0 c
          ∧ r.2.mem ((c.tc : Thread Cert.Kernel11Ideal.nD Cert.Kernel11Ideal.τ).loc Cert.Kernel11Ideal.main_v3_1) = v1 c
          ∧ r.2.mem ((c.tc : Thread Cert.Kernel11Ideal.nD Cert.Kernel11Ideal.τ).loc Cert.Kernel11Ideal.main_v3_2) = v2 c
          ∧ r.2.mem ((c.tc : Thread Cert.Kernel11Ideal.nD Cert.Kernel11Ideal.τ).loc Cert.Kernel11Ideal.main_v3_3) = v3 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
          ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v5) = v0 c
          ∧ r.2.mem ((c.tc : Thread Cert.Reference11Ideal.nD Cert.Reference11Ideal.τ).loc Cert.Reference11Ideal.main_v29) = v1 c
          ∧ r.2.mem ((c.tc : Thread Cert.Reference11Ideal.nD Cert.Reference11Ideal.τ).loc Cert.Reference11Ideal.main_v10) = v2 c
          ∧ r.2.mem ((c.tc : Thread Cert.Reference11Ideal.nD Cert.Reference11Ideal.τ).loc Cert.Reference11Ideal.main_v16) = v3 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5)
          ∧ r.2.mem ((c.tc : Thread Cert.Reference11Ideal.nD Cert.Reference11Ideal.τ).loc Cert.Reference11Ideal.main_arg6) = m' ((c.tc : Thread Cert.Reference11Ideal.nD Cert.Reference11Ideal.τ).loc Cert.Reference11Ideal.main_arg6))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)
      ∧ m' ((c.tc : Thread Cert.Reference12Ideal.nD Cert.Reference12Ideal.τ).loc Cert.Reference12Ideal.main_arg6) = m ((c.tc : Thread Cert.Kernel12Ideal.nD Cert.Kernel12Ideal.τ).loc Cert.Kernel12Ideal.main_arg6)) →
    ∃ (v0 : (c : Dev Cert.Kernel12Ideal.nD) → Buf (Elt Ideal) ((c.tc : Thread Cert.Kernel12Ideal.nD Cert.Kernel12Ideal.τ).loc Cert.Kernel12Ideal.main_v3_0)) (v1 : (c : Dev Cert.Kernel12Ideal.nD) → Buf (Elt Ideal) ((c.tc : Thread Cert.Kernel12Ideal.nD Cert.Kernel12Ideal.τ).loc Cert.Kernel12Ideal.main_v3_1)) (v2 : (c : Dev Cert.Kernel12Ideal.nD) → Buf (Elt Ideal) ((c.tc : Thread Cert.Kernel12Ideal.nD Cert.Kernel12Ideal.τ).loc Cert.Kernel12Ideal.main_v3_2)) (v3 : (c : Dev Cert.Kernel12Ideal.nD) → Buf (Elt Ideal) ((c.tc : Thread Cert.Kernel12Ideal.nD Cert.Kernel12Ideal.τ).loc Cert.Kernel12Ideal.main_v3_3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v3_0) = v0 c
          ∧ r.2.mem ((c.tc : Thread Cert.Kernel12Ideal.nD Cert.Kernel12Ideal.τ).loc Cert.Kernel12Ideal.main_v3_1) = v1 c
          ∧ r.2.mem ((c.tc : Thread Cert.Kernel12Ideal.nD Cert.Kernel12Ideal.τ).loc Cert.Kernel12Ideal.main_v3_2) = v2 c
          ∧ r.2.mem ((c.tc : Thread Cert.Kernel12Ideal.nD Cert.Kernel12Ideal.τ).loc Cert.Kernel12Ideal.main_v3_3) = v3 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
          ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v5) = v0 c
          ∧ r.2.mem ((c.tc : Thread Cert.Reference12Ideal.nD Cert.Reference12Ideal.τ).loc Cert.Reference12Ideal.main_v29) = v1 c
          ∧ r.2.mem ((c.tc : Thread Cert.Reference12Ideal.nD Cert.Reference12Ideal.τ).loc Cert.Reference12Ideal.main_v10) = v2 c
          ∧ r.2.mem ((c.tc : Thread Cert.Reference12Ideal.nD Cert.Reference12Ideal.τ).loc Cert.Reference12Ideal.main_v16) = v3 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5)
          ∧ r.2.mem ((c.tc : Thread Cert.Reference12Ideal.nD Cert.Reference12Ideal.τ).loc Cert.Reference12Ideal.main_arg6) = m' ((c.tc : Thread Cert.Reference12Ideal.nD Cert.Reference12Ideal.τ).loc Cert.Reference12Ideal.main_arg6))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)
      ∧ m' ((c.tc : Thread Cert.Reference13Ideal.nD Cert.Reference13Ideal.τ).loc Cert.Reference13Ideal.main_arg5) = m ((c.tc : Thread Cert.Kernel13Ideal.nD Cert.Kernel13Ideal.τ).loc Cert.Kernel13Ideal.main_arg5)
      ∧ m' ((c.tc : Thread Cert.Reference13Ideal.nD Cert.Reference13Ideal.τ).loc Cert.Reference13Ideal.main_arg6) = m ((c.tc : Thread Cert.Kernel13Ideal.nD Cert.Kernel13Ideal.τ).loc Cert.Kernel13Ideal.main_arg6)) →
    ∃ (v0 : (c : Dev Cert.Kernel13Ideal.nD) → Buf (Elt Ideal) ((c.tc : Thread Cert.Kernel13Ideal.nD Cert.Kernel13Ideal.τ).loc Cert.Kernel13Ideal.main_v3_0)) (v1 : (c : Dev Cert.Kernel13Ideal.nD) → Buf (Elt Ideal) ((c.tc : Thread Cert.Kernel13Ideal.nD Cert.Kernel13Ideal.τ).loc Cert.Kernel13Ideal.main_v3_1)) (v2 : (c : Dev Cert.Kernel13Ideal.nD) → Buf (Elt Ideal) ((c.tc : Thread Cert.Kernel13Ideal.nD Cert.Kernel13Ideal.τ).loc Cert.Kernel13Ideal.main_v3_2)) (v3 : (c : Dev Cert.Kernel13Ideal.nD) → Buf (Elt Ideal) ((c.tc : Thread Cert.Kernel13Ideal.nD Cert.Kernel13Ideal.τ).loc Cert.Kernel13Ideal.main_v3_3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v3_0) = v0 c
          ∧ r.2.mem ((c.tc : Thread Cert.Kernel13Ideal.nD Cert.Kernel13Ideal.τ).loc Cert.Kernel13Ideal.main_v3_1) = v1 c
          ∧ r.2.mem ((c.tc : Thread Cert.Kernel13Ideal.nD Cert.Kernel13Ideal.τ).loc Cert.Kernel13Ideal.main_v3_2) = v2 c
          ∧ r.2.mem ((c.tc : Thread Cert.Kernel13Ideal.nD Cert.Kernel13Ideal.τ).loc Cert.Kernel13Ideal.main_v3_3) = v3 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
          ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
          ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v5) = v0 c
          ∧ r.2.mem ((c.tc : Thread Cert.Reference13Ideal.nD Cert.Reference13Ideal.τ).loc Cert.Reference13Ideal.main_v29) = v1 c
          ∧ r.2.mem ((c.tc : Thread Cert.Reference13Ideal.nD Cert.Reference13Ideal.τ).loc Cert.Reference13Ideal.main_v10) = v2 c
          ∧ r.2.mem ((c.tc : Thread Cert.Reference13Ideal.nD Cert.Reference13Ideal.τ).loc Cert.Reference13Ideal.main_v16) = v3 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4)
          ∧ r.2.mem ((c.tc : Thread Cert.Reference13Ideal.nD Cert.Reference13Ideal.τ).loc Cert.Reference13Ideal.main_arg5) = m' ((c.tc : Thread Cert.Reference13Ideal.nD Cert.Reference13Ideal.τ).loc Cert.Reference13Ideal.main_arg5)
          ∧ r.2.mem ((c.tc : Thread Cert.Reference13Ideal.nD Cert.Reference13Ideal.τ).loc Cert.Reference13Ideal.main_arg6) = m' ((c.tc : Thread Cert.Reference13Ideal.nD Cert.Reference13Ideal.τ).loc Cert.Reference13Ideal.main_arg6))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)
      ∧ m' ((c.tc : Thread Cert.Reference14Ideal.nD Cert.Reference14Ideal.τ).loc Cert.Reference14Ideal.main_arg5) = m ((c.tc : Thread Cert.Kernel14Ideal.nD Cert.Kernel14Ideal.τ).loc Cert.Kernel14Ideal.main_arg5)) →
    ∃ (v0 : (c : Dev Cert.Kernel14Ideal.nD) → Buf (Elt Ideal) ((c.tc : Thread Cert.Kernel14Ideal.nD Cert.Kernel14Ideal.τ).loc Cert.Kernel14Ideal.main_v1_0)) (v1 : (c : Dev Cert.Kernel14Ideal.nD) → Buf (Elt Ideal) ((c.tc : Thread Cert.Kernel14Ideal.nD Cert.Kernel14Ideal.τ).loc Cert.Kernel14Ideal.main_v1_7)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v1_0) = v0 c
          ∧ r.2.mem ((c.tc : Thread Cert.Kernel14Ideal.nD Cert.Kernel14Ideal.τ).loc Cert.Kernel14Ideal.main_v1_7) = v1 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
          ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v40) = v0 c
          ∧ r.2.mem ((c.tc : Thread Cert.Reference14Ideal.nD Cert.Reference14Ideal.τ).loc Cert.Reference14Ideal.main_v41) = v1 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4)
          ∧ r.2.mem ((c.tc : Thread Cert.Reference14Ideal.nD Cert.Reference14Ideal.τ).loc Cert.Reference14Ideal.main_arg5) = m' ((c.tc : Thread Cert.Reference14Ideal.nD Cert.Reference14Ideal.τ).loc Cert.Reference14Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
-- ==== Pre_finite.lean ====
abbrev S4096x5120 : Shape := ⟨2, ![4096, 5120]⟩
abbrev S4096x2048 : Shape := ⟨2, ![4096, 2048]⟩
abbrev S1024 : Shape := ⟨1, ![1024]⟩
abbrev S8x128x128 : Shape := ⟨3, ![8, 128, 128]⟩
abbrev S8x128 : Shape := ⟨2, ![8, 128]⟩
abbrev S_ : Shape := ⟨0, ![]⟩

class Facts : Prop where
  bcast_S_S4096x5120 : S_.BroadcastsInDim S4096x5120 (![] : Fin 0 → Fin S4096x5120.rank)
  bcast_S_S4096x2048 : S_.BroadcastsInDim S4096x2048 (![] : Fin 0 → Fin S4096x2048.rank)
  bcast_S_S1024 : S_.BroadcastsInDim S1024 (![] : Fin 0 → Fin S1024.rank)
  bcast_S_S8x128x128 : S_.BroadcastsInDim S8x128x128 (![] : Fin 0 → Fin S8x128x128.rank)
  bcast_S_S8x128 : S_.BroadcastsInDim S8x128 (![] : Fin 0 → Fin S8x128.rank)

variable [Facts]

def fn {F : FTy → Type} [FloatOps F] (main_arg0 : FVec F S4096x5120 .bf16) (main_arg1 : FVec F S4096x2048 .bf16) (main_arg2 : FVec F S1024 .f32) (main_arg3 : FVec F S8x128x128 .f32) (main_arg4 : FVec F S8x128 .f32) (main_arg5 : FVec F S1024 .f32) : IVec S4096x5120 1 × IVec S4096x2048 1 × IVec S1024 1 × IVec S8x128x128 1 × IVec S8x128 1 × IVec S1024 1 :=
  let main_v0 : FVec F S4096x5120 .bf16 := Host.absf main_arg0
  let main_cst : FVec F S_ .bf16 := constant S_ .bf16 0x7F80#16
  let main_v1 : FVec F S4096x5120 .bf16 := broadcastInDim S4096x5120 ![] bcast_S_S4096x5120 main_cst
  let main_v2 : IVec S4096x5120 1 := cmpf .olt main_v0 main_v1
  let main_v3 : FVec F S4096x2048 .bf16 := Host.absf main_arg1
  let main_cst_0 : FVec F S_ .bf16 := constant S_ .bf16 0x7F80#16
  let main_v4 : FVec F S4096x2048 .bf16 := broadcastInDim S4096x2048 ![] bcast_S_S4096x2048 main_cst_0
  let main_v5 : IVec S4096x2048 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S8x128x128 .f32 := Host.absf main_arg3
  let main_cst_2 : FVec F S_ .f32 := constant S_ .f32 0x7F800000#32
  let main_v10 : FVec F S8x128x128 .f32 := broadcastInDim S8x128x128 ![] bcast_S_S8x128x128 main_cst_2
  let main_v11 : IVec S8x128x128 1 := cmpf .olt main_v9 main_v10
  let main_v12 : FVec F S8x128 .f32 := Host.absf main_arg4
  let main_cst_3 : FVec F S_ .f32 := constant S_ .f32 0x7F800000#32
  let main_v13 : FVec F S8x128 .f32 := broadcastInDim S8x128 ![] bcast_S_S8x128 main_cst_3
  let main_v14 : IVec S8x128 1 := cmpf .olt main_v12 main_v13
  let main_v15 : FVec F S1024 .f32 := Host.absf main_arg5
  let main_cst_4 : FVec F S_ .f32 := constant S_ .f32 0x7F800000#32
  let main_v16 : FVec F S1024 .f32 := broadcastInDim S1024 ![] bcast_S_S1024 main_cst_4
  let main_v17 : IVec S1024 1 := cmpf .olt main_v15 main_v16
  (main_v2, main_v5, main_v8, main_v11, main_v14, main_v17)
-- ==== Pre_finite2.lean ====
abbrev S4096x2048 : Shape := ⟨2, ![4096, 2048]⟩
abbrev S4x2048x1408 : Shape := ⟨3, ![4, 2048, 1408]⟩
abbrev S5632x2048 : Shape := ⟨2, ![5632, 2048]⟩
abbrev S_ : Shape := ⟨0, ![]⟩

class Facts : Prop where
  bcast_S_S4096x2048 : S_.BroadcastsInDim S4096x2048 (![] : Fin 0 → Fin S4096x2048.rank)
  bcast_S_S4x2048x1408 : S_.BroadcastsInDim S4x2048x1408 (![] : Fin 0 → Fin S4x2048x1408.rank)
  bcast_S_S5632x2048 : S_.BroadcastsInDim S5632x2048 (![] : Fin 0 → Fin S5632x2048.rank)

variable [Facts]

def fn {F : FTy → Type} [FloatOps F] (main_arg0 : FVec F S4096x2048 .bf16) (main_arg1 : FVec F S4x2048x1408 .bf16) (main_arg2 : FVec F S4x2048x1408 .bf16) (main_arg3 : FVec F S5632x2048 .bf16) (main_arg4 : FVec F S4096x2048 .bf16) : IVec S4096x2048 1 × IVec S4x2048x1408 1 × IVec S4x2048x1408 1 × IVec S5632x2048 1 × IVec S4096x2048 1 :=
  let main_v0 : FVec F S4096x2048 .bf16 := Host.absf main_arg0
  let main_cst : FVec F S_ .bf16 := constant S_ .bf16 0x7F80#16
  let main_v1 : FVec F S4096x2048 .bf16 := broadcastInDim S4096x2048 ![] bcast_S_S4096x2048 main_cst
  let main_v2 : IVec S4096x2048 1 := cmpf .olt main_v0 main_v1
  let main_v3 : FVec F S4x2048x1408 .bf16 := Host.absf main_arg1
  let main_cst_0 : FVec F S_ .bf16 := constant S_ .bf16 0x7F80#16
  let main_v4 : FVec F S4x2048x1408 .bf16 := broadcastInDim S4x2048x1408 ![] bcast_S_S4x2048x1408 main_cst_0
  let main_v5 : IVec S4x2048x1408 1 := cmpf .olt main_v3 main_v4
  let main_v6 : FVec F S4x2048x1408 .bf16 := Host.absf main_arg2
  let main_cst_1 : FVec F S_ .bf16 := constant S_ .bf16 0x7F80#16
  let main_v7 : FVec F S4x2048x1408 .bf16 := broadcastInDim S4x2048x1408 ![] bcast_S_S4x2048x1408 main_cst_1
  let main_v8 : IVec S4x2048x1408 1 := cmpf .olt main_v6 main_v7
  let main_v9 : FVec F S5632x2048 .bf16 := Host.absf main_arg3
  let main_cst_2 : FVec F S_ .bf16 := constant S_ .bf16 0x7F80#16
  let main_v10 : FVec F S5632x2048 .bf16 := broadcastInDim S5632x2048 ![] bcast_S_S5632x2048 main_cst_2
  let main_v11 : IVec S5632x2048 1 := cmpf .olt main_v9 main_v10
  let main_v12 : FVec F S4096x2048 .bf16 := Host.absf main_arg4
  let main_cst_3 : FVec F S_ .bf16 := constant S_ .bf16 0x7F80#16
  let main_v13 : FVec F S4096x2048 .bf16 := broadcastInDim S4096x2048 ![] bcast_S_S4096x2048 main_cst_3
  let main_v14 : IVec S4096x2048 1 := cmpf .olt main_v12 main_v13
  (main_v2, main_v5, main_v8, main_v11, main_v14)
-- ==== Kernel.lean ====
abbrev S4096x5120 : Shape := ⟨2, ![4096, 5120]⟩
abbrev S4096x2048 : Shape := ⟨2, ![4096, 2048]⟩
abbrev S1024 : Shape := ⟨1, ![1024]⟩
abbrev S8x128x128 : Shape := ⟨3, ![8, 128, 128]⟩
abbrev S8x128 : Shape := ⟨2, ![8, 128]⟩
abbrev S128x8 : Shape := ⟨2, ![128, 8]⟩
abbrev S128x8x128 : Shape := ⟨3, ![128, 8, 128]⟩
abbrev S128x1024 : Shape := ⟨2, ![128, 1024]⟩
abbrev S1x1024 : Shape := ⟨2, ![1, 1024]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩
abbrev S1x128x128 : Shape := ⟨3, ![1, 128, 128]⟩
abbrev S128x128 : Shape := ⟨2, ![128, 128]⟩
abbrev S128 : Shape := ⟨1, ![128]⟩
abbrev S1x128 : Shape := ⟨2, ![1, 128]⟩

abbrev nBuf : Space → Nat
  | .hbm => 19
  | .vmem => 18
  | .smem => 0
  | _ => 0

abbrev bufTy : (tb : Table) → Fin (tcTables nBuf tb) → BufTy
  | .hbm, ⟨0, _⟩ => ⟨S4096x5120, .bf16⟩
  | .hbm, ⟨1, _⟩ => ⟨S4096x2048, .bf16⟩
  | .hbm, ⟨2, _⟩ => ⟨S1024, .f32⟩
  | .hbm, ⟨3, _⟩ => ⟨S8x128x128, .f32⟩
  | .hbm, ⟨4, _⟩ => ⟨S8x128, .f32⟩
  | .hbm, ⟨5, _⟩ => ⟨S1024, .f32⟩
  | .hbm, ⟨6, _⟩ => ⟨S8x128x128, .bf16⟩
  | .hbm, ⟨7, _⟩ => ⟨S128x8, .f32⟩
  | .hbm, ⟨8, _⟩ => ⟨S128x8x128, .f32⟩
  | .hbm, ⟨9, _⟩ => ⟨S128x1024, .f32⟩
  | .hbm, ⟨10, _⟩ => ⟨S8x128x128, .f32⟩
  | .hbm, ⟨11, _⟩ => ⟨S8x128x128, .bf16⟩
  | .hbm, ⟨12, _⟩ => ⟨S1x1024, .f32⟩
  | .hbm, ⟨13, _⟩ => ⟨S1x1024, .f32⟩
  | .hbm, ⟨14, _⟩ => ⟨S4096x2048, .bf16⟩
  | .hbm, ⟨15, _⟩ => ⟨S1x1024, .f32⟩
  | .hbm, ⟨16, _⟩ => ⟨S8x128x128, .f32⟩
  | .hbm, ⟨17, _⟩ => ⟨S8x128, .f32⟩
  | .hbm, ⟨18, _⟩ => ⟨S1x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S1x1024, .f32⟩
  | .local _ .vmem, ⟨7, _⟩ => ⟨S8x128x128, .bf16⟩
  | .local _ .vmem, ⟨8, _⟩ => ⟨S8x128x128, .bf16⟩
  | .local _ .vmem, ⟨9, _⟩ => ⟨S128x1024, .f32⟩
  | .local _ .vmem, ⟨10, _⟩ => ⟨S1x1024, .f32⟩
  | .local _ .vmem, ⟨11, _⟩ => ⟨S256x2048, .bf16⟩
  | .local _ .vmem, ⟨12, _⟩ => ⟨S256x2048, .bf16⟩
  | .local _ .vmem, ⟨13, _⟩ => ⟨S1x1024, .f32⟩
  | .local _ .vmem, ⟨14, _⟩ => ⟨S8x128x128, .f32⟩
  | .local _ .vmem, ⟨15, _⟩ => ⟨S8x128, .f32⟩
  | .local _ .vmem, ⟨16, _⟩ => ⟨S1x1024, .f32⟩
  | .local _ .vmem, ⟨17, _⟩ => ⟨S128x1024, .f32⟩
  | _, _ => ⟨S4096x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev main_v8_2 : Ref sig .tc := ⟨.hbm, 16, rfl⟩
abbrev main_v8_3 : Ref sig .tc := ⟨.hbm, 17, rfl⟩
abbrev main_v8_4 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem10_0 : DmaSem sig := 14
abbrev cc0_sem11_0 : DmaSem sig := 15
abbrev cc0_sem12_0 : DmaSem sig := 16

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v436 : BitVec 1 := Scalar.cmpi .eq arg0 c15_i32
  let v437 : BitVec 32 := Scalar.extui v436
  let c0_i32_295 : BitVec 32 := 0#32
  let v438 : BitVec 1 := Scalar.cmpi .ne v437 c0_i32_295
  v438

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== KernelIdeal.lean ====
variable {F : FTy → Type} [FloatOps F] [Named F]
def κ : String → Option EReal := fun
  | "inv_sqrt2" => some (((Real.sqrt 2)⁻¹ : ℝ) : EReal)
  | "inv_sqrt2pi" => some (((Real.sqrt (2 * Real.pi))⁻¹ : ℝ) : EReal)
  | _ => none
-- ==== ReferenceIdeal.lean ====
abbrev S4096x5120 : Shape := ⟨2, ![4096, 5120]⟩
abbrev S4096x2048 : Shape := ⟨2, ![4096, 2048]⟩
abbrev S1024 : Shape := ⟨1, ![1024]⟩
abbrev S8x128x128 : Shape := ⟨3, ![8, 128, 128]⟩
abbrev S8x128 : Shape := ⟨2, ![8, 128]⟩
abbrev S4096x1024 : Shape := ⟨2, ![4096, 1024]⟩
abbrev S1x4096x2048 : Shape := ⟨3, ![1, 4096, 2048]⟩
abbrev S_ : Shape := ⟨0, ![]⟩
abbrev S1x4096x1024 : Shape := ⟨3, ![1, 4096, 1024]⟩
abbrev S1x4096 : Shape := ⟨2, ![1, 4096]⟩
abbrev S1x4096x1 : Shape := ⟨3, ![1, 4096, 1]⟩
abbrev S1x1x1024 : Shape := ⟨3, ![1, 1, 1024]⟩
abbrev S1x32x128x8x128 : Shape := ⟨5, ![1, 32, 128, 8, 128]⟩
abbrev S8x1x32x128x128 : Shape := ⟨5, ![8, 1, 32, 128, 128]⟩
abbrev S128x8 : Shape := ⟨2, ![128, 8]⟩
abbrev S1x1x128x8x1 : Shape := ⟨5, ![1, 1, 128, 8, 1]⟩
abbrev S1x1024 : Shape := ⟨2, ![1, 1024]⟩
abbrev S4096 : Shape := ⟨1, ![4096]⟩
abbrev S1x128x8 : Shape := ⟨3, ![1, 128, 8]⟩

abbrev nBuf : Space → Nat
  | .hbm => 187
  | .vmem => 0
  | .smem => 0
  | _ => 0

abbrev hbmTy0_0 (i : Nat) : BufTy := match i % 128 with
  | 0 => ⟨S4096x5120, .bf16⟩
  | 1 => ⟨S4096x2048, .bf16⟩
  | 2 => ⟨S1024, .f32⟩
  | 3 => ⟨S8x128x128, .f32⟩
  | 4 => ⟨S8x128, .f32⟩
  | 5 => ⟨S1024, .f32⟩
  | 6 => ⟨S4096x5120, .f32⟩
  | 7 => ⟨S4096x2048, .f32⟩
  | 8 => ⟨S4096x2048, .f32⟩
  | 9 => ⟨S4096x1024, .f32⟩
  | 10 => ⟨S1x4096x2048, .f32⟩
  | 11 => ⟨S_, .f32⟩
  | 12 => ⟨S1x4096x2048, .f32⟩
  | 13 => ⟨S1x4096x2048, .f32⟩
  | 14 => ⟨S1x4096x2048, .f32⟩
  | 15 => ⟨S_, .f32⟩
  | 16 => ⟨S_, .f32⟩
  | 17 => ⟨S1x4096x2048, .f32⟩
  | 18 => ⟨S1x4096x2048, .f32⟩
  | 19 => ⟨S1x4096x2048, .f32⟩
  | 20 => ⟨S_, .f32⟩
  | 21 => ⟨S_, .f32⟩
  | 22 => ⟨S_, .f32⟩
  | 23 => ⟨S_, .f32⟩
  | 24 => ⟨S_, .f32⟩
  | 25 => ⟨S_, .f32⟩
  | 26 => ⟨S1x4096x2048, .f32⟩
  | 27 => ⟨S1x4096x2048, .f32⟩
  | 28 => ⟨S1x4096x2048, .f32⟩
  | 29 => ⟨S1x4096x2048, .f32⟩
  | 30 => ⟨S1x4096x1024, .f32⟩
  | 31 => ⟨S1x4096x1024, .f32⟩
  | 32 => ⟨S_, .f32⟩
  | 33 => ⟨S1x4096, .f32⟩
  | 34 => ⟨S1x4096x1, .f32⟩
  | 35 => ⟨S_, .f32⟩
  | 36 => ⟨S1x4096x1, .f32⟩
  | 37 => ⟨S1x4096x1, .f32⟩
  | 38 => ⟨S1x4096x1024, .f32⟩
  | 39 => ⟨S1x4096x1024, .f32⟩
  | 40 => ⟨S1x4096x1024, .f32⟩
  | 41 => ⟨S_, .f32⟩
  | 42 => ⟨S1x4096, .f32⟩
  | 43 => ⟨S1x4096x1, .f32⟩
  | 44 => ⟨S_, .f32⟩
  | 45 => ⟨S1x4096x1, .f32⟩
  | 46 => ⟨S1x4096x1, .f32⟩
  | 47 => ⟨S_, .f32⟩
  | 48 => ⟨S1x4096x1, .f32⟩
  | 49 => ⟨S1x4096x1, .f32⟩
  | 50 => ⟨S1x4096x1, .f32⟩
  | 51 => ⟨S1x4096x1, .f32⟩
  | 52 => ⟨S_, .f32⟩
  | 53 => ⟨S1x4096x1, .f32⟩
  | 54 => ⟨S1x4096x1, .f32⟩
  | 55 => ⟨S1x4096x1024, .f32⟩
  | 56 => ⟨S1x4096x1024, .f32⟩
  | 57 => ⟨S1x1x1024, .f32⟩
  | 58 => ⟨S1x4096x1024, .f32⟩
  | 59 => ⟨S1x4096x1024, .f32⟩
  | 60 => ⟨S1x32x128x8x128, .f32⟩
  | 61 => ⟨S8x1x32x128x128, .f32⟩
  | 62 => ⟨S1x32x128x8x128, .f32⟩
  | 63 => ⟨S128x8, .f32⟩
  | 64 => ⟨S1x1x128x8x1, .f32⟩
  | 65 => ⟨S1x32x128x8x128, .f32⟩
  | 66 => ⟨S1x32x128x8x128, .f32⟩
  | 67 => ⟨S1x4096x1024, .f32⟩
  | 68 => ⟨S1x4096x1024, .f32⟩
  | 69 => ⟨S1x4096x1024, .f32⟩
  | 70 => ⟨S_, .f32⟩
  | 71 => ⟨S1x4096, .f32⟩
  | 72 => ⟨S1x4096x1, .f32⟩
  | 73 => ⟨S_, .f32⟩
  | 74 => ⟨S1x4096x1, .f32⟩
  | 75 => ⟨S1x4096x1, .f32⟩
  | 76 => ⟨S_, .f32⟩
  | 77 => ⟨S1x4096x1, .f32⟩
  | 78 => ⟨S1x4096x1, .f32⟩
  | 79 => ⟨S1x4096x1, .f32⟩
  | 80 => ⟨S1x4096x1, .f32⟩
  | 81 => ⟨S_, .f32⟩
  | 82 => ⟨S1x4096x1, .f32⟩
  | 83 => ⟨S1x4096x1, .f32⟩
  | 84 => ⟨S1x4096x1024, .f32⟩
  | 85 => ⟨S1x4096x1024, .f32⟩
  | 86 => ⟨S1x1x1024, .f32⟩
  | 87 => ⟨S1x4096x1024, .f32⟩
  | 88 => ⟨S1x4096x1024, .f32⟩
  | 89 => ⟨S4096x1024, .f32⟩
  | 90 => ⟨S1x4096x1024, .f32⟩
  | 91 => ⟨S1x4096x1024, .f32⟩
  | 92 => ⟨S_, .f32⟩
  | 93 => ⟨S1x1024, .f32⟩
  | 94 => ⟨S1x1x1024, .f32⟩
  | 95 => ⟨S1x4096x1024, .f32⟩
  | 96 => ⟨S1x4096x1024, .f32⟩
  | 97 => ⟨S_, .f32⟩
  | 98 => ⟨S1024, .f32⟩
  | 99 => ⟨S1x4096x1024, .f32⟩
  | 100 => ⟨S_, .f32⟩
  | 101 => ⟨S1x4096, .f32⟩
  | 102 => ⟨S1x4096x1, .f32⟩
  | 103 => ⟨S1x4096x1024, .f32⟩
  | 104 => ⟨S1x4096x1024, .f32⟩
  | 105 => ⟨S1x4096x1, .f32⟩
  | 106 => ⟨S_, .f32⟩
  | 107 => ⟨S1x4096x1, .f32⟩
  | 108 => ⟨S1x4096x1, .f32⟩
  | 109 => ⟨S_, .f32⟩
  | 110 => ⟨S4096, .f32⟩
  | 111 => ⟨S1x4096, .f32⟩
  | 112 => ⟨S1x4096x1024, .f32⟩
  | 113 => ⟨S1x4096x1024, .f32⟩
  | 114 => ⟨S1x4096x1024, .f32⟩
  | 115 => ⟨S1x4096x1024, .f32⟩
  | 116 => ⟨S1x4096x1024, .f32⟩
  | 117 => ⟨S1x4096x1024, .f32⟩
  | 118 => ⟨S1x4096x1024, .f32⟩
  | 119 => ⟨S1x32x128x8x128, .f32⟩
  | 120 => ⟨S_, .f32⟩
  | 121 => ⟨S1x128x8, .f32⟩
  | 122 => ⟨S1x1x128x8x1, .f32⟩
  | 123 => ⟨S_, .f32⟩
  | 124 => ⟨S128x8, .f32⟩
  | 125 => ⟨S8x128, .f32⟩
  | 126 => ⟨S8x1x32x128x128, .f32⟩
  | 127 => ⟨S8x128x128, .f32⟩
  | _ => ⟨S4096x5120, .bf16⟩

abbrev hbmTy0_1 (i : Nat) : BufTy := match i % 128 with
  | 0 => ⟨S8x1x32x128x128, .f32⟩
  | 1 => ⟨S1x32x128x8x128, .f32⟩
  | 2 => ⟨S1x4096x1024, .f32⟩
  | 3 => ⟨S1x4096x1024, .f32⟩
  | 4 => ⟨S_, .f32⟩
  | 5 => ⟨S1x1024, .f32⟩
  | 6 => ⟨S1x1x1024, .f32⟩
  | 7 => ⟨S1x4096x1024, .f32⟩
  | 8 => ⟨S1x4096x1024, .f32⟩
  | 9 => ⟨S_, .f32⟩
  | 10 => ⟨S1024, .f32⟩
  | 11 => ⟨S1x4096x1024, .f32⟩
  | 12 => ⟨S_, .f32⟩
  | 13 => ⟨S1x4096, .f32⟩
  | 14 => ⟨S1x4096x1, .f32⟩
  | 15 => ⟨S1x4096x1024, .f32⟩
  | 16 => ⟨S1x4096x1024, .f32⟩
  | 17 => ⟨S1x4096x1, .f32⟩
  | 18 => ⟨S_, .f32⟩
  | 19 => ⟨S1x4096x1, .f32⟩
  | 20 => ⟨S1x4096x1, .f32⟩
  | 21 => ⟨S_, .f32⟩
  | 22 => ⟨S4096, .f32⟩
  | 23 => ⟨S1x4096, .f32⟩
  | 24 => ⟨S1x4096x1024, .f32⟩
  | 25 => ⟨S1x4096x1024, .f32⟩
  | 26 => ⟨S1x4096x1024, .f32⟩
  | 27 => ⟨S1x4096x1024, .f32⟩
  | 28 => ⟨S1x4096x1024, .f32⟩
  | 29 => ⟨S1x4096x1024, .f32⟩
  | 30 => ⟨S_, .f32⟩
  | 31 => ⟨S1x4096, .f32⟩
  | 32 => ⟨S1x4096x1, .f32⟩
  | 33 => ⟨S_, .f32⟩
  | 34 => ⟨S1x4096x1, .f32⟩
  | 35 => ⟨S1x4096x1, .f32⟩
  | 36 => ⟨S_, .f32⟩
  | 37 => ⟨S4096, .f32⟩
  | 38 => ⟨S1x4096, .f32⟩
  | 39 => ⟨S1x4096x1024, .f32⟩
  | 40 => ⟨S1x4096x1024, .f32⟩
  | 41 => ⟨S1x4096x2048, .f32⟩
  | 42 => ⟨S1x4096x2048, .f32⟩
  | 43 => ⟨S1x4096x2048, .f32⟩
  | 44 => ⟨S1x4096x2048, .f32⟩
  | 45 => ⟨S1x4096x2048, .f32⟩
  | 46 => ⟨S1x4096x2048, .f32⟩
  | 47 => ⟨S1x4096x2048, .f32⟩
  | 48 => ⟨S1x4096x2048, .f32⟩
  | 49 => ⟨S1x4096x2048, .f32⟩
  | 50 => ⟨S_, .f32⟩
  | 51 => ⟨S1x4096x2048, .f32⟩
  | 52 => ⟨S1x4096x2048, .f32⟩
  | 53 => ⟨S1x4096x2048, .f32⟩
  | 54 => ⟨S_, .f32⟩
  | 55 => ⟨S4096x2048, .f32⟩
  | 56 => ⟨S4096x2048, .bf16⟩
  | 57 => ⟨S1x1024, .f32⟩
  | 58 => ⟨S1x1024, .f32⟩
  | _ => ⟨S4096x5120, .bf16⟩

abbrev hbmTy (i : Nat) : BufTy := match i / 128 with
  | 0 => hbmTy0_0 i
  | 1 => hbmTy0_1 i
  | _ => ⟨S4096x5120, .bf16⟩

abbrev bufTy : (tb : Table) → Fin (tcTables nBuf tb) → BufTy
  | .hbm, ⟨i, _⟩ => hbmTy i
  | _, _ => ⟨S4096x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_v30 : Ref sig .tc := ⟨.hbm, 43, rfl⟩
abbrev main_cst_6 : Ref sig .tc := ⟨.hbm, 44, rfl⟩
abbrev main_v31 : Ref sig .tc := ⟨.hbm, 45, rfl⟩
abbrev main_v32 : Ref sig .tc := ⟨.hbm, 46, rfl⟩
abbrev main_cst_7 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_8 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_9 : Ref sig .tc := ⟨.hbm, 70, rfl⟩
abbrev main_v54 : Ref sig .tc := ⟨.hbm, 71, rfl⟩
abbrev main_v55 : Ref sig .tc := ⟨.hbm, 72, rfl⟩
abbrev main_cst_10 : Ref sig .tc := ⟨.hbm, 73, rfl⟩
abbrev main_v56 : Ref sig .tc := ⟨.hbm, 74, rfl⟩
abbrev main_v57 : Ref sig .tc := ⟨.hbm, 75, rfl⟩
abbrev main_cst_11 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_cst_12 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_cst_13 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_cst_14 : Ref sig .tc := ⟨.hbm, 97, rfl⟩
abbrev main_v76 : Ref sig .tc := ⟨.hbm, 98, rfl⟩
abbrev main_v77 : Ref sig .tc := ⟨.hbm, 99, rfl⟩
abbrev main_cst_15 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_cst_16 : Ref sig .tc := ⟨.hbm, 106, rfl⟩
abbrev main_v83 : Ref sig .tc := ⟨.hbm, 107, rfl⟩
abbrev main_v84 : Ref sig .tc := ⟨.hbm, 108, rfl⟩
abbrev main_cst_17 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_cst_18 : Ref sig .tc := ⟨.hbm, 120, rfl⟩
abbrev main_v95 : Ref sig .tc := ⟨.hbm, 121, rfl⟩
abbrev main_v96 : Ref sig .tc := ⟨.hbm, 122, rfl⟩
abbrev main_cst_19 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_cst_20 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_cst_21 : Ref sig .tc := ⟨.hbm, 137, rfl⟩
abbrev main_v109 : Ref sig .tc := ⟨.hbm, 138, rfl⟩
abbrev main_v110 : Ref sig .tc := ⟨.hbm, 139, rfl⟩
abbrev main_cst_22 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_cst_23 : Ref sig .tc := ⟨.hbm, 146, rfl⟩
abbrev main_v116 : Ref sig .tc := ⟨.hbm, 147, rfl⟩
abbrev main_v117 : Ref sig .tc := ⟨.hbm, 148, rfl⟩
abbrev main_cst_24 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_cst_25 : Ref sig .tc := ⟨.hbm, 158, rfl⟩
abbrev main_v126 : Ref sig .tc := ⟨.hbm, 159, rfl⟩
abbrev main_v127 : Ref sig .tc := ⟨.hbm, 160, rfl⟩
abbrev main_cst_26 : Ref sig .tc := ⟨.hbm, 161, rfl⟩
abbrev main_v128 : Ref sig .tc := ⟨.hbm, 162, rfl⟩
abbrev main_v129 : Ref sig .tc := ⟨.hbm, 163, rfl⟩
abbrev main_cst_27 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_v139 : Ref sig .tc := ⟨.hbm, 174, rfl⟩
abbrev main_v140 : Ref sig .tc := ⟨.hbm, 175, rfl⟩
abbrev main_v141 : Ref sig .tc := ⟨.hbm, 176, rfl⟩
abbrev main_v142 : Ref sig .tc := ⟨.hbm, 177, rfl⟩
abbrev main_cst_28 : Ref sig .tc := ⟨.hbm, 178, rfl⟩
abbrev main_v143 : Ref sig .tc := ⟨.hbm, 179, rfl⟩
abbrev main_v144 : Ref sig .tc := ⟨.hbm, 180, rfl⟩
abbrev main_v145 : Ref sig .tc := ⟨.hbm, 181, rfl⟩
abbrev main_cst_29 : Ref sig .tc := ⟨.hbm, 182, rfl⟩
abbrev main_v146 : Ref sig .tc := ⟨.hbm, 183, rfl⟩
abbrev main_v147 : Ref sig .tc := ⟨.hbm, 184, rfl⟩
abbrev main_v148 : Ref sig .tc := ⟨.hbm, 185, rfl⟩
abbrev main_v149 : Ref sig .tc := ⟨.hbm, 186, rfl⟩

abbrev nD : Nat := 1
abbrev τ : Topo := Topo.v7x

variable {F : FTy → Type} [FloatOps F]
-- ==== Kernel2.lean ====
abbrev S4096x2048 : Shape := ⟨2, ![4096, 2048]⟩
abbrev S4x2048x1408 : Shape := ⟨3, ![4, 2048, 1408]⟩
abbrev S5632x2048 : Shape := ⟨2, ![5632, 2048]⟩
abbrev S4096x5632 : Shape := ⟨2, ![4096, 5632]⟩
abbrev S512x2048 : Shape := ⟨2, ![512, 2048]⟩
abbrev S1x2048x1408 : Shape := ⟨3, ![1, 2048, 1408]⟩
abbrev S512x1408 : Shape := ⟨2, ![512, 1408]⟩
abbrev S2048x1408 : Shape := ⟨2, ![2048, 1408]⟩
abbrev S1408x2048 : Shape := ⟨2, ![1408, 2048]⟩
abbrev S4096x512 : Shape := ⟨2, ![4096, 512]⟩
abbrev S4096x1024 : Shape := ⟨2, ![4096, 1024]⟩
abbrev S512x1024 : Shape := ⟨2, ![512, 1024]⟩
abbrev S4096x1408 : Shape := ⟨2, ![4096, 1408]⟩
abbrev S1x512x1408 : Shape := ⟨3, ![1, 512, 1408]⟩

abbrev nBuf : Space → Nat
  | .hbm => 13
  | .vmem => 42
  | .smem => 0
  | _ => 0

abbrev bufTy : (tb : Table) → Fin (tcTables nBuf tb) → BufTy
  | .hbm, ⟨0, _⟩ => ⟨S4096x2048, .bf16⟩
  | .hbm, ⟨1, _⟩ => ⟨S4x2048x1408, .bf16⟩
  | .hbm, ⟨2, _⟩ => ⟨S4x2048x1408, .bf16⟩
  | .hbm, ⟨3, _⟩ => ⟨S5632x2048, .bf16⟩
  | .hbm, ⟨4, _⟩ => ⟨S4096x2048, .bf16⟩
  | .hbm, ⟨5, _⟩ => ⟨S4096x5632, .bf16⟩
  | .hbm, ⟨6, _⟩ => ⟨S4096x5632, .bf16⟩
  | .hbm, ⟨7, _⟩ => ⟨S4096x5632, .bf16⟩
  | .hbm, ⟨8, _⟩ => ⟨S4096x5632, .bf16⟩
  | .hbm, ⟨9, _⟩ => ⟨S4096x5632, .bf16⟩
  | .hbm, ⟨10, _⟩ => ⟨S5632x2048, .bf16⟩
  | .hbm, ⟨11, _⟩ => ⟨S4x2048x1408, .bf16⟩
  | .hbm, ⟨12, _⟩ => ⟨S4x2048x1408, .bf16⟩
  | .local _ .vmem, ⟨0, _⟩ => ⟨S512x2048, .bf16⟩
  | .local _ .vmem, ⟨1, _⟩ => ⟨S512x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x2048x1408, .bf16⟩
  | .local _ .vmem, ⟨5, _⟩ => ⟨S1x2048x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | .local _ .vmem, ⟨12, _⟩ => ⟨S512x2048, .bf16⟩
  | .local _ .vmem, ⟨13, _⟩ => ⟨S512x2048, .bf16⟩
  | .local _ .vmem, ⟨14, _⟩ => ⟨S1408x2048, .bf16⟩
  | .local _ .vmem, ⟨15, _⟩ => ⟨S1408x2048, .bf16⟩
  | .local _ .vmem, ⟨16, _⟩ => ⟨S512x1408, .bf16⟩
  | .local _ .vmem, ⟨17, _⟩ => ⟨S512x1408, .bf16⟩
  | .local _ .vmem, ⟨18, _⟩ => ⟨S512x1408, .bf16⟩
  | .local _ .vmem, ⟨19, _⟩ => ⟨S512x1408, .bf16⟩
  | .local _ .vmem, ⟨20, _⟩ => ⟨S512x1408, .bf16⟩
  | .local _ .vmem, ⟨21, _⟩ => ⟨S512x1408, .bf16⟩
  | .local _ .vmem, ⟨22, _⟩ => ⟨S512x1408, .bf16⟩
  | .local _ .vmem, ⟨23, _⟩ => ⟨S512x1408, .bf16⟩
  | .local _ .vmem, ⟨24, _⟩ => ⟨S4096x512, .bf16⟩
  | .local _ .vmem, ⟨25, _⟩ => ⟨S4096x512, .bf16⟩
  | .local _ .vmem, ⟨26, _⟩ => ⟨S4096x1024, .bf16⟩
  | .local _ .vmem, ⟨27, _⟩ => ⟨S4096x1024, .bf16⟩
  | .local _ .vmem, ⟨28, _⟩ => ⟨S512x1024, .bf16⟩
  | .local _ .vmem, ⟨29, _⟩ => ⟨S512x1024, .bf16⟩
  | .local _ .vmem, ⟨30, _⟩ => ⟨S4096x512, .bf16⟩
  | .local _ .vmem, ⟨31, _⟩ => ⟨S4096x512, .bf16⟩
  | .local _ .vmem, ⟨32, _⟩ => ⟨S4096x1408, .bf16⟩
  | .local _ .vmem, ⟨33, _⟩ => ⟨S4096x1408, .bf16⟩
  | .local _ .vmem, ⟨34, _⟩ => ⟨S1x512x1408, .bf16⟩
  | .local _ .vmem, ⟨35, _⟩ => ⟨S1x512x1408, .bf16⟩
  | .local _ .vmem, ⟨36, _⟩ => ⟨S4096x512, .bf16⟩
  | .local _ .vmem, ⟨37, _⟩ => ⟨S4096x512, .bf16⟩
  | .local _ .vmem, ⟨38, _⟩ => ⟨S4096x1408, .bf16⟩
  | .local _ .vmem, ⟨39, _⟩ => ⟨S4096x1408, .bf16⟩
  | .local _ .vmem, ⟨40, _⟩ => ⟨S1x512x1408, .bf16⟩
  | .local _ .vmem, ⟨41, _⟩ => ⟨S1x512x1408, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v1_0 : Ref sig .tc := ⟨.hbm, 8, rfl⟩
abbrev main_v1_1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg2_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg2_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg2_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem2_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem2_1 : DmaSem sig := 35
abbrev cc4_sem0_0 : DmaSem sig := 36
abbrev cc4_sem0_1 : DmaSem sig := 37
abbrev cc4_sem1_0 : DmaSem sig := 38
abbrev cc4_sem1_1 : DmaSem sig := 39
abbrev cc4_sem2_0 : DmaSem sig := 40
abbrev cc4_sem2_1 : DmaSem sig := 41

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![4, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S512x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1408x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S512x1408 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S512x1408 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S512x1408 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S512x1408 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev grid2 : Pipeline.Grid := ⟨2, ![2, 11], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage2_0 : Fin 2 → Memref sig .tc .vmem S4096x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S4096x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S512x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![4, 4], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage3_0 : Fin 2 → Memref sig .tc .vmem S4096x512 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true]

abbrev stage3_1 : Fin 2 → Memref sig .tc .vmem S4096x1408 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S1x512x1408 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨2, ![4, 4], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc4_transform_2 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage4_0 : Fin 2 → Memref sig .tc .vmem S4096x512 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![false, true]

abbrev stage4_1 : Fin 2 → Memref sig .tc .vmem S4096x1408 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false]

abbrev stage4_2 : Fin 2 → Memref sig .tc .vmem S1x512x1408 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]
-- ==== Reference2Ideal.lean ====
abbrev S4096x2048 : Shape := ⟨2, ![4096, 2048]⟩
abbrev S4x2048x1408 : Shape := ⟨3, ![4, 2048, 1408]⟩
abbrev S5632x2048 : Shape := ⟨2, ![5632, 2048]⟩
abbrev S2048x4x1408 : Shape := ⟨3, ![2048, 4, 1408]⟩
abbrev S2048x5632 : Shape := ⟨2, ![2048, 5632]⟩
abbrev S4096x5632 : Shape := ⟨2, ![4096, 5632]⟩
abbrev S_ : Shape := ⟨0, ![]⟩

abbrev nBuf : Space → Nat
  | .hbm => 54
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x2048x1408, .bf16⟩
  | .hbm, ⟨2, _⟩ => ⟨S4x2048x1408, .bf16⟩
  | .hbm, ⟨3, _⟩ => ⟨S5632x2048, .bf16⟩
  | .hbm, ⟨4, _⟩ => ⟨S4096x2048, .bf16⟩
  | .hbm, ⟨5, _⟩ => ⟨S4096x2048, .f32⟩
  | .hbm, ⟨6, _⟩ => ⟨S4x2048x1408, .f32⟩
  | .hbm, ⟨7, _⟩ => ⟨S4x2048x1408, .f32⟩
  | .hbm, ⟨8, _⟩ => ⟨S5632x2048, .f32⟩
  | .hbm, ⟨9, _⟩ => ⟨S2048x4x1408, .f32⟩
  | .hbm, ⟨10, _⟩ => ⟨S2048x5632, .f32⟩
  | .hbm, ⟨11, _⟩ => ⟨S4096x5632, .f32⟩
  | .hbm, ⟨12, _⟩ => ⟨S4096x5632, .f32⟩
  | .hbm, ⟨13, _⟩ => ⟨S4096x5632, .f32⟩
  | .hbm, ⟨14, _⟩ => ⟨S_, .f32⟩
  | .hbm, ⟨15, _⟩ => ⟨S4096x5632, .f32⟩
  | .hbm, ⟨16, _⟩ => ⟨S4096x5632, .f32⟩
  | .hbm, ⟨17, _⟩ => ⟨S_, .f32⟩
  | .hbm, ⟨18, _⟩ => ⟨S4096x5632, .f32⟩
  | .hbm, ⟨19, _⟩ => ⟨S4096x5632, .f32⟩
  | .hbm, ⟨20, _⟩ => ⟨S_, .f32⟩
  | .hbm, ⟨21, _⟩ => ⟨S4096x5632, .f32⟩
  | .hbm, ⟨22, _⟩ => ⟨S4096x5632, .f32⟩
  | .hbm, ⟨23, _⟩ => ⟨S4096x5632, .f32⟩
  | .hbm, ⟨24, _⟩ => ⟨S4096x5632, .f32⟩
  | .hbm, ⟨25, _⟩ => ⟨S2048x4x1408, .f32⟩
  | .hbm, ⟨26, _⟩ => ⟨S2048x5632, .f32⟩
  | .hbm, ⟨27, _⟩ => ⟨S4096x5632, .f32⟩
  | .hbm, ⟨28, _⟩ => ⟨S4096x5632, .f32⟩
  | .hbm, ⟨29, _⟩ => ⟨S4096x2048, .f32⟩
  | .hbm, ⟨30, _⟩ => ⟨S4096x2048, .f32⟩
  | .hbm, ⟨31, _⟩ => ⟨S2048x5632, .f32⟩
  | .hbm, ⟨32, _⟩ => ⟨S5632x2048, .f32⟩
  | .hbm, ⟨33, _⟩ => ⟨S4096x5632, .f32⟩
  | .hbm, ⟨34, _⟩ => ⟨S4096x5632, .f32⟩
  | .hbm, ⟨35, _⟩ => ⟨S4096x5632, .f32⟩
  | .hbm, ⟨36, _⟩ => ⟨S5632x2048, .f32⟩
  | .hbm, ⟨37, _⟩ => ⟨S2048x5632, .f32⟩
  | .hbm, ⟨38, _⟩ => ⟨S4096x2048, .f32⟩
  | .hbm, ⟨39, _⟩ => ⟨S2048x4x1408, .f32⟩
  | .hbm, ⟨40, _⟩ => ⟨S4x2048x1408, .f32⟩
  | .hbm, ⟨41, _⟩ => ⟨S4096x5632, .f32⟩
  | .hbm, ⟨42, _⟩ => ⟨S4096x5632, .f32⟩
  | .hbm, ⟨43, _⟩ => ⟨S4096x5632, .f32⟩
  | .hbm, ⟨44, _⟩ => ⟨S4096x5632, .f32⟩
  | .hbm, ⟨45, _⟩ => ⟨S5632x2048, .f32⟩
  | .hbm, ⟨46, _⟩ => ⟨S2048x5632, .f32⟩
  | .hbm, ⟨47, _⟩ => ⟨S4096x2048, .f32⟩
  | .hbm, ⟨48, _⟩ => ⟨S4096x2048, .f32⟩
  | .hbm, ⟨49, _⟩ => ⟨S2048x4x1408, .f32⟩
  | .hbm, ⟨50, _⟩ => ⟨S4x2048x1408, .f32⟩
  | .hbm, ⟨51, _⟩ => ⟨S4x2048x1408, .bf16⟩
  | .hbm, ⟨52, _⟩ => ⟨S4x2048x1408, .bf16⟩
  | .hbm, ⟨53, _⟩ => ⟨S5632x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_v7_2 : Ref sig .tc := ⟨.hbm, 19, rfl⟩
abbrev main_call0_cst_1 : Ref sig .tc := ⟨.hbm, 20, rfl⟩
abbrev main_call0_v6 : Ref sig .tc := ⟨.hbm, 21, rfl⟩
abbrev main_call0_v7 : Ref sig .tc := ⟨.hbm, 22, rfl⟩
abbrev main_v7_1 : Ref sig .tc := ⟨.hbm, 23, rfl⟩
abbrev main_v7_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩

abbrev nD : Nat := 1
abbrev τ : Topo := Topo.v7x

variable {F : FTy → Type} [FloatOps F]
-- ==== Kernel3.lean ====
abbrev S4096x5632 : Shape := ⟨2, ![4096, 5632]⟩
abbrev S4x2048x1408 : Shape := ⟨3, ![4, 2048, 1408]⟩
abbrev S4096x2048 : Shape := ⟨2, ![4096, 2048]⟩
abbrev S512x1408 : Shape := ⟨2, ![512, 1408]⟩
abbrev S1x2048x1408 : Shape := ⟨3, ![1, 2048, 1408]⟩
abbrev S512x2048 : Shape := ⟨2, ![512, 2048]⟩
abbrev S2048x1408 : Shape := ⟨2, ![2048, 1408]⟩

abbrev nBuf : Space → Nat
  | .hbm => 5
  | .vmem => 11
  | .smem => 0
  | _ => 0

abbrev bufTy : (tb : Table) → Fin (tcTables nBuf tb) → BufTy
  | .hbm, ⟨0, _⟩ => ⟨S4096x5632, .bf16⟩
  | .hbm, ⟨1, _⟩ => ⟨S4096x5632, .bf16⟩
  | .hbm, ⟨2, _⟩ => ⟨S4x2048x1408, .bf16⟩
  | .hbm, ⟨3, _⟩ => ⟨S4x2048x1408, .bf16⟩
  | .hbm, ⟨4, _⟩ => ⟨S4096x2048, .bf16⟩
  | .local _ .vmem, ⟨0, _⟩ => ⟨S512x1408, .bf16⟩
  | .local _ .vmem, ⟨1, _⟩ => ⟨S512x1408, .bf16⟩
  | .local _ .vmem, ⟨2, _⟩ => ⟨S512x1408, .bf16⟩
  | .local _ .vmem, ⟨3, _⟩ => ⟨S512x1408, .bf16⟩
  | .local _ .vmem, ⟨4, _⟩ => ⟨S1x2048x1408, .bf16⟩
  | .local _ .vmem, ⟨5, _⟩ => ⟨S1x2048x1408, .bf16⟩
  | .local _ .vmem, ⟨6, _⟩ => ⟨S1x2048x1408, .bf16⟩
  | .local _ .vmem, ⟨7, _⟩ => ⟨S1x2048x1408, .bf16⟩
  | .local _ .vmem, ⟨8, _⟩ => ⟨S512x2048, .bf16⟩
  | .local _ .vmem, ⟨9, _⟩ => ⟨S512x2048, .bf16⟩
  | .local _ .vmem, ⟨10, _⟩ => ⟨S512x2048, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v21 : BitVec 1 := Scalar.cmpi .eq arg1 c3_i32
  let v22 : BitVec 32 := Scalar.extui v21
  let c0_i32_19 : BitVec 32 := 0#32
  let v23 : BitVec 1 := Scalar.cmpi .ne v22 c0_i32_19
  v23

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference3Ideal.lean ====
abbrev S4096x5632 : Shape := ⟨2, ![4096, 5632]⟩
abbrev S4x2048x1408 : Shape := ⟨3, ![4, 2048, 1408]⟩
abbrev S_ : Shape := ⟨0, ![]⟩
abbrev S4096x2048 : Shape := ⟨2, ![4096, 2048]⟩
abbrev S2048x4x1408 : Shape := ⟨3, ![2048, 4, 1408]⟩
abbrev S2048x5632 : Shape := ⟨2, ![2048, 5632]⟩

abbrev nBuf : Space → Nat
  | .hbm => 20
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x5632, .bf16⟩
  | .hbm, ⟨2, _⟩ => ⟨S4x2048x1408, .bf16⟩
  | .hbm, ⟨3, _⟩ => ⟨S4x2048x1408, .bf16⟩
  | .hbm, ⟨4, _⟩ => ⟨S_, .f32⟩
  | .hbm, ⟨5, _⟩ => ⟨S4096x2048, .f32⟩
  | .hbm, ⟨6, _⟩ => ⟨S4x2048x1408, .f32⟩
  | .hbm, ⟨7, _⟩ => ⟨S2048x4x1408, .f32⟩
  | .hbm, ⟨8, _⟩ => ⟨S2048x5632, .f32⟩
  | .hbm, ⟨9, _⟩ => ⟨S4096x5632, .f32⟩
  | .hbm, ⟨10, _⟩ => ⟨S4x2048x1408, .f32⟩
  | .hbm, ⟨11, _⟩ => ⟨S2048x4x1408, .f32⟩
  | .hbm, ⟨12, _⟩ => ⟨S2048x5632, .f32⟩
  | .hbm, ⟨13, _⟩ => ⟨S4096x5632, .f32⟩
  | .hbm, ⟨14, _⟩ => ⟨S4096x5632, .f32⟩
  | .hbm, ⟨15, _⟩ => ⟨S4096x5632, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S4096x2048, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Kernel4.lean ====
abbrev S4096x2048 : Shape := ⟨2, ![4096, 2048]⟩
abbrev S4x2048x1280 : Shape := ⟨3, ![4, 2048, 1280]⟩
abbrev S4096x5120 : Shape := ⟨2, ![4096, 5120]⟩
abbrev S512x2048 : Shape := ⟨2, ![512, 2048]⟩
abbrev S1x2048x1280 : Shape := ⟨3, ![1, 2048, 1280]⟩
abbrev S512x1280 : Shape := ⟨2, ![512, 1280]⟩
abbrev S2048x1280 : Shape := ⟨2, ![2048, 1280]⟩
abbrev S4096x512 : Shape := ⟨2, ![4096, 512]⟩
abbrev S4096x1280 : Shape := ⟨2, ![4096, 1280]⟩
abbrev S1x512x1280 : Shape := ⟨3, ![1, 512, 1280]⟩

abbrev nBuf : Space → Nat
  | .hbm => 5
  | .vmem => 12
  | .smem => 0
  | _ => 0

abbrev bufTy : (tb : Table) → Fin (tcTables nBuf tb) → BufTy
  | .hbm, ⟨0, _⟩ => ⟨S4096x2048, .bf16⟩
  | .hbm, ⟨1, _⟩ => ⟨S4x2048x1280, .bf16⟩
  | .hbm, ⟨2, _⟩ => ⟨S4096x5120, .bf16⟩
  | .hbm, ⟨3, _⟩ => ⟨S4096x5120, .bf16⟩
  | .hbm, ⟨4, _⟩ => ⟨S4x2048x1280, .bf16⟩
  | .local _ .vmem, ⟨0, _⟩ => ⟨S512x2048, .bf16⟩
  | .local _ .vmem, ⟨1, _⟩ => ⟨S512x2048, .bf16⟩
  | .local _ .vmem, ⟨2, _⟩ => ⟨S1x2048x1280, .bf16⟩
  | .local _ .vmem, ⟨3, _⟩ => ⟨S1x2048x1280, .bf16⟩
  | .local _ .vmem, ⟨4, _⟩ => ⟨S512x1280, .bf16⟩
  | .local _ .vmem, ⟨5, _⟩ => ⟨S512x1280, .bf16⟩
  | .local _ .vmem, ⟨6, _⟩ => ⟨S4096x512, .bf16⟩
  | .local _ .vmem, ⟨7, _⟩ => ⟨S4096x512, .bf16⟩
  | .local _ .vmem, ⟨8, _⟩ => ⟨S4096x1280, .bf16⟩
  | .local _ .vmem, ⟨9, _⟩ => ⟨S4096x1280, .bf16⟩
  | .local _ .vmem, ⟨10, _⟩ => ⟨S1x512x1280, .bf16⟩
  | .local _ .vmem, ⟨11, _⟩ => ⟨S1x512x1280, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![4, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S4096x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S4096x1280 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x512x1280 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]
-- ==== Reference4Ideal.lean ====
abbrev S4096x2048 : Shape := ⟨2, ![4096, 2048]⟩
abbrev S4x2048x1280 : Shape := ⟨3, ![4, 2048, 1280]⟩
abbrev S4096x5120 : Shape := ⟨2, ![4096, 5120]⟩
abbrev S2048x4x1280 : Shape := ⟨3, ![2048, 4, 1280]⟩
abbrev S2048x5120 : Shape := ⟨2, ![2048, 5120]⟩
abbrev S5120x2048 : Shape := ⟨2, ![5120, 2048]⟩

abbrev nBuf : Space → Nat
  | .hbm => 15
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x2048x1280, .bf16⟩
  | .hbm, ⟨2, _⟩ => ⟨S4096x5120, .bf16⟩
  | .hbm, ⟨3, _⟩ => ⟨S4x2048x1280, .f32⟩
  | .hbm, ⟨4, _⟩ => ⟨S4096x2048, .f32⟩
  | .hbm, ⟨5, _⟩ => ⟨S2048x4x1280, .f32⟩
  | .hbm, ⟨6, _⟩ => ⟨S2048x5120, .f32⟩
  | .hbm, ⟨7, _⟩ => ⟨S4096x5120, .f32⟩
  | .hbm, ⟨8, _⟩ => ⟨S4096x5120, .bf16⟩
  | .hbm, ⟨9, _⟩ => ⟨S4096x5120, .f32⟩
  | .hbm, ⟨10, _⟩ => ⟨S5120x2048, .f32⟩
  | .hbm, ⟨11, _⟩ => ⟨S2048x5120, .f32⟩
  | .hbm, ⟨12, _⟩ => ⟨S2048x4x1280, .f32⟩
  | .hbm, ⟨13, _⟩ => ⟨S4x2048x1280, .f32⟩
  | .hbm, ⟨14, _⟩ => ⟨S4x2048x1280, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== Kernel5.lean ====
abbrev S4096x5120 : Shape := ⟨2, ![4096, 5120]⟩
abbrev S4x2048x1280 : Shape := ⟨3, ![4, 2048, 1280]⟩
abbrev S4096x2048 : Shape := ⟨2, ![4096, 2048]⟩
abbrev S512x1280 : Shape := ⟨2, ![512, 1280]⟩
abbrev S1x2048x1280 : Shape := ⟨3, ![1, 2048, 1280]⟩
abbrev S512x2048 : Shape := ⟨2, ![512, 2048]⟩
abbrev S2048x1280 : Shape := ⟨2, ![2048, 1280]⟩

abbrev nBuf : Space → Nat
  | .hbm => 3
  | .vmem => 7
  | .smem => 0
  | _ => 0

abbrev bufTy : (tb : Table) → Fin (tcTables nBuf tb) → BufTy
  | .hbm, ⟨0, _⟩ => ⟨S4096x5120, .bf16⟩
  | .hbm, ⟨1, _⟩ => ⟨S4x2048x1280, .bf16⟩
  | .hbm, ⟨2, _⟩ => ⟨S4096x2048, .bf16⟩
  | .local _ .vmem, ⟨0, _⟩ => ⟨S512x1280, .bf16⟩
  | .local _ .vmem, ⟨1, _⟩ => ⟨S512x1280, .bf16⟩
  | .local _ .vmem, ⟨2, _⟩ => ⟨S1x2048x1280, .bf16⟩
  | .local _ .vmem, ⟨3, _⟩ => ⟨S1x2048x1280, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .f32⟩
  | _, _ => ⟨S4096x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v12 : BitVec 1 := Scalar.cmpi .eq arg1 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference5Ideal.lean ====
abbrev S4096x5120 : Shape := ⟨2, ![4096, 5120]⟩
abbrev S4x2048x1280 : Shape := ⟨3, ![4, 2048, 1280]⟩
abbrev S_ : Shape := ⟨0, ![]⟩
abbrev S4096x2048 : Shape := ⟨2, ![4096, 2048]⟩
abbrev S2048x4x1280 : Shape := ⟨3, ![2048, 4, 1280]⟩
abbrev S2048x5120 : Shape := ⟨2, ![2048, 5120]⟩

abbrev nBuf : Space → Nat
  | .hbm => 11
  | .vmem => 0
  | .smem => 0
  | _ => 0

abbrev bufTy : (tb : Table) → Fin (tcTables nBuf tb) → BufTy
  | .hbm, ⟨0, _⟩ => ⟨S4096x5120, .bf16⟩
  | .hbm, ⟨1, _⟩ => ⟨S4x2048x1280, .bf16⟩
  | .hbm, ⟨2, _⟩ => ⟨S_, .f32⟩
  | .hbm, ⟨3, _⟩ => ⟨S4096x2048, .f32⟩
  | .hbm, ⟨4, _⟩ => ⟨S4x2048x1280, .f32⟩
  | .hbm, ⟨5, _⟩ => ⟨S2048x4x1280, .f32⟩
  | .hbm, ⟨6, _⟩ => ⟨S2048x5120, .f32⟩
  | .hbm, ⟨7, _⟩ => ⟨S4096x5120, .f32⟩
  | .hbm, ⟨8, _⟩ => ⟨S4096x5120, .f32⟩
  | .hbm, ⟨9, _⟩ => ⟨S4096x2048, .f32⟩
  | .hbm, ⟨10, _⟩ => ⟨S4096x2048, .bf16⟩
  | _, _ => ⟨S4096x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel6.lean ====
abbrev S4096x2048 : Shape := ⟨2, ![4096, 2048]⟩
abbrev S2048x2048 : Shape := ⟨2, ![2048, 2048]⟩
abbrev S4096x5632 : Shape := ⟨2, ![4096, 5632]⟩
abbrev S5632x2048 : Shape := ⟨2, ![5632, 2048]⟩
abbrev S512x2048 : Shape := ⟨2, ![512, 2048]⟩
abbrev S2048x1024 : Shape := ⟨2, ![2048, 1024]⟩
abbrev S512x1024 : Shape := ⟨2, ![512, 1024]⟩
abbrev S512x5632 : Shape := ⟨2, ![512, 5632]⟩
abbrev S5632x1024 : Shape := ⟨2, ![5632, 1024]⟩
abbrev S1024x2048 : Shape := ⟨2, ![1024, 2048]⟩
abbrev S4096x512 : Shape := ⟨2, ![4096, 512]⟩
abbrev S4096x1024 : Shape := ⟨2, ![4096, 1024]⟩

abbrev nBuf : Space → Nat
  | .hbm => 10
  | .vmem => 28
  | .smem => 0
  | _ => 0

abbrev bufTy : (tb : Table) → Fin (tcTables nBuf tb) → BufTy
  | .hbm, ⟨0, _⟩ => ⟨S4096x2048, .f32⟩
  | .hbm, ⟨1, _⟩ => ⟨S4096x2048, .bf16⟩
  | .hbm, ⟨2, _⟩ => ⟨S2048x2048, .bf16⟩
  | .hbm, ⟨3, _⟩ => ⟨S4096x5632, .bf16⟩
  | .hbm, ⟨4, _⟩ => ⟨S5632x2048, .bf16⟩
  | .hbm, ⟨5, _⟩ => ⟨S4096x2048, .bf16⟩
  | .hbm, ⟨6, _⟩ => ⟨S4096x2048, .f32⟩
  | .hbm, ⟨7, _⟩ => ⟨S4096x2048, .f32⟩
  | .hbm, ⟨8, _⟩ => ⟨S4096x2048, .bf16⟩
  | .hbm, ⟨9, _⟩ => ⟨S2048x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x5632, .bf16⟩
  | .local _ .vmem, ⟨9, _⟩ => ⟨S512x5632, .bf16⟩
  | .local _ .vmem, ⟨10, _⟩ => ⟨S5632x1024, .bf16⟩
  | .local _ .vmem, ⟨11, _⟩ => ⟨S5632x1024, .bf16⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x2048, .bf16⟩
  | .local _ .vmem, ⟨17, _⟩ => ⟨S512x2048, .bf16⟩
  | .local _ .vmem, ⟨18, _⟩ => ⟨S1024x2048, .bf16⟩
  | .local _ .vmem, ⟨19, _⟩ => ⟨S1024x2048, .bf16⟩
  | .local _ .vmem, ⟨20, _⟩ => ⟨S512x1024, .bf16⟩
  | .local _ .vmem, ⟨21, _⟩ => ⟨S512x1024, .bf16⟩
  | .local _ .vmem, ⟨22, _⟩ => ⟨S4096x512, .bf16⟩
  | .local _ .vmem, ⟨23, _⟩ => ⟨S4096x512, .bf16⟩
  | .local _ .vmem, ⟨24, _⟩ => ⟨S4096x1024, .bf16⟩
  | .local _ .vmem, ⟨25, _⟩ => ⟨S4096x1024, .bf16⟩
  | .local _ .vmem, ⟨26, _⟩ => ⟨S512x1024, .bf16⟩
  | .local _ .vmem, ⟨27, _⟩ => ⟨S512x1024, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg2_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem2_1 : DmaSem sig := 27

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![2, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S512x5632 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S5632x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨2, ![2, 8], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage2_0 : Fin 2 → Memref sig .tc .vmem S512x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S1024x2048 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S512x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![2, 4], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage3_0 : Fin 2 → Memref sig .tc .vmem S4096x512 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true]

abbrev stage3_1 : Fin 2 → Memref sig .tc .vmem S4096x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S512x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]
-- ==== Reference6Ideal.lean ====
abbrev S4096x2048 : Shape := ⟨2, ![4096, 2048]⟩
abbrev S2048x2048 : Shape := ⟨2, ![2048, 2048]⟩
abbrev S4096x5632 : Shape := ⟨2, ![4096, 5632]⟩
abbrev S5632x2048 : Shape := ⟨2, ![5632, 2048]⟩

abbrev nBuf : Space → Nat
  | .hbm => 20
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .bf16⟩
  | .hbm, ⟨2, _⟩ => ⟨S2048x2048, .bf16⟩
  | .hbm, ⟨3, _⟩ => ⟨S4096x5632, .bf16⟩
  | .hbm, ⟨4, _⟩ => ⟨S5632x2048, .bf16⟩
  | .hbm, ⟨5, _⟩ => ⟨S4096x2048, .bf16⟩
  | .hbm, ⟨6, _⟩ => ⟨S4096x2048, .f32⟩
  | .hbm, ⟨7, _⟩ => ⟨S2048x2048, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S2048x2048, .f32⟩
  | .hbm, ⟨12, _⟩ => ⟨S2048x2048, .f32⟩
  | .hbm, ⟨13, _⟩ => ⟨S4096x2048, .f32⟩
  | .hbm, ⟨14, _⟩ => ⟨S4096x5632, .f32⟩
  | .hbm, ⟨15, _⟩ => ⟨S5632x2048, .f32⟩
  | .hbm, ⟨16, _⟩ => ⟨S4096x2048, .f32⟩
  | .hbm, ⟨17, _⟩ => ⟨S4096x2048, .f32⟩
  | .hbm, ⟨18, _⟩ => ⟨S4096x2048, .bf16⟩
  | .hbm, ⟨19, _⟩ => ⟨S2048x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Kernel7.lean ====
abbrev S4096x2048 : Shape := ⟨2, ![4096, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 8
  | .vmem => 12
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .f32⟩
  | .hbm, ⟨2, _⟩ => ⟨S2048, .f32⟩
  | .hbm, ⟨3, _⟩ => ⟨S4096x2048, .f32⟩
  | .hbm, ⟨4, _⟩ => ⟨S1x2048, .f32⟩
  | .hbm, ⟨5, _⟩ => ⟨S4096x2048, .f32⟩
  | .hbm, ⟨6, _⟩ => ⟨S4096x2048, .bf16⟩
  | .hbm, ⟨7, _⟩ => ⟨S1x2048, .f32⟩
  | .local _ .vmem, ⟨0, _⟩ => ⟨S256x2048, .bf16⟩
  | .local _ .vmem, ⟨1, _⟩ => ⟨S256x2048, .bf16⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S1x2048, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference7Ideal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 53
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .f32⟩
  | .hbm, ⟨2, _⟩ => ⟨S2048, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x2048, .f32⟩
  | .hbm, ⟨20, _⟩ => ⟨S4096x2048, .f32⟩
  | .hbm, ⟨21, _⟩ => ⟨S1x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S_, .f32⟩
  | .hbm, ⟨27, _⟩ => ⟨S2048, .f32⟩
  | .hbm, ⟨28, _⟩ => ⟨S1x2048, .f32⟩
  | .hbm, ⟨29, _⟩ => ⟨S4096x2048, .f32⟩
  | .hbm, ⟨30, _⟩ => ⟨S4096x2048, .f32⟩
  | .hbm, ⟨31, _⟩ => ⟨S_, .f32⟩
  | .hbm, ⟨32, _⟩ => ⟨S2048, .f32⟩
  | .hbm, ⟨33, _⟩ => ⟨S4096x2048, .f32⟩
  | .hbm, ⟨34, _⟩ => ⟨S_, .f32⟩
  | .hbm, ⟨35, _⟩ => ⟨S4096, .f32⟩
  | .hbm, ⟨36, _⟩ => ⟨S4096x1, .f32⟩
  | .hbm, ⟨37, _⟩ => ⟨S4096x2048, .f32⟩
  | .hbm, ⟨38, _⟩ => ⟨S4096x2048, .f32⟩
  | .hbm, ⟨39, _⟩ => ⟨S4096x2048, .f32⟩
  | .hbm, ⟨40, _⟩ => ⟨S4096x1, .f32⟩
  | .hbm, ⟨41, _⟩ => ⟨S_, .f32⟩
  | .hbm, ⟨42, _⟩ => ⟨S4096x1, .f32⟩
  | .hbm, ⟨43, _⟩ => ⟨S4096x1, .f32⟩
  | .hbm, ⟨44, _⟩ => ⟨S_, .f32⟩
  | .hbm, ⟨45, _⟩ => ⟨S4096, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S4096x2048, .bf16⟩
  | .hbm, ⟨52, _⟩ => ⟨S1x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Kernel8.lean ====
abbrev S4096x2048 : Shape := ⟨2, ![4096, 2048]⟩
abbrev S2048 : Shape := ⟨1, ![2048]⟩
abbrev S1x2048 : Shape := ⟨2, ![1, 2048]⟩
abbrev S8x128 : Shape := ⟨2, ![8, 128]⟩
abbrev S256x2048 : Shape := ⟨2, ![256, 2048]⟩
abbrev S256 : Shape := ⟨1, ![256]⟩
abbrev S256x1 : Shape := ⟨2, ![256, 1]⟩
abbrev S1x256x1 : Shape := ⟨3, ![1, 256, 1]⟩
abbrev S1 : Shape := ⟨1, ![1]⟩
abbrev S1x1x1 : Shape := ⟨3, ![1, 1, 1]⟩

abbrev nBuf : Space → Nat
  | .hbm => 8
  | .vmem => 11
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S1x2048, .f32⟩
  | .hbm, ⟨4, _⟩ => ⟨S8x128, .f32⟩
  | .hbm, ⟨5, _⟩ => ⟨S4096x2048, .f32⟩
  | .hbm, ⟨6, _⟩ => ⟨S4096x2048, .bf16⟩
  | .hbm, ⟨7, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S8x128, .f32⟩
  | .local _ .vmem, ⟨6, _⟩ => ⟨S256x2048, .f32⟩
  | .local _ .vmem, ⟨7, _⟩ => ⟨S256x2048, .f32⟩
  | .local _ .vmem, ⟨8, _⟩ => ⟨S256x2048, .bf16⟩
  | .local _ .vmem, ⟨9, _⟩ => ⟨S256x2048, .bf16⟩
  | .local _ .vmem, ⟨10, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference8Ideal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩
abbrev S8x128 : Shape := ⟨2, ![8, 128]⟩

abbrev nBuf : Space → Nat
  | .hbm => 74
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x2048, .f32⟩
  | .hbm, ⟨19, _⟩ => ⟨S4096x2048, .f32⟩
  | .hbm, ⟨20, _⟩ => ⟨S1x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S4096x2048, .f32⟩
  | .hbm, ⟨27, _⟩ => ⟨S4096x2048, .f32⟩
  | .hbm, ⟨28, _⟩ => ⟨S_, .f32⟩
  | .hbm, ⟨29, _⟩ => ⟨S4096, .f32⟩
  | .hbm, ⟨30, _⟩ => ⟨S_, .f32⟩
  | .hbm, ⟨31, _⟩ => ⟨S4096, .f32⟩
  | .hbm, ⟨32, _⟩ => ⟨S4096, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S4096, .f32⟩
  | .hbm, ⟨41, _⟩ => ⟨S_, .f32⟩
  | .hbm, ⟨42, _⟩ => ⟨S4096, .f32⟩
  | .hbm, ⟨43, _⟩ => ⟨S4096, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S_, .f32⟩
  | .hbm, ⟨48, _⟩ => ⟨S2048, .f32⟩
  | .hbm, ⟨49, _⟩ => ⟨S1x2048, .f32⟩
  | .hbm, ⟨50, _⟩ => ⟨S4096x2048, .f32⟩
  | .hbm, ⟨51, _⟩ => ⟨S4096x2048, .f32⟩
  | .hbm, ⟨52, _⟩ => ⟨S_, .f32⟩
  | .hbm, ⟨53, _⟩ => ⟨S2048, .f32⟩
  | .hbm, ⟨54, _⟩ => ⟨S4096x2048, .f32⟩
  | .hbm, ⟨55, _⟩ => ⟨S_, .f32⟩
  | .hbm, ⟨56, _⟩ => ⟨S4096, .f32⟩
  | .hbm, ⟨57, _⟩ => ⟨S4096x1, .f32⟩
  | .hbm, ⟨58, _⟩ => ⟨S4096x2048, .f32⟩
  | .hbm, ⟨59, _⟩ => ⟨S4096x2048, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S_, .f32⟩
  | .hbm, ⟨65, _⟩ => ⟨S4096, .f32⟩
  | .hbm, ⟨66, _⟩ => ⟨S4096x2048, .f32⟩
  | .hbm, ⟨67, _⟩ => ⟨S4096x2048, .f32⟩
  | .hbm, ⟨68, _⟩ => ⟨S4096x2048, .f32⟩
  | .hbm, ⟨69, _⟩ => ⟨S4096x2048, .f32⟩
  | .hbm, ⟨70, _⟩ => ⟨S4096x2048, .f32⟩
  | .hbm, ⟨71, _⟩ => ⟨S8x128, .f32⟩
  | .hbm, ⟨72, _⟩ => ⟨S4096x2048, .bf16⟩
  | .hbm, ⟨73, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩

abbrev nD : Nat := 1
abbrev τ : Topo := Topo.v7x

variable {F : FTy → Type} [FloatOps F]
-- ==== Kernel9.lean ====
abbrev S4416x128 : Shape := ⟨2, ![4416, 128]⟩
abbrev S192x128 : Shape := ⟨2, ![192, 128]⟩

abbrev nBuf : Space → Nat
  | .hbm => 7
  | .vmem => 14
  | .smem => 0
  | _ => 0

abbrev bufTy : (tb : Table) → Fin (tcTables nBuf tb) → BufTy
  | .hbm, ⟨0, _⟩ => ⟨S4416x128, .f32⟩
  | .hbm, ⟨1, _⟩ => ⟨S4416x128, .f32⟩
  | .hbm, ⟨2, _⟩ => ⟨S4416x128, .f32⟩
  | .hbm, ⟨3, _⟩ => ⟨S4416x128, .f32⟩
  | .hbm, ⟨4, _⟩ => ⟨S4416x128, .f32⟩
  | .hbm, ⟨5, _⟩ => ⟨S4416x128, .f32⟩
  | .hbm, ⟨6, _⟩ => ⟨S4416x128, .f32⟩
  | .local _ .vmem, ⟨0, _⟩ => ⟨S192x128, .f32⟩
  | .local _ .vmem, ⟨1, _⟩ => ⟨S192x128, .f32⟩
  | .local _ .vmem, ⟨2, _⟩ => ⟨S192x128, .f32⟩
  | .local _ .vmem, ⟨3, _⟩ => ⟨S192x128, .f32⟩
  | .local _ .vmem, ⟨4, _⟩ => ⟨S192x128, .f32⟩
  | .local _ .vmem, ⟨5, _⟩ => ⟨S192x128, .f32⟩
  | .local _ .vmem, ⟨6, _⟩ => ⟨S192x128, .f32⟩
  | .local _ .vmem, ⟨7, _⟩ => ⟨S192x128, .f32⟩
  | .local _ .vmem, ⟨8, _⟩ => ⟨S192x128, .f32⟩
  | .local _ .vmem, ⟨9, _⟩ => ⟨S192x128, .f32⟩
  | .local _ .vmem, ⟨10, _⟩ => ⟨S192x128, .f32⟩
  | .local _ .vmem, ⟨11, _⟩ => ⟨S192x128, .f32⟩
  | .local _ .vmem, ⟨12, _⟩ => ⟨S192x128, .f32⟩
  | .local _ .vmem, ⟨13, _⟩ => ⟨S192x128, .f32⟩
  | _, _ => ⟨S4416x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![23], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S192x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S192x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S192x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S192x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference9Ideal.lean ====
abbrev S4416x128 : Shape := ⟨2, ![4416, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4416x128, .f32⟩
  | .hbm, ⟨1, _⟩ => ⟨S4416x128, .f32⟩
  | .hbm, ⟨2, _⟩ => ⟨S4416x128, .f32⟩
  | .hbm, ⟨3, _⟩ => ⟨S4416x128, .f32⟩
  | .hbm, ⟨4, _⟩ => ⟨S_, .f32⟩
  | .hbm, ⟨5, _⟩ => ⟨S4416x128, .f32⟩
  | .hbm, ⟨6, _⟩ => ⟨S4416x128, .f32⟩
  | .hbm, ⟨7, _⟩ => ⟨S_, .f32⟩
  | .hbm, ⟨8, _⟩ => ⟨S4416x128, .f32⟩
  | .hbm, ⟨9, _⟩ => ⟨S4416x128, .f32⟩
  | .hbm, ⟨10, _⟩ => ⟨S4416x128, .f32⟩
  | .hbm, ⟨11, _⟩ => ⟨S_, .f32⟩
  | .hbm, ⟨12, _⟩ => ⟨S4416x128, .f32⟩
  | .hbm, ⟨13, _⟩ => ⟨S4416x128, .f32⟩
  | .hbm, ⟨14, _⟩ => ⟨S4416x128, .f32⟩
  | .hbm, ⟨15, _⟩ => ⟨S_, .f32⟩
  | .hbm, ⟨16, _⟩ => ⟨S4416x128, .f32⟩
  | .hbm, ⟨17, _⟩ => ⟨S4416x128, .f32⟩
  | .hbm, ⟨18, _⟩ => ⟨S4416x128, .f32⟩
  | .hbm, ⟨19, _⟩ => ⟨S_, .f32⟩
  | .hbm, ⟨20, _⟩ => ⟨S4416x128, .f32⟩
  | .hbm, ⟨21, _⟩ => ⟨S4416x128, .f32⟩
  | .hbm, ⟨22, _⟩ => ⟨S_, .f32⟩
  | .hbm, ⟨23, _⟩ => ⟨S4416x128, .f32⟩
  | .hbm, ⟨24, _⟩ => ⟨S4416x128, .f32⟩
  | .hbm, ⟨25, _⟩ => ⟨S4416x128, .f32⟩
  | .hbm, ⟨26, _⟩ => ⟨S_, .f32⟩
  | .hbm, ⟨27, _⟩ => ⟨S4416x128, .f32⟩
  | .hbm, ⟨28, _⟩ => ⟨S4416x128, .f32⟩
  | .hbm, ⟨29, _⟩ => ⟨S4416x128, .f32⟩
  | .hbm, ⟨30, _⟩ => ⟨S_, .f32⟩
  | .hbm, ⟨31, _⟩ => ⟨S4416x128, .f32⟩
  | .hbm, ⟨32, _⟩ => ⟨S4416x128, .f32⟩
  | .hbm, ⟨33, _⟩ => ⟨S4416x128, .f32⟩
  | .hbm, ⟨34, _⟩ => ⟨S_, .f32⟩
  | .hbm, ⟨35, _⟩ => ⟨S4416x128, .f32⟩
  | .hbm, ⟨36, _⟩ => ⟨S4416x128, .f32⟩
  | _, _ => ⟨S4416x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel10.lean ====
abbrev S4x512x2048 : Shape := ⟨3, ![4, 512, 2048]⟩
abbrev S512x2048 : Shape := ⟨2, ![512, 2048]⟩
abbrev S1x256x2048 : Shape := ⟨3, ![1, 256, 2048]⟩
abbrev S256x2048 : Shape := ⟨2, ![256, 2048]⟩

abbrev nBuf : Space → Nat
  | .hbm => 23
  | .vmem => 64
  | .smem => 0
  | _ => 0

abbrev bufTy : (tb : Table) → Fin (tcTables nBuf tb) → BufTy
  | .hbm, ⟨0, _⟩ => ⟨S4x512x2048, .f32⟩
  | .hbm, ⟨1, _⟩ => ⟨S512x2048, .bf16⟩
  | .hbm, ⟨2, _⟩ => ⟨S512x2048, .bf16⟩
  | .hbm, ⟨3, _⟩ => ⟨S512x2048, .bf16⟩
  | .hbm, ⟨4, _⟩ => ⟨S512x2048, .bf16⟩
  | .hbm, ⟨5, _⟩ => ⟨S4x512x2048, .f32⟩
  | .hbm, ⟨6, _⟩ => ⟨S4x512x2048, .f32⟩
  | .hbm, ⟨7, _⟩ => ⟨S4x512x2048, .f32⟩
  | .hbm, ⟨8, _⟩ => ⟨S4x512x2048, .f32⟩
  | .hbm, ⟨9, _⟩ => ⟨S4x512x2048, .f32⟩
  | .hbm, ⟨10, _⟩ => ⟨S4x512x2048, .f32⟩
  | .hbm, ⟨11, _⟩ => ⟨S4x512x2048, .f32⟩
  | .hbm, ⟨12, _⟩ => ⟨S4x512x2048, .f32⟩
  | .hbm, ⟨13, _⟩ => ⟨S4x512x2048, .f32⟩
  | .hbm, ⟨14, _⟩ => ⟨S4x512x2048, .f32⟩
  | .hbm, ⟨15, _⟩ => ⟨S4x512x2048, .f32⟩
  | .hbm, ⟨16, _⟩ => ⟨S4x512x2048, .f32⟩
  | .hbm, ⟨17, _⟩ => ⟨S4x512x2048, .f32⟩
  | .hbm, ⟨18, _⟩ => ⟨S4x512x2048, .f32⟩
  | .hbm, ⟨19, _⟩ => ⟨S4x512x2048, .f32⟩
  | .hbm, ⟨20, _⟩ => ⟨S4x512x2048, .f32⟩
  | .hbm, ⟨21, _⟩ => ⟨S4x512x2048, .f32⟩
  | .hbm, ⟨22, _⟩ => ⟨S4x512x2048, .f32⟩
  | .local _ .vmem, ⟨0, _⟩ => ⟨S1x256x2048, .f32⟩
  | .local _ .vmem, ⟨1, _⟩ => ⟨S1x256x2048, .f32⟩
  | .local _ .vmem, ⟨2, _⟩ => ⟨S256x2048, .bf16⟩
  | .local _ .vmem, ⟨3, _⟩ => ⟨S256x2048, .bf16⟩
  | .local _ .vmem, ⟨4, _⟩ => ⟨S1x256x2048, .f32⟩
  | .local _ .vmem, ⟨5, _⟩ => ⟨S1x256x2048, .f32⟩
  | .local _ .vmem, ⟨6, _⟩ => ⟨S1x256x2048, .f32⟩
  | .local _ .vmem, ⟨7, _⟩ => ⟨S1x256x2048, .f32⟩
  | .local _ .vmem, ⟨8, _⟩ => ⟨S1x256x2048, .f32⟩
  | .local _ .vmem, ⟨9, _⟩ => ⟨S1x256x2048, .f32⟩
  | .local _ .vmem, ⟨10, _⟩ => ⟨S1x256x2048, .f32⟩
  | .local _ .vmem, ⟨11, _⟩ => ⟨S1x256x2048, .f32⟩
  | .local _ .vmem, ⟨12, _⟩ => ⟨S1x256x2048, .f32⟩
  | .local _ .vmem, ⟨13, _⟩ => ⟨S1x256x2048, .f32⟩
  | .local _ .vmem, ⟨14, _⟩ => ⟨S1x256x2048, .f32⟩
  | .local _ .vmem, ⟨15, _⟩ => ⟨S1x256x2048, .f32⟩
  | .local _ .vmem, ⟨16, _⟩ => ⟨S1x256x2048, .f32⟩
  | .local _ .vmem, ⟨17, _⟩ => ⟨S1x256x2048, .f32⟩
  | .local _ .vmem, ⟨18, _⟩ => ⟨S256x2048, .bf16⟩
  | .local _ .vmem, ⟨19, _⟩ => ⟨S256x2048, .bf16⟩
  | .local _ .vmem, ⟨20, _⟩ => ⟨S1x256x2048, .f32⟩
  | .local _ .vmem, ⟨21, _⟩ => ⟨S1x256x2048, .f32⟩
  | .local _ .vmem, ⟨22, _⟩ => ⟨S1x256x2048, .f32⟩
  | .local _ .vmem, ⟨23, _⟩ => ⟨S1x256x2048, .f32⟩
  | .local _ .vmem, ⟨24, _⟩ => ⟨S1x256x2048, .f32⟩
  | .local _ .vmem, ⟨25, _⟩ => ⟨S1x256x2048, .f32⟩
  | .local _ .vmem, ⟨26, _⟩ => ⟨S1x256x2048, .f32⟩
  | .local _ .vmem, ⟨27, _⟩ => ⟨S1x256x2048, .f32⟩
  | .local _ .vmem, ⟨28, _⟩ => ⟨S1x256x2048, .f32⟩
  | .local _ .vmem, ⟨29, _⟩ => ⟨S1x256x2048, .f32⟩
  | .local _ .vmem, ⟨30, _⟩ => ⟨S1x256x2048, .f32⟩
  | .local _ .vmem, ⟨31, _⟩ => ⟨S1x256x2048, .f32⟩
  | .local _ .vmem, ⟨32, _⟩ => ⟨S1x256x2048, .f32⟩
  | .local _ .vmem, ⟨33, _⟩ => ⟨S1x256x2048, .f32⟩
  | .local _ .vmem, ⟨34, _⟩ => ⟨S256x2048, .bf16⟩
  | .local _ .vmem, ⟨35, _⟩ => ⟨S256x2048, .bf16⟩
  | .local _ .vmem, ⟨36, _⟩ => ⟨S1x256x2048, .f32⟩
  | .local _ .vmem, ⟨37, _⟩ => ⟨S1x256x2048, .f32⟩
  | .local _ .vmem, ⟨38, _⟩ => ⟨S1x256x2048, .f32⟩
  | .local _ .vmem, ⟨39, _⟩ => ⟨S1x256x2048, .f32⟩
  | .local _ .vmem, ⟨40, _⟩ => ⟨S1x256x2048, .f32⟩
  | .local _ .vmem, ⟨41, _⟩ => ⟨S1x256x2048, .f32⟩
  | .local _ .vmem, ⟨42, _⟩ => ⟨S1x256x2048, .f32⟩
  | .local _ .vmem, ⟨43, _⟩ => ⟨S1x256x2048, .f32⟩
  | .local _ .vmem, ⟨44, _⟩ => ⟨S1x256x2048, .f32⟩
  | .local _ .vmem, ⟨45, _⟩ => ⟨S1x256x2048, .f32⟩
  | .local _ .vmem, ⟨46, _⟩ => ⟨S1x256x2048, .f32⟩
  | .local _ .vmem, ⟨47, _⟩ => ⟨S1x256x2048, .f32⟩
  | .local _ .vmem, ⟨48, _⟩ => ⟨S1x256x2048, .f32⟩
  | .local _ .vmem, ⟨49, _⟩ => ⟨S1x256x2048, .f32⟩
  | .local _ .vmem, ⟨50, _⟩ => ⟨S256x2048, .bf16⟩
  | .local _ .vmem, ⟨51, _⟩ => ⟨S256x2048, .bf16⟩
  | .local _ .vmem, ⟨52, _⟩ => ⟨S1x256x2048, .f32⟩
  | .local _ .vmem, ⟨53, _⟩ => ⟨S1x256x2048, .f32⟩
  | .local _ .vmem, ⟨54, _⟩ => ⟨S1x256x2048, .f32⟩
  | .local _ .vmem, ⟨55, _⟩ => ⟨S1x256x2048, .f32⟩
  | .local _ .vmem, ⟨56, _⟩ => ⟨S1x256x2048, .f32⟩
  | .local _ .vmem, ⟨57, _⟩ => ⟨S1x256x2048, .f32⟩
  | .local _ .vmem, ⟨58, _⟩ => ⟨S1x256x2048, .f32⟩
  | .local _ .vmem, ⟨59, _⟩ => ⟨S1x256x2048, .f32⟩
  | .local _ .vmem, ⟨60, _⟩ => ⟨S1x256x2048, .f32⟩
  | .local _ .vmem, ⟨61, _⟩ => ⟨S1x256x2048, .f32⟩
  | .local _ .vmem, ⟨62, _⟩ => ⟨S1x256x2048, .f32⟩
  | .local _ .vmem, ⟨63, _⟩ => ⟨S1x256x2048, .f32⟩
  | _, _ => ⟨S4x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | _, _ => false

abbrev semScoped : Fin 0 → Bool
  | ⟨_, h⟩ => absurd h (Nat.not_lt_zero _)

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  ofTc nBuf bufTy 0 64 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v1_0 : Ref sig .tc := ⟨.hbm, 11, rfl⟩
abbrev main_v1_1 : Ref sig .tc := ⟨.hbm, 12, rfl⟩
abbrev main_v1_2 : Ref sig .tc := ⟨.hbm, 13, rfl⟩
abbrev main_v1_3 : Ref sig .tc := ⟨.hbm, 14, rfl⟩
abbrev main_v2_0 : Ref sig .tc := ⟨.hbm, 15, rfl⟩
abbrev main_v2_1 : Ref sig .tc := ⟨.hbm, 16, rfl⟩
abbrev main_v2_2 : Ref sig .tc := ⟨.hbm, 17, rfl⟩
abbrev main_v2_3 : Ref sig .tc := ⟨.hbm, 18, rfl⟩
abbrev main_v3_0 : Ref sig .tc := ⟨.hbm, 19, rfl⟩
abbrev main_v3_1 : Ref sig .tc := ⟨.hbm, 20, rfl⟩
abbrev main_v3_2 : Ref sig .tc := ⟨.hbm, 21, rfl⟩
abbrev main_v3_3 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg7_1 : Ref sig .tc := ⟨.vmem, 31, rfl⟩
abbrev cc2_stg0_0 : Ref sig .tc := ⟨.vmem, 32, rfl⟩
abbrev cc2_stg0_1 : Ref sig .tc := ⟨.vmem, 33, rfl⟩
abbrev cc2_stg1_0 : Ref sig .tc := ⟨.vmem, 34, rfl⟩
abbrev cc2_stg1_1 : Ref sig .tc := ⟨.vmem, 35, rfl⟩
abbrev cc2_stg2_0 : Ref sig .tc := ⟨.vmem, 36, rfl⟩
abbrev cc2_stg2_1 : Ref sig .tc := ⟨.vmem, 37, rfl⟩
abbrev cc2_stg3_0 : Ref sig .tc := ⟨.vmem, 38, rfl⟩
abbrev cc2_stg3_1 : Ref sig .tc := ⟨.vmem, 39, rfl⟩
abbrev cc2_stg4_0 : Ref sig .tc := ⟨.vmem, 40, rfl⟩
abbrev cc2_stg4_1 : Ref sig .tc := ⟨.vmem, 41, rfl⟩
abbrev cc2_stg5_0 : Ref sig .tc := ⟨.vmem, 42, rfl⟩
abbrev cc2_stg5_1 : Ref sig .tc := ⟨.vmem, 43, rfl⟩
abbrev cc2_stg6_0 : Ref sig .tc := ⟨.vmem, 44, rfl⟩
abbrev cc2_stg6_1 : Ref sig .tc := ⟨.vmem, 45, rfl⟩
abbrev cc2_stg7_0 : Ref sig .tc := ⟨.vmem, 46, rfl⟩
abbrev cc2_stg7_1 : Ref sig .tc := ⟨.vmem, 47, rfl⟩
abbrev cc3_stg0_0 : Ref sig .tc := ⟨.vmem, 48, rfl⟩
abbrev cc3_stg0_1 : Ref sig .tc := ⟨.vmem, 49, rfl⟩
abbrev cc3_stg1_0 : Ref sig .tc := ⟨.vmem, 50, rfl⟩
abbrev cc3_stg1_1 : Ref sig .tc := ⟨.vmem, 51, rfl⟩
abbrev cc3_stg2_0 : Ref sig .tc := ⟨.vmem, 52, rfl⟩
abbrev cc3_stg2_1 : Ref sig .tc := ⟨.vmem, 53, rfl⟩
abbrev cc3_stg3_0 : Ref sig .tc := ⟨.vmem, 54, rfl⟩
abbrev cc3_stg3_1 : Ref sig .tc := ⟨.vmem, 55, rfl⟩
abbrev cc3_stg4_0 : Ref sig .tc := ⟨.vmem, 56, rfl⟩
abbrev cc3_stg4_1 : Ref sig .tc := ⟨.vmem, 57, rfl⟩
abbrev cc3_stg5_0 : Ref sig .tc := ⟨.vmem, 58, rfl⟩
abbrev cc3_stg5_1 : Ref sig .tc := ⟨.vmem, 59, rfl⟩
abbrev cc3_stg6_0 : Ref sig .tc := ⟨.vmem, 60, rfl⟩
abbrev cc3_stg6_1 : Ref sig .tc := ⟨.vmem, 61, rfl⟩
abbrev cc3_stg7_0 : Ref sig .tc := ⟨.vmem, 62, rfl⟩
abbrev cc3_stg7_1 : Ref sig .tc := ⟨.vmem, 63, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31
abbrev cc2_sem0_0 : DmaSem sig := 32
abbrev cc2_sem0_1 : DmaSem sig := 33
abbrev cc2_sem1_0 : DmaSem sig := 34
abbrev cc2_sem1_1 : DmaSem sig := 35
abbrev cc2_sem2_0 : DmaSem sig := 36
abbrev cc2_sem2_1 : DmaSem sig := 37
abbrev cc2_sem3_0 : DmaSem sig := 38
abbrev cc2_sem3_1 : DmaSem sig := 39
abbrev cc2_sem4_0 : DmaSem sig := 40
abbrev cc2_sem4_1 : DmaSem sig := 41
abbrev cc2_sem5_0 : DmaSem sig := 42
abbrev cc2_sem5_1 : DmaSem sig := 43
abbrev cc2_sem6_0 : DmaSem sig := 44
abbrev cc2_sem6_1 : DmaSem sig := 45
abbrev cc2_sem7_0 : DmaSem sig := 46
abbrev cc2_sem7_1 : DmaSem sig := 47
abbrev cc3_sem0_0 : DmaSem sig := 48
abbrev cc3_sem0_1 : DmaSem sig := 49
abbrev cc3_sem1_0 : DmaSem sig := 50
abbrev cc3_sem1_1 : DmaSem sig := 51
abbrev cc3_sem2_0 : DmaSem sig := 52
abbrev cc3_sem2_1 : DmaSem sig := 53
abbrev cc3_sem3_0 : DmaSem sig := 54
abbrev cc3_sem3_1 : DmaSem sig := 55
abbrev cc3_sem4_0 : DmaSem sig := 56
abbrev cc3_sem4_1 : DmaSem sig := 57
abbrev cc3_sem5_0 : DmaSem sig := 58
abbrev cc3_sem5_1 : DmaSem sig := 59
abbrev cc3_sem6_0 : DmaSem sig := 60
abbrev cc3_sem6_1 : DmaSem sig := 61
abbrev cc3_sem7_0 : DmaSem sig := 62
abbrev cc3_sem7_1 : DmaSem sig := 63

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_4 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_5 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_6 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_7 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![2], ![false]⟩

def cc1_transform_0 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_3 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_8 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_9 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_10 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_11 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

abbrev stage1_0 : Fin 2 → Memref sig .tc .vmem S1x256x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x256x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x256x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x256x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x256x2048 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x256x2048 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x256x2048 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![2], ![false]⟩

def cc2_transform_0 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc2_transform_3 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc2_transform_8 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc2_transform_9 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc2_transform_10 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc2_transform_11 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage2_0 : Fin 2 → Memref sig .tc .vmem S1x256x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S256x2048 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x256x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x256x2048 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S1x256x2048 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S1x256x2048 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S1x256x2048 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S1x256x2048 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![2], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_3 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_8 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_9 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_10 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_11 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage3_0 : Fin 2 → Memref sig .tc .vmem S1x256x2048 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S256x2048 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1x256x2048 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1x256x2048 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S1x256x2048 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S1x256x2048 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S1x256x2048 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S1x256x2048 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]
-- ==== Kernel10Ideal.lean ====
abbrev S4x512x2048 : Shape := ⟨3, ![4, 512, 2048]⟩
abbrev S512x2048 : Shape := ⟨2, ![512, 2048]⟩
abbrev S1x256x2048 : Shape := ⟨3, ![1, 256, 2048]⟩
abbrev S256x2048 : Shape := ⟨2, ![256, 2048]⟩

abbrev nBuf : Space → Nat
  | .hbm => 23
  | .vmem => 64
  | .smem => 0
  | _ => 0

abbrev bufTy : (tb : Table) → Fin (tcTables nBuf tb) → BufTy
  | .hbm, ⟨0, _⟩ => ⟨S4x512x2048, .f32⟩
  | .hbm, ⟨1, _⟩ => ⟨S512x2048, .bf16⟩
  | .hbm, ⟨2, _⟩ => ⟨S512x2048, .bf16⟩
  | .hbm, ⟨3, _⟩ => ⟨S512x2048, .bf16⟩
  | .hbm, ⟨4, _⟩ => ⟨S512x2048, .bf16⟩
  | .hbm, ⟨5, _⟩ => ⟨S4x512x2048, .f32⟩
  | .hbm, ⟨6, _⟩ => ⟨S4x512x2048, .f32⟩
  | .hbm, ⟨7, _⟩ => ⟨S4x512x2048, .f32⟩
  | .hbm, ⟨8, _⟩ => ⟨S4x512x2048, .f32⟩
  | .hbm, ⟨9, _⟩ => ⟨S4x512x2048, .f32⟩
  | .hbm, ⟨10, _⟩ => ⟨S4x512x2048, .f32⟩
  | .hbm, ⟨11, _⟩ => ⟨S4x512x2048, .f32⟩
  | .hbm, ⟨12, _⟩ => ⟨S4x512x2048, .f32⟩
  | .hbm, ⟨13, _⟩ => ⟨S4x512x2048, .f32⟩
  | .hbm, ⟨14, _⟩ => ⟨S4x512x2048, .f32⟩
  | .hbm, ⟨15, _⟩ => ⟨S4x512x2048, .f32⟩
  | .hbm, ⟨16, _⟩ => ⟨S4x512x2048, .f32⟩
  | .hbm, ⟨17, _⟩ => ⟨S4x512x2048, .f32⟩
  | .hbm, ⟨18, _⟩ => ⟨S4x512x2048, .f32⟩
  | .hbm, ⟨19, _⟩ => ⟨S4x512x2048, .f32⟩
  | .hbm, ⟨20, _⟩ => ⟨S4x512x2048, .f32⟩
  | .hbm, ⟨21, _⟩ => ⟨S4x512x2048, .f32⟩
  | .hbm, ⟨22, _⟩ => ⟨S4x512x2048, .f32⟩
  | .local _ .vmem, ⟨0, _⟩ => ⟨S1x256x2048, .f32⟩
  | .local _ .vmem, ⟨1, _⟩ => ⟨S1x256x2048, .f32⟩
  | .local _ .vmem, ⟨2, _⟩ => ⟨S256x2048, .bf16⟩
  | .local _ .vmem, ⟨3, _⟩ => ⟨S256x2048, .bf16⟩
  | .local _ .vmem, ⟨4, _⟩ => ⟨S1x256x2048, .f32⟩
  | .local _ .vmem, ⟨5, _⟩ => ⟨S1x256x2048, .f32⟩
  | .local _ .vmem, ⟨6, _⟩ => ⟨S1x256x2048, .f32⟩
  | .local _ .vmem, ⟨7, _⟩ => ⟨S1x256x2048, .f32⟩
  | .local _ .vmem, ⟨8, _⟩ => ⟨S1x256x2048, .f32⟩
  | .local _ .vmem, ⟨9, _⟩ => ⟨S1x256x2048, .f32⟩
  | .local _ .vmem, ⟨10, _⟩ => ⟨S1x256x2048, .f32⟩
  | .local _ .vmem, ⟨11, _⟩ => ⟨S1x256x2048, .f32⟩
  | .local _ .vmem, ⟨12, _⟩ => ⟨S1x256x2048, .f32⟩
  | .local _ .vmem, ⟨13, _⟩ => ⟨S1x256x2048, .f32⟩
  | .local _ .vmem, ⟨14, _⟩ => ⟨S1x256x2048, .f32⟩
  | .local _ .vmem, ⟨15, _⟩ => ⟨S1x256x2048, .f32⟩
  | .local _ .vmem, ⟨16, _⟩ => ⟨S1x256x2048, .f32⟩
  | .local _ .vmem, ⟨17, _⟩ => ⟨S1x256x2048, .f32⟩
  | .local _ .vmem, ⟨18, _⟩ => ⟨S256x2048, .bf16⟩
  | .local _ .vmem, ⟨19, _⟩ => ⟨S256x2048, .bf16⟩
  | .local _ .vmem, ⟨20, _⟩ => ⟨S1x256x2048, .f32⟩
  | .local _ .vmem, ⟨21, _⟩ => ⟨S1x256x2048, .f32⟩
  | .local _ .vmem, ⟨22, _⟩ => ⟨S1x256x2048, .f32⟩
  | .local _ .vmem, ⟨23, _⟩ => ⟨S1x256x2048, .f32⟩
  | .local _ .vmem, ⟨24, _⟩ => ⟨S1x256x2048, .f32⟩
  | .local _ .vmem, ⟨25, _⟩ => ⟨S1x256x2048, .f32⟩
  | .local _ .vmem, ⟨26, _⟩ => ⟨S1x256x2048, .f32⟩
  | .local _ .vmem, ⟨27, _⟩ => ⟨S1x256x2048, .f32⟩
  | .local _ .vmem, ⟨28, _⟩ => ⟨S1x256x2048, .f32⟩
  | .local _ .vmem, ⟨29, _⟩ => ⟨S1x256x2048, .f32⟩
  | .local _ .vmem, ⟨30, _⟩ => ⟨S1x256x2048, .f32⟩
  | .local _ .vmem, ⟨31, _⟩ => ⟨S1x256x2048, .f32⟩
  | .local _ .vmem, ⟨32, _⟩ => ⟨S1x256x2048, .f32⟩
  | .local _ .vmem, ⟨33, _⟩ => ⟨S1x256x2048, .f32⟩
  | .local _ .vmem, ⟨34, _⟩ => ⟨S256x2048, .bf16⟩
  | .local _ .vmem, ⟨35, _⟩ => ⟨S256x2048, .bf16⟩
  | .local _ .vmem, ⟨36, _⟩ => ⟨S1x256x2048, .f32⟩
  | .local _ .vmem, ⟨37, _⟩ => ⟨S1x256x2048, .f32⟩
  | .local _ .vmem, ⟨38, _⟩ => ⟨S1x256x2048, .f32⟩
  | .local _ .vmem, ⟨39, _⟩ => ⟨S1x256x2048, .f32⟩
  | .local _ .vmem, ⟨40, _⟩ => ⟨S1x256x2048, .f32⟩
  | .local _ .vmem, ⟨41, _⟩ => ⟨S1x256x2048, .f32⟩
  | .local _ .vmem, ⟨42, _⟩ => ⟨S1x256x2048, .f32⟩
  | .local _ .vmem, ⟨43, _⟩ => ⟨S1x256x2048, .f32⟩
  | .local _ .vmem, ⟨44, _⟩ => ⟨S1x256x2048, .f32⟩
  | .local _ .vmem, ⟨45, _⟩ => ⟨S1x256x2048, .f32⟩
  | .local _ .vmem, ⟨46, _⟩ => ⟨S1x256x2048, .f32⟩
  | .local _ .vmem, ⟨47, _⟩ => ⟨S1x256x2048, .f32⟩
  | .local _ .vmem, ⟨48, _⟩ => ⟨S1x256x2048, .f32⟩
  | .local _ .vmem, ⟨49, _⟩ => ⟨S1x256x2048, .f32⟩
  | .local _ .vmem, ⟨50, _⟩ => ⟨S256x2048, .bf16⟩
  | .local _ .vmem, ⟨51, _⟩ => ⟨S256x2048, .bf16⟩
  | .local _ .vmem, ⟨52, _⟩ => ⟨S1x256x2048, .f32⟩
  | .local _ .vmem, ⟨53, _⟩ => ⟨S1x256x2048, .f32⟩
  | .local _ .vmem, ⟨54, _⟩ => ⟨S1x256x2048, .f32⟩
  | .local _ .vmem, ⟨55, _⟩ => ⟨S1x256x2048, .f32⟩
  | .local _ .vmem, ⟨56, _⟩ => ⟨S1x256x2048, .f32⟩
  | .local _ .vmem, ⟨57, _⟩ => ⟨S1x256x2048, .f32⟩
  | .local _ .vmem, ⟨58, _⟩ => ⟨S1x256x2048, .f32⟩
  | .local _ .vmem, ⟨59, _⟩ => ⟨S1x256x2048, .f32⟩
  | .local _ .vmem, ⟨60, _⟩ => ⟨S1x256x2048, .f32⟩
  | .local _ .vmem, ⟨61, _⟩ => ⟨S1x256x2048, .f32⟩
  | .local _ .vmem, ⟨62, _⟩ => ⟨S1x256x2048, .f32⟩
  | .local _ .vmem, ⟨63, _⟩ => ⟨S1x256x2048, .f32⟩
  | _, _ => ⟨S4x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | _, _ => false

abbrev semScoped : Fin 0 → Bool
  | ⟨_, h⟩ => absurd h (Nat.not_lt_zero _)

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  ofTc nBuf bufTy 0 64 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v1_0 : Ref sig .tc := ⟨.hbm, 11, rfl⟩
abbrev main_v1_1 : Ref sig .tc := ⟨.hbm, 12, rfl⟩
abbrev main_v1_2 : Ref sig .tc := ⟨.hbm, 13, rfl⟩
abbrev main_v1_3 : Ref sig .tc := ⟨.hbm, 14, rfl⟩
abbrev main_v2_0 : Ref sig .tc := ⟨.hbm, 15, rfl⟩
abbrev main_v2_1 : Ref sig .tc := ⟨.hbm, 16, rfl⟩
abbrev main_v2_2 : Ref sig .tc := ⟨.hbm, 17, rfl⟩
abbrev main_v2_3 : Ref sig .tc := ⟨.hbm, 18, rfl⟩
abbrev main_v3_0 : Ref sig .tc := ⟨.hbm, 19, rfl⟩
abbrev main_v3_1 : Ref sig .tc := ⟨.hbm, 20, rfl⟩
abbrev main_v3_2 : Ref sig .tc := ⟨.hbm, 21, rfl⟩
abbrev main_v3_3 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg7_1 : Ref sig .tc := ⟨.vmem, 31, rfl⟩
abbrev cc2_stg0_0 : Ref sig .tc := ⟨.vmem, 32, rfl⟩
abbrev cc2_stg0_1 : Ref sig .tc := ⟨.vmem, 33, rfl⟩
abbrev cc2_stg1_0 : Ref sig .tc := ⟨.vmem, 34, rfl⟩
abbrev cc2_stg1_1 : Ref sig .tc := ⟨.vmem, 35, rfl⟩
abbrev cc2_stg2_0 : Ref sig .tc := ⟨.vmem, 36, rfl⟩
abbrev cc2_stg2_1 : Ref sig .tc := ⟨.vmem, 37, rfl⟩
abbrev cc2_stg3_0 : Ref sig .tc := ⟨.vmem, 38, rfl⟩
abbrev cc2_stg3_1 : Ref sig .tc := ⟨.vmem, 39, rfl⟩
abbrev cc2_stg4_0 : Ref sig .tc := ⟨.vmem, 40, rfl⟩
abbrev cc2_stg4_1 : Ref sig .tc := ⟨.vmem, 41, rfl⟩
abbrev cc2_stg5_0 : Ref sig .tc := ⟨.vmem, 42, rfl⟩
abbrev cc2_stg5_1 : Ref sig .tc := ⟨.vmem, 43, rfl⟩
abbrev cc2_stg6_0 : Ref sig .tc := ⟨.vmem, 44, rfl⟩
abbrev cc2_stg6_1 : Ref sig .tc := ⟨.vmem, 45, rfl⟩
abbrev cc2_stg7_0 : Ref sig .tc := ⟨.vmem, 46, rfl⟩
abbrev cc2_stg7_1 : Ref sig .tc := ⟨.vmem, 47, rfl⟩
abbrev cc3_stg0_0 : Ref sig .tc := ⟨.vmem, 48, rfl⟩
abbrev cc3_stg0_1 : Ref sig .tc := ⟨.vmem, 49, rfl⟩
abbrev cc3_stg1_0 : Ref sig .tc := ⟨.vmem, 50, rfl⟩
abbrev cc3_stg1_1 : Ref sig .tc := ⟨.vmem, 51, rfl⟩
abbrev cc3_stg2_0 : Ref sig .tc := ⟨.vmem, 52, rfl⟩
abbrev cc3_stg2_1 : Ref sig .tc := ⟨.vmem, 53, rfl⟩
abbrev cc3_stg3_0 : Ref sig .tc := ⟨.vmem, 54, rfl⟩
abbrev cc3_stg3_1 : Ref sig .tc := ⟨.vmem, 55, rfl⟩
abbrev cc3_stg4_0 : Ref sig .tc := ⟨.vmem, 56, rfl⟩
abbrev cc3_stg4_1 : Ref sig .tc := ⟨.vmem, 57, rfl⟩
abbrev cc3_stg5_0 : Ref sig .tc := ⟨.vmem, 58, rfl⟩
abbrev cc3_stg5_1 : Ref sig .tc := ⟨.vmem, 59, rfl⟩
abbrev cc3_stg6_0 : Ref sig .tc := ⟨.vmem, 60, rfl⟩
abbrev cc3_stg6_1 : Ref sig .tc := ⟨.vmem, 61, rfl⟩
abbrev cc3_stg7_0 : Ref sig .tc := ⟨.vmem, 62, rfl⟩
abbrev cc3_stg7_1 : Ref sig .tc := ⟨.vmem, 63, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31
abbrev cc2_sem0_0 : DmaSem sig := 32
abbrev cc2_sem0_1 : DmaSem sig := 33
abbrev cc2_sem1_0 : DmaSem sig := 34
abbrev cc2_sem1_1 : DmaSem sig := 35
abbrev cc2_sem2_0 : DmaSem sig := 36
abbrev cc2_sem2_1 : DmaSem sig := 37
abbrev cc2_sem3_0 : DmaSem sig := 38
abbrev cc2_sem3_1 : DmaSem sig := 39
abbrev cc2_sem4_0 : DmaSem sig := 40
abbrev cc2_sem4_1 : DmaSem sig := 41
abbrev cc2_sem5_0 : DmaSem sig := 42
abbrev cc2_sem5_1 : DmaSem sig := 43
abbrev cc2_sem6_0 : DmaSem sig := 44
abbrev cc2_sem6_1 : DmaSem sig := 45
abbrev cc2_sem7_0 : DmaSem sig := 46
abbrev cc2_sem7_1 : DmaSem sig := 47
abbrev cc3_sem0_0 : DmaSem sig := 48
abbrev cc3_sem0_1 : DmaSem sig := 49
abbrev cc3_sem1_0 : DmaSem sig := 50
abbrev cc3_sem1_1 : DmaSem sig := 51
abbrev cc3_sem2_0 : DmaSem sig := 52
abbrev cc3_sem2_1 : DmaSem sig := 53
abbrev cc3_sem3_0 : DmaSem sig := 54
abbrev cc3_sem3_1 : DmaSem sig := 55
abbrev cc3_sem4_0 : DmaSem sig := 56
abbrev cc3_sem4_1 : DmaSem sig := 57
abbrev cc3_sem5_0 : DmaSem sig := 58
abbrev cc3_sem5_1 : DmaSem sig := 59
abbrev cc3_sem6_0 : DmaSem sig := 60
abbrev cc3_sem6_1 : DmaSem sig := 61
abbrev cc3_sem7_0 : DmaSem sig := 62
abbrev cc3_sem7_1 : DmaSem sig := 63

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_4 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_5 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_6 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_7 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![2], ![false]⟩

def cc1_transform_0 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_3 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_8 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_9 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_10 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_11 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

abbrev stage1_0 : Fin 2 → Memref sig .tc .vmem S1x256x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x256x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x256x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x256x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x256x2048 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x256x2048 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x256x2048 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![2], ![false]⟩

def cc2_transform_0 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc2_transform_3 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc2_transform_8 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc2_transform_9 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc2_transform_10 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc2_transform_11 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage2_0 : Fin 2 → Memref sig .tc .vmem S1x256x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S256x2048 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x256x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x256x2048 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S1x256x2048 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S1x256x2048 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S1x256x2048 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S1x256x2048 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![2], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_3 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_8 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_9 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_10 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_11 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage3_0 : Fin 2 → Memref sig .tc .vmem S1x256x2048 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S256x2048 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1x256x2048 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1x256x2048 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S1x256x2048 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S1x256x2048 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S1x256x2048 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S1x256x2048 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]
-- ==== Reference10Ideal.lean ====
abbrev S4x512x2048 : Shape := ⟨3, ![4, 512, 2048]⟩
abbrev S512x2048 : Shape := ⟨2, ![512, 2048]⟩
abbrev S1x512x2048 : Shape := ⟨3, ![1, 512, 2048]⟩
abbrev S_ : Shape := ⟨0, ![]⟩

abbrev nBuf : Space → Nat
  | .hbm => 46
  | .vmem => 0
  | .smem => 0
  | _ => 0

abbrev bufTy : (tb : Table) → Fin (tcTables nBuf tb) → BufTy
  | .hbm, ⟨0, _⟩ => ⟨S4x512x2048, .f32⟩
  | .hbm, ⟨1, _⟩ => ⟨S512x2048, .bf16⟩
  | .hbm, ⟨2, _⟩ => ⟨S512x2048, .bf16⟩
  | .hbm, ⟨3, _⟩ => ⟨S512x2048, .bf16⟩
  | .hbm, ⟨4, _⟩ => ⟨S512x2048, .bf16⟩
  | .hbm, ⟨5, _⟩ => ⟨S4x512x2048, .f32⟩
  | .hbm, ⟨6, _⟩ => ⟨S4x512x2048, .f32⟩
  | .hbm, ⟨7, _⟩ => ⟨S1x512x2048, .bf16⟩
  | .hbm, ⟨8, _⟩ => ⟨S1x512x2048, .bf16⟩
  | .hbm, ⟨9, _⟩ => ⟨S1x512x2048, .bf16⟩
  | .hbm, ⟨10, _⟩ => ⟨S1x512x2048, .bf16⟩
  | .hbm, ⟨11, _⟩ => ⟨S4x512x2048, .bf16⟩
  | .hbm, ⟨12, _⟩ => ⟨S4x512x2048, .f32⟩
  | .hbm, ⟨13, _⟩ => ⟨S_, .f32⟩
  | .hbm, ⟨14, _⟩ => ⟨S4x512x2048, .f32⟩
  | .hbm, ⟨15, _⟩ => ⟨S4x512x2048, .f32⟩
  | .hbm, ⟨16, _⟩ => ⟨S_, .f32⟩
  | .hbm, ⟨17, _⟩ => ⟨S4x512x2048, .f32⟩
  | .hbm, ⟨18, _⟩ => ⟨S4x512x2048, .f32⟩
  | .hbm, ⟨19, _⟩ => ⟨S4x512x2048, .f32⟩
  | .hbm, ⟨20, _⟩ => ⟨S_, .f32⟩
  | .hbm, ⟨21, _⟩ => ⟨S4x512x2048, .f32⟩
  | .hbm, ⟨22, _⟩ => ⟨S4x512x2048, .f32⟩
  | .hbm, ⟨23, _⟩ => ⟨S4x512x2048, .f32⟩
  | .hbm, ⟨24, _⟩ => ⟨S_, .f32⟩
  | .hbm, ⟨25, _⟩ => ⟨S4x512x2048, .f32⟩
  | .hbm, ⟨26, _⟩ => ⟨S4x512x2048, .f32⟩
  | .hbm, ⟨27, _⟩ => ⟨S4x512x2048, .f32⟩
  | .hbm, ⟨28, _⟩ => ⟨S_, .f32⟩
  | .hbm, ⟨29, _⟩ => ⟨S4x512x2048, .f32⟩
  | .hbm, ⟨30, _⟩ => ⟨S4x512x2048, .f32⟩
  | .hbm, ⟨31, _⟩ => ⟨S_, .f32⟩
  | .hbm, ⟨32, _⟩ => ⟨S4x512x2048, .f32⟩
  | .hbm, ⟨33, _⟩ => ⟨S4x512x2048, .f32⟩
  | .hbm, ⟨34, _⟩ => ⟨S4x512x2048, .f32⟩
  | .hbm, ⟨35, _⟩ => ⟨S_, .f32⟩
  | .hbm, ⟨36, _⟩ => ⟨S4x512x2048, .f32⟩
  | .hbm, ⟨37, _⟩ => ⟨S4x512x2048, .f32⟩
  | .hbm, ⟨38, _⟩ => ⟨S4x512x2048, .f32⟩
  | .hbm, ⟨39, _⟩ => ⟨S_, .f32⟩
  | .hbm, ⟨40, _⟩ => ⟨S4x512x2048, .f32⟩
  | .hbm, ⟨41, _⟩ => ⟨S4x512x2048, .f32⟩
  | .hbm, ⟨42, _⟩ => ⟨S4x512x2048, .f32⟩
  | .hbm, ⟨43, _⟩ => ⟨S_, .f32⟩
  | .hbm, ⟨44, _⟩ => ⟨S4x512x2048, .f32⟩
  | .hbm, ⟨45, _⟩ => ⟨S4x512x2048, .f32⟩
  | _, _ => ⟨S4x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_7 : Ref sig .tc := ⟨.hbm, 43, rfl⟩
abbrev main_v28 : Ref sig .tc := ⟨.hbm, 44, rfl⟩
abbrev main_v29 : Ref sig .tc := ⟨.hbm, 45, rfl⟩

abbrev nD : Nat := 1
abbrev τ : Topo := Topo.v7x

variable {F : FTy → Type} [FloatOps F]
-- ==== Kernel11.lean ====
abbrev S4x2048x1280 : Shape := ⟨3, ![4, 2048, 1280]⟩
abbrev S2048x1280 : Shape := ⟨2, ![2048, 1280]⟩
abbrev S1x256x1280 : Shape := ⟨3, ![1, 256, 1280]⟩
abbrev S256x1280 : Shape := ⟨2, ![256, 1280]⟩

abbrev nBuf : Space → Nat
  | .hbm => 23
  | .vmem => 64
  | .smem => 0
  | _ => 0

abbrev bufTy : (tb : Table) → Fin (tcTables nBuf tb) → BufTy
  | .hbm, ⟨0, _⟩ => ⟨S4x2048x1280, .f32⟩
  | .hbm, ⟨1, _⟩ => ⟨S2048x1280, .bf16⟩
  | .hbm, ⟨2, _⟩ => ⟨S2048x1280, .bf16⟩
  | .hbm, ⟨3, _⟩ => ⟨S2048x1280, .bf16⟩
  | .hbm, ⟨4, _⟩ => ⟨S2048x1280, .bf16⟩
  | .hbm, ⟨5, _⟩ => ⟨S4x2048x1280, .f32⟩
  | .hbm, ⟨6, _⟩ => ⟨S4x2048x1280, .f32⟩
  | .hbm, ⟨7, _⟩ => ⟨S4x2048x1280, .f32⟩
  | .hbm, ⟨8, _⟩ => ⟨S4x2048x1280, .f32⟩
  | .hbm, ⟨9, _⟩ => ⟨S4x2048x1280, .f32⟩
  | .hbm, ⟨10, _⟩ => ⟨S4x2048x1280, .f32⟩
  | .hbm, ⟨11, _⟩ => ⟨S4x2048x1280, .f32⟩
  | .hbm, ⟨12, _⟩ => ⟨S4x2048x1280, .f32⟩
  | .hbm, ⟨13, _⟩ => ⟨S4x2048x1280, .f32⟩
  | .hbm, ⟨14, _⟩ => ⟨S4x2048x1280, .f32⟩
  | .hbm, ⟨15, _⟩ => ⟨S4x2048x1280, .f32⟩
  | .hbm, ⟨16, _⟩ => ⟨S4x2048x1280, .f32⟩
  | .hbm, ⟨17, _⟩ => ⟨S4x2048x1280, .f32⟩
  | .hbm, ⟨18, _⟩ => ⟨S4x2048x1280, .f32⟩
  | .hbm, ⟨19, _⟩ => ⟨S4x2048x1280, .f32⟩
  | .hbm, ⟨20, _⟩ => ⟨S4x2048x1280, .f32⟩
  | .hbm, ⟨21, _⟩ => ⟨S4x2048x1280, .f32⟩
  | .hbm, ⟨22, _⟩ => ⟨S4x2048x1280, .f32⟩
  | .local _ .vmem, ⟨0, _⟩ => ⟨S1x256x1280, .f32⟩
  | .local _ .vmem, ⟨1, _⟩ => ⟨S1x256x1280, .f32⟩
  | .local _ .vmem, ⟨2, _⟩ => ⟨S256x1280, .bf16⟩
  | .local _ .vmem, ⟨3, _⟩ => ⟨S256x1280, .bf16⟩
  | .local _ .vmem, ⟨4, _⟩ => ⟨S1x256x1280, .f32⟩
  | .local _ .vmem, ⟨5, _⟩ => ⟨S1x256x1280, .f32⟩
  | .local _ .vmem, ⟨6, _⟩ => ⟨S1x256x1280, .f32⟩
  | .local _ .vmem, ⟨7, _⟩ => ⟨S1x256x1280, .f32⟩
  | .local _ .vmem, ⟨8, _⟩ => ⟨S1x256x1280, .f32⟩
  | .local _ .vmem, ⟨9, _⟩ => ⟨S1x256x1280, .f32⟩
  | .local _ .vmem, ⟨10, _⟩ => ⟨S1x256x1280, .f32⟩
  | .local _ .vmem, ⟨11, _⟩ => ⟨S1x256x1280, .f32⟩
  | .local _ .vmem, ⟨12, _⟩ => ⟨S1x256x1280, .f32⟩
  | .local _ .vmem, ⟨13, _⟩ => ⟨S1x256x1280, .f32⟩
  | .local _ .vmem, ⟨14, _⟩ => ⟨S1x256x1280, .f32⟩
  | .local _ .vmem, ⟨15, _⟩ => ⟨S1x256x1280, .f32⟩
  | .local _ .vmem, ⟨16, _⟩ => ⟨S1x256x1280, .f32⟩
  | .local _ .vmem, ⟨17, _⟩ => ⟨S1x256x1280, .f32⟩
  | .local _ .vmem, ⟨18, _⟩ => ⟨S256x1280, .bf16⟩
  | .local _ .vmem, ⟨19, _⟩ => ⟨S256x1280, .bf16⟩
  | .local _ .vmem, ⟨20, _⟩ => ⟨S1x256x1280, .f32⟩
  | .local _ .vmem, ⟨21, _⟩ => ⟨S1x256x1280, .f32⟩
  | .local _ .vmem, ⟨22, _⟩ => ⟨S1x256x1280, .f32⟩
  | .local _ .vmem, ⟨23, _⟩ => ⟨S1x256x1280, .f32⟩
  | .local _ .vmem, ⟨24, _⟩ => ⟨S1x256x1280, .f32⟩
  | .local _ .vmem, ⟨25, _⟩ => ⟨S1x256x1280, .f32⟩
  | .local _ .vmem, ⟨26, _⟩ => ⟨S1x256x1280, .f32⟩
  | .local _ .vmem, ⟨27, _⟩ => ⟨S1x256x1280, .f32⟩
  | .local _ .vmem, ⟨28, _⟩ => ⟨S1x256x1280, .f32⟩
  | .local _ .vmem, ⟨29, _⟩ => ⟨S1x256x1280, .f32⟩
  | .local _ .vmem, ⟨30, _⟩ => ⟨S1x256x1280, .f32⟩
  | .local _ .vmem, ⟨31, _⟩ => ⟨S1x256x1280, .f32⟩
  | .local _ .vmem, ⟨32, _⟩ => ⟨S1x256x1280, .f32⟩
  | .local _ .vmem, ⟨33, _⟩ => ⟨S1x256x1280, .f32⟩
  | .local _ .vmem, ⟨34, _⟩ => ⟨S256x1280, .bf16⟩
  | .local _ .vmem, ⟨35, _⟩ => ⟨S256x1280, .bf16⟩
  | .local _ .vmem, ⟨36, _⟩ => ⟨S1x256x1280, .f32⟩
  | .local _ .vmem, ⟨37, _⟩ => ⟨S1x256x1280, .f32⟩
  | .local _ .vmem, ⟨38, _⟩ => ⟨S1x256x1280, .f32⟩
  | .local _ .vmem, ⟨39, _⟩ => ⟨S1x256x1280, .f32⟩
  | .local _ .vmem, ⟨40, _⟩ => ⟨S1x256x1280, .f32⟩
  | .local _ .vmem, ⟨41, _⟩ => ⟨S1x256x1280, .f32⟩
  | .local _ .vmem, ⟨42, _⟩ => ⟨S1x256x1280, .f32⟩
  | .local _ .vmem, ⟨43, _⟩ => ⟨S1x256x1280, .f32⟩
  | .local _ .vmem, ⟨44, _⟩ => ⟨S1x256x1280, .f32⟩
  | .local _ .vmem, ⟨45, _⟩ => ⟨S1x256x1280, .f32⟩
  | .local _ .vmem, ⟨46, _⟩ => ⟨S1x256x1280, .f32⟩
  | .local _ .vmem, ⟨47, _⟩ => ⟨S1x256x1280, .f32⟩
  | .local _ .vmem, ⟨48, _⟩ => ⟨S1x256x1280, .f32⟩
  | .local _ .vmem, ⟨49, _⟩ => ⟨S1x256x1280, .f32⟩
  | .local _ .vmem, ⟨50, _⟩ => ⟨S256x1280, .bf16⟩
  | .local _ .vmem, ⟨51, _⟩ => ⟨S256x1280, .bf16⟩
  | .local _ .vmem, ⟨52, _⟩ => ⟨S1x256x1280, .f32⟩
  | .local _ .vmem, ⟨53, _⟩ => ⟨S1x256x1280, .f32⟩
  | .local _ .vmem, ⟨54, _⟩ => ⟨S1x256x1280, .f32⟩
  | .local _ .vmem, ⟨55, _⟩ => ⟨S1x256x1280, .f32⟩
  | .local _ .vmem, ⟨56, _⟩ => ⟨S1x256x1280, .f32⟩
  | .local _ .vmem, ⟨57, _⟩ => ⟨S1x256x1280, .f32⟩
  | .local _ .vmem, ⟨58, _⟩ => ⟨S1x256x1280, .f32⟩
  | .local _ .vmem, ⟨59, _⟩ => ⟨S1x256x1280, .f32⟩
  | .local _ .vmem, ⟨60, _⟩ => ⟨S1x256x1280, .f32⟩
  | .local _ .vmem, ⟨61, _⟩ => ⟨S1x256x1280, .f32⟩
  | .local _ .vmem, ⟨62, _⟩ => ⟨S1x256x1280, .f32⟩
  | .local _ .vmem, ⟨63, _⟩ => ⟨S1x256x1280, .f32⟩
  | _, _ => ⟨S4x2048x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | _, _ => false

abbrev semScoped : Fin 0 → Bool
  | ⟨_, h⟩ => absurd h (Nat.not_lt_zero _)

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  ofTc nBuf bufTy 0 64 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v1_0 : Ref sig .tc := ⟨.hbm, 11, rfl⟩
abbrev main_v1_1 : Ref sig .tc := ⟨.hbm, 12, rfl⟩
abbrev main_v1_2 : Ref sig .tc := ⟨.hbm, 13, rfl⟩
abbrev main_v1_3 : Ref sig .tc := ⟨.hbm, 14, rfl⟩
abbrev main_v2_0 : Ref sig .tc := ⟨.hbm, 15, rfl⟩
abbrev main_v2_1 : Ref sig .tc := ⟨.hbm, 16, rfl⟩
abbrev main_v2_2 : Ref sig .tc := ⟨.hbm, 17, rfl⟩
abbrev main_v2_3 : Ref sig .tc := ⟨.hbm, 18, rfl⟩
abbrev main_v3_0 : Ref sig .tc := ⟨.hbm, 19, rfl⟩
abbrev main_v3_1 : Ref sig .tc := ⟨.hbm, 20, rfl⟩
abbrev main_v3_2 : Ref sig .tc := ⟨.hbm, 21, rfl⟩
abbrev main_v3_3 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg7_1 : Ref sig .tc := ⟨.vmem, 31, rfl⟩
abbrev cc2_stg0_0 : Ref sig .tc := ⟨.vmem, 32, rfl⟩
abbrev cc2_stg0_1 : Ref sig .tc := ⟨.vmem, 33, rfl⟩
abbrev cc2_stg1_0 : Ref sig .tc := ⟨.vmem, 34, rfl⟩
abbrev cc2_stg1_1 : Ref sig .tc := ⟨.vmem, 35, rfl⟩
abbrev cc2_stg2_0 : Ref sig .tc := ⟨.vmem, 36, rfl⟩
abbrev cc2_stg2_1 : Ref sig .tc := ⟨.vmem, 37, rfl⟩
abbrev cc2_stg3_0 : Ref sig .tc := ⟨.vmem, 38, rfl⟩
abbrev cc2_stg3_1 : Ref sig .tc := ⟨.vmem, 39, rfl⟩
abbrev cc2_stg4_0 : Ref sig .tc := ⟨.vmem, 40, rfl⟩
abbrev cc2_stg4_1 : Ref sig .tc := ⟨.vmem, 41, rfl⟩
abbrev cc2_stg5_0 : Ref sig .tc := ⟨.vmem, 42, rfl⟩
abbrev cc2_stg5_1 : Ref sig .tc := ⟨.vmem, 43, rfl⟩
abbrev cc2_stg6_0 : Ref sig .tc := ⟨.vmem, 44, rfl⟩
abbrev cc2_stg6_1 : Ref sig .tc := ⟨.vmem, 45, rfl⟩
abbrev cc2_stg7_0 : Ref sig .tc := ⟨.vmem, 46, rfl⟩
abbrev cc2_stg7_1 : Ref sig .tc := ⟨.vmem, 47, rfl⟩
abbrev cc3_stg0_0 : Ref sig .tc := ⟨.vmem, 48, rfl⟩
abbrev cc3_stg0_1 : Ref sig .tc := ⟨.vmem, 49, rfl⟩
abbrev cc3_stg1_0 : Ref sig .tc := ⟨.vmem, 50, rfl⟩
abbrev cc3_stg1_1 : Ref sig .tc := ⟨.vmem, 51, rfl⟩
abbrev cc3_stg2_0 : Ref sig .tc := ⟨.vmem, 52, rfl⟩
abbrev cc3_stg2_1 : Ref sig .tc := ⟨.vmem, 53, rfl⟩
abbrev cc3_stg3_0 : Ref sig .tc := ⟨.vmem, 54, rfl⟩
abbrev cc3_stg3_1 : Ref sig .tc := ⟨.vmem, 55, rfl⟩
abbrev cc3_stg4_0 : Ref sig .tc := ⟨.vmem, 56, rfl⟩
abbrev cc3_stg4_1 : Ref sig .tc := ⟨.vmem, 57, rfl⟩
abbrev cc3_stg5_0 : Ref sig .tc := ⟨.vmem, 58, rfl⟩
abbrev cc3_stg5_1 : Ref sig .tc := ⟨.vmem, 59, rfl⟩
abbrev cc3_stg6_0 : Ref sig .tc := ⟨.vmem, 60, rfl⟩
abbrev cc3_stg6_1 : Ref sig .tc := ⟨.vmem, 61, rfl⟩
abbrev cc3_stg7_0 : Ref sig .tc := ⟨.vmem, 62, rfl⟩
abbrev cc3_stg7_1 : Ref sig .tc := ⟨.vmem, 63, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31
abbrev cc2_sem0_0 : DmaSem sig := 32
abbrev cc2_sem0_1 : DmaSem sig := 33
abbrev cc2_sem1_0 : DmaSem sig := 34
abbrev cc2_sem1_1 : DmaSem sig := 35
abbrev cc2_sem2_0 : DmaSem sig := 36
abbrev cc2_sem2_1 : DmaSem sig := 37
abbrev cc2_sem3_0 : DmaSem sig := 38
abbrev cc2_sem3_1 : DmaSem sig := 39
abbrev cc2_sem4_0 : DmaSem sig := 40
abbrev cc2_sem4_1 : DmaSem sig := 41
abbrev cc2_sem5_0 : DmaSem sig := 42
abbrev cc2_sem5_1 : DmaSem sig := 43
abbrev cc2_sem6_0 : DmaSem sig := 44
abbrev cc2_sem6_1 : DmaSem sig := 45
abbrev cc2_sem7_0 : DmaSem sig := 46
abbrev cc2_sem7_1 : DmaSem sig := 47
abbrev cc3_sem0_0 : DmaSem sig := 48
abbrev cc3_sem0_1 : DmaSem sig := 49
abbrev cc3_sem1_0 : DmaSem sig := 50
abbrev cc3_sem1_1 : DmaSem sig := 51
abbrev cc3_sem2_0 : DmaSem sig := 52
abbrev cc3_sem2_1 : DmaSem sig := 53
abbrev cc3_sem3_0 : DmaSem sig := 54
abbrev cc3_sem3_1 : DmaSem sig := 55
abbrev cc3_sem4_0 : DmaSem sig := 56
abbrev cc3_sem4_1 : DmaSem sig := 57
abbrev cc3_sem5_0 : DmaSem sig := 58
abbrev cc3_sem5_1 : DmaSem sig := 59
abbrev cc3_sem6_0 : DmaSem sig := 60
abbrev cc3_sem6_1 : DmaSem sig := 61
abbrev cc3_sem7_0 : DmaSem sig := 62
abbrev cc3_sem7_1 : DmaSem sig := 63

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_4 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_5 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_6 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_7 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

abbrev stage0_0 : Fin 2 → Memref sig .tc .vmem S1x256x1280 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1280 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x1280 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x1280 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x1280 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![8], ![false]⟩

def cc1_transform_0 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_3 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_8 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_9 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_10 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_11 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

abbrev stage1_0 : Fin 2 → Memref sig .tc .vmem S1x256x1280 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x1280 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x256x1280 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x256x1280 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x256x1280 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x256x1280 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x256x1280 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x256x1280 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![8], ![false]⟩

def cc2_transform_0 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc2_transform_3 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc2_transform_8 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc2_transform_9 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc2_transform_10 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc2_transform_11 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage2_0 : Fin 2 → Memref sig .tc .vmem S1x256x1280 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S256x1280 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x256x1280 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x256x1280 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S1x256x1280 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S1x256x1280 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S1x256x1280 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S1x256x1280 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![8], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_3 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_8 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_9 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_10 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_11 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage3_0 : Fin 2 → Memref sig .tc .vmem S1x256x1280 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S256x1280 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1x256x1280 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1x256x1280 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S1x256x1280 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S1x256x1280 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S1x256x1280 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S1x256x1280 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]
-- ==== Kernel11Ideal.lean ====
abbrev S4x2048x1280 : Shape := ⟨3, ![4, 2048, 1280]⟩
abbrev S2048x1280 : Shape := ⟨2, ![2048, 1280]⟩
abbrev S1x256x1280 : Shape := ⟨3, ![1, 256, 1280]⟩
abbrev S256x1280 : Shape := ⟨2, ![256, 1280]⟩

abbrev nBuf : Space → Nat
  | .hbm => 23
  | .vmem => 64
  | .smem => 0
  | _ => 0

abbrev bufTy : (tb : Table) → Fin (tcTables nBuf tb) → BufTy
  | .hbm, ⟨0, _⟩ => ⟨S4x2048x1280, .f32⟩
  | .hbm, ⟨1, _⟩ => ⟨S2048x1280, .bf16⟩
  | .hbm, ⟨2, _⟩ => ⟨S2048x1280, .bf16⟩
  | .hbm, ⟨3, _⟩ => ⟨S2048x1280, .bf16⟩
  | .hbm, ⟨4, _⟩ => ⟨S2048x1280, .bf16⟩
  | .hbm, ⟨5, _⟩ => ⟨S4x2048x1280, .f32⟩
  | .hbm, ⟨6, _⟩ => ⟨S4x2048x1280, .f32⟩
  | .hbm, ⟨7, _⟩ => ⟨S4x2048x1280, .f32⟩
  | .hbm, ⟨8, _⟩ => ⟨S4x2048x1280, .f32⟩
  | .hbm, ⟨9, _⟩ => ⟨S4x2048x1280, .f32⟩
  | .hbm, ⟨10, _⟩ => ⟨S4x2048x1280, .f32⟩
  | .hbm, ⟨11, _⟩ => ⟨S4x2048x1280, .f32⟩
  | .hbm, ⟨12, _⟩ => ⟨S4x2048x1280, .f32⟩
  | .hbm, ⟨13, _⟩ => ⟨S4x2048x1280, .f32⟩
  | .hbm, ⟨14, _⟩ => ⟨S4x2048x1280, .f32⟩
  | .hbm, ⟨15, _⟩ => ⟨S4x2048x1280, .f32⟩
  | .hbm, ⟨16, _⟩ => ⟨S4x2048x1280, .f32⟩
  | .hbm, ⟨17, _⟩ => ⟨S4x2048x1280, .f32⟩
  | .hbm, ⟨18, _⟩ => ⟨S4x2048x1280, .f32⟩
  | .hbm, ⟨19, _⟩ => ⟨S4x2048x1280, .f32⟩
  | .hbm, ⟨20, _⟩ => ⟨S4x2048x1280, .f32⟩
  | .hbm, ⟨21, _⟩ => ⟨S4x2048x1280, .f32⟩
  | .hbm, ⟨22, _⟩ => ⟨S4x2048x1280, .f32⟩
  | .local _ .vmem, ⟨0, _⟩ => ⟨S1x256x1280, .f32⟩
  | .local _ .vmem, ⟨1, _⟩ => ⟨S1x256x1280, .f32⟩
  | .local _ .vmem, ⟨2, _⟩ => ⟨S256x1280, .bf16⟩
  | .local _ .vmem, ⟨3, _⟩ => ⟨S256x1280, .bf16⟩
  | .local _ .vmem, ⟨4, _⟩ => ⟨S1x256x1280, .f32⟩
  | .local _ .vmem, ⟨5, _⟩ => ⟨S1x256x1280, .f32⟩
  | .local _ .vmem, ⟨6, _⟩ => ⟨S1x256x1280, .f32⟩
  | .local _ .vmem, ⟨7, _⟩ => ⟨S1x256x1280, .f32⟩
  | .local _ .vmem, ⟨8, _⟩ => ⟨S1x256x1280, .f32⟩
  | .local _ .vmem, ⟨9, _⟩ => ⟨S1x256x1280, .f32⟩
  | .local _ .vmem, ⟨10, _⟩ => ⟨S1x256x1280, .f32⟩
  | .local _ .vmem, ⟨11, _⟩ => ⟨S1x256x1280, .f32⟩
  | .local _ .vmem, ⟨12, _⟩ => ⟨S1x256x1280, .f32⟩
  | .local _ .vmem, ⟨13, _⟩ => ⟨S1x256x1280, .f32⟩
  | .local _ .vmem, ⟨14, _⟩ => ⟨S1x256x1280, .f32⟩
  | .local _ .vmem, ⟨15, _⟩ => ⟨S1x256x1280, .f32⟩
  | .local _ .vmem, ⟨16, _⟩ => ⟨S1x256x1280, .f32⟩
  | .local _ .vmem, ⟨17, _⟩ => ⟨S1x256x1280, .f32⟩
  | .local _ .vmem, ⟨18, _⟩ => ⟨S256x1280, .bf16⟩
  | .local _ .vmem, ⟨19, _⟩ => ⟨S256x1280, .bf16⟩
  | .local _ .vmem, ⟨20, _⟩ => ⟨S1x256x1280, .f32⟩
  | .local _ .vmem, ⟨21, _⟩ => ⟨S1x256x1280, .f32⟩
  | .local _ .vmem, ⟨22, _⟩ => ⟨S1x256x1280, .f32⟩
  | .local _ .vmem, ⟨23, _⟩ => ⟨S1x256x1280, .f32⟩
  | .local _ .vmem, ⟨24, _⟩ => ⟨S1x256x1280, .f32⟩
  | .local _ .vmem, ⟨25, _⟩ => ⟨S1x256x1280, .f32⟩
  | .local _ .vmem, ⟨26, _⟩ => ⟨S1x256x1280, .f32⟩
  | .local _ .vmem, ⟨27, _⟩ => ⟨S1x256x1280, .f32⟩
  | .local _ .vmem, ⟨28, _⟩ => ⟨S1x256x1280, .f32⟩
  | .local _ .vmem, ⟨29, _⟩ => ⟨S1x256x1280, .f32⟩
  | .local _ .vmem, ⟨30, _⟩ => ⟨S1x256x1280, .f32⟩
  | .local _ .vmem, ⟨31, _⟩ => ⟨S1x256x1280, .f32⟩
  | .local _ .vmem, ⟨32, _⟩ => ⟨S1x256x1280, .f32⟩
  | .local _ .vmem, ⟨33, _⟩ => ⟨S1x256x1280, .f32⟩
  | .local _ .vmem, ⟨34, _⟩ => ⟨S256x1280, .bf16⟩
  | .local _ .vmem, ⟨35, _⟩ => ⟨S256x1280, .bf16⟩
  | .local _ .vmem, ⟨36, _⟩ => ⟨S1x256x1280, .f32⟩
  | .local _ .vmem, ⟨37, _⟩ => ⟨S1x256x1280, .f32⟩
  | .local _ .vmem, ⟨38, _⟩ => ⟨S1x256x1280, .f32⟩
  | .local _ .vmem, ⟨39, _⟩ => ⟨S1x256x1280, .f32⟩
  | .local _ .vmem, ⟨40, _⟩ => ⟨S1x256x1280, .f32⟩
  | .local _ .vmem, ⟨41, _⟩ => ⟨S1x256x1280, .f32⟩
  | .local _ .vmem, ⟨42, _⟩ => ⟨S1x256x1280, .f32⟩
  | .local _ .vmem, ⟨43, _⟩ => ⟨S1x256x1280, .f32⟩
  | .local _ .vmem, ⟨44, _⟩ => ⟨S1x256x1280, .f32⟩
  | .local _ .vmem, ⟨45, _⟩ => ⟨S1x256x1280, .f32⟩
  | .local _ .vmem, ⟨46, _⟩ => ⟨S1x256x1280, .f32⟩
  | .local _ .vmem, ⟨47, _⟩ => ⟨S1x256x1280, .f32⟩
  | .local _ .vmem, ⟨48, _⟩ => ⟨S1x256x1280, .f32⟩
  | .local _ .vmem, ⟨49, _⟩ => ⟨S1x256x1280, .f32⟩
  | .local _ .vmem, ⟨50, _⟩ => ⟨S256x1280, .bf16⟩
  | .local _ .vmem, ⟨51, _⟩ => ⟨S256x1280, .bf16⟩
  | .local _ .vmem, ⟨52, _⟩ => ⟨S1x256x1280, .f32⟩
  | .local _ .vmem, ⟨53, _⟩ => ⟨S1x256x1280, .f32⟩
  | .local _ .vmem, ⟨54, _⟩ => ⟨S1x256x1280, .f32⟩
  | .local _ .vmem, ⟨55, _⟩ => ⟨S1x256x1280, .f32⟩
  | .local _ .vmem, ⟨56, _⟩ => ⟨S1x256x1280, .f32⟩
  | .local _ .vmem, ⟨57, _⟩ => ⟨S1x256x1280, .f32⟩
  | .local _ .vmem, ⟨58, _⟩ => ⟨S1x256x1280, .f32⟩
  | .local _ .vmem, ⟨59, _⟩ => ⟨S1x256x1280, .f32⟩
  | .local _ .vmem, ⟨60, _⟩ => ⟨S1x256x1280, .f32⟩
  | .local _ .vmem, ⟨61, _⟩ => ⟨S1x256x1280, .f32⟩
  | .local _ .vmem, ⟨62, _⟩ => ⟨S1x256x1280, .f32⟩
  | .local _ .vmem, ⟨63, _⟩ => ⟨S1x256x1280, .f32⟩
  | _, _ => ⟨S4x2048x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | _, _ => false

abbrev semScoped : Fin 0 → Bool
  | ⟨_, h⟩ => absurd h (Nat.not_lt_zero _)

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  ofTc nBuf bufTy 0 64 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v1_0 : Ref sig .tc := ⟨.hbm, 11, rfl⟩
abbrev main_v1_1 : Ref sig .tc := ⟨.hbm, 12, rfl⟩
abbrev main_v1_2 : Ref sig .tc := ⟨.hbm, 13, rfl⟩
abbrev main_v1_3 : Ref sig .tc := ⟨.hbm, 14, rfl⟩
abbrev main_v2_0 : Ref sig .tc := ⟨.hbm, 15, rfl⟩
abbrev main_v2_1 : Ref sig .tc := ⟨.hbm, 16, rfl⟩
abbrev main_v2_2 : Ref sig .tc := ⟨.hbm, 17, rfl⟩
abbrev main_v2_3 : Ref sig .tc := ⟨.hbm, 18, rfl⟩
abbrev main_v3_0 : Ref sig .tc := ⟨.hbm, 19, rfl⟩
abbrev main_v3_1 : Ref sig .tc := ⟨.hbm, 20, rfl⟩
abbrev main_v3_2 : Ref sig .tc := ⟨.hbm, 21, rfl⟩
abbrev main_v3_3 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg7_1 : Ref sig .tc := ⟨.vmem, 31, rfl⟩
abbrev cc2_stg0_0 : Ref sig .tc := ⟨.vmem, 32, rfl⟩
abbrev cc2_stg0_1 : Ref sig .tc := ⟨.vmem, 33, rfl⟩
abbrev cc2_stg1_0 : Ref sig .tc := ⟨.vmem, 34, rfl⟩
abbrev cc2_stg1_1 : Ref sig .tc := ⟨.vmem, 35, rfl⟩
abbrev cc2_stg2_0 : Ref sig .tc := ⟨.vmem, 36, rfl⟩
abbrev cc2_stg2_1 : Ref sig .tc := ⟨.vmem, 37, rfl⟩
abbrev cc2_stg3_0 : Ref sig .tc := ⟨.vmem, 38, rfl⟩
abbrev cc2_stg3_1 : Ref sig .tc := ⟨.vmem, 39, rfl⟩
abbrev cc2_stg4_0 : Ref sig .tc := ⟨.vmem, 40, rfl⟩
abbrev cc2_stg4_1 : Ref sig .tc := ⟨.vmem, 41, rfl⟩
abbrev cc2_stg5_0 : Ref sig .tc := ⟨.vmem, 42, rfl⟩
abbrev cc2_stg5_1 : Ref sig .tc := ⟨.vmem, 43, rfl⟩
abbrev cc2_stg6_0 : Ref sig .tc := ⟨.vmem, 44, rfl⟩
abbrev cc2_stg6_1 : Ref sig .tc := ⟨.vmem, 45, rfl⟩
abbrev cc2_stg7_0 : Ref sig .tc := ⟨.vmem, 46, rfl⟩
abbrev cc2_stg7_1 : Ref sig .tc := ⟨.vmem, 47, rfl⟩
abbrev cc3_stg0_0 : Ref sig .tc := ⟨.vmem, 48, rfl⟩
abbrev cc3_stg0_1 : Ref sig .tc := ⟨.vmem, 49, rfl⟩
abbrev cc3_stg1_0 : Ref sig .tc := ⟨.vmem, 50, rfl⟩
abbrev cc3_stg1_1 : Ref sig .tc := ⟨.vmem, 51, rfl⟩
abbrev cc3_stg2_0 : Ref sig .tc := ⟨.vmem, 52, rfl⟩
abbrev cc3_stg2_1 : Ref sig .tc := ⟨.vmem, 53, rfl⟩
abbrev cc3_stg3_0 : Ref sig .tc := ⟨.vmem, 54, rfl⟩
abbrev cc3_stg3_1 : Ref sig .tc := ⟨.vmem, 55, rfl⟩
abbrev cc3_stg4_0 : Ref sig .tc := ⟨.vmem, 56, rfl⟩
abbrev cc3_stg4_1 : Ref sig .tc := ⟨.vmem, 57, rfl⟩
abbrev cc3_stg5_0 : Ref sig .tc := ⟨.vmem, 58, rfl⟩
abbrev cc3_stg5_1 : Ref sig .tc := ⟨.vmem, 59, rfl⟩
abbrev cc3_stg6_0 : Ref sig .tc := ⟨.vmem, 60, rfl⟩
abbrev cc3_stg6_1 : Ref sig .tc := ⟨.vmem, 61, rfl⟩
abbrev cc3_stg7_0 : Ref sig .tc := ⟨.vmem, 62, rfl⟩
abbrev cc3_stg7_1 : Ref sig .tc := ⟨.vmem, 63, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31
abbrev cc2_sem0_0 : DmaSem sig := 32
abbrev cc2_sem0_1 : DmaSem sig := 33
abbrev cc2_sem1_0 : DmaSem sig := 34
abbrev cc2_sem1_1 : DmaSem sig := 35
abbrev cc2_sem2_0 : DmaSem sig := 36
abbrev cc2_sem2_1 : DmaSem sig := 37
abbrev cc2_sem3_0 : DmaSem sig := 38
abbrev cc2_sem3_1 : DmaSem sig := 39
abbrev cc2_sem4_0 : DmaSem sig := 40
abbrev cc2_sem4_1 : DmaSem sig := 41
abbrev cc2_sem5_0 : DmaSem sig := 42
abbrev cc2_sem5_1 : DmaSem sig := 43
abbrev cc2_sem6_0 : DmaSem sig := 44
abbrev cc2_sem6_1 : DmaSem sig := 45
abbrev cc2_sem7_0 : DmaSem sig := 46
abbrev cc2_sem7_1 : DmaSem sig := 47
abbrev cc3_sem0_0 : DmaSem sig := 48
abbrev cc3_sem0_1 : DmaSem sig := 49
abbrev cc3_sem1_0 : DmaSem sig := 50
abbrev cc3_sem1_1 : DmaSem sig := 51
abbrev cc3_sem2_0 : DmaSem sig := 52
abbrev cc3_sem2_1 : DmaSem sig := 53
abbrev cc3_sem3_0 : DmaSem sig := 54
abbrev cc3_sem3_1 : DmaSem sig := 55
abbrev cc3_sem4_0 : DmaSem sig := 56
abbrev cc3_sem4_1 : DmaSem sig := 57
abbrev cc3_sem5_0 : DmaSem sig := 58
abbrev cc3_sem5_1 : DmaSem sig := 59
abbrev cc3_sem6_0 : DmaSem sig := 60
abbrev cc3_sem6_1 : DmaSem sig := 61
abbrev cc3_sem7_0 : DmaSem sig := 62
abbrev cc3_sem7_1 : DmaSem sig := 63

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_4 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_5 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_6 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_7 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

abbrev stage0_0 : Fin 2 → Memref sig .tc .vmem S1x256x1280 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1280 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x1280 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x1280 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x1280 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![8], ![false]⟩

def cc1_transform_0 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_3 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_8 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_9 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_10 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_11 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

abbrev stage1_0 : Fin 2 → Memref sig .tc .vmem S1x256x1280 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x1280 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x256x1280 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x256x1280 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x256x1280 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x256x1280 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x256x1280 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x256x1280 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![8], ![false]⟩

def cc2_transform_0 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc2_transform_3 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc2_transform_8 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc2_transform_9 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc2_transform_10 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc2_transform_11 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage2_0 : Fin 2 → Memref sig .tc .vmem S1x256x1280 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S256x1280 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x256x1280 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x256x1280 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S1x256x1280 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S1x256x1280 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S1x256x1280 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S1x256x1280 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![8], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_3 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_8 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_9 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_10 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_11 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage3_0 : Fin 2 → Memref sig .tc .vmem S1x256x1280 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S256x1280 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1x256x1280 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1x256x1280 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S1x256x1280 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S1x256x1280 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S1x256x1280 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S1x256x1280 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]
-- ==== Reference11Ideal.lean ====
abbrev S4x2048x1280 : Shape := ⟨3, ![4, 2048, 1280]⟩
abbrev S2048x1280 : Shape := ⟨2, ![2048, 1280]⟩
abbrev S1x2048x1280 : Shape := ⟨3, ![1, 2048, 1280]⟩
abbrev S_ : Shape := ⟨0, ![]⟩

abbrev nBuf : Space → Nat
  | .hbm => 46
  | .vmem => 0
  | .smem => 0
  | _ => 0

abbrev bufTy : (tb : Table) → Fin (tcTables nBuf tb) → BufTy
  | .hbm, ⟨0, _⟩ => ⟨S4x2048x1280, .f32⟩
  | .hbm, ⟨1, _⟩ => ⟨S2048x1280, .bf16⟩
  | .hbm, ⟨2, _⟩ => ⟨S2048x1280, .bf16⟩
  | .hbm, ⟨3, _⟩ => ⟨S2048x1280, .bf16⟩
  | .hbm, ⟨4, _⟩ => ⟨S2048x1280, .bf16⟩
  | .hbm, ⟨5, _⟩ => ⟨S4x2048x1280, .f32⟩
  | .hbm, ⟨6, _⟩ => ⟨S4x2048x1280, .f32⟩
  | .hbm, ⟨7, _⟩ => ⟨S1x2048x1280, .bf16⟩
  | .hbm, ⟨8, _⟩ => ⟨S1x2048x1280, .bf16⟩
  | .hbm, ⟨9, _⟩ => ⟨S1x2048x1280, .bf16⟩
  | .hbm, ⟨10, _⟩ => ⟨S1x2048x1280, .bf16⟩
  | .hbm, ⟨11, _⟩ => ⟨S4x2048x1280, .bf16⟩
  | .hbm, ⟨12, _⟩ => ⟨S4x2048x1280, .f32⟩
  | .hbm, ⟨13, _⟩ => ⟨S_, .f32⟩
  | .hbm, ⟨14, _⟩ => ⟨S4x2048x1280, .f32⟩
  | .hbm, ⟨15, _⟩ => ⟨S4x2048x1280, .f32⟩
  | .hbm, ⟨16, _⟩ => ⟨S_, .f32⟩
  | .hbm, ⟨17, _⟩ => ⟨S4x2048x1280, .f32⟩
  | .hbm, ⟨18, _⟩ => ⟨S4x2048x1280, .f32⟩
  | .hbm, ⟨19, _⟩ => ⟨S4x2048x1280, .f32⟩
  | .hbm, ⟨20, _⟩ => ⟨S_, .f32⟩
  | .hbm, ⟨21, _⟩ => ⟨S4x2048x1280, .f32⟩
  | .hbm, ⟨22, _⟩ => ⟨S4x2048x1280, .f32⟩
  | .hbm, ⟨23, _⟩ => ⟨S4x2048x1280, .f32⟩
  | .hbm, ⟨24, _⟩ => ⟨S_, .f32⟩
  | .hbm, ⟨25, _⟩ => ⟨S4x2048x1280, .f32⟩
  | .hbm, ⟨26, _⟩ => ⟨S4x2048x1280, .f32⟩
  | .hbm, ⟨27, _⟩ => ⟨S4x2048x1280, .f32⟩
  | .hbm, ⟨28, _⟩ => ⟨S_, .f32⟩
  | .hbm, ⟨29, _⟩ => ⟨S4x2048x1280, .f32⟩
  | .hbm, ⟨30, _⟩ => ⟨S4x2048x1280, .f32⟩
  | .hbm, ⟨31, _⟩ => ⟨S_, .f32⟩
  | .hbm, ⟨32, _⟩ => ⟨S4x2048x1280, .f32⟩
  | .hbm, ⟨33, _⟩ => ⟨S4x2048x1280, .f32⟩
  | .hbm, ⟨34, _⟩ => ⟨S4x2048x1280, .f32⟩
  | .hbm, ⟨35, _⟩ => ⟨S_, .f32⟩
  | .hbm, ⟨36, _⟩ => ⟨S4x2048x1280, .f32⟩
  | .hbm, ⟨37, _⟩ => ⟨S4x2048x1280, .f32⟩
  | .hbm, ⟨38, _⟩ => ⟨S4x2048x1280, .f32⟩
  | .hbm, ⟨39, _⟩ => ⟨S_, .f32⟩
  | .hbm, ⟨40, _⟩ => ⟨S4x2048x1280, .f32⟩
  | .hbm, ⟨41, _⟩ => ⟨S4x2048x1280, .f32⟩
  | .hbm, ⟨42, _⟩ => ⟨S4x2048x1280, .f32⟩
  | .hbm, ⟨43, _⟩ => ⟨S_, .f32⟩
  | .hbm, ⟨44, _⟩ => ⟨S4x2048x1280, .f32⟩
  | .hbm, ⟨45, _⟩ => ⟨S4x2048x1280, .f32⟩
  | _, _ => ⟨S4x2048x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_7 : Ref sig .tc := ⟨.hbm, 43, rfl⟩
abbrev main_v28 : Ref sig .tc := ⟨.hbm, 44, rfl⟩
abbrev main_v29 : Ref sig .tc := ⟨.hbm, 45, rfl⟩

abbrev nD : Nat := 1
abbrev τ : Topo := Topo.v7x

variable {F : FTy → Type} [FloatOps F]
-- ==== Kernel12.lean ====
abbrev S4x2048x1408 : Shape := ⟨3, ![4, 2048, 1408]⟩
abbrev S2048x1408 : Shape := ⟨2, ![2048, 1408]⟩
abbrev S1x256x1408 : Shape := ⟨3, ![1, 256, 1408]⟩
abbrev S256x1408 : Shape := ⟨2, ![256, 1408]⟩

abbrev nBuf : Space → Nat
  | .hbm => 23
  | .vmem => 64
  | .smem => 0
  | _ => 0

abbrev bufTy : (tb : Table) → Fin (tcTables nBuf tb) → BufTy
  | .hbm, ⟨0, _⟩ => ⟨S4x2048x1408, .f32⟩
  | .hbm, ⟨1, _⟩ => ⟨S2048x1408, .bf16⟩
  | .hbm, ⟨2, _⟩ => ⟨S2048x1408, .bf16⟩
  | .hbm, ⟨3, _⟩ => ⟨S2048x1408, .bf16⟩
  | .hbm, ⟨4, _⟩ => ⟨S2048x1408, .bf16⟩
  | .hbm, ⟨5, _⟩ => ⟨S4x2048x1408, .f32⟩
  | .hbm, ⟨6, _⟩ => ⟨S4x2048x1408, .f32⟩
  | .hbm, ⟨7, _⟩ => ⟨S4x2048x1408, .f32⟩
  | .hbm, ⟨8, _⟩ => ⟨S4x2048x1408, .f32⟩
  | .hbm, ⟨9, _⟩ => ⟨S4x2048x1408, .f32⟩
  | .hbm, ⟨10, _⟩ => ⟨S4x2048x1408, .f32⟩
  | .hbm, ⟨11, _⟩ => ⟨S4x2048x1408, .f32⟩
  | .hbm, ⟨12, _⟩ => ⟨S4x2048x1408, .f32⟩
  | .hbm, ⟨13, _⟩ => ⟨S4x2048x1408, .f32⟩
  | .hbm, ⟨14, _⟩ => ⟨S4x2048x1408, .f32⟩
  | .hbm, ⟨15, _⟩ => ⟨S4x2048x1408, .f32⟩
  | .hbm, ⟨16, _⟩ => ⟨S4x2048x1408, .f32⟩
  | .hbm, ⟨17, _⟩ => ⟨S4x2048x1408, .f32⟩
  | .hbm, ⟨18, _⟩ => ⟨S4x2048x1408, .f32⟩
  | .hbm, ⟨19, _⟩ => ⟨S4x2048x1408, .f32⟩
  | .hbm, ⟨20, _⟩ => ⟨S4x2048x1408, .f32⟩
  | .hbm, ⟨21, _⟩ => ⟨S4x2048x1408, .f32⟩
  | .hbm, ⟨22, _⟩ => ⟨S4x2048x1408, .f32⟩
  | .local _ .vmem, ⟨0, _⟩ => ⟨S1x256x1408, .f32⟩
  | .local _ .vmem, ⟨1, _⟩ => ⟨S1x256x1408, .f32⟩
  | .local _ .vmem, ⟨2, _⟩ => ⟨S256x1408, .bf16⟩
  | .local _ .vmem, ⟨3, _⟩ => ⟨S256x1408, .bf16⟩
  | .local _ .vmem, ⟨4, _⟩ => ⟨S1x256x1408, .f32⟩
  | .local _ .vmem, ⟨5, _⟩ => ⟨S1x256x1408, .f32⟩
  | .local _ .vmem, ⟨6, _⟩ => ⟨S1x256x1408, .f32⟩
  | .local _ .vmem, ⟨7, _⟩ => ⟨S1x256x1408, .f32⟩
  | .local _ .vmem, ⟨8, _⟩ => ⟨S1x256x1408, .f32⟩
  | .local _ .vmem, ⟨9, _⟩ => ⟨S1x256x1408, .f32⟩
  | .local _ .vmem, ⟨10, _⟩ => ⟨S1x256x1408, .f32⟩
  | .local _ .vmem, ⟨11, _⟩ => ⟨S1x256x1408, .f32⟩
  | .local _ .vmem, ⟨12, _⟩ => ⟨S1x256x1408, .f32⟩
  | .local _ .vmem, ⟨13, _⟩ => ⟨S1x256x1408, .f32⟩
  | .local _ .vmem, ⟨14, _⟩ => ⟨S1x256x1408, .f32⟩
  | .local _ .vmem, ⟨15, _⟩ => ⟨S1x256x1408, .f32⟩
  | .local _ .vmem, ⟨16, _⟩ => ⟨S1x256x1408, .f32⟩
  | .local _ .vmem, ⟨17, _⟩ => ⟨S1x256x1408, .f32⟩
  | .local _ .vmem, ⟨18, _⟩ => ⟨S256x1408, .bf16⟩
  | .local _ .vmem, ⟨19, _⟩ => ⟨S256x1408, .bf16⟩
  | .local _ .vmem, ⟨20, _⟩ => ⟨S1x256x1408, .f32⟩
  | .local _ .vmem, ⟨21, _⟩ => ⟨S1x256x1408, .f32⟩
  | .local _ .vmem, ⟨22, _⟩ => ⟨S1x256x1408, .f32⟩
  | .local _ .vmem, ⟨23, _⟩ => ⟨S1x256x1408, .f32⟩
  | .local _ .vmem, ⟨24, _⟩ => ⟨S1x256x1408, .f32⟩
  | .local _ .vmem, ⟨25, _⟩ => ⟨S1x256x1408, .f32⟩
  | .local _ .vmem, ⟨26, _⟩ => ⟨S1x256x1408, .f32⟩
  | .local _ .vmem, ⟨27, _⟩ => ⟨S1x256x1408, .f32⟩
  | .local _ .vmem, ⟨28, _⟩ => ⟨S1x256x1408, .f32⟩
  | .local _ .vmem, ⟨29, _⟩ => ⟨S1x256x1408, .f32⟩
  | .local _ .vmem, ⟨30, _⟩ => ⟨S1x256x1408, .f32⟩
  | .local _ .vmem, ⟨31, _⟩ => ⟨S1x256x1408, .f32⟩
  | .local _ .vmem, ⟨32, _⟩ => ⟨S1x256x1408, .f32⟩
  | .local _ .vmem, ⟨33, _⟩ => ⟨S1x256x1408, .f32⟩
  | .local _ .vmem, ⟨34, _⟩ => ⟨S256x1408, .bf16⟩
  | .local _ .vmem, ⟨35, _⟩ => ⟨S256x1408, .bf16⟩
  | .local _ .vmem, ⟨36, _⟩ => ⟨S1x256x1408, .f32⟩
  | .local _ .vmem, ⟨37, _⟩ => ⟨S1x256x1408, .f32⟩
  | .local _ .vmem, ⟨38, _⟩ => ⟨S1x256x1408, .f32⟩
  | .local _ .vmem, ⟨39, _⟩ => ⟨S1x256x1408, .f32⟩
  | .local _ .vmem, ⟨40, _⟩ => ⟨S1x256x1408, .f32⟩
  | .local _ .vmem, ⟨41, _⟩ => ⟨S1x256x1408, .f32⟩
  | .local _ .vmem, ⟨42, _⟩ => ⟨S1x256x1408, .f32⟩
  | .local _ .vmem, ⟨43, _⟩ => ⟨S1x256x1408, .f32⟩
  | .local _ .vmem, ⟨44, _⟩ => ⟨S1x256x1408, .f32⟩
  | .local _ .vmem, ⟨45, _⟩ => ⟨S1x256x1408, .f32⟩
  | .local _ .vmem, ⟨46, _⟩ => ⟨S1x256x1408, .f32⟩
  | .local _ .vmem, ⟨47, _⟩ => ⟨S1x256x1408, .f32⟩
  | .local _ .vmem, ⟨48, _⟩ => ⟨S1x256x1408, .f32⟩
  | .local _ .vmem, ⟨49, _⟩ => ⟨S1x256x1408, .f32⟩
  | .local _ .vmem, ⟨50, _⟩ => ⟨S256x1408, .bf16⟩
  | .local _ .vmem, ⟨51, _⟩ => ⟨S256x1408, .bf16⟩
  | .local _ .vmem, ⟨52, _⟩ => ⟨S1x256x1408, .f32⟩
  | .local _ .vmem, ⟨53, _⟩ => ⟨S1x256x1408, .f32⟩
  | .local _ .vmem, ⟨54, _⟩ => ⟨S1x256x1408, .f32⟩
  | .local _ .vmem, ⟨55, _⟩ => ⟨S1x256x1408, .f32⟩
  | .local _ .vmem, ⟨56, _⟩ => ⟨S1x256x1408, .f32⟩
  | .local _ .vmem, ⟨57, _⟩ => ⟨S1x256x1408, .f32⟩
  | .local _ .vmem, ⟨58, _⟩ => ⟨S1x256x1408, .f32⟩
  | .local _ .vmem, ⟨59, _⟩ => ⟨S1x256x1408, .f32⟩
  | .local _ .vmem, ⟨60, _⟩ => ⟨S1x256x1408, .f32⟩
  | .local _ .vmem, ⟨61, _⟩ => ⟨S1x256x1408, .f32⟩
  | .local _ .vmem, ⟨62, _⟩ => ⟨S1x256x1408, .f32⟩
  | .local _ .vmem, ⟨63, _⟩ => ⟨S1x256x1408, .f32⟩
  | _, _ => ⟨S4x2048x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | _, _ => false

abbrev semScoped : Fin 0 → Bool
  | ⟨_, h⟩ => absurd h (Nat.not_lt_zero _)

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  ofTc nBuf bufTy 0 64 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v1_0 : Ref sig .tc := ⟨.hbm, 11, rfl⟩
abbrev main_v1_1 : Ref sig .tc := ⟨.hbm, 12, rfl⟩
abbrev main_v1_2 : Ref sig .tc := ⟨.hbm, 13, rfl⟩
abbrev main_v1_3 : Ref sig .tc := ⟨.hbm, 14, rfl⟩
abbrev main_v2_0 : Ref sig .tc := ⟨.hbm, 15, rfl⟩
abbrev main_v2_1 : Ref sig .tc := ⟨.hbm, 16, rfl⟩
abbrev main_v2_2 : Ref sig .tc := ⟨.hbm, 17, rfl⟩
abbrev main_v2_3 : Ref sig .tc := ⟨.hbm, 18, rfl⟩
abbrev main_v3_0 : Ref sig .tc := ⟨.hbm, 19, rfl⟩
abbrev main_v3_1 : Ref sig .tc := ⟨.hbm, 20, rfl⟩
abbrev main_v3_2 : Ref sig .tc := ⟨.hbm, 21, rfl⟩
abbrev main_v3_3 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg7_1 : Ref sig .tc := ⟨.vmem, 31, rfl⟩
abbrev cc2_stg0_0 : Ref sig .tc := ⟨.vmem, 32, rfl⟩
abbrev cc2_stg0_1 : Ref sig .tc := ⟨.vmem, 33, rfl⟩
abbrev cc2_stg1_0 : Ref sig .tc := ⟨.vmem, 34, rfl⟩
abbrev cc2_stg1_1 : Ref sig .tc := ⟨.vmem, 35, rfl⟩
abbrev cc2_stg2_0 : Ref sig .tc := ⟨.vmem, 36, rfl⟩
abbrev cc2_stg2_1 : Ref sig .tc := ⟨.vmem, 37, rfl⟩
abbrev cc2_stg3_0 : Ref sig .tc := ⟨.vmem, 38, rfl⟩
abbrev cc2_stg3_1 : Ref sig .tc := ⟨.vmem, 39, rfl⟩
abbrev cc2_stg4_0 : Ref sig .tc := ⟨.vmem, 40, rfl⟩
abbrev cc2_stg4_1 : Ref sig .tc := ⟨.vmem, 41, rfl⟩
abbrev cc2_stg5_0 : Ref sig .tc := ⟨.vmem, 42, rfl⟩
abbrev cc2_stg5_1 : Ref sig .tc := ⟨.vmem, 43, rfl⟩
abbrev cc2_stg6_0 : Ref sig .tc := ⟨.vmem, 44, rfl⟩
abbrev cc2_stg6_1 : Ref sig .tc := ⟨.vmem, 45, rfl⟩
abbrev cc2_stg7_0 : Ref sig .tc := ⟨.vmem, 46, rfl⟩
abbrev cc2_stg7_1 : Ref sig .tc := ⟨.vmem, 47, rfl⟩
abbrev cc3_stg0_0 : Ref sig .tc := ⟨.vmem, 48, rfl⟩
abbrev cc3_stg0_1 : Ref sig .tc := ⟨.vmem, 49, rfl⟩
abbrev cc3_stg1_0 : Ref sig .tc := ⟨.vmem, 50, rfl⟩
abbrev cc3_stg1_1 : Ref sig .tc := ⟨.vmem, 51, rfl⟩
abbrev cc3_stg2_0 : Ref sig .tc := ⟨.vmem, 52, rfl⟩
abbrev cc3_stg2_1 : Ref sig .tc := ⟨.vmem, 53, rfl⟩
abbrev cc3_stg3_0 : Ref sig .tc := ⟨.vmem, 54, rfl⟩
abbrev cc3_stg3_1 : Ref sig .tc := ⟨.vmem, 55, rfl⟩
abbrev cc3_stg4_0 : Ref sig .tc := ⟨.vmem, 56, rfl⟩
abbrev cc3_stg4_1 : Ref sig .tc := ⟨.vmem, 57, rfl⟩
abbrev cc3_stg5_0 : Ref sig .tc := ⟨.vmem, 58, rfl⟩
abbrev cc3_stg5_1 : Ref sig .tc := ⟨.vmem, 59, rfl⟩
abbrev cc3_stg6_0 : Ref sig .tc := ⟨.vmem, 60, rfl⟩
abbrev cc3_stg6_1 : Ref sig .tc := ⟨.vmem, 61, rfl⟩
abbrev cc3_stg7_0 : Ref sig .tc := ⟨.vmem, 62, rfl⟩
abbrev cc3_stg7_1 : Ref sig .tc := ⟨.vmem, 63, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31
abbrev cc2_sem0_0 : DmaSem sig := 32
abbrev cc2_sem0_1 : DmaSem sig := 33
abbrev cc2_sem1_0 : DmaSem sig := 34
abbrev cc2_sem1_1 : DmaSem sig := 35
abbrev cc2_sem2_0 : DmaSem sig := 36
abbrev cc2_sem2_1 : DmaSem sig := 37
abbrev cc2_sem3_0 : DmaSem sig := 38
abbrev cc2_sem3_1 : DmaSem sig := 39
abbrev cc2_sem4_0 : DmaSem sig := 40
abbrev cc2_sem4_1 : DmaSem sig := 41
abbrev cc2_sem5_0 : DmaSem sig := 42
abbrev cc2_sem5_1 : DmaSem sig := 43
abbrev cc2_sem6_0 : DmaSem sig := 44
abbrev cc2_sem6_1 : DmaSem sig := 45
abbrev cc2_sem7_0 : DmaSem sig := 46
abbrev cc2_sem7_1 : DmaSem sig := 47
abbrev cc3_sem0_0 : DmaSem sig := 48
abbrev cc3_sem0_1 : DmaSem sig := 49
abbrev cc3_sem1_0 : DmaSem sig := 50
abbrev cc3_sem1_1 : DmaSem sig := 51
abbrev cc3_sem2_0 : DmaSem sig := 52
abbrev cc3_sem2_1 : DmaSem sig := 53
abbrev cc3_sem3_0 : DmaSem sig := 54
abbrev cc3_sem3_1 : DmaSem sig := 55
abbrev cc3_sem4_0 : DmaSem sig := 56
abbrev cc3_sem4_1 : DmaSem sig := 57
abbrev cc3_sem5_0 : DmaSem sig := 58
abbrev cc3_sem5_1 : DmaSem sig := 59
abbrev cc3_sem6_0 : DmaSem sig := 60
abbrev cc3_sem6_1 : DmaSem sig := 61
abbrev cc3_sem7_0 : DmaSem sig := 62
abbrev cc3_sem7_1 : DmaSem sig := 63

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_4 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_5 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_6 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_7 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

abbrev stage0_0 : Fin 2 → Memref sig .tc .vmem S1x256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![8], ![false]⟩

def cc1_transform_0 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_3 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_8 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_9 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_10 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_11 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

abbrev stage1_0 : Fin 2 → Memref sig .tc .vmem S1x256x1408 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x1408 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x256x1408 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x256x1408 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x256x1408 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x256x1408 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x256x1408 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x256x1408 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![8], ![false]⟩

def cc2_transform_0 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc2_transform_3 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc2_transform_8 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc2_transform_9 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc2_transform_10 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc2_transform_11 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage2_0 : Fin 2 → Memref sig .tc .vmem S1x256x1408 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S256x1408 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x256x1408 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x256x1408 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S1x256x1408 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S1x256x1408 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S1x256x1408 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S1x256x1408 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![8], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_3 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_8 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_9 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_10 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_11 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage3_0 : Fin 2 → Memref sig .tc .vmem S1x256x1408 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S256x1408 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1x256x1408 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1x256x1408 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S1x256x1408 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S1x256x1408 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S1x256x1408 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S1x256x1408 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]
-- ==== Kernel12Ideal.lean ====
abbrev S4x2048x1408 : Shape := ⟨3, ![4, 2048, 1408]⟩
abbrev S2048x1408 : Shape := ⟨2, ![2048, 1408]⟩
abbrev S1x256x1408 : Shape := ⟨3, ![1, 256, 1408]⟩
abbrev S256x1408 : Shape := ⟨2, ![256, 1408]⟩

abbrev nBuf : Space → Nat
  | .hbm => 23
  | .vmem => 64
  | .smem => 0
  | _ => 0

abbrev bufTy : (tb : Table) → Fin (tcTables nBuf tb) → BufTy
  | .hbm, ⟨0, _⟩ => ⟨S4x2048x1408, .f32⟩
  | .hbm, ⟨1, _⟩ => ⟨S2048x1408, .bf16⟩
  | .hbm, ⟨2, _⟩ => ⟨S2048x1408, .bf16⟩
  | .hbm, ⟨3, _⟩ => ⟨S2048x1408, .bf16⟩
  | .hbm, ⟨4, _⟩ => ⟨S2048x1408, .bf16⟩
  | .hbm, ⟨5, _⟩ => ⟨S4x2048x1408, .f32⟩
  | .hbm, ⟨6, _⟩ => ⟨S4x2048x1408, .f32⟩
  | .hbm, ⟨7, _⟩ => ⟨S4x2048x1408, .f32⟩
  | .hbm, ⟨8, _⟩ => ⟨S4x2048x1408, .f32⟩
  | .hbm, ⟨9, _⟩ => ⟨S4x2048x1408, .f32⟩
  | .hbm, ⟨10, _⟩ => ⟨S4x2048x1408, .f32⟩
  | .hbm, ⟨11, _⟩ => ⟨S4x2048x1408, .f32⟩
  | .hbm, ⟨12, _⟩ => ⟨S4x2048x1408, .f32⟩
  | .hbm, ⟨13, _⟩ => ⟨S4x2048x1408, .f32⟩
  | .hbm, ⟨14, _⟩ => ⟨S4x2048x1408, .f32⟩
  | .hbm, ⟨15, _⟩ => ⟨S4x2048x1408, .f32⟩
  | .hbm, ⟨16, _⟩ => ⟨S4x2048x1408, .f32⟩
  | .hbm, ⟨17, _⟩ => ⟨S4x2048x1408, .f32⟩
  | .hbm, ⟨18, _⟩ => ⟨S4x2048x1408, .f32⟩
  | .hbm, ⟨19, _⟩ => ⟨S4x2048x1408, .f32⟩
  | .hbm, ⟨20, _⟩ => ⟨S4x2048x1408, .f32⟩
  | .hbm, ⟨21, _⟩ => ⟨S4x2048x1408, .f32⟩
  | .hbm, ⟨22, _⟩ => ⟨S4x2048x1408, .f32⟩
  | .local _ .vmem, ⟨0, _⟩ => ⟨S1x256x1408, .f32⟩
  | .local _ .vmem, ⟨1, _⟩ => ⟨S1x256x1408, .f32⟩
  | .local _ .vmem, ⟨2, _⟩ => ⟨S256x1408, .bf16⟩
  | .local _ .vmem, ⟨3, _⟩ => ⟨S256x1408, .bf16⟩
  | .local _ .vmem, ⟨4, _⟩ => ⟨S1x256x1408, .f32⟩
  | .local _ .vmem, ⟨5, _⟩ => ⟨S1x256x1408, .f32⟩
  | .local _ .vmem, ⟨6, _⟩ => ⟨S1x256x1408, .f32⟩
  | .local _ .vmem, ⟨7, _⟩ => ⟨S1x256x1408, .f32⟩
  | .local _ .vmem, ⟨8, _⟩ => ⟨S1x256x1408, .f32⟩
  | .local _ .vmem, ⟨9, _⟩ => ⟨S1x256x1408, .f32⟩
  | .local _ .vmem, ⟨10, _⟩ => ⟨S1x256x1408, .f32⟩
  | .local _ .vmem, ⟨11, _⟩ => ⟨S1x256x1408, .f32⟩
  | .local _ .vmem, ⟨12, _⟩ => ⟨S1x256x1408, .f32⟩
  | .local _ .vmem, ⟨13, _⟩ => ⟨S1x256x1408, .f32⟩
  | .local _ .vmem, ⟨14, _⟩ => ⟨S1x256x1408, .f32⟩
  | .local _ .vmem, ⟨15, _⟩ => ⟨S1x256x1408, .f32⟩
  | .local _ .vmem, ⟨16, _⟩ => ⟨S1x256x1408, .f32⟩
  | .local _ .vmem, ⟨17, _⟩ => ⟨S1x256x1408, .f32⟩
  | .local _ .vmem, ⟨18, _⟩ => ⟨S256x1408, .bf16⟩
  | .local _ .vmem, ⟨19, _⟩ => ⟨S256x1408, .bf16⟩
  | .local _ .vmem, ⟨20, _⟩ => ⟨S1x256x1408, .f32⟩
  | .local _ .vmem, ⟨21, _⟩ => ⟨S1x256x1408, .f32⟩
  | .local _ .vmem, ⟨22, _⟩ => ⟨S1x256x1408, .f32⟩
  | .local _ .vmem, ⟨23, _⟩ => ⟨S1x256x1408, .f32⟩
  | .local _ .vmem, ⟨24, _⟩ => ⟨S1x256x1408, .f32⟩
  | .local _ .vmem, ⟨25, _⟩ => ⟨S1x256x1408, .f32⟩
  | .local _ .vmem, ⟨26, _⟩ => ⟨S1x256x1408, .f32⟩
  | .local _ .vmem, ⟨27, _⟩ => ⟨S1x256x1408, .f32⟩
  | .local _ .vmem, ⟨28, _⟩ => ⟨S1x256x1408, .f32⟩
  | .local _ .vmem, ⟨29, _⟩ => ⟨S1x256x1408, .f32⟩
  | .local _ .vmem, ⟨30, _⟩ => ⟨S1x256x1408, .f32⟩
  | .local _ .vmem, ⟨31, _⟩ => ⟨S1x256x1408, .f32⟩
  | .local _ .vmem, ⟨32, _⟩ => ⟨S1x256x1408, .f32⟩
  | .local _ .vmem, ⟨33, _⟩ => ⟨S1x256x1408, .f32⟩
  | .local _ .vmem, ⟨34, _⟩ => ⟨S256x1408, .bf16⟩
  | .local _ .vmem, ⟨35, _⟩ => ⟨S256x1408, .bf16⟩
  | .local _ .vmem, ⟨36, _⟩ => ⟨S1x256x1408, .f32⟩
  | .local _ .vmem, ⟨37, _⟩ => ⟨S1x256x1408, .f32⟩
  | .local _ .vmem, ⟨38, _⟩ => ⟨S1x256x1408, .f32⟩
  | .local _ .vmem, ⟨39, _⟩ => ⟨S1x256x1408, .f32⟩
  | .local _ .vmem, ⟨40, _⟩ => ⟨S1x256x1408, .f32⟩
  | .local _ .vmem, ⟨41, _⟩ => ⟨S1x256x1408, .f32⟩
  | .local _ .vmem, ⟨42, _⟩ => ⟨S1x256x1408, .f32⟩
  | .local _ .vmem, ⟨43, _⟩ => ⟨S1x256x1408, .f32⟩
  | .local _ .vmem, ⟨44, _⟩ => ⟨S1x256x1408, .f32⟩
  | .local _ .vmem, ⟨45, _⟩ => ⟨S1x256x1408, .f32⟩
  | .local _ .vmem, ⟨46, _⟩ => ⟨S1x256x1408, .f32⟩
  | .local _ .vmem, ⟨47, _⟩ => ⟨S1x256x1408, .f32⟩
  | .local _ .vmem, ⟨48, _⟩ => ⟨S1x256x1408, .f32⟩
  | .local _ .vmem, ⟨49, _⟩ => ⟨S1x256x1408, .f32⟩
  | .local _ .vmem, ⟨50, _⟩ => ⟨S256x1408, .bf16⟩
  | .local _ .vmem, ⟨51, _⟩ => ⟨S256x1408, .bf16⟩
  | .local _ .vmem, ⟨52, _⟩ => ⟨S1x256x1408, .f32⟩
  | .local _ .vmem, ⟨53, _⟩ => ⟨S1x256x1408, .f32⟩
  | .local _ .vmem, ⟨54, _⟩ => ⟨S1x256x1408, .f32⟩
  | .local _ .vmem, ⟨55, _⟩ => ⟨S1x256x1408, .f32⟩
  | .local _ .vmem, ⟨56, _⟩ => ⟨S1x256x1408, .f32⟩
  | .local _ .vmem, ⟨57, _⟩ => ⟨S1x256x1408, .f32⟩
  | .local _ .vmem, ⟨58, _⟩ => ⟨S1x256x1408, .f32⟩
  | .local _ .vmem, ⟨59, _⟩ => ⟨S1x256x1408, .f32⟩
  | .local _ .vmem, ⟨60, _⟩ => ⟨S1x256x1408, .f32⟩
  | .local _ .vmem, ⟨61, _⟩ => ⟨S1x256x1408, .f32⟩
  | .local _ .vmem, ⟨62, _⟩ => ⟨S1x256x1408, .f32⟩
  | .local _ .vmem, ⟨63, _⟩ => ⟨S1x256x1408, .f32⟩
  | _, _ => ⟨S4x2048x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | _, _ => false

abbrev semScoped : Fin 0 → Bool
  | ⟨_, h⟩ => absurd h (Nat.not_lt_zero _)

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  ofTc nBuf bufTy 0 64 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v1_0 : Ref sig .tc := ⟨.hbm, 11, rfl⟩
abbrev main_v1_1 : Ref sig .tc := ⟨.hbm, 12, rfl⟩
abbrev main_v1_2 : Ref sig .tc := ⟨.hbm, 13, rfl⟩
abbrev main_v1_3 : Ref sig .tc := ⟨.hbm, 14, rfl⟩
abbrev main_v2_0 : Ref sig .tc := ⟨.hbm, 15, rfl⟩
abbrev main_v2_1 : Ref sig .tc := ⟨.hbm, 16, rfl⟩
abbrev main_v2_2 : Ref sig .tc := ⟨.hbm, 17, rfl⟩
abbrev main_v2_3 : Ref sig .tc := ⟨.hbm, 18, rfl⟩
abbrev main_v3_0 : Ref sig .tc := ⟨.hbm, 19, rfl⟩
abbrev main_v3_1 : Ref sig .tc := ⟨.hbm, 20, rfl⟩
abbrev main_v3_2 : Ref sig .tc := ⟨.hbm, 21, rfl⟩
abbrev main_v3_3 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg7_1 : Ref sig .tc := ⟨.vmem, 31, rfl⟩
abbrev cc2_stg0_0 : Ref sig .tc := ⟨.vmem, 32, rfl⟩
abbrev cc2_stg0_1 : Ref sig .tc := ⟨.vmem, 33, rfl⟩
abbrev cc2_stg1_0 : Ref sig .tc := ⟨.vmem, 34, rfl⟩
abbrev cc2_stg1_1 : Ref sig .tc := ⟨.vmem, 35, rfl⟩
abbrev cc2_stg2_0 : Ref sig .tc := ⟨.vmem, 36, rfl⟩
abbrev cc2_stg2_1 : Ref sig .tc := ⟨.vmem, 37, rfl⟩
abbrev cc2_stg3_0 : Ref sig .tc := ⟨.vmem, 38, rfl⟩
abbrev cc2_stg3_1 : Ref sig .tc := ⟨.vmem, 39, rfl⟩
abbrev cc2_stg4_0 : Ref sig .tc := ⟨.vmem, 40, rfl⟩
abbrev cc2_stg4_1 : Ref sig .tc := ⟨.vmem, 41, rfl⟩
abbrev cc2_stg5_0 : Ref sig .tc := ⟨.vmem, 42, rfl⟩
abbrev cc2_stg5_1 : Ref sig .tc := ⟨.vmem, 43, rfl⟩
abbrev cc2_stg6_0 : Ref sig .tc := ⟨.vmem, 44, rfl⟩
abbrev cc2_stg6_1 : Ref sig .tc := ⟨.vmem, 45, rfl⟩
abbrev cc2_stg7_0 : Ref sig .tc := ⟨.vmem, 46, rfl⟩
abbrev cc2_stg7_1 : Ref sig .tc := ⟨.vmem, 47, rfl⟩
abbrev cc3_stg0_0 : Ref sig .tc := ⟨.vmem, 48, rfl⟩
abbrev cc3_stg0_1 : Ref sig .tc := ⟨.vmem, 49, rfl⟩
abbrev cc3_stg1_0 : Ref sig .tc := ⟨.vmem, 50, rfl⟩
abbrev cc3_stg1_1 : Ref sig .tc := ⟨.vmem, 51, rfl⟩
abbrev cc3_stg2_0 : Ref sig .tc := ⟨.vmem, 52, rfl⟩
abbrev cc3_stg2_1 : Ref sig .tc := ⟨.vmem, 53, rfl⟩
abbrev cc3_stg3_0 : Ref sig .tc := ⟨.vmem, 54, rfl⟩
abbrev cc3_stg3_1 : Ref sig .tc := ⟨.vmem, 55, rfl⟩
abbrev cc3_stg4_0 : Ref sig .tc := ⟨.vmem, 56, rfl⟩
abbrev cc3_stg4_1 : Ref sig .tc := ⟨.vmem, 57, rfl⟩
abbrev cc3_stg5_0 : Ref sig .tc := ⟨.vmem, 58, rfl⟩
abbrev cc3_stg5_1 : Ref sig .tc := ⟨.vmem, 59, rfl⟩
abbrev cc3_stg6_0 : Ref sig .tc := ⟨.vmem, 60, rfl⟩
abbrev cc3_stg6_1 : Ref sig .tc := ⟨.vmem, 61, rfl⟩
abbrev cc3_stg7_0 : Ref sig .tc := ⟨.vmem, 62, rfl⟩
abbrev cc3_stg7_1 : Ref sig .tc := ⟨.vmem, 63, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31
abbrev cc2_sem0_0 : DmaSem sig := 32
abbrev cc2_sem0_1 : DmaSem sig := 33
abbrev cc2_sem1_0 : DmaSem sig := 34
abbrev cc2_sem1_1 : DmaSem sig := 35
abbrev cc2_sem2_0 : DmaSem sig := 36
abbrev cc2_sem2_1 : DmaSem sig := 37
abbrev cc2_sem3_0 : DmaSem sig := 38
abbrev cc2_sem3_1 : DmaSem sig := 39
abbrev cc2_sem4_0 : DmaSem sig := 40
abbrev cc2_sem4_1 : DmaSem sig := 41
abbrev cc2_sem5_0 : DmaSem sig := 42
abbrev cc2_sem5_1 : DmaSem sig := 43
abbrev cc2_sem6_0 : DmaSem sig := 44
abbrev cc2_sem6_1 : DmaSem sig := 45
abbrev cc2_sem7_0 : DmaSem sig := 46
abbrev cc2_sem7_1 : DmaSem sig := 47
abbrev cc3_sem0_0 : DmaSem sig := 48
abbrev cc3_sem0_1 : DmaSem sig := 49
abbrev cc3_sem1_0 : DmaSem sig := 50
abbrev cc3_sem1_1 : DmaSem sig := 51
abbrev cc3_sem2_0 : DmaSem sig := 52
abbrev cc3_sem2_1 : DmaSem sig := 53
abbrev cc3_sem3_0 : DmaSem sig := 54
abbrev cc3_sem3_1 : DmaSem sig := 55
abbrev cc3_sem4_0 : DmaSem sig := 56
abbrev cc3_sem4_1 : DmaSem sig := 57
abbrev cc3_sem5_0 : DmaSem sig := 58
abbrev cc3_sem5_1 : DmaSem sig := 59
abbrev cc3_sem6_0 : DmaSem sig := 60
abbrev cc3_sem6_1 : DmaSem sig := 61
abbrev cc3_sem7_0 : DmaSem sig := 62
abbrev cc3_sem7_1 : DmaSem sig := 63

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_4 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_5 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_6 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_7 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

abbrev stage0_0 : Fin 2 → Memref sig .tc .vmem S1x256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![8], ![false]⟩

def cc1_transform_0 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_3 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_8 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_9 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_10 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_11 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

abbrev stage1_0 : Fin 2 → Memref sig .tc .vmem S1x256x1408 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x1408 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x256x1408 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x256x1408 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x256x1408 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x256x1408 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x256x1408 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x256x1408 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![8], ![false]⟩

def cc2_transform_0 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc2_transform_3 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc2_transform_8 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc2_transform_9 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc2_transform_10 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc2_transform_11 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage2_0 : Fin 2 → Memref sig .tc .vmem S1x256x1408 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S256x1408 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x256x1408 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x256x1408 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S1x256x1408 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S1x256x1408 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S1x256x1408 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S1x256x1408 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![8], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_3 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_8 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_9 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_10 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_11 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage3_0 : Fin 2 → Memref sig .tc .vmem S1x256x1408 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S256x1408 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1x256x1408 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1x256x1408 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S1x256x1408 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S1x256x1408 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S1x256x1408 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S1x256x1408 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]
-- ==== Reference12Ideal.lean ====
abbrev S4x2048x1408 : Shape := ⟨3, ![4, 2048, 1408]⟩
abbrev S2048x1408 : Shape := ⟨2, ![2048, 1408]⟩
abbrev S1x2048x1408 : Shape := ⟨3, ![1, 2048, 1408]⟩
abbrev S_ : Shape := ⟨0, ![]⟩

abbrev nBuf : Space → Nat
  | .hbm => 46
  | .vmem => 0
  | .smem => 0
  | _ => 0

abbrev bufTy : (tb : Table) → Fin (tcTables nBuf tb) → BufTy
  | .hbm, ⟨0, _⟩ => ⟨S4x2048x1408, .f32⟩
  | .hbm, ⟨1, _⟩ => ⟨S2048x1408, .bf16⟩
  | .hbm, ⟨2, _⟩ => ⟨S2048x1408, .bf16⟩
  | .hbm, ⟨3, _⟩ => ⟨S2048x1408, .bf16⟩
  | .hbm, ⟨4, _⟩ => ⟨S2048x1408, .bf16⟩
  | .hbm, ⟨5, _⟩ => ⟨S4x2048x1408, .f32⟩
  | .hbm, ⟨6, _⟩ => ⟨S4x2048x1408, .f32⟩
  | .hbm, ⟨7, _⟩ => ⟨S1x2048x1408, .bf16⟩
  | .hbm, ⟨8, _⟩ => ⟨S1x2048x1408, .bf16⟩
  | .hbm, ⟨9, _⟩ => ⟨S1x2048x1408, .bf16⟩
  | .hbm, ⟨10, _⟩ => ⟨S1x2048x1408, .bf16⟩
  | .hbm, ⟨11, _⟩ => ⟨S4x2048x1408, .bf16⟩
  | .hbm, ⟨12, _⟩ => ⟨S4x2048x1408, .f32⟩
  | .hbm, ⟨13, _⟩ => ⟨S_, .f32⟩
  | .hbm, ⟨14, _⟩ => ⟨S4x2048x1408, .f32⟩
  | .hbm, ⟨15, _⟩ => ⟨S4x2048x1408, .f32⟩
  | .hbm, ⟨16, _⟩ => ⟨S_, .f32⟩
  | .hbm, ⟨17, _⟩ => ⟨S4x2048x1408, .f32⟩
  | .hbm, ⟨18, _⟩ => ⟨S4x2048x1408, .f32⟩
  | .hbm, ⟨19, _⟩ => ⟨S4x2048x1408, .f32⟩
  | .hbm, ⟨20, _⟩ => ⟨S_, .f32⟩
  | .hbm, ⟨21, _⟩ => ⟨S4x2048x1408, .f32⟩
  | .hbm, ⟨22, _⟩ => ⟨S4x2048x1408, .f32⟩
  | .hbm, ⟨23, _⟩ => ⟨S4x2048x1408, .f32⟩
  | .hbm, ⟨24, _⟩ => ⟨S_, .f32⟩
  | .hbm, ⟨25, _⟩ => ⟨S4x2048x1408, .f32⟩
  | .hbm, ⟨26, _⟩ => ⟨S4x2048x1408, .f32⟩
  | .hbm, ⟨27, _⟩ => ⟨S4x2048x1408, .f32⟩
  | .hbm, ⟨28, _⟩ => ⟨S_, .f32⟩
  | .hbm, ⟨29, _⟩ => ⟨S4x2048x1408, .f32⟩
  | .hbm, ⟨30, _⟩ => ⟨S4x2048x1408, .f32⟩
  | .hbm, ⟨31, _⟩ => ⟨S_, .f32⟩
  | .hbm, ⟨32, _⟩ => ⟨S4x2048x1408, .f32⟩
  | .hbm, ⟨33, _⟩ => ⟨S4x2048x1408, .f32⟩
  | .hbm, ⟨34, _⟩ => ⟨S4x2048x1408, .f32⟩
  | .hbm, ⟨35, _⟩ => ⟨S_, .f32⟩
  | .hbm, ⟨36, _⟩ => ⟨S4x2048x1408, .f32⟩
  | .hbm, ⟨37, _⟩ => ⟨S4x2048x1408, .f32⟩
  | .hbm, ⟨38, _⟩ => ⟨S4x2048x1408, .f32⟩
  | .hbm, ⟨39, _⟩ => ⟨S_, .f32⟩
  | .hbm, ⟨40, _⟩ => ⟨S4x2048x1408, .f32⟩
  | .hbm, ⟨41, _⟩ => ⟨S4x2048x1408, .f32⟩
  | .hbm, ⟨42, _⟩ => ⟨S4x2048x1408, .f32⟩
  | .hbm, ⟨43, _⟩ => ⟨S_, .f32⟩
  | .hbm, ⟨44, _⟩ => ⟨S4x2048x1408, .f32⟩
  | .hbm, ⟨45, _⟩ => ⟨S4x2048x1408, .f32⟩
  | _, _ => ⟨S4x2048x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_7 : Ref sig .tc := ⟨.hbm, 43, rfl⟩
abbrev main_v28 : Ref sig .tc := ⟨.hbm, 44, rfl⟩
abbrev main_v29 : Ref sig .tc := ⟨.hbm, 45, rfl⟩

abbrev nD : Nat := 1
abbrev τ : Topo := Topo.v7x

variable {F : FTy → Type} [FloatOps F]
-- ==== Kernel13.lean ====
abbrev S4x1408x2048 : Shape := ⟨3, ![4, 1408, 2048]⟩
abbrev S1408x2048 : Shape := ⟨2, ![1408, 2048]⟩
abbrev S1x176x2048 : Shape := ⟨3, ![1, 176, 2048]⟩
abbrev S176x2048 : Shape := ⟨2, ![176, 2048]⟩

abbrev nBuf : Space → Nat
  | .hbm => 23
  | .vmem => 64
  | .smem => 0
  | _ => 0

abbrev bufTy : (tb : Table) → Fin (tcTables nBuf tb) → BufTy
  | .hbm, ⟨0, _⟩ => ⟨S4x1408x2048, .f32⟩
  | .hbm, ⟨1, _⟩ => ⟨S1408x2048, .bf16⟩
  | .hbm, ⟨2, _⟩ => ⟨S1408x2048, .bf16⟩
  | .hbm, ⟨3, _⟩ => ⟨S1408x2048, .bf16⟩
  | .hbm, ⟨4, _⟩ => ⟨S1408x2048, .bf16⟩
  | .hbm, ⟨5, _⟩ => ⟨S4x1408x2048, .f32⟩
  | .hbm, ⟨6, _⟩ => ⟨S4x1408x2048, .f32⟩
  | .hbm, ⟨7, _⟩ => ⟨S4x1408x2048, .f32⟩
  | .hbm, ⟨8, _⟩ => ⟨S4x1408x2048, .f32⟩
  | .hbm, ⟨9, _⟩ => ⟨S4x1408x2048, .f32⟩
  | .hbm, ⟨10, _⟩ => ⟨S4x1408x2048, .f32⟩
  | .hbm, ⟨11, _⟩ => ⟨S4x1408x2048, .f32⟩
  | .hbm, ⟨12, _⟩ => ⟨S4x1408x2048, .f32⟩
  | .hbm, ⟨13, _⟩ => ⟨S4x1408x2048, .f32⟩
  | .hbm, ⟨14, _⟩ => ⟨S4x1408x2048, .f32⟩
  | .hbm, ⟨15, _⟩ => ⟨S4x1408x2048, .f32⟩
  | .hbm, ⟨16, _⟩ => ⟨S4x1408x2048, .f32⟩
  | .hbm, ⟨17, _⟩ => ⟨S4x1408x2048, .f32⟩
  | .hbm, ⟨18, _⟩ => ⟨S4x1408x2048, .f32⟩
  | .hbm, ⟨19, _⟩ => ⟨S4x1408x2048, .f32⟩
  | .hbm, ⟨20, _⟩ => ⟨S4x1408x2048, .f32⟩
  | .hbm, ⟨21, _⟩ => ⟨S4x1408x2048, .f32⟩
  | .hbm, ⟨22, _⟩ => ⟨S4x1408x2048, .f32⟩
  | .local _ .vmem, ⟨0, _⟩ => ⟨S1x176x2048, .f32⟩
  | .local _ .vmem, ⟨1, _⟩ => ⟨S1x176x2048, .f32⟩
  | .local _ .vmem, ⟨2, _⟩ => ⟨S176x2048, .bf16⟩
  | .local _ .vmem, ⟨3, _⟩ => ⟨S176x2048, .bf16⟩
  | .local _ .vmem, ⟨4, _⟩ => ⟨S1x176x2048, .f32⟩
  | .local _ .vmem, ⟨5, _⟩ => ⟨S1x176x2048, .f32⟩
  | .local _ .vmem, ⟨6, _⟩ => ⟨S1x176x2048, .f32⟩
  | .local _ .vmem, ⟨7, _⟩ => ⟨S1x176x2048, .f32⟩
  | .local _ .vmem, ⟨8, _⟩ => ⟨S1x176x2048, .f32⟩
  | .local _ .vmem, ⟨9, _⟩ => ⟨S1x176x2048, .f32⟩
  | .local _ .vmem, ⟨10, _⟩ => ⟨S1x176x2048, .f32⟩
  | .local _ .vmem, ⟨11, _⟩ => ⟨S1x176x2048, .f32⟩
  | .local _ .vmem, ⟨12, _⟩ => ⟨S1x176x2048, .f32⟩
  | .local _ .vmem, ⟨13, _⟩ => ⟨S1x176x2048, .f32⟩
  | .local _ .vmem, ⟨14, _⟩ => ⟨S1x176x2048, .f32⟩
  | .local _ .vmem, ⟨15, _⟩ => ⟨S1x176x2048, .f32⟩
  | .local _ .vmem, ⟨16, _⟩ => ⟨S1x176x2048, .f32⟩
  | .local _ .vmem, ⟨17, _⟩ => ⟨S1x176x2048, .f32⟩
  | .local _ .vmem, ⟨18, _⟩ => ⟨S176x2048, .bf16⟩
  | .local _ .vmem, ⟨19, _⟩ => ⟨S176x2048, .bf16⟩
  | .local _ .vmem, ⟨20, _⟩ => ⟨S1x176x2048, .f32⟩
  | .local _ .vmem, ⟨21, _⟩ => ⟨S1x176x2048, .f32⟩
  | .local _ .vmem, ⟨22, _⟩ => ⟨S1x176x2048, .f32⟩
  | .local _ .vmem, ⟨23, _⟩ => ⟨S1x176x2048, .f32⟩
  | .local _ .vmem, ⟨24, _⟩ => ⟨S1x176x2048, .f32⟩
  | .local _ .vmem, ⟨25, _⟩ => ⟨S1x176x2048, .f32⟩
  | .local _ .vmem, ⟨26, _⟩ => ⟨S1x176x2048, .f32⟩
  | .local _ .vmem, ⟨27, _⟩ => ⟨S1x176x2048, .f32⟩
  | .local _ .vmem, ⟨28, _⟩ => ⟨S1x176x2048, .f32⟩
  | .local _ .vmem, ⟨29, _⟩ => ⟨S1x176x2048, .f32⟩
  | .local _ .vmem, ⟨30, _⟩ => ⟨S1x176x2048, .f32⟩
  | .local _ .vmem, ⟨31, _⟩ => ⟨S1x176x2048, .f32⟩
  | .local _ .vmem, ⟨32, _⟩ => ⟨S1x176x2048, .f32⟩
  | .local _ .vmem, ⟨33, _⟩ => ⟨S1x176x2048, .f32⟩
  | .local _ .vmem, ⟨34, _⟩ => ⟨S176x2048, .bf16⟩
  | .local _ .vmem, ⟨35, _⟩ => ⟨S176x2048, .bf16⟩
  | .local _ .vmem, ⟨36, _⟩ => ⟨S1x176x2048, .f32⟩
  | .local _ .vmem, ⟨37, _⟩ => ⟨S1x176x2048, .f32⟩
  | .local _ .vmem, ⟨38, _⟩ => ⟨S1x176x2048, .f32⟩
  | .local _ .vmem, ⟨39, _⟩ => ⟨S1x176x2048, .f32⟩
  | .local _ .vmem, ⟨40, _⟩ => ⟨S1x176x2048, .f32⟩
  | .local _ .vmem, ⟨41, _⟩ => ⟨S1x176x2048, .f32⟩
  | .local _ .vmem, ⟨42, _⟩ => ⟨S1x176x2048, .f32⟩
  | .local _ .vmem, ⟨43, _⟩ => ⟨S1x176x2048, .f32⟩
  | .local _ .vmem, ⟨44, _⟩ => ⟨S1x176x2048, .f32⟩
  | .local _ .vmem, ⟨45, _⟩ => ⟨S1x176x2048, .f32⟩
  | .local _ .vmem, ⟨46, _⟩ => ⟨S1x176x2048, .f32⟩
  | .local _ .vmem, ⟨47, _⟩ => ⟨S1x176x2048, .f32⟩
  | .local _ .vmem, ⟨48, _⟩ => ⟨S1x176x2048, .f32⟩
  | .local _ .vmem, ⟨49, _⟩ => ⟨S1x176x2048, .f32⟩
  | .local _ .vmem, ⟨50, _⟩ => ⟨S176x2048, .bf16⟩
  | .local _ .vmem, ⟨51, _⟩ => ⟨S176x2048, .bf16⟩
  | .local _ .vmem, ⟨52, _⟩ => ⟨S1x176x2048, .f32⟩
  | .local _ .vmem, ⟨53, _⟩ => ⟨S1x176x2048, .f32⟩
  | .local _ .vmem, ⟨54, _⟩ => ⟨S1x176x2048, .f32⟩
  | .local _ .vmem, ⟨55, _⟩ => ⟨S1x176x2048, .f32⟩
  | .local _ .vmem, ⟨56, _⟩ => ⟨S1x176x2048, .f32⟩
  | .local _ .vmem, ⟨57, _⟩ => ⟨S1x176x2048, .f32⟩
  | .local _ .vmem, ⟨58, _⟩ => ⟨S1x176x2048, .f32⟩
  | .local _ .vmem, ⟨59, _⟩ => ⟨S1x176x2048, .f32⟩
  | .local _ .vmem, ⟨60, _⟩ => ⟨S1x176x2048, .f32⟩
  | .local _ .vmem, ⟨61, _⟩ => ⟨S1x176x2048, .f32⟩
  | .local _ .vmem, ⟨62, _⟩ => ⟨S1x176x2048, .f32⟩
  | .local _ .vmem, ⟨63, _⟩ => ⟨S1x176x2048, .f32⟩
  | _, _ => ⟨S4x1408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | _, _ => false

abbrev semScoped : Fin 0 → Bool
  | ⟨_, h⟩ => absurd h (Nat.not_lt_zero _)

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  ofTc nBuf bufTy 0 64 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v1_0 : Ref sig .tc := ⟨.hbm, 11, rfl⟩
abbrev main_v1_1 : Ref sig .tc := ⟨.hbm, 12, rfl⟩
abbrev main_v1_2 : Ref sig .tc := ⟨.hbm, 13, rfl⟩
abbrev main_v1_3 : Ref sig .tc := ⟨.hbm, 14, rfl⟩
abbrev main_v2_0 : Ref sig .tc := ⟨.hbm, 15, rfl⟩
abbrev main_v2_1 : Ref sig .tc := ⟨.hbm, 16, rfl⟩
abbrev main_v2_2 : Ref sig .tc := ⟨.hbm, 17, rfl⟩
abbrev main_v2_3 : Ref sig .tc := ⟨.hbm, 18, rfl⟩
abbrev main_v3_0 : Ref sig .tc := ⟨.hbm, 19, rfl⟩
abbrev main_v3_1 : Ref sig .tc := ⟨.hbm, 20, rfl⟩
abbrev main_v3_2 : Ref sig .tc := ⟨.hbm, 21, rfl⟩
abbrev main_v3_3 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg7_1 : Ref sig .tc := ⟨.vmem, 31, rfl⟩
abbrev cc2_stg0_0 : Ref sig .tc := ⟨.vmem, 32, rfl⟩
abbrev cc2_stg0_1 : Ref sig .tc := ⟨.vmem, 33, rfl⟩
abbrev cc2_stg1_0 : Ref sig .tc := ⟨.vmem, 34, rfl⟩
abbrev cc2_stg1_1 : Ref sig .tc := ⟨.vmem, 35, rfl⟩
abbrev cc2_stg2_0 : Ref sig .tc := ⟨.vmem, 36, rfl⟩
abbrev cc2_stg2_1 : Ref sig .tc := ⟨.vmem, 37, rfl⟩
abbrev cc2_stg3_0 : Ref sig .tc := ⟨.vmem, 38, rfl⟩
abbrev cc2_stg3_1 : Ref sig .tc := ⟨.vmem, 39, rfl⟩
abbrev cc2_stg4_0 : Ref sig .tc := ⟨.vmem, 40, rfl⟩
abbrev cc2_stg4_1 : Ref sig .tc := ⟨.vmem, 41, rfl⟩
abbrev cc2_stg5_0 : Ref sig .tc := ⟨.vmem, 42, rfl⟩
abbrev cc2_stg5_1 : Ref sig .tc := ⟨.vmem, 43, rfl⟩
abbrev cc2_stg6_0 : Ref sig .tc := ⟨.vmem, 44, rfl⟩
abbrev cc2_stg6_1 : Ref sig .tc := ⟨.vmem, 45, rfl⟩
abbrev cc2_stg7_0 : Ref sig .tc := ⟨.vmem, 46, rfl⟩
abbrev cc2_stg7_1 : Ref sig .tc := ⟨.vmem, 47, rfl⟩
abbrev cc3_stg0_0 : Ref sig .tc := ⟨.vmem, 48, rfl⟩
abbrev cc3_stg0_1 : Ref sig .tc := ⟨.vmem, 49, rfl⟩
abbrev cc3_stg1_0 : Ref sig .tc := ⟨.vmem, 50, rfl⟩
abbrev cc3_stg1_1 : Ref sig .tc := ⟨.vmem, 51, rfl⟩
abbrev cc3_stg2_0 : Ref sig .tc := ⟨.vmem, 52, rfl⟩
abbrev cc3_stg2_1 : Ref sig .tc := ⟨.vmem, 53, rfl⟩
abbrev cc3_stg3_0 : Ref sig .tc := ⟨.vmem, 54, rfl⟩
abbrev cc3_stg3_1 : Ref sig .tc := ⟨.vmem, 55, rfl⟩
abbrev cc3_stg4_0 : Ref sig .tc := ⟨.vmem, 56, rfl⟩
abbrev cc3_stg4_1 : Ref sig .tc := ⟨.vmem, 57, rfl⟩
abbrev cc3_stg5_0 : Ref sig .tc := ⟨.vmem, 58, rfl⟩
abbrev cc3_stg5_1 : Ref sig .tc := ⟨.vmem, 59, rfl⟩
abbrev cc3_stg6_0 : Ref sig .tc := ⟨.vmem, 60, rfl⟩
abbrev cc3_stg6_1 : Ref sig .tc := ⟨.vmem, 61, rfl⟩
abbrev cc3_stg7_0 : Ref sig .tc := ⟨.vmem, 62, rfl⟩
abbrev cc3_stg7_1 : Ref sig .tc := ⟨.vmem, 63, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31
abbrev cc2_sem0_0 : DmaSem sig := 32
abbrev cc2_sem0_1 : DmaSem sig := 33
abbrev cc2_sem1_0 : DmaSem sig := 34
abbrev cc2_sem1_1 : DmaSem sig := 35
abbrev cc2_sem2_0 : DmaSem sig := 36
abbrev cc2_sem2_1 : DmaSem sig := 37
abbrev cc2_sem3_0 : DmaSem sig := 38
abbrev cc2_sem3_1 : DmaSem sig := 39
abbrev cc2_sem4_0 : DmaSem sig := 40
abbrev cc2_sem4_1 : DmaSem sig := 41
abbrev cc2_sem5_0 : DmaSem sig := 42
abbrev cc2_sem5_1 : DmaSem sig := 43
abbrev cc2_sem6_0 : DmaSem sig := 44
abbrev cc2_sem6_1 : DmaSem sig := 45
abbrev cc2_sem7_0 : DmaSem sig := 46
abbrev cc2_sem7_1 : DmaSem sig := 47
abbrev cc3_sem0_0 : DmaSem sig := 48
abbrev cc3_sem0_1 : DmaSem sig := 49
abbrev cc3_sem1_0 : DmaSem sig := 50
abbrev cc3_sem1_1 : DmaSem sig := 51
abbrev cc3_sem2_0 : DmaSem sig := 52
abbrev cc3_sem2_1 : DmaSem sig := 53
abbrev cc3_sem3_0 : DmaSem sig := 54
abbrev cc3_sem3_1 : DmaSem sig := 55
abbrev cc3_sem4_0 : DmaSem sig := 56
abbrev cc3_sem4_1 : DmaSem sig := 57
abbrev cc3_sem5_0 : DmaSem sig := 58
abbrev cc3_sem5_1 : DmaSem sig := 59
abbrev cc3_sem6_0 : DmaSem sig := 60
abbrev cc3_sem6_1 : DmaSem sig := 61
abbrev cc3_sem7_0 : DmaSem sig := 62
abbrev cc3_sem7_1 : DmaSem sig := 63

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_4 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_5 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_6 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_7 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

abbrev stage0_0 : Fin 2 → Memref sig .tc .vmem S1x176x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x176x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x176x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x176x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x176x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x176x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x176x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![8], ![false]⟩

def cc1_transform_0 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_3 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_8 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_9 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_10 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_11 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

abbrev stage1_0 : Fin 2 → Memref sig .tc .vmem S1x176x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S176x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x176x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x176x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x176x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x176x2048 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x176x2048 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x176x2048 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![8], ![false]⟩

def cc2_transform_0 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc2_transform_3 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc2_transform_8 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc2_transform_9 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc2_transform_10 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc2_transform_11 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage2_0 : Fin 2 → Memref sig .tc .vmem S1x176x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S176x2048 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x176x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x176x2048 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S1x176x2048 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S1x176x2048 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S1x176x2048 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S1x176x2048 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![8], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_3 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_8 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_9 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_10 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_11 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage3_0 : Fin 2 → Memref sig .tc .vmem S1x176x2048 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S176x2048 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1x176x2048 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1x176x2048 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S1x176x2048 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S1x176x2048 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S1x176x2048 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S1x176x2048 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]
-- ==== Reference13Ideal.lean ====
abbrev S4x1408x2048 : Shape := ⟨3, ![4, 1408, 2048]⟩
abbrev S1408x2048 : Shape := ⟨2, ![1408, 2048]⟩
abbrev S1x1408x2048 : Shape := ⟨3, ![1, 1408, 2048]⟩
abbrev S_ : Shape := ⟨0, ![]⟩

abbrev nBuf : Space → Nat
  | .hbm => 46
  | .vmem => 0
  | .smem => 0
  | _ => 0

abbrev bufTy : (tb : Table) → Fin (tcTables nBuf tb) → BufTy
  | .hbm, ⟨0, _⟩ => ⟨S4x1408x2048, .f32⟩
  | .hbm, ⟨1, _⟩ => ⟨S1408x2048, .bf16⟩
  | .hbm, ⟨2, _⟩ => ⟨S1408x2048, .bf16⟩
  | .hbm, ⟨3, _⟩ => ⟨S1408x2048, .bf16⟩
  | .hbm, ⟨4, _⟩ => ⟨S1408x2048, .bf16⟩
  | .hbm, ⟨5, _⟩ => ⟨S4x1408x2048, .f32⟩
  | .hbm, ⟨6, _⟩ => ⟨S4x1408x2048, .f32⟩
  | .hbm, ⟨7, _⟩ => ⟨S1x1408x2048, .bf16⟩
  | .hbm, ⟨8, _⟩ => ⟨S1x1408x2048, .bf16⟩
  | .hbm, ⟨9, _⟩ => ⟨S1x1408x2048, .bf16⟩
  | .hbm, ⟨10, _⟩ => ⟨S1x1408x2048, .bf16⟩
  | .hbm, ⟨11, _⟩ => ⟨S4x1408x2048, .bf16⟩
  | .hbm, ⟨12, _⟩ => ⟨S4x1408x2048, .f32⟩
  | .hbm, ⟨13, _⟩ => ⟨S_, .f32⟩
  | .hbm, ⟨14, _⟩ => ⟨S4x1408x2048, .f32⟩
  | .hbm, ⟨15, _⟩ => ⟨S4x1408x2048, .f32⟩
  | .hbm, ⟨16, _⟩ => ⟨S_, .f32⟩
  | .hbm, ⟨17, _⟩ => ⟨S4x1408x2048, .f32⟩
  | .hbm, ⟨18, _⟩ => ⟨S4x1408x2048, .f32⟩
  | .hbm, ⟨19, _⟩ => ⟨S4x1408x2048, .f32⟩
  | .hbm, ⟨20, _⟩ => ⟨S_, .f32⟩
  | .hbm, ⟨21, _⟩ => ⟨S4x1408x2048, .f32⟩
  | .hbm, ⟨22, _⟩ => ⟨S4x1408x2048, .f32⟩
  | .hbm, ⟨23, _⟩ => ⟨S4x1408x2048, .f32⟩
  | .hbm, ⟨24, _⟩ => ⟨S_, .f32⟩
  | .hbm, ⟨25, _⟩ => ⟨S4x1408x2048, .f32⟩
  | .hbm, ⟨26, _⟩ => ⟨S4x1408x2048, .f32⟩
  | .hbm, ⟨27, _⟩ => ⟨S4x1408x2048, .f32⟩
  | .hbm, ⟨28, _⟩ => ⟨S_, .f32⟩
  | .hbm, ⟨29, _⟩ => ⟨S4x1408x2048, .f32⟩
  | .hbm, ⟨30, _⟩ => ⟨S4x1408x2048, .f32⟩
  | .hbm, ⟨31, _⟩ => ⟨S_, .f32⟩
  | .hbm, ⟨32, _⟩ => ⟨S4x1408x2048, .f32⟩
  | .hbm, ⟨33, _⟩ => ⟨S4x1408x2048, .f32⟩
  | .hbm, ⟨34, _⟩ => ⟨S4x1408x2048, .f32⟩
  | .hbm, ⟨35, _⟩ => ⟨S_, .f32⟩
  | .hbm, ⟨36, _⟩ => ⟨S4x1408x2048, .f32⟩
  | .hbm, ⟨37, _⟩ => ⟨S4x1408x2048, .f32⟩
  | .hbm, ⟨38, _⟩ => ⟨S4x1408x2048, .f32⟩
  | .hbm, ⟨39, _⟩ => ⟨S_, .f32⟩
  | .hbm, ⟨40, _⟩ => ⟨S4x1408x2048, .f32⟩
  | .hbm, ⟨41, _⟩ => ⟨S4x1408x2048, .f32⟩
  | .hbm, ⟨42, _⟩ => ⟨S4x1408x2048, .f32⟩
  | .hbm, ⟨43, _⟩ => ⟨S_, .f32⟩
  | .hbm, ⟨44, _⟩ => ⟨S4x1408x2048, .f32⟩
  | .hbm, ⟨45, _⟩ => ⟨S4x1408x2048, .f32⟩
  | _, _ => ⟨S4x1408x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_7 : Ref sig .tc := ⟨.hbm, 43, rfl⟩
abbrev main_v28 : Ref sig .tc := ⟨.hbm, 44, rfl⟩
abbrev main_v29 : Ref sig .tc := ⟨.hbm, 45, rfl⟩

abbrev nD : Nat := 1
abbrev τ : Topo := Topo.v7x

variable {F : FTy → Type} [FloatOps F]
-- ==== Kernel14.lean ====
abbrev S4096x2048 : Shape := ⟨2, ![4096, 2048]⟩
abbrev S4096x1024 : Shape := ⟨2, ![4096, 1024]⟩
abbrev S4096x128 : Shape := ⟨2, ![4096, 128]⟩
abbrev S1024 : Shape := ⟨1, ![1024]⟩
abbrev S256x256 : Shape := ⟨2, ![256, 256]⟩
abbrev S1x1024 : Shape := ⟨2, ![1, 1024]⟩
abbrev S1x4096x1024 : Shape := ⟨3, ![1, 4096, 1024]⟩
abbrev S4x1024x1024 : Shape := ⟨3, ![4, 1024, 1024]⟩
abbrev S16x256x1024 : Shape := ⟨3, ![16, 256, 1024]⟩
abbrev S4x1024x128 : Shape := ⟨3, ![4, 1024, 128]⟩
abbrev S16x256x128 : Shape := ⟨3, ![16, 256, 128]⟩
abbrev S256x1024 : Shape := ⟨2, ![256, 1024]⟩
abbrev S256x128 : Shape := ⟨2, ![256, 128]⟩
abbrev S1x256x1024 : Shape := ⟨3, ![1, 256, 1024]⟩
abbrev S4x64x1024 : Shape := ⟨3, ![4, 64, 1024]⟩
abbrev S16x16x1024 : Shape := ⟨3, ![16, 16, 1024]⟩
abbrev S4x64x128 : Shape := ⟨3, ![4, 64, 128]⟩
abbrev S16x16x128 : Shape := ⟨3, ![16, 16, 128]⟩
abbrev S256 : Shape := ⟨1, ![256]⟩
abbrev S256x1 : Shape := ⟨2, ![256, 1]⟩

abbrev nBuf : Space → Nat
  | .hbm => 15
  | .vmem => 24
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S4096x128, .f32⟩
  | .hbm, ⟨3, _⟩ => ⟨S1024, .f32⟩
  | .hbm, ⟨4, _⟩ => ⟨S256x256, .bf16⟩
  | .hbm, ⟨5, _⟩ => ⟨S256x256, .bf16⟩
  | .hbm, ⟨6, _⟩ => ⟨S1x1024, .f32⟩
  | .hbm, ⟨7, _⟩ => ⟨S1x4096x1024, .bf16⟩
  | .hbm, ⟨8, _⟩ => ⟨S4x1024x1024, .bf16⟩
  | .hbm, ⟨9, _⟩ => ⟨S16x256x1024, .bf16⟩
  | .hbm, ⟨10, _⟩ => ⟨S4x1024x1024, .bf16⟩
  | .hbm, ⟨11, _⟩ => ⟨S16x256x1024, .bf16⟩
  | .hbm, ⟨12, _⟩ => ⟨S4x1024x128, .f32⟩
  | .hbm, ⟨13, _⟩ => ⟨S16x256x128, .f32⟩
  | .hbm, ⟨14, _⟩ => ⟨S1x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x128, .f32⟩
  | .local _ .vmem, ⟨5, _⟩ => ⟨S256x128, .f32⟩
  | .local _ .vmem, ⟨6, _⟩ => ⟨S1x1024, .f32⟩
  | .local _ .vmem, ⟨7, _⟩ => ⟨S256x256, .bf16⟩
  | .local _ .vmem, ⟨8, _⟩ => ⟨S256x256, .bf16⟩
  | .local _ .vmem, ⟨9, _⟩ => ⟨S1x256x1024, .bf16⟩
  | .local _ .vmem, ⟨10, _⟩ => ⟨S1x256x1024, .bf16⟩
  | .local _ .vmem, ⟨11, _⟩ => ⟨S4x64x1024, .bf16⟩
  | .local _ .vmem, ⟨12, _⟩ => ⟨S4x64x1024, .bf16⟩
  | .local _ .vmem, ⟨13, _⟩ => ⟨S16x16x1024, .bf16⟩
  | .local _ .vmem, ⟨14, _⟩ => ⟨S16x16x1024, .bf16⟩
  | .local _ .vmem, ⟨15, _⟩ => ⟨S4x64x1024, .bf16⟩
  | .local _ .vmem, ⟨16, _⟩ => ⟨S4x64x1024, .bf16⟩
  | .local _ .vmem, ⟨17, _⟩ => ⟨S16x16x1024, .bf16⟩
  | .local _ .vmem, ⟨18, _⟩ => ⟨S16x16x1024, .bf16⟩
  | .local _ .vmem, ⟨19, _⟩ => ⟨S4x64x128, .f32⟩
  | .local _ .vmem, ⟨20, _⟩ => ⟨S4x64x128, .f32⟩
  | .local _ .vmem, ⟨21, _⟩ => ⟨S16x16x128, .f32⟩
  | .local _ .vmem, ⟨22, _⟩ => ⟨S16x16x128, .f32⟩
  | .local _ .vmem, ⟨23, _⟩ => ⟨S1x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev main_v1_4 : Ref sig .tc := ⟨.hbm, 11, rfl⟩
abbrev main_v1_5 : Ref sig .tc := ⟨.hbm, 12, rfl⟩
abbrev main_v1_6 : Ref sig .tc := ⟨.hbm, 13, rfl⟩
abbrev main_v1_7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x64x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S16x16x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x64x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S16x16x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4x64x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S16x16x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Reference14Ideal.lean ====
abbrev S4096x2048 : Shape := ⟨2, ![4096, 2048]⟩
abbrev S4096x1024 : Shape := ⟨2, ![4096, 1024]⟩
abbrev S4096x128 : Shape := ⟨2, ![4096, 128]⟩
abbrev S1024 : Shape := ⟨1, ![1024]⟩
abbrev S256x256 : Shape := ⟨2, ![256, 256]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1x4096x1024 : Shape := ⟨3, ![1, 4096, 1024]⟩

abbrev nBuf : Space → Nat
  | .hbm => 57
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S4096x128, .f32⟩
  | .hbm, ⟨3, _⟩ => ⟨S1024, .f32⟩
  | .hbm, ⟨4, _⟩ => ⟨S256x256, .bf16⟩
  | .hbm, ⟨5, _⟩ => ⟨S256x256, .bf16⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S4096x1024, .bf16⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S1024, .f32⟩
  | .hbm, ⟨37, _⟩ => ⟨S4096x1024, .f32⟩
  | .hbm, ⟨38, _⟩ => ⟨S_, .f32⟩
  | .hbm, ⟨39, _⟩ => ⟨S4096, .f32⟩
  | .hbm, ⟨40, _⟩ => ⟨S4096x1, .f32⟩
  | .hbm, ⟨41, _⟩ => ⟨S4096x1024, .f32⟩
  | .hbm, ⟨42, _⟩ => ⟨S4096x1024, .f32⟩
  | .hbm, ⟨43, _⟩ => ⟨S4096x1, .f32⟩
  | .hbm, ⟨44, _⟩ => ⟨S_, .f32⟩
  | .hbm, ⟨45, _⟩ => ⟨S4096x1, .f32⟩
  | .hbm, ⟨46, _⟩ => ⟨S4096x1, .f32⟩
  | .hbm, ⟨47, _⟩ => ⟨S_, .f32⟩
  | .hbm, ⟨48, _⟩ => ⟨S4096, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .bf16⟩
  | .hbm, ⟨55, _⟩ => ⟨S1x4096x1024, .bf16⟩
  | .hbm, ⟨56, _⟩ => ⟨S1x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_6 : Ref sig .tc := ⟨.hbm, 44, rfl⟩
abbrev main_v31 : Ref sig .tc := ⟨.hbm, 45, rfl⟩
abbrev main_v32 : Ref sig .tc := ⟨.hbm, 46, rfl⟩
abbrev main_cst_7 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩

abbrev nD : Nat := 1
abbrev τ : Topo := Topo.v7x

variable {F : FTy → Type} [FloatOps F]
-- ==== Proof.Gm.Real.lean ====
/- The gradient of the spatial gating unit over the real numbers: the stages both programs compute, by row and column. -/
module

public import Idealize.ShloMosaic.PureOps
public import Idealize.ShloMosaic.Lib.Pointwise

@[expose] public section

set_option maxRecDepth 16384

noncomputable section

namespace Cert.Gm

open Idealize.ShloMosaic

/-! ## Literals -/

theorem w_zero : Ideal.ofBits .f32 0x00000000#32 = (0 : EReal) := by
  simp [Ideal.ofBits, Ideal.ieee]
theorem w_half : Ideal.ofBits .f32 0x3F000000#32 = ((1 / 2 : ℝ) : EReal) := by
  simp [Ideal.ofBits, Ideal.ieee]; norm_num; rw [← EReal.coe_mul]; norm_num
theorem w_nhalf : Ideal.ofBits .f32 0xBF000000#32 = ((-1 / 2 : ℝ) : EReal) := by
  simp [Ideal.ofBits, Ideal.ieee]; norm_num; rw [← EReal.coe_mul]; norm_num
theorem w_one : Ideal.ofBits .f32 0x3F800000#32 = ((1 : ℝ) : EReal) := by
  simp [Ideal.ofBits, Ideal.ieee]; norm_num; rw [← EReal.coe_mul]; norm_num
theorem w_none : Ideal.ofBits .f32 0xBF800000#32 = ((-1 : ℝ) : EReal) := by
  simp [Ideal.ofBits, Ideal.ieee]; norm_num; rw [← EReal.coe_mul]; norm_num
theorem w_two : Ideal.ofBits .f32 0x40000000#32 = ((2 : ℝ) : EReal) := by
  simp [Ideal.ofBits, Ideal.ieee]; norm_num; rw [← EReal.coe_mul]; norm_num
theorem w_1024 : Ideal.ofBits .f32 0x44800000#32 = ((1024 : ℝ) : EReal) := by
  simp [Ideal.ofBits, Ideal.ieee]; norm_num; rw [← EReal.coe_mul]; norm_num

/-- The literal added under the square roots. -/
def eps : ℝ := 8796093 / 8796093022208
theorem eps_pos : 0 < eps := by unfold eps; norm_num
theorem w_eps : Ideal.ofBits .f32 0x358637BD#32 = ((eps : ℝ) : EReal) := by
  simp [Ideal.ofBits, Ideal.ieee, eps]; norm_num; rw [← EReal.coe_mul]; norm_num

/-! ## Real operations -/

/-- The error function. -/
def erfR (r : ℝ) : ℝ := 2 / Real.sqrt Real.pi * ∫ t in (0 : ℝ)..r, Real.exp (-(t ^ 2))
theorem erf_real (r : ℝ) : Ideal.erf (r : EReal) = ((erfR r : ℝ) : EReal) := rfl

/-- 1/√2 and 1/√(2π). -/
def s2 : ℝ := (Real.sqrt 2)⁻¹
def s2p : ℝ := (Real.sqrt (2 * Real.pi))⁻¹

def ge (x : ℝ) : ℝ := 1 / 2 * x * (1 + erfR (x * s2))
def gd (x : ℝ) : ℝ := 1 / 2 * (1 + erfR (x * s2)) + x * (s2p * Real.exp (-1 / 2 * x * x))

theorem sum_real {n : ℕ} (f : Fin n → ℝ) : ∑ k, ((f k : ℝ) : EReal) = ((∑ k, f k : ℝ) : EReal) := by
  induction n with
  | zero => simp
  | succ n ih => rw [Fin.sum_univ_succ, Fin.sum_univ_succ, ih, EReal.coe_add]

theorem div_1024 (x : ℝ) : Ideal.div (x : EReal) ((1024 : ℝ) : EReal) = ((x * (1 / 1024) : ℝ) : EReal) := by
  rw [Ideal.div_coe (by norm_num), EReal.coe_mul]

theorem rsqrt_real {x : ℝ} (h : 0 < x) : Ideal.rsqrt (x : EReal) = (((Real.sqrt x)⁻¹ : ℝ) : EReal) := by
  rw [Ideal.rsqrt_coe, if_neg (not_lt.mpr h.le), if_neg h.ne']

/-! ## The stages. Rows and columns are natural numbers; `j / 128` is the group of column `j`, `r / 128` the chunk of row `r`. -/

structure D where
  u : ℕ → ℕ → ℝ
  v : ℕ → ℕ → ℝ
  dm : ℕ → ℕ → ℝ
  lg : ℕ → ℝ
  gg : ℕ → ℝ
  ws : ℕ → ℕ → ℕ → ℝ
  bs : ℕ → ℕ → ℝ

namespace D
variable (d : D)

def V (r j : ℕ) : ℝ := ge (d.v r j)
def U (r j : ℕ) : ℝ := ge (d.u r j)
def mu (r : ℕ) : ℝ := (∑ k : Fin 1024, d.V r k) * (1 / 1024)
def xc (r j : ℕ) : ℝ := d.V r j - d.mu r
def var (r : ℕ) : ℝ := (∑ k : Fin 1024, d.xc r k * d.xc r k) * (1 / 1024)
def rs (r : ℕ) : ℝ := (Real.sqrt (d.var r + eps))⁻¹
def vh (r j : ℕ) : ℝ := d.xc r j * d.rs r
def vl (r j : ℕ) : ℝ := d.vh r j * d.lg j
def mx (r j : ℕ) : ℝ := (∑ q : Fin 128, d.ws (j / 128) (r % 128) q * d.vl (r / 128 * 128 + q) j) + d.bs (j / 128) (r % 128)
def go (r j : ℕ) : ℝ := d.U r j * d.mx r j
def ms (r : ℕ) : ℝ := (∑ k : Fin 1024, d.go r k * d.go r k) * (1 / 1024)
def rr (r : ℕ) : ℝ := (Real.sqrt (d.ms r + eps))⁻¹
def gh (r j : ℕ) : ℝ := d.go r j * d.rr r
def dn (r j : ℕ) : ℝ := d.dm r j * d.gg j
def dg (r j : ℕ) : ℝ := d.rr r * (d.dn r j - d.gh r j * ((∑ k : Fin 1024, d.dn r k * d.gh r k) * (1 / 1024)))
def du (r j : ℕ) : ℝ := d.dg r j * d.mx r j
def dx (r j : ℕ) : ℝ := d.dg r j * d.U r j
def dl (r j : ℕ) : ℝ := ∑ q : Fin 128, d.ws (j / 128) q (r % 128) * d.dx (r / 128 * 128 + q) j
def dh (r j : ℕ) : ℝ := d.dl r j * d.lg j
def dv (r j : ℕ) : ℝ := d.rs r * (d.dh r j - (∑ k : Fin 1024, d.dh r k) * (1 / 1024)
  - d.vh r j * ((∑ k : Fin 1024, d.dh r k * d.vh r k) * (1 / 1024)))
/-- The two halves of the gradient of the projection. -/
def Du (r j : ℕ) : ℝ := d.du r j * gd (d.u r j)
def Dv (r j : ℕ) : ℝ := d.dv r j * gd (d.v r j)
/-- The gradients of the parameters. -/
def Dlg (j : ℕ) : ℝ := ∑ r : Fin 4096, d.dl r j * d.vh r j
def Dgg (j : ℕ) : ℝ := ∑ r : Fin 4096, d.dm r j * d.gh r j
def Dws (g p q : ℕ) : ℝ := ∑ n : Fin 32, ∑ k : Fin 128, d.dx (128 * n + p) (128 * g + k) * d.vl (128 * n + q) (128 * g + k)
def Dbs (g p : ℕ) : ℝ := ∑ k : Fin 128, ∑ n : Fin 32, d.dx (128 * n + p) (128 * g + k)

theorem var_nonneg (r : ℕ) : 0 ≤ d.var r :=
  mul_nonneg (Finset.sum_nonneg fun k _ => mul_self_nonneg _) (by norm_num)
theorem ms_nonneg (r : ℕ) : 0 ≤ d.ms r :=
  mul_nonneg (Finset.sum_nonneg fun k _ => mul_self_nonneg _) (by norm_num)
theorem var_pos (r : ℕ) : 0 < d.var r + eps := add_pos_of_nonneg_of_pos (d.var_nonneg r) eps_pos
theorem ms_pos (r : ℕ) : 0 < d.ms r + eps := add_pos_of_nonneg_of_pos (d.ms_nonneg r) eps_pos
theorem rs_pos (r : ℕ) : 0 < d.rs r := inv_pos.mpr (Real.sqrt_pos.mpr (d.var_pos r))
theorem rr_pos (r : ℕ) : 0 < d.rr r := inv_pos.mpr (Real.sqrt_pos.mpr (d.ms_pos r))

end D

end Cert.Gm

end
-- ==== Proof.Gm.Data.lean ====
module

public import proofs.«01_k».proof.Proof.Gm.Real
public import Idealize.ShloMosaic.Lib.Pipeline.ValueKit

@[expose] public section

set_option maxRecDepth 16384

noncomputable section

/- Real arrays by natural coordinates, and the gradient's data read off the six arguments. -/

namespace Cert.Gm

open Idealize.ShloMosaic

def at1 {n0 : ℕ} (a : (⟨1, ![n0]⟩ : Shape).Idx → EReal) (i : ℕ) : ℝ :=
  if h : i < n0 then (a (ix1 ⟨i, h⟩)).toReal else 0
def at2 {n0 n1 : ℕ} (a : (⟨2, ![n0, n1]⟩ : Shape).Idx → EReal) (i j : ℕ) : ℝ :=
  if h : i < n0 ∧ j < n1 then (a (ix2 ⟨i, h.1⟩ ⟨j, h.2⟩)).toReal else 0
def at3 {n0 n1 n2 : ℕ} (a : (⟨3, ![n0, n1, n2]⟩ : Shape).Idx → EReal) (i j k : ℕ) : ℝ :=
  if h : i < n0 ∧ j < n1 ∧ k < n2 then (a (ix3 ⟨i, h.1⟩ ⟨j, h.2.1⟩ ⟨k, h.2.2⟩)).toReal else 0

/-- Every element is a real number. -/
def IsRe {s : Shape} (a : s.Idx → EReal) : Prop := ∀ i, a i = ((a i).toReal : ℝ)

theorem at1_eq {n0 : ℕ} {a : (⟨1, ![n0]⟩ : Shape).Idx → EReal} (ha : IsRe a) (i : Fin n0) (x : ℕ) (hx : (i : ℕ) = x) :
    a (ix1 i) = ((at1 a x : ℝ) : EReal) := by
  subst hx; unfold at1; rw [dif_pos i.isLt]; exact ha _
theorem at2_eq {n0 n1 : ℕ} {a : (⟨2, ![n0, n1]⟩ : Shape).Idx → EReal} (ha : IsRe a) (i : Fin n0) (j : Fin n1) (x y : ℕ)
    (hx : (i : ℕ) = x) (hy : (j : ℕ) = y) : a (ix2 i j) = ((at2 a x y : ℝ) : EReal) := by
  subst hx hy; unfold at2; rw [dif_pos ⟨i.isLt, j.isLt⟩]; exact ha _
theorem at3_eq {n0 n1 n2 : ℕ} {a : (⟨3, ![n0, n1, n2]⟩ : Shape).Idx → EReal} (ha : IsRe a) (i : Fin n0) (j : Fin n1) (k : Fin n2)
    (x y z : ℕ) (hx : (i : ℕ) = x) (hy : (j : ℕ) = y) (hz : (k : ℕ) = z) : a (ix3 i j k) = ((at3 a x y z : ℝ) : EReal) := by
  subst hx hy hz; unfold at3; rw [dif_pos ⟨i.isLt, j.isLt, k.isLt⟩]; exact ha _

/-- The data of the gradient: `proj`'s last two column blocks, `dmix`'s second, the gain of the inner norm, the mixing weights
    and their bias, the gain of the outer norm. -/
def dat (a0 : (⟨2, ![4096, 5120]⟩ : Shape).Idx → EReal) (a1 : (⟨2, ![4096, 2048]⟩ : Shape).Idx → EReal)
    (a2 : (⟨1, ![1024]⟩ : Shape).Idx → EReal) (a3 : (⟨3, ![8, 128, 128]⟩ : Shape).Idx → EReal)
    (a4 : (⟨2, ![8, 128]⟩ : Shape).Idx → EReal) (a5 : (⟨1, ![1024]⟩ : Shape).Idx → EReal) : D where
  u r j := at2 a0 r (3072 + j)
  v r j := at2 a0 r (4096 + j)
  dm r j := at2 a1 r (1024 + j)
  lg := at1 a2
  gg := at1 a5
  ws := at3 a3
  bs := at2 a4

end Cert.Gm

end
-- ==== Proof.Gm.Kern.lean ====
module

public import proofs.«01_k».proof.Proof.Gm.Real
public import proofs.«01_k».proof.Proof.Gen.KernelIdeal.Frame
public import Idealize.ShloMosaic.Lib.Pipeline.ValueKit

@[expose] public section

set_option maxRecDepth 16384

noncomputable section

open Idealize.ShloMosaic Idealize.ShloMosaic.TcCoe Idealize.SL.Sem

namespace Cert.Gm.K

open Cert.KernelIdeal Cert.KernelIdeal.Gen

theorem k_s2 : Named.named (F := Ideal) (φ := .f32) κ "inv_sqrt2" 0x3F3504F3#32 = ((s2 : ℝ) : EReal) :=
  IdealRules.named_const.ideal_named_scalar _ _ _ _ rfl
theorem k_s2p : Named.named (F := Ideal) (φ := .f32) κ "inv_sqrt2pi" 0x3ECC422A#32 = ((s2p : ℝ) : EReal) :=
  IdealRules.named_const.ideal_named_scalar _ _ _ _ rfl

variable (d : D) (R : ℕ)

/-- What the windows of one grid point hold: rows `R`, `R + 1`, … of the arrays. -/
structure In (x0 x1 x2 : FVec Ideal S256x1024 .bf16) (x3 : FVec Ideal S1x1024 .f32) (x4 x5 : FVec Ideal S8x128x128 .bf16)
    (x6 : FVec Ideal S128x1024 .f32) (x7 : FVec Ideal S1x1024 .f32) : Prop where
  hR : R % 128 = 0
  h0 : ∀ (r : Fin 256) (j : Fin 1024), x0 (ix2 r j) = ((d.u (R + r) j : ℝ) : EReal)
  h1 : ∀ (r : Fin 256) (j : Fin 1024), x1 (ix2 r j) = ((d.v (R + r) j : ℝ) : EReal)
  h2 : ∀ (r : Fin 256) (j : Fin 1024), x2 (ix2 r j) = ((d.dm (R + r) j : ℝ) : EReal)
  h3 : ∀ (j : Fin 1024), x3 (ix2 0 j) = ((d.lg j : ℝ) : EReal)
  h4 : ∀ (g : Fin 8) (p q : Fin 128), x4 (ix3 g p q) = ((d.ws g p q : ℝ) : EReal)
  h5 : ∀ (g : Fin 8) (p q : Fin 128), x5 (ix3 g p q) = ((d.ws g q p : ℝ) : EReal)
  h6 : ∀ (p : Fin 128) (j : Fin 1024), x6 (ix2 p j) = ((d.bs (j / 128) p : ℝ) : EReal)
  h7 : ∀ (j : Fin 1024), x7 (ix2 0 j) = ((d.gg j : ℝ) : EReal)

theorem pay18 (x : FVec Ideal S256x1024 .bf16) (hx : ∀ (r : Fin 256) (j : Fin 1024), x (ix2 r j) = ((d.u (R + r) j : ℝ) : EReal))
    (r : Fin 256) (j : Fin 1024) : k0_pay18 (F := Ideal) x (ix2 r j) = ((d.U (R + r) j : ℝ) : EReal) := by
  pointwise [k0_pay18, k0_pay14]
  simp only [hx, w_half, k_s2, ← EReal.coe_mul, Ideal.erf_def, erf_real, ← EReal.coe_one, ← EReal.coe_add]
  rfl

theorem pay19 (x : FVec Ideal S256x1024 .bf16) (hx : ∀ (r : Fin 256) (j : Fin 1024), x (ix2 r j) = ((d.v (R + r) j : ℝ) : EReal))
    (r : Fin 256) (j : Fin 1024) : k0_pay19 (F := Ideal) x (ix2 r j) = ((d.xc (R + r) j : ℝ) : EReal) := by
  pointwise [k0_pay19, k0_pay15]
  simp only [hx, w_half, w_1024, k_s2, ← EReal.coe_mul, Ideal.erf_def, erf_real, ← EReal.coe_one, ← EReal.coe_add, sum_real, div_1024, ← EReal.coe_sub]
  rfl

theorem pay20 (x : FVec Ideal S256x1024 .bf16) (hx : ∀ (r : Fin 256) (j : Fin 1024), x (ix2 r j) = ((d.v (R + r) j : ℝ) : EReal))
    (r : Fin 256) : k0_pay20 (F := Ideal) x (ix2 r 0) = ((d.var (R + r) : ℝ) : EReal) := by
  pointwise [k0_pay20]
  simp only [pay19 d R x hx, w_1024, ← EReal.coe_mul, sum_real, div_1024]
  rfl

/-! One chunk's products, at the row offset `e` of the chunk inside the point's rows. -/

def cp (e p J : ℕ) : ℝ := ∑ q : Fin 128, d.ws (J / 128) p q * d.vl (R + (e + q)) J
def dp (e p J : ℕ) : ℝ := ∑ q : Fin 128, d.ws (J / 128) q p * d.dx (R + (e + q)) J
def wsp (e g p q : ℕ) : ℝ := ∑ k : Fin 128, d.dx (R + (e + p)) (128 * g + k) * d.vl (R + (e + q)) (128 * g + k)

theorem mx_at (hR : R % 128 = 0) (e p J : ℕ) (he : e % 128 = 0) (hp : p < 128) :
    d.mx (R + (e + p)) J = cp d R e p J + d.bs (J / 128) p := by
  have h1 : (R + (e + p)) % 128 = p := by omega
  have h2 : (R + (e + p)) / 128 * 128 = R + e := by omega
  simp only [D.mx, cp, h1, h2, Nat.add_assoc]

theorem dl_at (hR : R % 128 = 0) (e p J : ℕ) (he : e % 128 = 0) (hp : p < 128) :
    d.dl (R + (e + p)) J = dp d R e p J := by
  have h1 : (R + (e + p)) % 128 = p := by omega
  have h2 : (R + (e + p)) / 128 * 128 = R + e := by omega
  simp only [D.dl, dp, h1, h2, Nat.add_assoc]

/-! What the pieces a grid point stores are blocks of. -/

def G8 (y : S256x2048.Idx) : Elt Ideal .bf16 :=
  ((if (y 1).val < 1024 then d.Du (R + (y 0).val) (y 1).val else d.Dv (R + (y 0).val) ((y 1).val - 1024) : ℝ) : EReal)
theorem G8_U (r : Fin 256) (j : Fin 1024) (y : S256x2048.Idx) (h0 : (y 0).val = 0 + r.val) (h1 : (y 1).val = 0 + j.val) :
    G8 d R y = ((d.Du (R + r) j : ℝ) : EReal) := by
  rw [Nat.zero_add] at h0 h1
  have := j.isLt
  rw [G8, h0, h1, if_pos this]
theorem G8_V (r : Fin 256) (j : Fin 1024) (y : S256x2048.Idx) (h0 : (y 0).val = 0 + r.val) (h1 : (y 1).val = 1024 + j.val) :
    G8 d R y = ((d.Dv (R + r) j : ℝ) : EReal) := by
  rw [Nat.zero_add] at h0
  have := j.isLt
  rw [G8, h0, h1, if_neg (by omega), Nat.add_sub_cancel_left]

def G10A (y : S8x128x128.Idx) : Elt Ideal .f32 :=
  ((wsp d R 0 (y 0).val (y 1).val (y 2).val + wsp d R 128 (y 0).val (y 1).val (y 2).val : ℝ) : EReal)
def G10 (x : FVec Ideal S8x128x128 .f32) (y : S8x128x128.Idx) : Elt Ideal .f32 := x y + G10A d R y
theorem G10A_at (g : Fin 8) (p q : Fin 128) (y : S8x128x128.Idx) (h0 : (y 0).val = g.val + 0) (h1 : (y 1).val = 0 + p.val) (h2 : (y 2).val = 0 + q.val) :
    ((wsp d R 0 g p q + wsp d R 128 g p q : ℝ) : EReal) = G10A d R y := by
  rw [Nat.zero_add] at h1 h2
  rw [Nat.add_zero] at h0
  rw [G10A, h0, h1, h2]
theorem G10_at (x : FVec Ideal S8x128x128 .f32) (g : Fin 8) (p q : Fin 128) (y : S8x128x128.Idx)
    (h0 : (y 0).val = g.val + 0) (h1 : (y 1).val = 0 + p.val) (h2 : (y 2).val = 0 + q.val) :
    x (ix3 g p q) + ((wsp d R 0 g p q + wsp d R 128 g p q : ℝ) : EReal) = G10 d R x y := by
  rw [G10, G10A_at d R g p q y h0 h1 h2]
  rw [Nat.zero_add] at h1 h2
  rw [Nat.add_zero] at h0
  congr 2
  rw [eq_ix3 y]
  congr 1 <;> apply Fin.ext <;> first | exact h0.symm | exact h1.symm | exact h2.symm

def G11 (x : FVec Ideal S128x1024 .f32) (y : S8x128.Idx) : Elt Ideal .f32 :=
  ∑ k : Fin 128, (x (ix2 (y 1) ⟨128 * (y 0).val + k, by have h : (y 0).val < 8 := (y 0).isLt; have := k.isLt; omega⟩)
    + ((d.dx (R + (y 1).val) (128 * (y 0).val + k) + d.dx (R + (128 + (y 1).val)) (128 * (y 0).val + k) : ℝ) : EReal))
theorem G11_at (x : FVec Ideal S128x1024 .f32) (g : Fin 8) (p : Fin 128) (y : S8x128.Idx)
    (h0 : (y 0).val = g.val + 0) (h1 : (y 1).val = 0 + p.val) :
    (∑ k : Fin 128, (x (ix2 p ⟨128 * g.val + k, by omega⟩) + ((d.dx (R + p) (128 * g + k) + d.dx (R + (128 + p)) (128 * g + k) : ℝ) : EReal)))
      = G11 d R x y := by
  rw [Nat.zero_add] at h1
  rw [Nat.add_zero] at h0
  have e0 : y 0 = g := Fin.ext h0
  have e1 : y 1 = p := Fin.ext h1
  have e : y = ix2 g p := by rw [eq_ix2 y, e0, e1]
  subst e
  rfl

theorem ex3 (x : S1x128x128.Idx) : ∃ p q : Fin 128, x = ix3 0 p q :=
  ⟨x 1, x 2, (eq_ix3 x).trans (by rw [show x 0 = (0 : Fin 1) from Subsingleton.elim (α := Fin 1) _ _])⟩
theorem ex2 (x : S1x128.Idx) : ∃ p : Fin 128, x = ix2 0 p :=
  ⟨x 1, (eq_ix2 x).trans (by rw [show x 0 = (0 : Fin 1) from Subsingleton.elim (α := Fin 1) _ _])⟩

end Cert.Gm.K

end
-- ==== Proof.Gm.Grid.lean ====
module

public import proofs.«01_k».proof.Proof.Gm.Data
public import proofs.«01_k».proof.Proof.Gm.Kern
public import proofs.«01_k».proof.Proof.Gen.KernelIdeal.Frame
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

/- The windows of each grid point hold rows 256 t, 256 t + 1, … of the arguments. -/

namespace Cert.Gm.K

open Cert.KernelIdeal Cert.KernelIdeal.Gen

theorem idx : ∀ t : Fin cfg0.N,
    win0_0.index t (0 : Fin 2) = t.val ∧ win0_0.index t (1 : Fin 2) = 3
    ∧ win0_1.index t (0 : Fin 2) = t.val ∧ win0_1.index t (1 : Fin 2) = 4
    ∧ win0_2.index t (0 : Fin 2) = t.val ∧ win0_2.index t (1 : Fin 2) = 1
    ∧ win0_3.index t (0 : Fin 2) = 0 ∧ win0_3.index t (1 : Fin 2) = 0
    ∧ win0_4.index t (0 : Fin 3) = 0 ∧ win0_4.index t (1 : Fin 3) = 0 ∧ win0_4.index t (2 : Fin 3) = 0
    ∧ win0_5.index t (0 : Fin 3) = 0 ∧ win0_5.index t (1 : Fin 3) = 0 ∧ win0_5.index t (2 : Fin 3) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

theorem t_lt (t : Fin cfg0.N) : t.val < 16 := lt_of_lt_of_eq t.isLt (by decide)

variable (m : (l : Loc nD τ sig) → Buf (Elt Ideal) l) (c : Dev nD)

theorem b0 (t : Fin cfg0.N) (r : Fin 256) (j : Fin 1024) :
    iblk m c 0 t (ix2 r j) = m ((c : Thread nD τ).loc main_arg0)
      (ix2 ⟨256 * t.val + r.val, by have := t_lt t; omega⟩ ⟨3072 + j.val, by omega⟩) := by
  blk_ext [iblk, V, idx t]
theorem b1 (t : Fin cfg0.N) (r : Fin 256) (j : Fin 1024) :
    iblk m c 1 t (ix2 r j) = m ((c : Thread nD τ).loc main_arg0)
      (ix2 ⟨256 * t.val + r.val, by have := t_lt t; omega⟩ ⟨4096 + j.val, by omega⟩) := by
  blk_ext [iblk, V, idx t]
theorem b2 (t : Fin cfg0.N) (r : Fin 256) (j : Fin 1024) :
    iblk m c 2 t (ix2 r j) = m ((c : Thread nD τ).loc main_arg1)
      (ix2 ⟨256 * t.val + r.val, by have := t_lt t; omega⟩ ⟨1024 + j.val, by omega⟩) := by
  blk_ext [iblk, V, idx t]
theorem b3 (t : Fin cfg0.N) (j : Fin 1024) :
    iblk m c 3 t (ix2 0 j) = m ((c : Thread nD τ).loc main_arg2) (ix1 j) := by
  have e : iblk m c 3 t (ix2 0 j) = V m c main_v6 (ix2 0 j) := by blk_ext [iblk, idx t]
  rw [e]; entry_read; pointwise
theorem b4 (t : Fin cfg0.N) (g : Fin 8) (p q : Fin 128) :
    iblk m c 4 t (ix3 g p q) = m ((c : Thread nD τ).loc main_arg3) (ix3 g p q) := by
  have e : iblk m c 4 t (ix3 g p q) = V m c main_v0 (ix3 g p q) := by blk_ext [iblk, idx t]
  rw [e]; entry_read; pointwise
theorem b5 (t : Fin cfg0.N) (g : Fin 8) (p q : Fin 128) :
    iblk m c 5 t (ix3 g p q) = m ((c : Thread nD τ).loc main_arg3) (ix3 g q p) := by
  have e : iblk m c 5 t (ix3 g p q) = V m c main_v5 (ix3 g p q) := by blk_ext [iblk, idx t]
  rw [e]; entry_read; pointwise
theorem b6 (t : Fin cfg0.N) (p : Fin 128) (j : Fin 1024) :
    iblk m c 6 t (ix2 p j) = m ((c : Thread nD τ).loc main_arg4) (ix2 ⟨j.val / 128, by omega⟩ p) := by
  have e : iblk m c 6 t (ix2 p j) = V m c main_v3 (ix2 p j) := by blk_ext [iblk, idx t]
  rw [e]; entry_read; pointwise
theorem b7 (t : Fin cfg0.N) (j : Fin 1024) :
    iblk m c 7 t (ix2 0 j) = m ((c : Thread nD τ).loc main_arg5) (ix1 j) := by
  have e : iblk m c 7 t (ix2 0 j) = V m c main_v7 (ix2 0 j) := by blk_ext [iblk, idx t]
  rw [e]; entry_read; pointwise

/-- The gradient's data at core `c`'s arguments. -/
abbrev dOf : D := dat (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5))

structure Re6 : Prop where
  a0 : IsRe (s := S4096x5120) (m ((c : Thread nD τ).loc main_arg0))
  a1 : IsRe (s := S4096x2048) (m ((c : Thread nD τ).loc main_arg1))
  a2 : IsRe (s := S1024) (m ((c : Thread nD τ).loc main_arg2))
  a3 : IsRe (s := S8x128x128) (m ((c : Thread nD τ).loc main_arg3))
  a4 : IsRe (s := S8x128) (m ((c : Thread nD τ).loc main_arg4))
  a5 : IsRe (s := S1024) (m ((c : Thread nD τ).loc main_arg5))

theorem in_at (h : Re6 m c) (t : Fin cfg0.N) : In (dOf m c) (256 * t.val) (iblk m c 0 t) (iblk m c 1 t) (iblk m c 2 t) (iblk m c 3 t)
    (iblk m c 4 t) (iblk m c 5 t) (iblk m c 6 t) (iblk m c 7 t) where
  hR := by omega
  h0 r j := (b0 m c t r j).trans (at2_eq h.a0 _ _ _ _ rfl rfl)
  h1 r j := (b1 m c t r j).trans (at2_eq h.a0 _ _ _ _ rfl rfl)
  h2 r j := (b2 m c t r j).trans (at2_eq h.a1 _ _ _ _ rfl rfl)
  h3 j := (b3 m c t j).trans (at1_eq h.a2 _ _ rfl)
  h4 g p q := (b4 m c t g p q).trans (at3_eq h.a3 _ _ _ _ _ _ rfl rfl rfl)
  h5 g p q := (b5 m c t g p q).trans (at3_eq h.a3 _ _ _ _ _ _ rfl rfl rfl)
  h6 p j := (b6 m c t p j).trans (at2_eq h.a4 _ _ _ _ rfl rfl)
  h7 j := (b7 m c t j).trans (at1_eq h.a5 _ _ rfl)

end Cert.Gm.K

end
-- ==== Proof.Gm.Fin.lean ====
module

public import proofs.«01_k».proof.Defs
public import proofs.«01_k».proof.Proof.Gm.Grid

@[expose] public section

set_option maxRecDepth 16384

noncomputable section

open Idealize.ShloMosaic Idealize.ShloMosaic.TcCoe Idealize.SL.Sem

/- The precondition says that every element of the six arguments is a real. -/

namespace Cert.Gm

theorem re_of_lt {x : EReal} (h : max x (-x) < ⊤) : x = (x.toReal : ℝ) := by
  refine (EReal.coe_toReal ?_ ?_).symm
  · rintro rfl; simp at h
  · rintro rfl; simp at h

theorem bit_one {p : Prop} [Decidable p] (h : BitVec.ofBool (decide p) = 1#1) : p := by
  by_contra hp
  rw [decide_eq_false hp] at h
  exact absurd h (by decide)

theorem top16 : Ideal.ofBits .bf16 0x7F80#16 = ⊤ := by simp [Ideal.ofBits, Ideal.ieee]
theorem top32 : Ideal.ofBits .f32 0x7F800000#32 = ⊤ := by simp [Ideal.ofBits, Ideal.ieee]

theorem isRe_b {s : Shape} (hb : Cert.Pre_finite.S_.BroadcastsInDim s (![] : Fin 0 → Fin s.rank)) (x : FVec Ideal s .bf16)
    (h : cmpf .olt (Host.absf x) (broadcastInDim s ![] hb (constant (F := Ideal) Cert.Pre_finite.S_ .bf16 0x7F80#16)) = fun _ => 1#1) :
    IsRe (s := s) x := by
  intro i
  have h1 : BitVec.ofBool (decide (max (x i) (-(x i)) < Ideal.ofBits .bf16 0x7F80#16)) = 1#1 := congrFun h i
  rw [top16] at h1
  exact re_of_lt (bit_one h1)

theorem isRe_f {s : Shape} (hb : Cert.Pre_finite.S_.BroadcastsInDim s (![] : Fin 0 → Fin s.rank)) (x : FVec Ideal s .f32)
    (h : cmpf .olt (Host.absf x) (broadcastInDim s ![] hb (constant (F := Ideal) Cert.Pre_finite.S_ .f32 0x7F800000#32)) = fun _ => 1#1) :
    IsRe (s := s) x := by
  intro i
  have h1 : BitVec.ofBool (decide (max (x i) (-(x i)) < Ideal.ofBits .f32 0x7F800000#32)) = 1#1 := congrFun h i
  rw [top32] at h1
  exact re_of_lt (bit_one h1)

instance preFacts : Cert.Pre_finite.Facts where
  bcast_S_S4096x5120 := by decide
  bcast_S_S4096x2048 := by decide
  bcast_S_S1024 := by decide
  bcast_S_S8x128x128 := by decide
  bcast_S_S8x128 := by decide

theorem re6 {m : (ℓ : Loc Cert.KernelIdeal.nD Cert.KernelIdeal.τ Cert.KernelIdeal.sig) → Buf (Elt Ideal) ℓ}
    (h : Cert.Pre_KernelIdeal_finite m) (c : Dev Cert.KernelIdeal.nD) : K.Re6 m c := by
  obtain ⟨h0, h1, h2, h3, h4, h5⟩ := h c
  exact ⟨isRe_b _ _ h0, isRe_b _ _ h1, isRe_f _ _ h2, isRe_f _ _ h3, isRe_f _ _ h4, isRe_f _ _ h5⟩

end Cert.Gm

end
-- ==== Proof.Gm.WordsA.lean ====
module

public import proofs.«01_k».proof.Proof.Gm.Kern
public import proofs.«01_k».proof.Proof.Gen.KernelIdeal.Frame
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Gm.A

open Cert.KernelIdeal Cert.KernelIdeal.Gen Cert.Gm.K Cert.KernelIdeal.Gen.kernelRun0_A

variable (c : Dev nD) {d : D} {R : ℕ}
  {a1 : Memref sig .tc .vmem S256x1024 .bf16} (b1 : a1.IsWhole) {a2 : Memref sig .tc .vmem S256x1024 .bf16} (b2 : a2.IsWhole)
  {a3 : Memref sig .tc .vmem S256x1024 .bf16} (b3 : a3.IsWhole) {a4 : Memref sig .tc .vmem S1x1024 .f32} (b4 : a4.IsWhole)
  {a5 : Memref sig .tc .vmem S8x128x128 .bf16} (b5 : a5.IsWhole) {a6 : Memref sig .tc .vmem S8x128x128 .bf16} (b6 : a6.IsWhole)
  {a7 : Memref sig .tc .vmem S128x1024 .f32} (b7 : a7.IsWhole) {a8 : Memref sig .tc .vmem S1x1024 .f32} (b8 : a8.IsWhole)
  {x0 x1 x2 : FVec Ideal S256x1024 .bf16} {x3 : FVec Ideal S1x1024 .f32} {x4 x5 : FVec Ideal S8x128x128 .bf16}
  {x6 : FVec Ideal S128x1024 .f32} {x7 : FVec Ideal S1x1024 .f32} (h : In d R x0 x1 x2 x3 x4 x5 x6 x7)

include c d R b1 b2 b3 b4 b5 b6 b7 b8 h

theorem r_0 (r : Fin 256) (j : Fin 1024) : sl.r (F := Ideal) c a1 b1 x0 (ix2 r j)
    = ((d.u (R + r) j : ℝ) : EReal) := by
  unfold sl.r
  simp (disch := decide) only [View.readAt_eq_ld, Memref.IsWhole.read_unread, View.ld_unit_lit']
  pointwise [k0_pay14]
  exact h.h0 r j

theorem r_1 (r : Fin 256) (j : Fin 1024) : sl.r_1 (F := Ideal) c a2 b2 x1 (ix2 r j)
    = ((d.v (R + r) j : ℝ) : EReal) := by
  unfold sl.r_1
  simp (disch := decide) only [View.readAt_eq_ld, Memref.IsWhole.read_unread, View.ld_unit_lit']
  pointwise [k0_pay15]
  exact h.h1 r j

theorem r_4 (r : Fin 256) (j : Fin 1024) : sl.r_4 (F := Ideal) c a1 b1 x0 (ix2 r j)
    = ((d.U (R + r) j : ℝ) : EReal) := by
  unfold sl.r_4
  simp (disch := decide) only [View.readAt_eq_ld, Memref.IsWhole.read_unread, View.ld_unit_lit']
  exact pay18 d R x0 h.h0 r j

theorem r_5 (r : Fin 256) (j : Fin 1024) : sl.r_5 (F := Ideal) c a2 b2 x1 (ix2 r j)
    = ((d.xc (R + r) j : ℝ) : EReal) := by
  unfold sl.r_5
  simp (disch := decide) only [View.readAt_eq_ld, Memref.IsWhole.read_unread, View.ld_unit_lit']
  exact pay19 d R x1 h.h1 r j

theorem r_6 (r : Fin 256) : sl.r_6 (F := Ideal) c a2 b2 x1 (ix2 r 0)
    = ((d.var (R + r) : ℝ) : EReal) := by
  unfold sl.r_6
  simp (disch := decide) only [View.readAt_eq_ld, Memref.IsWhole.read_unread, View.ld_unit_lit']
  exact pay20 d R x1 h.h1 r

theorem r_2 (j : Fin 1024) : sl.r_2 (F := Ideal) c a4 b4 x3 (ix2 0 j)
    = ((d.lg j : ℝ) : EReal) := by
  unfold sl.r_2
  simp (disch := decide) only [View.readAt_eq_ld, Memref.IsWhole.read_unread, View.ld_unit_lit']
  pointwise [k0_pay16]
  exact h.h3 j

theorem r_3 (p : Fin 128) (j : Fin 1024) : sl.r_3 (F := Ideal) c a7 b7 x6 (ix2 p j)
    = ((d.bs (j / 128) p : ℝ) : EReal) := by
  unfold sl.r_3
  simp (disch := decide) only [View.readAt_eq_ld, Memref.IsWhole.read_unread, View.ld_unit_lit']
  pointwise [k0_pay17]
  exact h.h6 p j

theorem v40 (r : Fin 256) : sl.v40 (F := Ideal) c a2 b2 x1 (ix2 r 0)
    = ((d.rs (R + r) : ℝ) : EReal) := by
  pointwise [sl.v40, sl.v39, sl.v38, sl.cst_17]
  simp only [r_6 c b1 b2 b3 b4 b5 b6 b7 b8 h, w_eps, ← EReal.coe_add, Ideal.rsqrt_def, rsqrt_real (d.var_pos _)]
  rfl

theorem v42 (r : Fin 256) (j : Fin 1024) : sl.v42 (F := Ideal) c a2 b2 x1 (ix2 r j)
    = ((d.vh (R + r) j : ℝ) : EReal) := by
  pointwise [sl.v42, sl.v41]
  simp only [r_5 c b1 b2 b3 b4 b5 b6 b7 b8 h, v40 c b1 b2 b3 b4 b5 b6 b7 b8 h, ← EReal.coe_mul, ← EReal.coe_add, ← EReal.coe_sub, sum_real]
  rfl

theorem v45 (r : Fin 256) (j : Fin 1024) : sl.v45 (F := Ideal) c a2 b2 a4 b4 x1 x3 (ix2 r j)
    = ((d.vl (R + r) j : ℝ) : EReal) := by
  pointwise [sl.v45, sl.v44, sl.v43]
  simp only [r_2 c b1 b2 b3 b4 b5 b6 b7 b8 h, v42 c b1 b2 b3 b4 b5 b6 b7 b8 h, ← EReal.coe_mul, ← EReal.coe_add, ← EReal.coe_sub, sum_real]
  rfl

theorem v47 (p q : Fin 128) : sl.v47 (F := Ideal) c a5 b5 x4 (ix2 p q)
    = ((d.ws 0 p q : ℝ) : EReal) := by
  unfold sl.v47
  simp (disch := decide) only [View.readAt_eq_ld, Memref.IsWhole.read_unread]
  pointwise []
  exact h.h4 0 p q

theorem v49 (p j : Fin 128) (J : ℕ) (hJ : J = 0 + j) : sl.v49 (F := Ideal) c a2 b2 a4 b4 a5 b5 x1 x3 x4 (ix2 p j)
    = ((cp d R 0 p J : ℝ) : EReal) := by
  have hg : J / 128 = 0 := by omega
  pointwise [sl.v49, sl.v48, sl.cst_21]
  simp only [v47 c b1 b2 b3 b4 b5 b6 b7 b8 h, v45 c b1 b2 b3 b4 b5 b6 b7 b8 h, ← EReal.coe_mul, ← EReal.coe_add, ← EReal.coe_sub, sum_real]
  simp only [cp, hg]
  subst hJ
  first | (simp only [Nat.zero_add]; done) | rfl

theorem v83 (p j : Fin 128) (J : ℕ) (hJ : J = 0 + j) : sl.v83 (F := Ideal) c a2 b2 a4 b4 a5 b5 x1 x3 x4 (ix2 p j)
    = ((cp d R 128 p J : ℝ) : EReal) := by
  have hg : J / 128 = 0 := by omega
  pointwise [sl.v83, sl.v82, sl.cst_21]
  simp only [v47 c b1 b2 b3 b4 b5 b6 b7 b8 h, v45 c b1 b2 b3 b4 b5 b6 b7 b8 h, ← EReal.coe_mul, ← EReal.coe_add, ← EReal.coe_sub, sum_real]
  simp only [cp, hg]
  subst hJ
  first | (simp only [Nat.zero_add]; done) | rfl

theorem v51 (p q : Fin 128) : sl.v51 (F := Ideal) c a5 b5 x4 (ix2 p q)
    = ((d.ws 1 p q : ℝ) : EReal) := by
  unfold sl.v51
  simp (disch := decide) only [View.readAt_eq_ld, Memref.IsWhole.read_unread]
  pointwise []
  exact h.h4 1 p q

theorem v53 (p j : Fin 128) (J : ℕ) (hJ : J = 128 + j) : sl.v53 (F := Ideal) c a2 b2 a4 b4 a5 b5 x1 x3 x4 (ix2 p j)
    = ((cp d R 0 p J : ℝ) : EReal) := by
  have hg : J / 128 = 1 := by omega
  pointwise [sl.v53, sl.v52, sl.cst_21]
  simp only [v51 c b1 b2 b3 b4 b5 b6 b7 b8 h, v45 c b1 b2 b3 b4 b5 b6 b7 b8 h, ← EReal.coe_mul, ← EReal.coe_add, ← EReal.coe_sub, sum_real]
  simp only [cp, hg]
  subst hJ
  first | (simp only [Nat.zero_add]; done) | rfl

theorem v87 (p j : Fin 128) (J : ℕ) (hJ : J = 128 + j) : sl.v87 (F := Ideal) c a2 b2 a4 b4 a5 b5 x1 x3 x4 (ix2 p j)
    = ((cp d R 128 p J : ℝ) : EReal) := by
  have hg : J / 128 = 1 := by omega
  pointwise [sl.v87, sl.v86, sl.cst_21]
  simp only [v51 c b1 b2 b3 b4 b5 b6 b7 b8 h, v45 c b1 b2 b3 b4 b5 b6 b7 b8 h, ← EReal.coe_mul, ← EReal.coe_add, ← EReal.coe_sub, sum_real]
  simp only [cp, hg]
  subst hJ
  first | (simp only [Nat.zero_add]; done) | rfl

theorem v55 (p q : Fin 128) : sl.v55 (F := Ideal) c a5 b5 x4 (ix2 p q)
    = ((d.ws 2 p q : ℝ) : EReal) := by
  unfold sl.v55
  simp (disch := decide) only [View.readAt_eq_ld, Memref.IsWhole.read_unread]
  pointwise []
  exact h.h4 2 p q

theorem v57 (p j : Fin 128) (J : ℕ) (hJ : J = 256 + j) : sl.v57 (F := Ideal) c a2 b2 a4 b4 a5 b5 x1 x3 x4 (ix2 p j)
    = ((cp d R 0 p J : ℝ) : EReal) := by
  have hg : J / 128 = 2 := by omega
  pointwise [sl.v57, sl.v56, sl.cst_21]
  simp only [v55 c b1 b2 b3 b4 b5 b6 b7 b8 h, v45 c b1 b2 b3 b4 b5 b6 b7 b8 h, ← EReal.coe_mul, ← EReal.coe_add, ← EReal.coe_sub, sum_real]
  simp only [cp, hg]
  subst hJ
  first | (simp only [Nat.zero_add]; done) | rfl

theorem v91 (p j : Fin 128) (J : ℕ) (hJ : J = 256 + j) : sl.v91 (F := Ideal) c a2 b2 a4 b4 a5 b5 x1 x3 x4 (ix2 p j)
    = ((cp d R 128 p J : ℝ) : EReal) := by
  have hg : J / 128 = 2 := by omega
  pointwise [sl.v91, sl.v90, sl.cst_21]
  simp only [v55 c b1 b2 b3 b4 b5 b6 b7 b8 h, v45 c b1 b2 b3 b4 b5 b6 b7 b8 h, ← EReal.coe_mul, ← EReal.coe_add, ← EReal.coe_sub, sum_real]
  simp only [cp, hg]
  subst hJ
  first | (simp only [Nat.zero_add]; done) | rfl

theorem v59 (p q : Fin 128) : sl.v59 (F := Ideal) c a5 b5 x4 (ix2 p q)
    = ((d.ws 3 p q : ℝ) : EReal) := by
  unfold sl.v59
  simp (disch := decide) only [View.readAt_eq_ld, Memref.IsWhole.read_unread]
  pointwise []
  exact h.h4 3 p q

theorem v61 (p j : Fin 128) (J : ℕ) (hJ : J = 384 + j) : sl.v61 (F := Ideal) c a2 b2 a4 b4 a5 b5 x1 x3 x4 (ix2 p j)
    = ((cp d R 0 p J : ℝ) : EReal) := by
  have hg : J / 128 = 3 := by omega
  pointwise [sl.v61, sl.v60, sl.cst_21]
  simp only [v59 c b1 b2 b3 b4 b5 b6 b7 b8 h, v45 c b1 b2 b3 b4 b5 b6 b7 b8 h, ← EReal.coe_mul, ← EReal.coe_add, ← EReal.coe_sub, sum_real]
  simp only [cp, hg]
  subst hJ
  first | (simp only [Nat.zero_add]; done) | rfl

theorem v95 (p j : Fin 128) (J : ℕ) (hJ : J = 384 + j) : sl.v95 (F := Ideal) c a2 b2 a4 b4 a5 b5 x1 x3 x4 (ix2 p j)
    = ((cp d R 128 p J : ℝ) : EReal) := by
  have hg : J / 128 = 3 := by omega
  pointwise [sl.v95, sl.v94, sl.cst_21]
  simp only [v59 c b1 b2 b3 b4 b5 b6 b7 b8 h, v45 c b1 b2 b3 b4 b5 b6 b7 b8 h, ← EReal.coe_mul, ← EReal.coe_add, ← EReal.coe_sub, sum_real]
  simp only [cp, hg]
  subst hJ
  first | (simp only [Nat.zero_add]; done) | rfl

theorem v63 (p q : Fin 128) : sl.v63 (F := Ideal) c a5 b5 x4 (ix2 p q)
    = ((d.ws 4 p q : ℝ) : EReal) := by
  unfold sl.v63
  simp (disch := decide) only [View.readAt_eq_ld, Memref.IsWhole.read_unread]
  pointwise []
  exact h.h4 4 p q

theorem v65 (p j : Fin 128) (J : ℕ) (hJ : J = 512 + j) : sl.v65 (F := Ideal) c a2 b2 a4 b4 a5 b5 x1 x3 x4 (ix2 p j)
    = ((cp d R 0 p J : ℝ) : EReal) := by
  have hg : J / 128 = 4 := by omega
  pointwise [sl.v65, sl.v64, sl.cst_21]
  simp only [v63 c b1 b2 b3 b4 b5 b6 b7 b8 h, v45 c b1 b2 b3 b4 b5 b6 b7 b8 h, ← EReal.coe_mul, ← EReal.coe_add, ← EReal.coe_sub, sum_real]
  simp only [cp, hg]
  subst hJ
  first | (simp only [Nat.zero_add]; done) | rfl

theorem v99 (p j : Fin 128) (J : ℕ) (hJ : J = 512 + j) : sl.v99 (F := Ideal) c a2 b2 a4 b4 a5 b5 x1 x3 x4 (ix2 p j)
    = ((cp d R 128 p J : ℝ) : EReal) := by
  have hg : J / 128 = 4 := by omega
  pointwise [sl.v99, sl.v98, sl.cst_21]
  simp only [v63 c b1 b2 b3 b4 b5 b6 b7 b8 h, v45 c b1 b2 b3 b4 b5 b6 b7 b8 h, ← EReal.coe_mul, ← EReal.coe_add, ← EReal.coe_sub, sum_real]
  simp only [cp, hg]
  subst hJ
  first | (simp only [Nat.zero_add]; done) | rfl

theorem v67 (p q : Fin 128) : sl.v67 (F := Ideal) c a5 b5 x4 (ix2 p q)
    = ((d.ws 5 p q : ℝ) : EReal) := by
  unfold sl.v67
  simp (disch := decide) only [View.readAt_eq_ld, Memref.IsWhole.read_unread]
  pointwise []
  exact h.h4 5 p q

theorem v69 (p j : Fin 128) (J : ℕ) (hJ : J = 640 + j) : sl.v69 (F := Ideal) c a2 b2 a4 b4 a5 b5 x1 x3 x4 (ix2 p j)
    = ((cp d R 0 p J : ℝ) : EReal) := by
  have hg : J / 128 = 5 := by omega
  pointwise [sl.v69, sl.v68, sl.cst_21]
  simp only [v67 c b1 b2 b3 b4 b5 b6 b7 b8 h, v45 c b1 b2 b3 b4 b5 b6 b7 b8 h, ← EReal.coe_mul, ← EReal.coe_add, ← EReal.coe_sub, sum_real]
  simp only [cp, hg]
  subst hJ
  first | (simp only [Nat.zero_add]; done) | rfl

theorem v103 (p j : Fin 128) (J : ℕ) (hJ : J = 640 + j) : sl.v103 (F := Ideal) c a2 b2 a4 b4 a5 b5 x1 x3 x4 (ix2 p j)
    = ((cp d R 128 p J : ℝ) : EReal) := by
  have hg : J / 128 = 5 := by omega
  pointwise [sl.v103, sl.v102, sl.cst_21]
  simp only [v67 c b1 b2 b3 b4 b5 b6 b7 b8 h, v45 c b1 b2 b3 b4 b5 b6 b7 b8 h, ← EReal.coe_mul, ← EReal.coe_add, ← EReal.coe_sub, sum_real]
  simp only [cp, hg]
  subst hJ
  first | (simp only [Nat.zero_add]; done) | rfl

theorem v71 (p q : Fin 128) : sl.v71 (F := Ideal) c a5 b5 x4 (ix2 p q)
    = ((d.ws 6 p q : ℝ) : EReal) := by
  unfold sl.v71
  simp (disch := decide) only [View.readAt_eq_ld, Memref.IsWhole.read_unread]
  pointwise []
  exact h.h4 6 p q

theorem v73 (p j : Fin 128) (J : ℕ) (hJ : J = 768 + j) : sl.v73 (F := Ideal) c a2 b2 a4 b4 a5 b5 x1 x3 x4 (ix2 p j)
    = ((cp d R 0 p J : ℝ) : EReal) := by
  have hg : J / 128 = 6 := by omega
  pointwise [sl.v73, sl.v72, sl.cst_21]
  simp only [v71 c b1 b2 b3 b4 b5 b6 b7 b8 h, v45 c b1 b2 b3 b4 b5 b6 b7 b8 h, ← EReal.coe_mul, ← EReal.coe_add, ← EReal.coe_sub, sum_real]
  simp only [cp, hg]
  subst hJ
  first | (simp only [Nat.zero_add]; done) | rfl

theorem v107 (p j : Fin 128) (J : ℕ) (hJ : J = 768 + j) : sl.v107 (F := Ideal) c a2 b2 a4 b4 a5 b5 x1 x3 x4 (ix2 p j)
    = ((cp d R 128 p J : ℝ) : EReal) := by
  have hg : J / 128 = 6 := by omega
  pointwise [sl.v107, sl.v106, sl.cst_21]
  simp only [v71 c b1 b2 b3 b4 b5 b6 b7 b8 h, v45 c b1 b2 b3 b4 b5 b6 b7 b8 h, ← EReal.coe_mul, ← EReal.coe_add, ← EReal.coe_sub, sum_real]
  simp only [cp, hg]
  subst hJ
  first | (simp only [Nat.zero_add]; done) | rfl

theorem v75 (p q : Fin 128) : sl.v75 (F := Ideal) c a5 b5 x4 (ix2 p q)
    = ((d.ws 7 p q : ℝ) : EReal) := by
  unfold sl.v75
  simp (disch := decide) only [View.readAt_eq_ld, Memref.IsWhole.read_unread]
  pointwise []
  exact h.h4 7 p q

theorem v77 (p j : Fin 128) (J : ℕ) (hJ : J = 896 + j) : sl.v77 (F := Ideal) c a2 b2 a4 b4 a5 b5 x1 x3 x4 (ix2 p j)
    = ((cp d R 0 p J : ℝ) : EReal) := by
  have hg : J / 128 = 7 := by omega
  pointwise [sl.v77, sl.v76, sl.cst_21]
  simp only [v75 c b1 b2 b3 b4 b5 b6 b7 b8 h, v45 c b1 b2 b3 b4 b5 b6 b7 b8 h, ← EReal.coe_mul, ← EReal.coe_add, ← EReal.coe_sub, sum_real]
  simp only [cp, hg]
  subst hJ
  first | (simp only [Nat.zero_add]; done) | rfl

theorem v111 (p j : Fin 128) (J : ℕ) (hJ : J = 896 + j) : sl.v111 (F := Ideal) c a2 b2 a4 b4 a5 b5 x1 x3 x4 (ix2 p j)
    = ((cp d R 128 p J : ℝ) : EReal) := by
  have hg : J / 128 = 7 := by omega
  pointwise [sl.v111, sl.v110, sl.cst_21]
  simp only [v75 c b1 b2 b3 b4 b5 b6 b7 b8 h, v45 c b1 b2 b3 b4 b5 b6 b7 b8 h, ← EReal.coe_mul, ← EReal.coe_add, ← EReal.coe_sub, sum_real]
  simp only [cp, hg]
  subst hJ
  first | (simp only [Nat.zero_add]; done) | rfl

theorem v78 (p : Fin 128) (j : Fin 1024) : sl.v78 (F := Ideal) c a2 b2 a4 b4 a5 b5 x1 x3 x4 (ix2 p j)
    = ((cp d R 0 p j : ℝ) : EReal) := by
  pointwise [sl.v78]
  by_cases h0 : (j : ℕ) < 128
  · rw [dif_pos h0]
    exact v49 c b1 b2 b3 b4 b5 b6 b7 b8 h p ⟨(j : ℕ), by omega⟩ ↑j (by dsimp only; omega)
  rw [dif_neg h0]
  by_cases h1 : (j : ℕ) - 128 < 128
  · rw [dif_pos h1]
    exact v53 c b1 b2 b3 b4 b5 b6 b7 b8 h p ⟨(j : ℕ) - 128, by omega⟩ ↑j (by dsimp only; omega)
  rw [dif_neg h1]
  by_cases h2 : (j : ℕ) - 128 - 128 < 128
  · rw [dif_pos h2]
    exact v57 c b1 b2 b3 b4 b5 b6 b7 b8 h p ⟨(j : ℕ) - 128 - 128, by omega⟩ ↑j (by dsimp only; omega)
  rw [dif_neg h2]
  by_cases h3 : (j : ℕ) - 128 - 128 - 128 < 128
  · rw [dif_pos h3]
    exact v61 c b1 b2 b3 b4 b5 b6 b7 b8 h p ⟨(j : ℕ) - 128 - 128 - 128, by omega⟩ ↑j (by dsimp only; omega)
  rw [dif_neg h3]
  by_cases h4 : (j : ℕ) - 128 - 128 - 128 - 128 < 128
  · rw [dif_pos h4]
    exact v65 c b1 b2 b3 b4 b5 b6 b7 b8 h p ⟨(j : ℕ) - 128 - 128 - 128 - 128, by omega⟩ ↑j (by dsimp only; omega)
  rw [dif_neg h4]
  by_cases h5 : (j : ℕ) - 128 - 128 - 128 - 128 - 128 < 128
  · rw [dif_pos h5]
    exact v69 c b1 b2 b3 b4 b5 b6 b7 b8 h p ⟨(j : ℕ) - 128 - 128 - 128 - 128 - 128, by omega⟩ ↑j (by dsimp only; omega)
  rw [dif_neg h5]
  by_cases h6 : (j : ℕ) - 128 - 128 - 128 - 128 - 128 - 128 < 128
  · rw [dif_pos h6]
    exact v73 c b1 b2 b3 b4 b5 b6 b7 b8 h p ⟨(j : ℕ) - 128 - 128 - 128 - 128 - 128 - 128, by omega⟩ ↑j (by dsimp only; omega)
  rw [dif_neg h6]
  exact v77 c b1 b2 b3 b4 b5 b6 b7 b8 h p ⟨(j : ℕ) - 128 - 128 - 128 - 128 - 128 - 128 - 128, by omega⟩ ↑j (by dsimp only; omega)

theorem v112 (p : Fin 128) (j : Fin 1024) : sl.v112 (F := Ideal) c a2 b2 a4 b4 a5 b5 x1 x3 x4 (ix2 p j)
    = ((cp d R 128 p j : ℝ) : EReal) := by
  pointwise [sl.v112]
  by_cases h0 : (j : ℕ) < 128
  · rw [dif_pos h0]
    exact v83 c b1 b2 b3 b4 b5 b6 b7 b8 h p ⟨(j : ℕ), by omega⟩ ↑j (by dsimp only; omega)
  rw [dif_neg h0]
  by_cases h1 : (j : ℕ) - 128 < 128
  · rw [dif_pos h1]
    exact v87 c b1 b2 b3 b4 b5 b6 b7 b8 h p ⟨(j : ℕ) - 128, by omega⟩ ↑j (by dsimp only; omega)
  rw [dif_neg h1]
  by_cases h2 : (j : ℕ) - 128 - 128 < 128
  · rw [dif_pos h2]
    exact v91 c b1 b2 b3 b4 b5 b6 b7 b8 h p ⟨(j : ℕ) - 128 - 128, by omega⟩ ↑j (by dsimp only; omega)
  rw [dif_neg h2]
  by_cases h3 : (j : ℕ) - 128 - 128 - 128 < 128
  · rw [dif_pos h3]
    exact v95 c b1 b2 b3 b4 b5 b6 b7 b8 h p ⟨(j : ℕ) - 128 - 128 - 128, by omega⟩ ↑j (by dsimp only; omega)
  rw [dif_neg h3]
  by_cases h4 : (j : ℕ) - 128 - 128 - 128 - 128 < 128
  · rw [dif_pos h4]
    exact v99 c b1 b2 b3 b4 b5 b6 b7 b8 h p ⟨(j : ℕ) - 128 - 128 - 128 - 128, by omega⟩ ↑j (by dsimp only; omega)
  rw [dif_neg h4]
  by_cases h5 : (j : ℕ) - 128 - 128 - 128 - 128 - 128 < 128
  · rw [dif_pos h5]
    exact v103 c b1 b2 b3 b4 b5 b6 b7 b8 h p ⟨(j : ℕ) - 128 - 128 - 128 - 128 - 128, by omega⟩ ↑j (by dsimp only; omega)
  rw [dif_neg h5]
  by_cases h6 : (j : ℕ) - 128 - 128 - 128 - 128 - 128 - 128 < 128
  · rw [dif_pos h6]
    exact v107 c b1 b2 b3 b4 b5 b6 b7 b8 h p ⟨(j : ℕ) - 128 - 128 - 128 - 128 - 128 - 128, by omega⟩ ↑j (by dsimp only; omega)
  rw [dif_neg h6]
  exact v111 c b1 b2 b3 b4 b5 b6 b7 b8 h p ⟨(j : ℕ) - 128 - 128 - 128 - 128 - 128 - 128 - 128, by omega⟩ ↑j (by dsimp only; omega)

theorem v79 (p : Fin 128) (j : Fin 1024) : sl.v79 (F := Ideal) c a2 b2 a4 b4 a5 b5 a7 b7 x1 x3 x4 x6 (ix2 p j)
    = ((d.mx (R + (0 + p)) j : ℝ) : EReal) := by
  rw [mx_at d R h.hR 0 p j rfl p.isLt]
  pointwise [sl.v79]
  simp only [v78 c b1 b2 b3 b4 b5 b6 b7 b8 h, r_3 c b1 b2 b3 b4 b5 b6 b7 b8 h, ← EReal.coe_mul, ← EReal.coe_add, ← EReal.coe_sub, sum_real]

theorem v113 (p : Fin 128) (j : Fin 1024) : sl.v113 (F := Ideal) c a2 b2 a4 b4 a5 b5 a7 b7 x1 x3 x4 x6 (ix2 p j)
    = ((d.mx (R + (128 + p)) j : ℝ) : EReal) := by
  rw [mx_at d R h.hR 128 p j rfl p.isLt]
  pointwise [sl.v113]
  simp only [v112 c b1 b2 b3 b4 b5 b6 b7 b8 h, r_3 c b1 b2 b3 b4 b5 b6 b7 b8 h, ← EReal.coe_mul, ← EReal.coe_add, ← EReal.coe_sub, sum_real]

theorem v114 (r : Fin 256) (j : Fin 1024) : sl.v114 (F := Ideal) c a2 b2 a4 b4 a5 b5 a7 b7 x1 x3 x4 x6 (ix2 r j)
    = ((d.mx (R + r) j : ℝ) : EReal) := by
  pointwise [sl.v114]
  by_cases h0 : (r : ℕ) < 128
  · rw [dif_pos h0]
    have e := v79 c b1 b2 b3 b4 b5 b6 b7 b8 h ⟨r, h0⟩ j
    rw [Nat.zero_add] at e
    exact e
  · rw [dif_neg h0]
    have e := v113 c b1 b2 b3 b4 b5 b6 b7 b8 h ⟨(r : ℕ) - 128, by omega⟩ j
    rw [show 128 + ((⟨(r : ℕ) - 128, by omega⟩ : Fin 128) : ℕ) = r by dsimp only; omega] at e
    exact e

theorem v115 (r : Fin 256) (j : Fin 1024) : sl.v115 (F := Ideal) c a1 b1 a2 b2 a4 b4 a5 b5 a7 b7 x0 x1 x3 x4 x6 (ix2 r j)
    = ((d.go (R + r) j : ℝ) : EReal) := by
  pointwise [sl.v115]
  simp only [r_4 c b1 b2 b3 b4 b5 b6 b7 b8 h, v114 c b1 b2 b3 b4 b5 b6 b7 b8 h, ← EReal.coe_mul, ← EReal.coe_add, ← EReal.coe_sub, sum_real]
  rfl

theorem v123 (r : Fin 256) : sl.v123 (F := Ideal) c a1 b1 a2 b2 a4 b4 a5 b5 a7 b7 x0 x1 x3 x4 x6 (ix2 r 0)
    = ((d.rr (R + r) : ℝ) : EReal) := by
  pointwise [sl.v123, sl.v122, sl.v120, sl.v118, sl.v117, sl.v116, sl.v119, sl.v38, sl.cst_17, sl.cst_76]
  simp only [v115 c b1 b2 b3 b4 b5 b6 b7 b8 h, ← EReal.coe_mul, ← EReal.coe_add, ← EReal.coe_sub, sum_real, w_1024, w_eps, div_1024, Ideal.rsqrt_def]
  have e := d.ms_pos (R + r)
  unfold D.ms at e
  rw [rsqrt_real e]
  rfl

theorem v125 (r : Fin 256) (j : Fin 1024) : sl.v125 (F := Ideal) c a1 b1 a2 b2 a4 b4 a5 b5 a7 b7 x0 x1 x3 x4 x6 (ix2 r j)
    = ((d.gh (R + r) j : ℝ) : EReal) := by
  pointwise [sl.v125, sl.v124]
  simp only [v115 c b1 b2 b3 b4 b5 b6 b7 b8 h, v123 c b1 b2 b3 b4 b5 b6 b7 b8 h, ← EReal.coe_mul, ← EReal.coe_add, ← EReal.coe_sub, sum_real]
  rfl

theorem v127 (r : Fin 256) (j : Fin 1024) : sl.v127 (F := Ideal) c a3 b3 x2 (ix2 r j)
    = ((d.dm (R + r) j : ℝ) : EReal) := by
  unfold sl.v127
  simp (disch := decide) only [View.readAt_eq_ld, Memref.IsWhole.read_unread, View.ld_unit_lit']
  pointwise []
  exact h.h2 r j

theorem v136 (j : Fin 1024) : sl.v136 (F := Ideal) c a8 b8 x7 (ix2 0 j)
    = ((d.gg j : ℝ) : EReal) := by
  unfold sl.v136
  simp (disch := decide) only [View.readAt_eq_ld, Memref.IsWhole.read_unread, View.ld_unit_lit']
  pointwise []
  exact h.h7 j

theorem v138 (r : Fin 256) (j : Fin 1024) : sl.v138 (F := Ideal) c a3 b3 a8 b8 x2 x7 (ix2 r j)
    = ((d.dn (R + r) j : ℝ) : EReal) := by
  pointwise [sl.v138, sl.v137]
  simp only [v127 c b1 b2 b3 b4 b5 b6 b7 b8 h, v136 c b1 b2 b3 b4 b5 b6 b7 b8 h, ← EReal.coe_mul, ← EReal.coe_add, ← EReal.coe_sub, sum_real]
  rfl

theorem v148 (r : Fin 256) (j : Fin 1024) : sl.v148 (F := Ideal) c a1 b1 a2 b2 a3 b3 a4 b4 a5 b5 a7 b7 a8 b8 x0 x1 x2 x3 x4 x6 x7 (ix2 r j)
    = ((d.dg (R + r) j : ℝ) : EReal) := by
  pointwise [sl.v148, sl.v124, sl.v146, sl.v145, sl.v144, sl.v143, sl.v141, sl.v140, sl.v139, sl.v119, sl.cst_76]
  simp only [v123 c b1 b2 b3 b4 b5 b6 b7 b8 h, v138 c b1 b2 b3 b4 b5 b6 b7 b8 h, v125 c b1 b2 b3 b4 b5 b6 b7 b8 h, ← EReal.coe_mul, ← EReal.coe_add, ← EReal.coe_sub, sum_real, w_1024, div_1024]
  rfl

theorem v149 (r : Fin 256) (j : Fin 1024) : sl.v149 (F := Ideal) c a1 b1 a2 b2 a3 b3 a4 b4 a5 b5 a7 b7 a8 b8 x0 x1 x2 x3 x4 x6 x7 (ix2 r j)
    = ((d.du (R + r) j : ℝ) : EReal) := by
  pointwise [sl.v149]
  simp only [v148 c b1 b2 b3 b4 b5 b6 b7 b8 h, v114 c b1 b2 b3 b4 b5 b6 b7 b8 h, ← EReal.coe_mul, ← EReal.coe_add, ← EReal.coe_sub, sum_real]
  rfl

theorem v150 (r : Fin 256) (j : Fin 1024) : sl.v150 (F := Ideal) c a1 b1 a2 b2 a3 b3 a4 b4 a5 b5 a7 b7 a8 b8 x0 x1 x2 x3 x4 x6 x7 (ix2 r j)
    = ((d.dx (R + r) j : ℝ) : EReal) := by
  pointwise [sl.v150]
  simp only [v148 c b1 b2 b3 b4 b5 b6 b7 b8 h, r_4 c b1 b2 b3 b4 b5 b6 b7 b8 h, ← EReal.coe_mul, ← EReal.coe_add, ← EReal.coe_sub, sum_real]
  rfl

theorem v151 (r : Fin 256) (j : Fin 1024) : sl.v151 (F := Ideal) c a1 b1 a2 b2 a3 b3 a4 b4 a5 b5 a7 b7 a8 b8 x0 x1 x2 x3 x4 x6 x7 (ix2 r j)
    = ((d.dx (R + r) j : ℝ) : EReal) := by
  pointwise [sl.v151]
  simp only [v150 c b1 b2 b3 b4 b5 b6 b7 b8 h, ← EReal.coe_mul, ← EReal.coe_add, ← EReal.coe_sub, sum_real]

theorem v168 (p q : Fin 128) : sl.v168 (F := Ideal) c a6 b6 x5 (ix2 p q)
    = ((d.ws 0 q p : ℝ) : EReal) := by
  unfold sl.v168
  simp (disch := decide) only [View.readAt_eq_ld, Memref.IsWhole.read_unread]
  pointwise []
  exact h.h5 0 p q

theorem v170 (p j : Fin 128) (J : ℕ) (hJ : J = 0 + j) : sl.v170 (F := Ideal) c a1 b1 a2 b2 a3 b3 a4 b4 a5 b5 a6 b6 a7 b7 a8 b8 x0 x1 x2 x3 x4 x5 x6 x7 (ix2 p j)
    = ((dp d R 0 p J : ℝ) : EReal) := by
  have hg : J / 128 = 0 := by omega
  pointwise [sl.v170, sl.v160, sl.cst_21]
  simp only [v168 c b1 b2 b3 b4 b5 b6 b7 b8 h, v151 c b1 b2 b3 b4 b5 b6 b7 b8 h, ← EReal.coe_mul, ← EReal.coe_add, ← EReal.coe_sub, sum_real]
  simp only [dp, hg]
  subst hJ
  first | (simp only [Nat.zero_add]; done) | rfl

theorem v281 (p j : Fin 128) (J : ℕ) (hJ : J = 0 + j) : sl.v281 (F := Ideal) c a1 b1 a2 b2 a3 b3 a4 b4 a5 b5 a6 b6 a7 b7 a8 b8 x0 x1 x2 x3 x4 x5 x6 x7 (ix2 p j)
    = ((dp d R 128 p J : ℝ) : EReal) := by
  have hg : J / 128 = 0 := by omega
  pointwise [sl.v281, sl.v271, sl.cst_21]
  simp only [v168 c b1 b2 b3 b4 b5 b6 b7 b8 h, v151 c b1 b2 b3 b4 b5 b6 b7 b8 h, ← EReal.coe_mul, ← EReal.coe_add, ← EReal.coe_sub, sum_real]
  simp only [dp, hg]
  subst hJ
  first | (simp only [Nat.zero_add]; done) | rfl

theorem v181 (p q : Fin 128) : sl.v181 (F := Ideal) c a6 b6 x5 (ix2 p q)
    = ((d.ws 1 q p : ℝ) : EReal) := by
  unfold sl.v181
  simp (disch := decide) only [View.readAt_eq_ld, Memref.IsWhole.read_unread]
  pointwise []
  exact h.h5 1 p q

theorem v183 (p j : Fin 128) (J : ℕ) (hJ : J = 128 + j) : sl.v183 (F := Ideal) c a1 b1 a2 b2 a3 b3 a4 b4 a5 b5 a6 b6 a7 b7 a8 b8 x0 x1 x2 x3 x4 x5 x6 x7 (ix2 p j)
    = ((dp d R 0 p J : ℝ) : EReal) := by
  have hg : J / 128 = 1 := by omega
  pointwise [sl.v183, sl.v173, sl.cst_21]
  simp only [v181 c b1 b2 b3 b4 b5 b6 b7 b8 h, v151 c b1 b2 b3 b4 b5 b6 b7 b8 h, ← EReal.coe_mul, ← EReal.coe_add, ← EReal.coe_sub, sum_real]
  simp only [dp, hg]
  subst hJ
  first | (simp only [Nat.zero_add]; done) | rfl

theorem v294 (p j : Fin 128) (J : ℕ) (hJ : J = 128 + j) : sl.v294 (F := Ideal) c a1 b1 a2 b2 a3 b3 a4 b4 a5 b5 a6 b6 a7 b7 a8 b8 x0 x1 x2 x3 x4 x5 x6 x7 (ix2 p j)
    = ((dp d R 128 p J : ℝ) : EReal) := by
  have hg : J / 128 = 1 := by omega
  pointwise [sl.v294, sl.v284, sl.cst_21]
  simp only [v181 c b1 b2 b3 b4 b5 b6 b7 b8 h, v151 c b1 b2 b3 b4 b5 b6 b7 b8 h, ← EReal.coe_mul, ← EReal.coe_add, ← EReal.coe_sub, sum_real]
  simp only [dp, hg]
  subst hJ
  first | (simp only [Nat.zero_add]; done) | rfl

theorem v194 (p q : Fin 128) : sl.v194 (F := Ideal) c a6 b6 x5 (ix2 p q)
    = ((d.ws 2 q p : ℝ) : EReal) := by
  unfold sl.v194
  simp (disch := decide) only [View.readAt_eq_ld, Memref.IsWhole.read_unread]
  pointwise []
  exact h.h5 2 p q

theorem v196 (p j : Fin 128) (J : ℕ) (hJ : J = 256 + j) : sl.v196 (F := Ideal) c a1 b1 a2 b2 a3 b3 a4 b4 a5 b5 a6 b6 a7 b7 a8 b8 x0 x1 x2 x3 x4 x5 x6 x7 (ix2 p j)
    = ((dp d R 0 p J : ℝ) : EReal) := by
  have hg : J / 128 = 2 := by omega
  pointwise [sl.v196, sl.v186, sl.cst_21]
  simp only [v194 c b1 b2 b3 b4 b5 b6 b7 b8 h, v151 c b1 b2 b3 b4 b5 b6 b7 b8 h, ← EReal.coe_mul, ← EReal.coe_add, ← EReal.coe_sub, sum_real]
  simp only [dp, hg]
  subst hJ
  first | (simp only [Nat.zero_add]; done) | rfl

theorem v307 (p j : Fin 128) (J : ℕ) (hJ : J = 256 + j) : sl.v307 (F := Ideal) c a1 b1 a2 b2 a3 b3 a4 b4 a5 b5 a6 b6 a7 b7 a8 b8 x0 x1 x2 x3 x4 x5 x6 x7 (ix2 p j)
    = ((dp d R 128 p J : ℝ) : EReal) := by
  have hg : J / 128 = 2 := by omega
  pointwise [sl.v307, sl.v297, sl.cst_21]
  simp only [v194 c b1 b2 b3 b4 b5 b6 b7 b8 h, v151 c b1 b2 b3 b4 b5 b6 b7 b8 h, ← EReal.coe_mul, ← EReal.coe_add, ← EReal.coe_sub, sum_real]
  simp only [dp, hg]
  subst hJ
  first | (simp only [Nat.zero_add]; done) | rfl

theorem v207 (p q : Fin 128) : sl.v207 (F := Ideal) c a6 b6 x5 (ix2 p q)
    = ((d.ws 3 q p : ℝ) : EReal) := by
  unfold sl.v207
  simp (disch := decide) only [View.readAt_eq_ld, Memref.IsWhole.read_unread]
  pointwise []
  exact h.h5 3 p q

theorem v209 (p j : Fin 128) (J : ℕ) (hJ : J = 384 + j) : sl.v209 (F := Ideal) c a1 b1 a2 b2 a3 b3 a4 b4 a5 b5 a6 b6 a7 b7 a8 b8 x0 x1 x2 x3 x4 x5 x6 x7 (ix2 p j)
    = ((dp d R 0 p J : ℝ) : EReal) := by
  have hg : J / 128 = 3 := by omega
  pointwise [sl.v209, sl.v199, sl.cst_21]
  simp only [v207 c b1 b2 b3 b4 b5 b6 b7 b8 h, v151 c b1 b2 b3 b4 b5 b6 b7 b8 h, ← EReal.coe_mul, ← EReal.coe_add, ← EReal.coe_sub, sum_real]
  simp only [dp, hg]
  subst hJ
  first | (simp only [Nat.zero_add]; done) | rfl

theorem v320 (p j : Fin 128) (J : ℕ) (hJ : J = 384 + j) : sl.v320 (F := Ideal) c a1 b1 a2 b2 a3 b3 a4 b4 a5 b5 a6 b6 a7 b7 a8 b8 x0 x1 x2 x3 x4 x5 x6 x7 (ix2 p j)
    = ((dp d R 128 p J : ℝ) : EReal) := by
  have hg : J / 128 = 3 := by omega
  pointwise [sl.v320, sl.v310, sl.cst_21]
  simp only [v207 c b1 b2 b3 b4 b5 b6 b7 b8 h, v151 c b1 b2 b3 b4 b5 b6 b7 b8 h, ← EReal.coe_mul, ← EReal.coe_add, ← EReal.coe_sub, sum_real]
  simp only [dp, hg]
  subst hJ
  first | (simp only [Nat.zero_add]; done) | rfl

theorem v220 (p q : Fin 128) : sl.v220 (F := Ideal) c a6 b6 x5 (ix2 p q)
    = ((d.ws 4 q p : ℝ) : EReal) := by
  unfold sl.v220
  simp (disch := decide) only [View.readAt_eq_ld, Memref.IsWhole.read_unread]
  pointwise []
  exact h.h5 4 p q

theorem v222 (p j : Fin 128) (J : ℕ) (hJ : J = 512 + j) : sl.v222 (F := Ideal) c a1 b1 a2 b2 a3 b3 a4 b4 a5 b5 a6 b6 a7 b7 a8 b8 x0 x1 x2 x3 x4 x5 x6 x7 (ix2 p j)
    = ((dp d R 0 p J : ℝ) : EReal) := by
  have hg : J / 128 = 4 := by omega
  pointwise [sl.v222, sl.v212, sl.cst_21]
  simp only [v220 c b1 b2 b3 b4 b5 b6 b7 b8 h, v151 c b1 b2 b3 b4 b5 b6 b7 b8 h, ← EReal.coe_mul, ← EReal.coe_add, ← EReal.coe_sub, sum_real]
  simp only [dp, hg]
  subst hJ
  first | (simp only [Nat.zero_add]; done) | rfl

theorem v333 (p j : Fin 128) (J : ℕ) (hJ : J = 512 + j) : sl.v333 (F := Ideal) c a1 b1 a2 b2 a3 b3 a4 b4 a5 b5 a6 b6 a7 b7 a8 b8 x0 x1 x2 x3 x4 x5 x6 x7 (ix2 p j)
    = ((dp d R 128 p J : ℝ) : EReal) := by
  have hg : J / 128 = 4 := by omega
  pointwise [sl.v333, sl.v323, sl.cst_21]
  simp only [v220 c b1 b2 b3 b4 b5 b6 b7 b8 h, v151 c b1 b2 b3 b4 b5 b6 b7 b8 h, ← EReal.coe_mul, ← EReal.coe_add, ← EReal.coe_sub, sum_real]
  simp only [dp, hg]
  subst hJ
  first | (simp only [Nat.zero_add]; done) | rfl

theorem v233 (p q : Fin 128) : sl.v233 (F := Ideal) c a6 b6 x5 (ix2 p q)
    = ((d.ws 5 q p : ℝ) : EReal) := by
  unfold sl.v233
  simp (disch := decide) only [View.readAt_eq_ld, Memref.IsWhole.read_unread]
  pointwise []
  exact h.h5 5 p q

theorem v235 (p j : Fin 128) (J : ℕ) (hJ : J = 640 + j) : sl.v235 (F := Ideal) c a1 b1 a2 b2 a3 b3 a4 b4 a5 b5 a6 b6 a7 b7 a8 b8 x0 x1 x2 x3 x4 x5 x6 x7 (ix2 p j)
    = ((dp d R 0 p J : ℝ) : EReal) := by
  have hg : J / 128 = 5 := by omega
  pointwise [sl.v235, sl.v225, sl.cst_21]
  simp only [v233 c b1 b2 b3 b4 b5 b6 b7 b8 h, v151 c b1 b2 b3 b4 b5 b6 b7 b8 h, ← EReal.coe_mul, ← EReal.coe_add, ← EReal.coe_sub, sum_real]
  simp only [dp, hg]
  subst hJ
  first | (simp only [Nat.zero_add]; done) | rfl

theorem v346 (p j : Fin 128) (J : ℕ) (hJ : J = 640 + j) : sl.v346 (F := Ideal) c a1 b1 a2 b2 a3 b3 a4 b4 a5 b5 a6 b6 a7 b7 a8 b8 x0 x1 x2 x3 x4 x5 x6 x7 (ix2 p j)
    = ((dp d R 128 p J : ℝ) : EReal) := by
  have hg : J / 128 = 5 := by omega
  pointwise [sl.v346, sl.v336, sl.cst_21]
  simp only [v233 c b1 b2 b3 b4 b5 b6 b7 b8 h, v151 c b1 b2 b3 b4 b5 b6 b7 b8 h, ← EReal.coe_mul, ← EReal.coe_add, ← EReal.coe_sub, sum_real]
  simp only [dp, hg]
  subst hJ
  first | (simp only [Nat.zero_add]; done) | rfl

theorem v246 (p q : Fin 128) : sl.v246 (F := Ideal) c a6 b6 x5 (ix2 p q)
    = ((d.ws 6 q p : ℝ) : EReal) := by
  unfold sl.v246
  simp (disch := decide) only [View.readAt_eq_ld, Memref.IsWhole.read_unread]
  pointwise []
  exact h.h5 6 p q

theorem v248 (p j : Fin 128) (J : ℕ) (hJ : J = 768 + j) : sl.v248 (F := Ideal) c a1 b1 a2 b2 a3 b3 a4 b4 a5 b5 a6 b6 a7 b7 a8 b8 x0 x1 x2 x3 x4 x5 x6 x7 (ix2 p j)
    = ((dp d R 0 p J : ℝ) : EReal) := by
  have hg : J / 128 = 6 := by omega
  pointwise [sl.v248, sl.v238, sl.cst_21]
  simp only [v246 c b1 b2 b3 b4 b5 b6 b7 b8 h, v151 c b1 b2 b3 b4 b5 b6 b7 b8 h, ← EReal.coe_mul, ← EReal.coe_add, ← EReal.coe_sub, sum_real]
  simp only [dp, hg]
  subst hJ
  first | (simp only [Nat.zero_add]; done) | rfl

theorem v359 (p j : Fin 128) (J : ℕ) (hJ : J = 768 + j) : sl.v359 (F := Ideal) c a1 b1 a2 b2 a3 b3 a4 b4 a5 b5 a6 b6 a7 b7 a8 b8 x0 x1 x2 x3 x4 x5 x6 x7 (ix2 p j)
    = ((dp d R 128 p J : ℝ) : EReal) := by
  have hg : J / 128 = 6 := by omega
  pointwise [sl.v359, sl.v349, sl.cst_21]
  simp only [v246 c b1 b2 b3 b4 b5 b6 b7 b8 h, v151 c b1 b2 b3 b4 b5 b6 b7 b8 h, ← EReal.coe_mul, ← EReal.coe_add, ← EReal.coe_sub, sum_real]
  simp only [dp, hg]
  subst hJ
  first | (simp only [Nat.zero_add]; done) | rfl

theorem v259 (p q : Fin 128) : sl.v259 (F := Ideal) c a6 b6 x5 (ix2 p q)
    = ((d.ws 7 q p : ℝ) : EReal) := by
  unfold sl.v259
  simp (disch := decide) only [View.readAt_eq_ld, Memref.IsWhole.read_unread]
  pointwise []
  exact h.h5 7 p q

theorem v261 (p j : Fin 128) (J : ℕ) (hJ : J = 896 + j) : sl.v261 (F := Ideal) c a1 b1 a2 b2 a3 b3 a4 b4 a5 b5 a6 b6 a7 b7 a8 b8 x0 x1 x2 x3 x4 x5 x6 x7 (ix2 p j)
    = ((dp d R 0 p J : ℝ) : EReal) := by
  have hg : J / 128 = 7 := by omega
  pointwise [sl.v261, sl.v251, sl.cst_21]
  simp only [v259 c b1 b2 b3 b4 b5 b6 b7 b8 h, v151 c b1 b2 b3 b4 b5 b6 b7 b8 h, ← EReal.coe_mul, ← EReal.coe_add, ← EReal.coe_sub, sum_real]
  simp only [dp, hg]
  subst hJ
  first | (simp only [Nat.zero_add]; done) | rfl

theorem v262 (p : Fin 128) (j : Fin 1024) : sl.v262 (F := Ideal) c a1 b1 a2 b2 a3 b3 a4 b4 a5 b5 a6 b6 a7 b7 a8 b8 x0 x1 x2 x3 x4 x5 x6 x7 (ix2 p j)
    = ((dp d R 0 p j : ℝ) : EReal) := by
  pointwise [sl.v262]
  by_cases h0 : (j : ℕ) < 128
  · rw [dif_pos h0]
    exact v170 c b1 b2 b3 b4 b5 b6 b7 b8 h p ⟨(j : ℕ), by omega⟩ ↑j (by dsimp only; omega)
  rw [dif_neg h0]
  by_cases h1 : (j : ℕ) - 128 < 128
  · rw [dif_pos h1]
    exact v183 c b1 b2 b3 b4 b5 b6 b7 b8 h p ⟨(j : ℕ) - 128, by omega⟩ ↑j (by dsimp only; omega)
  rw [dif_neg h1]
  by_cases h2 : (j : ℕ) - 128 - 128 < 128
  · rw [dif_pos h2]
    exact v196 c b1 b2 b3 b4 b5 b6 b7 b8 h p ⟨(j : ℕ) - 128 - 128, by omega⟩ ↑j (by dsimp only; omega)
  rw [dif_neg h2]
  by_cases h3 : (j : ℕ) - 128 - 128 - 128 < 128
  · rw [dif_pos h3]
    exact v209 c b1 b2 b3 b4 b5 b6 b7 b8 h p ⟨(j : ℕ) - 128 - 128 - 128, by omega⟩ ↑j (by dsimp only; omega)
  rw [dif_neg h3]
  by_cases h4 : (j : ℕ) - 128 - 128 - 128 - 128 < 128
  · rw [dif_pos h4]
    exact v222 c b1 b2 b3 b4 b5 b6 b7 b8 h p ⟨(j : ℕ) - 128 - 128 - 128 - 128, by omega⟩ ↑j (by dsimp only; omega)
  rw [dif_neg h4]
  by_cases h5 : (j : ℕ) - 128 - 128 - 128 - 128 - 128 < 128
  · rw [dif_pos h5]
    exact v235 c b1 b2 b3 b4 b5 b6 b7 b8 h p ⟨(j : ℕ) - 128 - 128 - 128 - 128 - 128, by omega⟩ ↑j (by dsimp only; omega)
  rw [dif_neg h5]
  by_cases h6 : (j : ℕ) - 128 - 128 - 128 - 128 - 128 - 128 < 128
  · rw [dif_pos h6]
    exact v248 c b1 b2 b3 b4 b5 b6 b7 b8 h p ⟨(j : ℕ) - 128 - 128 - 128 - 128 - 128 - 128, by omega⟩ ↑j (by dsimp only; omega)
  rw [dif_neg h6]
  exact v261 c b1 b2 b3 b4 b5 b6 b7 b8 h p ⟨(j : ℕ) - 128 - 128 - 128 - 128 - 128 - 128 - 128, by omega⟩ ↑j (by dsimp only; omega)

theorem v372 (x369 : FVec Ideal S1x128x128 .bf16) (hx : ∀ p q : Fin 128, x369 (ix3 0 p q) = ((d.ws 7 q p : ℝ) : EReal)) (p j : Fin 128) (J : ℕ) (hJ : J = 896 + j) : matmul (F := Ideal) dot_S128x128_S128x128_S128x128_1_0_0_1_n_n none (shapeCast S128x128 x369 shapeCasts_S1x128x128_S128x128) (extractStridedSlice S128x128 ![128, 896] (sl.v151 (F := Ideal) c a1 b1 a2 b2 a3 b3 a4 b4 a5 b5 a7 b7 a8 b8 x0 x1 x2 x3 x4 x6 x7) slices_S256x1024_o128_896_S128x128) (constant S128x128 .f32 0x00000000#32) (ix2 p j)
    = ((dp d R 128 p J : ℝ) : EReal) := by
  have hg : J / 128 = 7 := by omega
  pointwise []
  simp only [hx, v151 c b1 b2 b3 b4 b5 b6 b7 b8 h, ← EReal.coe_mul, sum_real]
  simp only [dp, hg]
  subst hJ
  rfl

theorem v373 (x369 : FVec Ideal S1x128x128 .bf16) (hx : ∀ p q : Fin 128, x369 (ix3 0 p q) = ((d.ws 7 q p : ℝ) : EReal)) (p : Fin 128) (j : Fin 1024) : concatenate S128x1024 1 [⟨S128x128, sl.v281 (F := Ideal) c a1 b1 a2 b2 a3 b3 a4 b4 a5 b5 a6 b6 a7 b7 a8 b8 x0 x1 x2 x3 x4 x5 x6 x7⟩, ⟨S128x128, sl.v294 (F := Ideal) c a1 b1 a2 b2 a3 b3 a4 b4 a5 b5 a6 b6 a7 b7 a8 b8 x0 x1 x2 x3 x4 x5 x6 x7⟩, ⟨S128x128, sl.v307 (F := Ideal) c a1 b1 a2 b2 a3 b3 a4 b4 a5 b5 a6 b6 a7 b7 a8 b8 x0 x1 x2 x3 x4 x5 x6 x7⟩, ⟨S128x128, sl.v320 (F := Ideal) c a1 b1 a2 b2 a3 b3 a4 b4 a5 b5 a6 b6 a7 b7 a8 b8 x0 x1 x2 x3 x4 x5 x6 x7⟩, ⟨S128x128, sl.v333 (F := Ideal) c a1 b1 a2 b2 a3 b3 a4 b4 a5 b5 a6 b6 a7 b7 a8 b8 x0 x1 x2 x3 x4 x5 x6 x7⟩, ⟨S128x128, sl.v346 (F := Ideal) c a1 b1 a2 b2 a3 b3 a4 b4 a5 b5 a6 b6 a7 b7 a8 b8 x0 x1 x2 x3 x4 x5 x6 x7⟩, ⟨S128x128, sl.v359 (F := Ideal) c a1 b1 a2 b2 a3 b3 a4 b4 a5 b5 a6 b6 a7 b7 a8 b8 x0 x1 x2 x3 x4 x5 x6 x7⟩, ⟨S128x128, matmul (F := Ideal) dot_S128x128_S128x128_S128x128_1_0_0_1_n_n none (shapeCast S128x128 x369 shapeCasts_S1x128x128_S128x128) (extractStridedSlice S128x128 ![128, 896] (sl.v151 (F := Ideal) c a1 b1 a2 b2 a3 b3 a4 b4 a5 b5 a7 b7 a8 b8 x0 x1 x2 x3 x4 x6 x7) slices_S256x1024_o128_896_S128x128) (constant S128x128 .f32 0x00000000#32)⟩] concatenates_S128x128_S128x128_S128x128_S128x128_S128x128_S128x128_S128x128_S128x128_S128x1024_d1 (ix2 p j)
    = ((dp d R 128 p j : ℝ) : EReal) := by
  generalize hM : matmul (F := Ideal) dot_S128x128_S128x128_S128x128_1_0_0_1_n_n none (shapeCast S128x128 x369 shapeCasts_S1x128x128_S128x128) (extractStridedSlice S128x128 ![128, 896] (sl.v151 (F := Ideal) c a1 b1 a2 b2 a3 b3 a4 b4 a5 b5 a7 b7 a8 b8 x0 x1 x2 x3 x4 x6 x7) slices_S256x1024_o128_896_S128x128) (constant S128x128 .f32 0x00000000#32) = M
  pointwise []
  by_cases h0 : (j : ℕ) < 128
  · rw [dif_pos h0]
    exact v281 c b1 b2 b3 b4 b5 b6 b7 b8 h p ⟨(j : ℕ), by omega⟩ ↑j (by dsimp only; omega)
  rw [dif_neg h0]
  by_cases h1 : (j : ℕ) - 128 < 128
  · rw [dif_pos h1]
    exact v294 c b1 b2 b3 b4 b5 b6 b7 b8 h p ⟨(j : ℕ) - 128, by omega⟩ ↑j (by dsimp only; omega)
  rw [dif_neg h1]
  by_cases h2 : (j : ℕ) - 128 - 128 < 128
  · rw [dif_pos h2]
    exact v307 c b1 b2 b3 b4 b5 b6 b7 b8 h p ⟨(j : ℕ) - 128 - 128, by omega⟩ ↑j (by dsimp only; omega)
  rw [dif_neg h2]
  by_cases h3 : (j : ℕ) - 128 - 128 - 128 < 128
  · rw [dif_pos h3]
    exact v320 c b1 b2 b3 b4 b5 b6 b7 b8 h p ⟨(j : ℕ) - 128 - 128 - 128, by omega⟩ ↑j (by dsimp only; omega)
  rw [dif_neg h3]
  by_cases h4 : (j : ℕ) - 128 - 128 - 128 - 128 < 128
  · rw [dif_pos h4]
    exact v333 c b1 b2 b3 b4 b5 b6 b7 b8 h p ⟨(j : ℕ) - 128 - 128 - 128 - 128, by omega⟩ ↑j (by dsimp only; omega)
  rw [dif_neg h4]
  by_cases h5 : (j : ℕ) - 128 - 128 - 128 - 128 - 128 < 128
  · rw [dif_pos h5]
    exact v346 c b1 b2 b3 b4 b5 b6 b7 b8 h p ⟨(j : ℕ) - 128 - 128 - 128 - 128 - 128, by omega⟩ ↑j (by dsimp only; omega)
  rw [dif_neg h5]
  by_cases h6 : (j : ℕ) - 128 - 128 - 128 - 128 - 128 - 128 < 128
  · rw [dif_pos h6]
    exact v359 c b1 b2 b3 b4 b5 b6 b7 b8 h p ⟨(j : ℕ) - 128 - 128 - 128 - 128 - 128 - 128, by omega⟩ ↑j (by dsimp only; omega)
  rw [dif_neg h6]
  rw [← hM]
  exact v372 c b1 b2 b3 b4 b5 b6 b7 b8 h x369 hx p ⟨(j : ℕ) - 128 - 128 - 128 - 128 - 128 - 128 - 128, by omega⟩ ↑j (by dsimp only; omega)

theorem v374 (x369 : FVec Ideal S1x128x128 .bf16) (hx : ∀ p q : Fin 128, x369 (ix3 0 p q) = ((d.ws 7 q p : ℝ) : EReal)) (r : Fin 256) (j : Fin 1024) : k0_pay89 (F := Ideal) (sl.v151 (F := Ideal) c a1 b1 a2 b2 a3 b3 a4 b4 a5 b5 a7 b7 a8 b8 x0 x1 x2 x3 x4 x6 x7) (sl.v262 (F := Ideal) c a1 b1 a2 b2 a3 b3 a4 b4 a5 b5 a6 b6 a7 b7 a8 b8 x0 x1 x2 x3 x4 x5 x6 x7) (sl.v281 (F := Ideal) c a1 b1 a2 b2 a3 b3 a4 b4 a5 b5 a6 b6 a7 b7 a8 b8 x0 x1 x2 x3 x4 x5 x6 x7) (sl.v294 (F := Ideal) c a1 b1 a2 b2 a3 b3 a4 b4 a5 b5 a6 b6 a7 b7 a8 b8 x0 x1 x2 x3 x4 x5 x6 x7) (sl.v307 (F := Ideal) c a1 b1 a2 b2 a3 b3 a4 b4 a5 b5 a6 b6 a7 b7 a8 b8 x0 x1 x2 x3 x4 x5 x6 x7) (sl.v320 (F := Ideal) c a1 b1 a2 b2 a3 b3 a4 b4 a5 b5 a6 b6 a7 b7 a8 b8 x0 x1 x2 x3 x4 x5 x6 x7) (sl.v333 (F := Ideal) c a1 b1 a2 b2 a3 b3 a4 b4 a5 b5 a6 b6 a7 b7 a8 b8 x0 x1 x2 x3 x4 x5 x6 x7) (sl.v346 (F := Ideal) c a1 b1 a2 b2 a3 b3 a4 b4 a5 b5 a6 b6 a7 b7 a8 b8 x0 x1 x2 x3 x4 x5 x6 x7) (sl.v359 (F := Ideal) c a1 b1 a2 b2 a3 b3 a4 b4 a5 b5 a6 b6 a7 b7 a8 b8 x0 x1 x2 x3 x4 x5 x6 x7) x369 (ix2 r j)
    = ((d.dl (R + r) j : ℝ) : EReal) := by
  have key : ∀ M : FVec Ideal S128x1024 .f32, (∀ (p : Fin 128) (j : Fin 1024), M (ix2 p j) = ((dp d R 128 p j : ℝ) : EReal)) →
      concatenate S256x1024 0 [⟨S128x1024, sl.v262 (F := Ideal) c a1 b1 a2 b2 a3 b3 a4 b4 a5 b5 a6 b6 a7 b7 a8 b8 x0 x1 x2 x3 x4 x5 x6 x7⟩, ⟨S128x1024, M⟩] concatenates_S128x1024_S128x1024_S256x1024_d0 (ix2 r j) = ((d.dl (R + r) j : ℝ) : EReal) := by
    intro M e
    pointwise []
    by_cases h0 : (r : ℕ) < 128
    · rw [dif_pos h0]
      have e1 := v262 c b1 b2 b3 b4 b5 b6 b7 b8 h ⟨r, h0⟩ j
      rw [← dl_at d R h.hR 0 r j rfl h0, Nat.zero_add] at e1
      exact e1
    · rw [dif_neg h0]
      have e1 := e ⟨(r : ℕ) - 128, by omega⟩ j
      rw [← dl_at d R h.hR 128 ((r : ℕ) - 128) j rfl (by omega), show 128 + ((r : ℕ) - 128) = r by omega] at e1
      exact e1
  exact key _ (v373 c b1 b2 b3 b4 b5 b6 b7 b8 h x369 hx)

theorem ld7 (p q : Fin 128) : (View.readAt (Elt Ideal) a6.view (Rect.unit (s := S8x128x128) ![7, 0, 0] S1x128x128.size inb_S8x128x128_S1x128x128_7_0_0).toLoadRect (b6.unread x5)) (ix3 0 p q) = ((d.ws 7 q p : ℝ) : EReal) := by
  simp (disch := decide) only [View.readAt_eq_ld, Memref.IsWhole.read_unread]
  pointwise []
  exact h.h5 7 p q

theorem r_7 (r : Fin 256) (j : Fin 1024) : sl.r_7 (F := Ideal) c a1 b1 a2 b2 a3 b3 a4 b4 a5 b5 a6 b6 a7 b7 a8 b8 x0 x1 x2 x3 x4 x5 x6 x7 (ix2 r j)
    = ((d.dv (R + r) j : ℝ) : EReal) := by
  unfold sl.r_7
  have hx := ld7 c b1 b2 b3 b4 b5 b6 b7 b8 h
  generalize (View.readAt (Elt Ideal) a6.view (Rect.unit (s := S8x128x128) ![7, 0, 0] S1x128x128.size inb_S8x128x128_S1x128x128_7_0_0).toLoadRect (b6.unread x5)) = x369 at hx ⊢
  pointwise [k0_pay91]
  simp only [v374 c b1 b2 b3 b4 b5 b6 b7 b8 h x369 hx, r_2 c b1 b2 b3 b4 b5 b6 b7 b8 h, v40 c b1 b2 b3 b4 b5 b6 b7 b8 h, v42 c b1 b2 b3 b4 b5 b6 b7 b8 h, w_1024, div_1024, ← EReal.coe_mul, ← EReal.coe_add, ← EReal.coe_sub, sum_real]
  rfl

theorem r_8 (r : Fin 256) (j : Fin 1024) : sl.r_8 (F := Ideal) c a1 b1 x0 (ix2 r j)
    = ((erfR (d.u (R + r) j * s2) : ℝ) : EReal) := by
  unfold sl.r_8
  pointwise [k0_pay92]
  simp only [r_0 c b1 b2 b3 b4 b5 b6 b7 b8 h, k_s2, ← EReal.coe_mul, Ideal.erf_def, erf_real]

theorem outU (r : Fin 256) (j : Fin 1024) : k0_pay94 (F := Ideal) (sl.r (F := Ideal) c a1 b1 x0) (sl.v149 (F := Ideal) c a1 b1 a2 b2 a3 b3 a4 b4 a5 b5 a7 b7 a8 b8 x0 x1 x2 x3 x4 x6 x7) (sl.r_8 (F := Ideal) c a1 b1 x0) (k0_pay93 (F := Ideal)) (ix2 r j)
    = ((d.Du (R + r) j : ℝ) : EReal) := by
  pointwise [k0_pay94, k0_pay93]
  simp only [r_0 c b1 b2 b3 b4 b5 b6 b7 b8 h, v149 c b1 b2 b3 b4 b5 b6 b7 b8 h, r_8 c b1 b2 b3 b4 b5 b6 b7 b8 h, w_half, w_nhalf, w_one, k_s2, k_s2p, ← EReal.coe_mul, ← EReal.coe_add, Ideal.exp_def, Ideal.exp_coe, Ideal.erf_def, erf_real, ← EReal.coe_one]
  rfl

theorem outV (r : Fin 256) (j : Fin 1024) : k0_pay95 (F := Ideal) (sl.r_1 (F := Ideal) c a2 b2 x1) (sl.r_7 (F := Ideal) c a1 b1 a2 b2 a3 b3 a4 b4 a5 b5 a6 b6 a7 b7 a8 b8 x0 x1 x2 x3 x4 x5 x6 x7) (ix2 r j)
    = ((d.Dv (R + r) j : ℝ) : EReal) := by
  pointwise [k0_pay95]
  simp only [r_1 c b1 b2 b3 b4 b5 b6 b7 b8 h, r_7 c b1 b2 b3 b4 b5 b6 b7 b8 h, w_half, w_nhalf, w_one, k_s2, k_s2p, ← EReal.coe_mul, ← EReal.coe_add, Ideal.exp_def, Ideal.exp_coe, Ideal.erf_def, erf_real, ← EReal.coe_one]
  rfl

end Cert.Gm.A

end
-- ==== Proof.Gm.AccA.lean ====
module

public import proofs.«01_k».proof.Proof.Gm.WordsA
public import Idealize.ShloMosaic.Lib.Pipeline.ReadBack
public import proofs.«01_k».proof.Proof.Gen.KernelIdeal.Frame
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Gm.A

open Cert.KernelIdeal Cert.KernelIdeal.Gen Cert.Gm.K Cert.KernelIdeal.Gen.kernelRun0_A

variable (c : Dev nD) (d : D) (R : ℕ)
  (a1 : Memref sig .tc .vmem S256x1024 .bf16) (b1 : a1.IsWhole) (a2 : Memref sig .tc .vmem S256x1024 .bf16) (b2 : a2.IsWhole)
  (a3 : Memref sig .tc .vmem S256x1024 .bf16) (b3 : a3.IsWhole) (a4 : Memref sig .tc .vmem S1x1024 .f32) (b4 : a4.IsWhole)
  (a5 : Memref sig .tc .vmem S8x128x128 .bf16) (b5 : a5.IsWhole) (a6 : Memref sig .tc .vmem S8x128x128 .bf16) (b6 : a6.IsWhole)
  (a7 : Memref sig .tc .vmem S128x1024 .f32) (b7 : a7.IsWhole) (a8 : Memref sig .tc .vmem S1x1024 .f32) (b8 : a8.IsWhole)
  (x0 x1 x2 : FVec Ideal S256x1024 .bf16) (x3 : FVec Ideal S1x1024 .f32) (x4 x5 : FVec Ideal S8x128x128 .bf16)
  (x6 : FVec Ideal S128x1024 .f32) (x7 : FVec Ideal S1x1024 .f32) (h : In d R x0 x1 x2 x3 x4 x5 x6 x7)

variable (a9 : Memref sig .tc .vmem S256x2048 .bf16) (b9 : a9.IsWhole) (a10 : Memref sig .tc .vmem S1x1024 .f32) (b10 : a10.IsWhole)
  (a11 : Memref sig .tc .vmem S8x128x128 .f32) (b11 : a11.IsWhole) (a12 : Memref sig .tc .vmem S8x128 .f32) (b12 : a12.IsWhole)
  (a13 : Memref sig .tc .vmem S1x1024 .f32) (b13 : a13.IsWhole) (a14 : Memref sig .tc .vmem S128x1024 .f32) (b14 : a14.IsWhole)

include c d R b1 b2 b3 b4 b5 b6 b7 b8 h b9 b10 b11 b12 b13 b14

theorem dgg (j : Fin 1024) : sl.v133 (F := Ideal) c a1 b1 a2 b2 a3 b3 a4 b4 a5 b5 a7 b7 a13 x0 x1 x2 x3 x4 x6 (ix2 0 j) = ((∑ r : Fin 256, d.dm (R + r) j * d.gh (R + r) j : ℝ) : EReal) := by
  unfold sl.v133 sl.v129 sl.v128 sl.H12_1
  simp (disch := decide) only [View.readAt_eq_ld, Memref.IsWhole.read_unread, View.ld_unit_lit', View.readCov_unit_lit', View.readCov_cons_unit_lit']
  pointwise [sl.v132, sl.v131, sl.v130, sl.cst_82, k0_pay13]
  simp only [v127 c b1 b2 b3 b4 b5 b6 b7 b8 h, v125 c b1 b2 b3 b4 b5 b6 b7 b8 h, ← EReal.coe_mul, ← EReal.coe_add, ← EReal.coe_sub, sum_real, w_zero, zero_add]

theorem dln (j : Fin 1024) : k0_pay90 (F := Ideal) (sl.v42 (F := Ideal) c a2 b2 x1) (sl.v151 (F := Ideal) c a1 b1 a2 b2 a3 b3 a4 b4 a5 b5 a7 b7 a8 b8 x0 x1 x2 x3 x4 x6 x7) (sl.v262 (F := Ideal) c a1 b1 a2 b2 a3 b3 a4 b4 a5 b5 a6 b6 a7 b7 a8 b8 x0 x1 x2 x3 x4 x5 x6 x7) (sl.v281 (F := Ideal) c a1 b1 a2 b2 a3 b3 a4 b4 a5 b5 a6 b6 a7 b7 a8 b8 x0 x1 x2 x3 x4 x5 x6 x7) (sl.v294 (F := Ideal) c a1 b1 a2 b2 a3 b3 a4 b4 a5 b5 a6 b6 a7 b7 a8 b8 x0 x1 x2 x3 x4 x5 x6 x7) (sl.v307 (F := Ideal) c a1 b1 a2 b2 a3 b3 a4 b4 a5 b5 a6 b6 a7 b7 a8 b8 x0 x1 x2 x3 x4 x5 x6 x7) (sl.v320 (F := Ideal) c a1 b1 a2 b2 a3 b3 a4 b4 a5 b5 a6 b6 a7 b7 a8 b8 x0 x1 x2 x3 x4 x5 x6 x7) (sl.v333 (F := Ideal) c a1 b1 a2 b2 a3 b3 a4 b4 a5 b5 a6 b6 a7 b7 a8 b8 x0 x1 x2 x3 x4 x5 x6 x7) (sl.v346 (F := Ideal) c a1 b1 a2 b2 a3 b3 a4 b4 a5 b5 a6 b6 a7 b7 a8 b8 x0 x1 x2 x3 x4 x5 x6 x7) (sl.v359 (F := Ideal) c a1 b1 a2 b2 a3 b3 a4 b4 a5 b5 a6 b6 a7 b7 a8 b8 x0 x1 x2 x3 x4 x5 x6 x7) (View.readAt (Elt Ideal) a6.view (Rect.unit (s := S8x128x128) ![7, 0, 0] S1x128x128.size inb_S8x128x128_S1x128x128_7_0_0).toLoadRect (b6.unread x5)) (sl.v375 (F := Ideal) c a10) (ix2 0 j) = ((∑ r : Fin 256, d.dl (R + r) j * d.vh (R + r) j : ℝ) : EReal) := by
  have hx := ld7 c b1 b2 b3 b4 b5 b6 b7 b8 h
  generalize (View.readAt (Elt Ideal) a6.view (Rect.unit (s := S8x128x128) ![7, 0, 0] S1x128x128.size inb_S8x128x128_S1x128x128_7_0_0).toLoadRect (b6.unread x5)) = x369 at hx ⊢
  unfold sl.v375 sl.H9_1
  simp (disch := decide) only [View.readAt_eq_ld, Memref.IsWhole.read_unread, View.ld_unit_lit', View.readCov_unit_lit', View.readCov_cons_unit_lit']
  pointwise [k0_pay90, k0_pay10]
  simp only [v374 c b1 b2 b3 b4 b5 b6 b7 b8 h x369 hx, v42 c b1 b2 b3 b4 b5 b6 b7 b8 h, ← EReal.coe_mul, ← EReal.coe_add, ← EReal.coe_sub, sum_real, w_zero, zero_add]

theorem ws0_0 (p q : Fin 128) : sl.v163 (F := Ideal) c a1 b1 a2 b2 a3 b3 a4 b4 a5 b5 a7 b7 a8 b8 a11 x0 x1 x2 x3 x4 x6 x7 (ix2 p q) = ((wsp d R 0 0 p q : ℝ) : EReal) := by
  unfold sl.v163 sl.v159 sl.v158 sl.H10_1
  simp (disch := decide) only [View.readCov_skip, View.readCov_fill]
  pointwise [sl.v162, sl.v160, sl.v48, sl.cst_21, k0_pay11]
  simp only [v151 c b1 b2 b3 b4 b5 b6 b7 b8 h, v45 c b1 b2 b3 b4 b5 b6 b7 b8 h, ← EReal.coe_mul, ← EReal.coe_add, ← EReal.coe_sub, sum_real, w_zero, zero_add]
  simp only [wsp, Nat.zero_add, Nat.mul_zero, Nat.reduceMul]

theorem ws0_1 (p q : Fin 128) : sl.v176 (F := Ideal) c a1 b1 a2 b2 a3 b3 a4 b4 a5 b5 a7 b7 a8 b8 a11 x0 x1 x2 x3 x4 x6 x7 (ix2 p q) = ((wsp d R 0 1 p q : ℝ) : EReal) := by
  unfold sl.v176 sl.v172 sl.v171 sl.H10_2 sl.H10_1
  simp (disch := decide) only [View.readCov_skip, View.readCov_fill]
  pointwise [sl.v175, sl.v173, sl.v52, sl.cst_21, k0_pay11]
  simp only [v151 c b1 b2 b3 b4 b5 b6 b7 b8 h, v45 c b1 b2 b3 b4 b5 b6 b7 b8 h, ← EReal.coe_mul, ← EReal.coe_add, ← EReal.coe_sub, sum_real, w_zero, zero_add]
  simp only [wsp, Nat.zero_add, Nat.mul_zero, Nat.reduceMul]

theorem ws0_2 (p q : Fin 128) : sl.v189 (F := Ideal) c a1 b1 a2 b2 a3 b3 a4 b4 a5 b5 a7 b7 a8 b8 a11 x0 x1 x2 x3 x4 x6 x7 (ix2 p q) = ((wsp d R 0 2 p q : ℝ) : EReal) := by
  unfold sl.v189 sl.v185 sl.v184 sl.H10_3 sl.H10_2 sl.H10_1
  simp (disch := decide) only [View.readCov_skip, View.readCov_fill]
  pointwise [sl.v188, sl.v186, sl.v56, sl.cst_21, k0_pay11]
  simp only [v151 c b1 b2 b3 b4 b5 b6 b7 b8 h, v45 c b1 b2 b3 b4 b5 b6 b7 b8 h, ← EReal.coe_mul, ← EReal.coe_add, ← EReal.coe_sub, sum_real, w_zero, zero_add]
  simp only [wsp, Nat.zero_add, Nat.mul_zero, Nat.reduceMul]

theorem ws0_3 (p q : Fin 128) : sl.v202 (F := Ideal) c a1 b1 a2 b2 a3 b3 a4 b4 a5 b5 a7 b7 a8 b8 a11 x0 x1 x2 x3 x4 x6 x7 (ix2 p q) = ((wsp d R 0 3 p q : ℝ) : EReal) := by
  unfold sl.v202 sl.v198 sl.v197 sl.H10_4 sl.H10_3 sl.H10_2 sl.H10_1
  simp (disch := decide) only [View.readCov_skip, View.readCov_fill]
  pointwise [sl.v201, sl.v199, sl.v60, sl.cst_21, k0_pay11]
  simp only [v151 c b1 b2 b3 b4 b5 b6 b7 b8 h, v45 c b1 b2 b3 b4 b5 b6 b7 b8 h, ← EReal.coe_mul, ← EReal.coe_add, ← EReal.coe_sub, sum_real, w_zero, zero_add]
  simp only [wsp, Nat.zero_add, Nat.mul_zero, Nat.reduceMul]

theorem ws0_4 (p q : Fin 128) : sl.v215 (F := Ideal) c a1 b1 a2 b2 a3 b3 a4 b4 a5 b5 a7 b7 a8 b8 a11 x0 x1 x2 x3 x4 x6 x7 (ix2 p q) = ((wsp d R 0 4 p q : ℝ) : EReal) := by
  unfold sl.v215 sl.v211 sl.v210 sl.H10_5 sl.H10_4 sl.H10_3 sl.H10_2 sl.H10_1
  simp (disch := decide) only [View.readCov_skip, View.readCov_fill]
  pointwise [sl.v214, sl.v212, sl.v64, sl.cst_21, k0_pay11]
  simp only [v151 c b1 b2 b3 b4 b5 b6 b7 b8 h, v45 c b1 b2 b3 b4 b5 b6 b7 b8 h, ← EReal.coe_mul, ← EReal.coe_add, ← EReal.coe_sub, sum_real, w_zero, zero_add]
  simp only [wsp, Nat.zero_add, Nat.mul_zero, Nat.reduceMul]

theorem ws0_5 (p q : Fin 128) : sl.v228 (F := Ideal) c a1 b1 a2 b2 a3 b3 a4 b4 a5 b5 a7 b7 a8 b8 a11 x0 x1 x2 x3 x4 x6 x7 (ix2 p q) = ((wsp d R 0 5 p q : ℝ) : EReal) := by
  unfold sl.v228 sl.v224 sl.v223 sl.H10_6 sl.H10_5 sl.H10_4 sl.H10_3 sl.H10_2 sl.H10_1
  simp (disch := decide) only [View.readCov_skip, View.readCov_fill]
  pointwise [sl.v227, sl.v225, sl.v68, sl.cst_21, k0_pay11]
  simp only [v151 c b1 b2 b3 b4 b5 b6 b7 b8 h, v45 c b1 b2 b3 b4 b5 b6 b7 b8 h, ← EReal.coe_mul, ← EReal.coe_add, ← EReal.coe_sub, sum_real, w_zero, zero_add]
  simp only [wsp, Nat.zero_add, Nat.mul_zero, Nat.reduceMul]

theorem ws0_6 (p q : Fin 128) : sl.v241 (F := Ideal) c a1 b1 a2 b2 a3 b3 a4 b4 a5 b5 a7 b7 a8 b8 a11 x0 x1 x2 x3 x4 x6 x7 (ix2 p q) = ((wsp d R 0 6 p q : ℝ) : EReal) := by
  unfold sl.v241 sl.v237 sl.v236 sl.H10_7 sl.H10_6 sl.H10_5 sl.H10_4 sl.H10_3 sl.H10_2 sl.H10_1
  simp (disch := decide) only [View.readCov_skip, View.readCov_fill]
  pointwise [sl.v240, sl.v238, sl.v72, sl.cst_21, k0_pay11]
  simp only [v151 c b1 b2 b3 b4 b5 b6 b7 b8 h, v45 c b1 b2 b3 b4 b5 b6 b7 b8 h, ← EReal.coe_mul, ← EReal.coe_add, ← EReal.coe_sub, sum_real, w_zero, zero_add]
  simp only [wsp, Nat.zero_add, Nat.mul_zero, Nat.reduceMul]

theorem ws0_7 (p q : Fin 128) : sl.v254 (F := Ideal) c a1 b1 a2 b2 a3 b3 a4 b4 a5 b5 a7 b7 a8 b8 a11 x0 x1 x2 x3 x4 x6 x7 (ix2 p q) = ((wsp d R 0 7 p q : ℝ) : EReal) := by
  unfold sl.v254 sl.v250 sl.v249 sl.H10_8 sl.H10_7 sl.H10_6 sl.H10_5 sl.H10_4 sl.H10_3 sl.H10_2 sl.H10_1
  simp (disch := decide) only [View.readCov_skip, View.readCov_fill]
  pointwise [sl.v253, sl.v251, sl.v76, sl.cst_21, k0_pay11]
  simp only [v151 c b1 b2 b3 b4 b5 b6 b7 b8 h, v45 c b1 b2 b3 b4 b5 b6 b7 b8 h, ← EReal.coe_mul, ← EReal.coe_add, ← EReal.coe_sub, sum_real, w_zero, zero_add]
  simp only [wsp, Nat.zero_add, Nat.mul_zero, Nat.reduceMul]

theorem rc_0 (p q : Fin 128) : sl.v269 (F := Ideal) c a1 b1 a2 b2 a3 b3 a4 b4 a5 b5 a7 b7 a8 b8 a11 x0 x1 x2 x3 x4 x6 x7 (ix3 0 p q) = sl.v163 (F := Ideal) c a1 b1 a2 b2 a3 b3 a4 b4 a5 b5 a7 b7 a8 b8 a11 x0 x1 x2 x3 x4 x6 x7 (ix2 p q) := by
  unfold sl.v269 sl.H10_9 sl.H10_8 sl.H10_7 sl.H10_6 sl.H10_5 sl.H10_4 sl.H10_3 sl.H10_2
  simp (disch := decide) only [View.readCov_skip]
  rw [View.readCov_cons_toLoadRect]
  pointwise [sl.v166]

theorem ws1_0 (p q : Fin 128) : sl.v277 (F := Ideal) c a1 b1 a2 b2 a3 b3 a4 b4 a5 b5 a7 b7 a8 b8 a11 x0 x1 x2 x3 x4 x6 x7 (ix3 0 p q) = ((wsp d R 0 0 p q + wsp d R 128 0 p q : ℝ) : EReal) := by
  pointwise [sl.v277, sl.v274, sl.v270, sl.v273, sl.v271, sl.v82, sl.cst_21]
  simp only [rc_0 c d R a1 b1 a2 b2 a3 b3 a4 b4 a5 b5 a6 b6 a7 b7 a8 b8 x0 x1 x2 x3 x4 x5 x6 x7 h a9 b9 a10 b10 a11 b11 a12 b12 a13 b13 a14 b14, ws0_0 c d R a1 b1 a2 b2 a3 b3 a4 b4 a5 b5 a6 b6 a7 b7 a8 b8 x0 x1 x2 x3 x4 x5 x6 x7 h a9 b9 a10 b10 a11 b11 a12 b12 a13 b13 a14 b14, v151 c b1 b2 b3 b4 b5 b6 b7 b8 h, v45 c b1 b2 b3 b4 b5 b6 b7 b8 h, ← EReal.coe_mul, ← EReal.coe_add, ← EReal.coe_sub, sum_real]

  first | (simp only [wsp, Nat.zero_add, Nat.mul_zero, Nat.reduceMul]; done) | rfl

theorem rc_1 (p q : Fin 128) : sl.v282 (F := Ideal) c a1 b1 a2 b2 a3 b3 a4 b4 a5 b5 a7 b7 a8 b8 a11 x0 x1 x2 x3 x4 x6 x7 (ix3 0 p q) = sl.v176 (F := Ideal) c a1 b1 a2 b2 a3 b3 a4 b4 a5 b5 a7 b7 a8 b8 a11 x0 x1 x2 x3 x4 x6 x7 (ix2 p q) := by
  unfold sl.v282 sl.H10_10 sl.H10_9 sl.H10_8 sl.H10_7 sl.H10_6 sl.H10_5 sl.H10_4 sl.H10_3
  simp (disch := decide) only [View.readCov_skip]
  rw [View.readCov_cons_toLoadRect]
  pointwise [sl.v179]

theorem ws1_1 (p q : Fin 128) : sl.v290 (F := Ideal) c a1 b1 a2 b2 a3 b3 a4 b4 a5 b5 a7 b7 a8 b8 a11 x0 x1 x2 x3 x4 x6 x7 (ix3 0 p q) = ((wsp d R 0 1 p q + wsp d R 128 1 p q : ℝ) : EReal) := by
  pointwise [sl.v290, sl.v287, sl.v283, sl.v286, sl.v284, sl.v86, sl.cst_21]
  simp only [rc_1 c d R a1 b1 a2 b2 a3 b3 a4 b4 a5 b5 a6 b6 a7 b7 a8 b8 x0 x1 x2 x3 x4 x5 x6 x7 h a9 b9 a10 b10 a11 b11 a12 b12 a13 b13 a14 b14, ws0_1 c d R a1 b1 a2 b2 a3 b3 a4 b4 a5 b5 a6 b6 a7 b7 a8 b8 x0 x1 x2 x3 x4 x5 x6 x7 h a9 b9 a10 b10 a11 b11 a12 b12 a13 b13 a14 b14, v151 c b1 b2 b3 b4 b5 b6 b7 b8 h, v45 c b1 b2 b3 b4 b5 b6 b7 b8 h, ← EReal.coe_mul, ← EReal.coe_add, ← EReal.coe_sub, sum_real]

  first | (simp only [wsp, Nat.zero_add, Nat.mul_zero, Nat.reduceMul]; done) | rfl

theorem rc_2 (p q : Fin 128) : sl.v295 (F := Ideal) c a1 b1 a2 b2 a3 b3 a4 b4 a5 b5 a7 b7 a8 b8 a11 x0 x1 x2 x3 x4 x6 x7 (ix3 0 p q) = sl.v189 (F := Ideal) c a1 b1 a2 b2 a3 b3 a4 b4 a5 b5 a7 b7 a8 b8 a11 x0 x1 x2 x3 x4 x6 x7 (ix2 p q) := by
  unfold sl.v295 sl.H10_11 sl.H10_10 sl.H10_9 sl.H10_8 sl.H10_7 sl.H10_6 sl.H10_5 sl.H10_4
  simp (disch := decide) only [View.readCov_skip]
  rw [View.readCov_cons_toLoadRect]
  pointwise [sl.v192]

theorem ws1_2 (p q : Fin 128) : sl.v303 (F := Ideal) c a1 b1 a2 b2 a3 b3 a4 b4 a5 b5 a7 b7 a8 b8 a11 x0 x1 x2 x3 x4 x6 x7 (ix3 0 p q) = ((wsp d R 0 2 p q + wsp d R 128 2 p q : ℝ) : EReal) := by
  pointwise [sl.v303, sl.v300, sl.v296, sl.v299, sl.v297, sl.v90, sl.cst_21]
  simp only [rc_2 c d R a1 b1 a2 b2 a3 b3 a4 b4 a5 b5 a6 b6 a7 b7 a8 b8 x0 x1 x2 x3 x4 x5 x6 x7 h a9 b9 a10 b10 a11 b11 a12 b12 a13 b13 a14 b14, ws0_2 c d R a1 b1 a2 b2 a3 b3 a4 b4 a5 b5 a6 b6 a7 b7 a8 b8 x0 x1 x2 x3 x4 x5 x6 x7 h a9 b9 a10 b10 a11 b11 a12 b12 a13 b13 a14 b14, v151 c b1 b2 b3 b4 b5 b6 b7 b8 h, v45 c b1 b2 b3 b4 b5 b6 b7 b8 h, ← EReal.coe_mul, ← EReal.coe_add, ← EReal.coe_sub, sum_real]

  first | (simp only [wsp, Nat.zero_add, Nat.mul_zero, Nat.reduceMul]; done) | rfl

theorem rc_3 (p q : Fin 128) : sl.v308 (F := Ideal) c a1 b1 a2 b2 a3 b3 a4 b4 a5 b5 a7 b7 a8 b8 a11 x0 x1 x2 x3 x4 x6 x7 (ix3 0 p q) = sl.v202 (F := Ideal) c a1 b1 a2 b2 a3 b3 a4 b4 a5 b5 a7 b7 a8 b8 a11 x0 x1 x2 x3 x4 x6 x7 (ix2 p q) := by
  unfold sl.v308 sl.H10_12 sl.H10_11 sl.H10_10 sl.H10_9 sl.H10_8 sl.H10_7 sl.H10_6 sl.H10_5
  simp (disch := decide) only [View.readCov_skip]
  rw [View.readCov_cons_toLoadRect]
  pointwise [sl.v205]

theorem ws1_3 (p q : Fin 128) : sl.v316 (F := Ideal) c a1 b1 a2 b2 a3 b3 a4 b4 a5 b5 a7 b7 a8 b8 a11 x0 x1 x2 x3 x4 x6 x7 (ix3 0 p q) = ((wsp d R 0 3 p q + wsp d R 128 3 p q : ℝ) : EReal) := by
  pointwise [sl.v316, sl.v313, sl.v309, sl.v312, sl.v310, sl.v94, sl.cst_21]
  simp only [rc_3 c d R a1 b1 a2 b2 a3 b3 a4 b4 a5 b5 a6 b6 a7 b7 a8 b8 x0 x1 x2 x3 x4 x5 x6 x7 h a9 b9 a10 b10 a11 b11 a12 b12 a13 b13 a14 b14, ws0_3 c d R a1 b1 a2 b2 a3 b3 a4 b4 a5 b5 a6 b6 a7 b7 a8 b8 x0 x1 x2 x3 x4 x5 x6 x7 h a9 b9 a10 b10 a11 b11 a12 b12 a13 b13 a14 b14, v151 c b1 b2 b3 b4 b5 b6 b7 b8 h, v45 c b1 b2 b3 b4 b5 b6 b7 b8 h, ← EReal.coe_mul, ← EReal.coe_add, ← EReal.coe_sub, sum_real]

  first | (simp only [wsp, Nat.zero_add, Nat.mul_zero, Nat.reduceMul]; done) | rfl

theorem rc_4 (p q : Fin 128) : sl.v321 (F := Ideal) c a1 b1 a2 b2 a3 b3 a4 b4 a5 b5 a7 b7 a8 b8 a11 x0 x1 x2 x3 x4 x6 x7 (ix3 0 p q) = sl.v215 (F := Ideal) c a1 b1 a2 b2 a3 b3 a4 b4 a5 b5 a7 b7 a8 b8 a11 x0 x1 x2 x3 x4 x6 x7 (ix2 p q) := by
  unfold sl.v321 sl.H10_13 sl.H10_12 sl.H10_11 sl.H10_10 sl.H10_9 sl.H10_8 sl.H10_7 sl.H10_6
  simp (disch := decide) only [View.readCov_skip]
  rw [View.readCov_cons_toLoadRect]
  pointwise [sl.v218]

theorem ws1_4 (p q : Fin 128) : sl.v329 (F := Ideal) c a1 b1 a2 b2 a3 b3 a4 b4 a5 b5 a7 b7 a8 b8 a11 x0 x1 x2 x3 x4 x6 x7 (ix3 0 p q) = ((wsp d R 0 4 p q + wsp d R 128 4 p q : ℝ) : EReal) := by
  pointwise [sl.v329, sl.v326, sl.v322, sl.v325, sl.v323, sl.v98, sl.cst_21]
  simp only [rc_4 c d R a1 b1 a2 b2 a3 b3 a4 b4 a5 b5 a6 b6 a7 b7 a8 b8 x0 x1 x2 x3 x4 x5 x6 x7 h a9 b9 a10 b10 a11 b11 a12 b12 a13 b13 a14 b14, ws0_4 c d R a1 b1 a2 b2 a3 b3 a4 b4 a5 b5 a6 b6 a7 b7 a8 b8 x0 x1 x2 x3 x4 x5 x6 x7 h a9 b9 a10 b10 a11 b11 a12 b12 a13 b13 a14 b14, v151 c b1 b2 b3 b4 b5 b6 b7 b8 h, v45 c b1 b2 b3 b4 b5 b6 b7 b8 h, ← EReal.coe_mul, ← EReal.coe_add, ← EReal.coe_sub, sum_real]

  first | (simp only [wsp, Nat.zero_add, Nat.mul_zero, Nat.reduceMul]; done) | rfl

theorem rc_5 (p q : Fin 128) : sl.v334 (F := Ideal) c a1 b1 a2 b2 a3 b3 a4 b4 a5 b5 a7 b7 a8 b8 a11 x0 x1 x2 x3 x4 x6 x7 (ix3 0 p q) = sl.v228 (F := Ideal) c a1 b1 a2 b2 a3 b3 a4 b4 a5 b5 a7 b7 a8 b8 a11 x0 x1 x2 x3 x4 x6 x7 (ix2 p q) := by
  unfold sl.v334 sl.H10_14 sl.H10_13 sl.H10_12 sl.H10_11 sl.H10_10 sl.H10_9 sl.H10_8 sl.H10_7
  simp (disch := decide) only [View.readCov_skip]
  rw [View.readCov_cons_toLoadRect]
  pointwise [sl.v231]

theorem ws1_5 (p q : Fin 128) : sl.v342 (F := Ideal) c a1 b1 a2 b2 a3 b3 a4 b4 a5 b5 a7 b7 a8 b8 a11 x0 x1 x2 x3 x4 x6 x7 (ix3 0 p q) = ((wsp d R 0 5 p q + wsp d R 128 5 p q : ℝ) : EReal) := by
  pointwise [sl.v342, sl.v339, sl.v335, sl.v338, sl.v336, sl.v102, sl.cst_21]
  simp only [rc_5 c d R a1 b1 a2 b2 a3 b3 a4 b4 a5 b5 a6 b6 a7 b7 a8 b8 x0 x1 x2 x3 x4 x5 x6 x7 h a9 b9 a10 b10 a11 b11 a12 b12 a13 b13 a14 b14, ws0_5 c d R a1 b1 a2 b2 a3 b3 a4 b4 a5 b5 a6 b6 a7 b7 a8 b8 x0 x1 x2 x3 x4 x5 x6 x7 h a9 b9 a10 b10 a11 b11 a12 b12 a13 b13 a14 b14, v151 c b1 b2 b3 b4 b5 b6 b7 b8 h, v45 c b1 b2 b3 b4 b5 b6 b7 b8 h, ← EReal.coe_mul, ← EReal.coe_add, ← EReal.coe_sub, sum_real]

  first | (simp only [wsp, Nat.zero_add, Nat.mul_zero, Nat.reduceMul]; done) | rfl

theorem rc_6 (p q : Fin 128) : sl.v347 (F := Ideal) c a1 b1 a2 b2 a3 b3 a4 b4 a5 b5 a7 b7 a8 b8 a11 x0 x1 x2 x3 x4 x6 x7 (ix3 0 p q) = sl.v241 (F := Ideal) c a1 b1 a2 b2 a3 b3 a4 b4 a5 b5 a7 b7 a8 b8 a11 x0 x1 x2 x3 x4 x6 x7 (ix2 p q) := by
  unfold sl.v347 sl.H10_15 sl.H10_14 sl.H10_13 sl.H10_12 sl.H10_11 sl.H10_10 sl.H10_9 sl.H10_8
  simp (disch := decide) only [View.readCov_skip]
  rw [View.readCov_cons_toLoadRect]
  pointwise [sl.v244]

theorem ws1_6 (p q : Fin 128) : sl.v355 (F := Ideal) c a1 b1 a2 b2 a3 b3 a4 b4 a5 b5 a7 b7 a8 b8 a11 x0 x1 x2 x3 x4 x6 x7 (ix3 0 p q) = ((wsp d R 0 6 p q + wsp d R 128 6 p q : ℝ) : EReal) := by
  pointwise [sl.v355, sl.v352, sl.v348, sl.v351, sl.v349, sl.v106, sl.cst_21]
  simp only [rc_6 c d R a1 b1 a2 b2 a3 b3 a4 b4 a5 b5 a6 b6 a7 b7 a8 b8 x0 x1 x2 x3 x4 x5 x6 x7 h a9 b9 a10 b10 a11 b11 a12 b12 a13 b13 a14 b14, ws0_6 c d R a1 b1 a2 b2 a3 b3 a4 b4 a5 b5 a6 b6 a7 b7 a8 b8 x0 x1 x2 x3 x4 x5 x6 x7 h a9 b9 a10 b10 a11 b11 a12 b12 a13 b13 a14 b14, v151 c b1 b2 b3 b4 b5 b6 b7 b8 h, v45 c b1 b2 b3 b4 b5 b6 b7 b8 h, ← EReal.coe_mul, ← EReal.coe_add, ← EReal.coe_sub, sum_real]

  first | (simp only [wsp, Nat.zero_add, Nat.mul_zero, Nat.reduceMul]; done) | rfl

theorem rc_7 (p q : Fin 128) : sl.v360 (F := Ideal) c a1 b1 a2 b2 a3 b3 a4 b4 a5 b5 a7 b7 a8 b8 a11 x0 x1 x2 x3 x4 x6 x7 (ix3 0 p q) = sl.v254 (F := Ideal) c a1 b1 a2 b2 a3 b3 a4 b4 a5 b5 a7 b7 a8 b8 a11 x0 x1 x2 x3 x4 x6 x7 (ix2 p q) := by
  unfold sl.v360 sl.H10_16 sl.H10_15 sl.H10_14 sl.H10_13 sl.H10_12 sl.H10_11 sl.H10_10 sl.H10_9
  simp (disch := decide) only [View.readCov_skip]
  rw [View.readCov_cons_toLoadRect]
  pointwise [sl.v257]

theorem ws1_7 (p q : Fin 128) : k0_pay88 (F := Ideal) (sl.v361 (F := Ideal) c a1 b1 a2 b2 a3 b3 a4 b4 a5 b5 a7 b7 a8 b8 a11 x0 x1 x2 x3 x4 x6 x7) (sl.v362 (F := Ideal) c a1 b1 a2 b2 a3 b3 a4 b4 a5 b5 a7 b7 a8 b8 x0 x1 x2 x3 x4 x6 x7) (sl.v110 (F := Ideal) c a2 b2 a4 b4 x1 x3) sl.cst_21 (ix3 0 p q) = ((wsp d R 0 7 p q + wsp d R 128 7 p q : ℝ) : EReal) := by
  pointwise [k0_pay88, sl.v361, sl.v362, sl.v110, sl.cst_21]
  simp only [rc_7 c d R a1 b1 a2 b2 a3 b3 a4 b4 a5 b5 a6 b6 a7 b7 a8 b8 x0 x1 x2 x3 x4 x5 x6 x7 h a9 b9 a10 b10 a11 b11 a12 b12 a13 b13 a14 b14, ws0_7 c d R a1 b1 a2 b2 a3 b3 a4 b4 a5 b5 a6 b6 a7 b7 a8 b8 x0 x1 x2 x3 x4 x5 x6 x7 h a9 b9 a10 b10 a11 b11 a12 b12 a13 b13 a14 b14, v151 c b1 b2 b3 b4 b5 b6 b7 b8 h, v45 c b1 b2 b3 b4 b5 b6 b7 b8 h, ← EReal.coe_mul, ← EReal.coe_add, ← EReal.coe_sub, sum_real]

  first | (simp only [wsp, Nat.zero_add, Nat.mul_zero, Nat.reduceMul]; done) | rfl

theorem db (p : Fin 128) (j : Fin 1024) : sl.v268 (F := Ideal) c a1 b1 a2 b2 a3 b3 a4 b4 a5 b5 a7 b7 a8 b8 a14 x0 x1 x2 x3 x4 x6 x7 (ix2 p j) = ((d.dx (R + p) j + d.dx (R + (128 + p)) j : ℝ) : EReal) := by
  unfold sl.v268 sl.v265 sl.v263 sl.HS0_2 sl.v157 sl.v154 sl.v152 sl.HS0_1
  simp (disch := decide) only [View.readAt_eq_ld, Memref.IsWhole.read_unread, View.ld_unit_lit', View.readCov_unit_lit', View.readCov_cons_unit_lit']
  pointwise [sl.v264, sl.v153, k0_pay12]
  simp only [v150 c b1 b2 b3 b4 b5 b6 b7 b8 h, ← EReal.coe_mul, ← EReal.coe_add, ← EReal.coe_sub, sum_real, w_zero, zero_add]

theorem o9 (i : grid0.Coords) (hc0 : cond0_0 i) (hc1 : ¬cond0_1 i) (j : Fin 1024) : out0_A_9 (F := Ideal) c i a1 b1 a2 b2 a3 b3 a4 b4 a5 b5 a6 b6 a7 b7 a8 b8 a9 b9 a10 b10 a11 b11 a12 b12 a13 b13 a14 b14 hc0 hc1 x0 x1 x2 x3 x4 x5 x6 x7 (ix2 0 j) = ((∑ r : Fin 256, d.dl (R + r) j * d.vh (R + r) j : ℝ) : EReal) := by
  have e : out0_A_9 (F := Ideal) c i a1 b1 a2 b2 a3 b3 a4 b4 a5 b5 a6 b6 a7 b7 a8 b8 a9 b9 a10 b10 a11 b11 a12 b12 a13 b13 a14 b14 hc0 hc1 x0 x1 x2 x3 x4 x5 x6 x7 = k0_pay90 (F := Ideal) (sl.v42 (F := Ideal) c a2 b2 x1) (sl.v151 (F := Ideal) c a1 b1 a2 b2 a3 b3 a4 b4 a5 b5 a7 b7 a8 b8 x0 x1 x2 x3 x4 x6 x7) (sl.v262 (F := Ideal) c a1 b1 a2 b2 a3 b3 a4 b4 a5 b5 a6 b6 a7 b7 a8 b8 x0 x1 x2 x3 x4 x5 x6 x7) (sl.v281 (F := Ideal) c a1 b1 a2 b2 a3 b3 a4 b4 a5 b5 a6 b6 a7 b7 a8 b8 x0 x1 x2 x3 x4 x5 x6 x7) (sl.v294 (F := Ideal) c a1 b1 a2 b2 a3 b3 a4 b4 a5 b5 a6 b6 a7 b7 a8 b8 x0 x1 x2 x3 x4 x5 x6 x7) (sl.v307 (F := Ideal) c a1 b1 a2 b2 a3 b3 a4 b4 a5 b5 a6 b6 a7 b7 a8 b8 x0 x1 x2 x3 x4 x5 x6 x7) (sl.v320 (F := Ideal) c a1 b1 a2 b2 a3 b3 a4 b4 a5 b5 a6 b6 a7 b7 a8 b8 x0 x1 x2 x3 x4 x5 x6 x7) (sl.v333 (F := Ideal) c a1 b1 a2 b2 a3 b3 a4 b4 a5 b5 a6 b6 a7 b7 a8 b8 x0 x1 x2 x3 x4 x5 x6 x7) (sl.v346 (F := Ideal) c a1 b1 a2 b2 a3 b3 a4 b4 a5 b5 a6 b6 a7 b7 a8 b8 x0 x1 x2 x3 x4 x5 x6 x7) (sl.v359 (F := Ideal) c a1 b1 a2 b2 a3 b3 a4 b4 a5 b5 a6 b6 a7 b7 a8 b8 x0 x1 x2 x3 x4 x5 x6 x7) (View.readAt (Elt Ideal) a6.view (Rect.unit (s := S8x128x128) ![7, 0, 0] S1x128x128.size inb_S8x128x128_S1x128x128_7_0_0).toLoadRect (b6.unread x5)) (sl.v375 (F := Ideal) c a10) :=
    (View.read_writes_junk_eq_canon _ _).trans (View.canon_cons_unit_lit' _ _ _ (by decide))
  rw [e]
  exact dln c d R a1 b1 a2 b2 a3 b3 a4 b4 a5 b5 a6 b6 a7 b7 a8 b8 x0 x1 x2 x3 x4 x5 x6 x7 h a9 b9 a10 b10 a11 b11 a12 b12 a13 b13 a14 b14 j

theorem o12 (i : grid0.Coords) (hc0 : cond0_0 i) (hc1 : ¬cond0_1 i) (j : Fin 1024) : out0_A_12 (F := Ideal) c i a1 b1 a2 b2 a3 b3 a4 b4 a5 b5 a6 b6 a7 b7 a8 b8 a9 b9 a10 b10 a11 b11 a12 b12 a13 b13 a14 b14 hc0 hc1 x0 x1 x2 x3 x4 x5 x6 x7 (ix2 0 j) = ((∑ r : Fin 256, d.dm (R + r) j * d.gh (R + r) j : ℝ) : EReal) := by
  have e : out0_A_12 (F := Ideal) c i a1 b1 a2 b2 a3 b3 a4 b4 a5 b5 a6 b6 a7 b7 a8 b8 a9 b9 a10 b10 a11 b11 a12 b12 a13 b13 a14 b14 hc0 hc1 x0 x1 x2 x3 x4 x5 x6 x7 = sl.v133 (F := Ideal) c a1 b1 a2 b2 a3 b3 a4 b4 a5 b5 a7 b7 a13 x0 x1 x2 x3 x4 x6 :=
    (View.read_writes_junk_eq_canon _ _).trans (View.canon_cons_unit_lit' _ _ _ (by decide))
  rw [e]
  exact dgg c d R a1 b1 a2 b2 a3 b3 a4 b4 a5 b5 a6 b6 a7 b7 a8 b8 x0 x1 x2 x3 x4 x5 x6 x7 h a9 b9 a10 b10 a11 b11 a12 b12 a13 b13 a14 b14 j

theorem os (i : grid0.Coords) (hc0 : cond0_0 i) (hc1 : ¬cond0_1 i) (p : Fin 128) (j : Fin 1024) : sout0_A_0 (F := Ideal) c i a1 b1 a2 b2 a3 b3 a4 b4 a5 b5 a6 b6 a7 b7 a8 b8 a9 b9 a10 b10 a11 b11 a12 b12 a13 b13 a14 b14 hc0 hc1 x0 x1 x2 x3 x4 x5 x6 x7 (ix2 p j) = ((d.dx (R + p) j + d.dx (R + (128 + p)) j : ℝ) : EReal) := by
  have e : sout0_A_0 (F := Ideal) c i a1 b1 a2 b2 a3 b3 a4 b4 a5 b5 a6 b6 a7 b7 a8 b8 a9 b9 a10 b10 a11 b11 a12 b12 a13 b13 a14 b14 hc0 hc1 x0 x1 x2 x3 x4 x5 x6 x7 = sl.v268 (F := Ideal) c a1 b1 a2 b2 a3 b3 a4 b4 a5 b5 a7 b7 a8 b8 a14 x0 x1 x2 x3 x4 x6 x7 :=
    (View.read_writes_junk_eq_canon _ _).trans (View.canon_cons_unit_lit' _ _ _ (by decide))
  rw [e]
  exact db c d R a1 b1 a2 b2 a3 b3 a4 b4 a5 b5 a6 b6 a7 b7 a8 b8 x0 x1 x2 x3 x4 x5 x6 x7 h a9 b9 a10 b10 a11 b11 a12 b12 a13 b13 a14 b14 p j

theorem o8 (i : grid0.Coords) (hc0 : cond0_0 i) (hc1 : ¬cond0_1 i) (y : S256x2048.Idx) : out0_A_8 (F := Ideal) c i a1 b1 a2 b2 a3 b3 a4 b4 a5 b5 a6 b6 a7 b7 a8 b8 a9 b9 a10 b10 a11 b11 a12 b12 a13 b13 a14 b14 hc0 hc1 x0 x1 x2 x3 x4 x5 x6 x7 y = G8 d R y := by
  refine (congrFun (View.read_writes_junk_eq_canon VO0_8 _) y).trans ?_
  refine View.canon_append_of_piecesOf (G8 d R) [] [⟨Rect.unit (s := S256x2048) ![0, 1024] S256x1024.size inb_S256x2048_S256x1024_0_1024, k0_pay95 (F := Ideal) (sl.r_1 (F := Ideal) c a2 b2 x1) (sl.r_7 (F := Ideal) c a1 b1 a2 b2 a3 b3 a4 b4 a5 b5 a6 b6 a7 b7 a8 b8 x0 x1 x2 x3 x4 x5 x6 x7)⟩,
    ⟨Rect.unit (s := S256x2048) ![0, 0] S256x1024.size inb_S256x2048_S256x1024_0_0, k0_pay94 (F := Ideal) (sl.r (F := Ideal) c a1 b1 x0) (sl.v149 (F := Ideal) c a1 b1 a2 b2 a3 b3 a4 b4 a5 b5 a7 b7 a8 b8 x0 x1 x2 x3 x4 x6 x7) (sl.r_8 (F := Ideal) c a1 b1 x0) (k0_pay93 (F := Ideal))⟩] ⟨?_, ?_, trivial⟩ y (cover0_A_8 (F := Ideal) c i a1 b1 a2 b2 a3 b3 a4 b4 a5 b5 a6 b6 a7 b7 a8 b8 a9 b9 a10 b10 a11 b11 a12 b12 a13 b13 a14 b14 hc0 hc1 x0 x1 x2 x3 x4 x5 x6 x7 y)
  · intro x
    rw [eq_ix2 x]
    exact (outV c b1 b2 b3 b4 b5 b6 b7 b8 h _ _).trans (G8_V d R _ _ _ (by rw [ValueKit.rect_emb_unit_val]; rfl) (by rw [ValueKit.rect_emb_unit_val]; rfl)).symm
  · intro x
    rw [eq_ix2 x]
    exact (outU c b1 b2 b3 b4 b5 b6 b7 b8 h _ _).trans (G8_U d R _ _ _ (by rw [ValueKit.rect_emb_unit_val]; rfl) (by rw [ValueKit.rect_emb_unit_val]; rfl)).symm

theorem o10 (i : grid0.Coords) (hc0 : cond0_0 i) (hc1 : ¬cond0_1 i) (y : S8x128x128.Idx) : out0_A_10 (F := Ideal) c i a1 b1 a2 b2 a3 b3 a4 b4 a5 b5 a6 b6 a7 b7 a8 b8 a9 b9 a10 b10 a11 b11 a12 b12 a13 b13 a14 b14 hc0 hc1 x0 x1 x2 x3 x4 x5 x6 x7 y = G10A d R y := by
  refine (congrFun (View.read_writes_junk_eq_canon VO0_10 _) y).trans ?_
  have hp : View.PiecesOf (Val := Elt Ideal) (e := .f32) (G10A d R) [⟨Rect.unit (s := S8x128x128) ![7, 0, 0] S1x128x128.size inb_S8x128x128_S1x128x128_7_0_0, k0_pay88 (F := Ideal) (sl.v361 (F := Ideal) c a1 b1 a2 b2 a3 b3 a4 b4 a5 b5 a7 b7 a8 b8 a11 x0 x1 x2 x3 x4 x6 x7) (sl.v362 (F := Ideal) c a1 b1 a2 b2 a3 b3 a4 b4 a5 b5 a7 b7 a8 b8 x0 x1 x2 x3 x4 x6 x7) (sl.v110 (F := Ideal) c a2 b2 a4 b4 x1 x3) sl.cst_21⟩,
    ⟨Rect.unit (s := S8x128x128) ![6, 0, 0] S1x128x128.size inb_S8x128x128_S1x128x128_6_0_0, sl.v355 (F := Ideal) c a1 b1 a2 b2 a3 b3 a4 b4 a5 b5 a7 b7 a8 b8 a11 x0 x1 x2 x3 x4 x6 x7⟩,
    ⟨Rect.unit (s := S8x128x128) ![5, 0, 0] S1x128x128.size inb_S8x128x128_S1x128x128_5_0_0, sl.v342 (F := Ideal) c a1 b1 a2 b2 a3 b3 a4 b4 a5 b5 a7 b7 a8 b8 a11 x0 x1 x2 x3 x4 x6 x7⟩,
    ⟨Rect.unit (s := S8x128x128) ![4, 0, 0] S1x128x128.size inb_S8x128x128_S1x128x128_4_0_0, sl.v329 (F := Ideal) c a1 b1 a2 b2 a3 b3 a4 b4 a5 b5 a7 b7 a8 b8 a11 x0 x1 x2 x3 x4 x6 x7⟩,
    ⟨Rect.unit (s := S8x128x128) ![3, 0, 0] S1x128x128.size inb_S8x128x128_S1x128x128_3_0_0, sl.v316 (F := Ideal) c a1 b1 a2 b2 a3 b3 a4 b4 a5 b5 a7 b7 a8 b8 a11 x0 x1 x2 x3 x4 x6 x7⟩,
    ⟨Rect.unit (s := S8x128x128) ![2, 0, 0] S1x128x128.size inb_S8x128x128_S1x128x128_2_0_0, sl.v303 (F := Ideal) c a1 b1 a2 b2 a3 b3 a4 b4 a5 b5 a7 b7 a8 b8 a11 x0 x1 x2 x3 x4 x6 x7⟩,
    ⟨Rect.unit (s := S8x128x128) ![1, 0, 0] S1x128x128.size inb_S8x128x128_S1x128x128_1_0_0, sl.v290 (F := Ideal) c a1 b1 a2 b2 a3 b3 a4 b4 a5 b5 a7 b7 a8 b8 a11 x0 x1 x2 x3 x4 x6 x7⟩,
    ⟨Rect.unit (s := S8x128x128) ![0, 0, 0] S1x128x128.size inb_S8x128x128_S1x128x128_0_0_0, sl.v277 (F := Ideal) c a1 b1 a2 b2 a3 b3 a4 b4 a5 b5 a7 b7 a8 b8 a11 x0 x1 x2 x3 x4 x6 x7⟩] :=
    ⟨?_, ?_, ?_, ?_, ?_, ?_, ?_, ?_, trivial⟩
  · exact View.canon_append_of_piecesOf (G10A d R) (sl.H10_9 (F := Ideal) c a1 b1 a2 b2 a3 b3 a4 b4 a5 b5 a7 b7 a8 b8 a11 x0 x1 x2 x3 x4 x6 x7) _ hp y (View.cover_of_tiledL (s := S8x128x128) _ S1x128x128.size (by sl_kernel_rfl) y)
  · intro x
    obtain ⟨p, q, rfl⟩ := ex3 x
    refine (ws1_7 c d R a1 b1 a2 b2 a3 b3 a4 b4 a5 b5 a6 b6 a7 b7 a8 b8 x0 x1 x2 x3 x4 x5 x6 x7 h a9 b9 a10 b10 a11 b11 a12 b12 a13 b13 a14 b14 _ _).trans ?_
    refine G10A_at d R 7 _ _ _ ?_ ?_ ?_ <;> (rw [ValueKit.rect_emb_unit_val]; rfl)
  · intro x
    obtain ⟨p, q, rfl⟩ := ex3 x
    refine (ws1_6 c d R a1 b1 a2 b2 a3 b3 a4 b4 a5 b5 a6 b6 a7 b7 a8 b8 x0 x1 x2 x3 x4 x5 x6 x7 h a9 b9 a10 b10 a11 b11 a12 b12 a13 b13 a14 b14 _ _).trans ?_
    refine G10A_at d R 6 _ _ _ ?_ ?_ ?_ <;> (rw [ValueKit.rect_emb_unit_val]; rfl)
  · intro x
    obtain ⟨p, q, rfl⟩ := ex3 x
    refine (ws1_5 c d R a1 b1 a2 b2 a3 b3 a4 b4 a5 b5 a6 b6 a7 b7 a8 b8 x0 x1 x2 x3 x4 x5 x6 x7 h a9 b9 a10 b10 a11 b11 a12 b12 a13 b13 a14 b14 _ _).trans ?_
    refine G10A_at d R 5 _ _ _ ?_ ?_ ?_ <;> (rw [ValueKit.rect_emb_unit_val]; rfl)
  · intro x
    obtain ⟨p, q, rfl⟩ := ex3 x
    refine (ws1_4 c d R a1 b1 a2 b2 a3 b3 a4 b4 a5 b5 a6 b6 a7 b7 a8 b8 x0 x1 x2 x3 x4 x5 x6 x7 h a9 b9 a10 b10 a11 b11 a12 b12 a13 b13 a14 b14 _ _).trans ?_
    refine G10A_at d R 4 _ _ _ ?_ ?_ ?_ <;> (rw [ValueKit.rect_emb_unit_val]; rfl)
  · intro x
    obtain ⟨p, q, rfl⟩ := ex3 x
    refine (ws1_3 c d R a1 b1 a2 b2 a3 b3 a4 b4 a5 b5 a6 b6 a7 b7 a8 b8 x0 x1 x2 x3 x4 x5 x6 x7 h a9 b9 a10 b10 a11 b11 a12 b12 a13 b13 a14 b14 _ _).trans ?_
    refine G10A_at d R 3 _ _ _ ?_ ?_ ?_ <;> (rw [ValueKit.rect_emb_unit_val]; rfl)
  · intro x
    obtain ⟨p, q, rfl⟩ := ex3 x
    refine (ws1_2 c d R a1 b1 a2 b2 a3 b3 a4 b4 a5 b5 a6 b6 a7 b7 a8 b8 x0 x1 x2 x3 x4 x5 x6 x7 h a9 b9 a10 b10 a11 b11 a12 b12 a13 b13 a14 b14 _ _).trans ?_
    refine G10A_at d R 2 _ _ _ ?_ ?_ ?_ <;> (rw [ValueKit.rect_emb_unit_val]; rfl)
  · intro x
    obtain ⟨p, q, rfl⟩ := ex3 x
    refine (ws1_1 c d R a1 b1 a2 b2 a3 b3 a4 b4 a5 b5 a6 b6 a7 b7 a8 b8 x0 x1 x2 x3 x4 x5 x6 x7 h a9 b9 a10 b10 a11 b11 a12 b12 a13 b13 a14 b14 _ _).trans ?_
    refine G10A_at d R 1 _ _ _ ?_ ?_ ?_ <;> (rw [ValueKit.rect_emb_unit_val]; rfl)
  · intro x
    obtain ⟨p, q, rfl⟩ := ex3 x
    refine (ws1_0 c d R a1 b1 a2 b2 a3 b3 a4 b4 a5 b5 a6 b6 a7 b7 a8 b8 x0 x1 x2 x3 x4 x5 x6 x7 h a9 b9 a10 b10 a11 b11 a12 b12 a13 b13 a14 b14 _ _).trans ?_
    refine G10A_at d R 0 _ _ _ ?_ ?_ ?_ <;> (rw [ValueKit.rect_emb_unit_val]; rfl)

end Cert.Gm.A

end
-- ==== Proof.Gm.WordsB.lean ====
module

public import proofs.«01_k».proof.Proof.Gm.Kern
public import proofs.«01_k».proof.Proof.Gen.KernelIdeal.Frame
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Gm.B

open Cert.KernelIdeal Cert.KernelIdeal.Gen Cert.Gm.K Cert.KernelIdeal.Gen.kernelRun0_B

variable (c : Dev nD) {d : D} {R : ℕ}
  {a1 : Memref sig .tc .vmem S256x1024 .bf16} (b1 : a1.IsWhole) {a2 : Memref sig .tc .vmem S256x1024 .bf16} (b2 : a2.IsWhole)
  {a3 : Memref sig .tc .vmem S256x1024 .bf16} (b3 : a3.IsWhole) {a4 : Memref sig .tc .vmem S1x1024 .f32} (b4 : a4.IsWhole)
  {a5 : Memref sig .tc .vmem S8x128x128 .bf16} (b5 : a5.IsWhole) {a6 : Memref sig .tc .vmem S8x128x128 .bf16} (b6 : a6.IsWhole)
  {a7 : Memref sig .tc .vmem S128x1024 .f32} (b7 : a7.IsWhole) {a8 : Memref sig .tc .vmem S1x1024 .f32} (b8 : a8.IsWhole)
  {x0 x1 x2 : FVec Ideal S256x1024 .bf16} {x3 : FVec Ideal S1x1024 .f32} {x4 x5 : FVec Ideal S8x128x128 .bf16}
  {x6 : FVec Ideal S128x1024 .f32} {x7 : FVec Ideal S1x1024 .f32} (h : In d R x0 x1 x2 x3 x4 x5 x6 x7)

include c d R b1 b2 b3 b4 b5 b6 b7 b8 h

theorem r_0 (r : Fin 256) (j : Fin 1024) : sl.r (F := Ideal) c a1 b1 x0 (ix2 r j)
    = ((d.u (R + r) j : ℝ) : EReal) := by
  unfold sl.r
  simp (disch := decide) only [View.readAt_eq_ld, Memref.IsWhole.read_unread, View.ld_unit_lit']
  pointwise [k0_pay14]
  exact h.h0 r j

theorem r_1 (r : Fin 256) (j : Fin 1024) : sl.r_1 (F := Ideal) c a2 b2 x1 (ix2 r j)
    = ((d.v (R + r) j : ℝ) : EReal) := by
  unfold sl.r_1
  simp (disch := decide) only [View.readAt_eq_ld, Memref.IsWhole.read_unread, View.ld_unit_lit']
  pointwise [k0_pay15]
  exact h.h1 r j

theorem r_4 (r : Fin 256) (j : Fin 1024) : sl.r_4 (F := Ideal) c a1 b1 x0 (ix2 r j)
    = ((d.U (R + r) j : ℝ) : EReal) := by
  unfold sl.r_4
  simp (disch := decide) only [View.readAt_eq_ld, Memref.IsWhole.read_unread, View.ld_unit_lit']
  exact pay18 d R x0 h.h0 r j

theorem r_5 (r : Fin 256) (j : Fin 1024) : sl.r_5 (F := Ideal) c a2 b2 x1 (ix2 r j)
    = ((d.xc (R + r) j : ℝ) : EReal) := by
  unfold sl.r_5
  simp (disch := decide) only [View.readAt_eq_ld, Memref.IsWhole.read_unread, View.ld_unit_lit']
  exact pay19 d R x1 h.h1 r j

theorem r_6 (r : Fin 256) : sl.r_6 (F := Ideal) c a2 b2 x1 (ix2 r 0)
    = ((d.var (R + r) : ℝ) : EReal) := by
  unfold sl.r_6
  simp (disch := decide) only [View.readAt_eq_ld, Memref.IsWhole.read_unread, View.ld_unit_lit']
  exact pay20 d R x1 h.h1 r

theorem r_2 (j : Fin 1024) : sl.r_2 (F := Ideal) c a4 b4 x3 (ix2 0 j)
    = ((d.lg j : ℝ) : EReal) := by
  unfold sl.r_2
  simp (disch := decide) only [View.readAt_eq_ld, Memref.IsWhole.read_unread, View.ld_unit_lit']
  pointwise [k0_pay16]
  exact h.h3 j

theorem r_3 (p : Fin 128) (j : Fin 1024) : sl.r_3 (F := Ideal) c a7 b7 x6 (ix2 p j)
    = ((d.bs (j / 128) p : ℝ) : EReal) := by
  unfold sl.r_3
  simp (disch := decide) only [View.readAt_eq_ld, Memref.IsWhole.read_unread, View.ld_unit_lit']
  pointwise [k0_pay17]
  exact h.h6 p j

theorem v40 (r : Fin 256) : sl.v40 (F := Ideal) c a2 b2 x1 (ix2 r 0)
    = ((d.rs (R + r) : ℝ) : EReal) := by
  pointwise [sl.v40, sl.v39, sl.v38, sl.cst_17]
  simp only [r_6 c b1 b2 b3 b4 b5 b6 b7 b8 h, w_eps, ← EReal.coe_add, Ideal.rsqrt_def, rsqrt_real (d.var_pos _)]
  rfl

theorem v42 (r : Fin 256) (j : Fin 1024) : sl.v42 (F := Ideal) c a2 b2 x1 (ix2 r j)
    = ((d.vh (R + r) j : ℝ) : EReal) := by
  pointwise [sl.v42, sl.v41]
  simp only [r_5 c b1 b2 b3 b4 b5 b6 b7 b8 h, v40 c b1 b2 b3 b4 b5 b6 b7 b8 h, ← EReal.coe_mul, ← EReal.coe_add, ← EReal.coe_sub, sum_real]
  rfl

theorem v45 (r : Fin 256) (j : Fin 1024) : sl.v45 (F := Ideal) c a2 b2 a4 b4 x1 x3 (ix2 r j)
    = ((d.vl (R + r) j : ℝ) : EReal) := by
  pointwise [sl.v45, sl.v44, sl.v43]
  simp only [r_2 c b1 b2 b3 b4 b5 b6 b7 b8 h, v42 c b1 b2 b3 b4 b5 b6 b7 b8 h, ← EReal.coe_mul, ← EReal.coe_add, ← EReal.coe_sub, sum_real]
  rfl

theorem v47 (p q : Fin 128) : sl.v47 (F := Ideal) c a5 b5 x4 (ix2 p q)
    = ((d.ws 0 p q : ℝ) : EReal) := by
  unfold sl.v47
  simp (disch := decide) only [View.readAt_eq_ld, Memref.IsWhole.read_unread]
  pointwise []
  exact h.h4 0 p q

theorem v49 (p j : Fin 128) (J : ℕ) (hJ : J = 0 + j) : sl.v49 (F := Ideal) c a2 b2 a4 b4 a5 b5 x1 x3 x4 (ix2 p j)
    = ((cp d R 0 p J : ℝ) : EReal) := by
  have hg : J / 128 = 0 := by omega
  pointwise [sl.v49, sl.v48, sl.cst_21]
  simp only [v47 c b1 b2 b3 b4 b5 b6 b7 b8 h, v45 c b1 b2 b3 b4 b5 b6 b7 b8 h, ← EReal.coe_mul, ← EReal.coe_add, ← EReal.coe_sub, sum_real]
  simp only [cp, hg]
  subst hJ
  first | (simp only [Nat.zero_add]; done) | rfl

theorem v83 (p j : Fin 128) (J : ℕ) (hJ : J = 0 + j) : sl.v83 (F := Ideal) c a2 b2 a4 b4 a5 b5 x1 x3 x4 (ix2 p j)
    = ((cp d R 128 p J : ℝ) : EReal) := by
  have hg : J / 128 = 0 := by omega
  pointwise [sl.v83, sl.v82, sl.cst_21]
  simp only [v47 c b1 b2 b3 b4 b5 b6 b7 b8 h, v45 c b1 b2 b3 b4 b5 b6 b7 b8 h, ← EReal.coe_mul, ← EReal.coe_add, ← EReal.coe_sub, sum_real]
  simp only [cp, hg]
  subst hJ
  first | (simp only [Nat.zero_add]; done) | rfl

theorem v51 (p q : Fin 128) : sl.v51 (F := Ideal) c a5 b5 x4 (ix2 p q)
    = ((d.ws 1 p q : ℝ) : EReal) := by
  unfold sl.v51
  simp (disch := decide) only [View.readAt_eq_ld, Memref.IsWhole.read_unread]
  pointwise []
  exact h.h4 1 p q

theorem v53 (p j : Fin 128) (J : ℕ) (hJ : J = 128 + j) : sl.v53 (F := Ideal) c a2 b2 a4 b4 a5 b5 x1 x3 x4 (ix2 p j)
    = ((cp d R 0 p J : ℝ) : EReal) := by
  have hg : J / 128 = 1 := by omega
  pointwise [sl.v53, sl.v52, sl.cst_21]
  simp only [v51 c b1 b2 b3 b4 b5 b6 b7 b8 h, v45 c b1 b2 b3 b4 b5 b6 b7 b8 h, ← EReal.coe_mul, ← EReal.coe_add, ← EReal.coe_sub, sum_real]
  simp only [cp, hg]
  subst hJ
  first | (simp only [Nat.zero_add]; done) | rfl

theorem v87 (p j : Fin 128) (J : ℕ) (hJ : J = 128 + j) : sl.v87 (F := Ideal) c a2 b2 a4 b4 a5 b5 x1 x3 x4 (ix2 p j)
    = ((cp d R 128 p J : ℝ) : EReal) := by
  have hg : J / 128 = 1 := by omega
  pointwise [sl.v87, sl.v86, sl.cst_21]
  simp only [v51 c b1 b2 b3 b4 b5 b6 b7 b8 h, v45 c b1 b2 b3 b4 b5 b6 b7 b8 h, ← EReal.coe_mul, ← EReal.coe_add, ← EReal.coe_sub, sum_real]
  simp only [cp, hg]
  subst hJ
  first | (simp only [Nat.zero_add]; done) | rfl

theorem v55 (p q : Fin 128) : sl.v55 (F := Ideal) c a5 b5 x4 (ix2 p q)
    = ((d.ws 2 p q : ℝ) : EReal) := by
  unfold sl.v55
  simp (disch := decide) only [View.readAt_eq_ld, Memref.IsWhole.read_unread]
  pointwise []
  exact h.h4 2 p q

theorem v57 (p j : Fin 128) (J : ℕ) (hJ : J = 256 + j) : sl.v57 (F := Ideal) c a2 b2 a4 b4 a5 b5 x1 x3 x4 (ix2 p j)
    = ((cp d R 0 p J : ℝ) : EReal) := by
  have hg : J / 128 = 2 := by omega
  pointwise [sl.v57, sl.v56, sl.cst_21]
  simp only [v55 c b1 b2 b3 b4 b5 b6 b7 b8 h, v45 c b1 b2 b3 b4 b5 b6 b7 b8 h, ← EReal.coe_mul, ← EReal.coe_add, ← EReal.coe_sub, sum_real]
  simp only [cp, hg]
  subst hJ
  first | (simp only [Nat.zero_add]; done) | rfl

theorem v91 (p j : Fin 128) (J : ℕ) (hJ : J = 256 + j) : sl.v91 (F := Ideal) c a2 b2 a4 b4 a5 b5 x1 x3 x4 (ix2 p j)
    = ((cp d R 128 p J : ℝ) : EReal) := by
  have hg : J / 128 = 2 := by omega
  pointwise [sl.v91, sl.v90, sl.cst_21]
  simp only [v55 c b1 b2 b3 b4 b5 b6 b7 b8 h, v45 c b1 b2 b3 b4 b5 b6 b7 b8 h, ← EReal.coe_mul, ← EReal.coe_add, ← EReal.coe_sub, sum_real]
  simp only [cp, hg]
  subst hJ
  first | (simp only [Nat.zero_add]; done) | rfl

theorem v59 (p q : Fin 128) : sl.v59 (F := Ideal) c a5 b5 x4 (ix2 p q)
    = ((d.ws 3 p q : ℝ) : EReal) := by
  unfold sl.v59
  simp (disch := decide) only [View.readAt_eq_ld, Memref.IsWhole.read_unread]
  pointwise []
  exact h.h4 3 p q

theorem v61 (p j : Fin 128) (J : ℕ) (hJ : J = 384 + j) : sl.v61 (F := Ideal) c a2 b2 a4 b4 a5 b5 x1 x3 x4 (ix2 p j)
    = ((cp d R 0 p J : ℝ) : EReal) := by
  have hg : J / 128 = 3 := by omega
  pointwise [sl.v61, sl.v60, sl.cst_21]
  simp only [v59 c b1 b2 b3 b4 b5 b6 b7 b8 h, v45 c b1 b2 b3 b4 b5 b6 b7 b8 h, ← EReal.coe_mul, ← EReal.coe_add, ← EReal.coe_sub, sum_real]
  simp only [cp, hg]
  subst hJ
  first | (simp only [Nat.zero_add]; done) | rfl

theorem v95 (p j : Fin 128) (J : ℕ) (hJ : J = 384 + j) : sl.v95 (F := Ideal) c a2 b2 a4 b4 a5 b5 x1 x3 x4 (ix2 p j)
    = ((cp d R 128 p J : ℝ) : EReal) := by
  have hg : J / 128 = 3 := by omega
  pointwise [sl.v95, sl.v94, sl.cst_21]
  simp only [v59 c b1 b2 b3 b4 b5 b6 b7 b8 h, v45 c b1 b2 b3 b4 b5 b6 b7 b8 h, ← EReal.coe_mul, ← EReal.coe_add, ← EReal.coe_sub, sum_real]
  simp only [cp, hg]
  subst hJ
  first | (simp only [Nat.zero_add]; done) | rfl

theorem v63 (p q : Fin 128) : sl.v63 (F := Ideal) c a5 b5 x4 (ix2 p q)
    = ((d.ws 4 p q : ℝ) : EReal) := by
  unfold sl.v63
  simp (disch := decide) only [View.readAt_eq_ld, Memref.IsWhole.read_unread]
  pointwise []
  exact h.h4 4 p q

theorem v65 (p j : Fin 128) (J : ℕ) (hJ : J = 512 + j) : sl.v65 (F := Ideal) c a2 b2 a4 b4 a5 b5 x1 x3 x4 (ix2 p j)
    = ((cp d R 0 p J : ℝ) : EReal) := by
  have hg : J / 128 = 4 := by omega
  pointwise [sl.v65, sl.v64, sl.cst_21]
  simp only [v63 c b1 b2 b3 b4 b5 b6 b7 b8 h, v45 c b1 b2 b3 b4 b5 b6 b7 b8 h, ← EReal.coe_mul, ← EReal.coe_add, ← EReal.coe_sub, sum_real]
  simp only [cp, hg]
  subst hJ
  first | (simp only [Nat.zero_add]; done) | rfl

theorem v99 (p j : Fin 128) (J : ℕ) (hJ : J = 512 + j) : sl.v99 (F := Ideal) c a2 b2 a4 b4 a5 b5 x1 x3 x4 (ix2 p j)
    = ((cp d R 128 p J : ℝ) : EReal) := by
  have hg : J / 128 = 4 := by omega
  pointwise [sl.v99, sl.v98, sl.cst_21]
  simp only [v63 c b1 b2 b3 b4 b5 b6 b7 b8 h, v45 c b1 b2 b3 b4 b5 b6 b7 b8 h, ← EReal.coe_mul, ← EReal.coe_add, ← EReal.coe_sub, sum_real]
  simp only [cp, hg]
  subst hJ
  first | (simp only [Nat.zero_add]; done) | rfl

theorem v67 (p q : Fin 128) : sl.v67 (F := Ideal) c a5 b5 x4 (ix2 p q)
    = ((d.ws 5 p q : ℝ) : EReal) := by
  unfold sl.v67
  simp (disch := decide) only [View.readAt_eq_ld, Memref.IsWhole.read_unread]
  pointwise []
  exact h.h4 5 p q

theorem v69 (p j : Fin 128) (J : ℕ) (hJ : J = 640 + j) : sl.v69 (F := Ideal) c a2 b2 a4 b4 a5 b5 x1 x3 x4 (ix2 p j)
    = ((cp d R 0 p J : ℝ) : EReal) := by
  have hg : J / 128 = 5 := by omega
  pointwise [sl.v69, sl.v68, sl.cst_21]
  simp only [v67 c b1 b2 b3 b4 b5 b6 b7 b8 h, v45 c b1 b2 b3 b4 b5 b6 b7 b8 h, ← EReal.coe_mul, ← EReal.coe_add, ← EReal.coe_sub, sum_real]
  simp only [cp, hg]
  subst hJ
  first | (simp only [Nat.zero_add]; done) | rfl

theorem v103 (p j : Fin 128) (J : ℕ) (hJ : J = 640 + j) : sl.v103 (F := Ideal) c a2 b2 a4 b4 a5 b5 x1 x3 x4 (ix2 p j)
    = ((cp d R 128 p J : ℝ) : EReal) := by
  have hg : J / 128 = 5 := by omega
  pointwise [sl.v103, sl.v102, sl.cst_21]
  simp only [v67 c b1 b2 b3 b4 b5 b6 b7 b8 h, v45 c b1 b2 b3 b4 b5 b6 b7 b8 h, ← EReal.coe_mul, ← EReal.coe_add, ← EReal.coe_sub, sum_real]
  simp only [cp, hg]
  subst hJ
  first | (simp only [Nat.zero_add]; done) | rfl

theorem v71 (p q : Fin 128) : sl.v71 (F := Ideal) c a5 b5 x4 (ix2 p q)
    = ((d.ws 6 p q : ℝ) : EReal) := by
  unfold sl.v71
  simp (disch := decide) only [View.readAt_eq_ld, Memref.IsWhole.read_unread]
  pointwise []
  exact h.h4 6 p q

theorem v73 (p j : Fin 128) (J : ℕ) (hJ : J = 768 + j) : sl.v73 (F := Ideal) c a2 b2 a4 b4 a5 b5 x1 x3 x4 (ix2 p j)
    = ((cp d R 0 p J : ℝ) : EReal) := by
  have hg : J / 128 = 6 := by omega
  pointwise [sl.v73, sl.v72, sl.cst_21]
  simp only [v71 c b1 b2 b3 b4 b5 b6 b7 b8 h, v45 c b1 b2 b3 b4 b5 b6 b7 b8 h, ← EReal.coe_mul, ← EReal.coe_add, ← EReal.coe_sub, sum_real]
  simp only [cp, hg]
  subst hJ
  first | (simp only [Nat.zero_add]; done) | rfl

theorem v107 (p j : Fin 128) (J : ℕ) (hJ : J = 768 + j) : sl.v107 (F := Ideal) c a2 b2 a4 b4 a5 b5 x1 x3 x4 (ix2 p j)
    = ((cp d R 128 p J : ℝ) : EReal) := by
  have hg : J / 128 = 6 := by omega
  pointwise [sl.v107, sl.v106, sl.cst_21]
  simp only [v71 c b1 b2 b3 b4 b5 b6 b7 b8 h, v45 c b1 b2 b3 b4 b5 b6 b7 b8 h, ← EReal.coe_mul, ← EReal.coe_add, ← EReal.coe_sub, sum_real]
  simp only [cp, hg]
  subst hJ
  first | (simp only [Nat.zero_add]; done) | rfl

theorem v75 (p q : Fin 128) : sl.v75 (F := Ideal) c a5 b5 x4 (ix2 p q)
    = ((d.ws 7 p q : ℝ) : EReal) := by
  unfold sl.v75
  simp (disch := decide) only [View.readAt_eq_ld, Memref.IsWhole.read_unread]
  pointwise []
  exact h.h4 7 p q

theorem v77 (p j : Fin 128) (J : ℕ) (hJ : J = 896 + j) : sl.v77 (F := Ideal) c a2 b2 a4 b4 a5 b5 x1 x3 x4 (ix2 p j)
    = ((cp d R 0 p J : ℝ) : EReal) := by
  have hg : J / 128 = 7 := by omega
  pointwise [sl.v77, sl.v76, sl.cst_21]
  simp only [v75 c b1 b2 b3 b4 b5 b6 b7 b8 h, v45 c b1 b2 b3 b4 b5 b6 b7 b8 h, ← EReal.coe_mul, ← EReal.coe_add, ← EReal.coe_sub, sum_real]
  simp only [cp, hg]
  subst hJ
  first | (simp only [Nat.zero_add]; done) | rfl

theorem v111 (p j : Fin 128) (J : ℕ) (hJ : J = 896 + j) : sl.v111 (F := Ideal) c a2 b2 a4 b4 a5 b5 x1 x3 x4 (ix2 p j)
    = ((cp d R 128 p J : ℝ) : EReal) := by
  have hg : J / 128 = 7 := by omega
  pointwise [sl.v111, sl.v110, sl.cst_21]
  simp only [v75 c b1 b2 b3 b4 b5 b6 b7 b8 h, v45 c b1 b2 b3 b4 b5 b6 b7 b8 h, ← EReal.coe_mul, ← EReal.coe_add, ← EReal.coe_sub, sum_real]
  simp only [cp, hg]
  subst hJ
  first | (simp only [Nat.zero_add]; done) | rfl

theorem v78 (p : Fin 128) (j : Fin 1024) : sl.v78 (F := Ideal) c a2 b2 a4 b4 a5 b5 x1 x3 x4 (ix2 p j)
    = ((cp d R 0 p j : ℝ) : EReal) := by
  pointwise [sl.v78]
  by_cases h0 : (j : ℕ) < 128
  · rw [dif_pos h0]
    exact v49 c b1 b2 b3 b4 b5 b6 b7 b8 h p ⟨(j : ℕ), by omega⟩ ↑j (by dsimp only; omega)
  rw [dif_neg h0]
  by_cases h1 : (j : ℕ) - 128 < 128
  · rw [dif_pos h1]
    exact v53 c b1 b2 b3 b4 b5 b6 b7 b8 h p ⟨(j : ℕ) - 128, by omega⟩ ↑j (by dsimp only; omega)
  rw [dif_neg h1]
  by_cases h2 : (j : ℕ) - 128 - 128 < 128
  · rw [dif_pos h2]
    exact v57 c b1 b2 b3 b4 b5 b6 b7 b8 h p ⟨(j : ℕ) - 128 - 128, by omega⟩ ↑j (by dsimp only; omega)
  rw [dif_neg h2]
  by_cases h3 : (j : ℕ) - 128 - 128 - 128 < 128
  · rw [dif_pos h3]
    exact v61 c b1 b2 b3 b4 b5 b6 b7 b8 h p ⟨(j : ℕ) - 128 - 128 - 128, by omega⟩ ↑j (by dsimp only; omega)
  rw [dif_neg h3]
  by_cases h4 : (j : ℕ) - 128 - 128 - 128 - 128 < 128
  · rw [dif_pos h4]
    exact v65 c b1 b2 b3 b4 b5 b6 b7 b8 h p ⟨(j : ℕ) - 128 - 128 - 128 - 128, by omega⟩ ↑j (by dsimp only; omega)
  rw [dif_neg h4]
  by_cases h5 : (j : ℕ) - 128 - 128 - 128 - 128 - 128 < 128
  · rw [dif_pos h5]
    exact v69 c b1 b2 b3 b4 b5 b6 b7 b8 h p ⟨(j : ℕ) - 128 - 128 - 128 - 128 - 128, by omega⟩ ↑j (by dsimp only; omega)
  rw [dif_neg h5]
  by_cases h6 : (j : ℕ) - 128 - 128 - 128 - 128 - 128 - 128 < 128
  · rw [dif_pos h6]
    exact v73 c b1 b2 b3 b4 b5 b6 b7 b8 h p ⟨(j : ℕ) - 128 - 128 - 128 - 128 - 128 - 128, by omega⟩ ↑j (by dsimp only; omega)
  rw [dif_neg h6]
  exact v77 c b1 b2 b3 b4 b5 b6 b7 b8 h p ⟨(j : ℕ) - 128 - 128 - 128 - 128 - 128 - 128 - 128, by omega⟩ ↑j (by dsimp only; omega)

theorem v112 (p : Fin 128) (j : Fin 1024) : sl.v112 (F := Ideal) c a2 b2 a4 b4 a5 b5 x1 x3 x4 (ix2 p j)
    = ((cp d R 128 p j : ℝ) : EReal) := by
  pointwise [sl.v112]
  by_cases h0 : (j : ℕ) < 128
  · rw [dif_pos h0]
    exact v83 c b1 b2 b3 b4 b5 b6 b7 b8 h p ⟨(j : ℕ), by omega⟩ ↑j (by dsimp only; omega)
  rw [dif_neg h0]
  by_cases h1 : (j : ℕ) - 128 < 128
  · rw [dif_pos h1]
    exact v87 c b1 b2 b3 b4 b5 b6 b7 b8 h p ⟨(j : ℕ) - 128, by omega⟩ ↑j (by dsimp only; omega)
  rw [dif_neg h1]
  by_cases h2 : (j : ℕ) - 128 - 128 < 128
  · rw [dif_pos h2]
    exact v91 c b1 b2 b3 b4 b5 b6 b7 b8 h p ⟨(j : ℕ) - 128 - 128, by omega⟩ ↑j (by dsimp only; omega)
  rw [dif_neg h2]
  by_cases h3 : (j : ℕ) - 128 - 128 - 128 < 128
  · rw [dif_pos h3]
    exact v95 c b1 b2 b3 b4 b5 b6 b7 b8 h p ⟨(j : ℕ) - 128 - 128 - 128, by omega⟩ ↑j (by dsimp only; omega)
  rw [dif_neg h3]
  by_cases h4 : (j : ℕ) - 128 - 128 - 128 - 128 < 128
  · rw [dif_pos h4]
    exact v99 c b1 b2 b3 b4 b5 b6 b7 b8 h p ⟨(j : ℕ) - 128 - 128 - 128 - 128, by omega⟩ ↑j (by dsimp only; omega)
  rw [dif_neg h4]
  by_cases h5 : (j : ℕ) - 128 - 128 - 128 - 128 - 128 < 128
  · rw [dif_pos h5]
    exact v103 c b1 b2 b3 b4 b5 b6 b7 b8 h p ⟨(j : ℕ) - 128 - 128 - 128 - 128 - 128, by omega⟩ ↑j (by dsimp only; omega)
  rw [dif_neg h5]
  by_cases h6 : (j : ℕ) - 128 - 128 - 128 - 128 - 128 - 128 < 128
  · rw [dif_pos h6]
    exact v107 c b1 b2 b3 b4 b5 b6 b7 b8 h p ⟨(j : ℕ) - 128 - 128 - 128 - 128 - 128 - 128, by omega⟩ ↑j (by dsimp only; omega)
  rw [dif_neg h6]
  exact v111 c b1 b2 b3 b4 b5 b6 b7 b8 h p ⟨(j : ℕ) - 128 - 128 - 128 - 128 - 128 - 128 - 128, by omega⟩ ↑j (by dsimp only; omega)

theorem v79 (p : Fin 128) (j : Fin 1024) : sl.v79 (F := Ideal) c a2 b2 a4 b4 a5 b5 a7 b7 x1 x3 x4 x6 (ix2 p j)
    = ((d.mx (R + (0 + p)) j : ℝ) : EReal) := by
  rw [mx_at d R h.hR 0 p j rfl p.isLt]
  pointwise [sl.v79]
  simp only [v78 c b1 b2 b3 b4 b5 b6 b7 b8 h, r_3 c b1 b2 b3 b4 b5 b6 b7 b8 h, ← EReal.coe_mul, ← EReal.coe_add, ← EReal.coe_sub, sum_real]

theorem v113 (p : Fin 128) (j : Fin 1024) : sl.v113 (F := Ideal) c a2 b2 a4 b4 a5 b5 a7 b7 x1 x3 x4 x6 (ix2 p j)
    = ((d.mx (R + (128 + p)) j : ℝ) : EReal) := by
  rw [mx_at d R h.hR 128 p j rfl p.isLt]
  pointwise [sl.v113]
  simp only [v112 c b1 b2 b3 b4 b5 b6 b7 b8 h, r_3 c b1 b2 b3 b4 b5 b6 b7 b8 h, ← EReal.coe_mul, ← EReal.coe_add, ← EReal.coe_sub, sum_real]

theorem v114 (r : Fin 256) (j : Fin 1024) : sl.v114 (F := Ideal) c a2 b2 a4 b4 a5 b5 a7 b7 x1 x3 x4 x6 (ix2 r j)
    = ((d.mx (R + r) j : ℝ) : EReal) := by
  pointwise [sl.v114]
  by_cases h0 : (r : ℕ) < 128
  · rw [dif_pos h0]
    have e := v79 c b1 b2 b3 b4 b5 b6 b7 b8 h ⟨r, h0⟩ j
    rw [Nat.zero_add] at e
    exact e
  · rw [dif_neg h0]
    have e := v113 c b1 b2 b3 b4 b5 b6 b7 b8 h ⟨(r : ℕ) - 128, by omega⟩ j
    rw [show 128 + ((⟨(r : ℕ) - 128, by omega⟩ : Fin 128) : ℕ) = r by dsimp only; omega] at e
    exact e

theorem v115 (r : Fin 256) (j : Fin 1024) : sl.v115 (F := Ideal) c a1 b1 a2 b2 a4 b4 a5 b5 a7 b7 x0 x1 x3 x4 x6 (ix2 r j)
    = ((d.go (R + r) j : ℝ) : EReal) := by
  pointwise [sl.v115]
  simp only [r_4 c b1 b2 b3 b4 b5 b6 b7 b8 h, v114 c b1 b2 b3 b4 b5 b6 b7 b8 h, ← EReal.coe_mul, ← EReal.coe_add, ← EReal.coe_sub, sum_real]
  rfl

theorem v123 (r : Fin 256) : sl.v123 (F := Ideal) c a1 b1 a2 b2 a4 b4 a5 b5 a7 b7 x0 x1 x3 x4 x6 (ix2 r 0)
    = ((d.rr (R + r) : ℝ) : EReal) := by
  pointwise [sl.v123, sl.v122, sl.v120, sl.v118, sl.v117, sl.v116, sl.v119, sl.v38, sl.cst_17, sl.cst_76]
  simp only [v115 c b1 b2 b3 b4 b5 b6 b7 b8 h, ← EReal.coe_mul, ← EReal.coe_add, ← EReal.coe_sub, sum_real, w_1024, w_eps, div_1024, Ideal.rsqrt_def]
  have e := d.ms_pos (R + r)
  unfold D.ms at e
  rw [rsqrt_real e]
  rfl

theorem v125 (r : Fin 256) (j : Fin 1024) : sl.v125 (F := Ideal) c a1 b1 a2 b2 a4 b4 a5 b5 a7 b7 x0 x1 x3 x4 x6 (ix2 r j)
    = ((d.gh (R + r) j : ℝ) : EReal) := by
  pointwise [sl.v125, sl.v124]
  simp only [v115 c b1 b2 b3 b4 b5 b6 b7 b8 h, v123 c b1 b2 b3 b4 b5 b6 b7 b8 h, ← EReal.coe_mul, ← EReal.coe_add, ← EReal.coe_sub, sum_real]
  rfl

theorem v127 (r : Fin 256) (j : Fin 1024) : sl.v127 (F := Ideal) c a3 b3 x2 (ix2 r j)
    = ((d.dm (R + r) j : ℝ) : EReal) := by
  unfold sl.v127
  simp (disch := decide) only [View.readAt_eq_ld, Memref.IsWhole.read_unread, View.ld_unit_lit']
  pointwise []
  exact h.h2 r j

theorem v136 (j : Fin 1024) : sl.v136 (F := Ideal) c a8 b8 x7 (ix2 0 j)
    = ((d.gg j : ℝ) : EReal) := by
  unfold sl.v136
  simp (disch := decide) only [View.readAt_eq_ld, Memref.IsWhole.read_unread, View.ld_unit_lit']
  pointwise []
  exact h.h7 j

theorem v138 (r : Fin 256) (j : Fin 1024) : sl.v138 (F := Ideal) c a3 b3 a8 b8 x2 x7 (ix2 r j)
    = ((d.dn (R + r) j : ℝ) : EReal) := by
  pointwise [sl.v138, sl.v137]
  simp only [v127 c b1 b2 b3 b4 b5 b6 b7 b8 h, v136 c b1 b2 b3 b4 b5 b6 b7 b8 h, ← EReal.coe_mul, ← EReal.coe_add, ← EReal.coe_sub, sum_real]
  rfl

theorem v148 (r : Fin 256) (j : Fin 1024) : sl.v148 (F := Ideal) c a1 b1 a2 b2 a3 b3 a4 b4 a5 b5 a7 b7 a8 b8 x0 x1 x2 x3 x4 x6 x7 (ix2 r j)
    = ((d.dg (R + r) j : ℝ) : EReal) := by
  pointwise [sl.v148, sl.v124, sl.v146, sl.v145, sl.v144, sl.v143, sl.v141, sl.v140, sl.v139, sl.v119, sl.cst_76]
  simp only [v123 c b1 b2 b3 b4 b5 b6 b7 b8 h, v138 c b1 b2 b3 b4 b5 b6 b7 b8 h, v125 c b1 b2 b3 b4 b5 b6 b7 b8 h, ← EReal.coe_mul, ← EReal.coe_add, ← EReal.coe_sub, sum_real, w_1024, div_1024]
  rfl

theorem v149 (r : Fin 256) (j : Fin 1024) : sl.v149 (F := Ideal) c a1 b1 a2 b2 a3 b3 a4 b4 a5 b5 a7 b7 a8 b8 x0 x1 x2 x3 x4 x6 x7 (ix2 r j)
    = ((d.du (R + r) j : ℝ) : EReal) := by
  pointwise [sl.v149]
  simp only [v148 c b1 b2 b3 b4 b5 b6 b7 b8 h, v114 c b1 b2 b3 b4 b5 b6 b7 b8 h, ← EReal.coe_mul, ← EReal.coe_add, ← EReal.coe_sub, sum_real]
  rfl

theorem v150 (r : Fin 256) (j : Fin 1024) : sl.v150 (F := Ideal) c a1 b1 a2 b2 a3 b3 a4 b4 a5 b5 a7 b7 a8 b8 x0 x1 x2 x3 x4 x6 x7 (ix2 r j)
    = ((d.dx (R + r) j : ℝ) : EReal) := by
  pointwise [sl.v150]
  simp only [v148 c b1 b2 b3 b4 b5 b6 b7 b8 h, r_4 c b1 b2 b3 b4 b5 b6 b7 b8 h, ← EReal.coe_mul, ← EReal.coe_add, ← EReal.coe_sub, sum_real]
  rfl

theorem v151 (r : Fin 256) (j : Fin 1024) : sl.v151 (F := Ideal) c a1 b1 a2 b2 a3 b3 a4 b4 a5 b5 a7 b7 a8 b8 x0 x1 x2 x3 x4 x6 x7 (ix2 r j)
    = ((d.dx (R + r) j : ℝ) : EReal) := by
  pointwise [sl.v151]
  simp only [v150 c b1 b2 b3 b4 b5 b6 b7 b8 h, ← EReal.coe_mul, ← EReal.coe_add, ← EReal.coe_sub, sum_real]

theorem v168 (p q : Fin 128) : sl.v168 (F := Ideal) c a6 b6 x5 (ix2 p q)
    = ((d.ws 0 q p : ℝ) : EReal) := by
  unfold sl.v168
  simp (disch := decide) only [View.readAt_eq_ld, Memref.IsWhole.read_unread]
  pointwise []
  exact h.h5 0 p q

theorem v170 (p j : Fin 128) (J : ℕ) (hJ : J = 0 + j) : sl.v170 (F := Ideal) c a1 b1 a2 b2 a3 b3 a4 b4 a5 b5 a6 b6 a7 b7 a8 b8 x0 x1 x2 x3 x4 x5 x6 x7 (ix2 p j)
    = ((dp d R 0 p J : ℝ) : EReal) := by
  have hg : J / 128 = 0 := by omega
  pointwise [sl.v170, sl.v160, sl.cst_21]
  simp only [v168 c b1 b2 b3 b4 b5 b6 b7 b8 h, v151 c b1 b2 b3 b4 b5 b6 b7 b8 h, ← EReal.coe_mul, ← EReal.coe_add, ← EReal.coe_sub, sum_real]
  simp only [dp, hg]
  subst hJ
  first | (simp only [Nat.zero_add]; done) | rfl

theorem v281 (p j : Fin 128) (J : ℕ) (hJ : J = 0 + j) : sl.v281 (F := Ideal) c a1 b1 a2 b2 a3 b3 a4 b4 a5 b5 a6 b6 a7 b7 a8 b8 x0 x1 x2 x3 x4 x5 x6 x7 (ix2 p j)
    = ((dp d R 128 p J : ℝ) : EReal) := by
  have hg : J / 128 = 0 := by omega
  pointwise [sl.v281, sl.v271, sl.cst_21]
  simp only [v168 c b1 b2 b3 b4 b5 b6 b7 b8 h, v151 c b1 b2 b3 b4 b5 b6 b7 b8 h, ← EReal.coe_mul, ← EReal.coe_add, ← EReal.coe_sub, sum_real]
  simp only [dp, hg]
  subst hJ
  first | (simp only [Nat.zero_add]; done) | rfl

theorem v181 (p q : Fin 128) : sl.v181 (F := Ideal) c a6 b6 x5 (ix2 p q)
    = ((d.ws 1 q p : ℝ) : EReal) := by
  unfold sl.v181
  simp (disch := decide) only [View.readAt_eq_ld, Memref.IsWhole.read_unread]
  pointwise []
  exact h.h5 1 p q

theorem v183 (p j : Fin 128) (J : ℕ) (hJ : J = 128 + j) : sl.v183 (F := Ideal) c a1 b1 a2 b2 a3 b3 a4 b4 a5 b5 a6 b6 a7 b7 a8 b8 x0 x1 x2 x3 x4 x5 x6 x7 (ix2 p j)
    = ((dp d R 0 p J : ℝ) : EReal) := by
  have hg : J / 128 = 1 := by omega
  pointwise [sl.v183, sl.v173, sl.cst_21]
  simp only [v181 c b1 b2 b3 b4 b5 b6 b7 b8 h, v151 c b1 b2 b3 b4 b5 b6 b7 b8 h, ← EReal.coe_mul, ← EReal.coe_add, ← EReal.coe_sub, sum_real]
  simp only [dp, hg]
  subst hJ
  first | (simp only [Nat.zero_add]; done) | rfl

theorem v294 (p j : Fin 128) (J : ℕ) (hJ : J = 128 + j) : sl.v294 (F := Ideal) c a1 b1 a2 b2 a3 b3 a4 b4 a5 b5 a6 b6 a7 b7 a8 b8 x0 x1 x2 x3 x4 x5 x6 x7 (ix2 p j)
    = ((dp d R 128 p J : ℝ) : EReal) := by
  have hg : J / 128 = 1 := by omega
  pointwise [sl.v294, sl.v284, sl.cst_21]
  simp only [v181 c b1 b2 b3 b4 b5 b6 b7 b8 h, v151 c b1 b2 b3 b4 b5 b6 b7 b8 h, ← EReal.coe_mul, ← EReal.coe_add, ← EReal.coe_sub, sum_real]
  simp only [dp, hg]
  subst hJ
  first | (simp only [Nat.zero_add]; done) | rfl

theorem v194 (p q : Fin 128) : sl.v194 (F := Ideal) c a6 b6 x5 (ix2 p q)
    = ((d.ws 2 q p : ℝ) : EReal) := by
  unfold sl.v194
  simp (disch := decide) only [View.readAt_eq_ld, Memref.IsWhole.read_unread]
  pointwise []
  exact h.h5 2 p q

theorem v196 (p j : Fin 128) (J : ℕ) (hJ : J = 256 + j) : sl.v196 (F := Ideal) c a1 b1 a2 b2 a3 b3 a4 b4 a5 b5 a6 b6 a7 b7 a8 b8 x0 x1 x2 x3 x4 x5 x6 x7 (ix2 p j)
    = ((dp d R 0 p J : ℝ) : EReal) := by
  have hg : J / 128 = 2 := by omega
  pointwise [sl.v196, sl.v186, sl.cst_21]
  simp only [v194 c b1 b2 b3 b4 b5 b6 b7 b8 h, v151 c b1 b2 b3 b4 b5 b6 b7 b8 h, ← EReal.coe_mul, ← EReal.coe_add, ← EReal.coe_sub, sum_real]
  simp only [dp, hg]
  subst hJ
  first | (simp only [Nat.zero_add]; done) | rfl

theorem v307 (p j : Fin 128) (J : ℕ) (hJ : J = 256 + j) : sl.v307 (F := Ideal) c a1 b1 a2 b2 a3 b3 a4 b4 a5 b5 a6 b6 a7 b7 a8 b8 x0 x1 x2 x3 x4 x5 x6 x7 (ix2 p j)
    = ((dp d R 128 p J : ℝ) : EReal) := by
  have hg : J / 128 = 2 := by omega
  pointwise [sl.v307, sl.v297, sl.cst_21]
  simp only [v194 c b1 b2 b3 b4 b5 b6 b7 b8 h, v151 c b1 b2 b3 b4 b5 b6 b7 b8 h, ← EReal.coe_mul, ← EReal.coe_add, ← EReal.coe_sub, sum_real]
  simp only [dp, hg]
  subst hJ
  first | (simp only [Nat.zero_add]; done) | rfl

theorem v207 (p q : Fin 128) : sl.v207 (F := Ideal) c a6 b6 x5 (ix2 p q)
    = ((d.ws 3 q p : ℝ) : EReal) := by
  unfold sl.v207
  simp (disch := decide) only [View.readAt_eq_ld, Memref.IsWhole.read_unread]
  pointwise []
  exact h.h5 3 p q

theorem v209 (p j : Fin 128) (J : ℕ) (hJ : J = 384 + j) : sl.v209 (F := Ideal) c a1 b1 a2 b2 a3 b3 a4 b4 a5 b5 a6 b6 a7 b7 a8 b8 x0 x1 x2 x3 x4 x5 x6 x7 (ix2 p j)
    = ((dp d R 0 p J : ℝ) : EReal) := by
  have hg : J / 128 = 3 := by omega
  pointwise [sl.v209, sl.v199, sl.cst_21]
  simp only [v207 c b1 b2 b3 b4 b5 b6 b7 b8 h, v151 c b1 b2 b3 b4 b5 b6 b7 b8 h, ← EReal.coe_mul, ← EReal.coe_add, ← EReal.coe_sub, sum_real]
  simp only [dp, hg]
  subst hJ
  first | (simp only [Nat.zero_add]; done) | rfl

theorem v320 (p j : Fin 128) (J : ℕ) (hJ : J = 384 + j) : sl.v320 (F := Ideal) c a1 b1 a2 b2 a3 b3 a4 b4 a5 b5 a6 b6 a7 b7 a8 b8 x0 x1 x2 x3 x4 x5 x6 x7 (ix2 p j)
    = ((dp d R 128 p J : ℝ) : EReal) := by
  have hg : J / 128 = 3 := by omega
  pointwise [sl.v320, sl.v310, sl.cst_21]
  simp only [v207 c b1 b2 b3 b4 b5 b6 b7 b8 h, v151 c b1 b2 b3 b4 b5 b6 b7 b8 h, ← EReal.coe_mul, ← EReal.coe_add, ← EReal.coe_sub, sum_real]
  simp only [dp, hg]
  subst hJ
  first | (simp only [Nat.zero_add]; done) | rfl

theorem v220 (p q : Fin 128) : sl.v220 (F := Ideal) c a6 b6 x5 (ix2 p q)
    = ((d.ws 4 q p : ℝ) : EReal) := by
  unfold sl.v220
  simp (disch := decide) only [View.readAt_eq_ld, Memref.IsWhole.read_unread]
  pointwise []
  exact h.h5 4 p q

theorem v222 (p j : Fin 128) (J : ℕ) (hJ : J = 512 + j) : sl.v222 (F := Ideal) c a1 b1 a2 b2 a3 b3 a4 b4 a5 b5 a6 b6 a7 b7 a8 b8 x0 x1 x2 x3 x4 x5 x6 x7 (ix2 p j)
    = ((dp d R 0 p J : ℝ) : EReal) := by
  have hg : J / 128 = 4 := by omega
  pointwise [sl.v222, sl.v212, sl.cst_21]
  simp only [v220 c b1 b2 b3 b4 b5 b6 b7 b8 h, v151 c b1 b2 b3 b4 b5 b6 b7 b8 h, ← EReal.coe_mul, ← EReal.coe_add, ← EReal.coe_sub, sum_real]
  simp only [dp, hg]
  subst hJ
  first | (simp only [Nat.zero_add]; done) | rfl

theorem v333 (p j : Fin 128) (J : ℕ) (hJ : J = 512 + j) : sl.v333 (F := Ideal) c a1 b1 a2 b2 a3 b3 a4 b4 a5 b5 a6 b6 a7 b7 a8 b8 x0 x1 x2 x3 x4 x5 x6 x7 (ix2 p j)
    = ((dp d R 128 p J : ℝ) : EReal) := by
  have hg : J / 128 = 4 := by omega
  pointwise [sl.v333, sl.v323, sl.cst_21]
  simp only [v220 c b1 b2 b3 b4 b5 b6 b7 b8 h, v151 c b1 b2 b3 b4 b5 b6 b7 b8 h, ← EReal.coe_mul, ← EReal.coe_add, ← EReal.coe_sub, sum_real]
  simp only [dp, hg]
  subst hJ
  first | (simp only [Nat.zero_add]; done) | rfl

theorem v233 (p q : Fin 128) : sl.v233 (F := Ideal) c a6 b6 x5 (ix2 p q)
    = ((d.ws 5 q p : ℝ) : EReal) := by
  unfold sl.v233
  simp (disch := decide) only [View.readAt_eq_ld, Memref.IsWhole.read_unread]
  pointwise []
  exact h.h5 5 p q

theorem v235 (p j : Fin 128) (J : ℕ) (hJ : J = 640 + j) : sl.v235 (F := Ideal) c a1 b1 a2 b2 a3 b3 a4 b4 a5 b5 a6 b6 a7 b7 a8 b8 x0 x1 x2 x3 x4 x5 x6 x7 (ix2 p j)
    = ((dp d R 0 p J : ℝ) : EReal) := by
  have hg : J / 128 = 5 := by omega
  pointwise [sl.v235, sl.v225, sl.cst_21]
  simp only [v233 c b1 b2 b3 b4 b5 b6 b7 b8 h, v151 c b1 b2 b3 b4 b5 b6 b7 b8 h, ← EReal.coe_mul, ← EReal.coe_add, ← EReal.coe_sub, sum_real]
  simp only [dp, hg]
  subst hJ
  first | (simp only [Nat.zero_add]; done) | rfl

theorem v346 (p j : Fin 128) (J : ℕ) (hJ : J = 640 + j) : sl.v346 (F := Ideal) c a1 b1 a2 b2 a3 b3 a4 b4 a5 b5 a6 b6 a7 b7 a8 b8 x0 x1 x2 x3 x4 x5 x6 x7 (ix2 p j)
    = ((dp d R 128 p J : ℝ) : EReal) := by
  have hg : J / 128 = 5 := by omega
  pointwise [sl.v346, sl.v336, sl.cst_21]
  simp only [v233 c b1 b2 b3 b4 b5 b6 b7 b8 h, v151 c b1 b2 b3 b4 b5 b6 b7 b8 h, ← EReal.coe_mul, ← EReal.coe_add, ← EReal.coe_sub, sum_real]
  simp only [dp, hg]
  subst hJ
  first | (simp only [Nat.zero_add]; done) | rfl

theorem v246 (p q : Fin 128) : sl.v246 (F := Ideal) c a6 b6 x5 (ix2 p q)
    = ((d.ws 6 q p : ℝ) : EReal) := by
  unfold sl.v246
  simp (disch := decide) only [View.readAt_eq_ld, Memref.IsWhole.read_unread]
  pointwise []
  exact h.h5 6 p q

theorem v248 (p j : Fin 128) (J : ℕ) (hJ : J = 768 + j) : sl.v248 (F := Ideal) c a1 b1 a2 b2 a3 b3 a4 b4 a5 b5 a6 b6 a7 b7 a8 b8 x0 x1 x2 x3 x4 x5 x6 x7 (ix2 p j)
    = ((dp d R 0 p J : ℝ) : EReal) := by
  have hg : J / 128 = 6 := by omega
  pointwise [sl.v248, sl.v238, sl.cst_21]
  simp only [v246 c b1 b2 b3 b4 b5 b6 b7 b8 h, v151 c b1 b2 b3 b4 b5 b6 b7 b8 h, ← EReal.coe_mul, ← EReal.coe_add, ← EReal.coe_sub, sum_real]
  simp only [dp, hg]
  subst hJ
  first | (simp only [Nat.zero_add]; done) | rfl

theorem v359 (p j : Fin 128) (J : ℕ) (hJ : J = 768 + j) : sl.v359 (F := Ideal) c a1 b1 a2 b2 a3 b3 a4 b4 a5 b5 a6 b6 a7 b7 a8 b8 x0 x1 x2 x3 x4 x5 x6 x7 (ix2 p j)
    = ((dp d R 128 p J : ℝ) : EReal) := by
  have hg : J / 128 = 6 := by omega
  pointwise [sl.v359, sl.v349, sl.cst_21]
  simp only [v246 c b1 b2 b3 b4 b5 b6 b7 b8 h, v151 c b1 b2 b3 b4 b5 b6 b7 b8 h, ← EReal.coe_mul, ← EReal.coe_add, ← EReal.coe_sub, sum_real]
  simp only [dp, hg]
  subst hJ
  first | (simp only [Nat.zero_add]; done) | rfl

theorem v259 (p q : Fin 128) : sl.v259 (F := Ideal) c a6 b6 x5 (ix2 p q)
    = ((d.ws 7 q p : ℝ) : EReal) := by
  unfold sl.v259
  simp (disch := decide) only [View.readAt_eq_ld, Memref.IsWhole.read_unread]
  pointwise []
  exact h.h5 7 p q

theorem v261 (p j : Fin 128) (J : ℕ) (hJ : J = 896 + j) : sl.v261 (F := Ideal) c a1 b1 a2 b2 a3 b3 a4 b4 a5 b5 a6 b6 a7 b7 a8 b8 x0 x1 x2 x3 x4 x5 x6 x7 (ix2 p j)
    = ((dp d R 0 p J : ℝ) : EReal) := by
  have hg : J / 128 = 7 := by omega
  pointwise [sl.v261, sl.v251, sl.cst_21]
  simp only [v259 c b1 b2 b3 b4 b5 b6 b7 b8 h, v151 c b1 b2 b3 b4 b5 b6 b7 b8 h, ← EReal.coe_mul, ← EReal.coe_add, ← EReal.coe_sub, sum_real]
  simp only [dp, hg]
  subst hJ
  first | (simp only [Nat.zero_add]; done) | rfl

theorem v262 (p : Fin 128) (j : Fin 1024) : sl.v262 (F := Ideal) c a1 b1 a2 b2 a3 b3 a4 b4 a5 b5 a6 b6 a7 b7 a8 b8 x0 x1 x2 x3 x4 x5 x6 x7 (ix2 p j)
    = ((dp d R 0 p j : ℝ) : EReal) := by
  pointwise [sl.v262]
  by_cases h0 : (j : ℕ) < 128
  · rw [dif_pos h0]
    exact v170 c b1 b2 b3 b4 b5 b6 b7 b8 h p ⟨(j : ℕ), by omega⟩ ↑j (by dsimp only; omega)
  rw [dif_neg h0]
  by_cases h1 : (j : ℕ) - 128 < 128
  · rw [dif_pos h1]
    exact v183 c b1 b2 b3 b4 b5 b6 b7 b8 h p ⟨(j : ℕ) - 128, by omega⟩ ↑j (by dsimp only; omega)
  rw [dif_neg h1]
  by_cases h2 : (j : ℕ) - 128 - 128 < 128
  · rw [dif_pos h2]
    exact v196 c b1 b2 b3 b4 b5 b6 b7 b8 h p ⟨(j : ℕ) - 128 - 128, by omega⟩ ↑j (by dsimp only; omega)
  rw [dif_neg h2]
  by_cases h3 : (j : ℕ) - 128 - 128 - 128 < 128
  · rw [dif_pos h3]
    exact v209 c b1 b2 b3 b4 b5 b6 b7 b8 h p ⟨(j : ℕ) - 128 - 128 - 128, by omega⟩ ↑j (by dsimp only; omega)
  rw [dif_neg h3]
  by_cases h4 : (j : ℕ) - 128 - 128 - 128 - 128 < 128
  · rw [dif_pos h4]
    exact v222 c b1 b2 b3 b4 b5 b6 b7 b8 h p ⟨(j : ℕ) - 128 - 128 - 128 - 128, by omega⟩ ↑j (by dsimp only; omega)
  rw [dif_neg h4]
  by_cases h5 : (j : ℕ) - 128 - 128 - 128 - 128 - 128 < 128
  · rw [dif_pos h5]
    exact v235 c b1 b2 b3 b4 b5 b6 b7 b8 h p ⟨(j : ℕ) - 128 - 128 - 128 - 128 - 128, by omega⟩ ↑j (by dsimp only; omega)
  rw [dif_neg h5]
  by_cases h6 : (j : ℕ) - 128 - 128 - 128 - 128 - 128 - 128 < 128
  · rw [dif_pos h6]
    exact v248 c b1 b2 b3 b4 b5 b6 b7 b8 h p ⟨(j : ℕ) - 128 - 128 - 128 - 128 - 128 - 128, by omega⟩ ↑j (by dsimp only; omega)
  rw [dif_neg h6]
  exact v261 c b1 b2 b3 b4 b5 b6 b7 b8 h p ⟨(j : ℕ) - 128 - 128 - 128 - 128 - 128 - 128 - 128, by omega⟩ ↑j (by dsimp only; omega)

theorem v372 (x369 : FVec Ideal S1x128x128 .bf16) (hx : ∀ p q : Fin 128, x369 (ix3 0 p q) = ((d.ws 7 q p : ℝ) : EReal)) (p j : Fin 128) (J : ℕ) (hJ : J = 896 + j) : matmul (F := Ideal) dot_S128x128_S128x128_S128x128_1_0_0_1_n_n none (shapeCast S128x128 x369 shapeCasts_S1x128x128_S128x128) (extractStridedSlice S128x128 ![128, 896] (sl.v151 (F := Ideal) c a1 b1 a2 b2 a3 b3 a4 b4 a5 b5 a7 b7 a8 b8 x0 x1 x2 x3 x4 x6 x7) slices_S256x1024_o128_896_S128x128) (constant S128x128 .f32 0x00000000#32) (ix2 p j)
    = ((dp d R 128 p J : ℝ) : EReal) := by
  have hg : J / 128 = 7 := by omega
  pointwise []
  simp only [hx, v151 c b1 b2 b3 b4 b5 b6 b7 b8 h, ← EReal.coe_mul, sum_real]
  simp only [dp, hg]
  subst hJ
  rfl

theorem v373 (x369 : FVec Ideal S1x128x128 .bf16) (hx : ∀ p q : Fin 128, x369 (ix3 0 p q) = ((d.ws 7 q p : ℝ) : EReal)) (p : Fin 128) (j : Fin 1024) : concatenate S128x1024 1 [⟨S128x128, sl.v281 (F := Ideal) c a1 b1 a2 b2 a3 b3 a4 b4 a5 b5 a6 b6 a7 b7 a8 b8 x0 x1 x2 x3 x4 x5 x6 x7⟩, ⟨S128x128, sl.v294 (F := Ideal) c a1 b1 a2 b2 a3 b3 a4 b4 a5 b5 a6 b6 a7 b7 a8 b8 x0 x1 x2 x3 x4 x5 x6 x7⟩, ⟨S128x128, sl.v307 (F := Ideal) c a1 b1 a2 b2 a3 b3 a4 b4 a5 b5 a6 b6 a7 b7 a8 b8 x0 x1 x2 x3 x4 x5 x6 x7⟩, ⟨S128x128, sl.v320 (F := Ideal) c a1 b1 a2 b2 a3 b3 a4 b4 a5 b5 a6 b6 a7 b7 a8 b8 x0 x1 x2 x3 x4 x5 x6 x7⟩, ⟨S128x128, sl.v333 (F := Ideal) c a1 b1 a2 b2 a3 b3 a4 b4 a5 b5 a6 b6 a7 b7 a8 b8 x0 x1 x2 x3 x4 x5 x6 x7⟩, ⟨S128x128, sl.v346 (F := Ideal) c a1 b1 a2 b2 a3 b3 a4 b4 a5 b5 a6 b6 a7 b7 a8 b8 x0 x1 x2 x3 x4 x5 x6 x7⟩, ⟨S128x128, sl.v359 (F := Ideal) c a1 b1 a2 b2 a3 b3 a4 b4 a5 b5 a6 b6 a7 b7 a8 b8 x0 x1 x2 x3 x4 x5 x6 x7⟩, ⟨S128x128, matmul (F := Ideal) dot_S128x128_S128x128_S128x128_1_0_0_1_n_n none (shapeCast S128x128 x369 shapeCasts_S1x128x128_S128x128) (extractStridedSlice S128x128 ![128, 896] (sl.v151 (F := Ideal) c a1 b1 a2 b2 a3 b3 a4 b4 a5 b5 a7 b7 a8 b8 x0 x1 x2 x3 x4 x6 x7) slices_S256x1024_o128_896_S128x128) (constant S128x128 .f32 0x00000000#32)⟩] concatenates_S128x128_S128x128_S128x128_S128x128_S128x128_S128x128_S128x128_S128x128_S128x1024_d1 (ix2 p j)
    = ((dp d R 128 p j : ℝ) : EReal) := by
  generalize hM : matmul (F := Ideal) dot_S128x128_S128x128_S128x128_1_0_0_1_n_n none (shapeCast S128x128 x369 shapeCasts_S1x128x128_S128x128) (extractStridedSlice S128x128 ![128, 896] (sl.v151 (F := Ideal) c a1 b1 a2 b2 a3 b3 a4 b4 a5 b5 a7 b7 a8 b8 x0 x1 x2 x3 x4 x6 x7) slices_S256x1024_o128_896_S128x128) (constant S128x128 .f32 0x00000000#32) = M
  pointwise []
  by_cases h0 : (j : ℕ) < 128
  · rw [dif_pos h0]
    exact v281 c b1 b2 b3 b4 b5 b6 b7 b8 h p ⟨(j : ℕ), by omega⟩ ↑j (by dsimp only; omega)
  rw [dif_neg h0]
  by_cases h1 : (j : ℕ) - 128 < 128
  · rw [dif_pos h1]
    exact v294 c b1 b2 b3 b4 b5 b6 b7 b8 h p ⟨(j : ℕ) - 128, by omega⟩ ↑j (by dsimp only; omega)
  rw [dif_neg h1]
  by_cases h2 : (j : ℕ) - 128 - 128 < 128
  · rw [dif_pos h2]
    exact v307 c b1 b2 b3 b4 b5 b6 b7 b8 h p ⟨(j : ℕ) - 128 - 128, by omega⟩ ↑j (by dsimp only; omega)
  rw [dif_neg h2]
  by_cases h3 : (j : ℕ) - 128 - 128 - 128 < 128
  · rw [dif_pos h3]
    exact v320 c b1 b2 b3 b4 b5 b6 b7 b8 h p ⟨(j : ℕ) - 128 - 128 - 128, by omega⟩ ↑j (by dsimp only; omega)
  rw [dif_neg h3]
  by_cases h4 : (j : ℕ) - 128 - 128 - 128 - 128 < 128
  · rw [dif_pos h4]
    exact v333 c b1 b2 b3 b4 b5 b6 b7 b8 h p ⟨(j : ℕ) - 128 - 128 - 128 - 128, by omega⟩ ↑j (by dsimp only; omega)
  rw [dif_neg h4]
  by_cases h5 : (j : ℕ) - 128 - 128 - 128 - 128 - 128 < 128
  · rw [dif_pos h5]
    exact v346 c b1 b2 b3 b4 b5 b6 b7 b8 h p ⟨(j : ℕ) - 128 - 128 - 128 - 128 - 128, by omega⟩ ↑j (by dsimp only; omega)
  rw [dif_neg h5]
  by_cases h6 : (j : ℕ) - 128 - 128 - 128 - 128 - 128 - 128 < 128
  · rw [dif_pos h6]
    exact v359 c b1 b2 b3 b4 b5 b6 b7 b8 h p ⟨(j : ℕ) - 128 - 128 - 128 - 128 - 128 - 128, by omega⟩ ↑j (by dsimp only; omega)
  rw [dif_neg h6]
  rw [← hM]
  exact v372 c b1 b2 b3 b4 b5 b6 b7 b8 h x369 hx p ⟨(j : ℕ) - 128 - 128 - 128 - 128 - 128 - 128 - 128, by omega⟩ ↑j (by dsimp only; omega)

theorem v374 (x369 : FVec Ideal S1x128x128 .bf16) (hx : ∀ p q : Fin 128, x369 (ix3 0 p q) = ((d.ws 7 q p : ℝ) : EReal)) (r : Fin 256) (j : Fin 1024) : k0_pay89 (F := Ideal) (sl.v151 (F := Ideal) c a1 b1 a2 b2 a3 b3 a4 b4 a5 b5 a7 b7 a8 b8 x0 x1 x2 x3 x4 x6 x7) (sl.v262 (F := Ideal) c a1 b1 a2 b2 a3 b3 a4 b4 a5 b5 a6 b6 a7 b7 a8 b8 x0 x1 x2 x3 x4 x5 x6 x7) (sl.v281 (F := Ideal) c a1 b1 a2 b2 a3 b3 a4 b4 a5 b5 a6 b6 a7 b7 a8 b8 x0 x1 x2 x3 x4 x5 x6 x7) (sl.v294 (F := Ideal) c a1 b1 a2 b2 a3 b3 a4 b4 a5 b5 a6 b6 a7 b7 a8 b8 x0 x1 x2 x3 x4 x5 x6 x7) (sl.v307 (F := Ideal) c a1 b1 a2 b2 a3 b3 a4 b4 a5 b5 a6 b6 a7 b7 a8 b8 x0 x1 x2 x3 x4 x5 x6 x7) (sl.v320 (F := Ideal) c a1 b1 a2 b2 a3 b3 a4 b4 a5 b5 a6 b6 a7 b7 a8 b8 x0 x1 x2 x3 x4 x5 x6 x7) (sl.v333 (F := Ideal) c a1 b1 a2 b2 a3 b3 a4 b4 a5 b5 a6 b6 a7 b7 a8 b8 x0 x1 x2 x3 x4 x5 x6 x7) (sl.v346 (F := Ideal) c a1 b1 a2 b2 a3 b3 a4 b4 a5 b5 a6 b6 a7 b7 a8 b8 x0 x1 x2 x3 x4 x5 x6 x7) (sl.v359 (F := Ideal) c a1 b1 a2 b2 a3 b3 a4 b4 a5 b5 a6 b6 a7 b7 a8 b8 x0 x1 x2 x3 x4 x5 x6 x7) x369 (ix2 r j)
    = ((d.dl (R + r) j : ℝ) : EReal) := by
  have key : ∀ M : FVec Ideal S128x1024 .f32, (∀ (p : Fin 128) (j : Fin 1024), M (ix2 p j) = ((dp d R 128 p j : ℝ) : EReal)) →
      concatenate S256x1024 0 [⟨S128x1024, sl.v262 (F := Ideal) c a1 b1 a2 b2 a3 b3 a4 b4 a5 b5 a6 b6 a7 b7 a8 b8 x0 x1 x2 x3 x4 x5 x6 x7⟩, ⟨S128x1024, M⟩] concatenates_S128x1024_S128x1024_S256x1024_d0 (ix2 r j) = ((d.dl (R + r) j : ℝ) : EReal) := by
    intro M e
    pointwise []
    by_cases h0 : (r : ℕ) < 128
    · rw [dif_pos h0]
      have e1 := v262 c b1 b2 b3 b4 b5 b6 b7 b8 h ⟨r, h0⟩ j
      rw [← dl_at d R h.hR 0 r j rfl h0, Nat.zero_add] at e1
      exact e1
    · rw [dif_neg h0]
      have e1 := e ⟨(r : ℕ) - 128, by omega⟩ j
      rw [← dl_at d R h.hR 128 ((r : ℕ) - 128) j rfl (by omega), show 128 + ((r : ℕ) - 128) = r by omega] at e1
      exact e1
  exact key _ (v373 c b1 b2 b3 b4 b5 b6 b7 b8 h x369 hx)

theorem ld7 (p q : Fin 128) : (View.readAt (Elt Ideal) a6.view (Rect.unit (s := S8x128x128) ![7, 0, 0] S1x128x128.size inb_S8x128x128_S1x128x128_7_0_0).toLoadRect (b6.unread x5)) (ix3 0 p q) = ((d.ws 7 q p : ℝ) : EReal) := by
  simp (disch := decide) only [View.readAt_eq_ld, Memref.IsWhole.read_unread]
  pointwise []
  exact h.h5 7 p q

theorem r_7 (r : Fin 256) (j : Fin 1024) : sl.r_7 (F := Ideal) c a1 b1 a2 b2 a3 b3 a4 b4 a5 b5 a6 b6 a7 b7 a8 b8 x0 x1 x2 x3 x4 x5 x6 x7 (ix2 r j)
    = ((d.dv (R + r) j : ℝ) : EReal) := by
  unfold sl.r_7
  have hx := ld7 c b1 b2 b3 b4 b5 b6 b7 b8 h
  generalize (View.readAt (Elt Ideal) a6.view (Rect.unit (s := S8x128x128) ![7, 0, 0] S1x128x128.size inb_S8x128x128_S1x128x128_7_0_0).toLoadRect (b6.unread x5)) = x369 at hx ⊢
  pointwise [k0_pay91]
  simp only [v374 c b1 b2 b3 b4 b5 b6 b7 b8 h x369 hx, r_2 c b1 b2 b3 b4 b5 b6 b7 b8 h, v40 c b1 b2 b3 b4 b5 b6 b7 b8 h, v42 c b1 b2 b3 b4 b5 b6 b7 b8 h, w_1024, div_1024, ← EReal.coe_mul, ← EReal.coe_add, ← EReal.coe_sub, sum_real]
  rfl

theorem r_8 (r : Fin 256) (j : Fin 1024) : sl.r_8 (F := Ideal) c a1 b1 x0 (ix2 r j)
    = ((erfR (d.u (R + r) j * s2) : ℝ) : EReal) := by
  unfold sl.r_8
  pointwise [k0_pay92]
  simp only [r_0 c b1 b2 b3 b4 b5 b6 b7 b8 h, k_s2, ← EReal.coe_mul, Ideal.erf_def, erf_real]

theorem outU (r : Fin 256) (j : Fin 1024) : k0_pay94 (F := Ideal) (sl.r (F := Ideal) c a1 b1 x0) (sl.v149 (F := Ideal) c a1 b1 a2 b2 a3 b3 a4 b4 a5 b5 a7 b7 a8 b8 x0 x1 x2 x3 x4 x6 x7) (sl.r_8 (F := Ideal) c a1 b1 x0) (k0_pay93 (F := Ideal)) (ix2 r j)
    = ((d.Du (R + r) j : ℝ) : EReal) := by
  pointwise [k0_pay94, k0_pay93]
  simp only [r_0 c b1 b2 b3 b4 b5 b6 b7 b8 h, v149 c b1 b2 b3 b4 b5 b6 b7 b8 h, r_8 c b1 b2 b3 b4 b5 b6 b7 b8 h, w_half, w_nhalf, w_one, k_s2, k_s2p, ← EReal.coe_mul, ← EReal.coe_add, Ideal.exp_def, Ideal.exp_coe, Ideal.erf_def, erf_real, ← EReal.coe_one]
  rfl

theorem outV (r : Fin 256) (j : Fin 1024) : k0_pay95 (F := Ideal) (sl.r_1 (F := Ideal) c a2 b2 x1) (sl.r_7 (F := Ideal) c a1 b1 a2 b2 a3 b3 a4 b4 a5 b5 a6 b6 a7 b7 a8 b8 x0 x1 x2 x3 x4 x5 x6 x7) (ix2 r j)
    = ((d.Dv (R + r) j : ℝ) : EReal) := by
  pointwise [k0_pay95]
  simp only [r_1 c b1 b2 b3 b4 b5 b6 b7 b8 h, r_7 c b1 b2 b3 b4 b5 b6 b7 b8 h, w_half, w_nhalf, w_one, k_s2, k_s2p, ← EReal.coe_mul, ← EReal.coe_add, Ideal.exp_def, Ideal.exp_coe, Ideal.erf_def, erf_real, ← EReal.coe_one]
  rfl

end Cert.Gm.B

end
-- ==== Proof.Gm.AccB.lean ====
module

public import proofs.«01_k».proof.Proof.Gm.WordsB
public import Idealize.ShloMosaic.Lib.Pipeline.ReadBack
public import proofs.«01_k».proof.Proof.Gen.KernelIdeal.Frame
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Gm.B

open Cert.KernelIdeal Cert.KernelIdeal.Gen Cert.Gm.K Cert.KernelIdeal.Gen.kernelRun0_B

variable (c : Dev nD) (d : D) (R : ℕ)
  (a1 : Memref sig .tc .vmem S256x1024 .bf16) (b1 : a1.IsWhole) (a2 : Memref sig .tc .vmem S256x1024 .bf16) (b2 : a2.IsWhole)
  (a3 : Memref sig .tc .vmem S256x1024 .bf16) (b3 : a3.IsWhole) (a4 : Memref sig .tc .vmem S1x1024 .f32) (b4 : a4.IsWhole)
  (a5 : Memref sig .tc .vmem S8x128x128 .bf16) (b5 : a5.IsWhole) (a6 : Memref sig .tc .vmem S8x128x128 .bf16) (b6 : a6.IsWhole)
  (a7 : Memref sig .tc .vmem S128x1024 .f32) (b7 : a7.IsWhole) (a8 : Memref sig .tc .vmem S1x1024 .f32) (b8 : a8.IsWhole)
  (x0 x1 x2 : FVec Ideal S256x1024 .bf16) (x3 : FVec Ideal S1x1024 .f32) (x4 x5 : FVec Ideal S8x128x128 .bf16)
  (x6 : FVec Ideal S128x1024 .f32) (x7 : FVec Ideal S1x1024 .f32) (h : In d R x0 x1 x2 x3 x4 x5 x6 x7)

variable (a9 : Memref sig .tc .vmem S256x2048 .bf16) (b9 : a9.IsWhole) (a10 : Memref sig .tc .vmem S1x1024 .f32) (b10 : a10.IsWhole)
  (a11 : Memref sig .tc .vmem S8x128x128 .f32) (b11 : a11.IsWhole) (a12 : Memref sig .tc .vmem S8x128 .f32) (b12 : a12.IsWhole)
  (a13 : Memref sig .tc .vmem S1x1024 .f32) (b13 : a13.IsWhole) (a14 : Memref sig .tc .vmem S128x1024 .f32) (b14 : a14.IsWhole)
  (xo9 : FVec Ideal S1x1024 .f32) (xo10 : FVec Ideal S8x128x128 .f32) (xo12 : FVec Ideal S1x1024 .f32) (xs0 : FVec Ideal S128x1024 .f32)

include c d R b1 b2 b3 b4 b5 b6 b7 b8 h b9 b10 b11 b12 b13 b14 xo9 xo10 xo12 xs0

theorem dgg (j : Fin 1024) : sl.v133 (F := Ideal) c a1 b1 a2 b2 a3 b3 a4 b4 a5 b5 a7 b7 a13 b13 x0 x1 x2 x3 x4 x6 xo12 (ix2 0 j) = xo12 (ix2 0 j) + ((∑ r : Fin 256, d.dm (R + r) j * d.gh (R + r) j : ℝ) : EReal) := by
  unfold sl.v133 sl.v129
  simp (disch := decide) only [View.readAt_eq_ld, Memref.IsWhole.read_unread, View.ld_unit_lit', View.readCov_unit_lit', View.readCov_cons_unit_lit']
  pointwise [sl.v132, sl.v131, sl.v130, sl.cst_82]
  simp only [v127 c b1 b2 b3 b4 b5 b6 b7 b8 h, v125 c b1 b2 b3 b4 b5 b6 b7 b8 h, ← EReal.coe_mul, ← EReal.coe_add, ← EReal.coe_sub, sum_real]

theorem dln (j : Fin 1024) : k0_pay90 (F := Ideal) (sl.v42 (F := Ideal) c a2 b2 x1) (sl.v151 (F := Ideal) c a1 b1 a2 b2 a3 b3 a4 b4 a5 b5 a7 b7 a8 b8 x0 x1 x2 x3 x4 x6 x7) (sl.v262 (F := Ideal) c a1 b1 a2 b2 a3 b3 a4 b4 a5 b5 a6 b6 a7 b7 a8 b8 x0 x1 x2 x3 x4 x5 x6 x7) (sl.v281 (F := Ideal) c a1 b1 a2 b2 a3 b3 a4 b4 a5 b5 a6 b6 a7 b7 a8 b8 x0 x1 x2 x3 x4 x5 x6 x7) (sl.v294 (F := Ideal) c a1 b1 a2 b2 a3 b3 a4 b4 a5 b5 a6 b6 a7 b7 a8 b8 x0 x1 x2 x3 x4 x5 x6 x7) (sl.v307 (F := Ideal) c a1 b1 a2 b2 a3 b3 a4 b4 a5 b5 a6 b6 a7 b7 a8 b8 x0 x1 x2 x3 x4 x5 x6 x7) (sl.v320 (F := Ideal) c a1 b1 a2 b2 a3 b3 a4 b4 a5 b5 a6 b6 a7 b7 a8 b8 x0 x1 x2 x3 x4 x5 x6 x7) (sl.v333 (F := Ideal) c a1 b1 a2 b2 a3 b3 a4 b4 a5 b5 a6 b6 a7 b7 a8 b8 x0 x1 x2 x3 x4 x5 x6 x7) (sl.v346 (F := Ideal) c a1 b1 a2 b2 a3 b3 a4 b4 a5 b5 a6 b6 a7 b7 a8 b8 x0 x1 x2 x3 x4 x5 x6 x7) (sl.v359 (F := Ideal) c a1 b1 a2 b2 a3 b3 a4 b4 a5 b5 a6 b6 a7 b7 a8 b8 x0 x1 x2 x3 x4 x5 x6 x7) (View.readAt (Elt Ideal) a6.view (Rect.unit (s := S8x128x128) ![7, 0, 0] S1x128x128.size inb_S8x128x128_S1x128x128_7_0_0).toLoadRect (b6.unread x5)) (View.readAt (Elt Ideal) a10.view (Rect.unit (s := S1x1024) ![0, 0] S1x1024.size inb_S1x1024_S1x1024_0_0).toLoadRect (b10.unread xo9)) (ix2 0 j) = xo9 (ix2 0 j) + ((∑ r : Fin 256, d.dl (R + r) j * d.vh (R + r) j : ℝ) : EReal) := by
  have hx := ld7 c b1 b2 b3 b4 b5 b6 b7 b8 h
  generalize (View.readAt (Elt Ideal) a6.view (Rect.unit (s := S8x128x128) ![7, 0, 0] S1x128x128.size inb_S8x128x128_S1x128x128_7_0_0).toLoadRect (b6.unread x5)) = x369 at hx ⊢

  simp (disch := decide) only [View.readAt_eq_ld, Memref.IsWhole.read_unread, View.ld_unit_lit', View.readCov_unit_lit', View.readCov_cons_unit_lit']
  pointwise [k0_pay90]
  simp only [v374 c b1 b2 b3 b4 b5 b6 b7 b8 h x369 hx, v42 c b1 b2 b3 b4 b5 b6 b7 b8 h, ← EReal.coe_mul, ← EReal.coe_add, ← EReal.coe_sub, sum_real]

theorem ws0_0 (p q : Fin 128) : sl.v163 (F := Ideal) c a1 b1 a2 b2 a3 b3 a4 b4 a5 b5 a7 b7 a8 b8 a11 b11 x0 x1 x2 x3 x4 x6 x7 xo10 (ix2 p q) = xo10 (ix3 0 p q) + ((wsp d R 0 0 p q : ℝ) : EReal) := by
  unfold sl.v163 sl.v159
  simp (disch := decide) only [View.readAt_eq_ld, Memref.IsWhole.read_unread]
  pointwise [sl.v162, sl.v160, sl.v48, sl.cst_21]
  simp only [v151 c b1 b2 b3 b4 b5 b6 b7 b8 h, v45 c b1 b2 b3 b4 b5 b6 b7 b8 h, ← EReal.coe_mul, ← EReal.coe_add, ← EReal.coe_sub, sum_real]
  simp only [wsp, Nat.zero_add, Nat.mul_zero, Nat.reduceMul]

theorem ws0_1 (p q : Fin 128) : sl.v176 (F := Ideal) c a1 b1 a2 b2 a3 b3 a4 b4 a5 b5 a7 b7 a8 b8 a11 b11 x0 x1 x2 x3 x4 x6 x7 xo10 (ix2 p q) = xo10 (ix3 1 p q) + ((wsp d R 0 1 p q : ℝ) : EReal) := by
  unfold sl.v176 sl.v172 sl.v171
  simp (disch := decide) only [View.readAt_eq_ld, Memref.IsWhole.read_unread]
  pointwise [sl.v175, sl.v173, sl.v52, sl.cst_21]
  simp only [v151 c b1 b2 b3 b4 b5 b6 b7 b8 h, v45 c b1 b2 b3 b4 b5 b6 b7 b8 h, ← EReal.coe_mul, ← EReal.coe_add, ← EReal.coe_sub, sum_real]
  simp only [wsp, Nat.zero_add, Nat.mul_zero, Nat.reduceMul]

theorem ws0_2 (p q : Fin 128) : sl.v189 (F := Ideal) c a1 b1 a2 b2 a3 b3 a4 b4 a5 b5 a7 b7 a8 b8 a11 b11 x0 x1 x2 x3 x4 x6 x7 xo10 (ix2 p q) = xo10 (ix3 2 p q) + ((wsp d R 0 2 p q : ℝ) : EReal) := by
  unfold sl.v189 sl.v185 sl.v184
  simp (disch := decide) only [View.readAt_eq_ld, Memref.IsWhole.read_unread]
  pointwise [sl.v188, sl.v186, sl.v56, sl.cst_21]
  simp only [v151 c b1 b2 b3 b4 b5 b6 b7 b8 h, v45 c b1 b2 b3 b4 b5 b6 b7 b8 h, ← EReal.coe_mul, ← EReal.coe_add, ← EReal.coe_sub, sum_real]
  simp only [wsp, Nat.zero_add, Nat.mul_zero, Nat.reduceMul]

theorem ws0_3 (p q : Fin 128) : sl.v202 (F := Ideal) c a1 b1 a2 b2 a3 b3 a4 b4 a5 b5 a7 b7 a8 b8 a11 b11 x0 x1 x2 x3 x4 x6 x7 xo10 (ix2 p q) = xo10 (ix3 3 p q) + ((wsp d R 0 3 p q : ℝ) : EReal) := by
  unfold sl.v202 sl.v198 sl.v197
  simp (disch := decide) only [View.readAt_eq_ld, Memref.IsWhole.read_unread]
  pointwise [sl.v201, sl.v199, sl.v60, sl.cst_21]
  simp only [v151 c b1 b2 b3 b4 b5 b6 b7 b8 h, v45 c b1 b2 b3 b4 b5 b6 b7 b8 h, ← EReal.coe_mul, ← EReal.coe_add, ← EReal.coe_sub, sum_real]
  simp only [wsp, Nat.zero_add, Nat.mul_zero, Nat.reduceMul]

theorem ws0_4 (p q : Fin 128) : sl.v215 (F := Ideal) c a1 b1 a2 b2 a3 b3 a4 b4 a5 b5 a7 b7 a8 b8 a11 b11 x0 x1 x2 x3 x4 x6 x7 xo10 (ix2 p q) = xo10 (ix3 4 p q) + ((wsp d R 0 4 p q : ℝ) : EReal) := by
  unfold sl.v215 sl.v211 sl.v210
  simp (disch := decide) only [View.readAt_eq_ld, Memref.IsWhole.read_unread]
  pointwise [sl.v214, sl.v212, sl.v64, sl.cst_21]
  simp only [v151 c b1 b2 b3 b4 b5 b6 b7 b8 h, v45 c b1 b2 b3 b4 b5 b6 b7 b8 h, ← EReal.coe_mul, ← EReal.coe_add, ← EReal.coe_sub, sum_real]
  simp only [wsp, Nat.zero_add, Nat.mul_zero, Nat.reduceMul]

theorem ws0_5 (p q : Fin 128) : sl.v228 (F := Ideal) c a1 b1 a2 b2 a3 b3 a4 b4 a5 b5 a7 b7 a8 b8 a11 b11 x0 x1 x2 x3 x4 x6 x7 xo10 (ix2 p q) = xo10 (ix3 5 p q) + ((wsp d R 0 5 p q : ℝ) : EReal) := by
  unfold sl.v228 sl.v224 sl.v223
  simp (disch := decide) only [View.readAt_eq_ld, Memref.IsWhole.read_unread]
  pointwise [sl.v227, sl.v225, sl.v68, sl.cst_21]
  simp only [v151 c b1 b2 b3 b4 b5 b6 b7 b8 h, v45 c b1 b2 b3 b4 b5 b6 b7 b8 h, ← EReal.coe_mul, ← EReal.coe_add, ← EReal.coe_sub, sum_real]
  simp only [wsp, Nat.zero_add, Nat.mul_zero, Nat.reduceMul]

theorem ws0_6 (p q : Fin 128) : sl.v241 (F := Ideal) c a1 b1 a2 b2 a3 b3 a4 b4 a5 b5 a7 b7 a8 b8 a11 b11 x0 x1 x2 x3 x4 x6 x7 xo10 (ix2 p q) = xo10 (ix3 6 p q) + ((wsp d R 0 6 p q : ℝ) : EReal) := by
  unfold sl.v241 sl.v237 sl.v236
  simp (disch := decide) only [View.readAt_eq_ld, Memref.IsWhole.read_unread]
  pointwise [sl.v240, sl.v238, sl.v72, sl.cst_21]
  simp only [v151 c b1 b2 b3 b4 b5 b6 b7 b8 h, v45 c b1 b2 b3 b4 b5 b6 b7 b8 h, ← EReal.coe_mul, ← EReal.coe_add, ← EReal.coe_sub, sum_real]
  simp only [wsp, Nat.zero_add, Nat.mul_zero, Nat.reduceMul]

theorem ws0_7 (p q : Fin 128) : sl.v254 (F := Ideal) c a1 b1 a2 b2 a3 b3 a4 b4 a5 b5 a7 b7 a8 b8 a11 b11 x0 x1 x2 x3 x4 x6 x7 xo10 (ix2 p q) = xo10 (ix3 7 p q) + ((wsp d R 0 7 p q : ℝ) : EReal) := by
  unfold sl.v254 sl.v250 sl.v249
  simp (disch := decide) only [View.readAt_eq_ld, Memref.IsWhole.read_unread]
  pointwise [sl.v253, sl.v251, sl.v76, sl.cst_21]
  simp only [v151 c b1 b2 b3 b4 b5 b6 b7 b8 h, v45 c b1 b2 b3 b4 b5 b6 b7 b8 h, ← EReal.coe_mul, ← EReal.coe_add, ← EReal.coe_sub, sum_real]
  simp only [wsp, Nat.zero_add, Nat.mul_zero, Nat.reduceMul]

theorem rc_0 (p q : Fin 128) : sl.v269 (F := Ideal) c a1 b1 a2 b2 a3 b3 a4 b4 a5 b5 a7 b7 a8 b8 a11 b11 x0 x1 x2 x3 x4 x6 x7 xo10 (ix3 0 p q) = sl.v163 (F := Ideal) c a1 b1 a2 b2 a3 b3 a4 b4 a5 b5 a7 b7 a8 b8 a11 b11 x0 x1 x2 x3 x4 x6 x7 xo10 (ix2 p q) := by
  unfold sl.v269 sl.H10_8
  simp (disch := decide) only [View.readCov_skip]
  rw [View.readCov_cons_toLoadRect]
  pointwise [sl.v166]

theorem ws1_0 (p q : Fin 128) : sl.v277 (F := Ideal) c a1 b1 a2 b2 a3 b3 a4 b4 a5 b5 a7 b7 a8 b8 a11 b11 x0 x1 x2 x3 x4 x6 x7 xo10 (ix3 0 p q) = xo10 (ix3 0 p q) + ((wsp d R 0 0 p q + wsp d R 128 0 p q : ℝ) : EReal) := by
  pointwise [sl.v277, sl.v274, sl.v270, sl.v273, sl.v271, sl.v82, sl.cst_21]
  simp only [rc_0 c d R a1 b1 a2 b2 a3 b3 a4 b4 a5 b5 a6 b6 a7 b7 a8 b8 x0 x1 x2 x3 x4 x5 x6 x7 h a9 b9 a10 b10 a11 b11 a12 b12 a13 b13 a14 b14 xo9 xo10 xo12 xs0, ws0_0 c d R a1 b1 a2 b2 a3 b3 a4 b4 a5 b5 a6 b6 a7 b7 a8 b8 x0 x1 x2 x3 x4 x5 x6 x7 h a9 b9 a10 b10 a11 b11 a12 b12 a13 b13 a14 b14 xo9 xo10 xo12 xs0, v151 c b1 b2 b3 b4 b5 b6 b7 b8 h, v45 c b1 b2 b3 b4 b5 b6 b7 b8 h, ← EReal.coe_mul, ← EReal.coe_add, ← EReal.coe_sub, sum_real]
  rw [EReal.coe_add, ← add_assoc (xo10 (ix3 0 p q))]
  first | (simp only [wsp, Nat.zero_add, Nat.mul_zero, Nat.reduceMul]; done) | rfl

theorem rc_1 (p q : Fin 128) : sl.v282 (F := Ideal) c a1 b1 a2 b2 a3 b3 a4 b4 a5 b5 a7 b7 a8 b8 a11 b11 x0 x1 x2 x3 x4 x6 x7 xo10 (ix3 0 p q) = sl.v176 (F := Ideal) c a1 b1 a2 b2 a3 b3 a4 b4 a5 b5 a7 b7 a8 b8 a11 b11 x0 x1 x2 x3 x4 x6 x7 xo10 (ix2 p q) := by
  unfold sl.v282 sl.H10_9 sl.H10_8
  simp (disch := decide) only [View.readCov_skip]
  rw [View.readCov_cons_toLoadRect]
  pointwise [sl.v179]

theorem ws1_1 (p q : Fin 128) : sl.v290 (F := Ideal) c a1 b1 a2 b2 a3 b3 a4 b4 a5 b5 a7 b7 a8 b8 a11 b11 x0 x1 x2 x3 x4 x6 x7 xo10 (ix3 0 p q) = xo10 (ix3 1 p q) + ((wsp d R 0 1 p q + wsp d R 128 1 p q : ℝ) : EReal) := by
  pointwise [sl.v290, sl.v287, sl.v283, sl.v286, sl.v284, sl.v86, sl.cst_21]
  simp only [rc_1 c d R a1 b1 a2 b2 a3 b3 a4 b4 a5 b5 a6 b6 a7 b7 a8 b8 x0 x1 x2 x3 x4 x5 x6 x7 h a9 b9 a10 b10 a11 b11 a12 b12 a13 b13 a14 b14 xo9 xo10 xo12 xs0, ws0_1 c d R a1 b1 a2 b2 a3 b3 a4 b4 a5 b5 a6 b6 a7 b7 a8 b8 x0 x1 x2 x3 x4 x5 x6 x7 h a9 b9 a10 b10 a11 b11 a12 b12 a13 b13 a14 b14 xo9 xo10 xo12 xs0, v151 c b1 b2 b3 b4 b5 b6 b7 b8 h, v45 c b1 b2 b3 b4 b5 b6 b7 b8 h, ← EReal.coe_mul, ← EReal.coe_add, ← EReal.coe_sub, sum_real]
  rw [EReal.coe_add, ← add_assoc (xo10 (ix3 1 p q))]
  first | (simp only [wsp, Nat.zero_add, Nat.mul_zero, Nat.reduceMul]; done) | rfl

theorem rc_2 (p q : Fin 128) : sl.v295 (F := Ideal) c a1 b1 a2 b2 a3 b3 a4 b4 a5 b5 a7 b7 a8 b8 a11 b11 x0 x1 x2 x3 x4 x6 x7 xo10 (ix3 0 p q) = sl.v189 (F := Ideal) c a1 b1 a2 b2 a3 b3 a4 b4 a5 b5 a7 b7 a8 b8 a11 b11 x0 x1 x2 x3 x4 x6 x7 xo10 (ix2 p q) := by
  unfold sl.v295 sl.H10_10 sl.H10_9 sl.H10_8
  simp (disch := decide) only [View.readCov_skip]
  rw [View.readCov_cons_toLoadRect]
  pointwise [sl.v192]

theorem ws1_2 (p q : Fin 128) : sl.v303 (F := Ideal) c a1 b1 a2 b2 a3 b3 a4 b4 a5 b5 a7 b7 a8 b8 a11 b11 x0 x1 x2 x3 x4 x6 x7 xo10 (ix3 0 p q) = xo10 (ix3 2 p q) + ((wsp d R 0 2 p q + wsp d R 128 2 p q : ℝ) : EReal) := by
  pointwise [sl.v303, sl.v300, sl.v296, sl.v299, sl.v297, sl.v90, sl.cst_21]
  simp only [rc_2 c d R a1 b1 a2 b2 a3 b3 a4 b4 a5 b5 a6 b6 a7 b7 a8 b8 x0 x1 x2 x3 x4 x5 x6 x7 h a9 b9 a10 b10 a11 b11 a12 b12 a13 b13 a14 b14 xo9 xo10 xo12 xs0, ws0_2 c d R a1 b1 a2 b2 a3 b3 a4 b4 a5 b5 a6 b6 a7 b7 a8 b8 x0 x1 x2 x3 x4 x5 x6 x7 h a9 b9 a10 b10 a11 b11 a12 b12 a13 b13 a14 b14 xo9 xo10 xo12 xs0, v151 c b1 b2 b3 b4 b5 b6 b7 b8 h, v45 c b1 b2 b3 b4 b5 b6 b7 b8 h, ← EReal.coe_mul, ← EReal.coe_add, ← EReal.coe_sub, sum_real]
  rw [EReal.coe_add, ← add_assoc (xo10 (ix3 2 p q))]
  first | (simp only [wsp, Nat.zero_add, Nat.mul_zero, Nat.reduceMul]; done) | rfl

theorem rc_3 (p q : Fin 128) : sl.v308 (F := Ideal) c a1 b1 a2 b2 a3 b3 a4 b4 a5 b5 a7 b7 a8 b8 a11 b11 x0 x1 x2 x3 x4 x6 x7 xo10 (ix3 0 p q) = sl.v202 (F := Ideal) c a1 b1 a2 b2 a3 b3 a4 b4 a5 b5 a7 b7 a8 b8 a11 b11 x0 x1 x2 x3 x4 x6 x7 xo10 (ix2 p q) := by
  unfold sl.v308 sl.H10_11 sl.H10_10 sl.H10_9 sl.H10_8
  simp (disch := decide) only [View.readCov_skip]
  rw [View.readCov_cons_toLoadRect]
  pointwise [sl.v205]

theorem ws1_3 (p q : Fin 128) : sl.v316 (F := Ideal) c a1 b1 a2 b2 a3 b3 a4 b4 a5 b5 a7 b7 a8 b8 a11 b11 x0 x1 x2 x3 x4 x6 x7 xo10 (ix3 0 p q) = xo10 (ix3 3 p q) + ((wsp d R 0 3 p q + wsp d R 128 3 p q : ℝ) : EReal) := by
  pointwise [sl.v316, sl.v313, sl.v309, sl.v312, sl.v310, sl.v94, sl.cst_21]
  simp only [rc_3 c d R a1 b1 a2 b2 a3 b3 a4 b4 a5 b5 a6 b6 a7 b7 a8 b8 x0 x1 x2 x3 x4 x5 x6 x7 h a9 b9 a10 b10 a11 b11 a12 b12 a13 b13 a14 b14 xo9 xo10 xo12 xs0, ws0_3 c d R a1 b1 a2 b2 a3 b3 a4 b4 a5 b5 a6 b6 a7 b7 a8 b8 x0 x1 x2 x3 x4 x5 x6 x7 h a9 b9 a10 b10 a11 b11 a12 b12 a13 b13 a14 b14 xo9 xo10 xo12 xs0, v151 c b1 b2 b3 b4 b5 b6 b7 b8 h, v45 c b1 b2 b3 b4 b5 b6 b7 b8 h, ← EReal.coe_mul, ← EReal.coe_add, ← EReal.coe_sub, sum_real]
  rw [EReal.coe_add, ← add_assoc (xo10 (ix3 3 p q))]
  first | (simp only [wsp, Nat.zero_add, Nat.mul_zero, Nat.reduceMul]; done) | rfl

theorem rc_4 (p q : Fin 128) : sl.v321 (F := Ideal) c a1 b1 a2 b2 a3 b3 a4 b4 a5 b5 a7 b7 a8 b8 a11 b11 x0 x1 x2 x3 x4 x6 x7 xo10 (ix3 0 p q) = sl.v215 (F := Ideal) c a1 b1 a2 b2 a3 b3 a4 b4 a5 b5 a7 b7 a8 b8 a11 b11 x0 x1 x2 x3 x4 x6 x7 xo10 (ix2 p q) := by
  unfold sl.v321 sl.H10_12 sl.H10_11 sl.H10_10 sl.H10_9 sl.H10_8
  simp (disch := decide) only [View.readCov_skip]
  rw [View.readCov_cons_toLoadRect]
  pointwise [sl.v218]

theorem ws1_4 (p q : Fin 128) : sl.v329 (F := Ideal) c a1 b1 a2 b2 a3 b3 a4 b4 a5 b5 a7 b7 a8 b8 a11 b11 x0 x1 x2 x3 x4 x6 x7 xo10 (ix3 0 p q) = xo10 (ix3 4 p q) + ((wsp d R 0 4 p q + wsp d R 128 4 p q : ℝ) : EReal) := by
  pointwise [sl.v329, sl.v326, sl.v322, sl.v325, sl.v323, sl.v98, sl.cst_21]
  simp only [rc_4 c d R a1 b1 a2 b2 a3 b3 a4 b4 a5 b5 a6 b6 a7 b7 a8 b8 x0 x1 x2 x3 x4 x5 x6 x7 h a9 b9 a10 b10 a11 b11 a12 b12 a13 b13 a14 b14 xo9 xo10 xo12 xs0, ws0_4 c d R a1 b1 a2 b2 a3 b3 a4 b4 a5 b5 a6 b6 a7 b7 a8 b8 x0 x1 x2 x3 x4 x5 x6 x7 h a9 b9 a10 b10 a11 b11 a12 b12 a13 b13 a14 b14 xo9 xo10 xo12 xs0, v151 c b1 b2 b3 b4 b5 b6 b7 b8 h, v45 c b1 b2 b3 b4 b5 b6 b7 b8 h, ← EReal.coe_mul, ← EReal.coe_add, ← EReal.coe_sub, sum_real]
  rw [EReal.coe_add, ← add_assoc (xo10 (ix3 4 p q))]
  first | (simp only [wsp, Nat.zero_add, Nat.mul_zero, Nat.reduceMul]; done) | rfl

theorem rc_5 (p q : Fin 128) : sl.v334 (F := Ideal) c a1 b1 a2 b2 a3 b3 a4 b4 a5 b5 a7 b7 a8 b8 a11 b11 x0 x1 x2 x3 x4 x6 x7 xo10 (ix3 0 p q) = sl.v228 (F := Ideal) c a1 b1 a2 b2 a3 b3 a4 b4 a5 b5 a7 b7 a8 b8 a11 b11 x0 x1 x2 x3 x4 x6 x7 xo10 (ix2 p q) := by
  unfold sl.v334 sl.H10_13 sl.H10_12 sl.H10_11 sl.H10_10 sl.H10_9 sl.H10_8
  simp (disch := decide) only [View.readCov_skip]
  rw [View.readCov_cons_toLoadRect]
  pointwise [sl.v231]

theorem ws1_5 (p q : Fin 128) : sl.v342 (F := Ideal) c a1 b1 a2 b2 a3 b3 a4 b4 a5 b5 a7 b7 a8 b8 a11 b11 x0 x1 x2 x3 x4 x6 x7 xo10 (ix3 0 p q) = xo10 (ix3 5 p q) + ((wsp d R 0 5 p q + wsp d R 128 5 p q : ℝ) : EReal) := by
  pointwise [sl.v342, sl.v339, sl.v335, sl.v338, sl.v336, sl.v102, sl.cst_21]
  simp only [rc_5 c d R a1 b1 a2 b2 a3 b3 a4 b4 a5 b5 a6 b6 a7 b7 a8 b8 x0 x1 x2 x3 x4 x5 x6 x7 h a9 b9 a10 b10 a11 b11 a12 b12 a13 b13 a14 b14 xo9 xo10 xo12 xs0, ws0_5 c d R a1 b1 a2 b2 a3 b3 a4 b4 a5 b5 a6 b6 a7 b7 a8 b8 x0 x1 x2 x3 x4 x5 x6 x7 h a9 b9 a10 b10 a11 b11 a12 b12 a13 b13 a14 b14 xo9 xo10 xo12 xs0, v151 c b1 b2 b3 b4 b5 b6 b7 b8 h, v45 c b1 b2 b3 b4 b5 b6 b7 b8 h, ← EReal.coe_mul, ← EReal.coe_add, ← EReal.coe_sub, sum_real]
  rw [EReal.coe_add, ← add_assoc (xo10 (ix3 5 p q))]
  first | (simp only [wsp, Nat.zero_add, Nat.mul_zero, Nat.reduceMul]; done) | rfl

theorem rc_6 (p q : Fin 128) : sl.v347 (F := Ideal) c a1 b1 a2 b2 a3 b3 a4 b4 a5 b5 a7 b7 a8 b8 a11 b11 x0 x1 x2 x3 x4 x6 x7 xo10 (ix3 0 p q) = sl.v241 (F := Ideal) c a1 b1 a2 b2 a3 b3 a4 b4 a5 b5 a7 b7 a8 b8 a11 b11 x0 x1 x2 x3 x4 x6 x7 xo10 (ix2 p q) := by
  unfold sl.v347 sl.H10_14 sl.H10_13 sl.H10_12 sl.H10_11 sl.H10_10 sl.H10_9 sl.H10_8
  simp (disch := decide) only [View.readCov_skip]
  rw [View.readCov_cons_toLoadRect]
  pointwise [sl.v244]

theorem ws1_6 (p q : Fin 128) : sl.v355 (F := Ideal) c a1 b1 a2 b2 a3 b3 a4 b4 a5 b5 a7 b7 a8 b8 a11 b11 x0 x1 x2 x3 x4 x6 x7 xo10 (ix3 0 p q) = xo10 (ix3 6 p q) + ((wsp d R 0 6 p q + wsp d R 128 6 p q : ℝ) : EReal) := by
  pointwise [sl.v355, sl.v352, sl.v348, sl.v351, sl.v349, sl.v106, sl.cst_21]
  simp only [rc_6 c d R a1 b1 a2 b2 a3 b3 a4 b4 a5 b5 a6 b6 a7 b7 a8 b8 x0 x1 x2 x3 x4 x5 x6 x7 h a9 b9 a10 b10 a11 b11 a12 b12 a13 b13 a14 b14 xo9 xo10 xo12 xs0, ws0_6 c d R a1 b1 a2 b2 a3 b3 a4 b4 a5 b5 a6 b6 a7 b7 a8 b8 x0 x1 x2 x3 x4 x5 x6 x7 h a9 b9 a10 b10 a11 b11 a12 b12 a13 b13 a14 b14 xo9 xo10 xo12 xs0, v151 c b1 b2 b3 b4 b5 b6 b7 b8 h, v45 c b1 b2 b3 b4 b5 b6 b7 b8 h, ← EReal.coe_mul, ← EReal.coe_add, ← EReal.coe_sub, sum_real]
  rw [EReal.coe_add, ← add_assoc (xo10 (ix3 6 p q))]
  first | (simp only [wsp, Nat.zero_add, Nat.mul_zero, Nat.reduceMul]; done) | rfl

theorem rc_7 (p q : Fin 128) : sl.v360 (F := Ideal) c a1 b1 a2 b2 a3 b3 a4 b4 a5 b5 a7 b7 a8 b8 a11 b11 x0 x1 x2 x3 x4 x6 x7 xo10 (ix3 0 p q) = sl.v254 (F := Ideal) c a1 b1 a2 b2 a3 b3 a4 b4 a5 b5 a7 b7 a8 b8 a11 b11 x0 x1 x2 x3 x4 x6 x7 xo10 (ix2 p q) := by
  unfold sl.v360 sl.H10_15 sl.H10_14 sl.H10_13 sl.H10_12 sl.H10_11 sl.H10_10 sl.H10_9 sl.H10_8
  simp (disch := decide) only [View.readCov_skip]
  rw [View.readCov_cons_toLoadRect]
  pointwise [sl.v257]

theorem ws1_7 (p q : Fin 128) : k0_pay88 (F := Ideal) (sl.v361 (F := Ideal) c a1 b1 a2 b2 a3 b3 a4 b4 a5 b5 a7 b7 a8 b8 a11 b11 x0 x1 x2 x3 x4 x6 x7 xo10) (sl.v362 (F := Ideal) c a1 b1 a2 b2 a3 b3 a4 b4 a5 b5 a7 b7 a8 b8 x0 x1 x2 x3 x4 x6 x7) (sl.v110 (F := Ideal) c a2 b2 a4 b4 x1 x3) sl.cst_21 (ix3 0 p q) = xo10 (ix3 7 p q) + ((wsp d R 0 7 p q + wsp d R 128 7 p q : ℝ) : EReal) := by
  pointwise [k0_pay88, sl.v361, sl.v362, sl.v110, sl.cst_21]
  simp only [rc_7 c d R a1 b1 a2 b2 a3 b3 a4 b4 a5 b5 a6 b6 a7 b7 a8 b8 x0 x1 x2 x3 x4 x5 x6 x7 h a9 b9 a10 b10 a11 b11 a12 b12 a13 b13 a14 b14 xo9 xo10 xo12 xs0, ws0_7 c d R a1 b1 a2 b2 a3 b3 a4 b4 a5 b5 a6 b6 a7 b7 a8 b8 x0 x1 x2 x3 x4 x5 x6 x7 h a9 b9 a10 b10 a11 b11 a12 b12 a13 b13 a14 b14 xo9 xo10 xo12 xs0, v151 c b1 b2 b3 b4 b5 b6 b7 b8 h, v45 c b1 b2 b3 b4 b5 b6 b7 b8 h, ← EReal.coe_mul, ← EReal.coe_add, ← EReal.coe_sub, sum_real]
  rw [EReal.coe_add, ← add_assoc (xo10 (ix3 7 p q))]
  first | (simp only [wsp, Nat.zero_add, Nat.mul_zero, Nat.reduceMul]; done) | rfl

theorem db (p : Fin 128) (j : Fin 1024) : sl.v268 (F := Ideal) c a1 b1 a2 b2 a3 b3 a4 b4 a5 b5 a7 b7 a8 b8 a14 b14 x0 x1 x2 x3 x4 x6 x7 xs0 (ix2 p j) = xs0 (ix2 p j) + ((d.dx (R + p) j + d.dx (R + (128 + p)) j : ℝ) : EReal) := by
  unfold sl.v268 sl.v265 sl.v263 sl.HS0_1 sl.v157 sl.v154
  simp (disch := decide) only [View.readAt_eq_ld, Memref.IsWhole.read_unread, View.ld_unit_lit', View.readCov_unit_lit', View.readCov_cons_unit_lit']
  pointwise [sl.v264, sl.v153]
  simp only [v150 c b1 b2 b3 b4 b5 b6 b7 b8 h, ← EReal.coe_mul, ← EReal.coe_add, ← EReal.coe_sub, sum_real]
  rw [EReal.coe_add, ← add_assoc (xs0 (ix2 p j))]

theorem o9 (i : grid0.Coords) (hc0 : ¬cond0_0 i) (hc1 : ¬cond0_1 i) (j : Fin 1024) : out0_B_9 (F := Ideal) c i a1 b1 a2 b2 a3 b3 a4 b4 a5 b5 a6 b6 a7 b7 a8 b8 a9 b9 a10 b10 a11 b11 a12 b12 a13 b13 a14 b14 hc0 hc1 x0 x1 x2 x3 x4 x5 x6 x7 xo9 xo10 xo12 xs0 (ix2 0 j) = xo9 (ix2 0 j) + ((∑ r : Fin 256, d.dl (R + r) j * d.vh (R + r) j : ℝ) : EReal) := by
  have e : out0_B_9 (F := Ideal) c i a1 b1 a2 b2 a3 b3 a4 b4 a5 b5 a6 b6 a7 b7 a8 b8 a9 b9 a10 b10 a11 b11 a12 b12 a13 b13 a14 b14 hc0 hc1 x0 x1 x2 x3 x4 x5 x6 x7 xo9 xo10 xo12 xs0 = k0_pay90 (F := Ideal) (sl.v42 (F := Ideal) c a2 b2 x1) (sl.v151 (F := Ideal) c a1 b1 a2 b2 a3 b3 a4 b4 a5 b5 a7 b7 a8 b8 x0 x1 x2 x3 x4 x6 x7) (sl.v262 (F := Ideal) c a1 b1 a2 b2 a3 b3 a4 b4 a5 b5 a6 b6 a7 b7 a8 b8 x0 x1 x2 x3 x4 x5 x6 x7) (sl.v281 (F := Ideal) c a1 b1 a2 b2 a3 b3 a4 b4 a5 b5 a6 b6 a7 b7 a8 b8 x0 x1 x2 x3 x4 x5 x6 x7) (sl.v294 (F := Ideal) c a1 b1 a2 b2 a3 b3 a4 b4 a5 b5 a6 b6 a7 b7 a8 b8 x0 x1 x2 x3 x4 x5 x6 x7) (sl.v307 (F := Ideal) c a1 b1 a2 b2 a3 b3 a4 b4 a5 b5 a6 b6 a7 b7 a8 b8 x0 x1 x2 x3 x4 x5 x6 x7) (sl.v320 (F := Ideal) c a1 b1 a2 b2 a3 b3 a4 b4 a5 b5 a6 b6 a7 b7 a8 b8 x0 x1 x2 x3 x4 x5 x6 x7) (sl.v333 (F := Ideal) c a1 b1 a2 b2 a3 b3 a4 b4 a5 b5 a6 b6 a7 b7 a8 b8 x0 x1 x2 x3 x4 x5 x6 x7) (sl.v346 (F := Ideal) c a1 b1 a2 b2 a3 b3 a4 b4 a5 b5 a6 b6 a7 b7 a8 b8 x0 x1 x2 x3 x4 x5 x6 x7) (sl.v359 (F := Ideal) c a1 b1 a2 b2 a3 b3 a4 b4 a5 b5 a6 b6 a7 b7 a8 b8 x0 x1 x2 x3 x4 x5 x6 x7) (View.readAt (Elt Ideal) a6.view (Rect.unit (s := S8x128x128) ![7, 0, 0] S1x128x128.size inb_S8x128x128_S1x128x128_7_0_0).toLoadRect (b6.unread x5)) (View.readAt (Elt Ideal) a10.view (Rect.unit (s := S1x1024) ![0, 0] S1x1024.size inb_S1x1024_S1x1024_0_0).toLoadRect (b10.unread xo9)) :=
    (View.read_writes_junk_eq_canon _ _).trans (View.canon_cons_unit_lit' _ _ _ (by decide))
  rw [e]
  exact dln c d R a1 b1 a2 b2 a3 b3 a4 b4 a5 b5 a6 b6 a7 b7 a8 b8 x0 x1 x2 x3 x4 x5 x6 x7 h a9 b9 a10 b10 a11 b11 a12 b12 a13 b13 a14 b14 xo9 xo10 xo12 xs0 j

theorem o12 (i : grid0.Coords) (hc0 : ¬cond0_0 i) (hc1 : ¬cond0_1 i) (j : Fin 1024) : out0_B_12 (F := Ideal) c i a1 b1 a2 b2 a3 b3 a4 b4 a5 b5 a6 b6 a7 b7 a8 b8 a9 b9 a10 b10 a11 b11 a12 b12 a13 b13 a14 b14 hc0 hc1 x0 x1 x2 x3 x4 x5 x6 x7 xo9 xo10 xo12 xs0 (ix2 0 j) = xo12 (ix2 0 j) + ((∑ r : Fin 256, d.dm (R + r) j * d.gh (R + r) j : ℝ) : EReal) := by
  have e : out0_B_12 (F := Ideal) c i a1 b1 a2 b2 a3 b3 a4 b4 a5 b5 a6 b6 a7 b7 a8 b8 a9 b9 a10 b10 a11 b11 a12 b12 a13 b13 a14 b14 hc0 hc1 x0 x1 x2 x3 x4 x5 x6 x7 xo9 xo10 xo12 xs0 = sl.v133 (F := Ideal) c a1 b1 a2 b2 a3 b3 a4 b4 a5 b5 a7 b7 a13 b13 x0 x1 x2 x3 x4 x6 xo12 :=
    (View.read_writes_junk_eq_canon _ _).trans (View.canon_cons_unit_lit' _ _ _ (by decide))
  rw [e]
  exact dgg c d R a1 b1 a2 b2 a3 b3 a4 b4 a5 b5 a6 b6 a7 b7 a8 b8 x0 x1 x2 x3 x4 x5 x6 x7 h a9 b9 a10 b10 a11 b11 a12 b12 a13 b13 a14 b14 xo9 xo10 xo12 xs0 j

theorem os (i : grid0.Coords) (hc0 : ¬cond0_0 i) (hc1 : ¬cond0_1 i) (p : Fin 128) (j : Fin 1024) : sout0_B_0 (F := Ideal) c i a1 b1 a2 b2 a3 b3 a4 b4 a5 b5 a6 b6 a7 b7 a8 b8 a9 b9 a10 b10 a11 b11 a12 b12 a13 b13 a14 b14 hc0 hc1 x0 x1 x2 x3 x4 x5 x6 x7 xo9 xo10 xo12 xs0 (ix2 p j) = xs0 (ix2 p j) + ((d.dx (R + p) j + d.dx (R + (128 + p)) j : ℝ) : EReal) := by
  have e : sout0_B_0 (F := Ideal) c i a1 b1 a2 b2 a3 b3 a4 b4 a5 b5 a6 b6 a7 b7 a8 b8 a9 b9 a10 b10 a11 b11 a12 b12 a13 b13 a14 b14 hc0 hc1 x0 x1 x2 x3 x4 x5 x6 x7 xo9 xo10 xo12 xs0 = sl.v268 (F := Ideal) c a1 b1 a2 b2 a3 b3 a4 b4 a5 b5 a7 b7 a8 b8 a14 b14 x0 x1 x2 x3 x4 x6 x7 xs0 :=
    (View.read_writes_junk_eq_canon _ _).trans (View.canon_cons_unit_lit' _ _ _ (by decide))
  rw [e]
  exact db c d R a1 b1 a2 b2 a3 b3 a4 b4 a5 b5 a6 b6 a7 b7 a8 b8 x0 x1 x2 x3 x4 x5 x6 x7 h a9 b9 a10 b10 a11 b11 a12 b12 a13 b13 a14 b14 xo9 xo10 xo12 xs0 p j

theorem o8 (i : grid0.Coords) (hc0 : ¬cond0_0 i) (hc1 : ¬cond0_1 i) (y : S256x2048.Idx) : out0_B_8 (F := Ideal) c i a1 b1 a2 b2 a3 b3 a4 b4 a5 b5 a6 b6 a7 b7 a8 b8 a9 b9 a10 b10 a11 b11 a12 b12 a13 b13 a14 b14 hc0 hc1 x0 x1 x2 x3 x4 x5 x6 x7 xo9 xo10 xo12 xs0 y = G8 d R y := by
  refine (congrFun (View.read_writes_junk_eq_canon VO0_8 _) y).trans ?_
  refine View.canon_append_of_piecesOf (G8 d R) [] [⟨Rect.unit (s := S256x2048) ![0, 1024] S256x1024.size inb_S256x2048_S256x1024_0_1024, k0_pay95 (F := Ideal) (sl.r_1 (F := Ideal) c a2 b2 x1) (sl.r_7 (F := Ideal) c a1 b1 a2 b2 a3 b3 a4 b4 a5 b5 a6 b6 a7 b7 a8 b8 x0 x1 x2 x3 x4 x5 x6 x7)⟩,
    ⟨Rect.unit (s := S256x2048) ![0, 0] S256x1024.size inb_S256x2048_S256x1024_0_0, k0_pay94 (F := Ideal) (sl.r (F := Ideal) c a1 b1 x0) (sl.v149 (F := Ideal) c a1 b1 a2 b2 a3 b3 a4 b4 a5 b5 a7 b7 a8 b8 x0 x1 x2 x3 x4 x6 x7) (sl.r_8 (F := Ideal) c a1 b1 x0) (k0_pay93 (F := Ideal))⟩] ⟨?_, ?_, trivial⟩ y (cover0_B_8 (F := Ideal) c i a1 b1 a2 b2 a3 b3 a4 b4 a5 b5 a6 b6 a7 b7 a8 b8 a9 b9 a10 b10 a11 b11 a12 b12 a13 b13 a14 b14 hc0 hc1 x0 x1 x2 x3 x4 x5 x6 x7 xo9 xo10 xo12 xs0 y)
  · intro x
    rw [eq_ix2 x]
    exact (outV c b1 b2 b3 b4 b5 b6 b7 b8 h _ _).trans (G8_V d R _ _ _ (by rw [ValueKit.rect_emb_unit_val]; rfl) (by rw [ValueKit.rect_emb_unit_val]; rfl)).symm
  · intro x
    rw [eq_ix2 x]
    exact (outU c b1 b2 b3 b4 b5 b6 b7 b8 h _ _).trans (G8_U d R _ _ _ (by rw [ValueKit.rect_emb_unit_val]; rfl) (by rw [ValueKit.rect_emb_unit_val]; rfl)).symm

theorem o10 (i : grid0.Coords) (hc0 : ¬cond0_0 i) (hc1 : ¬cond0_1 i) (y : S8x128x128.Idx) : out0_B_10 (F := Ideal) c i a1 b1 a2 b2 a3 b3 a4 b4 a5 b5 a6 b6 a7 b7 a8 b8 a9 b9 a10 b10 a11 b11 a12 b12 a13 b13 a14 b14 hc0 hc1 x0 x1 x2 x3 x4 x5 x6 x7 xo9 xo10 xo12 xs0 y = G10 d R xo10 y := by
  refine (congrFun (View.read_writes_junk_eq_canon VO0_10 _) y).trans ?_
  have hp : View.PiecesOf (Val := Elt Ideal) (e := .f32) (G10 d R xo10) [⟨Rect.unit (s := S8x128x128) ![7, 0, 0] S1x128x128.size inb_S8x128x128_S1x128x128_7_0_0, k0_pay88 (F := Ideal) (sl.v361 (F := Ideal) c a1 b1 a2 b2 a3 b3 a4 b4 a5 b5 a7 b7 a8 b8 a11 b11 x0 x1 x2 x3 x4 x6 x7 xo10) (sl.v362 (F := Ideal) c a1 b1 a2 b2 a3 b3 a4 b4 a5 b5 a7 b7 a8 b8 x0 x1 x2 x3 x4 x6 x7) (sl.v110 (F := Ideal) c a2 b2 a4 b4 x1 x3) sl.cst_21⟩,
    ⟨Rect.unit (s := S8x128x128) ![6, 0, 0] S1x128x128.size inb_S8x128x128_S1x128x128_6_0_0, sl.v355 (F := Ideal) c a1 b1 a2 b2 a3 b3 a4 b4 a5 b5 a7 b7 a8 b8 a11 b11 x0 x1 x2 x3 x4 x6 x7 xo10⟩,
    ⟨Rect.unit (s := S8x128x128) ![5, 0, 0] S1x128x128.size inb_S8x128x128_S1x128x128_5_0_0, sl.v342 (F := Ideal) c a1 b1 a2 b2 a3 b3 a4 b4 a5 b5 a7 b7 a8 b8 a11 b11 x0 x1 x2 x3 x4 x6 x7 xo10⟩,
    ⟨Rect.unit (s := S8x128x128) ![4, 0, 0] S1x128x128.size inb_S8x128x128_S1x128x128_4_0_0, sl.v329 (F := Ideal) c a1 b1 a2 b2 a3 b3 a4 b4 a5 b5 a7 b7 a8 b8 a11 b11 x0 x1 x2 x3 x4 x6 x7 xo10⟩,
    ⟨Rect.unit (s := S8x128x128) ![3, 0, 0] S1x128x128.size inb_S8x128x128_S1x128x128_3_0_0, sl.v316 (F := Ideal) c a1 b1 a2 b2 a3 b3 a4 b4 a5 b5 a7 b7 a8 b8 a11 b11 x0 x1 x2 x3 x4 x6 x7 xo10⟩,
    ⟨Rect.unit (s := S8x128x128) ![2, 0, 0] S1x128x128.size inb_S8x128x128_S1x128x128_2_0_0, sl.v303 (F := Ideal) c a1 b1 a2 b2 a3 b3 a4 b4 a5 b5 a7 b7 a8 b8 a11 b11 x0 x1 x2 x3 x4 x6 x7 xo10⟩,
    ⟨Rect.unit (s := S8x128x128) ![1, 0, 0] S1x128x128.size inb_S8x128x128_S1x128x128_1_0_0, sl.v290 (F := Ideal) c a1 b1 a2 b2 a3 b3 a4 b4 a5 b5 a7 b7 a8 b8 a11 b11 x0 x1 x2 x3 x4 x6 x7 xo10⟩,
    ⟨Rect.unit (s := S8x128x128) ![0, 0, 0] S1x128x128.size inb_S8x128x128_S1x128x128_0_0_0, sl.v277 (F := Ideal) c a1 b1 a2 b2 a3 b3 a4 b4 a5 b5 a7 b7 a8 b8 a11 b11 x0 x1 x2 x3 x4 x6 x7 xo10⟩] :=
    ⟨?_, ?_, ?_, ?_, ?_, ?_, ?_, ?_, trivial⟩
  · exact View.canon_append_of_piecesOf (G10 d R xo10) (sl.H10_8 (F := Ideal) c a1 b1 a2 b2 a3 b3 a4 b4 a5 b5 a7 b7 a8 b8 a11 b11 x0 x1 x2 x3 x4 x6 x7 xo10) _ hp y (View.cover_of_tiledL (s := S8x128x128) _ S1x128x128.size (by sl_kernel_rfl) y)
  · intro x
    obtain ⟨p, q, rfl⟩ := ex3 x
    refine (ws1_7 c d R a1 b1 a2 b2 a3 b3 a4 b4 a5 b5 a6 b6 a7 b7 a8 b8 x0 x1 x2 x3 x4 x5 x6 x7 h a9 b9 a10 b10 a11 b11 a12 b12 a13 b13 a14 b14 xo9 xo10 xo12 xs0 _ _).trans ?_
    refine G10_at d R xo10 7 _ _ _ ?_ ?_ ?_ <;> (rw [ValueKit.rect_emb_unit_val]; rfl)
  · intro x
    obtain ⟨p, q, rfl⟩ := ex3 x
    refine (ws1_6 c d R a1 b1 a2 b2 a3 b3 a4 b4 a5 b5 a6 b6 a7 b7 a8 b8 x0 x1 x2 x3 x4 x5 x6 x7 h a9 b9 a10 b10 a11 b11 a12 b12 a13 b13 a14 b14 xo9 xo10 xo12 xs0 _ _).trans ?_
    refine G10_at d R xo10 6 _ _ _ ?_ ?_ ?_ <;> (rw [ValueKit.rect_emb_unit_val]; rfl)
  · intro x
    obtain ⟨p, q, rfl⟩ := ex3 x
    refine (ws1_5 c d R a1 b1 a2 b2 a3 b3 a4 b4 a5 b5 a6 b6 a7 b7 a8 b8 x0 x1 x2 x3 x4 x5 x6 x7 h a9 b9 a10 b10 a11 b11 a12 b12 a13 b13 a14 b14 xo9 xo10 xo12 xs0 _ _).trans ?_
    refine G10_at d R xo10 5 _ _ _ ?_ ?_ ?_ <;> (rw [ValueKit.rect_emb_unit_val]; rfl)
  · intro x
    obtain ⟨p, q, rfl⟩ := ex3 x
    refine (ws1_4 c d R a1 b1 a2 b2 a3 b3 a4 b4 a5 b5 a6 b6 a7 b7 a8 b8 x0 x1 x2 x3 x4 x5 x6 x7 h a9 b9 a10 b10 a11 b11 a12 b12 a13 b13 a14 b14 xo9 xo10 xo12 xs0 _ _).trans ?_
    refine G10_at d R xo10 4 _ _ _ ?_ ?_ ?_ <;> (rw [ValueKit.rect_emb_unit_val]; rfl)
  · intro x
    obtain ⟨p, q, rfl⟩ := ex3 x
    refine (ws1_3 c d R a1 b1 a2 b2 a3 b3 a4 b4 a5 b5 a6 b6 a7 b7 a8 b8 x0 x1 x2 x3 x4 x5 x6 x7 h a9 b9 a10 b10 a11 b11 a12 b12 a13 b13 a14 b14 xo9 xo10 xo12 xs0 _ _).trans ?_
    refine G10_at d R xo10 3 _ _ _ ?_ ?_ ?_ <;> (rw [ValueKit.rect_emb_unit_val]; rfl)
  · intro x
    obtain ⟨p, q, rfl⟩ := ex3 x
    refine (ws1_2 c d R a1 b1 a2 b2 a3 b3 a4 b4 a5 b5 a6 b6 a7 b7 a8 b8 x0 x1 x2 x3 x4 x5 x6 x7 h a9 b9 a10 b10 a11 b11 a12 b12 a13 b13 a14 b14 xo9 xo10 xo12 xs0 _ _).trans ?_
    refine G10_at d R xo10 2 _ _ _ ?_ ?_ ?_ <;> (rw [ValueKit.rect_emb_unit_val]; rfl)
  · intro x
    obtain ⟨p, q, rfl⟩ := ex3 x
    refine (ws1_1 c d R a1 b1 a2 b2 a3 b3 a4 b4 a5 b5 a6 b6 a7 b7 a8 b8 x0 x1 x2 x3 x4 x5 x6 x7 h a9 b9 a10 b10 a11 b11 a12 b12 a13 b13 a14 b14 xo9 xo10 xo12 xs0 _ _).trans ?_
    refine G10_at d R xo10 1 _ _ _ ?_ ?_ ?_ <;> (rw [ValueKit.rect_emb_unit_val]; rfl)
  · intro x
    obtain ⟨p, q, rfl⟩ := ex3 x
    refine (ws1_0 c d R a1 b1 a2 b2 a3 b3 a4 b4 a5 b5 a6 b6 a7 b7 a8 b8 x0 x1 x2 x3 x4 x5 x6 x7 h a9 b9 a10 b10 a11 b11 a12 b12 a13 b13 a14 b14 xo9 xo10 xo12 xs0 _ _).trans ?_
    refine G10_at d R xo10 0 _ _ _ ?_ ?_ ?_ <;> (rw [ValueKit.rect_emb_unit_val]; rfl)

end Cert.Gm.B

end
-- ==== Proof.Gm.WordsC.lean ====
module

public import proofs.«01_k».proof.Proof.Gm.Kern
public import proofs.«01_k».proof.Proof.Gen.KernelIdeal.Frame
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Gm.C

open Cert.KernelIdeal Cert.KernelIdeal.Gen Cert.Gm.K Cert.KernelIdeal.Gen.kernelRun0_C

variable (c : Dev nD) {d : D} {R : ℕ}
  {a1 : Memref sig .tc .vmem S256x1024 .bf16} (b1 : a1.IsWhole) {a2 : Memref sig .tc .vmem S256x1024 .bf16} (b2 : a2.IsWhole)
  {a3 : Memref sig .tc .vmem S256x1024 .bf16} (b3 : a3.IsWhole) {a4 : Memref sig .tc .vmem S1x1024 .f32} (b4 : a4.IsWhole)
  {a5 : Memref sig .tc .vmem S8x128x128 .bf16} (b5 : a5.IsWhole) {a6 : Memref sig .tc .vmem S8x128x128 .bf16} (b6 : a6.IsWhole)
  {a7 : Memref sig .tc .vmem S128x1024 .f32} (b7 : a7.IsWhole) {a8 : Memref sig .tc .vmem S1x1024 .f32} (b8 : a8.IsWhole)
  {x0 x1 x2 : FVec Ideal S256x1024 .bf16} {x3 : FVec Ideal S1x1024 .f32} {x4 x5 : FVec Ideal S8x128x128 .bf16}
  {x6 : FVec Ideal S128x1024 .f32} {x7 : FVec Ideal S1x1024 .f32} (h : In d R x0 x1 x2 x3 x4 x5 x6 x7)

include c d R b1 b2 b3 b4 b5 b6 b7 b8 h

theorem r_0 (r : Fin 256) (j : Fin 1024) : sl.r (F := Ideal) c a1 b1 x0 (ix2 r j)
    = ((d.u (R + r) j : ℝ) : EReal) := by
  unfold sl.r
  simp (disch := decide) only [View.readAt_eq_ld, Memref.IsWhole.read_unread, View.ld_unit_lit']
  pointwise [k0_pay14]
  exact h.h0 r j

theorem r_1 (r : Fin 256) (j : Fin 1024) : sl.r_1 (F := Ideal) c a2 b2 x1 (ix2 r j)
    = ((d.v (R + r) j : ℝ) : EReal) := by
  unfold sl.r_1
  simp (disch := decide) only [View.readAt_eq_ld, Memref.IsWhole.read_unread, View.ld_unit_lit']
  pointwise [k0_pay15]
  exact h.h1 r j

theorem r_4 (r : Fin 256) (j : Fin 1024) : sl.r_4 (F := Ideal) c a1 b1 x0 (ix2 r j)
    = ((d.U (R + r) j : ℝ) : EReal) := by
  unfold sl.r_4
  simp (disch := decide) only [View.readAt_eq_ld, Memref.IsWhole.read_unread, View.ld_unit_lit']
  exact pay18 d R x0 h.h0 r j

theorem r_5 (r : Fin 256) (j : Fin 1024) : sl.r_5 (F := Ideal) c a2 b2 x1 (ix2 r j)
    = ((d.xc (R + r) j : ℝ) : EReal) := by
  unfold sl.r_5
  simp (disch := decide) only [View.readAt_eq_ld, Memref.IsWhole.read_unread, View.ld_unit_lit']
  exact pay19 d R x1 h.h1 r j

theorem r_6 (r : Fin 256) : sl.r_6 (F := Ideal) c a2 b2 x1 (ix2 r 0)
    = ((d.var (R + r) : ℝ) : EReal) := by
  unfold sl.r_6
  simp (disch := decide) only [View.readAt_eq_ld, Memref.IsWhole.read_unread, View.ld_unit_lit']
  exact pay20 d R x1 h.h1 r

theorem r_2 (j : Fin 1024) : sl.r_2 (F := Ideal) c a4 b4 x3 (ix2 0 j)
    = ((d.lg j : ℝ) : EReal) := by
  unfold sl.r_2
  simp (disch := decide) only [View.readAt_eq_ld, Memref.IsWhole.read_unread, View.ld_unit_lit']
  pointwise [k0_pay16]
  exact h.h3 j

theorem r_3 (p : Fin 128) (j : Fin 1024) : sl.r_3 (F := Ideal) c a7 b7 x6 (ix2 p j)
    = ((d.bs (j / 128) p : ℝ) : EReal) := by
  unfold sl.r_3
  simp (disch := decide) only [View.readAt_eq_ld, Memref.IsWhole.read_unread, View.ld_unit_lit']
  pointwise [k0_pay17]
  exact h.h6 p j

theorem v40 (r : Fin 256) : sl.v40 (F := Ideal) c a2 b2 x1 (ix2 r 0)
    = ((d.rs (R + r) : ℝ) : EReal) := by
  pointwise [sl.v40, sl.v39, sl.v38, sl.cst_17]
  simp only [r_6 c b1 b2 b3 b4 b5 b6 b7 b8 h, w_eps, ← EReal.coe_add, Ideal.rsqrt_def, rsqrt_real (d.var_pos _)]
  rfl

theorem v42 (r : Fin 256) (j : Fin 1024) : sl.v42 (F := Ideal) c a2 b2 x1 (ix2 r j)
    = ((d.vh (R + r) j : ℝ) : EReal) := by
  pointwise [sl.v42, sl.v41]
  simp only [r_5 c b1 b2 b3 b4 b5 b6 b7 b8 h, v40 c b1 b2 b3 b4 b5 b6 b7 b8 h, ← EReal.coe_mul, ← EReal.coe_add, ← EReal.coe_sub, sum_real]
  rfl

theorem v45 (r : Fin 256) (j : Fin 1024) : sl.v45 (F := Ideal) c a2 b2 a4 b4 x1 x3 (ix2 r j)
    = ((d.vl (R + r) j : ℝ) : EReal) := by
  pointwise [sl.v45, sl.v44, sl.v43]
  simp only [r_2 c b1 b2 b3 b4 b5 b6 b7 b8 h, v42 c b1 b2 b3 b4 b5 b6 b7 b8 h, ← EReal.coe_mul, ← EReal.coe_add, ← EReal.coe_sub, sum_real]
  rfl

theorem v47 (p q : Fin 128) : sl.v47 (F := Ideal) c a5 b5 x4 (ix2 p q)
    = ((d.ws 0 p q : ℝ) : EReal) := by
  unfold sl.v47
  simp (disch := decide) only [View.readAt_eq_ld, Memref.IsWhole.read_unread]
  pointwise []
  exact h.h4 0 p q

theorem v49 (p j : Fin 128) (J : ℕ) (hJ : J = 0 + j) : sl.v49 (F := Ideal) c a2 b2 a4 b4 a5 b5 x1 x3 x4 (ix2 p j)
    = ((cp d R 0 p J : ℝ) : EReal) := by
  have hg : J / 128 = 0 := by omega
  pointwise [sl.v49, sl.v48, sl.cst_21]
  simp only [v47 c b1 b2 b3 b4 b5 b6 b7 b8 h, v45 c b1 b2 b3 b4 b5 b6 b7 b8 h, ← EReal.coe_mul, ← EReal.coe_add, ← EReal.coe_sub, sum_real]
  simp only [cp, hg]
  subst hJ
  first | (simp only [Nat.zero_add]; done) | rfl

theorem v83 (p j : Fin 128) (J : ℕ) (hJ : J = 0 + j) : sl.v83 (F := Ideal) c a2 b2 a4 b4 a5 b5 x1 x3 x4 (ix2 p j)
    = ((cp d R 128 p J : ℝ) : EReal) := by
  have hg : J / 128 = 0 := by omega
  pointwise [sl.v83, sl.v82, sl.cst_21]
  simp only [v47 c b1 b2 b3 b4 b5 b6 b7 b8 h, v45 c b1 b2 b3 b4 b5 b6 b7 b8 h, ← EReal.coe_mul, ← EReal.coe_add, ← EReal.coe_sub, sum_real]
  simp only [cp, hg]
  subst hJ
  first | (simp only [Nat.zero_add]; done) | rfl

theorem v51 (p q : Fin 128) : sl.v51 (F := Ideal) c a5 b5 x4 (ix2 p q)
    = ((d.ws 1 p q : ℝ) : EReal) := by
  unfold sl.v51
  simp (disch := decide) only [View.readAt_eq_ld, Memref.IsWhole.read_unread]
  pointwise []
  exact h.h4 1 p q

theorem v53 (p j : Fin 128) (J : ℕ) (hJ : J = 128 + j) : sl.v53 (F := Ideal) c a2 b2 a4 b4 a5 b5 x1 x3 x4 (ix2 p j)
    = ((cp d R 0 p J : ℝ) : EReal) := by
  have hg : J / 128 = 1 := by omega
  pointwise [sl.v53, sl.v52, sl.cst_21]
  simp only [v51 c b1 b2 b3 b4 b5 b6 b7 b8 h, v45 c b1 b2 b3 b4 b5 b6 b7 b8 h, ← EReal.coe_mul, ← EReal.coe_add, ← EReal.coe_sub, sum_real]
  simp only [cp, hg]
  subst hJ
  first | (simp only [Nat.zero_add]; done) | rfl

theorem v87 (p j : Fin 128) (J : ℕ) (hJ : J = 128 + j) : sl.v87 (F := Ideal) c a2 b2 a4 b4 a5 b5 x1 x3 x4 (ix2 p j)
    = ((cp d R 128 p J : ℝ) : EReal) := by
  have hg : J / 128 = 1 := by omega
  pointwise [sl.v87, sl.v86, sl.cst_21]
  simp only [v51 c b1 b2 b3 b4 b5 b6 b7 b8 h, v45 c b1 b2 b3 b4 b5 b6 b7 b8 h, ← EReal.coe_mul, ← EReal.coe_add, ← EReal.coe_sub, sum_real]
  simp only [cp, hg]
  subst hJ
  first | (simp only [Nat.zero_add]; done) | rfl

theorem v55 (p q : Fin 128) : sl.v55 (F := Ideal) c a5 b5 x4 (ix2 p q)
    = ((d.ws 2 p q : ℝ) : EReal) := by
  unfold sl.v55
  simp (disch := decide) only [View.readAt_eq_ld, Memref.IsWhole.read_unread]
  pointwise []
  exact h.h4 2 p q

theorem v57 (p j : Fin 128) (J : ℕ) (hJ : J = 256 + j) : sl.v57 (F := Ideal) c a2 b2 a4 b4 a5 b5 x1 x3 x4 (ix2 p j)
    = ((cp d R 0 p J : ℝ) : EReal) := by
  have hg : J / 128 = 2 := by omega
  pointwise [sl.v57, sl.v56, sl.cst_21]
  simp only [v55 c b1 b2 b3 b4 b5 b6 b7 b8 h, v45 c b1 b2 b3 b4 b5 b6 b7 b8 h, ← EReal.coe_mul, ← EReal.coe_add, ← EReal.coe_sub, sum_real]
  simp only [cp, hg]
  subst hJ
  first | (simp only [Nat.zero_add]; done) | rfl

theorem v91 (p j : Fin 128) (J : ℕ) (hJ : J = 256 + j) : sl.v91 (F := Ideal) c a2 b2 a4 b4 a5 b5 x1 x3 x4 (ix2 p j)
    = ((cp d R 128 p J : ℝ) : EReal) := by
  have hg : J / 128 = 2 := by omega
  pointwise [sl.v91, sl.v90, sl.cst_21]
  simp only [v55 c b1 b2 b3 b4 b5 b6 b7 b8 h, v45 c b1 b2 b3 b4 b5 b6 b7 b8 h, ← EReal.coe_mul, ← EReal.coe_add, ← EReal.coe_sub, sum_real]
  simp only [cp, hg]
  subst hJ
  first | (simp only [Nat.zero_add]; done) | rfl

theorem v59 (p q : Fin 128) : sl.v59 (F := Ideal) c a5 b5 x4 (ix2 p q)
    = ((d.ws 3 p q : ℝ) : EReal) := by
  unfold sl.v59
  simp (disch := decide) only [View.readAt_eq_ld, Memref.IsWhole.read_unread]
  pointwise []
  exact h.h4 3 p q

theorem v61 (p j : Fin 128) (J : ℕ) (hJ : J = 384 + j) : sl.v61 (F := Ideal) c a2 b2 a4 b4 a5 b5 x1 x3 x4 (ix2 p j)
    = ((cp d R 0 p J : ℝ) : EReal) := by
  have hg : J / 128 = 3 := by omega
  pointwise [sl.v61, sl.v60, sl.cst_21]
  simp only [v59 c b1 b2 b3 b4 b5 b6 b7 b8 h, v45 c b1 b2 b3 b4 b5 b6 b7 b8 h, ← EReal.coe_mul, ← EReal.coe_add, ← EReal.coe_sub, sum_real]
  simp only [cp, hg]
  subst hJ
  first | (simp only [Nat.zero_add]; done) | rfl

theorem v95 (p j : Fin 128) (J : ℕ) (hJ : J = 384 + j) : sl.v95 (F := Ideal) c a2 b2 a4 b4 a5 b5 x1 x3 x4 (ix2 p j)
    = ((cp d R 128 p J : ℝ) : EReal) := by
  have hg : J / 128 = 3 := by omega
  pointwise [sl.v95, sl.v94, sl.cst_21]
  simp only [v59 c b1 b2 b3 b4 b5 b6 b7 b8 h, v45 c b1 b2 b3 b4 b5 b6 b7 b8 h, ← EReal.coe_mul, ← EReal.coe_add, ← EReal.coe_sub, sum_real]
  simp only [cp, hg]
  subst hJ
  first | (simp only [Nat.zero_add]; done) | rfl

theorem v63 (p q : Fin 128) : sl.v63 (F := Ideal) c a5 b5 x4 (ix2 p q)
    = ((d.ws 4 p q : ℝ) : EReal) := by
  unfold sl.v63
  simp (disch := decide) only [View.readAt_eq_ld, Memref.IsWhole.read_unread]
  pointwise []
  exact h.h4 4 p q

theorem v65 (p j : Fin 128) (J : ℕ) (hJ : J = 512 + j) : sl.v65 (F := Ideal) c a2 b2 a4 b4 a5 b5 x1 x3 x4 (ix2 p j)
    = ((cp d R 0 p J : ℝ) : EReal) := by
  have hg : J / 128 = 4 := by omega
  pointwise [sl.v65, sl.v64, sl.cst_21]
  simp only [v63 c b1 b2 b3 b4 b5 b6 b7 b8 h, v45 c b1 b2 b3 b4 b5 b6 b7 b8 h, ← EReal.coe_mul, ← EReal.coe_add, ← EReal.coe_sub, sum_real]
  simp only [cp, hg]
  subst hJ
  first | (simp only [Nat.zero_add]; done) | rfl

theorem v99 (p j : Fin 128) (J : ℕ) (hJ : J = 512 + j) : sl.v99 (F := Ideal) c a2 b2 a4 b4 a5 b5 x1 x3 x4 (ix2 p j)
    = ((cp d R 128 p J : ℝ) : EReal) := by
  have hg : J / 128 = 4 := by omega
  pointwise [sl.v99, sl.v98, sl.cst_21]
  simp only [v63 c b1 b2 b3 b4 b5 b6 b7 b8 h, v45 c b1 b2 b3 b4 b5 b6 b7 b8 h, ← EReal.coe_mul, ← EReal.coe_add, ← EReal.coe_sub, sum_real]
  simp only [cp, hg]
  subst hJ
  first | (simp only [Nat.zero_add]; done) | rfl

theorem v67 (p q : Fin 128) : sl.v67 (F := Ideal) c a5 b5 x4 (ix2 p q)
    = ((d.ws 5 p q : ℝ) : EReal) := by
  unfold sl.v67
  simp (disch := decide) only [View.readAt_eq_ld, Memref.IsWhole.read_unread]
  pointwise []
  exact h.h4 5 p q

theorem v69 (p j : Fin 128) (J : ℕ) (hJ : J = 640 + j) : sl.v69 (F := Ideal) c a2 b2 a4 b4 a5 b5 x1 x3 x4 (ix2 p j)
    = ((cp d R 0 p J : ℝ) : EReal) := by
  have hg : J / 128 = 5 := by omega
  pointwise [sl.v69, sl.v68, sl.cst_21]
  simp only [v67 c b1 b2 b3 b4 b5 b6 b7 b8 h, v45 c b1 b2 b3 b4 b5 b6 b7 b8 h, ← EReal.coe_mul, ← EReal.coe_add, ← EReal.coe_sub, sum_real]
  simp only [cp, hg]
  subst hJ
  first | (simp only [Nat.zero_add]; done) | rfl

theorem v103 (p j : Fin 128) (J : ℕ) (hJ : J = 640 + j) : sl.v103 (F := Ideal) c a2 b2 a4 b4 a5 b5 x1 x3 x4 (ix2 p j)
    = ((cp d R 128 p J : ℝ) : EReal) := by
  have hg : J / 128 = 5 := by omega
  pointwise [sl.v103, sl.v102, sl.cst_21]
  simp only [v67 c b1 b2 b3 b4 b5 b6 b7 b8 h, v45 c b1 b2 b3 b4 b5 b6 b7 b8 h, ← EReal.coe_mul, ← EReal.coe_add, ← EReal.coe_sub, sum_real]
  simp only [cp, hg]
  subst hJ
  first | (simp only [Nat.zero_add]; done) | rfl

theorem v71 (p q : Fin 128) : sl.v71 (F := Ideal) c a5 b5 x4 (ix2 p q)
    = ((d.ws 6 p q : ℝ) : EReal) := by
  unfold sl.v71
  simp (disch := decide) only [View.readAt_eq_ld, Memref.IsWhole.read_unread]
  pointwise []
  exact h.h4 6 p q

theorem v73 (p j : Fin 128) (J : ℕ) (hJ : J = 768 + j) : sl.v73 (F := Ideal) c a2 b2 a4 b4 a5 b5 x1 x3 x4 (ix2 p j)
    = ((cp d R 0 p J : ℝ) : EReal) := by
  have hg : J / 128 = 6 := by omega
  pointwise [sl.v73, sl.v72, sl.cst_21]
  simp only [v71 c b1 b2 b3 b4 b5 b6 b7 b8 h, v45 c b1 b2 b3 b4 b5 b6 b7 b8 h, ← EReal.coe_mul, ← EReal.coe_add, ← EReal.coe_sub, sum_real]
  simp only [cp, hg]
  subst hJ
  first | (simp only [Nat.zero_add]; done) | rfl

theorem v107 (p j : Fin 128) (J : ℕ) (hJ : J = 768 + j) : sl.v107 (F := Ideal) c a2 b2 a4 b4 a5 b5 x1 x3 x4 (ix2 p j)
    = ((cp d R 128 p J : ℝ) : EReal) := by
  have hg : J / 128 = 6 := by omega
  pointwise [sl.v107, sl.v106, sl.cst_21]
  simp only [v71 c b1 b2 b3 b4 b5 b6 b7 b8 h, v45 c b1 b2 b3 b4 b5 b6 b7 b8 h, ← EReal.coe_mul, ← EReal.coe_add, ← EReal.coe_sub, sum_real]
  simp only [cp, hg]
  subst hJ
  first | (simp only [Nat.zero_add]; done) | rfl

theorem v75 (p q : Fin 128) : sl.v75 (F := Ideal) c a5 b5 x4 (ix2 p q)
    = ((d.ws 7 p q : ℝ) : EReal) := by
  unfold sl.v75
  simp (disch := decide) only [View.readAt_eq_ld, Memref.IsWhole.read_unread]
  pointwise []
  exact h.h4 7 p q

theorem v77 (p j : Fin 128) (J : ℕ) (hJ : J = 896 + j) : sl.v77 (F := Ideal) c a2 b2 a4 b4 a5 b5 x1 x3 x4 (ix2 p j)
    = ((cp d R 0 p J : ℝ) : EReal) := by
  have hg : J / 128 = 7 := by omega
  pointwise [sl.v77, sl.v76, sl.cst_21]
  simp only [v75 c b1 b2 b3 b4 b5 b6 b7 b8 h, v45 c b1 b2 b3 b4 b5 b6 b7 b8 h, ← EReal.coe_mul, ← EReal.coe_add, ← EReal.coe_sub, sum_real]
  simp only [cp, hg]
  subst hJ
  first | (simp only [Nat.zero_add]; done) | rfl

theorem v111 (p j : Fin 128) (J : ℕ) (hJ : J = 896 + j) : sl.v111 (F := Ideal) c a2 b2 a4 b4 a5 b5 x1 x3 x4 (ix2 p j)
    = ((cp d R 128 p J : ℝ) : EReal) := by
  have hg : J / 128 = 7 := by omega
  pointwise [sl.v111, sl.v110, sl.cst_21]
  simp only [v75 c b1 b2 b3 b4 b5 b6 b7 b8 h, v45 c b1 b2 b3 b4 b5 b6 b7 b8 h, ← EReal.coe_mul, ← EReal.coe_add, ← EReal.coe_sub, sum_real]
  simp only [cp, hg]
  subst hJ
  first | (simp only [Nat.zero_add]; done) | rfl

theorem v78 (p : Fin 128) (j : Fin 1024) : sl.v78 (F := Ideal) c a2 b2 a4 b4 a5 b5 x1 x3 x4 (ix2 p j)
    = ((cp d R 0 p j : ℝ) : EReal) := by
  pointwise [sl.v78]
  by_cases h0 : (j : ℕ) < 128
  · rw [dif_pos h0]
    exact v49 c b1 b2 b3 b4 b5 b6 b7 b8 h p ⟨(j : ℕ), by omega⟩ ↑j (by dsimp only; omega)
  rw [dif_neg h0]
  by_cases h1 : (j : ℕ) - 128 < 128
  · rw [dif_pos h1]
    exact v53 c b1 b2 b3 b4 b5 b6 b7 b8 h p ⟨(j : ℕ) - 128, by omega⟩ ↑j (by dsimp only; omega)
  rw [dif_neg h1]
  by_cases h2 : (j : ℕ) - 128 - 128 < 128
  · rw [dif_pos h2]
    exact v57 c b1 b2 b3 b4 b5 b6 b7 b8 h p ⟨(j : ℕ) - 128 - 128, by omega⟩ ↑j (by dsimp only; omega)
  rw [dif_neg h2]
  by_cases h3 : (j : ℕ) - 128 - 128 - 128 < 128
  · rw [dif_pos h3]
    exact v61 c b1 b2 b3 b4 b5 b6 b7 b8 h p ⟨(j : ℕ) - 128 - 128 - 128, by omega⟩ ↑j (by dsimp only; omega)
  rw [dif_neg h3]
  by_cases h4 : (j : ℕ) - 128 - 128 - 128 - 128 < 128
  · rw [dif_pos h4]
    exact v65 c b1 b2 b3 b4 b5 b6 b7 b8 h p ⟨(j : ℕ) - 128 - 128 - 128 - 128, by omega⟩ ↑j (by dsimp only; omega)
  rw [dif_neg h4]
  by_cases h5 : (j : ℕ) - 128 - 128 - 128 - 128 - 128 < 128
  · rw [dif_pos h5]
    exact v69 c b1 b2 b3 b4 b5 b6 b7 b8 h p ⟨(j : ℕ) - 128 - 128 - 128 - 128 - 128, by omega⟩ ↑j (by dsimp only; omega)
  rw [dif_neg h5]
  by_cases h6 : (j : ℕ) - 128 - 128 - 128 - 128 - 128 - 128 < 128
  · rw [dif_pos h6]
    exact v73 c b1 b2 b3 b4 b5 b6 b7 b8 h p ⟨(j : ℕ) - 128 - 128 - 128 - 128 - 128 - 128, by omega⟩ ↑j (by dsimp only; omega)
  rw [dif_neg h6]
  exact v77 c b1 b2 b3 b4 b5 b6 b7 b8 h p ⟨(j : ℕ) - 128 - 128 - 128 - 128 - 128 - 128 - 128, by omega⟩ ↑j (by dsimp only; omega)

theorem v112 (p : Fin 128) (j : Fin 1024) : sl.v112 (F := Ideal) c a2 b2 a4 b4 a5 b5 x1 x3 x4 (ix2 p j)
    = ((cp d R 128 p j : ℝ) : EReal) := by
  pointwise [sl.v112]
  by_cases h0 : (j : ℕ) < 128
  · rw [dif_pos h0]
    exact v83 c b1 b2 b3 b4 b5 b6 b7 b8 h p ⟨(j : ℕ), by omega⟩ ↑j (by dsimp only; omega)
  rw [dif_neg h0]
  by_cases h1 : (j : ℕ) - 128 < 128
  · rw [dif_pos h1]
    exact v87 c b1 b2 b3 b4 b5 b6 b7 b8 h p ⟨(j : ℕ) - 128, by omega⟩ ↑j (by dsimp only; omega)
  rw [dif_neg h1]
  by_cases h2 : (j : ℕ) - 128 - 128 < 128
  · rw [dif_pos h2]
    exact v91 c b1 b2 b3 b4 b5 b6 b7 b8 h p ⟨(j : ℕ) - 128 - 128, by omega⟩ ↑j (by dsimp only; omega)
  rw [dif_neg h2]
  by_cases h3 : (j : ℕ) - 128 - 128 - 128 < 128
  · rw [dif_pos h3]
    exact v95 c b1 b2 b3 b4 b5 b6 b7 b8 h p ⟨(j : ℕ) - 128 - 128 - 128, by omega⟩ ↑j (by dsimp only; omega)
  rw [dif_neg h3]
  by_cases h4 : (j : ℕ) - 128 - 128 - 128 - 128 < 128
  · rw [dif_pos h4]
    exact v99 c b1 b2 b3 b4 b5 b6 b7 b8 h p ⟨(j : ℕ) - 128 - 128 - 128 - 128, by omega⟩ ↑j (by dsimp only; omega)
  rw [dif_neg h4]
  by_cases h5 : (j : ℕ) - 128 - 128 - 128 - 128 - 128 < 128
  · rw [dif_pos h5]
    exact v103 c b1 b2 b3 b4 b5 b6 b7 b8 h p ⟨(j : ℕ) - 128 - 128 - 128 - 128 - 128, by omega⟩ ↑j (by dsimp only; omega)
  rw [dif_neg h5]
  by_cases h6 : (j : ℕ) - 128 - 128 - 128 - 128 - 128 - 128 < 128
  · rw [dif_pos h6]
    exact v107 c b1 b2 b3 b4 b5 b6 b7 b8 h p ⟨(j : ℕ) - 128 - 128 - 128 - 128 - 128 - 128, by omega⟩ ↑j (by dsimp only; omega)
  rw [dif_neg h6]
  exact v111 c b1 b2 b3 b4 b5 b6 b7 b8 h p ⟨(j : ℕ) - 128 - 128 - 128 - 128 - 128 - 128 - 128, by omega⟩ ↑j (by dsimp only; omega)

theorem v79 (p : Fin 128) (j : Fin 1024) : sl.v79 (F := Ideal) c a2 b2 a4 b4 a5 b5 a7 b7 x1 x3 x4 x6 (ix2 p j)
    = ((d.mx (R + (0 + p)) j : ℝ) : EReal) := by
  rw [mx_at d R h.hR 0 p j rfl p.isLt]
  pointwise [sl.v79]
  simp only [v78 c b1 b2 b3 b4 b5 b6 b7 b8 h, r_3 c b1 b2 b3 b4 b5 b6 b7 b8 h, ← EReal.coe_mul, ← EReal.coe_add, ← EReal.coe_sub, sum_real]

theorem v113 (p : Fin 128) (j : Fin 1024) : sl.v113 (F := Ideal) c a2 b2 a4 b4 a5 b5 a7 b7 x1 x3 x4 x6 (ix2 p j)
    = ((d.mx (R + (128 + p)) j : ℝ) : EReal) := by
  rw [mx_at d R h.hR 128 p j rfl p.isLt]
  pointwise [sl.v113]
  simp only [v112 c b1 b2 b3 b4 b5 b6 b7 b8 h, r_3 c b1 b2 b3 b4 b5 b6 b7 b8 h, ← EReal.coe_mul, ← EReal.coe_add, ← EReal.coe_sub, sum_real]

theorem v114 (r : Fin 256) (j : Fin 1024) : sl.v114 (F := Ideal) c a2 b2 a4 b4 a5 b5 a7 b7 x1 x3 x4 x6 (ix2 r j)
    = ((d.mx (R + r) j : ℝ) : EReal) := by
  pointwise [sl.v114]
  by_cases h0 : (r : ℕ) < 128
  · rw [dif_pos h0]
    have e := v79 c b1 b2 b3 b4 b5 b6 b7 b8 h ⟨r, h0⟩ j
    rw [Nat.zero_add] at e
    exact e
  · rw [dif_neg h0]
    have e := v113 c b1 b2 b3 b4 b5 b6 b7 b8 h ⟨(r : ℕ) - 128, by omega⟩ j
    rw [show 128 + ((⟨(r : ℕ) - 128, by omega⟩ : Fin 128) : ℕ) = r by dsimp only; omega] at e
    exact e

theorem v115 (r : Fin 256) (j : Fin 1024) : sl.v115 (F := Ideal) c a1 b1 a2 b2 a4 b4 a5 b5 a7 b7 x0 x1 x3 x4 x6 (ix2 r j)
    = ((d.go (R + r) j : ℝ) : EReal) := by
  pointwise [sl.v115]
  simp only [r_4 c b1 b2 b3 b4 b5 b6 b7 b8 h, v114 c b1 b2 b3 b4 b5 b6 b7 b8 h, ← EReal.coe_mul, ← EReal.coe_add, ← EReal.coe_sub, sum_real]
  rfl

theorem v123 (r : Fin 256) : sl.v123 (F := Ideal) c a1 b1 a2 b2 a4 b4 a5 b5 a7 b7 x0 x1 x3 x4 x6 (ix2 r 0)
    = ((d.rr (R + r) : ℝ) : EReal) := by
  pointwise [sl.v123, sl.v122, sl.v120, sl.v118, sl.v117, sl.v116, sl.v119, sl.v38, sl.cst_17, sl.cst_76]
  simp only [v115 c b1 b2 b3 b4 b5 b6 b7 b8 h, ← EReal.coe_mul, ← EReal.coe_add, ← EReal.coe_sub, sum_real, w_1024, w_eps, div_1024, Ideal.rsqrt_def]
  have e := d.ms_pos (R + r)
  unfold D.ms at e
  rw [rsqrt_real e]
  rfl

theorem v125 (r : Fin 256) (j : Fin 1024) : sl.v125 (F := Ideal) c a1 b1 a2 b2 a4 b4 a5 b5 a7 b7 x0 x1 x3 x4 x6 (ix2 r j)
    = ((d.gh (R + r) j : ℝ) : EReal) := by
  pointwise [sl.v125, sl.v124]
  simp only [v115 c b1 b2 b3 b4 b5 b6 b7 b8 h, v123 c b1 b2 b3 b4 b5 b6 b7 b8 h, ← EReal.coe_mul, ← EReal.coe_add, ← EReal.coe_sub, sum_real]
  rfl

theorem v127 (r : Fin 256) (j : Fin 1024) : sl.v127 (F := Ideal) c a3 b3 x2 (ix2 r j)
    = ((d.dm (R + r) j : ℝ) : EReal) := by
  unfold sl.v127
  simp (disch := decide) only [View.readAt_eq_ld, Memref.IsWhole.read_unread, View.ld_unit_lit']
  pointwise []
  exact h.h2 r j

theorem v136 (j : Fin 1024) : sl.v136 (F := Ideal) c a8 b8 x7 (ix2 0 j)
    = ((d.gg j : ℝ) : EReal) := by
  unfold sl.v136
  simp (disch := decide) only [View.readAt_eq_ld, Memref.IsWhole.read_unread, View.ld_unit_lit']
  pointwise []
  exact h.h7 j

theorem v138 (r : Fin 256) (j : Fin 1024) : sl.v138 (F := Ideal) c a3 b3 a8 b8 x2 x7 (ix2 r j)
    = ((d.dn (R + r) j : ℝ) : EReal) := by
  pointwise [sl.v138, sl.v137]
  simp only [v127 c b1 b2 b3 b4 b5 b6 b7 b8 h, v136 c b1 b2 b3 b4 b5 b6 b7 b8 h, ← EReal.coe_mul, ← EReal.coe_add, ← EReal.coe_sub, sum_real]
  rfl

theorem v148 (r : Fin 256) (j : Fin 1024) : sl.v148 (F := Ideal) c a1 b1 a2 b2 a3 b3 a4 b4 a5 b5 a7 b7 a8 b8 x0 x1 x2 x3 x4 x6 x7 (ix2 r j)
    = ((d.dg (R + r) j : ℝ) : EReal) := by
  pointwise [sl.v148, sl.v124, sl.v146, sl.v145, sl.v144, sl.v143, sl.v141, sl.v140, sl.v139, sl.v119, sl.cst_76]
  simp only [v123 c b1 b2 b3 b4 b5 b6 b7 b8 h, v138 c b1 b2 b3 b4 b5 b6 b7 b8 h, v125 c b1 b2 b3 b4 b5 b6 b7 b8 h, ← EReal.coe_mul, ← EReal.coe_add, ← EReal.coe_sub, sum_real, w_1024, div_1024]
  rfl

theorem v149 (r : Fin 256) (j : Fin 1024) : sl.v149 (F := Ideal) c a1 b1 a2 b2 a3 b3 a4 b4 a5 b5 a7 b7 a8 b8 x0 x1 x2 x3 x4 x6 x7 (ix2 r j)
    = ((d.du (R + r) j : ℝ) : EReal) := by
  pointwise [sl.v149]
  simp only [v148 c b1 b2 b3 b4 b5 b6 b7 b8 h, v114 c b1 b2 b3 b4 b5 b6 b7 b8 h, ← EReal.coe_mul, ← EReal.coe_add, ← EReal.coe_sub, sum_real]
  rfl

theorem v150 (r : Fin 256) (j : Fin 1024) : sl.v150 (F := Ideal) c a1 b1 a2 b2 a3 b3 a4 b4 a5 b5 a7 b7 a8 b8 x0 x1 x2 x3 x4 x6 x7 (ix2 r j)
    = ((d.dx (R + r) j : ℝ) : EReal) := by
  pointwise [sl.v150]
  simp only [v148 c b1 b2 b3 b4 b5 b6 b7 b8 h, r_4 c b1 b2 b3 b4 b5 b6 b7 b8 h, ← EReal.coe_mul, ← EReal.coe_add, ← EReal.coe_sub, sum_real]
  rfl

theorem v151 (r : Fin 256) (j : Fin 1024) : sl.v151 (F := Ideal) c a1 b1 a2 b2 a3 b3 a4 b4 a5 b5 a7 b7 a8 b8 x0 x1 x2 x3 x4 x6 x7 (ix2 r j)
    = ((d.dx (R + r) j : ℝ) : EReal) := by
  pointwise [sl.v151]
  simp only [v150 c b1 b2 b3 b4 b5 b6 b7 b8 h, ← EReal.coe_mul, ← EReal.coe_add, ← EReal.coe_sub, sum_real]

theorem v168 (p q : Fin 128) : sl.v168 (F := Ideal) c a6 b6 x5 (ix2 p q)
    = ((d.ws 0 q p : ℝ) : EReal) := by
  unfold sl.v168
  simp (disch := decide) only [View.readAt_eq_ld, Memref.IsWhole.read_unread]
  pointwise []
  exact h.h5 0 p q

theorem v170 (p j : Fin 128) (J : ℕ) (hJ : J = 0 + j) : sl.v170 (F := Ideal) c a1 b1 a2 b2 a3 b3 a4 b4 a5 b5 a6 b6 a7 b7 a8 b8 x0 x1 x2 x3 x4 x5 x6 x7 (ix2 p j)
    = ((dp d R 0 p J : ℝ) : EReal) := by
  have hg : J / 128 = 0 := by omega
  pointwise [sl.v170, sl.v160, sl.cst_21]
  simp only [v168 c b1 b2 b3 b4 b5 b6 b7 b8 h, v151 c b1 b2 b3 b4 b5 b6 b7 b8 h, ← EReal.coe_mul, ← EReal.coe_add, ← EReal.coe_sub, sum_real]
  simp only [dp, hg]
  subst hJ
  first | (simp only [Nat.zero_add]; done) | rfl

theorem v281 (p j : Fin 128) (J : ℕ) (hJ : J = 0 + j) : sl.v281 (F := Ideal) c a1 b1 a2 b2 a3 b3 a4 b4 a5 b5 a6 b6 a7 b7 a8 b8 x0 x1 x2 x3 x4 x5 x6 x7 (ix2 p j)
    = ((dp d R 128 p J : ℝ) : EReal) := by
  have hg : J / 128 = 0 := by omega
  pointwise [sl.v281, sl.v271, sl.cst_21]
  simp only [v168 c b1 b2 b3 b4 b5 b6 b7 b8 h, v151 c b1 b2 b3 b4 b5 b6 b7 b8 h, ← EReal.coe_mul, ← EReal.coe_add, ← EReal.coe_sub, sum_real]
  simp only [dp, hg]
  subst hJ
  first | (simp only [Nat.zero_add]; done) | rfl

theorem v181 (p q : Fin 128) : sl.v181 (F := Ideal) c a6 b6 x5 (ix2 p q)
    = ((d.ws 1 q p : ℝ) : EReal) := by
  unfold sl.v181
  simp (disch := decide) only [View.readAt_eq_ld, Memref.IsWhole.read_unread]
  pointwise []
  exact h.h5 1 p q

theorem v183 (p j : Fin 128) (J : ℕ) (hJ : J = 128 + j) : sl.v183 (F := Ideal) c a1 b1 a2 b2 a3 b3 a4 b4 a5 b5 a6 b6 a7 b7 a8 b8 x0 x1 x2 x3 x4 x5 x6 x7 (ix2 p j)
    = ((dp d R 0 p J : ℝ) : EReal) := by
  have hg : J / 128 = 1 := by omega
  pointwise [sl.v183, sl.v173, sl.cst_21]
  simp only [v181 c b1 b2 b3 b4 b5 b6 b7 b8 h, v151 c b1 b2 b3 b4 b5 b6 b7 b8 h, ← EReal.coe_mul, ← EReal.coe_add, ← EReal.coe_sub, sum_real]
  simp only [dp, hg]
  subst hJ
  first | (simp only [Nat.zero_add]; done) | rfl

theorem v294 (p j : Fin 128) (J : ℕ) (hJ : J = 128 + j) : sl.v294 (F := Ideal) c a1 b1 a2 b2 a3 b3 a4 b4 a5 b5 a6 b6 a7 b7 a8 b8 x0 x1 x2 x3 x4 x5 x6 x7 (ix2 p j)
    = ((dp d R 128 p J : ℝ) : EReal) := by
  have hg : J / 128 = 1 := by omega
  pointwise [sl.v294, sl.v284, sl.cst_21]
  simp only [v181 c b1 b2 b3 b4 b5 b6 b7 b8 h, v151 c b1 b2 b3 b4 b5 b6 b7 b8 h, ← EReal.coe_mul, ← EReal.coe_add, ← EReal.coe_sub, sum_real]
  simp only [dp, hg]
  subst hJ
  first | (simp only [Nat.zero_add]; done) | rfl

theorem v194 (p q : Fin 128) : sl.v194 (F := Ideal) c a6 b6 x5 (ix2 p q)
    = ((d.ws 2 q p : ℝ) : EReal) := by
  unfold sl.v194
  simp (disch := decide) only [View.readAt_eq_ld, Memref.IsWhole.read_unread]
  pointwise []
  exact h.h5 2 p q

theorem v196 (p j : Fin 128) (J : ℕ) (hJ : J = 256 + j) : sl.v196 (F := Ideal) c a1 b1 a2 b2 a3 b3 a4 b4 a5 b5 a6 b6 a7 b7 a8 b8 x0 x1 x2 x3 x4 x5 x6 x7 (ix2 p j)
    = ((dp d R 0 p J : ℝ) : EReal) := by
  have hg : J / 128 = 2 := by omega
  pointwise [sl.v196, sl.v186, sl.cst_21]
  simp only [v194 c b1 b2 b3 b4 b5 b6 b7 b8 h, v151 c b1 b2 b3 b4 b5 b6 b7 b8 h, ← EReal.coe_mul, ← EReal.coe_add, ← EReal.coe_sub, sum_real]
  simp only [dp, hg]
  subst hJ
  first | (simp only [Nat.zero_add]; done) | rfl

theorem v307 (p j : Fin 128) (J : ℕ) (hJ : J = 256 + j) : sl.v307 (F := Ideal) c a1 b1 a2 b2 a3 b3 a4 b4 a5 b5 a6 b6 a7 b7 a8 b8 x0 x1 x2 x3 x4 x5 x6 x7 (ix2 p j)
    = ((dp d R 128 p J : ℝ) : EReal) := by
  have hg : J / 128 = 2 := by omega
  pointwise [sl.v307, sl.v297, sl.cst_21]
  simp only [v194 c b1 b2 b3 b4 b5 b6 b7 b8 h, v151 c b1 b2 b3 b4 b5 b6 b7 b8 h, ← EReal.coe_mul, ← EReal.coe_add, ← EReal.coe_sub, sum_real]
  simp only [dp, hg]
  subst hJ
  first | (simp only [Nat.zero_add]; done) | rfl

theorem v207 (p q : Fin 128) : sl.v207 (F := Ideal) c a6 b6 x5 (ix2 p q)
    = ((d.ws 3 q p : ℝ) : EReal) := by
  unfold sl.v207
  simp (disch := decide) only [View.readAt_eq_ld, Memref.IsWhole.read_unread]
  pointwise []
  exact h.h5 3 p q

theorem v209 (p j : Fin 128) (J : ℕ) (hJ : J = 384 + j) : sl.v209 (F := Ideal) c a1 b1 a2 b2 a3 b3 a4 b4 a5 b5 a6 b6 a7 b7 a8 b8 x0 x1 x2 x3 x4 x5 x6 x7 (ix2 p j)
    = ((dp d R 0 p J : ℝ) : EReal) := by
  have hg : J / 128 = 3 := by omega
  pointwise [sl.v209, sl.v199, sl.cst_21]
  simp only [v207 c b1 b2 b3 b4 b5 b6 b7 b8 h, v151 c b1 b2 b3 b4 b5 b6 b7 b8 h, ← EReal.coe_mul, ← EReal.coe_add, ← EReal.coe_sub, sum_real]
  simp only [dp, hg]
  subst hJ
  first | (simp only [Nat.zero_add]; done) | rfl

theorem v320 (p j : Fin 128) (J : ℕ) (hJ : J = 384 + j) : sl.v320 (F := Ideal) c a1 b1 a2 b2 a3 b3 a4 b4 a5 b5 a6 b6 a7 b7 a8 b8 x0 x1 x2 x3 x4 x5 x6 x7 (ix2 p j)
    = ((dp d R 128 p J : ℝ) : EReal) := by
  have hg : J / 128 = 3 := by omega
  pointwise [sl.v320, sl.v310, sl.cst_21]
  simp only [v207 c b1 b2 b3 b4 b5 b6 b7 b8 h, v151 c b1 b2 b3 b4 b5 b6 b7 b8 h, ← EReal.coe_mul, ← EReal.coe_add, ← EReal.coe_sub, sum_real]
  simp only [dp, hg]
  subst hJ
  first | (simp only [Nat.zero_add]; done) | rfl

theorem v220 (p q : Fin 128) : sl.v220 (F := Ideal) c a6 b6 x5 (ix2 p q)
    = ((d.ws 4 q p : ℝ) : EReal) := by
  unfold sl.v220
  simp (disch := decide) only [View.readAt_eq_ld, Memref.IsWhole.read_unread]
  pointwise []
  exact h.h5 4 p q

theorem v222 (p j : Fin 128) (J : ℕ) (hJ : J = 512 + j) : sl.v222 (F := Ideal) c a1 b1 a2 b2 a3 b3 a4 b4 a5 b5 a6 b6 a7 b7 a8 b8 x0 x1 x2 x3 x4 x5 x6 x7 (ix2 p j)
    = ((dp d R 0 p J : ℝ) : EReal) := by
  have hg : J / 128 = 4 := by omega
  pointwise [sl.v222, sl.v212, sl.cst_21]
  simp only [v220 c b1 b2 b3 b4 b5 b6 b7 b8 h, v151 c b1 b2 b3 b4 b5 b6 b7 b8 h, ← EReal.coe_mul, ← EReal.coe_add, ← EReal.coe_sub, sum_real]
  simp only [dp, hg]
  subst hJ
  first | (simp only [Nat.zero_add]; done) | rfl

theorem v333 (p j : Fin 128) (J : ℕ) (hJ : J = 512 + j) : sl.v333 (F := Ideal) c a1 b1 a2 b2 a3 b3 a4 b4 a5 b5 a6 b6 a7 b7 a8 b8 x0 x1 x2 x3 x4 x5 x6 x7 (ix2 p j)
    = ((dp d R 128 p J : ℝ) : EReal) := by
  have hg : J / 128 = 4 := by omega
  pointwise [sl.v333, sl.v323, sl.cst_21]
  simp only [v220 c b1 b2 b3 b4 b5 b6 b7 b8 h, v151 c b1 b2 b3 b4 b5 b6 b7 b8 h, ← EReal.coe_mul, ← EReal.coe_add, ← EReal.coe_sub, sum_real]
  simp only [dp, hg]
  subst hJ
  first | (simp only [Nat.zero_add]; done) | rfl

theorem v233 (p q : Fin 128) : sl.v233 (F := Ideal) c a6 b6 x5 (ix2 p q)
    = ((d.ws 5 q p : ℝ) : EReal) := by
  unfold sl.v233
  simp (disch := decide) only [View.readAt_eq_ld, Memref.IsWhole.read_unread]
  pointwise []
  exact h.h5 5 p q

theorem v235 (p j : Fin 128) (J : ℕ) (hJ : J = 640 + j) : sl.v235 (F := Ideal) c a1 b1 a2 b2 a3 b3 a4 b4 a5 b5 a6 b6 a7 b7 a8 b8 x0 x1 x2 x3 x4 x5 x6 x7 (ix2 p j)
    = ((dp d R 0 p J : ℝ) : EReal) := by
  have hg : J / 128 = 5 := by omega
  pointwise [sl.v235, sl.v225, sl.cst_21]
  simp only [v233 c b1 b2 b3 b4 b5 b6 b7 b8 h, v151 c b1 b2 b3 b4 b5 b6 b7 b8 h, ← EReal.coe_mul, ← EReal.coe_add, ← EReal.coe_sub, sum_real]
  simp only [dp, hg]
  subst hJ
  first | (simp only [Nat.zero_add]; done) | rfl

theorem v346 (p j : Fin 128) (J : ℕ) (hJ : J = 640 + j) : sl.v346 (F := Ideal) c a1 b1 a2 b2 a3 b3 a4 b4 a5 b5 a6 b6 a7 b7 a8 b8 x0 x1 x2 x3 x4 x5 x6 x7 (ix2 p j)
    = ((dp d R 128 p J : ℝ) : EReal) := by
  have hg : J / 128 = 5 := by omega
  pointwise [sl.v346, sl.v336, sl.cst_21]
  simp only [v233 c b1 b2 b3 b4 b5 b6 b7 b8 h, v151 c b1 b2 b3 b4 b5 b6 b7 b8 h, ← EReal.coe_mul, ← EReal.coe_add, ← EReal.coe_sub, sum_real]
  simp only [dp, hg]
  subst hJ
  first | (simp only [Nat.zero_add]; done) | rfl

theorem v246 (p q : Fin 128) : sl.v246 (F := Ideal) c a6 b6 x5 (ix2 p q)
    = ((d.ws 6 q p : ℝ) : EReal) := by
  unfold sl.v246
  simp (disch := decide) only [View.readAt_eq_ld, Memref.IsWhole.read_unread]
  pointwise []
  exact h.h5 6 p q

theorem v248 (p j : Fin 128) (J : ℕ) (hJ : J = 768 + j) : sl.v248 (F := Ideal) c a1 b1 a2 b2 a3 b3 a4 b4 a5 b5 a6 b6 a7 b7 a8 b8 x0 x1 x2 x3 x4 x5 x6 x7 (ix2 p j)
    = ((dp d R 0 p J : ℝ) : EReal) := by
  have hg : J / 128 = 6 := by omega
  pointwise [sl.v248, sl.v238, sl.cst_21]
  simp only [v246 c b1 b2 b3 b4 b5 b6 b7 b8 h, v151 c b1 b2 b3 b4 b5 b6 b7 b8 h, ← EReal.coe_mul, ← EReal.coe_add, ← EReal.coe_sub, sum_real]
  simp only [dp, hg]
  subst hJ
  first | (simp only [Nat.zero_add]; done) | rfl

theorem v359 (p j : Fin 128) (J : ℕ) (hJ : J = 768 + j) : sl.v359 (F := Ideal) c a1 b1 a2 b2 a3 b3 a4 b4 a5 b5 a6 b6 a7 b7 a8 b8 x0 x1 x2 x3 x4 x5 x6 x7 (ix2 p j)
    = ((dp d R 128 p J : ℝ) : EReal) := by
  have hg : J / 128 = 6 := by omega
  pointwise [sl.v359, sl.v349, sl.cst_21]
  simp only [v246 c b1 b2 b3 b4 b5 b6 b7 b8 h, v151 c b1 b2 b3 b4 b5 b6 b7 b8 h, ← EReal.coe_mul, ← EReal.coe_add, ← EReal.coe_sub, sum_real]
  simp only [dp, hg]
  subst hJ
  first | (simp only [Nat.zero_add]; done) | rfl

theorem v259 (p q : Fin 128) : sl.v259 (F := Ideal) c a6 b6 x5 (ix2 p q)
    = ((d.ws 7 q p : ℝ) : EReal) := by
  unfold sl.v259
  simp (disch := decide) only [View.readAt_eq_ld, Memref.IsWhole.read_unread]
  pointwise []
  exact h.h5 7 p q

theorem v261 (p j : Fin 128) (J : ℕ) (hJ : J = 896 + j) : sl.v261 (F := Ideal) c a1 b1 a2 b2 a3 b3 a4 b4 a5 b5 a6 b6 a7 b7 a8 b8 x0 x1 x2 x3 x4 x5 x6 x7 (ix2 p j)
    = ((dp d R 0 p J : ℝ) : EReal) := by
  have hg : J / 128 = 7 := by omega
  pointwise [sl.v261, sl.v251, sl.cst_21]
  simp only [v259 c b1 b2 b3 b4 b5 b6 b7 b8 h, v151 c b1 b2 b3 b4 b5 b6 b7 b8 h, ← EReal.coe_mul, ← EReal.coe_add, ← EReal.coe_sub, sum_real]
  simp only [dp, hg]
  subst hJ
  first | (simp only [Nat.zero_add]; done) | rfl

theorem v262 (p : Fin 128) (j : Fin 1024) : sl.v262 (F := Ideal) c a1 b1 a2 b2 a3 b3 a4 b4 a5 b5 a6 b6 a7 b7 a8 b8 x0 x1 x2 x3 x4 x5 x6 x7 (ix2 p j)
    = ((dp d R 0 p j : ℝ) : EReal) := by
  pointwise [sl.v262]
  by_cases h0 : (j : ℕ) < 128
  · rw [dif_pos h0]
    exact v170 c b1 b2 b3 b4 b5 b6 b7 b8 h p ⟨(j : ℕ), by omega⟩ ↑j (by dsimp only; omega)
  rw [dif_neg h0]
  by_cases h1 : (j : ℕ) - 128 < 128
  · rw [dif_pos h1]
    exact v183 c b1 b2 b3 b4 b5 b6 b7 b8 h p ⟨(j : ℕ) - 128, by omega⟩ ↑j (by dsimp only; omega)
  rw [dif_neg h1]
  by_cases h2 : (j : ℕ) - 128 - 128 < 128
  · rw [dif_pos h2]
    exact v196 c b1 b2 b3 b4 b5 b6 b7 b8 h p ⟨(j : ℕ) - 128 - 128, by omega⟩ ↑j (by dsimp only; omega)
  rw [dif_neg h2]
  by_cases h3 : (j : ℕ) - 128 - 128 - 128 < 128
  · rw [dif_pos h3]
    exact v209 c b1 b2 b3 b4 b5 b6 b7 b8 h p ⟨(j : ℕ) - 128 - 128 - 128, by omega⟩ ↑j (by dsimp only; omega)
  rw [dif_neg h3]
  by_cases h4 : (j : ℕ) - 128 - 128 - 128 - 128 < 128
  · rw [dif_pos h4]
    exact v222 c b1 b2 b3 b4 b5 b6 b7 b8 h p ⟨(j : ℕ) - 128 - 128 - 128 - 128, by omega⟩ ↑j (by dsimp only; omega)
  rw [dif_neg h4]
  by_cases h5 : (j : ℕ) - 128 - 128 - 128 - 128 - 128 < 128
  · rw [dif_pos h5]
    exact v235 c b1 b2 b3 b4 b5 b6 b7 b8 h p ⟨(j : ℕ) - 128 - 128 - 128 - 128 - 128, by omega⟩ ↑j (by dsimp only; omega)
  rw [dif_neg h5]
  by_cases h6 : (j : ℕ) - 128 - 128 - 128 - 128 - 128 - 128 < 128
  · rw [dif_pos h6]
    exact v248 c b1 b2 b3 b4 b5 b6 b7 b8 h p ⟨(j : ℕ) - 128 - 128 - 128 - 128 - 128 - 128, by omega⟩ ↑j (by dsimp only; omega)
  rw [dif_neg h6]
  exact v261 c b1 b2 b3 b4 b5 b6 b7 b8 h p ⟨(j : ℕ) - 128 - 128 - 128 - 128 - 128 - 128 - 128, by omega⟩ ↑j (by dsimp only; omega)

theorem v372 (x369 : FVec Ideal S1x128x128 .bf16) (hx : ∀ p q : Fin 128, x369 (ix3 0 p q) = ((d.ws 7 q p : ℝ) : EReal)) (p j : Fin 128) (J : ℕ) (hJ : J = 896 + j) : matmul (F := Ideal) dot_S128x128_S128x128_S128x128_1_0_0_1_n_n none (shapeCast S128x128 x369 shapeCasts_S1x128x128_S128x128) (extractStridedSlice S128x128 ![128, 896] (sl.v151 (F := Ideal) c a1 b1 a2 b2 a3 b3 a4 b4 a5 b5 a7 b7 a8 b8 x0 x1 x2 x3 x4 x6 x7) slices_S256x1024_o128_896_S128x128) (constant S128x128 .f32 0x00000000#32) (ix2 p j)
    = ((dp d R 128 p J : ℝ) : EReal) := by
  have hg : J / 128 = 7 := by omega
  pointwise []
  simp only [hx, v151 c b1 b2 b3 b4 b5 b6 b7 b8 h, ← EReal.coe_mul, sum_real]
  simp only [dp, hg]
  subst hJ
  rfl

theorem v373 (x369 : FVec Ideal S1x128x128 .bf16) (hx : ∀ p q : Fin 128, x369 (ix3 0 p q) = ((d.ws 7 q p : ℝ) : EReal)) (p : Fin 128) (j : Fin 1024) : concatenate S128x1024 1 [⟨S128x128, sl.v281 (F := Ideal) c a1 b1 a2 b2 a3 b3 a4 b4 a5 b5 a6 b6 a7 b7 a8 b8 x0 x1 x2 x3 x4 x5 x6 x7⟩, ⟨S128x128, sl.v294 (F := Ideal) c a1 b1 a2 b2 a3 b3 a4 b4 a5 b5 a6 b6 a7 b7 a8 b8 x0 x1 x2 x3 x4 x5 x6 x7⟩, ⟨S128x128, sl.v307 (F := Ideal) c a1 b1 a2 b2 a3 b3 a4 b4 a5 b5 a6 b6 a7 b7 a8 b8 x0 x1 x2 x3 x4 x5 x6 x7⟩, ⟨S128x128, sl.v320 (F := Ideal) c a1 b1 a2 b2 a3 b3 a4 b4 a5 b5 a6 b6 a7 b7 a8 b8 x0 x1 x2 x3 x4 x5 x6 x7⟩, ⟨S128x128, sl.v333 (F := Ideal) c a1 b1 a2 b2 a3 b3 a4 b4 a5 b5 a6 b6 a7 b7 a8 b8 x0 x1 x2 x3 x4 x5 x6 x7⟩, ⟨S128x128, sl.v346 (F := Ideal) c a1 b1 a2 b2 a3 b3 a4 b4 a5 b5 a6 b6 a7 b7 a8 b8 x0 x1 x2 x3 x4 x5 x6 x7⟩, ⟨S128x128, sl.v359 (F := Ideal) c a1 b1 a2 b2 a3 b3 a4 b4 a5 b5 a6 b6 a7 b7 a8 b8 x0 x1 x2 x3 x4 x5 x6 x7⟩, ⟨S128x128, matmul (F := Ideal) dot_S128x128_S128x128_S128x128_1_0_0_1_n_n none (shapeCast S128x128 x369 shapeCasts_S1x128x128_S128x128) (extractStridedSlice S128x128 ![128, 896] (sl.v151 (F := Ideal) c a1 b1 a2 b2 a3 b3 a4 b4 a5 b5 a7 b7 a8 b8 x0 x1 x2 x3 x4 x6 x7) slices_S256x1024_o128_896_S128x128) (constant S128x128 .f32 0x00000000#32)⟩] concatenates_S128x128_S128x128_S128x128_S128x128_S128x128_S128x128_S128x128_S128x128_S128x1024_d1 (ix2 p j)
    = ((dp d R 128 p j : ℝ) : EReal) := by
  generalize hM : matmul (F := Ideal) dot_S128x128_S128x128_S128x128_1_0_0_1_n_n none (shapeCast S128x128 x369 shapeCasts_S1x128x128_S128x128) (extractStridedSlice S128x128 ![128, 896] (sl.v151 (F := Ideal) c a1 b1 a2 b2 a3 b3 a4 b4 a5 b5 a7 b7 a8 b8 x0 x1 x2 x3 x4 x6 x7) slices_S256x1024_o128_896_S128x128) (constant S128x128 .f32 0x00000000#32) = M
  pointwise []
  by_cases h0 : (j : ℕ) < 128
  · rw [dif_pos h0]
    exact v281 c b1 b2 b3 b4 b5 b6 b7 b8 h p ⟨(j : ℕ), by omega⟩ ↑j (by dsimp only; omega)
  rw [dif_neg h0]
  by_cases h1 : (j : ℕ) - 128 < 128
  · rw [dif_pos h1]
    exact v294 c b1 b2 b3 b4 b5 b6 b7 b8 h p ⟨(j : ℕ) - 128, by omega⟩ ↑j (by dsimp only; omega)
  rw [dif_neg h1]
  by_cases h2 : (j : ℕ) - 128 - 128 < 128
  · rw [dif_pos h2]
    exact v307 c b1 b2 b3 b4 b5 b6 b7 b8 h p ⟨(j : ℕ) - 128 - 128, by omega⟩ ↑j (by dsimp only; omega)
  rw [dif_neg h2]
  by_cases h3 : (j : ℕ) - 128 - 128 - 128 < 128
  · rw [dif_pos h3]
    exact v320 c b1 b2 b3 b4 b5 b6 b7 b8 h p ⟨(j : ℕ) - 128 - 128 - 128, by omega⟩ ↑j (by dsimp only; omega)
  rw [dif_neg h3]
  by_cases h4 : (j : ℕ) - 128 - 128 - 128 - 128 < 128
  · rw [dif_pos h4]
    exact v333 c b1 b2 b3 b4 b5 b6 b7 b8 h p ⟨(j : ℕ) - 128 - 128 - 128 - 128, by omega⟩ ↑j (by dsimp only; omega)
  rw [dif_neg h4]
  by_cases h5 : (j : ℕ) - 128 - 128 - 128 - 128 - 128 < 128
  · rw [dif_pos h5]
    exact v346 c b1 b2 b3 b4 b5 b6 b7 b8 h p ⟨(j : ℕ) - 128 - 128 - 128 - 128 - 128, by omega⟩ ↑j (by dsimp only; omega)
  rw [dif_neg h5]
  by_cases h6 : (j : ℕ) - 128 - 128 - 128 - 128 - 128 - 128 < 128
  · rw [dif_pos h6]
    exact v359 c b1 b2 b3 b4 b5 b6 b7 b8 h p ⟨(j : ℕ) - 128 - 128 - 128 - 128 - 128 - 128, by omega⟩ ↑j (by dsimp only; omega)
  rw [dif_neg h6]
  rw [← hM]
  exact v372 c b1 b2 b3 b4 b5 b6 b7 b8 h x369 hx p ⟨(j : ℕ) - 128 - 128 - 128 - 128 - 128 - 128 - 128, by omega⟩ ↑j (by dsimp only; omega)

theorem v374 (x369 : FVec Ideal S1x128x128 .bf16) (hx : ∀ p q : Fin 128, x369 (ix3 0 p q) = ((d.ws 7 q p : ℝ) : EReal)) (r : Fin 256) (j : Fin 1024) : k0_pay89 (F := Ideal) (sl.v151 (F := Ideal) c a1 b1 a2 b2 a3 b3 a4 b4 a5 b5 a7 b7 a8 b8 x0 x1 x2 x3 x4 x6 x7) (sl.v262 (F := Ideal) c a1 b1 a2 b2 a3 b3 a4 b4 a5 b5 a6 b6 a7 b7 a8 b8 x0 x1 x2 x3 x4 x5 x6 x7) (sl.v281 (F := Ideal) c a1 b1 a2 b2 a3 b3 a4 b4 a5 b5 a6 b6 a7 b7 a8 b8 x0 x1 x2 x3 x4 x5 x6 x7) (sl.v294 (F := Ideal) c a1 b1 a2 b2 a3 b3 a4 b4 a5 b5 a6 b6 a7 b7 a8 b8 x0 x1 x2 x3 x4 x5 x6 x7) (sl.v307 (F := Ideal) c a1 b1 a2 b2 a3 b3 a4 b4 a5 b5 a6 b6 a7 b7 a8 b8 x0 x1 x2 x3 x4 x5 x6 x7) (sl.v320 (F := Ideal) c a1 b1 a2 b2 a3 b3 a4 b4 a5 b5 a6 b6 a7 b7 a8 b8 x0 x1 x2 x3 x4 x5 x6 x7) (sl.v333 (F := Ideal) c a1 b1 a2 b2 a3 b3 a4 b4 a5 b5 a6 b6 a7 b7 a8 b8 x0 x1 x2 x3 x4 x5 x6 x7) (sl.v346 (F := Ideal) c a1 b1 a2 b2 a3 b3 a4 b4 a5 b5 a6 b6 a7 b7 a8 b8 x0 x1 x2 x3 x4 x5 x6 x7) (sl.v359 (F := Ideal) c a1 b1 a2 b2 a3 b3 a4 b4 a5 b5 a6 b6 a7 b7 a8 b8 x0 x1 x2 x3 x4 x5 x6 x7) x369 (ix2 r j)
    = ((d.dl (R + r) j : ℝ) : EReal) := by
  have key : ∀ M : FVec Ideal S128x1024 .f32, (∀ (p : Fin 128) (j : Fin 1024), M (ix2 p j) = ((dp d R 128 p j : ℝ) : EReal)) →
      concatenate S256x1024 0 [⟨S128x1024, sl.v262 (F := Ideal) c a1 b1 a2 b2 a3 b3 a4 b4 a5 b5 a6 b6 a7 b7 a8 b8 x0 x1 x2 x3 x4 x5 x6 x7⟩, ⟨S128x1024, M⟩] concatenates_S128x1024_S128x1024_S256x1024_d0 (ix2 r j) = ((d.dl (R + r) j : ℝ) : EReal) := by
    intro M e
    pointwise []
    by_cases h0 : (r : ℕ) < 128
    · rw [dif_pos h0]
      have e1 := v262 c b1 b2 b3 b4 b5 b6 b7 b8 h ⟨r, h0⟩ j
      rw [← dl_at d R h.hR 0 r j rfl h0, Nat.zero_add] at e1
      exact e1
    · rw [dif_neg h0]
      have e1 := e ⟨(r : ℕ) - 128, by omega⟩ j
      rw [← dl_at d R h.hR 128 ((r : ℕ) - 128) j rfl (by omega), show 128 + ((r : ℕ) - 128) = r by omega] at e1
      exact e1
  exact key _ (v373 c b1 b2 b3 b4 b5 b6 b7 b8 h x369 hx)

theorem ld7 (p q : Fin 128) : (View.readAt (Elt Ideal) a6.view (Rect.unit (s := S8x128x128) ![7, 0, 0] S1x128x128.size inb_S8x128x128_S1x128x128_7_0_0).toLoadRect (b6.unread x5)) (ix3 0 p q) = ((d.ws 7 q p : ℝ) : EReal) := by
  simp (disch := decide) only [View.readAt_eq_ld, Memref.IsWhole.read_unread]
  pointwise []
  exact h.h5 7 p q

theorem r_7 (r : Fin 256) (j : Fin 1024) : sl.r_7 (F := Ideal) c a1 b1 a2 b2 a3 b3 a4 b4 a5 b5 a6 b6 a7 b7 a8 b8 x0 x1 x2 x3 x4 x5 x6 x7 (ix2 r j)
    = ((d.dv (R + r) j : ℝ) : EReal) := by
  unfold sl.r_7
  have hx := ld7 c b1 b2 b3 b4 b5 b6 b7 b8 h
  generalize (View.readAt (Elt Ideal) a6.view (Rect.unit (s := S8x128x128) ![7, 0, 0] S1x128x128.size inb_S8x128x128_S1x128x128_7_0_0).toLoadRect (b6.unread x5)) = x369 at hx ⊢
  pointwise [k0_pay91]
  simp only [v374 c b1 b2 b3 b4 b5 b6 b7 b8 h x369 hx, r_2 c b1 b2 b3 b4 b5 b6 b7 b8 h, v40 c b1 b2 b3 b4 b5 b6 b7 b8 h, v42 c b1 b2 b3 b4 b5 b6 b7 b8 h, w_1024, div_1024, ← EReal.coe_mul, ← EReal.coe_add, ← EReal.coe_sub, sum_real]
  rfl

theorem r_8 (r : Fin 256) (j : Fin 1024) : sl.r_8 (F := Ideal) c a1 b1 x0 (ix2 r j)
    = ((erfR (d.u (R + r) j * s2) : ℝ) : EReal) := by
  unfold sl.r_8
  pointwise [k0_pay92]
  simp only [r_0 c b1 b2 b3 b4 b5 b6 b7 b8 h, k_s2, ← EReal.coe_mul, Ideal.erf_def, erf_real]

theorem outU (r : Fin 256) (j : Fin 1024) : k0_pay94 (F := Ideal) (sl.r (F := Ideal) c a1 b1 x0) (sl.v149 (F := Ideal) c a1 b1 a2 b2 a3 b3 a4 b4 a5 b5 a7 b7 a8 b8 x0 x1 x2 x3 x4 x6 x7) (sl.r_8 (F := Ideal) c a1 b1 x0) (k0_pay93 (F := Ideal)) (ix2 r j)
    = ((d.Du (R + r) j : ℝ) : EReal) := by
  pointwise [k0_pay94, k0_pay93]
  simp only [r_0 c b1 b2 b3 b4 b5 b6 b7 b8 h, v149 c b1 b2 b3 b4 b5 b6 b7 b8 h, r_8 c b1 b2 b3 b4 b5 b6 b7 b8 h, w_half, w_nhalf, w_one, k_s2, k_s2p, ← EReal.coe_mul, ← EReal.coe_add, Ideal.exp_def, Ideal.exp_coe, Ideal.erf_def, erf_real, ← EReal.coe_one]
  rfl

theorem outV (r : Fin 256) (j : Fin 1024) : k0_pay95 (F := Ideal) (sl.r_1 (F := Ideal) c a2 b2 x1) (sl.r_7 (F := Ideal) c a1 b1 a2 b2 a3 b3 a4 b4 a5 b5 a6 b6 a7 b7 a8 b8 x0 x1 x2 x3 x4 x5 x6 x7) (ix2 r j)
    = ((d.Dv (R + r) j : ℝ) : EReal) := by
  pointwise [k0_pay95]
  simp only [r_1 c b1 b2 b3 b4 b5 b6 b7 b8 h, r_7 c b1 b2 b3 b4 b5 b6 b7 b8 h, w_half, w_nhalf, w_one, k_s2, k_s2p, ← EReal.coe_mul, ← EReal.coe_add, Ideal.exp_def, Ideal.exp_coe, Ideal.erf_def, erf_real, ← EReal.coe_one]
  rfl

end Cert.Gm.C

end
-- ==== Proof.Gm.AccC.lean ====
module

public import proofs.«01_k».proof.Proof.Gm.WordsC
public import Idealize.ShloMosaic.Lib.Pipeline.ReadBack
public import proofs.«01_k».proof.Proof.Gen.KernelIdeal.Frame
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Gm.C

open Cert.KernelIdeal Cert.KernelIdeal.Gen Cert.Gm.K Cert.KernelIdeal.Gen.kernelRun0_C

variable (c : Dev nD) (d : D) (R : ℕ)
  (a1 : Memref sig .tc .vmem S256x1024 .bf16) (b1 : a1.IsWhole) (a2 : Memref sig .tc .vmem S256x1024 .bf16) (b2 : a2.IsWhole)
  (a3 : Memref sig .tc .vmem S256x1024 .bf16) (b3 : a3.IsWhole) (a4 : Memref sig .tc .vmem S1x1024 .f32) (b4 : a4.IsWhole)
  (a5 : Memref sig .tc .vmem S8x128x128 .bf16) (b5 : a5.IsWhole) (a6 : Memref sig .tc .vmem S8x128x128 .bf16) (b6 : a6.IsWhole)
  (a7 : Memref sig .tc .vmem S128x1024 .f32) (b7 : a7.IsWhole) (a8 : Memref sig .tc .vmem S1x1024 .f32) (b8 : a8.IsWhole)
  (x0 x1 x2 : FVec Ideal S256x1024 .bf16) (x3 : FVec Ideal S1x1024 .f32) (x4 x5 : FVec Ideal S8x128x128 .bf16)
  (x6 : FVec Ideal S128x1024 .f32) (x7 : FVec Ideal S1x1024 .f32) (h : In d R x0 x1 x2 x3 x4 x5 x6 x7)

variable (a9 : Memref sig .tc .vmem S256x2048 .bf16) (b9 : a9.IsWhole) (a10 : Memref sig .tc .vmem S1x1024 .f32) (b10 : a10.IsWhole)
  (a11 : Memref sig .tc .vmem S8x128x128 .f32) (b11 : a11.IsWhole) (a12 : Memref sig .tc .vmem S8x128 .f32) (b12 : a12.IsWhole)
  (a13 : Memref sig .tc .vmem S1x1024 .f32) (b13 : a13.IsWhole) (a14 : Memref sig .tc .vmem S128x1024 .f32) (b14 : a14.IsWhole)
  (xo9 : FVec Ideal S1x1024 .f32) (xo10 : FVec Ideal S8x128x128 .f32) (xo12 : FVec Ideal S1x1024 .f32) (xs0 : FVec Ideal S128x1024 .f32)

include c d R b1 b2 b3 b4 b5 b6 b7 b8 h b9 b10 b11 b12 b13 b14 xo9 xo10 xo12 xs0

theorem dgg (j : Fin 1024) : sl.v133 (F := Ideal) c a1 b1 a2 b2 a3 b3 a4 b4 a5 b5 a7 b7 a13 b13 x0 x1 x2 x3 x4 x6 xo12 (ix2 0 j) = xo12 (ix2 0 j) + ((∑ r : Fin 256, d.dm (R + r) j * d.gh (R + r) j : ℝ) : EReal) := by
  unfold sl.v133 sl.v129
  simp (disch := decide) only [View.readAt_eq_ld, Memref.IsWhole.read_unread, View.ld_unit_lit', View.readCov_unit_lit', View.readCov_cons_unit_lit']
  pointwise [sl.v132, sl.v131, sl.v130, sl.cst_82]
  simp only [v127 c b1 b2 b3 b4 b5 b6 b7 b8 h, v125 c b1 b2 b3 b4 b5 b6 b7 b8 h, ← EReal.coe_mul, ← EReal.coe_add, ← EReal.coe_sub, sum_real]

theorem dln (j : Fin 1024) : k0_pay90 (F := Ideal) (sl.v42 (F := Ideal) c a2 b2 x1) (sl.v151 (F := Ideal) c a1 b1 a2 b2 a3 b3 a4 b4 a5 b5 a7 b7 a8 b8 x0 x1 x2 x3 x4 x6 x7) (sl.v262 (F := Ideal) c a1 b1 a2 b2 a3 b3 a4 b4 a5 b5 a6 b6 a7 b7 a8 b8 x0 x1 x2 x3 x4 x5 x6 x7) (sl.v281 (F := Ideal) c a1 b1 a2 b2 a3 b3 a4 b4 a5 b5 a6 b6 a7 b7 a8 b8 x0 x1 x2 x3 x4 x5 x6 x7) (sl.v294 (F := Ideal) c a1 b1 a2 b2 a3 b3 a4 b4 a5 b5 a6 b6 a7 b7 a8 b8 x0 x1 x2 x3 x4 x5 x6 x7) (sl.v307 (F := Ideal) c a1 b1 a2 b2 a3 b3 a4 b4 a5 b5 a6 b6 a7 b7 a8 b8 x0 x1 x2 x3 x4 x5 x6 x7) (sl.v320 (F := Ideal) c a1 b1 a2 b2 a3 b3 a4 b4 a5 b5 a6 b6 a7 b7 a8 b8 x0 x1 x2 x3 x4 x5 x6 x7) (sl.v333 (F := Ideal) c a1 b1 a2 b2 a3 b3 a4 b4 a5 b5 a6 b6 a7 b7 a8 b8 x0 x1 x2 x3 x4 x5 x6 x7) (sl.v346 (F := Ideal) c a1 b1 a2 b2 a3 b3 a4 b4 a5 b5 a6 b6 a7 b7 a8 b8 x0 x1 x2 x3 x4 x5 x6 x7) (sl.v359 (F := Ideal) c a1 b1 a2 b2 a3 b3 a4 b4 a5 b5 a6 b6 a7 b7 a8 b8 x0 x1 x2 x3 x4 x5 x6 x7) (View.readAt (Elt Ideal) a6.view (Rect.unit (s := S8x128x128) ![7, 0, 0] S1x128x128.size inb_S8x128x128_S1x128x128_7_0_0).toLoadRect (b6.unread x5)) (View.readAt (Elt Ideal) a10.view (Rect.unit (s := S1x1024) ![0, 0] S1x1024.size inb_S1x1024_S1x1024_0_0).toLoadRect (b10.unread xo9)) (ix2 0 j) = xo9 (ix2 0 j) + ((∑ r : Fin 256, d.dl (R + r) j * d.vh (R + r) j : ℝ) : EReal) := by
  have hx := ld7 c b1 b2 b3 b4 b5 b6 b7 b8 h
  generalize (View.readAt (Elt Ideal) a6.view (Rect.unit (s := S8x128x128) ![7, 0, 0] S1x128x128.size inb_S8x128x128_S1x128x128_7_0_0).toLoadRect (b6.unread x5)) = x369 at hx ⊢

  simp (disch := decide) only [View.readAt_eq_ld, Memref.IsWhole.read_unread, View.ld_unit_lit', View.readCov_unit_lit', View.readCov_cons_unit_lit']
  pointwise [k0_pay90]
  simp only [v374 c b1 b2 b3 b4 b5 b6 b7 b8 h x369 hx, v42 c b1 b2 b3 b4 b5 b6 b7 b8 h, ← EReal.coe_mul, ← EReal.coe_add, ← EReal.coe_sub, sum_real]

theorem ws0_0 (p q : Fin 128) : sl.v163 (F := Ideal) c a1 b1 a2 b2 a3 b3 a4 b4 a5 b5 a7 b7 a8 b8 a11 b11 x0 x1 x2 x3 x4 x6 x7 xo10 (ix2 p q) = xo10 (ix3 0 p q) + ((wsp d R 0 0 p q : ℝ) : EReal) := by
  unfold sl.v163 sl.v159
  simp (disch := decide) only [View.readAt_eq_ld, Memref.IsWhole.read_unread]
  pointwise [sl.v162, sl.v160, sl.v48, sl.cst_21]
  simp only [v151 c b1 b2 b3 b4 b5 b6 b7 b8 h, v45 c b1 b2 b3 b4 b5 b6 b7 b8 h, ← EReal.coe_mul, ← EReal.coe_add, ← EReal.coe_sub, sum_real]
  simp only [wsp, Nat.zero_add, Nat.mul_zero, Nat.reduceMul]

theorem ws0_1 (p q : Fin 128) : sl.v176 (F := Ideal) c a1 b1 a2 b2 a3 b3 a4 b4 a5 b5 a7 b7 a8 b8 a11 b11 x0 x1 x2 x3 x4 x6 x7 xo10 (ix2 p q) = xo10 (ix3 1 p q) + ((wsp d R 0 1 p q : ℝ) : EReal) := by
  unfold sl.v176 sl.v172 sl.v171
  simp (disch := decide) only [View.readAt_eq_ld, Memref.IsWhole.read_unread]
  pointwise [sl.v175, sl.v173, sl.v52, sl.cst_21]
  simp only [v151 c b1 b2 b3 b4 b5 b6 b7 b8 h, v45 c b1 b2 b3 b4 b5 b6 b7 b8 h, ← EReal.coe_mul, ← EReal.coe_add, ← EReal.coe_sub, sum_real]
  simp only [wsp, Nat.zero_add, Nat.mul_zero, Nat.reduceMul]

theorem ws0_2 (p q : Fin 128) : sl.v189 (F := Ideal) c a1 b1 a2 b2 a3 b3 a4 b4 a5 b5 a7 b7 a8 b8 a11 b11 x0 x1 x2 x3 x4 x6 x7 xo10 (ix2 p q) = xo10 (ix3 2 p q) + ((wsp d R 0 2 p q : ℝ) : EReal) := by
  unfold sl.v189 sl.v185 sl.v184
  simp (disch := decide) only [View.readAt_eq_ld, Memref.IsWhole.read_unread]
  pointwise [sl.v188, sl.v186, sl.v56, sl.cst_21]
  simp only [v151 c b1 b2 b3 b4 b5 b6 b7 b8 h, v45 c b1 b2 b3 b4 b5 b6 b7 b8 h, ← EReal.coe_mul, ← EReal.coe_add, ← EReal.coe_sub, sum_real]
  simp only [wsp, Nat.zero_add, Nat.mul_zero, Nat.reduceMul]

theorem ws0_3 (p q : Fin 128) : sl.v202 (F := Ideal) c a1 b1 a2 b2 a3 b3 a4 b4 a5 b5 a7 b7 a8 b8 a11 b11 x0 x1 x2 x3 x4 x6 x7 xo10 (ix2 p q) = xo10 (ix3 3 p q) + ((wsp d R 0 3 p q : ℝ) : EReal) := by
  unfold sl.v202 sl.v198 sl.v197
  simp (disch := decide) only [View.readAt_eq_ld, Memref.IsWhole.read_unread]
  pointwise [sl.v201, sl.v199, sl.v60, sl.cst_21]
  simp only [v151 c b1 b2 b3 b4 b5 b6 b7 b8 h, v45 c b1 b2 b3 b4 b5 b6 b7 b8 h, ← EReal.coe_mul, ← EReal.coe_add, ← EReal.coe_sub, sum_real]
  simp only [wsp, Nat.zero_add, Nat.mul_zero, Nat.reduceMul]

theorem ws0_4 (p q : Fin 128) : sl.v215 (F := Ideal) c a1 b1 a2 b2 a3 b3 a4 b4 a5 b5 a7 b7 a8 b8 a11 b11 x0 x1 x2 x3 x4 x6 x7 xo10 (ix2 p q) = xo10 (ix3 4 p q) + ((wsp d R 0 4 p q : ℝ) : EReal) := by
  unfold sl.v215 sl.v211 sl.v210
  simp (disch := decide) only [View.readAt_eq_ld, Memref.IsWhole.read_unread]
  pointwise [sl.v214, sl.v212, sl.v64, sl.cst_21]
  simp only [v151 c b1 b2 b3 b4 b5 b6 b7 b8 h, v45 c b1 b2 b3 b4 b5 b6 b7 b8 h, ← EReal.coe_mul, ← EReal.coe_add, ← EReal.coe_sub, sum_real]
  simp only [wsp, Nat.zero_add, Nat.mul_zero, Nat.reduceMul]

theorem ws0_5 (p q : Fin 128) : sl.v228 (F := Ideal) c a1 b1 a2 b2 a3 b3 a4 b4 a5 b5 a7 b7 a8 b8 a11 b11 x0 x1 x2 x3 x4 x6 x7 xo10 (ix2 p q) = xo10 (ix3 5 p q) + ((wsp d R 0 5 p q : ℝ) : EReal) := by
  unfold sl.v228 sl.v224 sl.v223
  simp (disch := decide) only [View.readAt_eq_ld, Memref.IsWhole.read_unread]
  pointwise [sl.v227, sl.v225, sl.v68, sl.cst_21]
  simp only [v151 c b1 b2 b3 b4 b5 b6 b7 b8 h, v45 c b1 b2 b3 b4 b5 b6 b7 b8 h, ← EReal.coe_mul, ← EReal.coe_add, ← EReal.coe_sub, sum_real]
  simp only [wsp, Nat.zero_add, Nat.mul_zero, Nat.reduceMul]

theorem ws0_6 (p q : Fin 128) : sl.v241 (F := Ideal) c a1 b1 a2 b2 a3 b3 a4 b4 a5 b5 a7 b7 a8 b8 a11 b11 x0 x1 x2 x3 x4 x6 x7 xo10 (ix2 p q) = xo10 (ix3 6 p q) + ((wsp d R 0 6 p q : ℝ) : EReal) := by
  unfold sl.v241 sl.v237 sl.v236
  simp (disch := decide) only [View.readAt_eq_ld, Memref.IsWhole.read_unread]
  pointwise [sl.v240, sl.v238, sl.v72, sl.cst_21]
  simp only [v151 c b1 b2 b3 b4 b5 b6 b7 b8 h, v45 c b1 b2 b3 b4 b5 b6 b7 b8 h, ← EReal.coe_mul, ← EReal.coe_add, ← EReal.coe_sub, sum_real]
  simp only [wsp, Nat.zero_add, Nat.mul_zero, Nat.reduceMul]

theorem ws0_7 (p q : Fin 128) : sl.v254 (F := Ideal) c a1 b1 a2 b2 a3 b3 a4 b4 a5 b5 a7 b7 a8 b8 a11 b11 x0 x1 x2 x3 x4 x6 x7 xo10 (ix2 p q) = xo10 (ix3 7 p q) + ((wsp d R 0 7 p q : ℝ) : EReal) := by
  unfold sl.v254 sl.v250 sl.v249
  simp (disch := decide) only [View.readAt_eq_ld, Memref.IsWhole.read_unread]
  pointwise [sl.v253, sl.v251, sl.v76, sl.cst_21]
  simp only [v151 c b1 b2 b3 b4 b5 b6 b7 b8 h, v45 c b1 b2 b3 b4 b5 b6 b7 b8 h, ← EReal.coe_mul, ← EReal.coe_add, ← EReal.coe_sub, sum_real]
  simp only [wsp, Nat.zero_add, Nat.mul_zero, Nat.reduceMul]

theorem rc_0 (p q : Fin 128) : sl.v269 (F := Ideal) c a1 b1 a2 b2 a3 b3 a4 b4 a5 b5 a7 b7 a8 b8 a11 b11 x0 x1 x2 x3 x4 x6 x7 xo10 (ix3 0 p q) = sl.v163 (F := Ideal) c a1 b1 a2 b2 a3 b3 a4 b4 a5 b5 a7 b7 a8 b8 a11 b11 x0 x1 x2 x3 x4 x6 x7 xo10 (ix2 p q) := by
  unfold sl.v269 sl.H10_8
  simp (disch := decide) only [View.readCov_skip]
  rw [View.readCov_cons_toLoadRect]
  pointwise [sl.v166]

theorem ws1_0 (p q : Fin 128) : sl.v277 (F := Ideal) c a1 b1 a2 b2 a3 b3 a4 b4 a5 b5 a7 b7 a8 b8 a11 b11 x0 x1 x2 x3 x4 x6 x7 xo10 (ix3 0 p q) = xo10 (ix3 0 p q) + ((wsp d R 0 0 p q + wsp d R 128 0 p q : ℝ) : EReal) := by
  pointwise [sl.v277, sl.v274, sl.v270, sl.v273, sl.v271, sl.v82, sl.cst_21]
  simp only [rc_0 c d R a1 b1 a2 b2 a3 b3 a4 b4 a5 b5 a6 b6 a7 b7 a8 b8 x0 x1 x2 x3 x4 x5 x6 x7 h a9 b9 a10 b10 a11 b11 a12 b12 a13 b13 a14 b14 xo9 xo10 xo12 xs0, ws0_0 c d R a1 b1 a2 b2 a3 b3 a4 b4 a5 b5 a6 b6 a7 b7 a8 b8 x0 x1 x2 x3 x4 x5 x6 x7 h a9 b9 a10 b10 a11 b11 a12 b12 a13 b13 a14 b14 xo9 xo10 xo12 xs0, v151 c b1 b2 b3 b4 b5 b6 b7 b8 h, v45 c b1 b2 b3 b4 b5 b6 b7 b8 h, ← EReal.coe_mul, ← EReal.coe_add, ← EReal.coe_sub, sum_real]
  rw [EReal.coe_add, ← add_assoc (xo10 (ix3 0 p q))]
  first | (simp only [wsp, Nat.zero_add, Nat.mul_zero, Nat.reduceMul]; done) | rfl

theorem rc_1 (p q : Fin 128) : sl.v282 (F := Ideal) c a1 b1 a2 b2 a3 b3 a4 b4 a5 b5 a7 b7 a8 b8 a11 b11 x0 x1 x2 x3 x4 x6 x7 xo10 (ix3 0 p q) = sl.v176 (F := Ideal) c a1 b1 a2 b2 a3 b3 a4 b4 a5 b5 a7 b7 a8 b8 a11 b11 x0 x1 x2 x3 x4 x6 x7 xo10 (ix2 p q) := by
  unfold sl.v282 sl.H10_9 sl.H10_8
  simp (disch := decide) only [View.readCov_skip]
  rw [View.readCov_cons_toLoadRect]
  pointwise [sl.v179]

theorem ws1_1 (p q : Fin 128) : sl.v290 (F := Ideal) c a1 b1 a2 b2 a3 b3 a4 b4 a5 b5 a7 b7 a8 b8 a11 b11 x0 x1 x2 x3 x4 x6 x7 xo10 (ix3 0 p q) = xo10 (ix3 1 p q) + ((wsp d R 0 1 p q + wsp d R 128 1 p q : ℝ) : EReal) := by
  pointwise [sl.v290, sl.v287, sl.v283, sl.v286, sl.v284, sl.v86, sl.cst_21]
  simp only [rc_1 c d R a1 b1 a2 b2 a3 b3 a4 b4 a5 b5 a6 b6 a7 b7 a8 b8 x0 x1 x2 x3 x4 x5 x6 x7 h a9 b9 a10 b10 a11 b11 a12 b12 a13 b13 a14 b14 xo9 xo10 xo12 xs0, ws0_1 c d R a1 b1 a2 b2 a3 b3 a4 b4 a5 b5 a6 b6 a7 b7 a8 b8 x0 x1 x2 x3 x4 x5 x6 x7 h a9 b9 a10 b10 a11 b11 a12 b12 a13 b13 a14 b14 xo9 xo10 xo12 xs0, v151 c b1 b2 b3 b4 b5 b6 b7 b8 h, v45 c b1 b2 b3 b4 b5 b6 b7 b8 h, ← EReal.coe_mul, ← EReal.coe_add, ← EReal.coe_sub, sum_real]
  rw [EReal.coe_add, ← add_assoc (xo10 (ix3 1 p q))]
  first | (simp only [wsp, Nat.zero_add, Nat.mul_zero, Nat.reduceMul]; done) | rfl

theorem rc_2 (p q : Fin 128) : sl.v295 (F := Ideal) c a1 b1 a2 b2 a3 b3 a4 b4 a5 b5 a7 b7 a8 b8 a11 b11 x0 x1 x2 x3 x4 x6 x7 xo10 (ix3 0 p q) = sl.v189 (F := Ideal) c a1 b1 a2 b2 a3 b3 a4 b4 a5 b5 a7 b7 a8 b8 a11 b11 x0 x1 x2 x3 x4 x6 x7 xo10 (ix2 p q) := by
  unfold sl.v295 sl.H10_10 sl.H10_9 sl.H10_8
  simp (disch := decide) only [View.readCov_skip]
  rw [View.readCov_cons_toLoadRect]
  pointwise [sl.v192]

theorem ws1_2 (p q : Fin 128) : sl.v303 (F := Ideal) c a1 b1 a2 b2 a3 b3 a4 b4 a5 b5 a7 b7 a8 b8 a11 b11 x0 x1 x2 x3 x4 x6 x7 xo10 (ix3 0 p q) = xo10 (ix3 2 p q) + ((wsp d R 0 2 p q + wsp d R 128 2 p q : ℝ) : EReal) := by
  pointwise [sl.v303, sl.v300, sl.v296, sl.v299, sl.v297, sl.v90, sl.cst_21]
  simp only [rc_2 c d R a1 b1 a2 b2 a3 b3 a4 b4 a5 b5 a6 b6 a7 b7 a8 b8 x0 x1 x2 x3 x4 x5 x6 x7 h a9 b9 a10 b10 a11 b11 a12 b12 a13 b13 a14 b14 xo9 xo10 xo12 xs0, ws0_2 c d R a1 b1 a2 b2 a3 b3 a4 b4 a5 b5 a6 b6 a7 b7 a8 b8 x0 x1 x2 x3 x4 x5 x6 x7 h a9 b9 a10 b10 a11 b11 a12 b12 a13 b13 a14 b14 xo9 xo10 xo12 xs0, v151 c b1 b2 b3 b4 b5 b6 b7 b8 h, v45 c b1 b2 b3 b4 b5 b6 b7 b8 h, ← EReal.coe_mul, ← EReal.coe_add, ← EReal.coe_sub, sum_real]
  rw [EReal.coe_add, ← add_assoc (xo10 (ix3 2 p q))]
  first | (simp only [wsp, Nat.zero_add, Nat.mul_zero, Nat.reduceMul]; done) | rfl

theorem rc_3 (p q : Fin 128) : sl.v308 (F := Ideal) c a1 b1 a2 b2 a3 b3 a4 b4 a5 b5 a7 b7 a8 b8 a11 b11 x0 x1 x2 x3 x4 x6 x7 xo10 (ix3 0 p q) = sl.v202 (F := Ideal) c a1 b1 a2 b2 a3 b3 a4 b4 a5 b5 a7 b7 a8 b8 a11 b11 x0 x1 x2 x3 x4 x6 x7 xo10 (ix2 p q) := by
  unfold sl.v308 sl.H10_11 sl.H10_10 sl.H10_9 sl.H10_8
  simp (disch := decide) only [View.readCov_skip]
  rw [View.readCov_cons_toLoadRect]
  pointwise [sl.v205]

theorem ws1_3 (p q : Fin 128) : sl.v316 (F := Ideal) c a1 b1 a2 b2 a3 b3 a4 b4 a5 b5 a7 b7 a8 b8 a11 b11 x0 x1 x2 x3 x4 x6 x7 xo10 (ix3 0 p q) = xo10 (ix3 3 p q) + ((wsp d R 0 3 p q + wsp d R 128 3 p q : ℝ) : EReal) := by
  pointwise [sl.v316, sl.v313, sl.v309, sl.v312, sl.v310, sl.v94, sl.cst_21]
  simp only [rc_3 c d R a1 b1 a2 b2 a3 b3 a4 b4 a5 b5 a6 b6 a7 b7 a8 b8 x0 x1 x2 x3 x4 x5 x6 x7 h a9 b9 a10 b10 a11 b11 a12 b12 a13 b13 a14 b14 xo9 xo10 xo12 xs0, ws0_3 c d R a1 b1 a2 b2 a3 b3 a4 b4 a5 b5 a6 b6 a7 b7 a8 b8 x0 x1 x2 x3 x4 x5 x6 x7 h a9 b9 a10 b10 a11 b11 a12 b12 a13 b13 a14 b14 xo9 xo10 xo12 xs0, v151 c b1 b2 b3 b4 b5 b6 b7 b8 h, v45 c b1 b2 b3 b4 b5 b6 b7 b8 h, ← EReal.coe_mul, ← EReal.coe_add, ← EReal.coe_sub, sum_real]
  rw [EReal.coe_add, ← add_assoc (xo10 (ix3 3 p q))]
  first | (simp only [wsp, Nat.zero_add, Nat.mul_zero, Nat.reduceMul]; done) | rfl

theorem rc_4 (p q : Fin 128) : sl.v321 (F := Ideal) c a1 b1 a2 b2 a3 b3 a4 b4 a5 b5 a7 b7 a8 b8 a11 b11 x0 x1 x2 x3 x4 x6 x7 xo10 (ix3 0 p q) = sl.v215 (F := Ideal) c a1 b1 a2 b2 a3 b3 a4 b4 a5 b5 a7 b7 a8 b8 a11 b11 x0 x1 x2 x3 x4 x6 x7 xo10 (ix2 p q) := by
  unfold sl.v321 sl.H10_12 sl.H10_11 sl.H10_10 sl.H10_9 sl.H10_8
  simp (disch := decide) only [View.readCov_skip]
  rw [View.readCov_cons_toLoadRect]
  pointwise [sl.v218]

theorem ws1_4 (p q : Fin 128) : sl.v329 (F := Ideal) c a1 b1 a2 b2 a3 b3 a4 b4 a5 b5 a7 b7 a8 b8 a11 b11 x0 x1 x2 x3 x4 x6 x7 xo10 (ix3 0 p q) = xo10 (ix3 4 p q) + ((wsp d R 0 4 p q + wsp d R 128 4 p q : ℝ) : EReal) := by
  pointwise [sl.v329, sl.v326, sl.v322, sl.v325, sl.v323, sl.v98, sl.cst_21]
  simp only [rc_4 c d R a1 b1 a2 b2 a3 b3 a4 b4 a5 b5 a6 b6 a7 b7 a8 b8 x0 x1 x2 x3 x4 x5 x6 x7 h a9 b9 a10 b10 a11 b11 a12 b12 a13 b13 a14 b14 xo9 xo10 xo12 xs0, ws0_4 c d R a1 b1 a2 b2 a3 b3 a4 b4 a5 b5 a6 b6 a7 b7 a8 b8 x0 x1 x2 x3 x4 x5 x6 x7 h a9 b9 a10 b10 a11 b11 a12 b12 a13 b13 a14 b14 xo9 xo10 xo12 xs0, v151 c b1 b2 b3 b4 b5 b6 b7 b8 h, v45 c b1 b2 b3 b4 b5 b6 b7 b8 h, ← EReal.coe_mul, ← EReal.coe_add, ← EReal.coe_sub, sum_real]
  rw [EReal.coe_add, ← add_assoc (xo10 (ix3 4 p q))]
  first | (simp only [wsp, Nat.zero_add, Nat.mul_zero, Nat.reduceMul]; done) | rfl

theorem rc_5 (p q : Fin 128) : sl.v334 (F := Ideal) c a1 b1 a2 b2 a3 b3 a4 b4 a5 b5 a7 b7 a8 b8 a11 b11 x0 x1 x2 x3 x4 x6 x7 xo10 (ix3 0 p q) = sl.v228 (F := Ideal) c a1 b1 a2 b2 a3 b3 a4 b4 a5 b5 a7 b7 a8 b8 a11 b11 x0 x1 x2 x3 x4 x6 x7 xo10 (ix2 p q) := by
  unfold sl.v334 sl.H10_13 sl.H10_12 sl.H10_11 sl.H10_10 sl.H10_9 sl.H10_8
  simp (disch := decide) only [View.readCov_skip]
  rw [View.readCov_cons_toLoadRect]
  pointwise [sl.v231]

theorem ws1_5 (p q : Fin 128) : sl.v342 (F := Ideal) c a1 b1 a2 b2 a3 b3 a4 b4 a5 b5 a7 b7 a8 b8 a11 b11 x0 x1 x2 x3 x4 x6 x7 xo10 (ix3 0 p q) = xo10 (ix3 5 p q) + ((wsp d R 0 5 p q + wsp d R 128 5 p q : ℝ) : EReal) := by
  pointwise [sl.v342, sl.v339, sl.v335, sl.v338, sl.v336, sl.v102, sl.cst_21]
  simp only [rc_5 c d R a1 b1 a2 b2 a3 b3 a4 b4 a5 b5 a6 b6 a7 b7 a8 b8 x0 x1 x2 x3 x4 x5 x6 x7 h a9 b9 a10 b10 a11 b11 a12 b12 a13 b13 a14 b14 xo9 xo10 xo12 xs0, ws0_5 c d R a1 b1 a2 b2 a3 b3 a4 b4 a5 b5 a6 b6 a7 b7 a8 b8 x0 x1 x2 x3 x4 x5 x6 x7 h a9 b9 a10 b10 a11 b11 a12 b12 a13 b13 a14 b14 xo9 xo10 xo12 xs0, v151 c b1 b2 b3 b4 b5 b6 b7 b8 h, v45 c b1 b2 b3 b4 b5 b6 b7 b8 h, ← EReal.coe_mul, ← EReal.coe_add, ← EReal.coe_sub, sum_real]
  rw [EReal.coe_add, ← add_assoc (xo10 (ix3 5 p q))]
  first | (simp only [wsp, Nat.zero_add, Nat.mul_zero, Nat.reduceMul]; done) | rfl

theorem rc_6 (p q : Fin 128) : sl.v347 (F := Ideal) c a1 b1 a2 b2 a3 b3 a4 b4 a5 b5 a7 b7 a8 b8 a11 b11 x0 x1 x2 x3 x4 x6 x7 xo10 (ix3 0 p q) = sl.v241 (F := Ideal) c a1 b1 a2 b2 a3 b3 a4 b4 a5 b5 a7 b7 a8 b8 a11 b11 x0 x1 x2 x3 x4 x6 x7 xo10 (ix2 p q) := by
  unfold sl.v347 sl.H10_14 sl.H10_13 sl.H10_12 sl.H10_11 sl.H10_10 sl.H10_9 sl.H10_8
  simp (disch := decide) only [View.readCov_skip]
  rw [View.readCov_cons_toLoadRect]
  pointwise [sl.v244]

theorem ws1_6 (p q : Fin 128) : sl.v355 (F := Ideal) c a1 b1 a2 b2 a3 b3 a4 b4 a5 b5 a7 b7 a8 b8 a11 b11 x0 x1 x2 x3 x4 x6 x7 xo10 (ix3 0 p q) = xo10 (ix3 6 p q) + ((wsp d R 0 6 p q + wsp d R 128 6 p q : ℝ) : EReal) := by
  pointwise [sl.v355, sl.v352, sl.v348, sl.v351, sl.v349, sl.v106, sl.cst_21]
  simp only [rc_6 c d R a1 b1 a2 b2 a3 b3 a4 b4 a5 b5 a6 b6 a7 b7 a8 b8 x0 x1 x2 x3 x4 x5 x6 x7 h a9 b9 a10 b10 a11 b11 a12 b12 a13 b13 a14 b14 xo9 xo10 xo12 xs0, ws0_6 c d R a1 b1 a2 b2 a3 b3 a4 b4 a5 b5 a6 b6 a7 b7 a8 b8 x0 x1 x2 x3 x4 x5 x6 x7 h a9 b9 a10 b10 a11 b11 a12 b12 a13 b13 a14 b14 xo9 xo10 xo12 xs0, v151 c b1 b2 b3 b4 b5 b6 b7 b8 h, v45 c b1 b2 b3 b4 b5 b6 b7 b8 h, ← EReal.coe_mul, ← EReal.coe_add, ← EReal.coe_sub, sum_real]
  rw [EReal.coe_add, ← add_assoc (xo10 (ix3 6 p q))]
  first | (simp only [wsp, Nat.zero_add, Nat.mul_zero, Nat.reduceMul]; done) | rfl

theorem rc_7 (p q : Fin 128) : sl.v360 (F := Ideal) c a1 b1 a2 b2 a3 b3 a4 b4 a5 b5 a7 b7 a8 b8 a11 b11 x0 x1 x2 x3 x4 x6 x7 xo10 (ix3 0 p q) = sl.v254 (F := Ideal) c a1 b1 a2 b2 a3 b3 a4 b4 a5 b5 a7 b7 a8 b8 a11 b11 x0 x1 x2 x3 x4 x6 x7 xo10 (ix2 p q) := by
  unfold sl.v360 sl.H10_15 sl.H10_14 sl.H10_13 sl.H10_12 sl.H10_11 sl.H10_10 sl.H10_9 sl.H10_8
  simp (disch := decide) only [View.readCov_skip]
  rw [View.readCov_cons_toLoadRect]
  pointwise [sl.v257]

theorem ws1_7 (p q : Fin 128) : k0_pay88 (F := Ideal) (sl.v361 (F := Ideal) c a1 b1 a2 b2 a3 b3 a4 b4 a5 b5 a7 b7 a8 b8 a11 b11 x0 x1 x2 x3 x4 x6 x7 xo10) (sl.v362 (F := Ideal) c a1 b1 a2 b2 a3 b3 a4 b4 a5 b5 a7 b7 a8 b8 x0 x1 x2 x3 x4 x6 x7) (sl.v110 (F := Ideal) c a2 b2 a4 b4 x1 x3) sl.cst_21 (ix3 0 p q) = xo10 (ix3 7 p q) + ((wsp d R 0 7 p q + wsp d R 128 7 p q : ℝ) : EReal) := by
  pointwise [k0_pay88, sl.v361, sl.v362, sl.v110, sl.cst_21]
  simp only [rc_7 c d R a1 b1 a2 b2 a3 b3 a4 b4 a5 b5 a6 b6 a7 b7 a8 b8 x0 x1 x2 x3 x4 x5 x6 x7 h a9 b9 a10 b10 a11 b11 a12 b12 a13 b13 a14 b14 xo9 xo10 xo12 xs0, ws0_7 c d R a1 b1 a2 b2 a3 b3 a4 b4 a5 b5 a6 b6 a7 b7 a8 b8 x0 x1 x2 x3 x4 x5 x6 x7 h a9 b9 a10 b10 a11 b11 a12 b12 a13 b13 a14 b14 xo9 xo10 xo12 xs0, v151 c b1 b2 b3 b4 b5 b6 b7 b8 h, v45 c b1 b2 b3 b4 b5 b6 b7 b8 h, ← EReal.coe_mul, ← EReal.coe_add, ← EReal.coe_sub, sum_real]
  rw [EReal.coe_add, ← add_assoc (xo10 (ix3 7 p q))]
  first | (simp only [wsp, Nat.zero_add, Nat.mul_zero, Nat.reduceMul]; done) | rfl

theorem db (p : Fin 128) (j : Fin 1024) : sl.v268 (F := Ideal) c a1 b1 a2 b2 a3 b3 a4 b4 a5 b5 a7 b7 a8 b8 a14 b14 x0 x1 x2 x3 x4 x6 x7 xs0 (ix2 p j) = xs0 (ix2 p j) + ((d.dx (R + p) j + d.dx (R + (128 + p)) j : ℝ) : EReal) := by
  unfold sl.v268 sl.v265 sl.v263 sl.HS0_1 sl.v157 sl.v154
  simp (disch := decide) only [View.readAt_eq_ld, Memref.IsWhole.read_unread, View.ld_unit_lit', View.readCov_unit_lit', View.readCov_cons_unit_lit']
  pointwise [sl.v264, sl.v153]
  simp only [v150 c b1 b2 b3 b4 b5 b6 b7 b8 h, ← EReal.coe_mul, ← EReal.coe_add, ← EReal.coe_sub, sum_real]
  rw [EReal.coe_add, ← add_assoc (xs0 (ix2 p j))]

theorem o9 (i : grid0.Coords) (hc0 : ¬cond0_0 i) (hc1 : cond0_1 i) (j : Fin 1024) : out0_C_9 (F := Ideal) c i a1 b1 a2 b2 a3 b3 a4 b4 a5 b5 a6 b6 a7 b7 a8 b8 a9 b9 a10 b10 a11 b11 a12 b12 a13 b13 a14 b14 hc0 hc1 x0 x1 x2 x3 x4 x5 x6 x7 xo9 xo10 xo12 xs0 (ix2 0 j) = xo9 (ix2 0 j) + ((∑ r : Fin 256, d.dl (R + r) j * d.vh (R + r) j : ℝ) : EReal) := by
  have e : out0_C_9 (F := Ideal) c i a1 b1 a2 b2 a3 b3 a4 b4 a5 b5 a6 b6 a7 b7 a8 b8 a9 b9 a10 b10 a11 b11 a12 b12 a13 b13 a14 b14 hc0 hc1 x0 x1 x2 x3 x4 x5 x6 x7 xo9 xo10 xo12 xs0 = k0_pay90 (F := Ideal) (sl.v42 (F := Ideal) c a2 b2 x1) (sl.v151 (F := Ideal) c a1 b1 a2 b2 a3 b3 a4 b4 a5 b5 a7 b7 a8 b8 x0 x1 x2 x3 x4 x6 x7) (sl.v262 (F := Ideal) c a1 b1 a2 b2 a3 b3 a4 b4 a5 b5 a6 b6 a7 b7 a8 b8 x0 x1 x2 x3 x4 x5 x6 x7) (sl.v281 (F := Ideal) c a1 b1 a2 b2 a3 b3 a4 b4 a5 b5 a6 b6 a7 b7 a8 b8 x0 x1 x2 x3 x4 x5 x6 x7) (sl.v294 (F := Ideal) c a1 b1 a2 b2 a3 b3 a4 b4 a5 b5 a6 b6 a7 b7 a8 b8 x0 x1 x2 x3 x4 x5 x6 x7) (sl.v307 (F := Ideal) c a1 b1 a2 b2 a3 b3 a4 b4 a5 b5 a6 b6 a7 b7 a8 b8 x0 x1 x2 x3 x4 x5 x6 x7) (sl.v320 (F := Ideal) c a1 b1 a2 b2 a3 b3 a4 b4 a5 b5 a6 b6 a7 b7 a8 b8 x0 x1 x2 x3 x4 x5 x6 x7) (sl.v333 (F := Ideal) c a1 b1 a2 b2 a3 b3 a4 b4 a5 b5 a6 b6 a7 b7 a8 b8 x0 x1 x2 x3 x4 x5 x6 x7) (sl.v346 (F := Ideal) c a1 b1 a2 b2 a3 b3 a4 b4 a5 b5 a6 b6 a7 b7 a8 b8 x0 x1 x2 x3 x4 x5 x6 x7) (sl.v359 (F := Ideal) c a1 b1 a2 b2 a3 b3 a4 b4 a5 b5 a6 b6 a7 b7 a8 b8 x0 x1 x2 x3 x4 x5 x6 x7) (View.readAt (Elt Ideal) a6.view (Rect.unit (s := S8x128x128) ![7, 0, 0] S1x128x128.size inb_S8x128x128_S1x128x128_7_0_0).toLoadRect (b6.unread x5)) (View.readAt (Elt Ideal) a10.view (Rect.unit (s := S1x1024) ![0, 0] S1x1024.size inb_S1x1024_S1x1024_0_0).toLoadRect (b10.unread xo9)) :=
    (View.read_writes_junk_eq_canon _ _).trans (View.canon_cons_unit_lit' _ _ _ (by decide))
  rw [e]
  exact dln c d R a1 b1 a2 b2 a3 b3 a4 b4 a5 b5 a6 b6 a7 b7 a8 b8 x0 x1 x2 x3 x4 x5 x6 x7 h a9 b9 a10 b10 a11 b11 a12 b12 a13 b13 a14 b14 xo9 xo10 xo12 xs0 j

theorem o12 (i : grid0.Coords) (hc0 : ¬cond0_0 i) (hc1 : cond0_1 i) (j : Fin 1024) : out0_C_12 (F := Ideal) c i a1 b1 a2 b2 a3 b3 a4 b4 a5 b5 a6 b6 a7 b7 a8 b8 a9 b9 a10 b10 a11 b11 a12 b12 a13 b13 a14 b14 hc0 hc1 x0 x1 x2 x3 x4 x5 x6 x7 xo9 xo10 xo12 xs0 (ix2 0 j) = xo12 (ix2 0 j) + ((∑ r : Fin 256, d.dm (R + r) j * d.gh (R + r) j : ℝ) : EReal) := by
  have e : out0_C_12 (F := Ideal) c i a1 b1 a2 b2 a3 b3 a4 b4 a5 b5 a6 b6 a7 b7 a8 b8 a9 b9 a10 b10 a11 b11 a12 b12 a13 b13 a14 b14 hc0 hc1 x0 x1 x2 x3 x4 x5 x6 x7 xo9 xo10 xo12 xs0 = sl.v133 (F := Ideal) c a1 b1 a2 b2 a3 b3 a4 b4 a5 b5 a7 b7 a13 b13 x0 x1 x2 x3 x4 x6 xo12 :=
    (View.read_writes_junk_eq_canon _ _).trans (View.canon_cons_unit_lit' _ _ _ (by decide))
  rw [e]
  exact dgg c d R a1 b1 a2 b2 a3 b3 a4 b4 a5 b5 a6 b6 a7 b7 a8 b8 x0 x1 x2 x3 x4 x5 x6 x7 h a9 b9 a10 b10 a11 b11 a12 b12 a13 b13 a14 b14 xo9 xo10 xo12 xs0 j

theorem o8 (i : grid0.Coords) (hc0 : ¬cond0_0 i) (hc1 : cond0_1 i) (y : S256x2048.Idx) : out0_C_8 (F := Ideal) c i a1 b1 a2 b2 a3 b3 a4 b4 a5 b5 a6 b6 a7 b7 a8 b8 a9 b9 a10 b10 a11 b11 a12 b12 a13 b13 a14 b14 hc0 hc1 x0 x1 x2 x3 x4 x5 x6 x7 xo9 xo10 xo12 xs0 y = G8 d R y := by
  refine (congrFun (View.read_writes_junk_eq_canon VO0_8 _) y).trans ?_
  refine View.canon_append_of_piecesOf (G8 d R) [] [⟨Rect.unit (s := S256x2048) ![0, 1024] S256x1024.size inb_S256x2048_S256x1024_0_1024, k0_pay95 (F := Ideal) (sl.r_1 (F := Ideal) c a2 b2 x1) (sl.r_7 (F := Ideal) c a1 b1 a2 b2 a3 b3 a4 b4 a5 b5 a6 b6 a7 b7 a8 b8 x0 x1 x2 x3 x4 x5 x6 x7)⟩,
    ⟨Rect.unit (s := S256x2048) ![0, 0] S256x1024.size inb_S256x2048_S256x1024_0_0, k0_pay94 (F := Ideal) (sl.r (F := Ideal) c a1 b1 x0) (sl.v149 (F := Ideal) c a1 b1 a2 b2 a3 b3 a4 b4 a5 b5 a7 b7 a8 b8 x0 x1 x2 x3 x4 x6 x7) (sl.r_8 (F := Ideal) c a1 b1 x0) (k0_pay93 (F := Ideal))⟩] ⟨?_, ?_, trivial⟩ y (cover0_C_8 (F := Ideal) c i a1 b1 a2 b2 a3 b3 a4 b4 a5 b5 a6 b6 a7 b7 a8 b8 a9 b9 a10 b10 a11 b11 a12 b12 a13 b13 a14 b14 hc0 hc1 x0 x1 x2 x3 x4 x5 x6 x7 xo9 xo10 xo12 xs0 y)
  · intro x
    rw [eq_ix2 x]
    exact (outV c b1 b2 b3 b4 b5 b6 b7 b8 h _ _).trans (G8_V d R _ _ _ (by rw [ValueKit.rect_emb_unit_val]; rfl) (by rw [ValueKit.rect_emb_unit_val]; rfl)).symm
  · intro x
    rw [eq_ix2 x]
    exact (outU c b1 b2 b3 b4 b5 b6 b7 b8 h _ _).trans (G8_U d R _ _ _ (by rw [ValueKit.rect_emb_unit_val]; rfl) (by rw [ValueKit.rect_emb_unit_val]; rfl)).symm

theorem o10 (i : grid0.Coords) (hc0 : ¬cond0_0 i) (hc1 : cond0_1 i) (y : S8x128x128.Idx) : out0_C_10 (F := Ideal) c i a1 b1 a2 b2 a3 b3 a4 b4 a5 b5 a6 b6 a7 b7 a8 b8 a9 b9 a10 b10 a11 b11 a12 b12 a13 b13 a14 b14 hc0 hc1 x0 x1 x2 x3 x4 x5 x6 x7 xo9 xo10 xo12 xs0 y = G10 d R xo10 y := by
  refine (congrFun (View.read_writes_junk_eq_canon VO0_10 _) y).trans ?_
  have hp : View.PiecesOf (Val := Elt Ideal) (e := .f32) (G10 d R xo10) [⟨Rect.unit (s := S8x128x128) ![7, 0, 0] S1x128x128.size inb_S8x128x128_S1x128x128_7_0_0, k0_pay88 (F := Ideal) (sl.v361 (F := Ideal) c a1 b1 a2 b2 a3 b3 a4 b4 a5 b5 a7 b7 a8 b8 a11 b11 x0 x1 x2 x3 x4 x6 x7 xo10) (sl.v362 (F := Ideal) c a1 b1 a2 b2 a3 b3 a4 b4 a5 b5 a7 b7 a8 b8 x0 x1 x2 x3 x4 x6 x7) (sl.v110 (F := Ideal) c a2 b2 a4 b4 x1 x3) sl.cst_21⟩,
    ⟨Rect.unit (s := S8x128x128) ![6, 0, 0] S1x128x128.size inb_S8x128x128_S1x128x128_6_0_0, sl.v355 (F := Ideal) c a1 b1 a2 b2 a3 b3 a4 b4 a5 b5 a7 b7 a8 b8 a11 b11 x0 x1 x2 x3 x4 x6 x7 xo10⟩,
    ⟨Rect.unit (s := S8x128x128) ![5, 0, 0] S1x128x128.size inb_S8x128x128_S1x128x128_5_0_0, sl.v342 (F := Ideal) c a1 b1 a2 b2 a3 b3 a4 b4 a5 b5 a7 b7 a8 b8 a11 b11 x0 x1 x2 x3 x4 x6 x7 xo10⟩,
    ⟨Rect.unit (s := S8x128x128) ![4, 0, 0] S1x128x128.size inb_S8x128x128_S1x128x128_4_0_0, sl.v329 (F := Ideal) c a1 b1 a2 b2 a3 b3 a4 b4 a5 b5 a7 b7 a8 b8 a11 b11 x0 x1 x2 x3 x4 x6 x7 xo10⟩,
    ⟨Rect.unit (s := S8x128x128) ![3, 0, 0] S1x128x128.size inb_S8x128x128_S1x128x128_3_0_0, sl.v316 (F := Ideal) c a1 b1 a2 b2 a3 b3 a4 b4 a5 b5 a7 b7 a8 b8 a11 b11 x0 x1 x2 x3 x4 x6 x7 xo10⟩,
    ⟨Rect.unit (s := S8x128x128) ![2, 0, 0] S1x128x128.size inb_S8x128x128_S1x128x128_2_0_0, sl.v303 (F := Ideal) c a1 b1 a2 b2 a3 b3 a4 b4 a5 b5 a7 b7 a8 b8 a11 b11 x0 x1 x2 x3 x4 x6 x7 xo10⟩,
    ⟨Rect.unit (s := S8x128x128) ![1, 0, 0] S1x128x128.size inb_S8x128x128_S1x128x128_1_0_0, sl.v290 (F := Ideal) c a1 b1 a2 b2 a3 b3 a4 b4 a5 b5 a7 b7 a8 b8 a11 b11 x0 x1 x2 x3 x4 x6 x7 xo10⟩,
    ⟨Rect.unit (s := S8x128x128) ![0, 0, 0] S1x128x128.size inb_S8x128x128_S1x128x128_0_0_0, sl.v277 (F := Ideal) c a1 b1 a2 b2 a3 b3 a4 b4 a5 b5 a7 b7 a8 b8 a11 b11 x0 x1 x2 x3 x4 x6 x7 xo10⟩] :=
    ⟨?_, ?_, ?_, ?_, ?_, ?_, ?_, ?_, trivial⟩
  · exact View.canon_append_of_piecesOf (G10 d R xo10) (sl.H10_8 (F := Ideal) c a1 b1 a2 b2 a3 b3 a4 b4 a5 b5 a7 b7 a8 b8 a11 b11 x0 x1 x2 x3 x4 x6 x7 xo10) _ hp y (View.cover_of_tiledL (s := S8x128x128) _ S1x128x128.size (by sl_kernel_rfl) y)
  · intro x
    obtain ⟨p, q, rfl⟩ := ex3 x
    refine (ws1_7 c d R a1 b1 a2 b2 a3 b3 a4 b4 a5 b5 a6 b6 a7 b7 a8 b8 x0 x1 x2 x3 x4 x5 x6 x7 h a9 b9 a10 b10 a11 b11 a12 b12 a13 b13 a14 b14 xo9 xo10 xo12 xs0 _ _).trans ?_
    refine G10_at d R xo10 7 _ _ _ ?_ ?_ ?_ <;> (rw [ValueKit.rect_emb_unit_val]; rfl)
  · intro x
    obtain ⟨p, q, rfl⟩ := ex3 x
    refine (ws1_6 c d R a1 b1 a2 b2 a3 b3 a4 b4 a5 b5 a6 b6 a7 b7 a8 b8 x0 x1 x2 x3 x4 x5 x6 x7 h a9 b9 a10 b10 a11 b11 a12 b12 a13 b13 a14 b14 xo9 xo10 xo12 xs0 _ _).trans ?_
    refine G10_at d R xo10 6 _ _ _ ?_ ?_ ?_ <;> (rw [ValueKit.rect_emb_unit_val]; rfl)
  · intro x
    obtain ⟨p, q, rfl⟩ := ex3 x
    refine (ws1_5 c d R a1 b1 a2 b2 a3 b3 a4 b4 a5 b5 a6 b6 a7 b7 a8 b8 x0 x1 x2 x3 x4 x5 x6 x7 h a9 b9 a10 b10 a11 b11 a12 b12 a13 b13 a14 b14 xo9 xo10 xo12 xs0 _ _).trans ?_
    refine G10_at d R xo10 5 _ _ _ ?_ ?_ ?_ <;> (rw [ValueKit.rect_emb_unit_val]; rfl)
  · intro x
    obtain ⟨p, q, rfl⟩ := ex3 x
    refine (ws1_4 c d R a1 b1 a2 b2 a3 b3 a4 b4 a5 b5 a6 b6 a7 b7 a8 b8 x0 x1 x2 x3 x4 x5 x6 x7 h a9 b9 a10 b10 a11 b11 a12 b12 a13 b13 a14 b14 xo9 xo10 xo12 xs0 _ _).trans ?_
    refine G10_at d R xo10 4 _ _ _ ?_ ?_ ?_ <;> (rw [ValueKit.rect_emb_unit_val]; rfl)
  · intro x
    obtain ⟨p, q, rfl⟩ := ex3 x
    refine (ws1_3 c d R a1 b1 a2 b2 a3 b3 a4 b4 a5 b5 a6 b6 a7 b7 a8 b8 x0 x1 x2 x3 x4 x5 x6 x7 h a9 b9 a10 b10 a11 b11 a12 b12 a13 b13 a14 b14 xo9 xo10 xo12 xs0 _ _).trans ?_
    refine G10_at d R xo10 3 _ _ _ ?_ ?_ ?_ <;> (rw [ValueKit.rect_emb_unit_val]; rfl)
  · intro x
    obtain ⟨p, q, rfl⟩ := ex3 x
    refine (ws1_2 c d R a1 b1 a2 b2 a3 b3 a4 b4 a5 b5 a6 b6 a7 b7 a8 b8 x0 x1 x2 x3 x4 x5 x6 x7 h a9 b9 a10 b10 a11 b11 a12 b12 a13 b13 a14 b14 xo9 xo10 xo12 xs0 _ _).trans ?_
    refine G10_at d R xo10 2 _ _ _ ?_ ?_ ?_ <;> (rw [ValueKit.rect_emb_unit_val]; rfl)
  · intro x
    obtain ⟨p, q, rfl⟩ := ex3 x
    refine (ws1_1 c d R a1 b1 a2 b2 a3 b3 a4 b4 a5 b5 a6 b6 a7 b7 a8 b8 x0 x1 x2 x3 x4 x5 x6 x7 h a9 b9 a10 b10 a11 b11 a12 b12 a13 b13 a14 b14 xo9 xo10 xo12 xs0 _ _).trans ?_
    refine G10_at d R xo10 1 _ _ _ ?_ ?_ ?_ <;> (rw [ValueKit.rect_emb_unit_val]; rfl)
  · intro x
    obtain ⟨p, q, rfl⟩ := ex3 x
    refine (ws1_0 c d R a1 b1 a2 b2 a3 b3 a4 b4 a5 b5 a6 b6 a7 b7 a8 b8 x0 x1 x2 x3 x4 x5 x6 x7 h a9 b9 a10 b10 a11 b11 a12 b12 a13 b13 a14 b14 xo9 xo10 xo12 xs0 _ _).trans ?_
    refine G10_at d R xo10 0 _ _ _ ?_ ?_ ?_ <;> (rw [ValueKit.rect_emb_unit_val]; rfl)

theorem dbr (g : ℕ) (off : ℕ) (hg : off = 128 * g) (inb : ∀ a, (![0, off] : Fin 2 → ℕ) a + (![128, 128] : Fin 2 → ℕ) a ≤ S128x1024.size a) (p k : Fin 128) : a14.view.readCov (sl.HS0_2 (F := Ideal) c a1 b1 a2 b2 a3 b3 a4 b4 a5 b5 a7 b7 a8 b8 a14 b14 x0 x1 x2 x3 x4 x6 x7 xs0) (Rect.unit (s := S128x1024) ![0, off] ![128, 128] inb).toLoadRect (ix2 p k) = xs0 (ix2 p ⟨128 * g + k, by have := inb 1; simp at this; omega⟩) + ((d.dx (R + p) (128 * g + k) + d.dx (R + (128 + p)) (128 * g + k) : ℝ) : EReal) := by
  subst hg
  have hh := inb 1
  unfold sl.HS0_2
  rw [View.readCov_fill _ _ _ _ _ (by decide)]
  refine Eq.trans ?_ (db c d R a1 b1 a2 b2 a3 b3 a4 b4 a5 b5 a6 b6 a7 b7 a8 b8 x0 x1 x2 x3 x4 x5 x6 x7 h a9 b9 a10 b10 a11 b11 a12 b12 a13 b13 a14 b14 xo9 xo10 xo12 xs0 p ⟨128 * g + k, by simp at hh; omega⟩)
  unfold View.ld
  congr 1
  funext a
  fin_cases a
  · apply Fin.ext; simp
  · apply Fin.ext; simp

theorem dbs_7 (p : Fin 128) : k0_pay3 (F := Ideal) (sl.v474 (F := Ideal) c a1 b1 a2 b2 a3 b3 a4 b4 a5 b5 a7 b7 a8 b8 a14 b14 x0 x1 x2 x3 x4 x6 x7 xs0) (ix2 0 p) = ∑ k : Fin 128, (xs0 (ix2 p ⟨128 * 7 + k, by omega⟩) + ((d.dx (R + p) (128 * 7 + k) + d.dx (R + (128 + p)) (128 * 7 + k) : ℝ) : EReal)) := by
  have e := dbr c d R a1 b1 a2 b2 a3 b3 a4 b4 a5 b5 a6 b6 a7 b7 a8 b8 x0 x1 x2 x3 x4 x5 x6 x7 h a9 b9 a10 b10 a11 b11 a12 b12 a13 b13 a14 b14 xo9 xo10 xo12 xs0 7 896 rfl (by decide) p
  have e2 : ∀ (M : FVec Ideal S128x128 .f32), (∀ k : Fin 128, M (ix2 p k) = xs0 (ix2 p ⟨128 * 7 + k, by omega⟩) + ((d.dx (R + p) (128 * 7 + k) + d.dx (R + (128 + p)) (128 * 7 + k) : ℝ) : EReal)) →
      k0_pay3 (F := Ideal) M (ix2 0 p) = ∑ k : Fin 128, (xs0 (ix2 p ⟨128 * 7 + k, by omega⟩) + ((d.dx (R + p) (128 * 7 + k) + d.dx (R + (128 + p)) (128 * 7 + k) : ℝ) : EReal)) := by
    intro M hM
    pointwise [k0_pay3]
    simp only [hM]
  exact e2 _ e

theorem dbs_6 (p : Fin 128) : k0_pay2 (F := Ideal) (sl.v469 (F := Ideal) c a1 b1 a2 b2 a3 b3 a4 b4 a5 b5 a7 b7 a8 b8 a14 b14 x0 x1 x2 x3 x4 x6 x7 xs0) (ix2 0 p) = ∑ k : Fin 128, (xs0 (ix2 p ⟨128 * 6 + k, by omega⟩) + ((d.dx (R + p) (128 * 6 + k) + d.dx (R + (128 + p)) (128 * 6 + k) : ℝ) : EReal)) := by
  have e := dbr c d R a1 b1 a2 b2 a3 b3 a4 b4 a5 b5 a6 b6 a7 b7 a8 b8 x0 x1 x2 x3 x4 x5 x6 x7 h a9 b9 a10 b10 a11 b11 a12 b12 a13 b13 a14 b14 xo9 xo10 xo12 xs0 6 768 rfl (by decide) p
  have e2 : ∀ (M : FVec Ideal S128x128 .f32), (∀ k : Fin 128, M (ix2 p k) = xs0 (ix2 p ⟨128 * 6 + k, by omega⟩) + ((d.dx (R + p) (128 * 6 + k) + d.dx (R + (128 + p)) (128 * 6 + k) : ℝ) : EReal)) →
      k0_pay2 (F := Ideal) M (ix2 0 p) = ∑ k : Fin 128, (xs0 (ix2 p ⟨128 * 6 + k, by omega⟩) + ((d.dx (R + p) (128 * 6 + k) + d.dx (R + (128 + p)) (128 * 6 + k) : ℝ) : EReal)) := by
    intro M hM
    pointwise [k0_pay2]
    simp only [hM]
  exact e2 _ e

theorem dbs_5 (p : Fin 128) : k0_pay1 (F := Ideal) (sl.r_9 (F := Ideal) c a1 b1 a2 b2 a3 b3 a4 b4 a5 b5 a7 b7 a8 b8 a14 b14 x0 x1 x2 x3 x4 x6 x7 xs0) (ix2 0 p) = ∑ k : Fin 128, (xs0 (ix2 p ⟨128 * 5 + k, by omega⟩) + ((d.dx (R + p) (128 * 5 + k) + d.dx (R + (128 + p)) (128 * 5 + k) : ℝ) : EReal)) := by
  have e := dbr c d R a1 b1 a2 b2 a3 b3 a4 b4 a5 b5 a6 b6 a7 b7 a8 b8 x0 x1 x2 x3 x4 x5 x6 x7 h a9 b9 a10 b10 a11 b11 a12 b12 a13 b13 a14 b14 xo9 xo10 xo12 xs0 5 640 rfl (by decide) p
  have e2 : ∀ (M : FVec Ideal S128x128 .f32), (∀ k : Fin 128, M (ix2 p k) = xs0 (ix2 p ⟨128 * 5 + k, by omega⟩) + ((d.dx (R + p) (128 * 5 + k) + d.dx (R + (128 + p)) (128 * 5 + k) : ℝ) : EReal)) →
      k0_pay1 (F := Ideal) (k0_pay9 (F := Ideal) M) (ix2 0 p) = ∑ k : Fin 128, (xs0 (ix2 p ⟨128 * 5 + k, by omega⟩) + ((d.dx (R + p) (128 * 5 + k) + d.dx (R + (128 + p)) (128 * 5 + k) : ℝ) : EReal)) := by
    intro M hM
    pointwise [k0_pay1, k0_pay9]
    simp only [hM]
  exact e2 _ e

theorem dbs_4 (p : Fin 128) : k0_pay8 (F := Ideal) (sl.v459 (F := Ideal) c a1 b1 a2 b2 a3 b3 a4 b4 a5 b5 a7 b7 a8 b8 a14 b14 x0 x1 x2 x3 x4 x6 x7 xs0) (ix2 0 p) = ∑ k : Fin 128, (xs0 (ix2 p ⟨128 * 4 + k, by omega⟩) + ((d.dx (R + p) (128 * 4 + k) + d.dx (R + (128 + p)) (128 * 4 + k) : ℝ) : EReal)) := by
  have e := dbr c d R a1 b1 a2 b2 a3 b3 a4 b4 a5 b5 a6 b6 a7 b7 a8 b8 x0 x1 x2 x3 x4 x5 x6 x7 h a9 b9 a10 b10 a11 b11 a12 b12 a13 b13 a14 b14 xo9 xo10 xo12 xs0 4 512 rfl (by decide) p
  have e2 : ∀ (M : FVec Ideal S128x128 .f32), (∀ k : Fin 128, M (ix2 p k) = xs0 (ix2 p ⟨128 * 4 + k, by omega⟩) + ((d.dx (R + p) (128 * 4 + k) + d.dx (R + (128 + p)) (128 * 4 + k) : ℝ) : EReal)) →
      k0_pay8 (F := Ideal) M (ix2 0 p) = ∑ k : Fin 128, (xs0 (ix2 p ⟨128 * 4 + k, by omega⟩) + ((d.dx (R + p) (128 * 4 + k) + d.dx (R + (128 + p)) (128 * 4 + k) : ℝ) : EReal)) := by
    intro M hM
    pointwise [k0_pay8]
    simp only [hM]
  exact e2 _ e

theorem dbs_3 (p : Fin 128) : k0_pay7 (F := Ideal) (sl.v454 (F := Ideal) c a1 b1 a2 b2 a3 b3 a4 b4 a5 b5 a7 b7 a8 b8 a14 b14 x0 x1 x2 x3 x4 x6 x7 xs0) (ix2 0 p) = ∑ k : Fin 128, (xs0 (ix2 p ⟨128 * 3 + k, by omega⟩) + ((d.dx (R + p) (128 * 3 + k) + d.dx (R + (128 + p)) (128 * 3 + k) : ℝ) : EReal)) := by
  have e := dbr c d R a1 b1 a2 b2 a3 b3 a4 b4 a5 b5 a6 b6 a7 b7 a8 b8 x0 x1 x2 x3 x4 x5 x6 x7 h a9 b9 a10 b10 a11 b11 a12 b12 a13 b13 a14 b14 xo9 xo10 xo12 xs0 3 384 rfl (by decide) p
  have e2 : ∀ (M : FVec Ideal S128x128 .f32), (∀ k : Fin 128, M (ix2 p k) = xs0 (ix2 p ⟨128 * 3 + k, by omega⟩) + ((d.dx (R + p) (128 * 3 + k) + d.dx (R + (128 + p)) (128 * 3 + k) : ℝ) : EReal)) →
      k0_pay7 (F := Ideal) M (ix2 0 p) = ∑ k : Fin 128, (xs0 (ix2 p ⟨128 * 3 + k, by omega⟩) + ((d.dx (R + p) (128 * 3 + k) + d.dx (R + (128 + p)) (128 * 3 + k) : ℝ) : EReal)) := by
    intro M hM
    pointwise [k0_pay7]
    simp only [hM]
  exact e2 _ e

theorem dbs_2 (p : Fin 128) : k0_pay6 (F := Ideal) (sl.v449 (F := Ideal) c a1 b1 a2 b2 a3 b3 a4 b4 a5 b5 a7 b7 a8 b8 a14 b14 x0 x1 x2 x3 x4 x6 x7 xs0) (ix2 0 p) = ∑ k : Fin 128, (xs0 (ix2 p ⟨128 * 2 + k, by omega⟩) + ((d.dx (R + p) (128 * 2 + k) + d.dx (R + (128 + p)) (128 * 2 + k) : ℝ) : EReal)) := by
  have e := dbr c d R a1 b1 a2 b2 a3 b3 a4 b4 a5 b5 a6 b6 a7 b7 a8 b8 x0 x1 x2 x3 x4 x5 x6 x7 h a9 b9 a10 b10 a11 b11 a12 b12 a13 b13 a14 b14 xo9 xo10 xo12 xs0 2 256 rfl (by decide) p
  have e2 : ∀ (M : FVec Ideal S128x128 .f32), (∀ k : Fin 128, M (ix2 p k) = xs0 (ix2 p ⟨128 * 2 + k, by omega⟩) + ((d.dx (R + p) (128 * 2 + k) + d.dx (R + (128 + p)) (128 * 2 + k) : ℝ) : EReal)) →
      k0_pay6 (F := Ideal) M (ix2 0 p) = ∑ k : Fin 128, (xs0 (ix2 p ⟨128 * 2 + k, by omega⟩) + ((d.dx (R + p) (128 * 2 + k) + d.dx (R + (128 + p)) (128 * 2 + k) : ℝ) : EReal)) := by
    intro M hM
    pointwise [k0_pay6]
    simp only [hM]
  exact e2 _ e

theorem dbs_1 (p : Fin 128) : k0_pay5 (F := Ideal) (sl.v444 (F := Ideal) c a1 b1 a2 b2 a3 b3 a4 b4 a5 b5 a7 b7 a8 b8 a14 b14 x0 x1 x2 x3 x4 x6 x7 xs0) (ix2 0 p) = ∑ k : Fin 128, (xs0 (ix2 p ⟨128 * 1 + k, by omega⟩) + ((d.dx (R + p) (128 * 1 + k) + d.dx (R + (128 + p)) (128 * 1 + k) : ℝ) : EReal)) := by
  have e := dbr c d R a1 b1 a2 b2 a3 b3 a4 b4 a5 b5 a6 b6 a7 b7 a8 b8 x0 x1 x2 x3 x4 x5 x6 x7 h a9 b9 a10 b10 a11 b11 a12 b12 a13 b13 a14 b14 xo9 xo10 xo12 xs0 1 128 rfl (by decide) p
  have e2 : ∀ (M : FVec Ideal S128x128 .f32), (∀ k : Fin 128, M (ix2 p k) = xs0 (ix2 p ⟨128 * 1 + k, by omega⟩) + ((d.dx (R + p) (128 * 1 + k) + d.dx (R + (128 + p)) (128 * 1 + k) : ℝ) : EReal)) →
      k0_pay5 (F := Ideal) M (ix2 0 p) = ∑ k : Fin 128, (xs0 (ix2 p ⟨128 * 1 + k, by omega⟩) + ((d.dx (R + p) (128 * 1 + k) + d.dx (R + (128 + p)) (128 * 1 + k) : ℝ) : EReal)) := by
    intro M hM
    pointwise [k0_pay5]
    simp only [hM]
  exact e2 _ e

theorem dbs_0 (p : Fin 128) : k0_pay4 (F := Ideal) (sl.v439 (F := Ideal) c a1 b1 a2 b2 a3 b3 a4 b4 a5 b5 a7 b7 a8 b8 a14 b14 x0 x1 x2 x3 x4 x6 x7 xs0) (ix2 0 p) = ∑ k : Fin 128, (xs0 (ix2 p ⟨128 * 0 + k, by omega⟩) + ((d.dx (R + p) (128 * 0 + k) + d.dx (R + (128 + p)) (128 * 0 + k) : ℝ) : EReal)) := by
  have e := dbr c d R a1 b1 a2 b2 a3 b3 a4 b4 a5 b5 a6 b6 a7 b7 a8 b8 x0 x1 x2 x3 x4 x5 x6 x7 h a9 b9 a10 b10 a11 b11 a12 b12 a13 b13 a14 b14 xo9 xo10 xo12 xs0 0 0 rfl (by decide) p
  have e2 : ∀ (M : FVec Ideal S128x128 .f32), (∀ k : Fin 128, M (ix2 p k) = xs0 (ix2 p ⟨128 * 0 + k, by omega⟩) + ((d.dx (R + p) (128 * 0 + k) + d.dx (R + (128 + p)) (128 * 0 + k) : ℝ) : EReal)) →
      k0_pay4 (F := Ideal) M (ix2 0 p) = ∑ k : Fin 128, (xs0 (ix2 p ⟨128 * 0 + k, by omega⟩) + ((d.dx (R + p) (128 * 0 + k) + d.dx (R + (128 + p)) (128 * 0 + k) : ℝ) : EReal)) := by
    intro M hM
    pointwise [k0_pay4]
    simp only [hM, Nat.mul_zero, Nat.zero_add]
  exact e2 _ e

theorem o11 (i : grid0.Coords) (hc0 : ¬cond0_0 i) (hc1 : cond0_1 i) (y : S8x128.Idx) : out0_C_11 (F := Ideal) c i a1 b1 a2 b2 a3 b3 a4 b4 a5 b5 a6 b6 a7 b7 a8 b8 a9 b9 a10 b10 a11 b11 a12 b12 a13 b13 a14 b14 hc0 hc1 x0 x1 x2 x3 x4 x5 x6 x7 xo9 xo10 xo12 xs0 y = G11 d R xs0 y := by
  refine (congrFun (View.read_writes_junk_eq_canon VO0_11 _) y).trans ?_
  have hp : View.PiecesOf (Val := Elt Ideal) (e := .f32) (G11 d R xs0) [⟨Rect.unit (s := S8x128) ![7, 0] S1x128.size inb_S8x128_S1x128_7_0, k0_pay3 (F := Ideal) (sl.v474 (F := Ideal) c a1 b1 a2 b2 a3 b3 a4 b4 a5 b5 a7 b7 a8 b8 a14 b14 x0 x1 x2 x3 x4 x6 x7 xs0)⟩,
    ⟨Rect.unit (s := S8x128) ![6, 0] S1x128.size inb_S8x128_S1x128_6_0, k0_pay2 (F := Ideal) (sl.v469 (F := Ideal) c a1 b1 a2 b2 a3 b3 a4 b4 a5 b5 a7 b7 a8 b8 a14 b14 x0 x1 x2 x3 x4 x6 x7 xs0)⟩,
    ⟨Rect.unit (s := S8x128) ![5, 0] S1x128.size inb_S8x128_S1x128_5_0, k0_pay1 (F := Ideal) (sl.r_9 (F := Ideal) c a1 b1 a2 b2 a3 b3 a4 b4 a5 b5 a7 b7 a8 b8 a14 b14 x0 x1 x2 x3 x4 x6 x7 xs0)⟩,
    ⟨Rect.unit (s := S8x128) ![4, 0] S1x128.size inb_S8x128_S1x128_4_0, k0_pay8 (F := Ideal) (sl.v459 (F := Ideal) c a1 b1 a2 b2 a3 b3 a4 b4 a5 b5 a7 b7 a8 b8 a14 b14 x0 x1 x2 x3 x4 x6 x7 xs0)⟩,
    ⟨Rect.unit (s := S8x128) ![3, 0] S1x128.size inb_S8x128_S1x128_3_0, k0_pay7 (F := Ideal) (sl.v454 (F := Ideal) c a1 b1 a2 b2 a3 b3 a4 b4 a5 b5 a7 b7 a8 b8 a14 b14 x0 x1 x2 x3 x4 x6 x7 xs0)⟩,
    ⟨Rect.unit (s := S8x128) ![2, 0] S1x128.size inb_S8x128_S1x128_2_0, k0_pay6 (F := Ideal) (sl.v449 (F := Ideal) c a1 b1 a2 b2 a3 b3 a4 b4 a5 b5 a7 b7 a8 b8 a14 b14 x0 x1 x2 x3 x4 x6 x7 xs0)⟩,
    ⟨Rect.unit (s := S8x128) ![1, 0] S1x128.size inb_S8x128_S1x128_1_0, k0_pay5 (F := Ideal) (sl.v444 (F := Ideal) c a1 b1 a2 b2 a3 b3 a4 b4 a5 b5 a7 b7 a8 b8 a14 b14 x0 x1 x2 x3 x4 x6 x7 xs0)⟩,
    ⟨Rect.unit (s := S8x128) ![0, 0] S1x128.size inb_S8x128_S1x128_0_0, k0_pay4 (F := Ideal) (sl.v439 (F := Ideal) c a1 b1 a2 b2 a3 b3 a4 b4 a5 b5 a7 b7 a8 b8 a14 b14 x0 x1 x2 x3 x4 x6 x7 xs0)⟩] :=
    ⟨?_, ?_, ?_, ?_, ?_, ?_, ?_, ?_, trivial⟩
  · exact View.canon_append_of_piecesOf (G11 d R xs0) [] _ hp y (View.cover_of_tiledL (s := S8x128) _ S1x128.size (by sl_kernel_rfl) y)
  · intro x
    obtain ⟨p, rfl⟩ := ex2 x
    refine (dbs_7 c d R a1 b1 a2 b2 a3 b3 a4 b4 a5 b5 a6 b6 a7 b7 a8 b8 x0 x1 x2 x3 x4 x5 x6 x7 h a9 b9 a10 b10 a11 b11 a12 b12 a13 b13 a14 b14 xo9 xo10 xo12 xs0 _).trans ?_
    refine G11_at d R xs0 7 _ _ ?_ ?_ <;> (rw [ValueKit.rect_emb_unit_val]; rfl)
  · intro x
    obtain ⟨p, rfl⟩ := ex2 x
    refine (dbs_6 c d R a1 b1 a2 b2 a3 b3 a4 b4 a5 b5 a6 b6 a7 b7 a8 b8 x0 x1 x2 x3 x4 x5 x6 x7 h a9 b9 a10 b10 a11 b11 a12 b12 a13 b13 a14 b14 xo9 xo10 xo12 xs0 _).trans ?_
    refine G11_at d R xs0 6 _ _ ?_ ?_ <;> (rw [ValueKit.rect_emb_unit_val]; rfl)
  · intro x
    obtain ⟨p, rfl⟩ := ex2 x
    refine (dbs_5 c d R a1 b1 a2 b2 a3 b3 a4 b4 a5 b5 a6 b6 a7 b7 a8 b8 x0 x1 x2 x3 x4 x5 x6 x7 h a9 b9 a10 b10 a11 b11 a12 b12 a13 b13 a14 b14 xo9 xo10 xo12 xs0 _).trans ?_
    refine G11_at d R xs0 5 _ _ ?_ ?_ <;> (rw [ValueKit.rect_emb_unit_val]; rfl)
  · intro x
    obtain ⟨p, rfl⟩ := ex2 x
    refine (dbs_4 c d R a1 b1 a2 b2 a3 b3 a4 b4 a5 b5 a6 b6 a7 b7 a8 b8 x0 x1 x2 x3 x4 x5 x6 x7 h a9 b9 a10 b10 a11 b11 a12 b12 a13 b13 a14 b14 xo9 xo10 xo12 xs0 _).trans ?_
    refine G11_at d R xs0 4 _ _ ?_ ?_ <;> (rw [ValueKit.rect_emb_unit_val]; rfl)
  · intro x
    obtain ⟨p, rfl⟩ := ex2 x
    refine (dbs_3 c d R a1 b1 a2 b2 a3 b3 a4 b4 a5 b5 a6 b6 a7 b7 a8 b8 x0 x1 x2 x3 x4 x5 x6 x7 h a9 b9 a10 b10 a11 b11 a12 b12 a13 b13 a14 b14 xo9 xo10 xo12 xs0 _).trans ?_
    refine G11_at d R xs0 3 _ _ ?_ ?_ <;> (rw [ValueKit.rect_emb_unit_val]; rfl)
  · intro x
    obtain ⟨p, rfl⟩ := ex2 x
    refine (dbs_2 c d R a1 b1 a2 b2 a3 b3 a4 b4 a5 b5 a6 b6 a7 b7 a8 b8 x0 x1 x2 x3 x4 x5 x6 x7 h a9 b9 a10 b10 a11 b11 a12 b12 a13 b13 a14 b14 xo9 xo10 xo12 xs0 _).trans ?_
    refine G11_at d R xs0 2 _ _ ?_ ?_ <;> (rw [ValueKit.rect_emb_unit_val]; rfl)
  · intro x
    obtain ⟨p, rfl⟩ := ex2 x
    refine (dbs_1 c d R a1 b1 a2 b2 a3 b3 a4 b4 a5 b5 a6 b6 a7 b7 a8 b8 x0 x1 x2 x3 x4 x5 x6 x7 h a9 b9 a10 b10 a11 b11 a12 b12 a13 b13 a14 b14 xo9 xo10 xo12 xs0 _).trans ?_
    refine G11_at d R xs0 1 _ _ ?_ ?_ <;> (rw [ValueKit.rect_emb_unit_val]; rfl)
  · intro x
    obtain ⟨p, rfl⟩ := ex2 x
    refine (dbs_0 c d R a1 b1 a2 b2 a3 b3 a4 b4 a5 b5 a6 b6 a7 b7 a8 b8 x0 x1 x2 x3 x4 x5 x6 x7 h a9 b9 a10 b10 a11 b11 a12 b12 a13 b13 a14 b14 xo9 xo10 xo12 xs0 _).trans ?_
    refine G11_at d R xs0 0 _ _ ?_ ?_ <;> (rw [ValueKit.rect_emb_unit_val]; rfl)

end Cert.Gm.C

end
-- ==== Proof.Gm.KRes.lean ====
module

public import proofs.«01_k».proof.Proof.Gm.Grid
public import proofs.«01_k».proof.Proof.Gm.AccA
public import proofs.«01_k».proof.Proof.Gm.AccB
public import proofs.«01_k».proof.Proof.Gm.AccC
public import proofs.«01_k».proof.Proof.Gen.KernelIdeal.Value

@[expose] public section

set_option maxRecDepth 16384

noncomputable section

open Idealize.ShloMosaic Idealize.ShloMosaic.TcCoe Idealize.SL.Sem
open Idealize.ShloMosaic.Pipeline (Dat)

/- What the kernel's five results hold: by induction over the grid points, the sums over the rows met so far. -/

namespace Cert.Gm.K

open Cert.KernelIdeal Cert.KernelIdeal.Gen
open Finset (range)

variable (d : D)

def s9 (j t : ℕ) : ℝ := ∑ r : Fin 256, d.dl (256 * t + r) j * d.vh (256 * t + r) j
def s12 (j t : ℕ) : ℝ := ∑ r : Fin 256, d.dm (256 * t + r) j * d.gh (256 * t + r) j
def s10 (g p q t : ℕ) : ℝ := wsp d (256 * t) 0 g p q + wsp d (256 * t) 128 g p q
def ss (p j t : ℕ) : ℝ := d.dx (256 * t + p) j + d.dx (256 * t + (128 + p)) j

/-- The sum over points `0 … n`. -/
def upto (f : ℕ → ℝ) : ℕ → ℝ
  | 0 => f 0
  | n + 1 => upto f n + f (n + 1)

theorem upto_eq (f : ℕ → ℝ) (n : ℕ) : upto f n = ∑ t : Fin (n + 1), f t := by
  induction n with
  | zero => simp [upto]
  | succ n ih => rw [upto, ih, Fin.sum_univ_castSucc (n := n + 1)]; rfl

theorem upto_step (f : ℕ → ℝ) (n : ℕ) (hn : n ≠ 0) : upto f (n - 1) + f n = upto f n := by
  cases n with
  | zero => exact absurd rfl hn
  | succ n => rfl

abbrev Tup := Vec Ideal S256x2048 .bf16 × Vec Ideal S1x1024 .f32 × Vec Ideal S8x128x128 .f32 × Vec Ideal S8x128 .f32 × Vec Ideal S1x1024 .f32 × Vec Ideal S128x1024 .f32

/-- What the named outputs and the carried scratch hold after point `n`. -/
structure St (n : ℕ) (a : Tup) : Prop where
  p8 : ∀ y, a.1 y = G8 d (256 * n) y
  p9 : ∀ j : Fin 1024, a.2.1 (ix2 0 j) = ((upto (s9 d j) n : ℝ) : EReal)
  p10 : ∀ y : S8x128x128.Idx, a.2.2.1 y = ((upto (s10 d (y 0).val (y 1).val (y 2).val) n : ℝ) : EReal)
  p12 : ∀ j : Fin 1024, a.2.2.2.2.1 (ix2 0 j) = ((upto (s12 d j) n : ℝ) : EReal)
  ps : n ≠ 15 → ∀ (p : Fin 128) (j : Fin 1024), a.2.2.2.2.2 (ix2 p j) = ((upto (ss d p j) n : ℝ) : EReal)
  p11 : n = 15 → ∀ y : S8x128.Idx, a.2.2.2.1 y = ((∑ k : Fin 128, upto (ss d (y 1).val (128 * (y 0).val + k)) n : ℝ) : EReal)

variable (m : (l : Loc nD τ sig) → Buf (Elt Ideal) l) (c : Dev nD)

theorem acc_step (f : ℕ → ℝ) (n : ℕ) (hn : n ≠ 0) (x : EReal) (hx : x = ((upto f (n - 1) : ℝ) : EReal)) :
    x + ((f n : ℝ) : EReal) = ((upto f n : ℝ) : EReal) := by
  rw [hx, ← EReal.coe_add, upto_step f n hn]

theorem acc_first (f : ℕ → ℝ) (n : ℕ) (hn : n = 0) : ((f n : ℝ) : EReal) = ((upto f n : ℝ) : EReal) := by
  subst hn; rfl

theorem St.of {n : ℕ} {a8 : Vec Ideal S256x2048 .bf16} {a9 : Vec Ideal S1x1024 .f32} {a10 : Vec Ideal S8x128x128 .f32} {a11 : Vec Ideal S8x128 .f32} {a12 : Vec Ideal S1x1024 .f32} {a0 : Vec Ideal S128x1024 .f32}
    (p8 : ∀ y, a8 y = G8 d (256 * n) y)
    (p9 : ∀ j : Fin 1024, a9 (ix2 0 j) = ((upto (s9 d j) n : ℝ) : EReal))
    (p10 : ∀ y : S8x128x128.Idx, a10 y = ((upto (s10 d (y 0).val (y 1).val (y 2).val) n : ℝ) : EReal))
    (p12 : ∀ j : Fin 1024, a12 (ix2 0 j) = ((upto (s12 d j) n : ℝ) : EReal))
    (ps : n ≠ 15 → ∀ (p : Fin 128) (j : Fin 1024), a0 (ix2 p j) = ((upto (ss d p j) n : ℝ) : EReal))
    (p11 : n = 15 → ∀ y : S8x128.Idx, a11 y = ((∑ k : Fin 128, upto (ss d (y 1).val (128 * (y 0).val + k)) n : ℝ) : EReal)) :
    St d n (a8, a9, a10, a11, a12, a0) := ⟨p8, p9, p10, p12, ps, p11⟩

theorem G11_upto (n : ℕ) (hn : n ≠ 0) (x : FVec Ideal S128x1024 .f32) (hx : ∀ (p : Fin 128) (j : Fin 1024), x (ix2 p j) = ((upto (ss d p j) (n - 1) : ℝ) : EReal))
    (y : S8x128.Idx) : G11 d (256 * n) x y = ((∑ k : Fin 128, upto (ss d (y 1).val (128 * (y 0).val + k)) n : ℝ) : EReal) := by
  unfold G11
  rw [← sum_real]
  refine Finset.sum_congr rfl fun k _ => ?_
  exact acc_step (ss d (y 1).val (128 * (y 0).val + k)) n hn _ (hx _ _)

theorem st_A (h : Re6 m c) (t : Fin cfg0.N) (h0 : t.val % 16 = 0) (h1 : ¬t.val % 16 = 15) (hz : t.val = 0) :
    St (dOf m c) t.val (outsAt0 m c t.val t.isLt) := by
  rw [outsAt0_A m c t h0 h1]
  refine St.of _ (fun y => ?_) (fun j => ?_) (fun y => ?_) (fun j => ?_) (fun _ p j => ?_) (fun h15 => absurd h15 (by omega))
  · exact A.o8 c (dOf m c) (256 * t.val) _ _ _ _ _ _ _ _ _ _ _ _ _ _ _ _ _ _ _ _ _ _ _ _ (in_at m c h t) _ _ _ _ _ _ _ _ _ _ _ _ _ _ _ y
  · exact (A.o9 c (dOf m c) (256 * t.val) _ _ _ _ _ _ _ _ _ _ _ _ _ _ _ _ _ _ _ _ _ _ _ _ (in_at m c h t) _ _ _ _ _ _ _ _ _ _ _ _ _ _ _ j).trans (acc_first (s9 (dOf m c) j) _ hz)
  · exact (A.o10 c (dOf m c) (256 * t.val) _ _ _ _ _ _ _ _ _ _ _ _ _ _ _ _ _ _ _ _ _ _ _ _ (in_at m c h t) _ _ _ _ _ _ _ _ _ _ _ _ _ _ _ y).trans (acc_first (s10 (dOf m c) (y 0).val (y 1).val (y 2).val) _ hz)
  · exact (A.o12 c (dOf m c) (256 * t.val) _ _ _ _ _ _ _ _ _ _ _ _ _ _ _ _ _ _ _ _ _ _ _ _ (in_at m c h t) _ _ _ _ _ _ _ _ _ _ _ _ _ _ _ j).trans (acc_first (s12 (dOf m c) j) _ hz)
  · exact (A.os c (dOf m c) (256 * t.val) _ _ _ _ _ _ _ _ _ _ _ _ _ _ _ _ _ _ _ _ _ _ _ _ (in_at m c h t) _ _ _ _ _ _ _ _ _ _ _ _ _ _ _ p j).trans (acc_first (ss (dOf m c) p j) _ hz)

theorem st_B (h : Re6 m c) (t : Fin cfg0.N) (h0 : ¬t.val % 16 = 0) (h1 : ¬t.val % 16 = 15) (hz : t.val ≠ 0)
    (hp : St (dOf m c) (t.val - 1) (outsAt0 m c (t.val - 1) (Nat.lt_of_le_of_lt (Nat.sub_le _ _) t.isLt))) :
    St (dOf m c) t.val (outsAt0 m c t.val t.isLt) := by
  rw [outsAt0_B m c t h0 h1]
  refine St.of _ (fun y => ?_) (fun j => ?_) (fun y => ?_) (fun j => ?_) (fun _ p j => ?_) (fun h15 => absurd h15 (by omega))
  · exact B.o8 c (dOf m c) (256 * t.val) _ _ _ _ _ _ _ _ _ _ _ _ _ _ _ _ _ _ _ _ _ _ _ _ (in_at m c h t) _ _ _ _ _ _ _ _ _ _ _ _ _ _ _ _ _ _ _ y
  · exact (B.o9 c (dOf m c) (256 * t.val) _ _ _ _ _ _ _ _ _ _ _ _ _ _ _ _ _ _ _ _ _ _ _ _ (in_at m c h t) _ _ _ _ _ _ _ _ _ _ _ _ _ _ _ _ _ _ _ j).trans (acc_step (s9 (dOf m c) j) _ hz _ (hp.p9 j))
  · exact (B.o10 c (dOf m c) (256 * t.val) _ _ _ _ _ _ _ _ _ _ _ _ _ _ _ _ _ _ _ _ _ _ _ _ (in_at m c h t) _ _ _ _ _ _ _ _ _ _ _ _ _ _ _ _ _ _ _ y).trans (acc_step (s10 (dOf m c) (y 0).val (y 1).val (y 2).val) _ hz _ (hp.p10 y))
  · exact (B.o12 c (dOf m c) (256 * t.val) _ _ _ _ _ _ _ _ _ _ _ _ _ _ _ _ _ _ _ _ _ _ _ _ (in_at m c h t) _ _ _ _ _ _ _ _ _ _ _ _ _ _ _ _ _ _ _ j).trans (acc_step (s12 (dOf m c) j) _ hz _ (hp.p12 j))
  · exact (B.os c (dOf m c) (256 * t.val) _ _ _ _ _ _ _ _ _ _ _ _ _ _ _ _ _ _ _ _ _ _ _ _ (in_at m c h t) _ _ _ _ _ _ _ _ _ _ _ _ _ _ _ _ _ _ _ p j).trans (acc_step (ss (dOf m c) p j) _ hz _ (hp.ps (by omega) p j))

theorem st_C (h : Re6 m c) (t : Fin cfg0.N) (h0 : ¬t.val % 16 = 0) (h1 : t.val % 16 = 15) (hz : t.val ≠ 0)
    (hp : St (dOf m c) (t.val - 1) (outsAt0 m c (t.val - 1) (Nat.lt_of_le_of_lt (Nat.sub_le _ _) t.isLt))) :
    St (dOf m c) t.val (outsAt0 m c t.val t.isLt) := by
  rw [outsAt0_C m c t h0 h1]
  refine St.of _ (fun y => ?_) (fun j => ?_) (fun y => ?_) (fun j => ?_) (fun h15 => absurd (show t.val = 15 by have := t_lt t; omega) h15) (fun _ y => ?_)
  · exact C.o8 c (dOf m c) (256 * t.val) _ _ _ _ _ _ _ _ _ _ _ _ _ _ _ _ _ _ _ _ _ _ _ _ (in_at m c h t) _ _ _ _ _ _ _ _ _ _ _ _ _ _ _ _ _ _ _ y
  · exact (C.o9 c (dOf m c) (256 * t.val) _ _ _ _ _ _ _ _ _ _ _ _ _ _ _ _ _ _ _ _ _ _ _ _ (in_at m c h t) _ _ _ _ _ _ _ _ _ _ _ _ _ _ _ _ _ _ _ j).trans (acc_step (s9 (dOf m c) j) _ hz _ (hp.p9 j))
  · exact (C.o10 c (dOf m c) (256 * t.val) _ _ _ _ _ _ _ _ _ _ _ _ _ _ _ _ _ _ _ _ _ _ _ _ (in_at m c h t) _ _ _ _ _ _ _ _ _ _ _ _ _ _ _ _ _ _ _ y).trans (acc_step (s10 (dOf m c) (y 0).val (y 1).val (y 2).val) _ hz _ (hp.p10 y))
  · exact (C.o12 c (dOf m c) (256 * t.val) _ _ _ _ _ _ _ _ _ _ _ _ _ _ _ _ _ _ _ _ _ _ _ _ (in_at m c h t) _ _ _ _ _ _ _ _ _ _ _ _ _ _ _ _ _ _ _ j).trans (acc_step (s12 (dOf m c) j) _ hz _ (hp.p12 j))
  · exact (C.o11 c (dOf m c) (256 * t.val) _ _ _ _ _ _ _ _ _ _ _ _ _ _ _ _ _ _ _ _ _ _ _ _ (in_at m c h t) _ _ _ _ _ _ _ _ _ _ _ _ _ _ _ _ _ _ _ y).trans (G11_upto (dOf m c) _ hz _ (hp.ps (by have := t_lt t; omega)) y)

theorem st_all (h : Re6 m c) (n : ℕ) (hn : n < cfg0.N) : St (dOf m c) n (outsAt0 m c n hn) := by
  induction n with
  | zero => exact st_A m c h ⟨0, hn⟩ rfl (by show ¬0 % 16 = 15; omega) rfl
  | succ n ih =>
    have hlt : n + 1 < 16 := t_lt ⟨n + 1, hn⟩
    by_cases h15 : n + 1 = 15
    · exact st_C m c h ⟨n + 1, hn⟩ (by show ¬(n + 1) % 16 = 0; omega) (by show (n + 1) % 16 = 15; omega) (Nat.succ_ne_zero n) (ih (Nat.lt_of_succ_lt hn))
    · exact st_B m c h ⟨n + 1, hn⟩ (by show ¬(n + 1) % 16 = 0; omega) (by show ¬(n + 1) % 16 = 15; omega) (Nat.succ_ne_zero n) (ih (Nat.lt_of_succ_lt hn))

/-! ## The rows regrouped -/

theorem upto_rows (f : ℕ → ℝ) : upto (fun t => ∑ r : Fin 256, f (256 * t + r)) 15 = ∑ r : Fin 4096, f r := by
  rw [upto_eq]
  refine Fin.sum_mul_add_congr (S := 16) (n := 256) (f := fun r : Fin 4096 => f r) fun s k hl => ?_
  rw [Nat.mul_comm]

theorem upto_chunks (f : ℕ → ℝ) : upto (fun t => f (2 * t) + f (2 * t + 1)) 15 = ∑ n : Fin 32, f n := by
  rw [upto_eq]
  refine (Finset.sum_congr rfl fun t _ => ?_).trans (Fin.sum_mul_add_congr (S := 16) (n := 2) (f := fun r : Fin 32 => f r) (F := fun s k => f (s * 2 + k)) fun s k hl => rfl)
  rw [Fin.sum_univ_two, Nat.mul_comm]; rfl

theorem s9_all (j : ℕ) : upto (s9 d j) 15 = d.Dlg j := upto_rows fun r => d.dl r j * d.vh r j
theorem s12_all (j : ℕ) : upto (s12 d j) 15 = d.Dgg j := upto_rows fun r => d.dm r j * d.gh r j
theorem s10_all (g p q : ℕ) : upto (s10 d g p q) 15 = d.Dws g p q := by
  refine Eq.trans (congrArg (upto · 15) ?_) (upto_chunks fun n => ∑ k : Fin 128, d.dx (128 * n + p) (128 * g + k) * d.vl (128 * n + q) (128 * g + k))
  funext t
  unfold s10 wsp
  refine congrArg₂ _ (Finset.sum_congr rfl fun k _ => ?_) (Finset.sum_congr rfl fun k _ => ?_)
  · rw [show 256 * t + (0 + p) = 128 * (2 * t) + p by omega, show 256 * t + (0 + q) = 128 * (2 * t) + q by omega]
  · rw [show 256 * t + (128 + p) = 128 * (2 * t + 1) + p by omega, show 256 * t + (128 + q) = 128 * (2 * t + 1) + q by omega]
theorem ss_all (g p : ℕ) : (∑ k : Fin 128, upto (ss d p (128 * g + k)) 15) = d.Dbs g p := by
  refine Finset.sum_congr rfl fun k _ => ?_
  refine Eq.trans (congrArg (upto · 15) ?_) (upto_chunks fun n => d.dx (128 * n + p) (128 * g + k))
  funext t
  unfold ss
  rw [show 256 * t + p = 128 * (2 * t) + p by omega, show 256 * t + (128 + p) = 128 * (2 * t + 1) + p by omega]

/-! ## The results -/

theorem res8 (h : Re6 m c) (i : S4096x2048.Idx) : Value.G8 m c i = ((if (i 1).val < 1024 then (dOf m c).Du (i 0).val (i 1).val else (dOf m c).Dv (i 0).val ((i 1).val - 1024) : ℝ) : EReal) := by
  have h0 : (i 0).val < 4096 := (i 0).isLt
  have h1 : (i 1).val < 2048 := (i 1).isLt
  have hp : Value.pt8Of i = (i 0).val / 256 := by
    show 1 * ((i 0).val / 256 - 0) + 1 * ((i 1).val / 2048 - 0) = _
    omega
  have hlt : Value.pt8Of i < cfg0.N := by rw [hp]; exact lt_of_lt_of_eq (by omega : _ < 16) N_0.symm
  unfold Value.G8
  rw [dif_pos hlt, ← Value.outsAt0_sweep m c _ hlt, (st_all m c h _ hlt).p8 _]
  unfold G8
  have e0 : 256 * Value.pt8Of i + (Value.loc8Of i 0).val = (i 0).val := by
    show 256 * Value.pt8Of i + (i 0).val % 256 = _
    rw [hp]; omega
  have e1 : (Value.loc8Of i 1).val = (i 1).val := by
    show (i 1).val % 2048 = _
    omega
  rw [e0, e1]

theorem lt15 : 15 < cfg0.N := lt_of_lt_of_eq (by decide) N_0.symm

theorem res9 (h : Re6 m c) (j : Fin 1024) : Value.G9 m c (ix2 0 j) = (((dOf m c).Dlg j : ℝ) : EReal) := by
  rw [Value.G9_last, ← Value.outsAt0_sweep m c 15 lt15, (st_all m c h 15 lt15).p9, s9_all]
theorem res10 (h : Re6 m c) (y : S8x128x128.Idx) : Value.G10 m c y = (((dOf m c).Dws (y 0).val (y 1).val (y 2).val : ℝ) : EReal) := by
  rw [Value.G10_last, ← Value.outsAt0_sweep m c 15 lt15, (st_all m c h 15 lt15).p10, s10_all]
theorem res11 (h : Re6 m c) (y : S8x128.Idx) : Value.G11 m c y = (((dOf m c).Dbs (y 0).val (y 1).val : ℝ) : EReal) := by
  rw [Value.G11_last, ← Value.outsAt0_sweep m c 15 lt15, (st_all m c h 15 lt15).p11 rfl, ss_all]
theorem res12 (h : Re6 m c) (j : Fin 1024) : Value.G12 m c (ix2 0 j) = (((dOf m c).Dgg j : ℝ) : EReal) := by
  rw [Value.G12_last, ← Value.outsAt0_sweep m c 15 lt15, (st_all m c h 15 lt15).p12, s12_all]

end Cert.Gm.K

end
-- ==== Proof.Gm.Ref1.lean ====
module

public import proofs.«01_k».proof.Proof.Gm.Data
public import proofs.«01_k».proof.Proof.Gen.ReferenceIdeal.Read
public import Idealize.ShloMosaic.Lib.Pipeline.ValueKit
public import Idealize.ShloMosaic.Lib.Pointwise

@[expose] public section

set_option maxRecDepth 16384

noncomputable section

open Idealize.ShloMosaic Idealize.ShloMosaic.TcCoe

/- The reference's forward stages over the real numbers. -/

namespace Cert.Gm.R

open Cert.ReferenceIdeal Cert.ReferenceIdeal.Read

theorem sqrt_half : Real.sqrt (1 / 2) = s2 := by
  unfold s2
  rw [one_div, Real.sqrt_inv]

variable (x0 : (⟨S4096x5120, .bf16⟩ : BufTy).Contents (Elt Ideal)) (x1 : (⟨S4096x2048, .bf16⟩ : BufTy).Contents (Elt Ideal))
  (x2 : (⟨S1024, .f32⟩ : BufTy).Contents (Elt Ideal)) (x3 : (⟨S8x128x128, .f32⟩ : BufTy).Contents (Elt Ideal))
  (x4 : (⟨S8x128, .f32⟩ : BufTy).Contents (Elt Ideal)) (x5 : (⟨S1024, .f32⟩ : BufTy).Contents (Elt Ideal))
variable (a0 : IsRe (s := S4096x5120) x0) (a1 : IsRe (s := S4096x2048) x1) (a2 : IsRe (s := S1024) x2)
  (a3 : IsRe (s := S8x128x128) x3) (a4 : IsRe (s := S8x128) x4) (a5 : IsRe (s := S1024) x5)

include a0 in
theorem e4 (r : Fin 4096) (j : Fin 2048) : val_main_v4 (F := Ideal) x0 (ix3 0 r j) = ((at2 x0 r (3072 + j) : ℝ) : EReal) := by
  pointwise [val_main_v4, val_main_v1, val_main_v0]
  exact at2_eq a0 _ _ _ _ rfl rfl

theorem div_real (x y : ℝ) (h : y ≠ 0) : Ideal.div (x : EReal) (y : EReal) = ((x * y⁻¹ : ℝ) : EReal) := by
  rw [Ideal.div_coe h, ← EReal.coe_mul, one_div]

theorem e8 (i) : val_main_v8 (F := Ideal) i = ((s2 : ℝ) : EReal) := by
  pointwise [val_main_v8, val_main_cst_0]
  rw [w_half, Ideal.sqrt_coe, sqrt_half, if_neg (by norm_num)]

theorem e15 (i) : val_main_v15 (F := Ideal) i = ((-(2 / Real.sqrt Real.pi) : ℝ) : EReal) := by
  pointwise [val_main_v15, val_main_v14, val_main_v13, val_main_v12, val_main_cst_1, val_main_cst_2]
  rw [w_two, w_none, Ideal.acos_coe, if_pos (by norm_num), Real.arccos_neg_one, Ideal.sqrt_coe, if_neg (not_lt.mpr Real.pi_pos.le),
    div_real _ _ (Real.sqrt_ne_zero'.mpr Real.pi_pos), ← EReal.coe_neg, div_eq_mul_inv]

include a0 in
theorem e11 (r : Fin 4096) (j : Fin 2048) : val_main_v11 (F := Ideal) x0 (ix3 0 r j) = ((1 + erfR (at2 x0 r (3072 + j) * s2) : ℝ) : EReal) := by
  pointwise [val_main_v11, val_main_v10, val_main_v9, val_main_v7]
  rw [e4 x0 a0, e8, EReal.neg_mul, Ideal.erfc_neg, ← EReal.coe_mul, erf_real, EReal.coe_add, EReal.coe_one]

theorem s2_sq : s2 * s2 = 1 / 2 := by
  rw [← sqrt_half, Real.mul_self_sqrt (by norm_num)]

include a0 in
theorem e18 (r : Fin 4096) (j : Fin 2048) : val_main_v18 (F := Ideal) x0 (ix3 0 r j) = ((Real.exp (-1 / 2 * at2 x0 r (3072 + j) * at2 x0 r (3072 + j)) : ℝ) : EReal) := by
  pointwise [val_main_v18, val_main_v17, val_main_v16, val_main_v10, val_main_v9, val_main_v7]
  rw [e4 x0 a0, e8]
  simp only [← EReal.coe_neg, ← EReal.coe_mul, Ideal.exp_coe]
  congr 2
  linear_combination (-(at2 x0 r (3072 + j) * at2 x0 r (3072 + j))) * s2_sq
include a0 in
theorem e19 (r : Fin 4096) (j : Fin 2048) : val_main_v19 (F := Ideal) x0 (ix3 0 r j) = ((ge (at2 x0 r (3072 + j)) : ℝ) : EReal) := by
  pointwise [val_main_v19, val_main_v6, val_main_v5, val_main_cst]
  rw [e4 x0 a0, e11 x0 a0, w_half]
  simp only [← EReal.coe_mul]
  rfl
include a0 in
theorem e20 (r : Fin 4096) (j : Fin 1024) : val_main_v20 (F := Ideal) x0 (ix3 0 r j) = (((dat x0 x1 x2 x3 x4 x5).U r j : ℝ) : EReal) := by
  pointwise [val_main_v20]
  exact e19 x0 a0 r _
include a0 in
theorem e21 (r : Fin 4096) (j : Fin 1024) : val_main_v21 (F := Ideal) x0 (ix3 0 r j) = (((dat x0 x1 x2 x3 x4 x5).V r j : ℝ) : EReal) := by
  pointwise [val_main_v21]
  rw [e19 x0 a0]
  show ((ge (at2 x0 r (3072 + (1024 + j))) : ℝ) : EReal) = ((ge (at2 x0 r (4096 + j)) : ℝ) : EReal)
  rw [← Nat.add_assoc]
include a0 in
theorem e27 (r : Fin 4096) (j : Fin 1024) : val_main_v27 (F := Ideal) x0 (ix3 0 r j) = (((dat x0 x1 x2 x3 x4 x5).xc r j : ℝ) : EReal) := by
  pointwise [val_main_v27, val_main_v26, val_main_v25, val_main_v24, val_main_v23, val_main_v22, val_main_cst_3, val_main_cst_4]
  simp only [e21 x0 x1 x2 x3 x4 x5 a0, sum_real, w_1024, div_1024, ← EReal.coe_sub]
  rfl
include a0 in
theorem e34 (r : Fin 4096) : val_main_v34 (F := Ideal) x0 (ix3 0 r 0) = (((dat x0 x1 x2 x3 x4 x5).var r + eps : ℝ) : EReal) := by
  pointwise [val_main_v34, val_main_v33, val_main_v32, val_main_v31, val_main_v30, val_main_v29, val_main_v28, val_main_cst_5, val_main_cst_6, val_main_cst_7]
  simp only [e27 x0 x1 x2 x3 x4 x5 a0, ← EReal.coe_mul, sum_real, w_1024, div_1024, w_eps, ← EReal.coe_add]
  rfl
include a0 in
theorem e35 (r : Fin 4096) : val_main_v35 (F := Ideal) x0 (ix3 0 r 0) = (((dat x0 x1 x2 x3 x4 x5).rs r : ℝ) : EReal) := by
  pointwise [val_main_v35]
  rw [e34 x0 x1 x2 x3 x4 x5 a0, rsqrt_real ((dat x0 x1 x2 x3 x4 x5).var_pos r)]
  rfl
include a0 in
theorem e38 (r : Fin 4096) : val_main_v38 (F := Ideal) x0 (ix3 0 r 0) = ((-1 / 2 * ((dat x0 x1 x2 x3 x4 x5).rs r * ((dat x0 x1 x2 x3 x4 x5).var r + eps)⁻¹) : ℝ) : EReal) := by
  pointwise [val_main_v38, val_main_v37, val_main_v36, val_main_cst_8]
  rw [e34 x0 x1 x2 x3 x4 x5 a0, e35 x0 x1 x2 x3 x4 x5 a0, w_nhalf, div_real _ _ ((dat x0 x1 x2 x3 x4 x5).var_pos r).ne']
  simp only [← EReal.coe_mul]
include a0 in
theorem e40 (r : Fin 4096) (j : Fin 1024) : val_main_v40 (F := Ideal) x0 (ix3 0 r j) = (((dat x0 x1 x2 x3 x4 x5).vh r j : ℝ) : EReal) := by
  pointwise [val_main_v40, val_main_v39]
  rw [e27 x0 x1 x2 x3 x4 x5 a0, e35 x0 x1 x2 x3 x4 x5 a0, ← EReal.coe_mul]
  rfl
include a0 a2 in
theorem e43 (r : Fin 4096) (j : Fin 1024) : val_main_v43 (F := Ideal) x0 x2 (ix3 0 r j) = (((dat x0 x1 x2 x3 x4 x5).vl r j : ℝ) : EReal) := by
  pointwise [val_main_v43, val_main_v42, val_main_v41]
  rw [e40 x0 x1 x2 x3 x4 x5 a0, at1_eq a2 _ j rfl, ← EReal.coe_mul]
  rfl
include a0 a2 in
theorem e44 (n : Fin 32) (p : Fin 128) (g : Fin 8) (k : Fin 128) : val_main_v44 (F := Ideal) x0 x2 (ix5 0 n p g k) = (((dat x0 x1 x2 x3 x4 x5).vl (128 * n + p) (128 * g + k) : ℝ) : EReal) := by
  pointwise [val_main_v44]
  rw [e43 x0 x1 x2 x3 x4 x5 a0 a2]
  show (((dat x0 x1 x2 x3 x4 x5).vl (n * 128 + p) (g * 128 + k) : ℝ) : EReal) = _
  rw [Nat.mul_comm n.val, Nat.mul_comm g.val]
include a0 a2 a3 in
theorem e45 (n : Fin 32) (p : Fin 128) (g : Fin 8) (k : Fin 128) : val_main_v45 (F := Ideal) x0 x2 x3 (ix5 g 0 n k p) = ((∑ q : Fin 128, (dat x0 x1 x2 x3 x4 x5).ws g p q * (dat x0 x1 x2 x3 x4 x5).vl (128 * n + q) (128 * g + k) : ℝ) : EReal) := by
  pointwise [val_main_v45]
  rw [← sum_real]
  refine Finset.sum_congr rfl fun q _ => ?_
  rw [e44 x0 x1 x2 x3 x4 x5 a0 a2, at3_eq a3 g p q _ _ _ rfl rfl rfl, ← EReal.coe_mul, mul_comm]
  rfl
include a0 a2 a3 a4 in
theorem e51 (r : Fin 4096) (j : Fin 1024) : val_main_v51 (F := Ideal) x0 x2 x3 x4 (ix3 0 r j) = (((dat x0 x1 x2 x3 x4 x5).mx r j : ℝ) : EReal) := by
  pointwise [val_main_v51, val_main_v50, val_main_v49, val_main_v48, val_main_v47, val_main_v46]
  rw [e45 x0 x1 x2 x3 x4 x5 a0 a2 a3, at2_eq a4 _ _ (j.val / 128) (r.val % 128) rfl rfl, ← EReal.coe_add]
  refine congrArg _ (congrArg (· + _) (Finset.sum_congr rfl fun q _ => ?_))
  show (dat x0 x1 x2 x3 x4 x5).ws (j / 128) (r % 128) q * (dat x0 x1 x2 x3 x4 x5).vl (128 * (r / 128) + q) (128 * (j / 128) + j % 128) = _
  rw [Nat.div_add_mod, Nat.mul_comm 128]
include a0 a2 a3 a4 in
theorem e52 (r : Fin 4096) (j : Fin 1024) : val_main_v52 (F := Ideal) x0 x2 x3 x4 (ix3 0 r j) = (((dat x0 x1 x2 x3 x4 x5).go r j : ℝ) : EReal) := by
  pointwise [val_main_v52]
  rw [e20 x0 x1 x2 x3 x4 x5 a0, e51 x0 x1 x2 x3 x4 x5 a0 a2 a3 a4, ← EReal.coe_mul]
  rfl
include a0 a2 a3 a4 in
theorem e59 (r : Fin 4096) : val_main_v59 (F := Ideal) x0 x2 x3 x4 (ix3 0 r 0) = (((dat x0 x1 x2 x3 x4 x5).ms r + eps : ℝ) : EReal) := by
  pointwise [val_main_v59, val_main_v58, val_main_v57, val_main_v56, val_main_v55, val_main_v54, val_main_v53, val_main_cst_9, val_main_cst_10, val_main_cst_11]
  simp only [e52 x0 x1 x2 x3 x4 x5 a0 a2 a3 a4, ← EReal.coe_mul, sum_real, w_1024, div_1024, w_eps, ← EReal.coe_add]
  rfl
include a0 a2 a3 a4 in
theorem e60 (r : Fin 4096) : val_main_v60 (F := Ideal) x0 x2 x3 x4 (ix3 0 r 0) = (((dat x0 x1 x2 x3 x4 x5).rr r : ℝ) : EReal) := by
  pointwise [val_main_v60]
  rw [e59 x0 x1 x2 x3 x4 x5 a0 a2 a3 a4, rsqrt_real ((dat x0 x1 x2 x3 x4 x5).ms_pos r)]
  rfl
include a0 a2 a3 a4 in
theorem e63 (r : Fin 4096) : val_main_v63 (F := Ideal) x0 x2 x3 x4 (ix3 0 r 0) = ((-1 / 2 * ((dat x0 x1 x2 x3 x4 x5).rr r * ((dat x0 x1 x2 x3 x4 x5).ms r + eps)⁻¹) : ℝ) : EReal) := by
  pointwise [val_main_v63, val_main_v62, val_main_v61, val_main_cst_12]
  rw [e59 x0 x1 x2 x3 x4 x5 a0 a2 a3 a4, e60 x0 x1 x2 x3 x4 x5 a0 a2 a3 a4, w_nhalf, div_real _ _ ((dat x0 x1 x2 x3 x4 x5).ms_pos r).ne']
  simp only [← EReal.coe_mul]
include a0 a2 a3 a4 in
theorem e65 (r : Fin 4096) (j : Fin 1024) : val_main_v65 (F := Ideal) x0 x2 x3 x4 (ix3 0 r j) = (((dat x0 x1 x2 x3 x4 x5).gh r j : ℝ) : EReal) := by
  pointwise [val_main_v65, val_main_v64]
  rw [e52 x0 x1 x2 x3 x4 x5 a0 a2 a3 a4, e60 x0 x1 x2 x3 x4 x5 a0 a2 a3 a4, ← EReal.coe_mul]
  rfl

end Cert.Gm.R

end
-- ==== Proof.Gm.Ref2.lean ====
module

public import proofs.«01_k».proof.Proof.Gm.Ref1

@[expose] public section

set_option maxRecDepth 16384

noncomputable section

open Idealize.ShloMosaic Idealize.ShloMosaic.TcCoe

/- The reference's backward stages over the real numbers. -/

namespace Cert.Gm.R

open Cert.ReferenceIdeal Cert.ReferenceIdeal.Read

variable (x0 : (⟨S4096x5120, .bf16⟩ : BufTy).Contents (Elt Ideal)) (x1 : (⟨S4096x2048, .bf16⟩ : BufTy).Contents (Elt Ideal))
  (x2 : (⟨S1024, .f32⟩ : BufTy).Contents (Elt Ideal)) (x3 : (⟨S8x128x128, .f32⟩ : BufTy).Contents (Elt Ideal))
  (x4 : (⟨S8x128, .f32⟩ : BufTy).Contents (Elt Ideal)) (x5 : (⟨S1024, .f32⟩ : BufTy).Contents (Elt Ideal))
variable (a0 : IsRe (s := S4096x5120) x0) (a1 : IsRe (s := S4096x2048) x1) (a2 : IsRe (s := S1024) x2)
  (a3 : IsRe (s := S8x128x128) x3) (a4 : IsRe (s := S8x128) x4) (a5 : IsRe (s := S1024) x5)

/-! ## Sums over several axes, read at an index -/

theorem red_a01 (h : S1x1x1024.ReducesTo [0, 1] S1024) (v : S1x1x1024.Idx → EReal) (j : Fin 1024) :
    Ideal.hostReduceAdd h v 0 (ix1 j) = v (ix3 0 0 j) := by
  unfold Ideal.hostReduceAdd
  rw [zero_add, Finset.sum_filter_eq_sum_of_fiber _ (fun _ : Unit => (ix3 0 0 j : S1x1x1024.Idx)) (fun _ _ _ => rfl)]
  · simp
  · intro i
    constructor
    · intro e
      refine ⟨(), ?_⟩
      funext a; apply Fin.ext
      match a with
      | ⟨0, _⟩ => have : (i 0).val < 1 := (i 0).isLt; show 0 = (i 0).val; omega
      | ⟨1, _⟩ => have : (i 1).val < 1 := (i 1).isLt; show 0 = (i 1).val; omega
      | ⟨2, _⟩ => exact (congrArg Fin.val (congrFun e (0 : Fin 1))).symm
    · rintro ⟨_, rfl⟩
      funext b
      match b with
      | ⟨0, _⟩ => rfl

theorem red_a02 (h : S1x4096x1.ReducesTo [0, 2] S4096) (v : S1x4096x1.Idx → EReal) (r : Fin 4096) :
    Ideal.hostReduceAdd h v 0 (ix1 r) = v (ix3 0 r 0) := by
  unfold Ideal.hostReduceAdd
  rw [zero_add, Finset.sum_filter_eq_sum_of_fiber _ (fun _ : Unit => (ix3 0 r 0 : S1x4096x1.Idx)) (fun _ _ _ => rfl)]
  · simp
  · intro i
    constructor
    · intro e
      refine ⟨(), ?_⟩
      funext a; apply Fin.ext
      match a with
      | ⟨0, _⟩ => have : (i 0).val < 1 := (i 0).isLt; show 0 = (i 0).val; omega
      | ⟨2, _⟩ => have : (i 2).val < 1 := (i 2).isLt; show 0 = (i 2).val; omega
      | ⟨1, _⟩ => exact (congrArg Fin.val (congrFun e (0 : Fin 1))).symm
    · rintro ⟨_, rfl⟩
      funext b
      match b with
      | ⟨0, _⟩ => rfl

theorem red_a014 (h : S1x1x128x8x1.ReducesTo [0, 1, 4] S128x8) (v : S1x1x128x8x1.Idx → EReal) (p : Fin 128) (g : Fin 8) :
    Ideal.hostReduceAdd h v 0 (ix2 p g) = v (ix5 0 0 p g 0) := by
  unfold Ideal.hostReduceAdd
  rw [zero_add, Finset.sum_filter_eq_sum_of_fiber _ (fun _ : Unit => (ix5 0 0 p g 0 : S1x1x128x8x1.Idx)) (fun _ _ _ => rfl)]
  · simp
  · intro i
    constructor
    · intro e
      refine ⟨(), ?_⟩
      funext a; apply Fin.ext
      match a with
      | ⟨0, _⟩ => have : (i 0).val < 1 := (i 0).isLt; show 0 = (i 0).val; omega
      | ⟨1, _⟩ => have : (i 1).val < 1 := (i 1).isLt; show 0 = (i 1).val; omega
      | ⟨4, _⟩ => have : (i 4).val < 1 := (i 4).isLt; show 0 = (i 4).val; omega
      | ⟨2, _⟩ => exact (congrArg Fin.val (congrFun e (0 : Fin 2))).symm
      | ⟨3, _⟩ => exact (congrArg Fin.val (congrFun e (1 : Fin 2))).symm
    · rintro ⟨_, rfl⟩
      funext b
      match b with
      | ⟨0, _⟩ => rfl
      | ⟨1, _⟩ => rfl

theorem red_a14 (h : S1x32x128x8x128.ReducesTo [1, 4] S1x128x8) (v : S1x32x128x8x128.Idx → EReal) (p : Fin 128) (g : Fin 8) :
    Ideal.hostReduceAdd h v 0 (ix3 0 p g) = ∑ n : Fin 32, ∑ k : Fin 128, v (ix5 0 n p g k) := by
  unfold Ideal.hostReduceAdd
  rw [zero_add, Finset.sum_filter_eq_sum_of_fiber _ (fun nk : Fin 32 × Fin 128 => (ix5 0 nk.1 p g nk.2 : S1x32x128x8x128.Idx))
    (fun a b e => Prod.ext (congrFun e 1) (congrFun e 4))]
  · simp only [Fintype.sum_prod_type]
  · intro i
    constructor
    · intro e
      refine ⟨(i 1, i 4), ?_⟩
      funext a; apply Fin.ext
      match a with
      | ⟨0, _⟩ => have : (i 0).val < 1 := (i 0).isLt; show 0 = (i 0).val; omega
      | ⟨1, _⟩ => rfl
      | ⟨4, _⟩ => rfl
      | ⟨2, _⟩ => exact (congrArg Fin.val (congrFun e (1 : Fin 3))).symm
      | ⟨3, _⟩ => exact (congrArg Fin.val (congrFun e (2 : Fin 3))).symm
    · rintro ⟨_, rfl⟩
      funext b
      match b with
      | ⟨0, _⟩ => rfl
      | ⟨1, _⟩ => rfl
      | ⟨2, _⟩ => rfl

/-- The contraction's index from its chunk and its lane. -/
def kk (nk : Fin 32 × Fin 128) : dot_S8x1x32x128x128_S1x32x128x8x128_S8x128x128_123_014_4_2_0_3.contr.Idx := fun a =>
  match a with
  | ⟨0, _⟩ => (0 : Fin 1)
  | ⟨1, _⟩ => nk.1
  | ⟨2, _⟩ => nk.2
  | ⟨n + 3, h⟩ => absurd (show n + 3 < 3 from h) (by omega)

def kkEquiv : Fin 32 × Fin 128 ≃ dot_S8x1x32x128x128_S1x32x128x8x128_S8x128x128_123_014_4_2_0_3.contr.Idx where
  toFun := kk
  invFun i := (i (1 : Fin 3), i (2 : Fin 3))
  left_inv _ := rfl
  right_inv i := by
    funext a
    match a with
    | ⟨0, _⟩ => exact Subsingleton.elim (α := Fin 1) _ _
    | ⟨1, _⟩ => rfl
    | ⟨2, _⟩ => rfl
    | ⟨n + 3, h⟩ => exact absurd (show n + 3 < 3 from h) (by omega)

/-- The product over chunks and lanes. -/
theorem dot3 (a : S8x1x32x128x128.Idx → EReal) (b : S1x32x128x8x128.Idx → EReal) (g : Fin 8) (p q : Fin 128) :
    Ideal.matmul dot_S8x1x32x128x128_S1x32x128x8x128_S8x128x128_123_014_4_2_0_3 a b (fun _ => 0) (ix3 g p q)
      = ∑ n : Fin 32, ∑ k : Fin 128, a (ix5 g 0 n k p) * b (ix5 0 n q g k) := by
  unfold Ideal.matmul
  rw [zero_add]
  refine Eq.trans ?_ (Fintype.sum_prod_type (f := fun nk : Fin 32 × Fin 128 => a (ix5 g 0 nk.1 nk.2 p) * b (ix5 0 nk.1 q g nk.2)))
  refine (Fintype.sum_equiv kkEquiv _ _ fun nk => ?_).symm
  refine congrArg₂ (· * ·) (congrArg a ?_) (congrArg b ?_)
  · funext x
    match x with
    | ⟨0, _⟩ => rfl
    | ⟨1, _⟩ => rfl
    | ⟨2, _⟩ => rfl
    | ⟨3, _⟩ => rfl
    | ⟨4, _⟩ => rfl
  · funext x
    match x with
    | ⟨0, _⟩ => rfl
    | ⟨1, _⟩ => rfl
    | ⟨2, _⟩ => rfl
    | ⟨3, _⟩ => rfl
    | ⟨4, _⟩ => rfl

end Cert.Gm.R

end
-- ==== Proof.Gm.Ref3.lean ====
module

public import proofs.«01_k».proof.Proof.Gm.Ref2

@[expose] public section

set_option maxRecDepth 16384

noncomputable section

open Idealize.ShloMosaic Idealize.ShloMosaic.TcCoe

/- The reference's backward stages over the real numbers. -/

namespace Cert.Gm.R

open Cert.ReferenceIdeal Cert.ReferenceIdeal.Read

variable (x0 : (⟨S4096x5120, .bf16⟩ : BufTy).Contents (Elt Ideal)) (x1 : (⟨S4096x2048, .bf16⟩ : BufTy).Contents (Elt Ideal))
  (x2 : (⟨S1024, .f32⟩ : BufTy).Contents (Elt Ideal)) (x3 : (⟨S8x128x128, .f32⟩ : BufTy).Contents (Elt Ideal))
  (x4 : (⟨S8x128, .f32⟩ : BufTy).Contents (Elt Ideal)) (x5 : (⟨S1024, .f32⟩ : BufTy).Contents (Elt Ideal))
variable (a0 : IsRe (s := S4096x5120) x0) (a1 : IsRe (s := S4096x2048) x1) (a2 : IsRe (s := S1024) x2)
  (a3 : IsRe (s := S8x128x128) x3) (a4 : IsRe (s := S8x128) x4) (a5 : IsRe (s := S1024) x5)

/-! ## Real identities -/

theorem rr_sq (e : D) (r : ℕ) : (e.ms r + eps)⁻¹ = e.rr r * e.rr r := by
  unfold D.rr
  rw [← mul_inv, Real.mul_self_sqrt (e.ms_pos r).le]
theorem rs_sq (e : D) (r : ℕ) : (e.var r + eps)⁻¹ = e.rs r * e.rs r := by
  unfold D.rs
  rw [← mul_inv, Real.mul_self_sqrt (e.var_pos r).le]

def qg (e : D) (r : ℕ) : ℝ := (∑ k : Fin 1024, e.go r k * e.dn r k) * (-1 / 2 * (e.rr r * (e.ms r + eps)⁻¹)) * (1 / 1024)
def qv (e : D) (r : ℕ) : ℝ := (∑ k : Fin 1024, e.xc r k * e.dh r k) * (-1 / 2 * (e.rs r * (e.var r + eps)⁻¹)) * (1 / 1024)

theorem dg_eq (e : D) (r j : ℕ) : e.dn r j * e.rr r + e.go r j * qg e r + qg e r * e.go r j = e.dg r j := by
  have h : (∑ k : Fin 1024, e.dn r k * e.gh r k) = (∑ k : Fin 1024, e.go r k * e.dn r k) * e.rr r := by
    rw [Finset.sum_mul]
    refine Finset.sum_congr rfl fun k _ => ?_
    unfold D.gh; ring
  unfold D.dg qg
  rw [h, rr_sq]
  unfold D.gh
  ring

theorem sum_xc (e : D) (r : ℕ) : (∑ k : Fin 1024, e.xc r k) = 0 := by
  unfold D.xc
  rw [Finset.sum_sub_distrib, Finset.sum_const, Finset.card_univ, Fintype.card_fin]
  unfold D.mu
  rw [nsmul_eq_mul]
  push_cast
  ring

def dz (e : D) (r j : ℕ) : ℝ := e.dh r j * e.rs r + e.xc r j * qv e r + qv e r * e.xc r j

theorem dv_eq (e : D) (r j : ℕ) : dz e r j + (∑ k : Fin 1024, -dz e r k) * (1 / 1024) = e.dv r j := by
  have h : (∑ k : Fin 1024, e.dh r k * e.vh r k) = (∑ k : Fin 1024, e.xc r k * e.dh r k) * e.rs r := by
    rw [Finset.sum_mul]
    refine Finset.sum_congr rfl fun k _ => ?_
    unfold D.vh; ring
  have h2 : (∑ k : Fin 1024, -dz e r k) = -((∑ k : Fin 1024, e.dh r k) * e.rs r) := by
    have h3 : ∀ k : Fin 1024, -dz e r k = -(e.dh r k * e.rs r) - 2 * qv e r * e.xc r k := fun k => by unfold dz; ring
    rw [Finset.sum_congr rfl fun k _ => h3 k, Finset.sum_sub_distrib, Finset.sum_neg_distrib, ← Finset.sum_mul, ← Finset.mul_sum, sum_xc]
    ring
  rw [h2]
  unfold D.dv dz qv
  rw [h, rs_sq]
  unfold D.vh
  ring

theorem s2_pi : s2 * (Real.sqrt Real.pi)⁻¹ = s2p := by
  unfold s2 s2p
  rw [Real.sqrt_mul (by norm_num), mul_inv]

theorem gd_eq (x D : ℝ) : -(-(2 / Real.sqrt Real.pi) * (1 / 2 * x * D * Real.exp (-1 / 2 * x * x)) * s2) + 1 / 2 * (D * (1 + erfR (x * s2))) = D * gd x := by
  unfold gd
  rw [← s2_pi]
  ring

/-! ## The stages -/

include a0 a1 a2 a3 a4 a5 in
theorem e70 (r : Fin 4096) (j : Fin 1024) : val_main_v70 (F := Ideal) x1 (ix3 0 r j) = (((dat x0 x1 x2 x3 x4 x5).dm r j : ℝ) : EReal) := by
  pointwise [val_main_v70, val_main_v3, val_main_v2]
  exact at2_eq a1 _ _ _ _ rfl rfl
include a0 a1 a2 a3 a4 a5 in
theorem e149 (j : Fin 1024) : val_main_v149 (F := Ideal) x0 x1 x2 x3 x4 (ix2 0 j) = (((dat x0 x1 x2 x3 x4 x5).Dgg j : ℝ) : EReal) := by
  pointwise [val_main_v149, val_main_v76, val_main_cst_14]
  rw [red_a01]
  pointwise [val_main_v73, val_main_v72, val_main_cst_13, val_main_v71]
  simp only [e65 x0 x1 x2 x3 x4 x5 a0 a2 a3 a4, e70 x0 x1 x2 x3 x4 x5 a0 a1 a2 a3 a4 a5, ← EReal.coe_mul, sum_real]
  refine congrArg _ (Finset.sum_congr rfl fun r _ => mul_comm _ _)
include a0 a1 a2 a3 a4 a5 in
theorem e75 (r : Fin 4096) (j : Fin 1024) : val_main_v75 (F := Ideal) x1 x5 (ix3 0 r j) = (((dat x0 x1 x2 x3 x4 x5).dn r j : ℝ) : EReal) := by
  pointwise [val_main_v75, val_main_v74, val_main_v66]
  rw [e70 x0 x1 x2 x3 x4 x5 a0 a1 a2 a3 a4 a5, at1_eq a5 _ j rfl, ← EReal.coe_mul]
  rfl
include a0 a1 a2 a3 a4 a5 in
theorem e84 (r : Fin 4096) : val_main_v84 (F := Ideal) x0 x1 x2 x3 x4 x5 (ix3 0 r 0) = ((qg (dat x0 x1 x2 x3 x4 x5) r : ℝ) : EReal) := by
  pointwise [val_main_v84, val_main_v83, val_main_v82, val_main_v79, val_main_v78, val_main_v77, val_main_cst_15, val_main_cst_16]
  simp only [e52 x0 x1 x2 x3 x4 x5 a0 a2 a3 a4, e75 x0 x1 x2 x3 x4 x5 a0 a1 a2 a3 a4 a5, e63 x0 x1 x2 x3 x4 x5 a0 a2 a3 a4, ← EReal.coe_mul, sum_real, w_1024, div_1024]
  rfl
include a0 a1 a2 a3 a4 a5 in
theorem e87 (r : Fin 4096) (j : Fin 1024) : val_main_v87 (F := Ideal) x0 x1 x2 x3 x4 x5 (ix3 0 r j) = ((qg (dat x0 x1 x2 x3 x4 x5) r : ℝ) : EReal) := by
  pointwise [val_main_v87, val_main_v86, val_main_v85, val_main_cst_17]
  rw [red_a02, e84 x0 x1 x2 x3 x4 x5 a0 a1 a2 a3 a4 a5]
include a0 a1 a2 a3 a4 a5 in
theorem e91 (r : Fin 4096) (j : Fin 1024) : val_main_v91 (F := Ideal) x0 x1 x2 x3 x4 x5 (ix3 0 r j) = (((dat x0 x1 x2 x3 x4 x5).dg r j : ℝ) : EReal) := by
  pointwise [val_main_v91, val_main_v90, val_main_v89, val_main_v88, val_main_v81, val_main_v80]
  simp only [e87 x0 x1 x2 x3 x4 x5 a0 a1 a2 a3 a4 a5, e52 x0 x1 x2 x3 x4 x5 a0 a2 a3 a4, e75 x0 x1 x2 x3 x4 x5 a0 a1 a2 a3 a4 a5, e60 x0 x1 x2 x3 x4 x5 a0 a2 a3 a4, ← EReal.coe_mul, ← EReal.coe_add]
  rw [dg_eq]
include a0 a1 a2 a3 a4 a5 in
theorem e92 (r : Fin 4096) (j : Fin 1024) : val_main_v92 (F := Ideal) x0 x1 x2 x3 x4 x5 (ix3 0 r j) = (((dat x0 x1 x2 x3 x4 x5).dx r j : ℝ) : EReal) := by
  pointwise [val_main_v92]
  rw [e91 x0 x1 x2 x3 x4 x5 a0 a1 a2 a3 a4 a5, e20 x0 x1 x2 x3 x4 x5 a0, ← EReal.coe_mul, mul_comm]
  rfl
include a0 a1 a2 a3 a4 a5 in
theorem e93 (r : Fin 4096) (j : Fin 1024) : val_main_v93 (F := Ideal) x0 x1 x2 x3 x4 x5 (ix3 0 r j) = (((dat x0 x1 x2 x3 x4 x5).du r j : ℝ) : EReal) := by
  pointwise [val_main_v93]
  rw [e91 x0 x1 x2 x3 x4 x5 a0 a1 a2 a3 a4 a5, e51 x0 x1 x2 x3 x4 x5 a0 a2 a3 a4, ← EReal.coe_mul]
  rfl
include a0 a1 a2 a3 a4 a5 in
theorem e94 (n : Fin 32) (p : Fin 128) (g : Fin 8) (k : Fin 128) : val_main_v94 (F := Ideal) x0 x1 x2 x3 x4 x5 (ix5 0 n p g k) = (((dat x0 x1 x2 x3 x4 x5).dx (128 * n + p) (128 * g + k) : ℝ) : EReal) := by
  pointwise [val_main_v94]
  rw [e92 x0 x1 x2 x3 x4 x5 a0 a1 a2 a3 a4 a5]
  show (((dat x0 x1 x2 x3 x4 x5).dx (n * 128 + p) (g * 128 + k) : ℝ) : EReal) = _
  rw [Nat.mul_comm n.val, Nat.mul_comm g.val]
include a0 a1 a2 a3 a4 a5 in
theorem e98 (g : Fin 8) (p : Fin 128) : val_main_v98 (F := Ideal) x0 x1 x2 x3 x4 x5 (ix2 g p) = (((dat x0 x1 x2 x3 x4 x5).Dbs g p : ℝ) : EReal) := by
  pointwise [val_main_v98, val_main_v97, val_main_cst_19]
  rw [red_a014]
  pointwise [val_main_v96, val_main_v95, val_main_cst_18]
  rw [red_a14]
  simp only [e94 x0 x1 x2 x3 x4 x5 a0 a1 a2 a3 a4 a5, sum_real]
  rw [Finset.sum_comm]
  rfl
include a0 a1 a2 a3 a4 a5 in
theorem e100 (g : Fin 8) (p q : Fin 128) : val_main_v100 (F := Ideal) x0 x1 x2 x3 x4 x5 (ix3 g p q) = (((dat x0 x1 x2 x3 x4 x5).Dws g p q : ℝ) : EReal) := by
  pointwise [val_main_v100]
  rw [dot3]
  pointwise [val_main_v99]
  simp only [e94 x0 x1 x2 x3 x4 x5 a0 a1 a2 a3 a4 a5, e44 x0 x1 x2 x3 x4 x5 a0 a2, ← EReal.coe_mul, sum_real]
  rfl
include a0 a1 a2 a3 a4 a5 in
theorem e103 (r : Fin 4096) (j : Fin 1024) : val_main_v103 (F := Ideal) x0 x1 x2 x3 x4 x5 (ix3 0 r j) = (((dat x0 x1 x2 x3 x4 x5).dl r j : ℝ) : EReal) := by
  pointwise [val_main_v103, val_main_v102, val_main_v101, val_main_v99]
  unfold D.dl
  rw [← sum_real]
  refine Finset.sum_congr rfl fun q _ => ?_
  rw [e94 x0 x1 x2 x3 x4 x5 a0 a1 a2 a3 a4 a5, at3_eq a3 _ _ _ (j.val / 128) q.val (r.val % 128) rfl rfl rfl, ← EReal.coe_mul, mul_comm]
  show (((dat x0 x1 x2 x3 x4 x5).ws (j / 128) q (r % 128) * (dat x0 x1 x2 x3 x4 x5).dx (128 * (r / 128) + q) (128 * (j / 128) + j % 128) : ℝ) : EReal) = _
  rw [Nat.div_add_mod, Nat.mul_comm 128]
include a0 a1 a2 a3 a4 a5 in
theorem e148 (j : Fin 1024) : val_main_v148 (F := Ideal) x0 x1 x2 x3 x4 x5 (ix2 0 j) = (((dat x0 x1 x2 x3 x4 x5).Dlg j : ℝ) : EReal) := by
  pointwise [val_main_v148, val_main_v109, val_main_cst_21]
  rw [red_a01]
  pointwise [val_main_v106, val_main_v105, val_main_cst_20, val_main_v104]
  simp only [e40 x0 x1 x2 x3 x4 x5 a0, e103 x0 x1 x2 x3 x4 x5 a0 a1 a2 a3 a4 a5, ← EReal.coe_mul, sum_real]
  refine congrArg _ (Finset.sum_congr rfl fun r _ => mul_comm _ _)
include a0 a1 a2 a3 a4 a5 in
theorem e108 (r : Fin 4096) (j : Fin 1024) : val_main_v108 (F := Ideal) x0 x1 x2 x3 x4 x5 (ix3 0 r j) = (((dat x0 x1 x2 x3 x4 x5).dh r j : ℝ) : EReal) := by
  pointwise [val_main_v108, val_main_v107, val_main_v41]
  rw [e103 x0 x1 x2 x3 x4 x5 a0 a1 a2 a3 a4 a5, at1_eq a2 _ j rfl, ← EReal.coe_mul]
  rfl
include a0 a1 a2 a3 a4 a5 in
theorem e117 (r : Fin 4096) : val_main_v117 (F := Ideal) x0 x1 x2 x3 x4 x5 (ix3 0 r 0) = ((qv (dat x0 x1 x2 x3 x4 x5) r : ℝ) : EReal) := by
  pointwise [val_main_v117, val_main_v116, val_main_v115, val_main_v112, val_main_v111, val_main_v110, val_main_cst_22, val_main_cst_23]
  simp only [e27 x0 x1 x2 x3 x4 x5 a0, e108 x0 x1 x2 x3 x4 x5 a0 a1 a2 a3 a4 a5, e38 x0 x1 x2 x3 x4 x5 a0, ← EReal.coe_mul, sum_real, w_1024, div_1024]
  rfl
include a0 a1 a2 a3 a4 a5 in
theorem e120 (r : Fin 4096) (j : Fin 1024) : val_main_v120 (F := Ideal) x0 x1 x2 x3 x4 x5 (ix3 0 r j) = ((qv (dat x0 x1 x2 x3 x4 x5) r : ℝ) : EReal) := by
  pointwise [val_main_v120, val_main_v119, val_main_v118, val_main_cst_24]
  rw [red_a02, e117 x0 x1 x2 x3 x4 x5 a0 a1 a2 a3 a4 a5]
include a0 a1 a2 a3 a4 a5 in
theorem e124 (r : Fin 4096) (j : Fin 1024) : val_main_v124 (F := Ideal) x0 x1 x2 x3 x4 x5 (ix3 0 r j) = ((dz (dat x0 x1 x2 x3 x4 x5) r j : ℝ) : EReal) := by
  pointwise [val_main_v124, val_main_v123, val_main_v122, val_main_v121, val_main_v114, val_main_v113]
  simp only [e120 x0 x1 x2 x3 x4 x5 a0 a1 a2 a3 a4 a5, e27 x0 x1 x2 x3 x4 x5 a0, e108 x0 x1 x2 x3 x4 x5 a0 a1 a2 a3 a4 a5, e35 x0 x1 x2 x3 x4 x5 a0, ← EReal.coe_mul, ← EReal.coe_add]
  rfl
include a0 a1 a2 a3 a4 a5 in
theorem e129 (r : Fin 4096) : val_main_v129 (F := Ideal) x0 x1 x2 x3 x4 x5 (ix3 0 r 0) = (((∑ k : Fin 1024, -dz (dat x0 x1 x2 x3 x4 x5) r k) * (1 / 1024) : ℝ) : EReal) := by
  pointwise [val_main_v129, val_main_v128, val_main_v127, val_main_v126, val_main_v125, val_main_cst_25, val_main_cst_26]
  simp only [e124 x0 x1 x2 x3 x4 x5 a0 a1 a2 a3 a4 a5, ← EReal.coe_neg, sum_real, w_1024, div_1024]
include a0 a1 a2 a3 a4 a5 in
theorem e133 (r : Fin 4096) (j : Fin 1024) : val_main_v133 (F := Ideal) x0 x1 x2 x3 x4 x5 (ix3 0 r j) = (((dat x0 x1 x2 x3 x4 x5).dv r j : ℝ) : EReal) := by
  pointwise [val_main_v133, val_main_v132, val_main_v131, val_main_v130, val_main_cst_27]
  rw [red_a02, e124 x0 x1 x2 x3 x4 x5 a0 a1 a2 a3 a4 a5, e129 x0 x1 x2 x3 x4 x5 a0 a1 a2 a3 a4 a5, ← EReal.coe_add, dv_eq]

def Dat (e : D) (r j : ℕ) : ℝ := if j < 1024 then e.du r j else e.dv r (j - 1024)
include a0 a1 a2 a3 a4 a5 in
theorem e134 (r : Fin 4096) (j : Fin 2048) : val_main_v134 (F := Ideal) x0 x1 x2 x3 x4 x5 (ix3 0 r j) = ((Dat (dat x0 x1 x2 x3 x4 x5) r j : ℝ) : EReal) := by
  pointwise [val_main_v134]
  unfold Dat
  by_cases h : j.val < 1024
  · rw [dif_pos h, if_pos h, e93 x0 x1 x2 x3 x4 x5 a0 a1 a2 a3 a4 a5]
  · rw [dif_neg h, if_neg h, e133 x0 x1 x2 x3 x4 x5 a0 a1 a2 a3 a4 a5]
include a0 a1 a2 a3 a4 a5 in
theorem e145 (r : Fin 4096) (j : Fin 2048) : val_main_v145 (F := Ideal) x0 x1 x2 x3 x4 x5 (ix3 0 r j) = ((Dat (dat x0 x1 x2 x3 x4 x5) r j * gd (at2 x0 r (3072 + j)) : ℝ) : EReal) := by
  pointwise [val_main_v145, val_main_v144, val_main_v143, val_main_v142, val_main_v141, val_main_v140, val_main_v139, val_main_v138, val_main_v137, val_main_v136, val_main_v135, val_main_v6, val_main_v5, val_main_cst, val_main_cst_28]
  simp only [e134 x0 x1 x2 x3 x4 x5 a0 a1 a2 a3 a4 a5, e4 x0 a0, e8, e15, e11 x0 a0, e18 x0 a0, w_half, ← EReal.coe_mul, ← EReal.coe_neg, ← EReal.coe_add]
  rw [gd_eq]
include a0 a1 a2 a3 a4 a5 in
theorem e147 (r : Fin 4096) (j : Fin 2048) : val_main_v147 (F := Ideal) x0 x1 x2 x3 x4 x5 (ix2 r j) = ((if j.val < 1024 then (dat x0 x1 x2 x3 x4 x5).Du r j else (dat x0 x1 x2 x3 x4 x5).Dv r (j - 1024) : ℝ) : EReal) := by
  pointwise [val_main_v147, val_main_v146, val_main_cst_29]
  rw [Fin.sum_univ_one]
  rw [e145 x0 x1 x2 x3 x4 x5 a0 a1 a2 a3 a4 a5]
  unfold Dat D.Du D.Dv
  by_cases h : j.val < 1024
  · rw [if_pos h, if_pos h]
    rfl
  · rw [if_neg h, if_neg h]
    show ((_ * gd (at2 x0 r (3072 + j)) : ℝ) : EReal) = ((_ * gd (at2 x0 r (4096 + (j - 1024))) : ℝ) : EReal)
    rw [show 3072 + j.val = 4096 + (j.val - 1024) by omega]

end Cert.Gm.R

end
-- ==== Proof.Gm.Alg.lean ====
module

public import proofs.«01_k».proof.Proof.Gm.Fin
public import proofs.«01_k».proof.Proof.Gm.KRes
public import proofs.«01_k».proof.Proof.Gm.Ref3
public import proofs.«01_k».proof.Proof.Gen.ReferenceIdeal.Run
public import proofs.«01_k».proof.Proof.Gen.ReferenceIdeal.Read
public import Idealize.ShloMosaic.Lib.Claim

@[expose] public section

set_option maxRecDepth 16384

noncomputable section

open Idealize.ShloMosaic Idealize.ShloMosaic.TcCoe Idealize.SL.Sem

/- The two programs end with the same five arrays. -/

namespace Cert.Gm

open Cert.KernelIdeal Cert.ReferenceIdeal.Read

variable (m : (ℓ : Loc nD τ sig) → Buf (Elt Ideal) ℓ) (c : Dev nD)

theorem eq147 (h : K.Re6 m c) : val_main_v147 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) = Value.G8 m c := by
  funext i
  rw [K.res8 m c h i]
  obtain ⟨r, j, rfl⟩ : ∃ r j, i = ix2 r j := ⟨_, _, eq_ix2 i⟩
  exact R.e147 _ _ _ _ _ _ h.a0 h.a1 h.a2 h.a3 h.a4 h.a5 r j

theorem eq148 (h : K.Re6 m c) : val_main_v148 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) = Value.G9 m c := by
  funext i
  obtain ⟨r, j, rfl⟩ : ∃ r j, i = ix2 r j := ⟨_, _, eq_ix2 i⟩
  obtain rfl : r = 0 := Subsingleton.elim _ _
  rw [K.res9 m c h j]
  exact R.e148 _ _ _ _ _ _ h.a0 h.a1 h.a2 h.a3 h.a4 h.a5 j

theorem eq100 (h : K.Re6 m c) : val_main_v100 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) = Value.G10 m c := by
  funext i
  rw [K.res10 m c h i]
  obtain ⟨g, p, q, rfl⟩ : ∃ g p q, i = ix3 g p q := ⟨_, _, _, eq_ix3 i⟩
  exact R.e100 _ _ _ _ _ _ h.a0 h.a1 h.a2 h.a3 h.a4 h.a5 g p q

theorem eq98 (h : K.Re6 m c) : val_main_v98 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) = Value.G11 m c := by
  funext i
  rw [K.res11 m c h i]
  obtain ⟨g, p, rfl⟩ : ∃ g p, i = ix2 g p := ⟨_, _, eq_ix2 i⟩
  exact R.e98 _ _ _ _ _ _ h.a0 h.a1 h.a2 h.a3 h.a4 h.a5 g p

theorem eq149 (h : K.Re6 m c) : val_main_v149 (F := Ideal) (m ((c : Thread nD τ).loc main_arg0)) (m ((c : Thread nD τ).loc main_arg1)) (m ((c : Thread nD τ).loc main_arg2)) (m ((c : Thread nD τ).loc main_arg3)) (m ((c : Thread nD τ).loc main_arg4)) = Value.G12 m c := by
  funext i
  obtain ⟨r, j, rfl⟩ : ∃ r j, i = ix2 r j := ⟨_, _, eq_ix2 i⟩
  obtain rfl : r = 0 := Subsingleton.elim _ _
  rw [K.res12 m c h j]
  exact R.e149 _ _ _ _ _ _ h.a0 h.a1 h.a2 h.a3 h.a4 h.a5 j

end Cert.Gm

namespace Cert.Gm.Alg

open Cert.ReferenceIdeal.Read

theorem algebraic : Cert.algebraic_KernelIdeal_ReferenceIdeal_pre_finite := by
  pair_intro
  · run_from Cert.KernelIdeal.Value.run m g
  · run_from Cert.ReferenceIdeal.Value.run m' g'
    · obtain ⟨h0, h1, h2, h3, h4, h5⟩ := hagree c
      refine (val_main_v147_eq (F := Ideal) (StableHlo.launchContents m' c)).trans ?_
      show val_main_v147 (F := Ideal) (m' ((c : Thread Cert.ReferenceIdeal.nD Cert.ReferenceIdeal.τ).loc Cert.ReferenceIdeal.main_arg0)) (m' ((c : Thread Cert.ReferenceIdeal.nD Cert.ReferenceIdeal.τ).loc Cert.ReferenceIdeal.main_arg1)) (m' ((c : Thread Cert.ReferenceIdeal.nD Cert.ReferenceIdeal.τ).loc Cert.ReferenceIdeal.main_arg2)) (m' ((c : Thread Cert.ReferenceIdeal.nD Cert.ReferenceIdeal.τ).loc Cert.ReferenceIdeal.main_arg3)) (m' ((c : Thread Cert.ReferenceIdeal.nD Cert.ReferenceIdeal.τ).loc Cert.ReferenceIdeal.main_arg4)) (m' ((c : Thread Cert.ReferenceIdeal.nD Cert.ReferenceIdeal.τ).loc Cert.ReferenceIdeal.main_arg5)) = _
      rw [h0, h1, h2, h3, h4, h5]
      exact eq147 m c (re6 hpre c)
    · obtain ⟨h0, h1, h2, h3, h4, h5⟩ := hagree c
      refine (val_main_v148_eq (F := Ideal) (StableHlo.launchContents m' c)).trans ?_
      show val_main_v148 (F := Ideal) (m' ((c : Thread Cert.ReferenceIdeal.nD Cert.ReferenceIdeal.τ).loc Cert.ReferenceIdeal.main_arg0)) (m' ((c : Thread Cert.ReferenceIdeal.nD Cert.ReferenceIdeal.τ).loc Cert.ReferenceIdeal.main_arg1)) (m' ((c : Thread Cert.ReferenceIdeal.nD Cert.ReferenceIdeal.τ).loc Cert.ReferenceIdeal.main_arg2)) (m' ((c : Thread Cert.ReferenceIdeal.nD Cert.ReferenceIdeal.τ).loc Cert.ReferenceIdeal.main_arg3)) (m' ((c : Thread Cert.ReferenceIdeal.nD Cert.ReferenceIdeal.τ).loc Cert.ReferenceIdeal.main_arg4)) (m' ((c : Thread Cert.ReferenceIdeal.nD Cert.ReferenceIdeal.τ).loc Cert.ReferenceIdeal.main_arg5)) = _
      rw [h0, h1, h2, h3, h4, h5]
      exact eq148 m c (re6 hpre c)
    · obtain ⟨h0, h1, h2, h3, h4, h5⟩ := hagree c
      refine (val_main_v100_eq (F := Ideal) (StableHlo.launchContents m' c)).trans ?_
      show val_main_v100 (F := Ideal) (m' ((c : Thread Cert.ReferenceIdeal.nD Cert.ReferenceIdeal.τ).loc Cert.ReferenceIdeal.main_arg0)) (m' ((c : Thread Cert.ReferenceIdeal.nD Cert.ReferenceIdeal.τ).loc Cert.ReferenceIdeal.main_arg1)) (m' ((c : Thread Cert.ReferenceIdeal.nD Cert.ReferenceIdeal.τ).loc Cert.ReferenceIdeal.main_arg2)) (m' ((c : Thread Cert.ReferenceIdeal.nD Cert.ReferenceIdeal.τ).loc Cert.ReferenceIdeal.main_arg3)) (m' ((c : Thread Cert.ReferenceIdeal.nD Cert.ReferenceIdeal.τ).loc Cert.ReferenceIdeal.main_arg4)) (m' ((c : Thread Cert.ReferenceIdeal.nD Cert.ReferenceIdeal.τ).loc Cert.ReferenceIdeal.main_arg5)) = _
      rw [h0, h1, h2, h3, h4, h5]
      exact eq100 m c (re6 hpre c)
    · obtain ⟨h0, h1, h2, h3, h4, h5⟩ := hagree c
      refine (val_main_v98_eq (F := Ideal) (StableHlo.launchContents m' c)).trans ?_
      show val_main_v98 (F := Ideal) (m' ((c : Thread Cert.ReferenceIdeal.nD Cert.ReferenceIdeal.τ).loc Cert.ReferenceIdeal.main_arg0)) (m' ((c : Thread Cert.ReferenceIdeal.nD Cert.ReferenceIdeal.τ).loc Cert.ReferenceIdeal.main_arg1)) (m' ((c : Thread Cert.ReferenceIdeal.nD Cert.ReferenceIdeal.τ).loc Cert.ReferenceIdeal.main_arg2)) (m' ((c : Thread Cert.ReferenceIdeal.nD Cert.ReferenceIdeal.τ).loc Cert.ReferenceIdeal.main_arg3)) (m' ((c : Thread Cert.ReferenceIdeal.nD Cert.ReferenceIdeal.τ).loc Cert.ReferenceIdeal.main_arg4)) (m' ((c : Thread Cert.ReferenceIdeal.nD Cert.ReferenceIdeal.τ).loc Cert.ReferenceIdeal.main_arg5)) = _
      rw [h0, h1, h2, h3, h4, h5]
      exact eq98 m c (re6 hpre c)
    · obtain ⟨h0, h1, h2, h3, h4, h5⟩ := hagree c
      refine (val_main_v149_eq (F := Ideal) (StableHlo.launchContents m' c)).trans ?_
      show val_main_v149 (F := Ideal) (m' ((c : Thread Cert.ReferenceIdeal.nD Cert.ReferenceIdeal.τ).loc Cert.ReferenceIdeal.main_arg0)) (m' ((c : Thread Cert.ReferenceIdeal.nD Cert.ReferenceIdeal.τ).loc Cert.ReferenceIdeal.main_arg1)) (m' ((c : Thread Cert.ReferenceIdeal.nD Cert.ReferenceIdeal.τ).loc Cert.ReferenceIdeal.main_arg2)) (m' ((c : Thread Cert.ReferenceIdeal.nD Cert.ReferenceIdeal.τ).loc Cert.ReferenceIdeal.main_arg3)) (m' ((c : Thread Cert.ReferenceIdeal.nD Cert.ReferenceIdeal.τ).loc Cert.ReferenceIdeal.main_arg4)) = _
      rw [h0, h1, h2, h3, h4]
      exact eq149 m c (re6 hpre c)

end Cert.Gm.Alg

end
-- ==== Proof.Ff.Arr2.lean ====
module

public import proofs.«01_k».proof.Proof.Gen.Kernel2Ideal.Frame
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

/- What each region leaves in its output arrays, at the contents it is entered with. -/

namespace Cert.Kernel2Ideal.Res

open Cert.Kernel2Ideal Cert.Kernel2Ideal.Gen

variable (V : (c : Dev nD) → (b : Ref sig .tc) → Buf (Elt Ideal) ((c : Thread nD τ).loc b)) (c : Dev nD)

/-- Rows of `a` against the columns of the four shards `w`. -/
def cols (a : FVec Ideal S4096x2048 .bf16) (w : FVec Ideal S4x2048x1408 .bf16) : FVec Ideal S4096x5632 .f32 := fun i =>
  ∑ k : Fin 2048, a (ix2 ⟨(i 0).val, (i 0).isLt⟩ k) * w (ix3 ⟨(i 1).val / 1408, by have := (i 1).isLt; change (i 1).val < 5632 at this; omega⟩ k ⟨(i 1).val % 1408, by omega⟩)

theorem idx0 : ∀ t : Fin cfg0.N,
    win0_0.index t (0 : Fin 2) = t.val % 8 ∧ win0_0.index t (1 : Fin 2) = 0
    ∧ win0_1.index t (0 : Fin 3) = t.val / 8 ∧ win0_1.index t (1 : Fin 3) = 0 ∧ win0_1.index t (2 : Fin 3) = 0
    ∧ win0_2.index t (0 : Fin 3) = t.val / 8 ∧ win0_2.index t (1 : Fin 3) = 0 ∧ win0_2.index t (2 : Fin 3) = 0
    ∧ win0_3.index t (0 : Fin 2) = t.val % 8 ∧ win0_3.index t (1 : Fin 2) = t.val / 8
    ∧ win0_4.index t (0 : Fin 2) = t.val % 8 ∧ win0_4.index t (1 : Fin 2) = t.val / 8
    ∧ win0_5.index t (0 : Fin 2) = t.val % 8 ∧ win0_5.index t (1 : Fin 2) = t.val / 8 :=
  (by decide +kernel : ∀ t : Fin grid0.N, _)

theorem p0_1 (v0 : Vec Ideal S512x2048 .bf16) (v1 : Vec Ideal S1x2048x1408 .bf16) (r : Fin 512) (j : Fin 1408) :
    k0_pay1 v0 v1 (ix2 r j) = ∑ k : Fin 2048, v0 (ix2 r k) * v1 (ix3 0 k j) := by
  pointwise [k0_pay1]

theorem p0_2 (v0 : Vec Ideal S512x2048 .bf16) (v1 : Vec Ideal S1x2048x1408 .bf16) (r : Fin 512) (j : Fin 1408) :
    k0_pay2 v0 v1 (ix2 r j) = ∑ k : Fin 2048, v0 (ix2 r k) * v1 (ix3 0 k j) := by
  pointwise [k0_pay2]

theorem arr0_3 : (dat0 V c).arrAt 3 cfg0.N = cols (V c main_arg0) (V c main_arg1) := by
  refine (dat0 V c).arrAt_eq_of_covers 3 _ (by decide +kernel) fun t hf y => ?_
  blk_simp; rw [after0_3]; frame_out
  obtain ⟨r, j, rfl⟩ : ∃ r j, y = ix2 r j := ⟨_, _, eq_ix2 y⟩
  have e := idx0 t
  refine (show k0_pay3 (iblk0 V c 0 t) (iblk0 V c 1 t) (ix2 r j) = k0_pay1 (iblk0 V c 0 t) (iblk0 V c 1 t) (ix2 r j) from rfl).trans ?_
  rw [p0_1]
  refine Finset.sum_congr (M := EReal) rfl fun k _ => ?_
  congr 1
  · blk_ext [iblk0, e]
  · blk_ext [iblk0, e]

theorem arr0_4 : (dat0 V c).arrAt 4 cfg0.N = cols (V c main_arg0) (V c main_arg2) := by
  refine (dat0 V c).arrAt_eq_of_covers 4 _ (by decide +kernel) fun t hf y => ?_
  blk_simp; rw [after0_4]; frame_out
  obtain ⟨r, j, rfl⟩ : ∃ r j, y = ix2 r j := ⟨_, _, eq_ix2 y⟩
  have e := idx0 t
  refine (show k0_pay4 (iblk0 V c 0 t) (iblk0 V c 2 t) (ix2 r j) = k0_pay2 (iblk0 V c 0 t) (iblk0 V c 2 t) (ix2 r j) from rfl).trans ?_
  rw [p0_2]
  refine Finset.sum_congr (M := EReal) rfl fun k _ => ?_
  congr 1
  · blk_ext [iblk0, e]
  · blk_ext [iblk0, e]

/-- The logistic function as the kernel writes it. -/
def sg (x : EReal) : EReal := Ideal.ofBits .f32 0x3F000000#32 * Ideal.tanh (Ideal.ofBits .f32 0x3F000000#32 * x) + Ideal.ofBits .f32 0x3F000000#32
def ffK (g u : EReal) : EReal := g * sg g * u
def dgK (d g u : EReal) : EReal := d * u * (sg g * (1 + g * (1 - sg g)))
def duK (d g : EReal) : EReal := d * (g * sg g)

theorem p0_5 (v0 : Vec Ideal S512x2048 .bf16) (v1 v4 : Vec Ideal S1x2048x1408 .bf16) (y : S512x1408.Idx) :
    k0_pay5 v0 v1 v4 y = ffK (k0_pay1 v0 v1 y) (k0_pay2 v0 v4 y) := by
  unfold k0_pay5 ffK sg
  generalize k0_pay1 v0 v1 = g
  generalize k0_pay2 v0 v4 = u
  pointwise

theorem p1_1 (v0 : Vec Ideal S512x2048 .bf16) (v1 : Vec Ideal S1408x2048 .bf16) (r : Fin 512) (j : Fin 1408) :
    k1_pay1 v0 v1 (ix2 r j) = ∑ k : Fin 2048, v0 (ix2 r k) * v1 (ix2 j k) := by
  pointwise [k1_pay1]

theorem p1_4 (v0 : Vec Ideal S512x2048 .bf16) (v1 : Vec Ideal S1408x2048 .bf16) (v3 v6 : Vec Ideal S512x1408 .bf16) (y : S512x1408.Idx) :
    k1_pay4 v0 v1 v3 v6 y = dgK (k1_pay1 v0 v1 y) (v3 y) (v6 y) := by
  unfold k1_pay4 k1_pay3 k1_pay2 dgK sg
  generalize k1_pay1 v0 v1 = g
  pointwise

theorem p1_5 (v0 : Vec Ideal S512x2048 .bf16) (v1 : Vec Ideal S1408x2048 .bf16) (v3 : Vec Ideal S512x1408 .bf16) (y : S512x1408.Idx) :
    k1_pay5 v0 v1 v3 y = duK (k1_pay1 v0 v1 y) (v3 y) := by
  unfold k1_pay5 k1_pay3 k1_pay2 duK sg
  generalize k1_pay1 v0 v1 = g
  pointwise

theorem p2_1 (v0 : Vec Ideal S4096x512 .bf16) (v1 : Vec Ideal S4096x1024 .bf16) (r : Fin 512) (j : Fin 1024) :
    k2_pay1 v0 v1 (ix2 r j) = ∑ k : Fin 4096, v0 (ix2 k r) * v1 (ix2 k j) := by
  pointwise [k2_pay1]

theorem p3_1 (v0 : Vec Ideal S4096x512 .bf16) (v1 : Vec Ideal S4096x1408 .bf16) (r : Fin 512) (j : Fin 1408) :
    k3_pay1 v0 v1 (ix3 0 r j) = ∑ k : Fin 4096, v0 (ix2 k r) * v1 (ix2 k j) := by
  pointwise [k3_pay1]

theorem p4_1 (v0 : Vec Ideal S4096x512 .bf16) (v1 : Vec Ideal S4096x1408 .bf16) (r : Fin 512) (j : Fin 1408) :
    k4_pay1 v0 v1 (ix3 0 r j) = ∑ k : Fin 4096, v0 (ix2 k r) * v1 (ix2 k j) := by
  pointwise [k4_pay1]

set_option maxHeartbeats 1600000 in
theorem arr0_5 : (dat0 V c).arrAt 5 cfg0.N = fun i => ffK (cols (V c main_arg0) (V c main_arg1) i) (cols (V c main_arg0) (V c main_arg2) i) := by
  refine (dat0 V c).arrAt_eq_of_covers 5 _ (by decide +kernel) fun t hf y => ?_
  blk_simp; rw [after0_5]; frame_out
  obtain ⟨r, j, rfl⟩ : ∃ r j, y = ix2 r j := ⟨_, _, eq_ix2 y⟩
  have e := idx0 t
  rw [p0_5, p0_1, p0_2]
  congr 1
  all_goals
    refine Finset.sum_congr (M := EReal) rfl fun k _ => ?_
    congr 1
    · blk_ext [iblk0, e]
    · blk_ext [iblk0, e]

theorem idx1 : ∀ t : Fin cfg1.N,
    win1_0.index t (0 : Fin 2) = t.val % 8 ∧ win1_0.index t (1 : Fin 2) = 0
    ∧ win1_1.index t (0 : Fin 2) = t.val / 8 ∧ win1_1.index t (1 : Fin 2) = 0
    ∧ win1_2.index t (0 : Fin 2) = t.val % 8 ∧ win1_2.index t (1 : Fin 2) = t.val / 8
    ∧ win1_3.index t (0 : Fin 2) = t.val % 8 ∧ win1_3.index t (1 : Fin 2) = t.val / 8
    ∧ win1_4.index t (0 : Fin 2) = t.val % 8 ∧ win1_4.index t (1 : Fin 2) = t.val / 8
    ∧ win1_5.index t (0 : Fin 2) = t.val % 8 ∧ win1_5.index t (1 : Fin 2) = t.val / 8 :=
  (by decide +kernel : ∀ t : Fin grid1.N, _)

/-- Rows of `y` against rows of `w`. -/
def rows (y : FVec Ideal S4096x2048 .bf16) (w : FVec Ideal S5632x2048 .bf16) : FVec Ideal S4096x5632 .f32 := fun i =>
  ∑ k : Fin 2048, y (ix2 ⟨(i 0).val, (i 0).isLt⟩ k) * w (ix2 ⟨(i 1).val, (i 1).isLt⟩ k)

theorem arr1_4 : (dat1 V c).arrAt 4 cfg1.N = fun i => dgK (rows (V c main_arg4) (V c main_arg3) i) (V c main_v0_0 i) (V c main_v0_1 i) := by
  refine (dat1 V c).arrAt_eq_of_covers 4 _ (by decide +kernel) fun t hf y => ?_
  blk_simp; rw [after1_4]; frame_out
  obtain ⟨r, j, rfl⟩ : ∃ r j, y = ix2 r j := ⟨_, _, eq_ix2 y⟩
  have e := idx1 t
  rw [p1_4, p1_1]
  congr 1
  · refine Finset.sum_congr (M := EReal) rfl fun k _ => ?_
    congr 1
    · blk_ext [iblk1, e]
    · blk_ext [iblk1, e]
  all_goals blk_ext [iblk1, e]

theorem arr1_5 : (dat1 V c).arrAt 5 cfg1.N = fun i => duK (rows (V c main_arg4) (V c main_arg3) i) (V c main_v0_0 i) := by
  refine (dat1 V c).arrAt_eq_of_covers 5 _ (by decide +kernel) fun t hf y => ?_
  blk_simp; rw [after1_5]; frame_out
  obtain ⟨r, j, rfl⟩ : ∃ r j, y = ix2 r j := ⟨_, _, eq_ix2 y⟩
  have e := idx1 t
  rw [p1_5, p1_1]
  congr 1
  · refine Finset.sum_congr (M := EReal) rfl fun k _ => ?_
    congr 1
    · blk_ext [iblk1, e]
    · blk_ext [iblk1, e]
  all_goals blk_ext [iblk1, e]

theorem idx2 : ∀ t : Fin cfg2.N,
    win2_0.index t (0 : Fin 2) = 0 ∧ win2_0.index t (1 : Fin 2) = t.val % 11
    ∧ win2_1.index t (0 : Fin 2) = 0 ∧ win2_1.index t (1 : Fin 2) = t.val / 11
    ∧ win2_2.index t (0 : Fin 2) = t.val % 11 ∧ win2_2.index t (1 : Fin 2) = t.val / 11 :=
  (by decide +kernel : ∀ t : Fin grid2.N, _)

/-- Columns of `a` against columns of `b`. -/
def tn2 (a : FVec Ideal S4096x5632 .bf16) (b : FVec Ideal S4096x2048 .bf16) : FVec Ideal S5632x2048 .f32 := fun i =>
  ∑ k : Fin 4096, a (ix2 k ⟨(i 0).val, (i 0).isLt⟩) * b (ix2 k ⟨(i 1).val, (i 1).isLt⟩)

/-- The same, the columns of `b` in four shards. -/
def tn3 (a : FVec Ideal S4096x2048 .bf16) (b : FVec Ideal S4096x5632 .bf16) : FVec Ideal S4x2048x1408 .f32 := fun i =>
  ∑ k : Fin 4096, a (ix2 k ⟨(i 1).val, (i 1).isLt⟩) * b (ix2 k ⟨1408 * (i 0).val + (i 2).val,
      by have h0 := (i 0).isLt; have h2 := (i 2).isLt; change (i 0).val < 4 at h0; change (i 2).val < 1408 at h2; omega⟩)

theorem arr2_2 : (dat2 V c).arrAt 2 cfg2.N = tn2 (V c main_v0_2) (V c main_arg4) := by
  refine (dat2 V c).arrAt_eq_of_covers 2 _ (by decide +kernel) fun t hf y => ?_
  blk_simp; rw [after2_2]; frame_out
  obtain ⟨r, j, rfl⟩ : ∃ r j, y = ix2 r j := ⟨_, _, eq_ix2 y⟩
  have e := idx2 t
  rw [p2_1]
  refine Finset.sum_congr (M := EReal) rfl fun k _ => ?_
  congr 1
  · blk_ext [iblk2, e]
  · blk_ext [iblk2, e]

theorem idx3 : ∀ t : Fin cfg3.N,
    win3_0.index t (0 : Fin 2) = 0 ∧ win3_0.index t (1 : Fin 2) = t.val % 4
    ∧ win3_1.index t (0 : Fin 2) = 0 ∧ win3_1.index t (1 : Fin 2) = t.val / 4
    ∧ win3_2.index t (0 : Fin 3) = t.val / 4 ∧ win3_2.index t (1 : Fin 3) = t.val % 4 ∧ win3_2.index t (2 : Fin 3) = 0 :=
  (by decide +kernel : ∀ t : Fin grid3.N, _)

theorem arr3_2 : (dat3 V c).arrAt 2 cfg3.N = tn3 (V c main_arg0) (V c main_v1_0) := by
  refine (dat3 V c).arrAt_eq_of_covers 2 _ (by decide +kernel) fun t hf y => ?_
  blk_simp; rw [after3_2]; frame_out
  obtain ⟨z, r, j, rfl⟩ : ∃ z r j, y = ix3 z r j := ⟨_, _, _, eq_ix3 y⟩
  obtain rfl : z = 0 := Subsingleton.elim _ _
  have e := idx3 t
  rw [p3_1]
  refine Finset.sum_congr (M := EReal) rfl fun k _ => ?_
  congr 1
  · blk_ext [iblk3, e]
  · blk_ext [iblk3, e]

theorem idx4 : ∀ t : Fin cfg4.N,
    win4_0.index t (0 : Fin 2) = 0 ∧ win4_0.index t (1 : Fin 2) = t.val % 4
    ∧ win4_1.index t (0 : Fin 2) = 0 ∧ win4_1.index t (1 : Fin 2) = t.val / 4
    ∧ win4_2.index t (0 : Fin 3) = t.val / 4 ∧ win4_2.index t (1 : Fin 3) = t.val % 4 ∧ win4_2.index t (2 : Fin 3) = 0 :=
  (by decide +kernel : ∀ t : Fin grid4.N, _)

theorem arr4_2 : (dat4 V c).arrAt 2 cfg4.N = tn3 (V c main_arg0) (V c main_v1_1) := by
  refine (dat4 V c).arrAt_eq_of_covers 2 _ (by decide +kernel) fun t hf y => ?_
  blk_simp; rw [after4_2]; frame_out
  obtain ⟨z, r, j, rfl⟩ : ∃ z r j, y = ix3 z r j := ⟨_, _, _, eq_ix3 y⟩
  obtain rfl : z = 0 := Subsingleton.elim _ _
  have e := idx4 t
  rw [p4_1]
  refine Finset.sum_congr (M := EReal) rfl fun k _ => ?_
  congr 1
  · blk_ext [iblk4, e]
  · blk_ext [iblk4, e]

end Cert.Kernel2Ideal.Res

end
-- ==== Proof.Ff.Run2.lean ====
module

public import proofs.«01_k».proof.Proof.Gen.Kernel2Ideal.Frame
public import Idealize.ShloMosaic.Lib.Claim

@[expose] public section

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg)

/- The launch of the program's regions, ending with the results' arrays as the last region leaves them. -/

namespace Cert.Kernel2Ideal.Res

open Cert.Kernel2Ideal Cert.Kernel2Ideal.Gen

variable {F : FTy → Type} [FloatOps F]

/-- The state assertions are over this resource algebra. -/
local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run : θ_run defs (onTc (τ := τ) (main (F := F))) ⟨m, fun _ => 0, ρ⟩ (fun r => (∀ c : Dev nD,
      r.2.mem ((c.tc : Thread nD τ).loc main_v3) = W5 m ρ c (Proc.devRef .tc main_v3) ∧
      r.2.mem ((c.tc : Thread nD τ).loc main_v4) = W5 m ρ c (Proc.devRef .tc main_v4) ∧
      r.2.mem ((c.tc : Thread nD τ).loc main_v2) = W5 m ρ c (Proc.devRef .tc main_v2) ∧
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨(fun c => ⟨
       h c _ (mem_uc main_v3 (by decide)),
       h c _ (mem_uc main_v4 (by decide)),
       h c _ (mem_uc main_v2 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c)⟩), funext fun g => hz g (.inr (no_unscoped g.2))⟩)

end Cert.Kernel2Ideal.Res

end
-- ==== Proof.Ff.Res2.lean ====
module

public import proofs.«01_k».proof.Proof.Ff.Arr2
public import proofs.«01_k».proof.Proof.Ff.Run2

@[expose] public section

set_option maxRecDepth 16384

noncomputable section

open Idealize.ShloMosaic Idealize.ShloMosaic.TcCoe Idealize.SL.Sem

/- The results' arrays after the run, in terms of the arguments. -/

namespace Cert.Kernel2Ideal.Res

open Cert.Kernel2Ideal Cert.Kernel2Ideal.Gen

variable (m : (ℓ : Loc nD τ sig) → Buf (Elt Ideal) ℓ) (ρ : Dev nD → PrngReg) (c : Dev nD)

abbrev a0 := m ((c : Thread nD τ).loc main_arg0)
abbrev a1 := m ((c : Thread nD τ).loc main_arg1)
abbrev a2 := m ((c : Thread nD τ).loc main_arg2)
abbrev a3 := m ((c : Thread nD τ).loc main_arg3)
abbrev a4 := m ((c : Thread nD τ).loc main_arg4)

def gate : FVec Ideal S4096x5632 .f32 := cols (a0 m c) (a1 m c)
def up : FVec Ideal S4096x5632 .f32 := cols (a0 m c) (a2 m c)
def dff : FVec Ideal S4096x5632 .f32 := rows (a4 m c) (a3 m c)
def ff : FVec Ideal S4096x5632 .bf16 := fun i => ffK (gate m c i) (up m c i)
def dgate : FVec Ideal S4096x5632 .bf16 := fun i => dgK (dff m c i) (gate m c i) (up m c i)
def dup : FVec Ideal S4096x5632 .bf16 := fun i => duK (dff m c i) (gate m c i)

theorem w1_0 : W1 m ρ c (Proc.devRef .tc main_v0_0) = gate m c := (W1_arr m ρ c 3).trans (arr0_3 (V0 m ρ) c)
theorem w1_1 : W1 m ρ c (Proc.devRef .tc main_v0_1) = up m c := (W1_arr m ρ c 4).trans (arr0_4 (V0 m ρ) c)
theorem w1_2 : W1 m ρ c (Proc.devRef .tc main_v0_2) = ff m c := (W1_arr m ρ c 5).trans (arr0_5 (V0 m ρ) c)

theorem rows1 : rows (V1 m ρ c main_arg4) (V1 m ρ c main_arg3) = dff m c :=
  congrArg₂ rows (W1_args m ρ c main_arg4 (by decide)) (W1_args m ρ c main_arg3 (by decide))

theorem w2_0 : W2 m ρ c (Proc.devRef .tc main_v1_0) = dgate m c := by
  refine ((W2_arr m ρ c 4).trans (arr1_4 (V1 m ρ) c)).trans ?_
  funext i
  exact congr (congrArg₂ dgK (congrFun (rows1 m ρ c) i) (congrFun (w1_0 m ρ c) i)) (congrFun (w1_1 m ρ c) i)

theorem w2_1 : W2 m ρ c (Proc.devRef .tc main_v1_1) = dup m c := by
  refine ((W2_arr m ρ c 5).trans (arr1_5 (V1 m ρ) c)).trans ?_
  funext i
  exact congrArg₂ duK (congrFun (rows1 m ρ c) i) (congrFun (w1_0 m ρ c) i)

theorem w5_2 : W5 m ρ c (Proc.devRef .tc main_v2) = tn2 (ff m c) (a4 m c) := by
  refine ((W5_of m ρ c main_v2 (by decide +kernel)).trans (W4_of m ρ c main_v2 (by decide +kernel))).trans ?_
  refine ((W3_arr m ρ c 2).trans (arr2_2 (V2 m ρ) c)).trans ?_
  exact congrArg₂ tn2 ((W2_of m ρ c main_v0_2 (by decide +kernel)).trans (w1_2 m ρ c)) (W2_args m ρ c main_arg4 (by decide))

theorem w5_3 : W5 m ρ c (Proc.devRef .tc main_v3) = tn3 (a0 m c) (dgate m c) := by
  refine (W5_of m ρ c main_v3 (by decide +kernel)).trans (((W4_arr m ρ c 2).trans (arr3_2 (V3 m ρ) c)).trans ?_)
  exact congrArg₂ tn3 (W3_args m ρ c main_arg0 (by decide)) ((W3_of m ρ c main_v1_0 (by decide +kernel)).trans (w2_0 m ρ c))

theorem w5_4 : W5 m ρ c (Proc.devRef .tc main_v4) = tn3 (a0 m c) (dup m c) := by
  refine ((W5_arr m ρ c 2).trans (arr4_2 (V4 m ρ) c)).trans ?_
  exact congrArg₂ tn3 (W4_args m ρ c main_arg0 (by decide)) ((W4_of m ρ c main_v1_1 (by decide +kernel)).trans ((W3_of m ρ c main_v1_1 (by decide +kernel)).trans (w2_1 m ρ c)))

end Cert.Kernel2Ideal.Res

end
-- ==== Proof.Ff.Alg2.lean ====
module

public import proofs.«01_k».proof.Defs
public import proofs.«01_k».proof.Proof.Ff.Res2
public import proofs.«01_k».proof.Proof.Gm.Fin
public import proofs.«01_k».proof.Proof.Gen.Reference2Ideal.Run
public import proofs.«01_k».proof.Proof.Gen.Reference2Ideal.Read
public import Idealize.ShloMosaic.Lib.Pointwise
public import Idealize.ShloMosaic.Lib.Claim

@[expose] public section

set_option maxRecDepth 16384

noncomputable section

open Idealize.ShloMosaic Idealize.ShloMosaic.TcCoe Idealize.SL.Sem

/- The gradients of the gated layer's three weights: at real arguments both programs end with the same arrays. -/

namespace Cert.Reference2Ideal.Same

open Cert.Reference2Ideal Cert.Reference2Ideal.Read Cert.Kernel2Ideal.Res Cert.Gm

theorem gateE (x0 : FVec Ideal S4096x2048 .bf16) (x1 : FVec Ideal S4x2048x1408 .bf16) :
    val_main_v6 (F := Ideal) x0 x1 = cols x0 x1 := by
  funext i
  refine (val_main_v6_apply x0 x1 i).trans ?_
  refine Finset.sum_congr (M := EReal) rfl fun k _ => congrArg₂ (fun p q : EReal => p * q) ?_ ?_
  · refine congrArg x0 ?_
    idx_vars i
    idx_ext
  · rw [val_main_v5_apply, val_main_v4_apply]
    refine congrArg x1 ?_
    idx_vars i
    idx_ext

theorem upE (x0 : FVec Ideal S4096x2048 .bf16) (x2 : FVec Ideal S4x2048x1408 .bf16) :
    val_main_v10 (F := Ideal) x0 x2 = cols x0 x2 := by
  funext i
  refine (val_main_v10_apply x0 x2 i).trans ?_
  refine Finset.sum_congr (M := EReal) rfl fun k _ => congrArg₂ (fun p q : EReal => p * q) ?_ ?_
  · refine congrArg x0 ?_
    idx_vars i
    idx_ext
  · rw [val_main_v9_apply, val_main_v8_apply]
    refine congrArg x2 ?_
    idx_vars i
    idx_ext

theorem dffE (x3 : FVec Ideal S5632x2048 .bf16) (x4 : FVec Ideal S4096x2048 .bf16) :
    val_main_v16 (F := Ideal) x3 x4 = rows x4 x3 := by
  funext i
  refine (val_main_v16_apply x3 x4 i).trans ?_
  refine Finset.sum_congr (M := EReal) rfl fun k _ => congrArg₂ (fun p q : EReal => p * q) ?_ ?_
  · refine congrArg x4 ?_
    idx_vars i
    idx_ext
  · refine congrArg x3 ?_
    idx_vars i
    idx_ext

theorem real_mul {x y : EReal} (hx : x = (x.toReal : ℝ)) (hy : y = (y.toReal : ℝ)) : x * y = ((x.toReal * y.toReal : ℝ) : EReal) := by
  rw [hx, hy, EReal.toReal_coe, EReal.toReal_coe, EReal.coe_mul]

theorem cols_real (x0 : FVec Ideal S4096x2048 .bf16) (w : FVec Ideal S4x2048x1408 .bf16) (h0 : IsRe (s := S4096x2048) x0) (hw : IsRe (s := S4x2048x1408) w)
    (i : S4096x5632.Idx) : ∃ r : ℝ, cols x0 w i = (r : EReal) :=
  ⟨_, (Finset.sum_congr (M := EReal) rfl fun k _ => real_mul (h0 _) (hw _)).trans (sum_real _)⟩

theorem rows_real (x4 : FVec Ideal S4096x2048 .bf16) (x3 : FVec Ideal S5632x2048 .bf16) (h4 : IsRe (s := S4096x2048) x4) (h3 : IsRe (s := S5632x2048) x3)
    (i : S4096x5632.Idx) : ∃ r : ℝ, rows x4 x3 i = (r : EReal) :=
  ⟨_, (Finset.sum_congr (M := EReal) rfl fun k _ => real_mul (h4 _) (h3 _)).trans (sum_real _)⟩

/-- The logistic function. -/
def lgs (x : ℝ) : ℝ := (1 + Real.exp (-x))⁻¹

theorem lgs_tanh (x : ℝ) : 1 / 2 * Real.tanh (1 / 2 * x) + 1 / 2 = lgs x := by
  have h : Real.exp (-x) = Real.exp (-(1 / 2 * x)) * Real.exp (-(1 / 2 * x)) := by rw [← Real.exp_add]; congr 1; ring
  have h1 : Real.exp (1 / 2 * x) * Real.exp (-(1 / 2 * x)) = 1 := by rw [← Real.exp_add]; simp
  have hp : 0 < Real.exp (1 / 2 * x) := Real.exp_pos _
  have hq : 0 < Real.exp (-(1 / 2 * x)) := Real.exp_pos _
  unfold lgs
  rw [Real.tanh_eq_sinh_div_cosh, Real.sinh_eq, Real.cosh_eq, h]
  generalize Real.exp (1 / 2 * x) = p at *
  generalize Real.exp (-(1 / 2 * x)) = q at *
  have h2 : p + q ≠ 0 := by positivity
  have h3 : 1 + q * q ≠ 0 := by positivity
  field_simp
  linear_combination (2 * q) * h1

theorem sg_real (x : ℝ) : sg (x : EReal) = (lgs x : ℝ) := by
  unfold sg
  rw [Cert.Gm.w_half, ← EReal.coe_mul]
  refine Eq.trans ?_ (congrArg Real.toEReal (lgs_tanh x))
  rw [EReal.coe_add, EReal.coe_mul]
  rfl

theorem lgsE (x : ℝ) : Ideal.div (1 : EReal) ((1 : EReal) + Ideal.exp (-(x : EReal))) = (lgs x : ℝ) := by
  have hp : 0 < Real.exp (-x) := Real.exp_pos _
  have h : (1 : EReal) + Ideal.exp (-(x : EReal)) = ((1 + Real.exp (-x) : ℝ) : EReal) := by
    rw [EReal.coe_add, EReal.coe_one]
    rfl
  rw [h, Ideal.div_coe (by positivity), one_mul]
  unfold lgs
  rw [one_div]

theorem sigE (x0 : FVec Ideal S4096x2048 .bf16) (x1 : FVec Ideal S4x2048x1408 .bf16) (i : S4096x5632.Idx) (g : ℝ) (hg : cols x0 x1 i = (g : EReal)) :
    val_main_v7_2 (F := Ideal) x0 x1 i = (lgs g : ℝ) := by
  rw [val_main_v7_2_apply, val_main_call0_v4_apply, val_main_call0_v3_apply, val_main_call0_v2_apply, val_main_call0_v1_apply, val_main_call0_v0_apply, gateE, hg]
  refine Eq.trans ?_ (lgsE g)
  show Ideal.div (Ideal.ofBits .f32 0x3F800000#32) (Ideal.ofBits .f32 0x3F800000#32 + Ideal.exp (-(g : EReal))) = _
  rw [Cert.Gm.w_one, EReal.coe_one]

theorem ffE (x0 : FVec Ideal S4096x2048 .bf16) (x1 : FVec Ideal S4x2048x1408 .bf16) (x2 : FVec Ideal S4x2048x1408 .bf16) (i : S4096x5632.Idx) (g : ℝ) (hg : cols x0 x1 i = (g : EReal)) :
    val_main_v11 (F := Ideal) x0 x1 x2 i = ffK (cols x0 x1 i) (cols x0 x2 i) := by
  rw [val_main_v11_apply, val_main_v7_0_apply, sigE x0 x1 i g hg, gateE, upE, hg]
  unfold ffK
  rw [sg_real]
  rfl

theorem dupE (x0 : FVec Ideal S4096x2048 .bf16) (x1 : FVec Ideal S4x2048x1408 .bf16) (x3 : FVec Ideal S5632x2048 .bf16) (x4 : FVec Ideal S4096x2048 .bf16) (i : S4096x5632.Idx) (g : ℝ) (hg : cols x0 x1 i = (g : EReal)) :
    val_main_v17 (F := Ideal) x0 x1 x3 x4 i = duK (rows x4 x3 i) (cols x0 x1 i) := by
  rw [val_main_v17_apply, val_main_v7_0_apply, sigE x0 x1 i g hg, gateE, dffE, hg]
  unfold duK
  rw [sg_real]
  exact mul_comm (G := EReal) _ _

theorem dgateE (x0 : FVec Ideal S4096x2048 .bf16) (x1 : FVec Ideal S4x2048x1408 .bf16) (x2 : FVec Ideal S4x2048x1408 .bf16) (x3 : FVec Ideal S5632x2048 .bf16) (x4 : FVec Ideal S4096x2048 .bf16) (i : S4096x5632.Idx) (g u d : ℝ) (hg : cols x0 x1 i = (g : EReal))
    (hu : cols x0 x2 i = (u : EReal)) (hd : rows x4 x3 i = (d : EReal)) :
    val_main_v24 (F := Ideal) x0 x1 x2 x3 x4 i = dgK (rows x4 x3 i) (cols x0 x1 i) (cols x0 x2 i) := by
  rw [val_main_v24_apply, val_main_call1_v1_apply, val_main_call1_v2_apply, val_main_call1_v0_apply, val_main_v18_apply, val_main_v7_1_apply,
    val_main_call0_v7_apply, val_main_call0_v6_apply, sigE x0 x1 i g hg, gateE, upE, dffE, hg, hu, hd]
  unfold dgK
  rw [sg_real]
  show (d : EReal) * u * (lgs g : ℝ) + g * (d * u) * ((lgs g : ℝ) * (Ideal.ofBits .f32 0x3F800000#32 - (lgs g : ℝ)))
    = d * u * ((lgs g : ℝ) * (1 + g * (1 - (lgs g : ℝ))))
  rw [Cert.Gm.w_one, ← EReal.coe_one]
  simp only [← EReal.coe_mul, ← EReal.coe_add, ← EReal.coe_sub]
  congr 1
  ring

theorem e31 (x0 : FVec Ideal S4096x2048 .bf16) (x1 : FVec Ideal S4x2048x1408 .bf16) (x2 : FVec Ideal S4x2048x1408 .bf16) (x3 : FVec Ideal S5632x2048 .bf16) (x4 : FVec Ideal S4096x2048 .bf16) (h0 : IsRe (s := S4096x2048) x0) (h1 : IsRe (s := S4x2048x1408) x1)
    (h2 : IsRe (s := S4x2048x1408) x2) (h3 : IsRe (s := S5632x2048) x3) (h4 : IsRe (s := S4096x2048) x4) :
    val_main_v31 (F := Ideal) x0 x1 x2 x3 x4 = tn3 x0 (fun i => dgK (rows x4 x3 i) (cols x0 x1 i) (cols x0 x2 i)) := by
  funext i
  refine (val_main_v30_apply (F := Ideal) x0 x1 x2 x3 x4 i).trans ?_
  rw [val_main_v29_apply, val_main_v26_apply, val_main_v25_apply]
  refine Finset.sum_congr (M := EReal) rfl fun k _ => (mul_comm (G := EReal) _ _).trans (congrArg₂ (fun p q : EReal => p * q) ?_ ?_)
  · refine congrArg x0 ?_
    idx_vars i
    idx_ext
  · obtain ⟨g, hg⟩ := cols_real x0 x1 h0 h1 (lidx_main_v25 (idx_main_v26 (idx_main_v29 (idx_main_v30 i))) k)
    obtain ⟨u, hu⟩ := cols_real x0 x2 h0 h2 (lidx_main_v25 (idx_main_v26 (idx_main_v29 (idx_main_v30 i))) k)
    obtain ⟨d, hd⟩ := rows_real x4 x3 h4 h3 (lidx_main_v25 (idx_main_v26 (idx_main_v29 (idx_main_v30 i))) k)
    refine (dgateE x0 x1 x2 x3 x4 _ g u d hg hu hd).trans ?_
    refine congrArg (fun j : S4096x5632.Idx => dgK (rows x4 x3 j) (cols x0 x1 j) (cols x0 x2 j)) ?_
    idx_vars i
    idx_ext

theorem e32 (x0 : FVec Ideal S4096x2048 .bf16) (x1 : FVec Ideal S4x2048x1408 .bf16) (x3 : FVec Ideal S5632x2048 .bf16) (x4 : FVec Ideal S4096x2048 .bf16) (h0 : IsRe (s := S4096x2048) x0) (h1 : IsRe (s := S4x2048x1408) x1) :
    val_main_v32 (F := Ideal) x0 x1 x3 x4 = tn3 x0 (fun i => duK (rows x4 x3 i) (cols x0 x1 i)) := by
  funext i
  refine (val_main_v23_apply (F := Ideal) x0 x1 x3 x4 i).trans ?_
  rw [val_main_v22_apply, val_main_v20_apply, val_main_v19_apply]
  refine Finset.sum_congr (M := EReal) rfl fun k _ => (mul_comm (G := EReal) _ _).trans (congrArg₂ (fun p q : EReal => p * q) ?_ ?_)
  · refine congrArg x0 ?_
    idx_vars i
    idx_ext
  · obtain ⟨g, hg⟩ := cols_real x0 x1 h0 h1 (lidx_main_v19 (idx_main_v20 (idx_main_v22 (idx_main_v23 i))) k)
    refine (dupE x0 x1 x3 x4 _ g hg).trans ?_
    refine congrArg (fun j : S4096x5632.Idx => duK (rows x4 x3 j) (cols x0 x1 j)) ?_
    idx_vars i
    idx_ext

theorem e33 (x0 : FVec Ideal S4096x2048 .bf16) (x1 : FVec Ideal S4x2048x1408 .bf16) (x2 : FVec Ideal S4x2048x1408 .bf16) (x4 : FVec Ideal S4096x2048 .bf16) (h0 : IsRe (s := S4096x2048) x0) (h1 : IsRe (s := S4x2048x1408) x1) :
    val_main_v33 (F := Ideal) x0 x1 x2 x4 = tn2 (fun i => ffK (cols x0 x1 i) (cols x0 x2 i)) x4 := by
  funext i
  refine (val_main_v15_apply (F := Ideal) x0 x1 x2 x4 i).trans ?_
  rw [val_main_v14_apply]
  refine Finset.sum_congr (M := EReal) rfl fun k _ => (mul_comm (G := EReal) _ _).trans (congrArg₂ (fun p q : EReal => p * q) ?_ ?_)
  · obtain ⟨g, hg⟩ := cols_real x0 x1 h0 h1 (ridx_main_v14 (idx_main_v15 i) k)
    refine (ffE x0 x1 x2 _ g hg).trans ?_
    refine congrArg (fun j : S4096x5632.Idx => ffK (cols x0 x1 j) (cols x0 x2 j)) ?_
    idx_vars i
    idx_ext
  · refine congrArg x4 ?_
    idx_vars i
    idx_ext

instance preFacts : Cert.Pre_finite2.Facts where
  bcast_S_S4096x2048 := by decide
  bcast_S_S4x2048x1408 := by decide
  bcast_S_S5632x2048 := by decide

theorem algebraic : Cert.algebraic_Kernel2Ideal_Reference2Ideal_pre_finite2 := by
  pair_intro
  · run_from Cert.Kernel2Ideal.Res.run m g
  · run_from Cert.Reference2Ideal.Value.run m' g'
    all_goals
      obtain ⟨q0, q1, q2, q3, q4⟩ := hpre c
      have h0 := isRe_b _ _ q0
      have h1 := isRe_b _ _ q1
      have h2 := isRe_b _ _ q2
      have h3 := isRe_b _ _ q3
      have h4 := isRe_b _ _ q4
    · exact (val_main_v31_eq (F := Ideal) _ _ _ _ _).trans ((e31 _ _ _ _ _ h0 h1 h2 h3 h4).trans (w5_3 m g c).symm)
    · exact (val_main_v32_eq (F := Ideal) _ _ _ _).trans ((e32 _ _ _ _ h0 h1).trans (w5_4 m g c).symm)
    · exact (val_main_v33_eq (F := Ideal) _ _ _ _).trans ((e33 _ _ _ _ h0 h1).trans (w5_2 m g c).symm)

end Cert.Reference2Ideal.Same

end
-- ==== Proof.Ff.Frames.lean ====
module

public import proofs.«01_k».proof.Defs
public import proofs.«01_k».proof.Proof.Gen.Kernel2
public import proofs.«01_k».proof.Proof.Gen.Kernel2Ideal.Frame
public import proofs.«01_k».proof.Proof.Gen.Kernel3
public import proofs.«01_k».proof.Proof.Gen.Kernel3Ideal.Frame
public import proofs.«01_k».proof.Proof.Gen.Kernel4
public import proofs.«01_k».proof.Proof.Gen.Kernel4Ideal.Frame
public import proofs.«01_k».proof.Proof.Gen.Kernel5
public import proofs.«01_k».proof.Proof.Gen.Kernel5Ideal.Frame
public import proofs.«01_k».proof.Proof.Gen.Kernel6
public import proofs.«01_k».proof.Proof.Gen.Kernel6Ideal.Frame
public import proofs.«01_k».proof.Proof.Gen.Kernel7
public import proofs.«01_k».proof.Proof.Gen.Kernel7Ideal.Frame
public import proofs.«01_k».proof.Proof.Gen.Kernel8
public import proofs.«01_k».proof.Proof.Gen.Kernel8Ideal.Frame
public import proofs.«01_k».proof.Proof.Gen.Kernel9
public import proofs.«01_k».proof.Proof.Gen.Kernel9Ideal.Frame

@[expose] public section

noncomputable section

open Idealize.ShloMosaic Idealize.SL.Sem

/-! The frames of the second and the later programs as printed: each is its idealized text's run, read at the bits. -/

namespace Cert.Proof

set_option maxHeartbeats 4000000 in
theorem kernels2_eq : Cert.Kernel2.defs₀ (F := Bits) = Cert.Kernel2Ideal.defs₀ (F := Bits) := by
  unfold Cert.Kernel2.defs₀ Cert.Kernel2Ideal.defs₀
  congr 1
  funext l x
  match l, x with
  | 0, (t, s) => rfl
  | 1, (t, s) => rfl
  | 2, (t, s) => rfl
  | 3, (t, s) => rfl
  | 4, (t, s) => rfl
  | ⟨_ + 5, h⟩, _ => exact absurd h (Nat.not_lt.2 (Nat.le_add_left _ _))

theorem table2_eq : Cert.Kernel2.defs (F := Bits) = Cert.Kernel2Ideal.defs (F := Bits) :=
  congrArg (Pipeline.defs Cert.Kernel2Ideal.pcfgs) kernels2_eq

theorem frame_kernel2 : Cert.quiescent_Kernel2 := by
  intro m ρ _
  rw [table2_eq]
  exact (θ_run Cert.Kernel2Ideal.defs _ _).mono (fun _ h => h) (Cert.Kernel2Ideal.Gen.frame (F := Bits) m ρ)

set_option maxHeartbeats 4000000 in
theorem kernels3_eq : Cert.Kernel3.defs₀ (F := Bits) = Cert.Kernel3Ideal.defs₀ (F := Bits) := by
  unfold Cert.Kernel3.defs₀ Cert.Kernel3Ideal.defs₀
  congr 1
  funext l x
  match l, x with
  | 0, (t, s) => rfl
  | ⟨_ + 1, h⟩, _ => exact absurd h (Nat.not_lt.2 (Nat.le_add_left _ _))

theorem table3_eq : Cert.Kernel3.defs (F := Bits) = Cert.Kernel3Ideal.defs (F := Bits) :=
  congrArg (Pipeline.defs Cert.Kernel3Ideal.pcfgs) kernels3_eq

theorem frame_kernel3 : Cert.quiescent_Kernel3 := by
  intro m ρ _
  rw [table3_eq]
  exact (θ_run Cert.Kernel3Ideal.defs _ _).mono (fun _ h => h) (Cert.Kernel3Ideal.Gen.frame (F := Bits) m ρ)

set_option maxHeartbeats 4000000 in
theorem kernels4_eq : Cert.Kernel4.defs₀ (F := Bits) = Cert.Kernel4Ideal.defs₀ (F := Bits) := by
  unfold Cert.Kernel4.defs₀ Cert.Kernel4Ideal.defs₀
  congr 1
  funext l x
  match l, x with
  | 0, (t, s) => rfl
  | 1, (t, s) => rfl
  | ⟨_ + 2, h⟩, _ => exact absurd h (Nat.not_lt.2 (Nat.le_add_left _ _))

theorem table4_eq : Cert.Kernel4.defs (F := Bits) = Cert.Kernel4Ideal.defs (F := Bits) :=
  congrArg (Pipeline.defs Cert.Kernel4Ideal.pcfgs) kernels4_eq

theorem frame_kernel4 : Cert.quiescent_Kernel4 := by
  intro m ρ _
  rw [table4_eq]
  exact (θ_run Cert.Kernel4Ideal.defs _ _).mono (fun _ h => h) (Cert.Kernel4Ideal.Gen.frame (F := Bits) m ρ)

set_option maxHeartbeats 4000000 in
theorem kernels5_eq : Cert.Kernel5.defs₀ (F := Bits) = Cert.Kernel5Ideal.defs₀ (F := Bits) := by
  unfold Cert.Kernel5.defs₀ Cert.Kernel5Ideal.defs₀
  congr 1
  funext l x
  match l, x with
  | 0, (t, s) => rfl
  | ⟨_ + 1, h⟩, _ => exact absurd h (Nat.not_lt.2 (Nat.le_add_left _ _))

theorem table5_eq : Cert.Kernel5.defs (F := Bits) = Cert.Kernel5Ideal.defs (F := Bits) :=
  congrArg (Pipeline.defs Cert.Kernel5Ideal.pcfgs) kernels5_eq

theorem frame_kernel5 : Cert.quiescent_Kernel5 := by
  intro m ρ _
  rw [table5_eq]
  exact (θ_run Cert.Kernel5Ideal.defs _ _).mono (fun _ h => h) (Cert.Kernel5Ideal.Gen.frame (F := Bits) m ρ)

set_option maxHeartbeats 4000000 in
theorem kernels6_eq : Cert.Kernel6.defs₀ (F := Bits) = Cert.Kernel6Ideal.defs₀ (F := Bits) := by
  unfold Cert.Kernel6.defs₀ Cert.Kernel6Ideal.defs₀
  congr 1
  funext l x
  match l, x with
  | 0, (t, s) => rfl
  | 1, (t, s) => rfl
  | 2, (t, s) => rfl
  | 3, (t, s) => rfl
  | ⟨_ + 4, h⟩, _ => exact absurd h (Nat.not_lt.2 (Nat.le_add_left _ _))

theorem table6_eq : Cert.Kernel6.defs (F := Bits) = Cert.Kernel6Ideal.defs (F := Bits) :=
  congrArg (Pipeline.defs Cert.Kernel6Ideal.pcfgs) kernels6_eq

theorem frame_kernel6 : Cert.quiescent_Kernel6 := by
  intro m ρ _
  rw [table6_eq]
  exact (θ_run Cert.Kernel6Ideal.defs _ _).mono (fun _ h => h) (Cert.Kernel6Ideal.Gen.frame (F := Bits) m ρ)

set_option maxHeartbeats 4000000 in
theorem kernels7_eq : Cert.Kernel7.defs₀ (F := Bits) = Cert.Kernel7Ideal.defs₀ (F := Bits) := by
  unfold Cert.Kernel7.defs₀ Cert.Kernel7Ideal.defs₀
  congr 1
  funext l x
  match l, x with
  | 0, (t, s) => rfl
  | ⟨_ + 1, h⟩, _ => exact absurd h (Nat.not_lt.2 (Nat.le_add_left _ _))

theorem table7_eq : Cert.Kernel7.defs (F := Bits) = Cert.Kernel7Ideal.defs (F := Bits) :=
  congrArg (Pipeline.defs Cert.Kernel7Ideal.pcfgs) kernels7_eq

theorem frame_kernel7 : Cert.quiescent_Kernel7 := by
  intro m ρ _
  rw [table7_eq]
  exact (θ_run Cert.Kernel7Ideal.defs _ _).mono (fun _ h => h) (Cert.Kernel7Ideal.Gen.frame (F := Bits) m ρ)

set_option maxHeartbeats 4000000 in
theorem kernels8_eq : Cert.Kernel8.defs₀ (F := Bits) = Cert.Kernel8Ideal.defs₀ (F := Bits) := by
  unfold Cert.Kernel8.defs₀ Cert.Kernel8Ideal.defs₀
  congr 1
  funext l x
  match l, x with
  | 0, (t, s) => rfl
  | ⟨_ + 1, h⟩, _ => exact absurd h (Nat.not_lt.2 (Nat.le_add_left _ _))

theorem table8_eq : Cert.Kernel8.defs (F := Bits) = Cert.Kernel8Ideal.defs (F := Bits) :=
  congrArg (Pipeline.defs Cert.Kernel8Ideal.pcfgs) kernels8_eq

theorem frame_kernel8 : Cert.quiescent_Kernel8 := by
  intro m ρ _
  rw [table8_eq]
  exact (θ_run Cert.Kernel8Ideal.defs _ _).mono (fun _ h => h) (Cert.Kernel8Ideal.Gen.frame (F := Bits) m ρ)

set_option maxHeartbeats 4000000 in
theorem kernels9_eq : Cert.Kernel9.defs₀ (F := Bits) = Cert.Kernel9Ideal.defs₀ (F := Bits) := by
  unfold Cert.Kernel9.defs₀ Cert.Kernel9Ideal.defs₀
  congr 1
  funext l x
  match l, x with
  | 0, (t, s) => rfl
  | ⟨_ + 1, h⟩, _ => exact absurd h (Nat.not_lt.2 (Nat.le_add_left _ _))

theorem table9_eq : Cert.Kernel9.defs (F := Bits) = Cert.Kernel9Ideal.defs (F := Bits) :=
  congrArg (Pipeline.defs Cert.Kernel9Ideal.pcfgs) kernels9_eq

theorem frame_kernel9 : Cert.quiescent_Kernel9 := by
  intro m ρ _
  rw [table9_eq]
  exact (θ_run Cert.Kernel9Ideal.defs _ _).mono (fun _ h => h) (Cert.Kernel9Ideal.Gen.frame (F := Bits) m ρ)

end Cert.Proof

end

end
-- ==== Proof.Ff.Arr3.lean ====
module

public import proofs.«01_k».proof.Proof.Gen.Kernel3Ideal.Value
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

/- The gradient of the layer's input through both weights: what the accumulator leaves in the output array. -/

namespace Cert.Kernel3Ideal.Res

open Cert.Kernel3Ideal Cert.Kernel3Ideal.Gen

variable (m : (ℓ : Loc nD τ sig) → Buf (Elt Ideal) ℓ) (c : Dev nD)

/-- Rows of `a` against the rows of the four shards `w`, the shards one after another. -/
def dot (a : FVec Ideal S4096x5632 .bf16) (w : FVec Ideal S4x2048x1408 .bf16) : FVec Ideal S4096x2048 .f32 := fun i =>
  ∑ k : Fin 5632, a (ix2 ⟨(i 0).val, (i 0).isLt⟩ k) * w (ix3 ⟨k.val / 1408, by omega⟩ ⟨(i 1).val, (i 1).isLt⟩ ⟨k.val % 1408, by omega⟩)

/-- One shard's part of a row against a row. -/
def part (x : Vec Ideal S512x1408 .bf16) (w : Vec Ideal S1x2048x1408 .bf16) : FVec Ideal S512x2048 .f32 := fun y =>
  ∑ k : Fin 1408, x (ix2 ⟨(y 0).val, (y 0).isLt⟩ k) * w (ix3 0 ⟨(y 1).val, (y 1).isLt⟩ k)

theorem pay1 (y : S512x2048.Idx) : k0_pay1 (F := Ideal) y = (0 : EReal) := by
  idx_vars y
  pointwise [k0_pay1]

theorem pay2 (v : Vec Ideal S512x2048 .f32) (x : Vec Ideal S512x1408 .bf16) (w : Vec Ideal S1x2048x1408 .bf16) (y : S512x2048.Idx) :
    k0_pay2 v x w y = (v y + part x w y : EReal) := by
  idx_vars y
  unfold part
  pointwise [k0_pay2]

theorem pay3 (v : Vec Ideal S512x2048 .f32) (x : Vec Ideal S512x1408 .bf16) (w : Vec Ideal S1x2048x1408 .bf16) (y : S512x2048.Idx) :
    k0_pay3 v x w y = (v y + part x w y : EReal) := by
  idx_vars y
  unfold part
  pointwise [k0_pay3]

theorem pay4 (v : Vec Ideal S512x2048 .f32) (y : S512x2048.Idx) : k0_pay4 v y = (v y : EReal) := by
  idx_vars y
  pointwise [k0_pay4]

theorem idx0 : ∀ t : Fin cfg0.N,
    win0_0.index t (0 : Fin 2) = t.val / 4
    ∧ win0_0.index t (1 : Fin 2) = t.val % 4
    ∧ win0_1.index t (0 : Fin 2) = t.val / 4
    ∧ win0_1.index t (1 : Fin 2) = t.val % 4
    ∧ win0_2.index t (0 : Fin 3) = t.val % 4
    ∧ win0_2.index t (1 : Fin 3) = 0
    ∧ win0_2.index t (2 : Fin 3) = 0
    ∧ win0_3.index t (0 : Fin 3) = t.val % 4
    ∧ win0_3.index t (1 : Fin 3) = 0
    ∧ win0_3.index t (2 : Fin 3) = 0
    ∧ win0_4.index t (0 : Fin 2) = t.val / 4
    ∧ win0_4.index t (1 : Fin 2) = 0 :=
  (by decide +kernel : ∀ t : Fin grid0.N, _)

/-- What a point adds to the accumulator. -/
def term (t : Fin cfg0.N) : FVec Ideal S512x2048 .f32 := fun y =>
  part (iblk m c 0 t) (iblk m c 2 t) y + part (iblk m c 1 t) (iblk m c 3 t) y

theorem start (t : Fin cfg0.N) (h : t.val % 4 = 0) (y : S512x2048.Idx) :
    (outsAt0 m c t.val t.isLt).2 y = ((fun _ => 0 : S512x2048.Idx → EReal) y + term m c t y : EReal) := by
  rw [outsAt0_A m c t h (by omega)]
  frame_out
  rw [pay3, pay2, pay1]
  exact add_assoc (G := EReal) _ _ _

theorem step (t : Fin cfg0.N) (h : ¬t.val % 4 = 0) (y : S512x2048.Idx) :
    (outsAt0 m c t.val t.isLt).2 y = ((outsAt0 m c (t.val - 1) (Nat.lt_of_le_of_lt (Nat.sub_le _ _) t.isLt)).2 y + term m c t y : EReal) := by
  by_cases h1 : t.val % 4 = 3
  · rw [outsAt0_C m c t h h1]
    frame_out
    rw [pay3, pay2]
    exact (add_assoc (G := EReal) _ _ _).trans (congrArg (fun q : EReal => q + term m c t y)
      (congrFun ((Memref.isWhole_whole cc0_scratch0).read_unread (Val := Elt Ideal) _) y))
  · rw [outsAt0_B m c t h h1]
    frame_out
    rw [pay3, pay2]
    exact (add_assoc (G := EReal) _ _ _).trans (congrArg (fun q : EReal => q + term m c t y)
      (congrFun ((Memref.isWhole_whole cc0_scratch0).read_unread (Val := Elt Ideal) _) y))

theorem out (t : Fin cfg0.N) (h : ¬t.val % 4 = 0) (h1 : t.val % 4 = 3) (y : S512x2048.Idx) :
    (outsAt0 m c t.val t.isLt).1 y = ((outsAt0 m c t.val t.isLt).2 y : EReal) := by
  rw [outsAt0_C m c t h h1]
  frame_out
  rw [pay4]

/-- Both products, summed. -/
def both (a b : FVec Ideal S4096x5632 .bf16) (u w : FVec Ideal S4x2048x1408 .bf16) : FVec Ideal S4096x2048 .f32 := fun i =>
  dot a u i + dot b w i

theorem arr : (dats m 0 c).arrAt 4 cfg0.N = both (m ((c : Thread nD τ).loc main_arg0)) (m ((c : Thread nD τ).loc main_arg1))
    (m ((c : Thread nD τ).loc main_arg2)) (m ((c : Thread nD τ).loc main_arg3)) := by
  refine (dats m 0 c).arrAt_eq_of_covers 4 _ (by decide +kernel) fun t hf y => ?_
  have hm : t.val % 4 = 3 := (flush0_4 t).mp hf
  have e := idx0
  blk_simp; rw [after0_4, out m c t (by omega) hm]
  rw [Pipeline.eq_sum_fin_of_reset_step_apply_of_flush (M := EReal) (fun n h => (outsAt0 m c n h).2) 4 (fun _ => 0) (term m c)
    (start m c) (step m c) t hm y]
  obtain ⟨r, j, rfl⟩ : ∃ r j, y = ix2 r j := ⟨_, _, eq_ix2 y⟩
  refine (zero_add (M := EReal) _).trans ?_
  unfold term
  rw [Finset.sum_add_distrib (M := EReal)]
  refine congrArg₂ (fun p q : EReal => p + q) ?_ ?_
  · refine Fin.sum_mul_add_congr (M := EReal) fun s k hl => ?_
    refine congrArg₂ (fun p q : EReal => p * q) ?_ ?_
    · have e' := idx0 ⟨4 * (t.val / 4) + s.val, Pipeline.run_point_lt_of_flush t hm s⟩
      blk_ext [iblk, V, e, e']
    · blk_ext [iblk, V, e]
  · refine Fin.sum_mul_add_congr (M := EReal) fun s k hl => ?_
    refine congrArg₂ (fun p q : EReal => p * q) ?_ ?_
    · blk_ext [iblk, V, e]
    · blk_ext [iblk, V, e]

end Cert.Kernel3Ideal.Res

end
-- ==== Proof.Ff.Alg3.lean ====
module

public import proofs.«01_k».proof.Defs
public import proofs.«01_k».proof.Proof.Ff.Arr3
public import proofs.«01_k».proof.Proof.Gen.Reference3Ideal.Run
public import proofs.«01_k».proof.Proof.Gen.Reference3Ideal.Read
public import Idealize.ShloMosaic.Lib.Pointwise
public import Idealize.ShloMosaic.Lib.Claim

@[expose] public section

set_option maxRecDepth 16384

noncomputable section

open Idealize.ShloMosaic Idealize.ShloMosaic.TcCoe Idealize.SL.Sem

/- The gradient of the layer's input through both weights: both programs end with the same array. -/

namespace Cert.Reference3Ideal.Same

open Cert.Reference3Ideal Cert.Reference3Ideal.Read Cert.Kernel3Ideal.Res

theorem e14 (x0 x1 : FVec Ideal S4096x5632 .bf16) (x2 x3 : FVec Ideal S4x2048x1408 .bf16) :
    val_main_v14 (F := Ideal) x0 x1 x2 x3 = both x0 x1 x2 x3 := by
  funext i
  refine (val_main_v13_apply (F := Ideal) x0 x1 x2 x3 i).trans ?_
  refine (add_comm (G := EReal) _ _).trans (congrArg₂ (fun p q : EReal => p + q) ?_ ?_)
  · refine (val_main_v12_apply x0 x2 i).trans ?_
    refine Finset.sum_congr (M := EReal) rfl fun k _ => congrArg₂ (fun p q : EReal => p * q) ?_ ?_
    · refine congrArg x0 ?_
      idx_vars i
      idx_ext
    · rw [val_main_v3_apply, val_main_v2_apply]
      refine congrArg x2 ?_
      idx_vars i
      idx_ext
  · refine (val_main_v11_apply x1 x3 i).trans ?_
    refine Finset.sum_congr (M := EReal) rfl fun k _ => congrArg₂ (fun p q : EReal => p * q) ?_ ?_
    · refine congrArg x1 ?_
      idx_vars i
      idx_ext
    · rw [val_main_v7_apply, val_main_v6_apply]
      refine congrArg x3 ?_
      idx_vars i
      idx_ext

theorem algebraic : Cert.algebraic_Kernel3Ideal_Reference3Ideal := by
  pair_intro
  · run_from Cert.Kernel3Ideal.Value.run_blocks m g
  · run_from Cert.Reference3Ideal.Value.run m' g'
    exact (val_main_v14_eq (F := Ideal) _ _ _ _).trans ((e14 _ _ _ _).trans (arr m c).symm)

end Cert.Reference3Ideal.Same

end
-- ==== Proof.Ff.Arr4.lean ====
module

public import proofs.«01_k».proof.Proof.Gen.Kernel4Ideal.Frame
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

/- What each region leaves in its output arrays, at the contents it is entered with. -/

namespace Cert.Kernel4Ideal.Res

open Cert.Kernel4Ideal Cert.Kernel4Ideal.Gen

variable (V : (c : Dev nD) → (b : Ref sig .tc) → Buf (Elt Ideal) ((c : Thread nD τ).loc b)) (c : Dev nD)

/-- Rows of `a` against the columns of the four shards `w`. -/
def cols (a : FVec Ideal S4096x2048 .bf16) (w : FVec Ideal S4x2048x1280 .bf16) : FVec Ideal S4096x5120 .f32 := fun i =>
  ∑ k : Fin 2048, a (ix2 ⟨(i 0).val, (i 0).isLt⟩ k) * w (ix3 ⟨(i 1).val / 1280, by have := (i 1).isLt; change (i 1).val < 5120 at this; omega⟩ k ⟨(i 1).val % 1280, by omega⟩)

/-- Columns of `a` against columns of `b`, these in four shards. -/
def tn3 (a : FVec Ideal S4096x2048 .bf16) (b : FVec Ideal S4096x5120 .bf16) : FVec Ideal S4x2048x1280 .f32 := fun i =>
  ∑ k : Fin 4096, a (ix2 k ⟨(i 1).val, (i 1).isLt⟩) * b (ix2 k ⟨1280 * (i 0).val + (i 2).val,
      by have h0 := (i 0).isLt; have h2 := (i 2).isLt; change (i 0).val < 4 at h0; change (i 2).val < 1280 at h2; omega⟩)

theorem idx0 : ∀ t : Fin cfg0.N,
    win0_0.index t (0 : Fin 2) = t.val % 8
    ∧ win0_0.index t (1 : Fin 2) = 0
    ∧ win0_1.index t (0 : Fin 3) = t.val / 8
    ∧ win0_1.index t (1 : Fin 3) = 0
    ∧ win0_1.index t (2 : Fin 3) = 0
    ∧ win0_2.index t (0 : Fin 2) = t.val % 8
    ∧ win0_2.index t (1 : Fin 2) = t.val / 8 :=
  (by decide +kernel : ∀ t : Fin grid0.N, _)

theorem p0_1 (v0 : Vec Ideal S512x2048 .bf16) (v1 : Vec Ideal S1x2048x1280 .bf16) (r : Fin 512) (j : Fin 1280) :
    k0_pay1 v0 v1 (ix2 r j) = ∑ k : Fin 2048, v0 (ix2 r k) * v1 (ix3 0 k j) := by
  pointwise [k0_pay1]

theorem p1_1 (v0 : Vec Ideal S4096x512 .bf16) (v1 : Vec Ideal S4096x1280 .bf16) (r : Fin 512) (j : Fin 1280) :
    k1_pay1 v0 v1 (ix3 0 r j) = ∑ k : Fin 4096, v0 (ix2 k r) * v1 (ix2 k j) := by
  pointwise [k1_pay1]

theorem arr0_2 : (dat0 V c).arrAt 2 cfg0.N = cols (V c main_arg0) (V c main_arg1) := by
  refine (dat0 V c).arrAt_eq_of_covers 2 _ (by decide +kernel) fun t hf y => ?_
  blk_simp; rw [after0_2]; frame_out
  obtain ⟨r, j, rfl⟩ : ∃ r j, y = ix2 r j := ⟨_, _, eq_ix2 y⟩
  have e := idx0 t
  rw [p0_1]
  refine Finset.sum_congr (M := EReal) rfl fun k _ => ?_
  congr 1
  · blk_ext [iblk0, e]
  · blk_ext [iblk0, e]

theorem idx1 : ∀ t : Fin cfg1.N,
    win1_0.index t (0 : Fin 2) = 0
    ∧ win1_0.index t (1 : Fin 2) = t.val % 4
    ∧ win1_1.index t (0 : Fin 2) = 0
    ∧ win1_1.index t (1 : Fin 2) = t.val / 4
    ∧ win1_2.index t (0 : Fin 3) = t.val / 4
    ∧ win1_2.index t (1 : Fin 3) = t.val % 4
    ∧ win1_2.index t (2 : Fin 3) = 0 :=
  (by decide +kernel : ∀ t : Fin grid1.N, _)

theorem arr1_2 : (dat1 V c).arrAt 2 cfg1.N = tn3 (V c main_arg0) (V c main_arg2) := by
  refine (dat1 V c).arrAt_eq_of_covers 2 _ (by decide +kernel) fun t hf y => ?_
  blk_simp; rw [after1_2]; frame_out
  obtain ⟨z, r, j, rfl⟩ : ∃ z r j, y = ix3 z r j := ⟨_, _, _, eq_ix3 y⟩
  obtain rfl : z = 0 := Subsingleton.elim _ _
  have e := idx1 t
  rw [p1_1]
  refine Finset.sum_congr (M := EReal) rfl fun k _ => ?_
  congr 1
  · blk_ext [iblk1, e]
  · blk_ext [iblk1, e]

end Cert.Kernel4Ideal.Res

end
-- ==== Proof.Ff.Run4.lean ====
module

public import proofs.«01_k».proof.Proof.Gen.Kernel4Ideal.Frame
public import Idealize.ShloMosaic.Lib.Claim

@[expose] public section

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg)

/- The launch of the program's regions, ending with the results' arrays as the last region leaves them. -/

namespace Cert.Kernel4Ideal.Res

open Cert.Kernel4Ideal Cert.Kernel4Ideal.Gen

variable {F : FTy → Type} [FloatOps F]

/-- The state assertions are over this resource algebra. -/
local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run : θ_run defs (onTc (τ := τ) (main (F := F))) ⟨m, fun _ => 0, ρ⟩ (fun r => (∀ c : Dev nD,
      r.2.mem ((c.tc : Thread nD τ).loc main_v0) = W2 m ρ c (Proc.devRef .tc main_v0) ∧
      r.2.mem ((c.tc : Thread nD τ).loc main_v1) = W2 m ρ c (Proc.devRef .tc main_v1) ∧
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h hz => ⟨(fun c => ⟨
       h c _ (mem_uc main_v0 (by decide)),
       h c _ (mem_uc main_v1 (by decide)),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c)⟩), funext fun g => hz g (.inr (no_unscoped g.2))⟩)

end Cert.Kernel4Ideal.Res

end
-- ==== Proof.Ff.Res4.lean ====
module

public import proofs.«01_k».proof.Proof.Ff.Arr4
public import proofs.«01_k».proof.Proof.Ff.Run4

@[expose] public section

set_option maxRecDepth 16384

noncomputable section

open Idealize.ShloMosaic Idealize.ShloMosaic.TcCoe Idealize.SL.Sem

/- The results' arrays after the run, in terms of the arguments. -/

namespace Cert.Kernel4Ideal.Res

open Cert.Kernel4Ideal Cert.Kernel4Ideal.Gen

variable (m : (ℓ : Loc nD τ sig) → Buf (Elt Ideal) ℓ) (ρ : Dev nD → PrngReg) (c : Dev nD)

theorem w1_0 : W2 m ρ c (Proc.devRef .tc main_v0) = cols (m ((c : Thread nD τ).loc main_arg0)) (m ((c : Thread nD τ).loc main_arg1)) :=
  (W2_of m ρ c main_v0 (by decide +kernel)).trans ((W1_arr m ρ c 2).trans (arr0_2 (V0 m ρ) c))

theorem w2_1 : W2 m ρ c (Proc.devRef .tc main_v1) = tn3 (m ((c : Thread nD τ).loc main_arg0)) (m ((c : Thread nD τ).loc main_arg2)) := by
  refine ((W2_arr m ρ c 2).trans (arr1_2 (V1 m ρ) c)).trans ?_
  exact congrArg₂ tn3 (W1_args m ρ c main_arg0 (by decide)) (W1_args m ρ c main_arg2 (by decide))

end Cert.Kernel4Ideal.Res

end
-- ==== Proof.Ff.Alg4.lean ====
module

public import proofs.«01_k».proof.Defs
public import proofs.«01_k».proof.Proof.Ff.Res4
public import proofs.«01_k».proof.Proof.Gen.Reference4Ideal.Run
public import proofs.«01_k».proof.Proof.Gen.Reference4Ideal.Read
public import Idealize.ShloMosaic.Lib.Pointwise
public import Idealize.ShloMosaic.Lib.Claim

@[expose] public section

set_option maxRecDepth 16384

noncomputable section

open Idealize.ShloMosaic Idealize.ShloMosaic.TcCoe Idealize.SL.Sem

/- The projection and its weight's gradient: both programs end with the same two arrays. -/

namespace Cert.Reference4Ideal.Same

open Cert.Reference4Ideal Cert.Reference4Ideal.Read Cert.Kernel4Ideal.Res

theorem e5 (x0 : FVec Ideal S4096x2048 .bf16) (x1 : FVec Ideal S4x2048x1280 .bf16) :
    val_main_v5 (F := Ideal) x0 x1 = cols x0 x1 := by
  funext i
  refine (val_main_v4_apply x0 x1 i).trans ?_
  refine Finset.sum_congr (M := EReal) rfl fun k _ => congrArg₂ (fun p q : EReal => p * q) ?_ ?_
  · refine congrArg x0 ?_
    idx_vars i
    idx_ext
  · rw [val_main_v3_apply, val_main_v2_apply]
    refine congrArg x1 ?_
    idx_vars i
    idx_ext

theorem e11 (x0 : FVec Ideal S4096x2048 .bf16) (x2 : FVec Ideal S4096x5120 .bf16) :
    val_main_v11 (F := Ideal) x0 x2 = tn3 x0 x2 := by
  funext i
  refine (val_main_v10_apply (F := Ideal) x0 x2 i).trans ?_
  rw [val_main_v9_apply, val_main_v8_apply, val_main_v7_apply]
  refine Finset.sum_congr (M := EReal) rfl fun k _ => (mul_comm (G := EReal) _ _).trans (congrArg₂ (fun p q : EReal => p * q) ?_ ?_)
  · refine congrArg x0 ?_
    idx_vars i
    idx_ext
  · refine congrArg x2 ?_
    idx_vars i
    idx_ext

theorem algebraic : Cert.algebraic_Kernel4Ideal_Reference4Ideal := by
  pair_intro
  · run_from Cert.Kernel4Ideal.Res.run m g
  · run_from Cert.Reference4Ideal.Value.run m' g'
    · exact (val_main_v5_eq (F := Ideal) _ _).trans ((e5 _ _).trans (w1_0 m g c).symm)
    · exact (val_main_v11_eq (F := Ideal) _ _).trans ((e11 _ _).trans (w2_1 m g c).symm)

end Cert.Reference4Ideal.Same

end
-- ==== Proof.Ff.Arr5.lean ====
module

public import proofs.«01_k».proof.Proof.Gen.Kernel5Ideal.Value
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

/- The gradient of the layer's input through its weight: what the accumulator leaves in the output array. -/

namespace Cert.Kernel5Ideal.Res

open Cert.Kernel5Ideal Cert.Kernel5Ideal.Gen

variable (m : (ℓ : Loc nD τ sig) → Buf (Elt Ideal) ℓ) (c : Dev nD)

/-- Rows of `a` against the rows of the four shards `w`, the shards one after another. -/
def dot (a : FVec Ideal S4096x5120 .bf16) (w : FVec Ideal S4x2048x1280 .bf16) : FVec Ideal S4096x2048 .f32 := fun i =>
  ∑ k : Fin 5120, a (ix2 ⟨(i 0).val, (i 0).isLt⟩ k) * w (ix3 ⟨k.val / 1280, by omega⟩ ⟨(i 1).val, (i 1).isLt⟩ ⟨k.val % 1280, by omega⟩)

/-- One shard's part of a row against a row. -/
def part (x : Vec Ideal S512x1280 .bf16) (w : Vec Ideal S1x2048x1280 .bf16) : FVec Ideal S512x2048 .f32 := fun y =>
  ∑ k : Fin 1280, x (ix2 ⟨(y 0).val, (y 0).isLt⟩ k) * w (ix3 0 ⟨(y 1).val, (y 1).isLt⟩ k)

theorem pay1 (y : S512x2048.Idx) : k0_pay1 (F := Ideal) y = (0 : EReal) := by
  idx_vars y
  pointwise [k0_pay1]

theorem pay2 (v : Vec Ideal S512x2048 .f32) (x : Vec Ideal S512x1280 .bf16) (w : Vec Ideal S1x2048x1280 .bf16) (y : S512x2048.Idx) :
    k0_pay2 v x w y = (v y + part x w y : EReal) := by
  idx_vars y
  unfold part
  pointwise [k0_pay2]

theorem pay3 (v : Vec Ideal S512x2048 .f32) (y : S512x2048.Idx) : k0_pay3 v y = (v y : EReal) := by
  idx_vars y
  pointwise [k0_pay3]

theorem idx0 : ∀ t : Fin cfg0.N,
    win0_0.index t (0 : Fin 2) = t.val / 4
    ∧ win0_0.index t (1 : Fin 2) = t.val % 4
    ∧ win0_1.index t (0 : Fin 3) = t.val % 4
    ∧ win0_1.index t (1 : Fin 3) = 0
    ∧ win0_1.index t (2 : Fin 3) = 0
    ∧ win0_2.index t (0 : Fin 2) = t.val / 4
    ∧ win0_2.index t (1 : Fin 2) = 0 :=
  (by decide +kernel : ∀ t : Fin grid0.N, _)

/-- What a point adds to the accumulator. -/
def term (t : Fin cfg0.N) : FVec Ideal S512x2048 .f32 := part (iblk m c 0 t) (iblk m c 1 t)

theorem start (t : Fin cfg0.N) (h : t.val % 4 = 0) (y : S512x2048.Idx) :
    (outsAt0 m c t.val t.isLt).2 y = ((fun _ => 0 : S512x2048.Idx → EReal) y + term m c t y : EReal) := by
  rw [outsAt0_A m c t h (by omega)]
  frame_out
  rw [pay2, pay1]
  rfl

theorem step (t : Fin cfg0.N) (h : ¬t.val % 4 = 0) (y : S512x2048.Idx) :
    (outsAt0 m c t.val t.isLt).2 y = ((outsAt0 m c (t.val - 1) (Nat.lt_of_le_of_lt (Nat.sub_le _ _) t.isLt)).2 y + term m c t y : EReal) := by
  by_cases h1 : t.val % 4 = 3
  · rw [outsAt0_C m c t h h1]
    frame_out
    rw [pay2]
    exact congrArg (fun q : EReal => q + term m c t y)
      (congrFun ((Memref.isWhole_whole cc0_scratch0).read_unread (Val := Elt Ideal) _) y)
  · rw [outsAt0_B m c t h h1]
    frame_out
    rw [pay2]
    exact congrArg (fun q : EReal => q + term m c t y)
      (congrFun ((Memref.isWhole_whole cc0_scratch0).read_unread (Val := Elt Ideal) _) y)

theorem out (t : Fin cfg0.N) (h : ¬t.val % 4 = 0) (h1 : t.val % 4 = 3) (y : S512x2048.Idx) :
    (outsAt0 m c t.val t.isLt).1 y = ((outsAt0 m c t.val t.isLt).2 y : EReal) := by
  rw [outsAt0_C m c t h h1]
  frame_out
  rw [pay3]

theorem arr : (dats m 0 c).arrAt 2 cfg0.N = dot (m ((c : Thread nD τ).loc main_arg0)) (m ((c : Thread nD τ).loc main_arg1)) := by
  refine (dats m 0 c).arrAt_eq_of_covers 2 _ (by decide +kernel) fun t hf y => ?_
  have hm : t.val % 4 = 3 := (flush0_2 t).mp hf
  have e := idx0
  blk_simp; rw [after0_2, out m c t (by omega) hm]
  rw [Pipeline.eq_sum_fin_of_reset_step_apply_of_flush (M := EReal) (fun n h => (outsAt0 m c n h).2) 4 (fun _ => 0) (term m c)
    (start m c) (step m c) t hm y]
  obtain ⟨r, j, rfl⟩ : ∃ r j, y = ix2 r j := ⟨_, _, eq_ix2 y⟩
  refine (zero_add (M := EReal) _).trans ?_
  unfold term
  refine Fin.sum_mul_add_congr (M := EReal) fun s k hl => ?_
  refine congrArg₂ (fun p q : EReal => p * q) ?_ ?_
  · blk_ext [iblk, V, e]
  · blk_ext [iblk, V, e]

end Cert.Kernel5Ideal.Res

end
-- ==== Proof.Ff.Alg5.lean ====
module

public import proofs.«01_k».proof.Defs
public import proofs.«01_k».proof.Proof.Ff.Arr5
public import proofs.«01_k».proof.Proof.Gen.Reference5Ideal.Run
public import proofs.«01_k».proof.Proof.Gen.Reference5Ideal.Read
public import Idealize.ShloMosaic.Lib.Pointwise
public import Idealize.ShloMosaic.Lib.Claim

@[expose] public section

set_option maxRecDepth 16384

noncomputable section

open Idealize.ShloMosaic Idealize.ShloMosaic.TcCoe Idealize.SL.Sem

/- The gradient of the layer's input through its weight: both programs end with the same array. -/

namespace Cert.Reference5Ideal.Same

open Cert.Reference5Ideal Cert.Reference5Ideal.Read Cert.Kernel5Ideal.Res

theorem e7 (x0 : FVec Ideal S4096x5120 .bf16) (x1 : FVec Ideal S4x2048x1280 .bf16) :
    val_main_v7 (F := Ideal) x0 x1 = dot x0 x1 := by
  funext i
  refine (val_main_v6_apply x0 x1 i).trans ?_
  refine Finset.sum_congr (M := EReal) rfl fun k _ => congrArg₂ (fun p q : EReal => p * q) ?_ ?_
  · refine congrArg x0 ?_
    idx_vars i
    idx_ext
  · rw [val_main_v3_apply, val_main_v2_apply]
    refine congrArg x1 ?_
    idx_vars i
    idx_ext

theorem algebraic : Cert.algebraic_Kernel5Ideal_Reference5Ideal := by
  pair_intro
  · run_from Cert.Kernel5Ideal.Value.run_blocks m g
  · run_from Cert.Reference5Ideal.Value.run m' g'
    exact (val_main_v7_eq (F := Ideal) _ _).trans ((e7 _ _).trans (arr m c).symm)

end Cert.Reference5Ideal.Same

end
-- ==== Proof.Ff.Arr6.lean ====
module

public import proofs.«01_k».proof.Proof.Gen.Kernel6Ideal.Frame
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

/- What each region leaves in its output arrays, at the contents it is entered with. -/

namespace Cert.Kernel6Ideal.Res

open Cert.Kernel6Ideal Cert.Kernel6Ideal.Gen

variable (V : (c : Dev nD) → (b : Ref sig .tc) → Buf (Elt Ideal) ((c : Thread nD τ).loc b)) (c : Dev nD)

/-- `x` and rows of `a` against columns of `w`. -/
def res0 (x : FVec Ideal S4096x2048 .f32) (a : FVec Ideal S4096x2048 .bf16) (w : FVec Ideal S2048x2048 .bf16) : FVec Ideal S4096x2048 .f32 := fun i =>
  x i + ∑ k : Fin 2048, a (ix2 ⟨(i 0).val, (i 0).isLt⟩ k) * w (ix2 k ⟨(i 1).val, (i 1).isLt⟩)

theorem p0_1 (v0 : Vec Ideal S512x1024 .f32) (v1 : Vec Ideal S512x2048 .bf16) (v2 : Vec Ideal S2048x1024 .bf16) (r : Fin 512) (j : Fin 1024) :
    k0_pay1 v0 v1 v2 (ix2 r j) = v0 (ix2 r j) + ∑ k : Fin 2048, v1 (ix2 r k) * v2 (ix2 k j) := by
  pointwise [k0_pay1]

theorem idx0 : ∀ t : Fin cfg0.N,
    win0_0.index t (0 : Fin 2) = t.val % 8
    ∧ win0_0.index t (1 : Fin 2) = 0
    ∧ win0_1.index t (0 : Fin 2) = 0
    ∧ win0_1.index t (1 : Fin 2) = t.val / 8
    ∧ win0_2.index t (0 : Fin 2) = t.val % 8
    ∧ win0_2.index t (1 : Fin 2) = t.val / 8
    ∧ win0_3.index t (0 : Fin 2) = t.val % 8
    ∧ win0_3.index t (1 : Fin 2) = t.val / 8 :=
  (by decide +kernel : ∀ t : Fin grid0.N, _)

theorem arr0_3 : (dat0 V c).arrAt 3 cfg0.N = res0 (V c main_arg0) (V c main_arg1) (V c main_arg2) := by
  refine (dat0 V c).arrAt_eq_of_covers 3 _ (by decide +kernel) fun t hf y => ?_
  blk_simp; rw [after0_3]; frame_out
  obtain ⟨r, j, rfl⟩ : ∃ r j, y = ix2 r j := ⟨_, _, eq_ix2 y⟩
  have e := idx0 t
  rw [p0_1]
  refine congrArg₂ (fun p q : EReal => p + q) (by blk_ext [iblk0, e]) ?_
  refine Finset.sum_congr (M := EReal) rfl fun k _ => ?_
  congr 1
  · blk_ext [iblk0, e]
  · blk_ext [iblk0, e]

/-- `x` and rows of `a` against columns of `w`. -/
def res1 (x : FVec Ideal S4096x2048 .f32) (a : FVec Ideal S4096x5632 .bf16) (w : FVec Ideal S5632x2048 .bf16) : FVec Ideal S4096x2048 .f32 := fun i =>
  x i + ∑ k : Fin 5632, a (ix2 ⟨(i 0).val, (i 0).isLt⟩ k) * w (ix2 k ⟨(i 1).val, (i 1).isLt⟩)

theorem p1_1 (v0 : Vec Ideal S512x1024 .f32) (v1 : Vec Ideal S512x5632 .bf16) (v2 : Vec Ideal S5632x1024 .bf16) (r : Fin 512) (j : Fin 1024) :
    k1_pay1 v0 v1 v2 (ix2 r j) = v0 (ix2 r j) + ∑ k : Fin 5632, v1 (ix2 r k) * v2 (ix2 k j) := by
  pointwise [k1_pay1]

theorem idx1 : ∀ t : Fin cfg1.N,
    win1_0.index t (0 : Fin 2) = t.val % 8
    ∧ win1_0.index t (1 : Fin 2) = 0
    ∧ win1_1.index t (0 : Fin 2) = 0
    ∧ win1_1.index t (1 : Fin 2) = t.val / 8
    ∧ win1_2.index t (0 : Fin 2) = t.val % 8
    ∧ win1_2.index t (1 : Fin 2) = t.val / 8
    ∧ win1_3.index t (0 : Fin 2) = t.val % 8
    ∧ win1_3.index t (1 : Fin 2) = t.val / 8 :=
  (by decide +kernel : ∀ t : Fin grid1.N, _)

theorem arr1_3 : (dat1 V c).arrAt 3 cfg1.N = res1 (V c main_v0) (V c main_arg3) (V c main_arg4) := by
  refine (dat1 V c).arrAt_eq_of_covers 3 _ (by decide +kernel) fun t hf y => ?_
  blk_simp; rw [after1_3]; frame_out
  obtain ⟨r, j, rfl⟩ : ∃ r j, y = ix2 r j := ⟨_, _, eq_ix2 y⟩
  have e := idx1 t
  rw [p1_1]
  refine congrArg₂ (fun p q : EReal => p + q) (by blk_ext [iblk1, e]) ?_
  refine Finset.sum_congr (M := EReal) rfl fun k _ => ?_
  congr 1
  · blk_ext [iblk1, e]
  · blk_ext [iblk1, e]

/-- Rows of `y` against rows of `w`. -/
def rows (y : FVec Ideal S4096x2048 .bf16) (w : FVec Ideal S2048x2048 .bf16) : FVec Ideal S4096x2048 .f32 := fun i =>
  ∑ k : Fin 2048, y (ix2 ⟨(i 0).val, (i 0).isLt⟩ k) * w (ix2 ⟨(i 1).val, (i 1).isLt⟩ k)

theorem p2_1 (v0 : Vec Ideal S512x2048 .bf16) (v1 : Vec Ideal S1024x2048 .bf16) (r : Fin 512) (j : Fin 1024) :
    k2_pay1 v0 v1 (ix2 r j) = ∑ k : Fin 2048, v0 (ix2 r k) * v1 (ix2 j k) := by
  pointwise [k2_pay1]

theorem idx2 : ∀ t : Fin cfg2.N,
    win2_0.index t (0 : Fin 2) = t.val % 8
    ∧ win2_0.index t (1 : Fin 2) = 0
    ∧ win2_1.index t (0 : Fin 2) = t.val / 8
    ∧ win2_1.index t (1 : Fin 2) = 0
    ∧ win2_2.index t (0 : Fin 2) = t.val % 8
    ∧ win2_2.index t (1 : Fin 2) = t.val / 8 :=
  (by decide +kernel : ∀ t : Fin grid2.N, _)

theorem arr2_2 : (dat2 V c).arrAt 2 cfg2.N = rows (V c main_arg5) (V c main_arg2) := by
  refine (dat2 V c).arrAt_eq_of_covers 2 _ (by decide +kernel) fun t hf y => ?_
  blk_simp; rw [after2_2]; frame_out
  obtain ⟨r, j, rfl⟩ : ∃ r j, y = ix2 r j := ⟨_, _, eq_ix2 y⟩
  have e := idx2 t
  rw [p2_1]
  refine Finset.sum_congr (M := EReal) rfl fun k _ => ?_
  congr 1
  · blk_ext [iblk2, e]
  · blk_ext [iblk2, e]

/-- Columns of `a` against columns of `b`. -/
def tn2 (a b : FVec Ideal S4096x2048 .bf16) : FVec Ideal S2048x2048 .f32 := fun i =>
  ∑ k : Fin 4096, a (ix2 k ⟨(i 0).val, (i 0).isLt⟩) * b (ix2 k ⟨(i 1).val, (i 1).isLt⟩)

theorem p3_1 (v0 : Vec Ideal S4096x512 .bf16) (v1 : Vec Ideal S4096x1024 .bf16) (r : Fin 512) (j : Fin 1024) :
    k3_pay1 v0 v1 (ix2 r j) = ∑ k : Fin 4096, v0 (ix2 k r) * v1 (ix2 k j) := by
  pointwise [k3_pay1]

theorem idx3 : ∀ t : Fin cfg3.N,
    win3_0.index t (0 : Fin 2) = 0
    ∧ win3_0.index t (1 : Fin 2) = t.val % 4
    ∧ win3_1.index t (0 : Fin 2) = 0
    ∧ win3_1.index t (1 : Fin 2) = t.val / 4
    ∧ win3_2.index t (0 : Fin 2) = t.val % 4
    ∧ win3_2.index t (1 : Fin 2) = t.val / 4 :=
  (by decide +kernel : ∀ t : Fin grid3.N, _)

theorem arr3_2 : (dat3 V c).arrAt 2 cfg3.N = tn2 (V c main_arg1) (V c main_arg5) := by
  refine (dat3 V c).arrAt_eq_of_covers 2 _ (by decide +kernel) fun t hf y => ?_
  blk_simp; rw [after3_2]; frame_out
  obtain ⟨r, j, rfl⟩ : ∃ r j, y = ix2 r j := ⟨_, _, eq_ix2 y⟩
  have e := idx3 t
  rw [p3_1]
  refine Finset.sum_congr (M := EReal) rfl fun k _ => ?_
  congr 1
  · blk_ext [iblk3, e]
  · blk_ext [iblk3, e]

end Cert.Kernel6Ideal.Res

end
-- ==== Proof.Ff.Run6.lean ====
module

public import proofs.«01_k».proof.Proof.Gen.Kernel6Ideal.Frame
public import Idealize.ShloMosaic.Lib.Claim

@[expose] public section

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg)

/- The launch of the program's regions, ending with the results' arrays as the last region leaves them. -/

namespace Cert.Kernel6Ideal.Res

open Cert.Kernel6Ideal Cert.Kernel6Ideal.Gen

variable {F : FTy → Type} [FloatOps F]

/-- The state assertions are over this resource algebra. -/
local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run : θ_run defs (onTc (τ := τ) (main (F := F))) ⟨m, fun _ => 0, ρ⟩ (fun r => (∀ c : Dev nD,
      r.2.mem ((c.tc : Thread nD τ).loc main_v1) = W4 m ρ c (Proc.devRef .tc main_v1) ∧
      r.2.mem ((c.tc : Thread nD τ).loc main_v2) = W4 m ρ c (Proc.devRef .tc main_v2) ∧
      r.2.mem ((c.tc : Thread nD τ).loc main_v3) = W4 m ρ c (Proc.devRef .tc main_v3) ∧
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) ∧
      r.2.mem ((c.tc : Thread nD τ).loc main_arg5) = m ((c.tc : Thread nD τ).loc main_arg5))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨(fun c => ⟨
       h c _ (mem_uc main_v1 (by decide)),
       h c _ (mem_uc main_v2 (by decide)),
       h c _ (mem_uc main_v3 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c)⟩), funext fun g => hz g (.inr (no_unscoped g.2))⟩)

end Cert.Kernel6Ideal.Res

end
-- ==== Proof.Ff.Res6.lean ====
module

public import proofs.«01_k».proof.Proof.Ff.Arr6
public import proofs.«01_k».proof.Proof.Ff.Run6

@[expose] public section

set_option maxRecDepth 16384

noncomputable section

open Idealize.ShloMosaic Idealize.ShloMosaic.TcCoe Idealize.SL.Sem

/- The results' arrays after the run, in terms of the arguments. -/

namespace Cert.Kernel6Ideal.Res

open Cert.Kernel6Ideal Cert.Kernel6Ideal.Gen

variable (m : (ℓ : Loc nD τ sig) → Buf (Elt Ideal) ℓ) (ρ : Dev nD → PrngReg) (c : Dev nD)

theorem w1_0 : W1 m ρ c (Proc.devRef .tc main_v0) = res0 (m ((c : Thread nD τ).loc main_arg0)) (m ((c : Thread nD τ).loc main_arg1)) (m ((c : Thread nD τ).loc main_arg2)) :=
  (W1_arr m ρ c 3).trans (arr0_3 (V0 m ρ) c)

theorem w4_1 : W4 m ρ c (Proc.devRef .tc main_v1) = res1 (res0 (m ((c : Thread nD τ).loc main_arg0)) (m ((c : Thread nD τ).loc main_arg1)) (m ((c : Thread nD τ).loc main_arg2)))
    (m ((c : Thread nD τ).loc main_arg3)) (m ((c : Thread nD τ).loc main_arg4)) := by
  refine ((W4_of m ρ c main_v1 (by decide +kernel)).trans (W3_of m ρ c main_v1 (by decide +kernel))).trans ?_
  refine ((W2_arr m ρ c 3).trans (arr1_3 (V1 m ρ) c)).trans ?_
  exact congr (congrArg₂ res1 (w1_0 m ρ c) (W1_args m ρ c main_arg3 (by decide))) (W1_args m ρ c main_arg4 (by decide))

theorem w4_2 : W4 m ρ c (Proc.devRef .tc main_v2) = rows (m ((c : Thread nD τ).loc main_arg5)) (m ((c : Thread nD τ).loc main_arg2)) := by
  refine (W4_of m ρ c main_v2 (by decide +kernel)).trans (((W3_arr m ρ c 2).trans (arr2_2 (V2 m ρ) c)).trans ?_)
  exact congrArg₂ rows (W2_args m ρ c main_arg5 (by decide)) (W2_args m ρ c main_arg2 (by decide))

theorem w4_3 : W4 m ρ c (Proc.devRef .tc main_v3) = tn2 (m ((c : Thread nD τ).loc main_arg1)) (m ((c : Thread nD τ).loc main_arg5)) := by
  refine ((W4_arr m ρ c 2).trans (arr3_2 (V3 m ρ) c)).trans ?_
  exact congrArg₂ tn2 (W3_args m ρ c main_arg1 (by decide)) (W3_args m ρ c main_arg5 (by decide))

end Cert.Kernel6Ideal.Res

end
-- ==== Proof.Ff.Alg6.lean ====
module

public import proofs.«01_k».proof.Defs
public import proofs.«01_k».proof.Proof.Ff.Res6
public import proofs.«01_k».proof.Proof.Gen.Reference6Ideal.Run
public import proofs.«01_k».proof.Proof.Gen.Reference6Ideal.Read
public import Idealize.ShloMosaic.Lib.Pointwise
public import Idealize.ShloMosaic.Lib.Claim

@[expose] public section

set_option maxRecDepth 16384

noncomputable section

open Idealize.ShloMosaic Idealize.ShloMosaic.TcCoe Idealize.SL.Sem

/- The residual stream and the output projection's gradients: both programs end with the same three arrays. -/

namespace Cert.Reference6Ideal.Same

open Cert.Reference6Ideal Cert.Reference6Ideal.Read Cert.Kernel6Ideal.Res

theorem e11 (x0 : FVec Ideal S4096x2048 .f32) (x1 : FVec Ideal S4096x2048 .bf16) (x2 : FVec Ideal S2048x2048 .bf16)
    (x3 : FVec Ideal S4096x5632 .bf16) (x4 : FVec Ideal S5632x2048 .bf16) :
    val_main_v11 (F := Ideal) x0 x1 x2 x3 x4 = res1 (res0 x0 x1 x2) x3 x4 := by
  funext i
  refine (val_main_v11_apply (F := Ideal) x0 x1 x2 x3 x4 i).trans ?_
  refine congrArg₂ (fun p q : EReal => p + q) ((val_main_v3_apply (F := Ideal) x0 x1 x2 i).trans (congrArg (fun q : EReal => x0 i + q) ?_)) ?_
  · refine (val_main_v2_apply x1 x2 i).trans ?_
    refine Finset.sum_congr (M := EReal) rfl fun k _ => congrArg₂ (fun p q : EReal => p * q) (congrArg x1 ?_) (congrArg x2 ?_)
    all_goals
      idx_vars i
      idx_ext
  · refine (val_main_v10_apply x3 x4 i).trans ?_
    refine Finset.sum_congr (M := EReal) rfl fun k _ => congrArg₂ (fun p q : EReal => p * q) (congrArg x3 ?_) (congrArg x4 ?_)
    all_goals
      idx_vars i
      idx_ext

theorem e12 (x2 : FVec Ideal S2048x2048 .bf16) (x5 : FVec Ideal S4096x2048 .bf16) :
    val_main_v12 (F := Ideal) x2 x5 = rows x5 x2 := by
  funext i
  refine (val_main_v7_apply x2 x5 i).trans ?_
  refine Finset.sum_congr (M := EReal) rfl fun k _ => congrArg₂ (fun p q : EReal => p * q) (congrArg x5 ?_) (congrArg x2 ?_)
  all_goals
    idx_vars i
    idx_ext

theorem e13 (x1 x5 : FVec Ideal S4096x2048 .bf16) :
    val_main_v13 (F := Ideal) x1 x5 = tn2 x1 x5 := by
  funext i
  refine (val_main_v6_apply (F := Ideal) x1 x5 i).trans ?_
  rw [val_main_v5_apply]
  refine Finset.sum_congr (M := EReal) rfl fun k _ => (mul_comm (G := EReal) _ _).trans (congrArg₂ (fun p q : EReal => p * q) (congrArg x1 ?_) (congrArg x5 ?_))
  all_goals
    idx_vars i
    idx_ext

theorem algebraic : Cert.algebraic_Kernel6Ideal_Reference6Ideal := by
  pair_intro
  · run_from Cert.Kernel6Ideal.Res.run m g
  · run_from Cert.Reference6Ideal.Value.run m' g'
    · exact (val_main_v11_eq (F := Ideal) _ _ _ _ _).trans ((e11 _ _ _ _ _).trans (w4_1 m g c).symm)
    · exact (val_main_v12_eq (F := Ideal) _ _).trans ((e12 _ _).trans (w4_2 m g c).symm)
    · exact (val_main_v13_eq (F := Ideal) _ _).trans ((e13 _ _).trans (w4_3 m g c).symm)

end Cert.Reference6Ideal.Same

end
-- ==== Proof.Ff.Rms.lean ====
/- The gradient of a row's root-mean-square normalisation over the extended reals: the two ways of writing it. -/
module

public import Idealize.ShloMosaic.PureOps
public import Idealize.ShloMosaic.Lib.Pointwise
public import proofs.«01_k».proof.Proof.Gm.Real

@[expose] public section

set_option maxRecDepth 16384

noncomputable section

namespace Cert.Rms

open Idealize.ShloMosaic Cert.Gm

theorem w_2048 : Ideal.ofBits .f32 0x45000000#32 = ((2048 : ℝ) : EReal) := by
  simp [Ideal.ofBits, Ideal.ieee]; norm_num; rw [← EReal.coe_mul]; norm_num
theorem w_inv : Ideal.ofBits .f32 0x3A000000#32 = ((1 / 2048 : ℝ) : EReal) := by
  simp [Ideal.ofBits, Ideal.ieee]; norm_num; rw [← EReal.coe_mul]; norm_num

/-- A row's length as a literal and as a real number. -/
class Len (n : ℕ) where
  w : BitVec 32
  q : ℝ
  hq : 0 < q
  hw : Ideal.ofBits .f32 w = (q : EReal)

@[reducible] instance : Len 2048 := ⟨0x45000000#32, 2048, by norm_num, w_2048⟩
@[reducible] instance : Len 1024 := ⟨0x44800000#32, 1024, by norm_num, w_1024⟩

variable {n : ℕ} [Len n]

/-- The mean of a row. -/
def mean (f : Fin n → EReal) : EReal := Ideal.div (∑ k, f k) (Ideal.ofBits .f32 (Len.w n))

/-- The mean square of a row and the literal. -/
def ms (x : Fin n → EReal) : EReal := mean (fun k => x k * x k) + Ideal.ofBits .f32 0x358637BD#32

/-- The scale of a row. -/
def rn (x : Fin n → EReal) : EReal := Ideal.rsqrt (ms x)

/-- The row's gradient as the kernel writes it. -/
def gr (x d : Fin n → EReal) (j : Fin n) : EReal :=
  rn x * (d j - x j * rn x * mean (fun k => d k * (x k * rn x)))

/-- The factor of the row itself in the derivative of its scale. -/
def fa (x d : Fin n → EReal) : EReal :=
  Ideal.div ((∑ k, x k * d k) * (Ideal.ofBits .f32 0xBF000000#32 * Ideal.div (rn x) (ms x))) (Ideal.ofBits .f32 (Len.w n))

theorem mean_eq (f : Fin n → EReal) : mean f = (∑ k, f k) * ((1 / Len.q n : ℝ) : EReal) := by
  unfold mean
  rw [Len.hw, Ideal.div_coe Len.hq.ne']

theorem sq_nonneg (x : EReal) : 0 ≤ x * x := by
  rcases le_total 0 x with h | h
  · exact EReal.mul_nonneg h h
  · have := EReal.mul_nonneg (EReal.neg_nonneg.2 h) (EReal.neg_nonneg.2 h)
    simpa using this

theorem ms_pos (x : Fin n → EReal) : 0 < ms x := by
  unfold ms
  rw [mean_eq, w_eps]
  have h : (0 : EReal) ≤ (∑ k, x k * x k) * ((1 / Len.q n : ℝ) : EReal) :=
    EReal.mul_nonneg (Finset.sum_nonneg fun k _ => sq_nonneg _) (EReal.coe_nonneg.2 (one_div_nonneg.2 (Len.hq (n := n)).le))
  have e : (0 : EReal) < ((eps : ℝ) : EReal) := EReal.coe_pos.2 eps_pos
  calc (0 : EReal) < ((eps : ℝ) : EReal) := e
    _ = 0 + ((eps : ℝ) : EReal) := (zero_add _).symm
    _ ≤ _ := add_le_add h le_rfl

/-- The scale is a real number that is not negative; over the mean square it is its own cube. -/
theorem rn_real (x : Fin n → EReal) : ∃ r : ℝ, 0 ≤ r ∧ rn x = (r : EReal)
    ∧ Ideal.div (rn x) (ms x) = ((r * r * r : ℝ) : EReal) := by
  have hp := ms_pos x
  unfold rn
  generalize ms x = a at hp
  induction a using EReal.rec with
  | bot => exact absurd hp (by simp)
  | top =>
    refine ⟨0, le_rfl, by simp, ?_⟩
    simp [Ideal.div]
  | coe a =>
    have ha : 0 < a := EReal.coe_pos.1 hp
    refine ⟨(Real.sqrt a)⁻¹, inv_nonneg.2 (Real.sqrt_nonneg _), rsqrt_real ha, ?_⟩
    rw [rsqrt_real ha, Ideal.div_coe ha.ne', ← EReal.coe_mul]
    congr 1
    have h : Real.sqrt a ≠ 0 := (Real.sqrt_pos.2 ha).ne'
    have e : (1 / a : ℝ) = (Real.sqrt a)⁻¹ * (Real.sqrt a)⁻¹ := by
      rw [← mul_inv, Real.mul_self_sqrt ha.le, one_div]
    rw [e, mul_assoc]

/-- A nonnegative real factor comes out of a sum. -/
theorem sum_mul (n : ℕ) (f : Fin n → EReal) (r : ℝ) (hr : 0 ≤ r) : ∑ k, f k * (r : EReal) = (∑ k, f k) * (r : EReal) := by
  induction n with
  | zero => simp
  | succ n ih =>
    rw [Fin.sum_univ_succ, Fin.sum_univ_succ, ih,
      EReal.right_distrib_of_nonneg_of_ne_top (EReal.coe_nonneg.2 hr) (EReal.coe_ne_top _)]

theorem halves (w : EReal) : w * ((-1 / 2 : ℝ) : EReal) + w * ((-1 / 2 : ℝ) : EReal) = -w := by
  induction w using EReal.rec with
  | bot => rw [EReal.bot_mul_coe_of_neg (by norm_num)]; simp
  | top => rw [EReal.top_mul_coe_of_neg (by norm_num)]; simp
  | coe w =>
    rw [← EReal.coe_mul, ← EReal.coe_add, ← EReal.coe_neg]
    congr 1
    ring

theorem gr_eq (x d : Fin n → EReal) (D : EReal) (j : Fin n) :
    D + d j * rn x + x j * fa x d + fa x d * x j = D + gr x d j := by
  obtain ⟨r, hr, e, e'⟩ := rn_real x
  unfold gr fa
  rw [e', e, mean_eq, w_nhalf, Len.hw, Ideal.div_coe Len.hq.ne']
  have hs : ∑ k, d k * (x k * (r : EReal)) = (∑ k, x k * d k) * (r : EReal) := by
    rw [← sum_mul _ _ r hr]
    refine Finset.sum_congr (M := EReal) rfl fun k _ => ?_
    rw [← mul_assoc, mul_comm (d k)]
  rw [hs]
  generalize (∑ k, x k * d k) = S
  rw [sub_eq_add_neg, EReal.left_distrib_of_nonneg_of_ne_top (EReal.coe_nonneg.2 hr) (EReal.coe_ne_top _),
    mul_neg]
  have hw : S * (((-1 / 2 : ℝ) : EReal) * ((r * r * r : ℝ) : EReal)) * ((1 / Len.q n : ℝ) : EReal) * x j
      = (r : EReal) * (x j * (r : EReal) * (S * (r : EReal) * ((1 / Len.q n : ℝ) : EReal))) * ((-1 / 2 : ℝ) : EReal) := by
    rw [EReal.coe_mul, EReal.coe_mul]
    generalize ((-1 / 2 : ℝ) : EReal) = h
    generalize ((1 / Len.q n : ℝ) : EReal) = q
    ac_rfl
  rw [mul_comm (x j) (S * _ * _), hw, add_assoc, halves, add_assoc, mul_comm (d j)]

/-- Half of one over the row's length, twice. -/
theorem scal (e : EReal) :
    Ideal.div (Ideal.ofBits .f32 0x3F000000#32 * Ideal.ofBits .f32 0x3F800000#32) (Ideal.ofBits .f32 0x45000000#32)
      * (Ideal.ofBits .f32 0x40000000#32 * e) = e * Ideal.ofBits .f32 0x3A000000#32 := by
  rw [w_half, w_one, w_2048, w_two, w_inv, Ideal.div_coe (by norm_num), ← EReal.coe_mul, ← EReal.coe_mul, ← mul_assoc, ← EReal.coe_mul,
    mul_comm e]
  congr 2
  norm_num

theorem sum_half (n : ℕ) (f : Fin n → EReal) :
    ∑ k, Ideal.ofBits .f32 0x3F000000#32 * f k = Ideal.ofBits .f32 0x3F000000#32 * ∑ k, f k := by
  rw [w_half, mul_comm, ← sum_mul _ _ _ (by norm_num)]
  exact Finset.sum_congr (M := EReal) rfl fun k _ => mul_comm _ _

end Cert.Rms

end
-- ==== Proof.Ff.Arr7.lean ====
module

public import proofs.«01_k».proof.Proof.Ff.Rms
public import proofs.«01_k».proof.Proof.Gen.Kernel7Ideal.Value
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

/- The gradient of the first normalisation: what the points leave in the three output arrays. -/

namespace Cert.Kernel7Ideal.Res

open Cert.Kernel7Ideal Cert.Kernel7Ideal.Gen Cert.Rms

variable (m : (ℓ : Loc nD τ sig) → Buf (Elt Ideal) ℓ) (c : Dev nD)

/-! ## The arrays -/

abbrev row (x : FVec Ideal S4096x2048 .f32) (r : Fin 4096) : Fin 2048 → EReal := fun k => x (ix2 r k)
abbrev drow (d : FVec Ideal S4096x2048 .bf16) (g : FVec Ideal S2048 .f32) (r : Fin 4096) : Fin 2048 → EReal :=
  fun k => d (ix2 r k) * g (ix1 k)

def dxA (d : FVec Ideal S4096x2048 .bf16) (x : FVec Ideal S4096x2048 .f32) (g : FVec Ideal S2048 .f32) (D : FVec Ideal S4096x2048 .f32) :
    FVec Ideal S4096x2048 .f32 := fun i =>
  (D (ix2 ⟨(i 0).val, (i 0).isLt⟩ ⟨(i 1).val, (i 1).isLt⟩) + gr (row x ⟨(i 0).val, (i 0).isLt⟩) (drow d g ⟨(i 0).val, (i 0).isLt⟩) ⟨(i 1).val, (i 1).isLt⟩ : EReal)

def dxB (d : FVec Ideal S4096x2048 .bf16) (x : FVec Ideal S4096x2048 .f32) (g : FVec Ideal S2048 .f32) (D : FVec Ideal S4096x2048 .f32) :
    FVec Ideal S4096x2048 .bf16 := fun i => (dxA d x g D i : EReal)

def dgA (d : FVec Ideal S4096x2048 .bf16) (x : FVec Ideal S4096x2048 .f32) : FVec Ideal S1x2048 .f32 := fun i =>
  (∑ r : Fin 4096, d (ix2 r ⟨(i 1).val, (i 1).isLt⟩) * (x (ix2 r ⟨(i 1).val, (i 1).isLt⟩) * rn (row x r)) : EReal)

/-! ## One block -/

abbrev brow (x : Vec Ideal S256x2048 .f32) (r : Fin 256) : Fin 2048 → EReal := fun k => x (ix2 r k)
abbrev bdrow (d : Vec Ideal S256x2048 .bf16) (g : Vec Ideal S1x2048 .f32) (r : Fin 256) : Fin 2048 → EReal :=
  fun k => d (ix2 r k) * g (ix2 0 k)

def bdx (x : Vec Ideal S256x2048 .f32) (d : Vec Ideal S256x2048 .bf16) (g : Vec Ideal S1x2048 .f32) (D : Vec Ideal S256x2048 .f32) :
    FVec Ideal S256x2048 .f32 := fun y =>
  (D (ix2 ⟨(y 0).val, (y 0).isLt⟩ ⟨(y 1).val, (y 1).isLt⟩) + gr (brow x ⟨(y 0).val, (y 0).isLt⟩) (bdrow d g ⟨(y 0).val, (y 0).isLt⟩) ⟨(y 1).val, (y 1).isLt⟩ : EReal)

def bdg (x : Vec Ideal S256x2048 .f32) (d : Vec Ideal S256x2048 .bf16) : FVec Ideal S1x2048 .f32 := fun y =>
  (∑ r : Fin 256, d (ix2 r ⟨(y 1).val, (y 1).isLt⟩) * (x (ix2 r ⟨(y 1).val, (y 1).isLt⟩) * rn (brow x r)) : EReal)

theorem pay1 (x : Vec Ideal S256x2048 .f32) (d : Vec Ideal S256x2048 .bf16) (g : Vec Ideal S1x2048 .f32) (D : Vec Ideal S256x2048 .f32)
    (y : S256x2048.Idx) : k0_pay1 D (k0_pay8 x d g) (k0_pay9 x) y = (bdx x d g D y : EReal) := by
  idx_vars y
  unfold bdx gr rn ms mean
  pointwise [k0_pay1, k0_pay8, k0_pay9, k0_pay6, k0_pay5, k0_pay4]
  rfl

theorem pay2 (x : Vec Ideal S256x2048 .f32) (d : Vec Ideal S256x2048 .bf16) (g : Vec Ideal S1x2048 .f32) (D : Vec Ideal S256x2048 .f32)
    (y : S256x2048.Idx) : k0_pay2 D (k0_pay8 x d g) (k0_pay9 x) y = (bdx x d g D y : EReal) := by
  refine Eq.trans ?_ (pay1 x d g D y)
  idx_vars y
  pointwise [k0_pay2]

theorem pay3 (y : S1x2048.Idx) : k0_pay3 (F := Ideal) y = (0 : EReal) := by
  idx_vars y
  pointwise [k0_pay3]

theorem pay7 (x : Vec Ideal S256x2048 .f32) (d : Vec Ideal S256x2048 .bf16) (v : Vec Ideal S1x2048 .f32) (y : S1x2048.Idx) :
    k0_pay7 x d v y = (v y + bdg x d y : EReal) := by
  idx_vars y
  unfold bdg rn ms mean
  pointwise [k0_pay7, k0_pay6, k0_pay5, k0_pay4]
  rfl

/-! ## The points -/

theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = 0 ∧ win0_6.index t (1 : Fin 2) = 0 :=
  (by decide +kernel : ∀ t : Fin grid0.N, _)

theorem t_lt (t : Fin cfg0.N) : t.val < 16 := lt_of_lt_of_eq t.isLt (by decide)

theorem b0 (t : Fin cfg0.N) (r : Fin 256) (j : Fin 2048) :
    iblk m c 0 t (ix2 r j) = m ((c : Thread nD τ).loc main_arg0) (ix2 ⟨256 * t.val + r.val, by have := t_lt t; omega⟩ j) := by
  blk_ext [iblk, V, idx0 t]
theorem b1 (t : Fin cfg0.N) (r : Fin 256) (j : Fin 2048) :
    iblk m c 1 t (ix2 r j) = m ((c : Thread nD τ).loc main_arg1) (ix2 ⟨256 * t.val + r.val, by have := t_lt t; omega⟩ j) := by
  blk_ext [iblk, V, idx0 t]
theorem b2 (t : Fin cfg0.N) (j : Fin 2048) :
    iblk m c 2 t (ix2 0 j) = m ((c : Thread nD τ).loc main_arg2) (ix1 j) := by
  have e : iblk m c 2 t (ix2 0 j) = V m c main_v0 (ix2 0 j) := by blk_ext [iblk, idx0 t]
  rw [e]; entry_read; pointwise
theorem b3 (t : Fin cfg0.N) (r : Fin 256) (j : Fin 2048) :
    iblk m c 3 t (ix2 r j) = m ((c : Thread nD τ).loc main_arg3) (ix2 ⟨256 * t.val + r.val, by have := t_lt t; omega⟩ j) := by
  blk_ext [iblk, V, idx0 t]

theorem out4 (t : Fin cfg0.N) (y : S256x2048.Idx) :
    (outsAt0 m c t.val t.isLt).1 y = (bdx (iblk m c 1 t) (iblk m c 0 t) (iblk m c 2 t) (iblk m c 3 t) y : EReal) := by
  by_cases h : t.val % 16 = 0
  · rw [outsAt0_A m c t h]
    frame_out
    exact pay1 _ _ _ _ _
  · rw [outsAt0_B m c t h]
    frame_out
    exact pay1 _ _ _ _ _

theorem out5 (t : Fin cfg0.N) (y : S256x2048.Idx) :
    (outsAt0 m c t.val t.isLt).2.1 y = (bdx (iblk m c 1 t) (iblk m c 0 t) (iblk m c 2 t) (iblk m c 3 t) y : EReal) := by
  by_cases h : t.val % 16 = 0
  · rw [outsAt0_A m c t h]
    frame_out
    exact pay2 _ _ _ _ _
  · rw [outsAt0_B m c t h]
    frame_out
    exact pay2 _ _ _ _ _

theorem start (t : Fin cfg0.N) (h : t.val % 16 = 0) (y : S1x2048.Idx) :
    (outsAt0 m c t.val t.isLt).2.2 y = ((fun _ => 0 : S1x2048.Idx → EReal) y + bdg (iblk m c 1 t) (iblk m c 0 t) y : EReal) := by
  rw [outsAt0_A m c t h]
  frame_out
  rw [pay7, pay3]

theorem step (t : Fin cfg0.N) (h : ¬t.val % 16 = 0) (y : S1x2048.Idx) :
    (outsAt0 m c t.val t.isLt).2.2 y = ((outsAt0 m c (t.val - 1) (Nat.lt_of_le_of_lt (Nat.sub_le _ _) t.isLt)).2.2 y
      + bdg (iblk m c 1 t) (iblk m c 0 t) y : EReal) := by
  rw [outsAt0_B m c t h]
  frame_out
  rw [pay7]

/-! ## The arrays after the run -/

theorem bdx_eq (t : Fin cfg0.N) (r : Fin 256) (j : Fin 2048) :
    bdx (iblk m c 1 t) (iblk m c 0 t) (iblk m c 2 t) (iblk m c 3 t) (ix2 r j)
      = dxA (m ((c : Thread nD τ).loc main_arg0)) (m ((c : Thread nD τ).loc main_arg1)) (m ((c : Thread nD τ).loc main_arg2))
        (m ((c : Thread nD τ).loc main_arg3)) (ix2 ⟨256 * t.val + r.val, by have := t_lt t; omega⟩ j) := by
  have ex : brow (iblk m c 1 t) r = row (m ((c : Thread nD τ).loc main_arg1)) ⟨256 * t.val + r.val, by have := t_lt t; omega⟩ :=
    funext fun k => b1 m c t r k
  have ed : bdrow (iblk m c 0 t) (iblk m c 2 t) r = drow (m ((c : Thread nD τ).loc main_arg0)) (m ((c : Thread nD τ).loc main_arg2))
      ⟨256 * t.val + r.val, by have := t_lt t; omega⟩ :=
    funext fun k => congrArg₂ (fun p q : EReal => p * q) (b0 m c t r k) (b2 m c t k)
  exact congrArg₂ (fun p q : EReal => p + q) (b3 m c t r j) (congrArg₂ (fun p q => gr p q j) ex ed)

theorem arr4 : (dats m 0 c).arrAt 4 cfg0.N = dxA (m ((c : Thread nD τ).loc main_arg0)) (m ((c : Thread nD τ).loc main_arg1))
    (m ((c : Thread nD τ).loc main_arg2)) (m ((c : Thread nD τ).loc main_arg3)) := by
  refine (dats m 0 c).arrAt_eq_of_covers 4 _ (by decide +kernel) fun t hf y => ?_
  have e := idx0
  blk_simp; rw [after0_4, out4 m c t]
  obtain ⟨r, j, rfl⟩ : ∃ r j, y = ix2 r j := ⟨_, _, eq_ix2 y⟩
  rw [bdx_eq m c t r j]
  blk_ext [e]

theorem arr5 : (dats m 0 c).arrAt 5 cfg0.N = dxB (m ((c : Thread nD τ).loc main_arg0)) (m ((c : Thread nD τ).loc main_arg1))
    (m ((c : Thread nD τ).loc main_arg2)) (m ((c : Thread nD τ).loc main_arg3)) := by
  refine (dats m 0 c).arrAt_eq_of_covers 5 _ (by decide +kernel) fun t hf y => ?_
  have e := idx0
  blk_simp; rw [after0_5, out5 m c t]
  obtain ⟨r, j, rfl⟩ : ∃ r j, y = ix2 r j := ⟨_, _, eq_ix2 y⟩
  rw [bdx_eq m c t r j]
  unfold dxB
  blk_ext [e]

theorem arr6 : (dats m 0 c).arrAt 6 cfg0.N = dgA (m ((c : Thread nD τ).loc main_arg0)) (m ((c : Thread nD τ).loc main_arg1)) := by
  refine (dats m 0 c).arrAt_eq_of_covers 6 _ (by decide +kernel) fun t hf y => ?_
  have hm : t.val % 16 = 15 := (flush0_6 t).mp hf
  have e := idx0
  have ht := t_lt t
  blk_simp; rw [after0_6]
  rw [Pipeline.eq_sum_fin_of_reset_step_apply_of_flush (M := EReal) (fun n h => (outsAt0 m c n h).2.2) 16 (fun _ => 0)
    (fun t => bdg (iblk m c 1 t) (iblk m c 0 t)) (start m c) (step m c) t hm y]
  obtain ⟨r, j, rfl⟩ : ∃ r j, y = ix2 r j := ⟨_, _, eq_ix2 y⟩
  refine (zero_add (M := EReal) _).trans ?_
  unfold bdg dgA
  refine Fin.sum_mul_add_congr (M := EReal) fun s k hl => ?_
  have e' := idx0 ⟨16 * (t.val / 16) + s.val, Pipeline.run_point_lt_of_flush t hm s⟩
  refine congrArg₂ (fun p q : EReal => p * q) ?_ (congrArg₂ (fun p q : EReal => p * q) ?_ (congrArg rn (funext fun l => ?_)))
  · blk_ext [iblk, V, e, e']
  · blk_ext [iblk, V, e, e']
  · show iblk m c 1 ⟨16 * (t.val / 16) + s.val, Pipeline.run_point_lt_of_flush t hm s⟩ (ix2 k l)
      = m ((c : Thread nD τ).loc main_arg1) (ix2 ⟨s.val * 256 + k.val, hl⟩ l)
    blk_ext [iblk, V, e, e']

end Cert.Kernel7Ideal.Res

end
-- ==== Proof.Ff.Alg7.lean ====
module

public import proofs.«01_k».proof.Defs
public import proofs.«01_k».proof.Proof.Ff.Arr7
public import proofs.«01_k».proof.Proof.Gen.Reference7Ideal.Run
public import proofs.«01_k».proof.Proof.Gen.Reference7Ideal.Read
public import Idealize.ShloMosaic.Lib.Pointwise
public import Idealize.ShloMosaic.Lib.Claim

@[expose] public section

set_option maxRecDepth 16384

noncomputable section

open Idealize.ShloMosaic Idealize.ShloMosaic.TcCoe Idealize.SL.Sem

/- The gradient of the first normalisation: both programs end with the same arrays. -/

namespace Cert.Reference7Ideal.Same

open Cert.Reference7Ideal Cert.Reference7Ideal.Read Cert.Kernel7Ideal.Res Cert.Rms

section
variable (d : FVec Ideal S4096x2048 .bf16) (x : FVec Ideal S4096x2048 .f32) (g : FVec Ideal S2048 .f32) (D : FVec Ideal S4096x2048 .f32)

theorem e6 (r : Fin 4096) : val_main_v6 (F := Ideal) x (ix2 r 0) = ms (row x r) := by
  rw [val_main_v6_apply, val_main_v4_apply, val_main_v2_apply, val_main_v1_apply]
  unfold ms mean
  refine congrArg₂ (fun p q : EReal => p + q) (congrArg₂ (fun p q : EReal => Ideal.div p q) ?_ ?_) ?_
  · refine (congrArg₂ (fun p q : EReal => p + q) Cert.Gm.w_zero rfl).trans ((zero_add (M := EReal) _).trans ?_)
    refine Finset.sum_congr (M := EReal) rfl fun k _ => ?_
    rw [val_main_v0_apply]
    refine congrArg (fun p => (x p * x p : EReal)) ?_
    idx_ext
  · rw [val_main_v3_apply]; rfl
  · rw [val_main_v5_apply]; rfl

theorem e7 (r : Fin 4096) : val_main_v7 (F := Ideal) x (ix2 r 0) = rn (row x r) :=
  congrArg Ideal.rsqrt (e6 x r)

theorem e12 (r : Fin 4096) (j : Fin 2048) : val_main_v12 (F := Ideal) x (ix2 r j) = (x (ix2 r j) * rn (row x r) : EReal) := by
  rw [val_main_v12_apply, val_main_v11_apply]
  refine congrArg (fun p : EReal => (x (ix2 r j) * p : EReal)) (Eq.trans (congrArg _ ?_) (e7 x r))
  idx_ext

theorem e21 (r : Fin 4096) (j : Fin 2048) : val_main_v21 (F := Ideal) d g (ix2 r j) = drow d g r j := by
  rw [val_main_v21_apply, val_main_v20_apply, val_main_v13_apply]
  refine congrArg₂ (fun p q : EReal => p * q) rfl (congrArg g ?_)
  idx_ext

theorem e24 (r : Fin 4096) : val_main_v24 (F := Ideal) d x g (ix1 r) = (∑ k, row x r k * drow d g r k : EReal) := by
  rw [val_main_v24_apply]
  refine (congrArg₂ (fun p q : EReal => p + q) Cert.Gm.w_zero rfl).trans ((zero_add (M := EReal) _).trans ?_)
  refine Finset.sum_congr (M := EReal) rfl fun k _ => ?_
  have h : idx_main_v24 (ix1 r) k = ix2 r k := by idx_ext
  rw [h, val_main_v23_apply, e21]
  rfl

theorem e32 (r : Fin 4096) : val_main_v32 (F := Ideal) d x g (ix1 r) = fa (row x r) (drow d g r) := by
  rw [val_main_v32_apply]
  refine (congrArg₂ (fun p q : EReal => p + q) Cert.Gm.w_zero rfl).trans ((zero_add (M := EReal) _).trans ?_)
  rw [Fin.sum_univ_one]
  have h : idx_main_v32 (ix1 r) 0 = ix2 r 0 := by idx_ext
  rw [h, val_main_v31_apply, val_main_v30_apply, val_main_v29_apply, val_main_v25_apply, val_main_v10_apply, val_main_v9_apply,
    val_main_v8_apply, e6, e7]
  have h' : idx_main_v25 (ix2 r 0) = ix1 r := by idx_ext
  rw [h', e24]
  rfl

theorem e37 : val_main_v37 (F := Ideal) d x g D = dxA d x g D := by
  funext i
  obtain ⟨r, j, rfl⟩ : ∃ r j, i = ix2 r j := ⟨_, _, eq_ix2 i⟩
  have h26 : idx_main_v26 (ix2 r j) = ix2 r 0 := by idx_ext
  have h33 : idx_main_v33 (ix2 r j) = ix1 r := by idx_ext
  rw [val_main_v37_apply, val_main_v36_apply, val_main_v35_apply, val_main_v34_apply, val_main_v33_apply, val_main_v28_apply,
    val_main_v27_apply, val_main_v26_apply, h26, h33, e7, e32, e21]
  exact gr_eq (row x r) (drow d g r) (D (ix2 r j)) j

theorem e38 : val_main_v38 (F := Ideal) d x g D = dxB d x g D := by
  funext i
  exact congrFun (e37 d x g D) i

theorem e39 : val_main_v39 (F := Ideal) d x = dgA d x := by
  funext i
  obtain ⟨z, j, rfl⟩ : ∃ r j, i = ix2 r j := ⟨_, _, eq_ix2 i⟩
  have h39 : idx_main_v39 (ix2 z j) = ix1 j := by idx_ext
  have h22 : idx_main_v22 (ix1 j) 0 = ix2 0 j := by idx_ext
  have h19 : idx_main_v19 (ix2 0 j) = ix1 j := by idx_ext
  rw [val_main_v39_apply, h39, val_main_v22_apply]
  refine (congrArg₂ (fun p q : EReal => p + q) Cert.Gm.w_zero rfl).trans ((zero_add (M := EReal) _).trans ?_)
  rw [Fin.sum_univ_one, h22, val_main_v19_apply, h19, val_main_v18_apply]
  refine (congrArg₂ (fun p q : EReal => p + q) Cert.Gm.w_zero rfl).trans ((zero_add (M := EReal) _).trans ?_)
  refine Finset.sum_congr (M := EReal) rfl fun k _ => ?_
  have h18 : idx_main_v18 (ix1 j) k = ix2 k j := by idx_ext
  rw [h18, val_main_v17_apply, e12]
  exact mul_comm (G := EReal) _ _

end

theorem algebraic : Cert.algebraic_Kernel7Ideal_Reference7Ideal := by
  pair_intro
  · run_from Cert.Kernel7Ideal.Value.run_blocks m g
  · run_from Cert.Reference7Ideal.Value.run m' g'
    · exact (val_main_v37_eq (F := Ideal) _ _ _ _).trans ((e37 _ _ _ _).trans (arr4 m c).symm)
    · refine (val_main_v38_eq (F := Ideal) m' c).trans ((e38 _ _ _ _).trans (Eq.trans ?_ (arr5 m c).symm))
      obtain ⟨h0, h1, h2, h3⟩ := hagree c
      rw [h0, h1, h2, h3]
    · exact (val_main_v39_eq (F := Ideal) _ _).trans ((e39 _ _).trans (arr6 m c).symm)

end Cert.Reference7Ideal.Same

end
-- ==== Proof.Ff.Arr8.lean ====
module

public import proofs.«01_k».proof.Proof.Ff.Rms
public import proofs.«01_k».proof.Proof.Gen.Kernel8Ideal.Value
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

/- The loss and the gradient of the last normalisation: what the points leave in the four output arrays. -/

namespace Cert.Kernel8Ideal.Res

open Cert.Kernel8Ideal Cert.Kernel8Ideal.Gen Cert.Rms

variable (m : (ℓ : Loc nD τ sig) → Buf (Elt Ideal) ℓ) (c : Dev nD)

/-! ## The arrays -/

section
variable (x : FVec Ideal S4096x2048 .f32) (g : FVec Ideal S2048 .f32) (t : FVec Ideal S4096x2048 .f32)

abbrev row (r : Fin 4096) : Fin 2048 → EReal := fun k => x (ix2 r k)
def err (r : Fin 4096) (k : Fin 2048) : EReal := x (ix2 r k) * rn (row x r) * g (ix1 k) - t (ix2 r k)
def dy (r : Fin 4096) (k : Fin 2048) : EReal := err x g t r k * Ideal.ofBits .f32 0x3A000000#32
def drow (r : Fin 4096) : Fin 2048 → EReal := fun k => dy x g t r k * g (ix1 k)

def lossA : FVec Ideal S8x128 .f32 := fun _ =>
  (Ideal.ofBits .f32 0x3F000000#32 * ∑ r : Fin 4096, mean (fun k => err x g t r k * err x g t r k) : EReal)
def dxA : FVec Ideal S4096x2048 .f32 := fun i => gr (row x ⟨(i 0).val, (i 0).isLt⟩) (drow x g t ⟨(i 0).val, (i 0).isLt⟩) ⟨(i 1).val, (i 1).isLt⟩
def dxB : FVec Ideal S4096x2048 .bf16 := fun i => (dxA x g t i : EReal)
def dgA : FVec Ideal S1x2048 .f32 := fun i =>
  (∑ r : Fin 4096, dy x g t r ⟨(i 1).val, (i 1).isLt⟩ * (x (ix2 r ⟨(i 1).val, (i 1).isLt⟩) * rn (row x r)) : EReal)
end

/-! ## One block -/

section
variable (x : Vec Ideal S256x2048 .f32) (g : Vec Ideal S1x2048 .f32) (t : Vec Ideal S256x2048 .f32)

abbrev brow (r : Fin 256) : Fin 2048 → EReal := fun k => x (ix2 r k)
def berr (r : Fin 256) (k : Fin 2048) : EReal := x (ix2 r k) * rn (brow x r) * g (ix2 0 k) - t (ix2 r k)
def bdy (r : Fin 256) (k : Fin 2048) : EReal := berr x g t r k * Ideal.ofBits .f32 0x3A000000#32
def bdrow (r : Fin 256) : Fin 2048 → EReal := fun k => bdy x g t r k * g (ix2 0 k)

def bloss : FVec Ideal S8x128 .f32 := fun _ =>
  (Ideal.ofBits .f32 0x3F000000#32 * ∑ r : Fin 256, mean (fun k => berr x g t r k * berr x g t r k) : EReal)
def bdx : FVec Ideal S256x2048 .f32 := fun y => gr (brow x ⟨(y 0).val, (y 0).isLt⟩) (bdrow x g t ⟨(y 0).val, (y 0).isLt⟩) ⟨(y 1).val, (y 1).isLt⟩
def bdg : FVec Ideal S1x2048 .f32 := fun y =>
  (∑ r : Fin 256, bdy x g t r ⟨(y 1).val, (y 1).isLt⟩ * (x (ix2 r ⟨(y 1).val, (y 1).isLt⟩) * rn (brow x r)) : EReal)

theorem pay6 (r : Fin 256) : k0_pay6 x (ix2 r 0) = rn (brow x r) := by
  unfold rn ms mean
  pointwise [k0_pay6]
  rfl

theorem pay7 (r : Fin 256) (k : Fin 2048) : k0_pay7 x (ix2 r k) = (x (ix2 r k) * rn (brow x r) : EReal) := by
  unfold rn ms mean
  pointwise [k0_pay7, k0_pay6]
  rfl

theorem pay9 (r : Fin 256) (k : Fin 2048) : k0_pay9 x g t (ix2 r k) = berr x g t r k := by
  unfold berr rn ms mean
  pointwise [k0_pay9, k0_pay8, k0_pay7, k0_pay6]
  rfl

theorem pay11 (r : Fin 256) (k : Fin 2048) : k0_pay11 x g t (ix2 r k) = bdy x g t r k := by
  unfold bdy berr rn ms mean
  pointwise [k0_pay11, k0_pay9, k0_pay8, k0_pay7, k0_pay6]
  rfl

theorem pay2 (y : S256x2048.Idx) : k0_pay2 (k0_pay6 x) (k0_pay7 x) (k0_pay8 g) (k0_pay11 x g t) y = (bdx x g t y : EReal) := by
  idx_vars y
  unfold bdx gr bdrow bdy berr rn ms mean
  pointwise [k0_pay2, k0_pay11, k0_pay9, k0_pay8, k0_pay7, k0_pay6]
  rfl

theorem pay3 (y : S256x2048.Idx) : k0_pay3 (k0_pay6 x) (k0_pay7 x) (k0_pay8 g) (k0_pay11 x g t) y = (bdx x g t y : EReal) := by
  refine Eq.trans ?_ (pay2 x g t y)
  idx_vars y
  pointwise [k0_pay3]

theorem pay4 (y : S1x2048.Idx) : k0_pay4 (F := Ideal) y = (0 : EReal) := by
  idx_vars y
  pointwise [k0_pay4]

theorem pay5 (y : S8x128.Idx) : k0_pay5 (F := Ideal) y = (0 : EReal) := by
  idx_vars y
  pointwise [k0_pay5]

theorem pay1 (v : Vec Ideal S1x2048 .f32) (y : S1x2048.Idx) :
    k0_pay1 (k0_pay7 x) (k0_pay11 x g t) v y = (v y + bdg x g t y : EReal) := by
  idx_vars y
  unfold bdg bdy berr rn ms mean
  pointwise [k0_pay1, k0_pay11, k0_pay9, k0_pay8, k0_pay7, k0_pay6]
  rfl

theorem pay10 (v : Vec Ideal S8x128 .f32) (y : S8x128.Idx) :
    k0_pay10 x g t v y = (v y + bloss x g t y : EReal) := by
  idx_vars y
  unfold bloss berr rn ms mean
  pointwise [k0_pay10, k0_pay9, k0_pay8, k0_pay7, k0_pay6]
  simp only [Fin.sum_univ_one]
  rfl
end

/-! ## The points -/

theorem idx0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = 0 ∧ win0_6.index t (1 : Fin 2) = 0 :=
  (by decide +kernel : ∀ t : Fin grid0.N, _)

theorem t_lt (t : Fin cfg0.N) : t.val < 16 := lt_of_lt_of_eq t.isLt (by decide)

/-- The array's row that row `r` of point `t`'s blocks is. -/
def at' (t : Fin cfg0.N) (r : Fin 256) : Fin 4096 := ⟨256 * t.val + r.val, by have := t_lt t; omega⟩

theorem b0 (t : Fin cfg0.N) (r : Fin 256) (j : Fin 2048) :
    iblk m c 0 t (ix2 r j) = m ((c : Thread nD τ).loc main_arg0) (ix2 (at' t r) j) := by
  unfold at'
  blk_ext [iblk, V, idx0 t]
theorem b1 (t : Fin cfg0.N) (j : Fin 2048) :
    iblk m c 1 t (ix2 0 j) = m ((c : Thread nD τ).loc main_arg1) (ix1 j) := by
  have e : iblk m c 1 t (ix2 0 j) = V m c main_v0 (ix2 0 j) := by blk_ext [iblk, idx0 t]
  rw [e]; entry_read; pointwise
theorem b2 (t : Fin cfg0.N) (r : Fin 256) (j : Fin 2048) :
    iblk m c 2 t (ix2 r j) = m ((c : Thread nD τ).loc main_arg2) (ix2 (at' t r) j) := by
  unfold at'
  blk_ext [iblk, V, idx0 t]

theorem out4 (t : Fin cfg0.N) (y : S256x2048.Idx) :
    (outsAt0 m c t.val t.isLt).2.1 y = (bdx (iblk m c 0 t) (iblk m c 1 t) (iblk m c 2 t) y : EReal) := by
  by_cases h : t.val % 16 = 0
  · rw [outsAt0_A m c t h]
    frame_out
    exact pay2 _ _ _ _
  · rw [outsAt0_B m c t h]
    frame_out
    exact pay2 _ _ _ _

theorem out5 (t : Fin cfg0.N) (y : S256x2048.Idx) :
    (outsAt0 m c t.val t.isLt).2.2.1 y = (bdx (iblk m c 0 t) (iblk m c 1 t) (iblk m c 2 t) y : EReal) := by
  by_cases h : t.val % 16 = 0
  · rw [outsAt0_A m c t h]
    frame_out
    exact pay3 _ _ _ _
  · rw [outsAt0_B m c t h]
    frame_out
    exact pay3 _ _ _ _

theorem start6 (t : Fin cfg0.N) (h : t.val % 16 = 0) (y : S1x2048.Idx) :
    (outsAt0 m c t.val t.isLt).2.2.2 y = ((fun _ => 0 : S1x2048.Idx → EReal) y + bdg (iblk m c 0 t) (iblk m c 1 t) (iblk m c 2 t) y : EReal) := by
  rw [outsAt0_A m c t h]
  frame_out
  rw [pay1, pay4]

theorem step6 (t : Fin cfg0.N) (h : ¬t.val % 16 = 0) (y : S1x2048.Idx) :
    (outsAt0 m c t.val t.isLt).2.2.2 y = ((outsAt0 m c (t.val - 1) (Nat.lt_of_le_of_lt (Nat.sub_le _ _) t.isLt)).2.2.2 y
      + bdg (iblk m c 0 t) (iblk m c 1 t) (iblk m c 2 t) y : EReal) := by
  rw [outsAt0_B m c t h]
  frame_out
  rw [pay1]

theorem start3 (t : Fin cfg0.N) (h : t.val % 16 = 0) (y : S8x128.Idx) :
    (outsAt0 m c t.val t.isLt).1 y = ((fun _ => 0 : S8x128.Idx → EReal) y + bloss (iblk m c 0 t) (iblk m c 1 t) (iblk m c 2 t) y : EReal) := by
  rw [outsAt0_A m c t h]
  frame_out
  rw [pay10, pay5]

theorem step3 (t : Fin cfg0.N) (h : ¬t.val % 16 = 0) (y : S8x128.Idx) :
    (outsAt0 m c t.val t.isLt).1 y = ((outsAt0 m c (t.val - 1) (Nat.lt_of_le_of_lt (Nat.sub_le _ _) t.isLt)).1 y
      + bloss (iblk m c 0 t) (iblk m c 1 t) (iblk m c 2 t) y : EReal) := by
  rw [outsAt0_B m c t h]
  frame_out
  rw [pay10]

/-! ## The arrays after the run -/

abbrev X : FVec Ideal S4096x2048 .f32 := m ((c : Thread nD τ).loc main_arg0)
abbrev G : FVec Ideal S2048 .f32 := m ((c : Thread nD τ).loc main_arg1)
abbrev T : FVec Ideal S4096x2048 .f32 := m ((c : Thread nD τ).loc main_arg2)

theorem brow_eq (t : Fin cfg0.N) (r : Fin 256) : brow (iblk m c 0 t) r = row (X m c) (at' t r) := funext fun k => b0 m c t r k

theorem berr_eq (t : Fin cfg0.N) (r : Fin 256) (k : Fin 2048) :
    berr (iblk m c 0 t) (iblk m c 1 t) (iblk m c 2 t) r k = err (X m c) (G m c) (T m c) (at' t r) k := by
  unfold berr err
  rw [brow_eq m c t r]
  exact congrArg₂ (fun p q : EReal => p - q) (congrArg₂ (fun p q : EReal => p * q)
    (congrArg (fun p : EReal => p * rn (row (X m c) (at' t r))) (b0 m c t r k)) (b1 m c t k)) (b2 m c t r k)

theorem bdy_eq (t : Fin cfg0.N) (r : Fin 256) (k : Fin 2048) :
    bdy (iblk m c 0 t) (iblk m c 1 t) (iblk m c 2 t) r k = dy (X m c) (G m c) (T m c) (at' t r) k :=
  congrArg (fun p : EReal => p * Ideal.ofBits .f32 0x3A000000#32) (berr_eq m c t r k)

theorem bdrow_eq (t : Fin cfg0.N) (r : Fin 256) :
    bdrow (iblk m c 0 t) (iblk m c 1 t) (iblk m c 2 t) r = drow (X m c) (G m c) (T m c) (at' t r) :=
  funext fun k => congrArg₂ (fun p q : EReal => p * q) (bdy_eq m c t r k) (b1 m c t k)

theorem bdx_eq (t : Fin cfg0.N) (r : Fin 256) (j : Fin 2048) :
    bdx (iblk m c 0 t) (iblk m c 1 t) (iblk m c 2 t) (ix2 r j) = dxA (X m c) (G m c) (T m c) (ix2 (at' t r) j) :=
  congrArg₂ (fun p q => gr p q j) (brow_eq m c t r) (bdrow_eq m c t r)

theorem arr4 : (dats m 0 c).arrAt 4 cfg0.N = dxA (X m c) (G m c) (T m c) := by
  refine (dats m 0 c).arrAt_eq_of_covers 4 _ (by decide +kernel) fun t hf y => ?_
  have e := idx0
  blk_simp; rw [after0_4, out4 m c t]
  obtain ⟨r, j, rfl⟩ : ∃ r j, y = ix2 r j := ⟨_, _, eq_ix2 y⟩
  rw [bdx_eq m c t r j]
  unfold at'
  blk_ext [e]

theorem arr5 : (dats m 0 c).arrAt 5 cfg0.N = dxB (X m c) (G m c) (T m c) := by
  refine (dats m 0 c).arrAt_eq_of_covers 5 _ (by decide +kernel) fun t hf y => ?_
  have e := idx0
  blk_simp; rw [after0_5, out5 m c t]
  obtain ⟨r, j, rfl⟩ : ∃ r j, y = ix2 r j := ⟨_, _, eq_ix2 y⟩
  rw [bdx_eq m c t r j]
  unfold dxB at'
  blk_ext [e]

theorem at_run (t : Fin cfg0.N) (hm : t.val % 16 = 15) (s : Fin 16) (k : Fin 256) (hl : s.val * 256 + k.val < 4096) :
    at' ⟨16 * (t.val / 16) + s.val, Pipeline.run_point_lt_of_flush t hm s⟩ k = ⟨s.val * 256 + k.val, hl⟩ := by
  have ht := t_lt t
  refine Fin.ext ?_
  show 256 * (16 * (t.val / 16) + s.val) + k.val = s.val * 256 + k.val
  omega

theorem arr6 : (dats m 0 c).arrAt 6 cfg0.N = dgA (X m c) (G m c) (T m c) := by
  refine (dats m 0 c).arrAt_eq_of_covers 6 _ (by decide +kernel) fun t hf y => ?_
  have hm : t.val % 16 = 15 := (flush0_6 t).mp hf
  have e := idx0
  blk_simp; rw [after0_6]
  rw [Pipeline.eq_sum_fin_of_reset_step_apply_of_flush (M := EReal) (fun n h => (outsAt0 m c n h).2.2.2) 16 (fun _ => 0)
    (fun t => bdg (iblk m c 0 t) (iblk m c 1 t) (iblk m c 2 t)) (start6 m c) (step6 m c) t hm y]
  obtain ⟨r, j, rfl⟩ : ∃ r j, y = ix2 r j := ⟨_, _, eq_ix2 y⟩
  refine (zero_add (M := EReal) _).trans ?_
  have h : ∑ s : Fin 16, bdg (iblk m c 0 ⟨16 * (t.val / 16) + s.val, Pipeline.run_point_lt_of_flush t hm s⟩)
      (iblk m c 1 ⟨16 * (t.val / 16) + s.val, Pipeline.run_point_lt_of_flush t hm s⟩)
      (iblk m c 2 ⟨16 * (t.val / 16) + s.val, Pipeline.run_point_lt_of_flush t hm s⟩) (ix2 r j)
      = (dgA (X m c) (G m c) (T m c) (ix2 r j) : EReal) := by
    refine Fin.sum_mul_add_congr (M := EReal) fun s k hl => ?_
    rw [← at_run t hm s k hl, bdy_eq, brow_eq]
    exact congrArg (fun p : EReal => dy (X m c) (G m c) (T m c) (at' _ k) j * (p * rn (row (X m c) (at' _ k)))) (b0 m c _ k j)
  refine h.trans ?_
  blk_ext [e]

theorem arr3 : (dats m 0 c).arrAt 3 cfg0.N = lossA (X m c) (G m c) (T m c) := by
  refine (dats m 0 c).arrAt_eq_of_covers 3 _ (by decide +kernel) fun t hf y => ?_
  have hm : t.val % 16 = 15 := (flush0_3 t).mp hf
  blk_simp; rw [after0_3]
  rw [Pipeline.eq_sum_fin_of_reset_step_apply_of_flush (M := EReal) (fun n h => (outsAt0 m c n h).1) 16 (fun _ => 0)
    (fun t => bloss (iblk m c 0 t) (iblk m c 1 t) (iblk m c 2 t)) (start3 m c) (step3 m c) t hm y]
  refine (zero_add (M := EReal) _).trans ((sum_half 16 _).trans ?_)
  refine congrArg (fun p : EReal => Ideal.ofBits .f32 0x3F000000#32 * p) (Fin.sum_mul_add_congr (M := EReal) fun s k hl => ?_)
  rw [← at_run t hm s k hl]
  refine congrArg mean (funext fun l => ?_)
  rw [berr_eq]

end Cert.Kernel8Ideal.Res

end
-- ==== Proof.Ff.Alg8.lean ====
module

public import proofs.«01_k».proof.Defs
public import proofs.«01_k».proof.Proof.Ff.Arr8
public import proofs.«01_k».proof.Proof.Gen.Reference8Ideal.Run
public import proofs.«01_k».proof.Proof.Gen.Reference8Ideal.Read
public import Idealize.ShloMosaic.Lib.Pointwise
public import Idealize.ShloMosaic.Lib.Claim

@[expose] public section

set_option maxRecDepth 16384

noncomputable section

open Idealize.ShloMosaic Idealize.ShloMosaic.TcCoe Idealize.SL.Sem

/- The loss and the gradient of the last normalisation: both programs end with the same arrays. -/

namespace Cert.Reference8Ideal.Same

open Cert.Reference8Ideal Cert.Reference8Ideal.Read Cert.Kernel8Ideal.Res Cert.Rms

section
variable (x : FVec Ideal S4096x2048 .f32) (g : FVec Ideal S2048 .f32) (t : FVec Ideal S4096x2048 .f32)

theorem from_zero (a : EReal) {b : EReal} (h : a = b) : Ideal.ofBits .f32 0x00000000#32 + a = b := by
  rw [Cert.Gm.w_zero, zero_add, h]

theorem e6 (r : Fin 4096) : val_main_v6 (F := Ideal) x (ix2 r 0) = ms (row x r) := by
  rw [val_main_v6_apply, val_main_v4_apply, val_main_v2_apply, val_main_v1_apply]
  unfold ms mean
  refine congrArg₂ (fun p q : EReal => p + q) (congrArg₂ (fun p q : EReal => Ideal.div p q) ?_ ?_) ?_
  · refine from_zero _ (Finset.sum_congr (M := EReal) rfl fun k _ => ?_)
    rw [val_main_v0_apply]
    refine congrArg (fun p => (x p * x p : EReal)) ?_
    idx_ext
  · rw [val_main_v3_apply]; rfl
  · rw [val_main_v5_apply]; rfl

theorem e7 (r : Fin 4096) : val_main_v7 (F := Ideal) x (ix2 r 0) = rn (row x r) :=
  congrArg Ideal.rsqrt (e6 x r)

theorem e12 (r : Fin 4096) (j : Fin 2048) : val_main_v12 (F := Ideal) x (ix2 r j) = (x (ix2 r j) * rn (row x r) : EReal) := by
  rw [val_main_v12_apply, val_main_v11_apply]
  refine congrArg (fun p : EReal => (x (ix2 r j) * p : EReal)) (Eq.trans (congrArg _ ?_) (e7 x r))
  idx_ext

theorem e16 (r : Fin 4096) (j : Fin 2048) : val_main_v16 (F := Ideal) x g t (ix2 r j) = err x g t r j := by
  rw [val_main_v16_apply, val_main_v15_apply, e12, val_main_v14_apply, val_main_v13_apply]
  unfold err
  refine congrArg (fun p : EReal => x (ix2 r j) * rn (row x r) * p - t (ix2 r j)) (congrArg g ?_)
  idx_ext

theorem e22 (r : Fin 4096) : val_main_v22 (F := Ideal) x g t (ix1 r) = mean (fun k => err x g t r k * err x g t r k) := by
  rw [val_main_v22_apply, val_main_v20_apply, val_main_v21_apply]
  refine congrArg₂ (fun p q : EReal => Ideal.div p q) (from_zero _ (Finset.sum_congr (M := EReal) rfl fun k _ => ?_)) rfl
  have h : idx_main_v20 (ix1 r) k = ix2 r k := by idx_ext
  rw [h, val_main_v17_apply, e16]
  rfl

theorem e51 : val_main_v51 (F := Ideal) x g t = lossA x g t := by
  funext i
  rw [val_main_v51_apply, val_main_v24_apply, val_main_v23_apply]
  refine congrArg (fun p : EReal => Ideal.ofBits .f32 0x3F000000#32 * p) (from_zero _ ?_)
  refine (_root_.Idealize.ShloMosaic.sum_idx1 (M := EReal) _).trans ?_
  exact Finset.sum_congr (M := EReal) rfl fun r _ => e22 x g t r

theorem e30 (r : Fin 4096) (j : Fin 2048) : val_main_v30 (F := Ideal) x g t (ix2 r j) = dy x g t r j := by
  rw [val_main_v30_apply, val_main_v29_apply, val_main_v28_apply, val_main_v27_apply, val_main_v26_apply, val_main_v25_apply,
    val_main_v19_apply, val_main_v18_apply, e16]
  exact scal (err x g t r j)

theorem e35 (r : Fin 4096) (j : Fin 2048) : val_main_v35 (F := Ideal) x g t (ix2 r j) = drow x g t r j := by
  rw [val_main_v35_apply, e30, val_main_v34_apply, val_main_v13_apply]
  refine congrArg (fun p : EReal => dy x g t r j * p) (congrArg g ?_)
  idx_ext

theorem e38 (r : Fin 4096) : val_main_v38 (F := Ideal) x g t (ix1 r) = (∑ k, row x r k * drow x g t r k : EReal) := by
  rw [val_main_v38_apply]
  refine from_zero _ (Finset.sum_congr (M := EReal) rfl fun k _ => ?_)
  have h : idx_main_v38 (ix1 r) k = ix2 r k := by idx_ext
  rw [h, val_main_v37_apply, e35]
  rfl

theorem e45 (r : Fin 4096) : val_main_v45 (F := Ideal) x g t (ix1 r) = fa (row x r) (drow x g t r) := by
  rw [val_main_v45_apply]
  refine from_zero _ ?_
  rw [Fin.sum_univ_one]
  have h : idx_main_v45 (ix1 r) 0 = ix2 r 0 := by idx_ext
  have h' : idx_main_v39 (ix2 r 0) = ix1 r := by idx_ext
  rw [h, val_main_v44_apply, val_main_v43_apply, val_main_v42_apply, val_main_v39_apply, val_main_v10_apply, val_main_v9_apply,
    val_main_v8_apply, e6, e7, h', e38]
  rfl

theorem e50 : val_main_v50 (F := Ideal) x g t = dxA x g t := by
  funext i
  obtain ⟨r, j, rfl⟩ : ∃ r j, i = ix2 r j := ⟨_, _, eq_ix2 i⟩
  have h40 : idx_main_v40 (ix2 r j) = ix2 r 0 := by idx_ext
  have h46 : idx_main_v46 (ix2 r j) = ix1 r := by idx_ext
  rw [val_main_v50_apply, val_main_v49_apply, val_main_v48_apply, val_main_v47_apply, val_main_v46_apply, val_main_v41_apply,
    val_main_v40_apply, h40, h46, e7, e45, e35]
  have h := gr_eq (row x r) (drow x g t r) 0 j
  rw [zero_add, zero_add] at h
  exact h

theorem e52 : val_main_v52 (F := Ideal) x g t = dxB x g t := by
  funext i
  exact congrFun (e50 x g t) i

theorem e53 : val_main_v53 (F := Ideal) x g t = dgA x g t := by
  funext i
  obtain ⟨z, j, rfl⟩ : ∃ r j, i = ix2 r j := ⟨_, _, eq_ix2 i⟩
  have h53 : idx_main_v53 (ix2 z j) = ix1 j := by idx_ext
  have h36 : idx_main_v36 (ix1 j) 0 = ix2 0 j := by idx_ext
  have h33 : idx_main_v33 (ix2 0 j) = ix1 j := by idx_ext
  rw [val_main_v53_apply, h53, val_main_v36_apply]
  refine from_zero _ ?_
  rw [Fin.sum_univ_one, h36, val_main_v33_apply, h33, val_main_v32_apply]
  refine from_zero _ (Finset.sum_congr (M := EReal) rfl fun k _ => ?_)
  have h32 : idx_main_v32 (ix1 j) k = ix2 k j := by idx_ext
  rw [h32, val_main_v31_apply, e12, e30]
  exact mul_comm (G := EReal) _ _

end

theorem algebraic : Cert.algebraic_Kernel8Ideal_Reference8Ideal := by
  pair_intro
  · run_from Cert.Kernel8Ideal.Value.run_blocks m g
  · run_from Cert.Reference8Ideal.Value.run m' g'
    · exact (val_main_v51_eq (F := Ideal) _ _ _).trans ((e51 _ _ _).trans (arr3 m c).symm)
    · refine (val_main_v50_eq (F := Ideal) m' c).trans ((e50 _ _ _).trans (Eq.trans ?_ (arr4 m c).symm))
      obtain ⟨h0, h1, h2⟩ := hagree c
      rw [h0, h1, h2]
    · refine (val_main_v52_eq (F := Ideal) m' c).trans ((e52 _ _ _).trans (Eq.trans ?_ (arr5 m c).symm))
      obtain ⟨h0, h1, h2⟩ := hagree c
      rw [h0, h1, h2]
    · exact (val_main_v53_eq (F := Ideal) _ _ _).trans ((e53 _ _ _).trans (arr6 m c).symm)

end Cert.Reference8Ideal.Same

end
-- ==== Proof.Ff.Alg9.lean ====
module

public import proofs.«01_k».proof.Defs
public import proofs.«01_k».proof.Proof.Gen.Kernel9Ideal.Value
public import proofs.«01_k».proof.Proof.Gen.Reference9Ideal.Run
public import proofs.«01_k».proof.Proof.Gen.Reference9Ideal.Read
public import Idealize.ShloMosaic.Lib.Pointwise
public import Idealize.ShloMosaic.Lib.Claim

@[expose] public section

set_option maxRecDepth 16384

noncomputable section

open Idealize.ShloMosaic Idealize.ShloMosaic.TcCoe Idealize.SL.Sem

/- The optimiser's update of the packed small weights: one element of each array at a time. -/

namespace Cert.Reference9Ideal.Same

open Cert.Reference9Ideal Cert.Reference9Ideal.Read

/-- The step. -/
theorem e23 (w g m v : S4416x128.Idx → Elt Ideal .f32) :
    val_main_v23 (F := Ideal) w g m v = Cert.Kernel9Ideal.Value.G4 (F := Ideal) w g m v := by
  funext i
  rfl

/-- The first moment. -/
theorem e4 (g m : S4416x128.Idx → Elt Ideal .f32) :
    val_main_v4 (F := Ideal) g m = Cert.Kernel9Ideal.Value.G5 (F := Ideal) g m := by
  funext i
  rfl

/-- The second moment. -/
theorem e10 (g v : S4416x128.Idx → Elt Ideal .f32) :
    val_main_v10 (F := Ideal) g v = Cert.Kernel9Ideal.Value.G6 (F := Ideal) g v := by
  funext i
  rfl

theorem algebraic : Cert.algebraic_Kernel9Ideal_Reference9Ideal := by
  pair_intro
  · run_from Cert.Kernel9Ideal.Value.run m g
  · run_from Cert.Reference9Ideal.Value.run m' g'
    · exact (val_main_v23_eq (F := Ideal) _ _ _ _).trans (e23 _ _ _ _)
    · exact (val_main_v4_eq (F := Ideal) _ _).trans (e4 _ _)
    · exact (val_main_v10_eq (F := Ideal) _ _).trans (e10 _ _)

end Cert.Reference9Ideal.Same

end
-- ==== Proof.Ff.Fr10.lean ====
module

public import proofs.«01_k».proof.Defs
public import proofs.«01_k».proof.Proof.Gen.Kernel10
public import proofs.«01_k».proof.Proof.Gen.Kernel10Ideal.Frame

@[expose] public section

set_option maxHeartbeats 8000000

noncomputable section

open Idealize.ShloMosaic Idealize.SL.Sem

namespace Cert.Proof

theorem kernels10_eq : Cert.Kernel10.defs₀ (F := Bits) = Cert.Kernel10Ideal.defs₀ (F := Bits) := by
  unfold Cert.Kernel10.defs₀ Cert.Kernel10Ideal.defs₀
  congr 1
  funext l x
  match l, x with
  | 0, (t, s) => rfl
  | 1, (t, s) => rfl
  | 2, (t, s) => rfl
  | 3, (t, s) => rfl
  | ⟨_ + 4, h⟩, _ => exact absurd h (Nat.not_lt.2 (Nat.le_add_left _ _))

theorem table10_eq : Cert.Kernel10.defs (F := Bits) = Cert.Kernel10Ideal.defs (F := Bits) :=
  congrArg (Pipeline.defs Cert.Kernel10Ideal.pcfgs) kernels10_eq

theorem frame_kernel10 : Cert.quiescent_Kernel10 := by
  intro m ρ _
  rw [table10_eq]
  exact (θ_run Cert.Kernel10Ideal.defs _ _).mono (fun _ h => h) (Cert.Kernel10Ideal.Gen.frame (F := Bits) m ρ)

end Cert.Proof

end

end
-- ==== Proof.Ff.Fr11.lean ====
module

public import proofs.«01_k».proof.Defs
public import proofs.«01_k».proof.Proof.Gen.Kernel11
public import proofs.«01_k».proof.Proof.Gen.Kernel11Ideal.Frame

@[expose] public section

set_option maxHeartbeats 8000000

noncomputable section

open Idealize.ShloMosaic Idealize.SL.Sem

namespace Cert.Proof

theorem kernels11_eq : Cert.Kernel11.defs₀ (F := Bits) = Cert.Kernel11Ideal.defs₀ (F := Bits) := by
  unfold Cert.Kernel11.defs₀ Cert.Kernel11Ideal.defs₀
  congr 1
  funext l x
  match l, x with
  | 0, (t, s) => rfl
  | 1, (t, s) => rfl
  | 2, (t, s) => rfl
  | 3, (t, s) => rfl
  | ⟨_ + 4, h⟩, _ => exact absurd h (Nat.not_lt.2 (Nat.le_add_left _ _))

theorem table11_eq : Cert.Kernel11.defs (F := Bits) = Cert.Kernel11Ideal.defs (F := Bits) :=
  congrArg (Pipeline.defs Cert.Kernel11Ideal.pcfgs) kernels11_eq

theorem frame_kernel11 : Cert.quiescent_Kernel11 := by
  intro m ρ _
  rw [table11_eq]
  exact (θ_run Cert.Kernel11Ideal.defs _ _).mono (fun _ h => h) (Cert.Kernel11Ideal.Gen.frame (F := Bits) m ρ)

end Cert.Proof

end

end
-- ==== Proof.Ff.Fr12.lean ====
module

public import proofs.«01_k».proof.Defs
public import proofs.«01_k».proof.Proof.Gen.Kernel12
public import proofs.«01_k».proof.Proof.Gen.Kernel12Ideal.Frame

@[expose] public section

set_option maxHeartbeats 8000000

noncomputable section

open Idealize.ShloMosaic Idealize.SL.Sem

namespace Cert.Proof

theorem kernels12_eq : Cert.Kernel12.defs₀ (F := Bits) = Cert.Kernel12Ideal.defs₀ (F := Bits) := by
  unfold Cert.Kernel12.defs₀ Cert.Kernel12Ideal.defs₀
  congr 1
  funext l x
  match l, x with
  | 0, (t, s) => rfl
  | 1, (t, s) => rfl
  | 2, (t, s) => rfl
  | 3, (t, s) => rfl
  | ⟨_ + 4, h⟩, _ => exact absurd h (Nat.not_lt.2 (Nat.le_add_left _ _))

theorem table12_eq : Cert.Kernel12.defs (F := Bits) = Cert.Kernel12Ideal.defs (F := Bits) :=
  congrArg (Pipeline.defs Cert.Kernel12Ideal.pcfgs) kernels12_eq

theorem frame_kernel12 : Cert.quiescent_Kernel12 := by
  intro m ρ _
  rw [table12_eq]
  exact (θ_run Cert.Kernel12Ideal.defs _ _).mono (fun _ h => h) (Cert.Kernel12Ideal.Gen.frame (F := Bits) m ρ)

end Cert.Proof

end

end
-- ==== Proof.Ff.Fr13.lean ====
module

public import proofs.«01_k».proof.Defs
public import proofs.«01_k».proof.Proof.Gen.Kernel13
public import proofs.«01_k».proof.Proof.Gen.Kernel13Ideal.Frame

@[expose] public section

set_option maxHeartbeats 8000000

noncomputable section

open Idealize.ShloMosaic Idealize.SL.Sem

namespace Cert.Proof

theorem kernels13_eq : Cert.Kernel13.defs₀ (F := Bits) = Cert.Kernel13Ideal.defs₀ (F := Bits) := by
  unfold Cert.Kernel13.defs₀ Cert.Kernel13Ideal.defs₀
  congr 1
  funext l x
  match l, x with
  | 0, (t, s) => rfl
  | 1, (t, s) => rfl
  | 2, (t, s) => rfl
  | 3, (t, s) => rfl
  | ⟨_ + 4, h⟩, _ => exact absurd h (Nat.not_lt.2 (Nat.le_add_left _ _))

theorem table13_eq : Cert.Kernel13.defs (F := Bits) = Cert.Kernel13Ideal.defs (F := Bits) :=
  congrArg (Pipeline.defs Cert.Kernel13Ideal.pcfgs) kernels13_eq

theorem frame_kernel13 : Cert.quiescent_Kernel13 := by
  intro m ρ _
  rw [table13_eq]
  exact (θ_run Cert.Kernel13Ideal.defs _ _).mono (fun _ h => h) (Cert.Kernel13Ideal.Gen.frame (F := Bits) m ρ)

end Cert.Proof

end

end
-- ==== Proof.Ff.Fr14.lean ====
module

public import proofs.«01_k».proof.Defs
public import proofs.«01_k».proof.Proof.Gen.Kernel14
public import proofs.«01_k».proof.Proof.Gen.Kernel14Ideal.Frame

@[expose] public section

set_option maxHeartbeats 8000000

noncomputable section

open Idealize.ShloMosaic Idealize.SL.Sem

namespace Cert.Proof

theorem kernels14_eq : Cert.Kernel14.defs₀ (F := Bits) = Cert.Kernel14Ideal.defs₀ (F := Bits) := by
  unfold Cert.Kernel14.defs₀ Cert.Kernel14Ideal.defs₀
  congr 1
  funext l x
  match l, x with
  | 0, (t, s) => rfl
  | ⟨_ + 1, h⟩, _ => exact absurd h (Nat.not_lt.2 (Nat.le_add_left _ _))

theorem table14_eq : Cert.Kernel14.defs (F := Bits) = Cert.Kernel14Ideal.defs (F := Bits) :=
  congrArg (Pipeline.defs Cert.Kernel14Ideal.pcfgs) kernels14_eq

theorem frame_kernel14 : Cert.quiescent_Kernel14 := by
  intro m ρ _
  rw [table14_eq]
  exact (θ_run Cert.Kernel14Ideal.defs _ _).mono (fun _ h => h) (Cert.Kernel14Ideal.Gen.frame (F := Bits) m ρ)

end Cert.Proof

end

end
-- ==== Proof.Ff.Ad.lean ====
module

public import Idealize.ShloMosaic.PureOps
public import Idealize.ShloMosaic.PureOps.Ideal

@[expose] public section

noncomputable section

open Idealize.ShloMosaic

/- One element's update by the optimiser: the moments and the step. -/

namespace Cert.Ad

/-- The first moment. -/
def m1 (m g : EReal) : EReal := Ideal.ofBits .f32 0x3F666666#32 * m + Ideal.ofBits .f32 0x3DCCCCCD#32 * g

/-- The second moment. -/
def v1 (v g : EReal) : EReal := Ideal.ofBits .f32 0x3F7FBE77#32 * v + Ideal.ofBits .f32 0x3A83126F#32 * (g * g)

/-- The step, from the weight and the new moments. -/
def dl (w m v : EReal) : EReal :=
  Ideal.ofBits .f32 0xBA83126F#32 *
    (Ideal.div (Ideal.div m (Ideal.ofBits .f32 0x3F26BD02#32))
        (Ideal.sqrt (Ideal.div v (Ideal.ofBits .f32 0x3C231ACC#32)) + Ideal.ofBits .f32 0x322BCC77#32)
      + Ideal.ofBits .f32 0x3C23D70A#32 * w)

end Cert.Ad

end
-- ==== Proof.Ff.Arr10.lean ====
module

public import proofs.«01_k».proof.Proof.Gen.Kernel10Ideal.Frame
public import proofs.«01_k».proof.Proof.Ff.Ad
public import Idealize.ShloMosaic.Lib.Pipeline.ValueKit
public import Idealize.ShloMosaic.Lib.Pipeline.ValueKit.Partial
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.Ad (m1 v1 dl)

/- Each region writes one layer of the four output arrays and leaves the rest. -/

namespace Cert.Kernel10Ideal.Res

open Cert.Kernel10Ideal Cert.Kernel10Ideal.Gen

variable (V : (c : Dev nD) → (b : Ref sig .tc) → Buf (Elt Ideal) ((c : Thread nD τ).loc b)) (c : Dev nD)

/-- The layer's place of an index. -/
def at2 (i : S4x512x2048.Idx) : S512x2048.Idx := ix2 ⟨(i 1).val, (i 1).isLt⟩ ⟨(i 2).val, (i 2).isLt⟩
def aG (g : FVec Ideal S512x2048 .bf16) : FVec Ideal S4x512x2048 .f32 := fun i => g (at2 i)
def aM (g : FVec Ideal S512x2048 .bf16) (m : FVec Ideal S4x512x2048 .f32) : FVec Ideal S4x512x2048 .f32 := fun i => m1 (m i) (g (at2 i))
def aV (g : FVec Ideal S512x2048 .bf16) (v : FVec Ideal S4x512x2048 .f32) : FVec Ideal S4x512x2048 .f32 := fun i => v1 (v i) (g (at2 i))
def aD (g : FVec Ideal S512x2048 .bf16) (w m v : FVec Ideal S4x512x2048 .f32) : FVec Ideal S4x512x2048 .f32 :=
  fun i => dl (w i) (m1 (m i) (g (at2 i))) (v1 (v i) (g (at2 i)))

theorem p0_m (g : Vec Ideal S256x2048 .bf16) (m : Vec Ideal S1x256x2048 .f32) (r : Fin 256) (j : Fin 2048) :
    k0_pay5 g m (ix2 r j) = m1 (m (ix3 0 r j)) (g (ix2 r j)) := by
  unfold m1; pointwise [k0_pay5, k0_pay4]

theorem p0_v (g : Vec Ideal S256x2048 .bf16) (v : Vec Ideal S1x256x2048 .f32) (r : Fin 256) (j : Fin 2048) :
    k0_pay6 g v (ix2 r j) = v1 (v (ix3 0 r j)) (g (ix2 r j)) := by
  unfold v1; pointwise [k0_pay6, k0_pay4]

theorem p0_d (g : Vec Ideal S256x2048 .bf16) (w m v : Vec Ideal S1x256x2048 .f32) (r : Fin 256) (j : Fin 2048) :
    k0_pay7 g w m v (ix2 r j) = dl (w (ix3 0 r j)) (m1 (m (ix3 0 r j)) (g (ix2 r j))) (v1 (v (ix3 0 r j)) (g (ix2 r j))) := by
  rw [← p0_m, ← p0_v]
  unfold k0_pay7 dl
  generalize k0_pay5 g m = a
  generalize k0_pay6 g v = b
  pointwise

theorem p0_4 (g : Vec Ideal S256x2048 .bf16) (r : Fin 256) (j : Fin 2048) : k0_pay8 g (ix3 0 r j) = g (ix2 r j) := by
  pointwise [k0_pay8, k0_pay4]
theorem p0_5 (x : FVec Ideal S256x2048 .f32) (r : Fin 256) (j : Fin 2048) : k0_pay1 x (ix3 0 r j) = x (ix2 r j) := by
  pointwise [k0_pay1]
theorem p0_6 (x : FVec Ideal S256x2048 .f32) (r : Fin 256) (j : Fin 2048) : k0_pay2 x (ix3 0 r j) = x (ix2 r j) := by
  pointwise [k0_pay2]
theorem p0_7 (x : FVec Ideal S256x2048 .f32) (r : Fin 256) (j : Fin 2048) : k0_pay3 x (ix3 0 r j) = x (ix2 r j) := by
  pointwise [k0_pay3]

theorem idx0 : ∀ t : Fin cfg0.N,
    win0_0.index t (0 : Fin 3) = 3 ∧ win0_0.index t (1 : Fin 3) = t.val ∧ win0_0.index t (2 : Fin 3) = 0
    ∧ win0_1.index t (0 : Fin 2) = t.val ∧ win0_1.index t (1 : Fin 2) = 0
    ∧ win0_2.index t (0 : Fin 3) = 3 ∧ win0_2.index t (1 : Fin 3) = t.val ∧ win0_2.index t (2 : Fin 3) = 0
    ∧ win0_3.index t (0 : Fin 3) = 3 ∧ win0_3.index t (1 : Fin 3) = t.val ∧ win0_3.index t (2 : Fin 3) = 0
    ∧ win0_4.index t (0 : Fin 3) = 3 ∧ win0_4.index t (1 : Fin 3) = t.val ∧ win0_4.index t (2 : Fin 3) = 0 :=
  (by decide +kernel : ∀ t : Fin grid0.N, _)

theorem rd0 (t : Fin cfg0.N) (r : Fin 256) (j : Fin 2048) : iblk0 V c 1 t (ix2 r j) = V c main_arg4 (at2 ((win0_4.blk t).view.emb (ix3 0 r j)))
    ∧ iblk0 V c 0 t (ix3 0 r j) = V c main_arg0 ((win0_4.blk t).view.emb (ix3 0 r j))
    ∧ iblk0 V c 2 t (ix3 0 r j) = V c main_arg5 ((win0_4.blk t).view.emb (ix3 0 r j))
    ∧ iblk0 V c 3 t (ix3 0 r j) = V c main_arg6 ((win0_4.blk t).view.emb (ix3 0 r j)) := by
  have e := idx0 t
  refine ⟨?_, ?_, ?_, ?_⟩
  · blk_ext [iblk0, e, at2]
  all_goals blk_ext [iblk0, e]

theorem arr0_4 : (dat0 V c).arrAt 4 cfg0.N = fun i => if (i 0 : ℕ) / 1 = 3 then aG (V c main_arg4) i else V c main_v0_0 i := by
  refine (dat0 V c).arrAt_eq_of_coversWhere 4 _ (fun β => β (0 : Fin _) = 3) (by decide +kernel) (fun t hf y => ?_) (fun j => Iff.rfl)
  blk_simp; rw [after0_4]; frame_out
  obtain ⟨z, r, j, rfl⟩ : ∃ z r j, y = ix3 z r j := ⟨_, _, _, eq_ix3 y⟩
  obtain rfl : z = 0 := Subsingleton.elim _ _
  obtain ⟨e1, e0, e2, e3⟩ := rd0 V c t r j
  refine (p0_4 _ r j).trans ?_
  rw [e1]
  rfl

theorem arr0_5 : (dat0 V c).arrAt 5 cfg0.N = fun i => if (i 0 : ℕ) / 1 = 3 then aD (V c main_arg4) (V c main_arg0) (V c main_arg5) (V c main_arg6) i else V c main_v0_1 i := by
  refine (dat0 V c).arrAt_eq_of_coversWhere 5 _ (fun β => β (0 : Fin _) = 3) (by decide +kernel) (fun t hf y => ?_) (fun j => Iff.rfl)
  blk_simp; rw [after0_5]; frame_out
  obtain ⟨z, r, j, rfl⟩ : ∃ z r j, y = ix3 z r j := ⟨_, _, _, eq_ix3 y⟩
  obtain rfl : z = 0 := Subsingleton.elim _ _
  obtain ⟨e1, e0, e2, e3⟩ := rd0 V c t r j
  refine ((p0_5 _ r j).trans (p0_d _ _ _ _ r j)).trans ?_
  rw [e1, e0, e2, e3]
  rfl

theorem arr0_6 : (dat0 V c).arrAt 6 cfg0.N = fun i => if (i 0 : ℕ) / 1 = 3 then aM (V c main_arg4) (V c main_arg5) i else V c main_v0_2 i := by
  refine (dat0 V c).arrAt_eq_of_coversWhere 6 _ (fun β => β (0 : Fin _) = 3) (by decide +kernel) (fun t hf y => ?_) (fun j => Iff.rfl)
  blk_simp; rw [after0_6]; frame_out
  obtain ⟨z, r, j, rfl⟩ : ∃ z r j, y = ix3 z r j := ⟨_, _, _, eq_ix3 y⟩
  obtain rfl : z = 0 := Subsingleton.elim _ _
  obtain ⟨e1, e0, e2, e3⟩ := rd0 V c t r j
  refine ((p0_6 _ r j).trans (p0_m _ _ r j)).trans ?_
  rw [e1, e2]
  rfl

theorem arr0_7 : (dat0 V c).arrAt 7 cfg0.N = fun i => if (i 0 : ℕ) / 1 = 3 then aV (V c main_arg4) (V c main_arg6) i else V c main_v0_3 i := by
  refine (dat0 V c).arrAt_eq_of_coversWhere 7 _ (fun β => β (0 : Fin _) = 3) (by decide +kernel) (fun t hf y => ?_) (fun j => Iff.rfl)
  blk_simp; rw [after0_7]; frame_out
  obtain ⟨z, r, j, rfl⟩ : ∃ z r j, y = ix3 z r j := ⟨_, _, _, eq_ix3 y⟩
  obtain rfl : z = 0 := Subsingleton.elim _ _
  obtain ⟨e1, e0, e2, e3⟩ := rd0 V c t r j
  refine ((p0_7 _ r j).trans (p0_v _ _ r j)).trans ?_
  rw [e1, e3]
  rfl

theorem idx1 : ∀ t : Fin cfg1.N,
    win1_0.index t (0 : Fin 3) = 2 ∧ win1_0.index t (1 : Fin 3) = t.val ∧ win1_0.index t (2 : Fin 3) = 0
    ∧ win1_1.index t (0 : Fin 2) = t.val ∧ win1_1.index t (1 : Fin 2) = 0
    ∧ win1_2.index t (0 : Fin 3) = 2 ∧ win1_2.index t (1 : Fin 3) = t.val ∧ win1_2.index t (2 : Fin 3) = 0
    ∧ win1_3.index t (0 : Fin 3) = 2 ∧ win1_3.index t (1 : Fin 3) = t.val ∧ win1_3.index t (2 : Fin 3) = 0
    ∧ win1_4.index t (0 : Fin 3) = 2 ∧ win1_4.index t (1 : Fin 3) = t.val ∧ win1_4.index t (2 : Fin 3) = 0 :=
  (by decide +kernel : ∀ t : Fin grid1.N, _)

theorem rd1 (t : Fin cfg1.N) (r : Fin 256) (j : Fin 2048) : iblk1 V c 1 t (ix2 r j) = V c main_arg3 (at2 ((win1_4.blk t).view.emb (ix3 0 r j)))
    ∧ iblk1 V c 0 t (ix3 0 r j) = V c main_arg0 ((win1_4.blk t).view.emb (ix3 0 r j))
    ∧ iblk1 V c 2 t (ix3 0 r j) = V c main_arg5 ((win1_4.blk t).view.emb (ix3 0 r j))
    ∧ iblk1 V c 3 t (ix3 0 r j) = V c main_arg6 ((win1_4.blk t).view.emb (ix3 0 r j)) := by
  have e := idx1 t
  refine ⟨?_, ?_, ?_, ?_⟩
  · blk_ext [iblk1, e, at2]
  all_goals blk_ext [iblk1, e]

theorem arr1_4 : (dat1 V c).arrAt 4 cfg1.N = fun i => if (i 0 : ℕ) / 1 = 2 then aG (V c main_arg3) i else V c main_v1_0 i := by
  refine (dat1 V c).arrAt_eq_of_coversWhere 4 _ (fun β => β (0 : Fin _) = 2) (by decide +kernel) (fun t hf y => ?_) (fun j => Iff.rfl)
  blk_simp; rw [after1_4]; unfold outsAt1; frame_out
  obtain ⟨z, r, j, rfl⟩ : ∃ z r j, y = ix3 z r j := ⟨_, _, _, eq_ix3 y⟩
  obtain rfl : z = 0 := Subsingleton.elim _ _
  obtain ⟨e1, e0, e2, e3⟩ := rd1 V c t r j
  refine (p0_4 _ r j).trans ?_
  rw [e1]
  rfl

theorem arr1_5 : (dat1 V c).arrAt 5 cfg1.N = fun i => if (i 0 : ℕ) / 1 = 2 then aD (V c main_arg3) (V c main_arg0) (V c main_arg5) (V c main_arg6) i else V c main_v1_1 i := by
  refine (dat1 V c).arrAt_eq_of_coversWhere 5 _ (fun β => β (0 : Fin _) = 2) (by decide +kernel) (fun t hf y => ?_) (fun j => Iff.rfl)
  blk_simp; rw [after1_5]; unfold outsAt1; frame_out
  obtain ⟨z, r, j, rfl⟩ : ∃ z r j, y = ix3 z r j := ⟨_, _, _, eq_ix3 y⟩
  obtain rfl : z = 0 := Subsingleton.elim _ _
  obtain ⟨e1, e0, e2, e3⟩ := rd1 V c t r j
  refine ((p0_5 _ r j).trans (p0_d _ _ _ _ r j)).trans ?_
  rw [e1, e0, e2, e3]
  rfl

theorem arr1_6 : (dat1 V c).arrAt 6 cfg1.N = fun i => if (i 0 : ℕ) / 1 = 2 then aM (V c main_arg3) (V c main_arg5) i else V c main_v1_2 i := by
  refine (dat1 V c).arrAt_eq_of_coversWhere 6 _ (fun β => β (0 : Fin _) = 2) (by decide +kernel) (fun t hf y => ?_) (fun j => Iff.rfl)
  blk_simp; rw [after1_6]; unfold outsAt1; frame_out
  obtain ⟨z, r, j, rfl⟩ : ∃ z r j, y = ix3 z r j := ⟨_, _, _, eq_ix3 y⟩
  obtain rfl : z = 0 := Subsingleton.elim _ _
  obtain ⟨e1, e0, e2, e3⟩ := rd1 V c t r j
  refine ((p0_6 _ r j).trans (p0_m _ _ r j)).trans ?_
  rw [e1, e2]
  rfl

theorem arr1_7 : (dat1 V c).arrAt 7 cfg1.N = fun i => if (i 0 : ℕ) / 1 = 2 then aV (V c main_arg3) (V c main_arg6) i else V c main_v1_3 i := by
  refine (dat1 V c).arrAt_eq_of_coversWhere 7 _ (fun β => β (0 : Fin _) = 2) (by decide +kernel) (fun t hf y => ?_) (fun j => Iff.rfl)
  blk_simp; rw [after1_7]; unfold outsAt1; frame_out
  obtain ⟨z, r, j, rfl⟩ : ∃ z r j, y = ix3 z r j := ⟨_, _, _, eq_ix3 y⟩
  obtain rfl : z = 0 := Subsingleton.elim _ _
  obtain ⟨e1, e0, e2, e3⟩ := rd1 V c t r j
  refine ((p0_7 _ r j).trans (p0_v _ _ r j)).trans ?_
  rw [e1, e3]
  rfl

theorem idx2 : ∀ t : Fin cfg2.N,
    win2_0.index t (0 : Fin 3) = 1 ∧ win2_0.index t (1 : Fin 3) = t.val ∧ win2_0.index t (2 : Fin 3) = 0
    ∧ win2_1.index t (0 : Fin 2) = t.val ∧ win2_1.index t (1 : Fin 2) = 0
    ∧ win2_2.index t (0 : Fin 3) = 1 ∧ win2_2.index t (1 : Fin 3) = t.val ∧ win2_2.index t (2 : Fin 3) = 0
    ∧ win2_3.index t (0 : Fin 3) = 1 ∧ win2_3.index t (1 : Fin 3) = t.val ∧ win2_3.index t (2 : Fin 3) = 0
    ∧ win2_4.index t (0 : Fin 3) = 1 ∧ win2_4.index t (1 : Fin 3) = t.val ∧ win2_4.index t (2 : Fin 3) = 0 :=
  (by decide +kernel : ∀ t : Fin grid2.N, _)

theorem rd2 (t : Fin cfg2.N) (r : Fin 256) (j : Fin 2048) : iblk2 V c 1 t (ix2 r j) = V c main_arg2 (at2 ((win2_4.blk t).view.emb (ix3 0 r j)))
    ∧ iblk2 V c 0 t (ix3 0 r j) = V c main_arg0 ((win2_4.blk t).view.emb (ix3 0 r j))
    ∧ iblk2 V c 2 t (ix3 0 r j) = V c main_arg5 ((win2_4.blk t).view.emb (ix3 0 r j))
    ∧ iblk2 V c 3 t (ix3 0 r j) = V c main_arg6 ((win2_4.blk t).view.emb (ix3 0 r j)) := by
  have e := idx2 t
  refine ⟨?_, ?_, ?_, ?_⟩
  · blk_ext [iblk2, e, at2]
  all_goals blk_ext [iblk2, e]

theorem arr2_4 : (dat2 V c).arrAt 4 cfg2.N = fun i => if (i 0 : ℕ) / 1 = 1 then aG (V c main_arg2) i else V c main_v2_0 i := by
  refine (dat2 V c).arrAt_eq_of_coversWhere 4 _ (fun β => β (0 : Fin _) = 1) (by decide +kernel) (fun t hf y => ?_) (fun j => Iff.rfl)
  blk_simp; rw [after2_4]; unfold outsAt2; frame_out
  obtain ⟨z, r, j, rfl⟩ : ∃ z r j, y = ix3 z r j := ⟨_, _, _, eq_ix3 y⟩
  obtain rfl : z = 0 := Subsingleton.elim _ _
  obtain ⟨e1, e0, e2, e3⟩ := rd2 V c t r j
  refine (p0_4 _ r j).trans ?_
  rw [e1]
  rfl

theorem arr2_5 : (dat2 V c).arrAt 5 cfg2.N = fun i => if (i 0 : ℕ) / 1 = 1 then aD (V c main_arg2) (V c main_arg0) (V c main_arg5) (V c main_arg6) i else V c main_v2_1 i := by
  refine (dat2 V c).arrAt_eq_of_coversWhere 5 _ (fun β => β (0 : Fin _) = 1) (by decide +kernel) (fun t hf y => ?_) (fun j => Iff.rfl)
  blk_simp; rw [after2_5]; unfold outsAt2; frame_out
  obtain ⟨z, r, j, rfl⟩ : ∃ z r j, y = ix3 z r j := ⟨_, _, _, eq_ix3 y⟩
  obtain rfl : z = 0 := Subsingleton.elim _ _
  obtain ⟨e1, e0, e2, e3⟩ := rd2 V c t r j
  refine ((p0_5 _ r j).trans (p0_d _ _ _ _ r j)).trans ?_
  rw [e1, e0, e2, e3]
  rfl

theorem arr2_6 : (dat2 V c).arrAt 6 cfg2.N = fun i => if (i 0 : ℕ) / 1 = 1 then aM (V c main_arg2) (V c main_arg5) i else V c main_v2_2 i := by
  refine (dat2 V c).arrAt_eq_of_coversWhere 6 _ (fun β => β (0 : Fin _) = 1) (by decide +kernel) (fun t hf y => ?_) (fun j => Iff.rfl)
  blk_simp; rw [after2_6]; unfold outsAt2; frame_out
  obtain ⟨z, r, j, rfl⟩ : ∃ z r j, y = ix3 z r j := ⟨_, _, _, eq_ix3 y⟩
  obtain rfl : z = 0 := Subsingleton.elim _ _
  obtain ⟨e1, e0, e2, e3⟩ := rd2 V c t r j
  refine ((p0_6 _ r j).trans (p0_m _ _ r j)).trans ?_
  rw [e1, e2]
  rfl

theorem arr2_7 : (dat2 V c).arrAt 7 cfg2.N = fun i => if (i 0 : ℕ) / 1 = 1 then aV (V c main_arg2) (V c main_arg6) i else V c main_v2_3 i := by
  refine (dat2 V c).arrAt_eq_of_coversWhere 7 _ (fun β => β (0 : Fin _) = 1) (by decide +kernel) (fun t hf y => ?_) (fun j => Iff.rfl)
  blk_simp; rw [after2_7]; unfold outsAt2; frame_out
  obtain ⟨z, r, j, rfl⟩ : ∃ z r j, y = ix3 z r j := ⟨_, _, _, eq_ix3 y⟩
  obtain rfl : z = 0 := Subsingleton.elim _ _
  obtain ⟨e1, e0, e2, e3⟩ := rd2 V c t r j
  refine ((p0_7 _ r j).trans (p0_v _ _ r j)).trans ?_
  rw [e1, e3]
  rfl

theorem idx3 : ∀ t : Fin cfg3.N,
    win3_0.index t (0 : Fin 3) = 0 ∧ win3_0.index t (1 : Fin 3) = t.val ∧ win3_0.index t (2 : Fin 3) = 0
    ∧ win3_1.index t (0 : Fin 2) = t.val ∧ win3_1.index t (1 : Fin 2) = 0
    ∧ win3_2.index t (0 : Fin 3) = 0 ∧ win3_2.index t (1 : Fin 3) = t.val ∧ win3_2.index t (2 : Fin 3) = 0
    ∧ win3_3.index t (0 : Fin 3) = 0 ∧ win3_3.index t (1 : Fin 3) = t.val ∧ win3_3.index t (2 : Fin 3) = 0
    ∧ win3_4.index t (0 : Fin 3) = 0 ∧ win3_4.index t (1 : Fin 3) = t.val ∧ win3_4.index t (2 : Fin 3) = 0 :=
  (by decide +kernel : ∀ t : Fin grid3.N, _)

theorem rd3 (t : Fin cfg3.N) (r : Fin 256) (j : Fin 2048) : iblk3 V c 1 t (ix2 r j) = V c main_arg1 (at2 ((win3_4.blk t).view.emb (ix3 0 r j)))
    ∧ iblk3 V c 0 t (ix3 0 r j) = V c main_arg0 ((win3_4.blk t).view.emb (ix3 0 r j))
    ∧ iblk3 V c 2 t (ix3 0 r j) = V c main_arg5 ((win3_4.blk t).view.emb (ix3 0 r j))
    ∧ iblk3 V c 3 t (ix3 0 r j) = V c main_arg6 ((win3_4.blk t).view.emb (ix3 0 r j)) := by
  have e := idx3 t
  refine ⟨?_, ?_, ?_, ?_⟩
  · blk_ext [iblk3, e, at2]
  all_goals blk_ext [iblk3, e]

theorem arr3_4 : (dat3 V c).arrAt 4 cfg3.N = fun i => if (i 0 : ℕ) / 1 = 0 then aG (V c main_arg1) i else V c main_v3_0 i := by
  refine (dat3 V c).arrAt_eq_of_coversWhere 4 _ (fun β => β (0 : Fin _) = 0) (by decide +kernel) (fun t hf y => ?_) (fun j => Iff.rfl)
  blk_simp; rw [after3_4]; unfold outsAt3; frame_out
  obtain ⟨z, r, j, rfl⟩ : ∃ z r j, y = ix3 z r j := ⟨_, _, _, eq_ix3 y⟩
  obtain rfl : z = 0 := Subsingleton.elim _ _
  obtain ⟨e1, e0, e2, e3⟩ := rd3 V c t r j
  refine (p0_4 _ r j).trans ?_
  rw [e1]
  rfl

theorem arr3_5 : (dat3 V c).arrAt 5 cfg3.N = fun i => if (i 0 : ℕ) / 1 = 0 then aD (V c main_arg1) (V c main_arg0) (V c main_arg5) (V c main_arg6) i else V c main_v3_1 i := by
  refine (dat3 V c).arrAt_eq_of_coversWhere 5 _ (fun β => β (0 : Fin _) = 0) (by decide +kernel) (fun t hf y => ?_) (fun j => Iff.rfl)
  blk_simp; rw [after3_5]; unfold outsAt3; frame_out
  obtain ⟨z, r, j, rfl⟩ : ∃ z r j, y = ix3 z r j := ⟨_, _, _, eq_ix3 y⟩
  obtain rfl : z = 0 := Subsingleton.elim _ _
  obtain ⟨e1, e0, e2, e3⟩ := rd3 V c t r j
  refine ((p0_5 _ r j).trans (p0_d _ _ _ _ r j)).trans ?_
  rw [e1, e0, e2, e3]
  rfl

theorem arr3_6 : (dat3 V c).arrAt 6 cfg3.N = fun i => if (i 0 : ℕ) / 1 = 0 then aM (V c main_arg1) (V c main_arg5) i else V c main_v3_2 i := by
  refine (dat3 V c).arrAt_eq_of_coversWhere 6 _ (fun β => β (0 : Fin _) = 0) (by decide +kernel) (fun t hf y => ?_) (fun j => Iff.rfl)
  blk_simp; rw [after3_6]; unfold outsAt3; frame_out
  obtain ⟨z, r, j, rfl⟩ : ∃ z r j, y = ix3 z r j := ⟨_, _, _, eq_ix3 y⟩
  obtain rfl : z = 0 := Subsingleton.elim _ _
  obtain ⟨e1, e0, e2, e3⟩ := rd3 V c t r j
  refine ((p0_6 _ r j).trans (p0_m _ _ r j)).trans ?_
  rw [e1, e2]
  rfl

theorem arr3_7 : (dat3 V c).arrAt 7 cfg3.N = fun i => if (i 0 : ℕ) / 1 = 0 then aV (V c main_arg1) (V c main_arg6) i else V c main_v3_3 i := by
  refine (dat3 V c).arrAt_eq_of_coversWhere 7 _ (fun β => β (0 : Fin _) = 0) (by decide +kernel) (fun t hf y => ?_) (fun j => Iff.rfl)
  blk_simp; rw [after3_7]; unfold outsAt3; frame_out
  obtain ⟨z, r, j, rfl⟩ : ∃ z r j, y = ix3 z r j := ⟨_, _, _, eq_ix3 y⟩
  obtain rfl : z = 0 := Subsingleton.elim _ _
  obtain ⟨e1, e0, e2, e3⟩ := rd3 V c t r j
  refine ((p0_7 _ r j).trans (p0_v _ _ r j)).trans ?_
  rw [e1, e3]
  rfl

end Cert.Kernel10Ideal.Res

end
-- ==== Proof.Ff.Run10.lean ====
module

public import proofs.«01_k».proof.Proof.Gen.Kernel10Ideal.Frame
public import Idealize.ShloMosaic.Lib.Claim

@[expose] public section

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg)

/- The launch of the program's regions, ending with the results' arrays as the last region leaves them. -/

namespace Cert.Kernel10Ideal.Res

open Cert.Kernel10Ideal Cert.Kernel10Ideal.Gen

variable {F : FTy → Type} [FloatOps F]

/-- The state assertions are over this resource algebra. -/
local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run : θ_run defs (onTc (τ := τ) (main (F := F))) ⟨m, fun _ => 0, ρ⟩ (fun r => (∀ c : Dev nD,
      r.2.mem ((c.tc : Thread nD τ).loc main_v3_0) = W7 m ρ c (Proc.devRef .tc main_v3_0) ∧
      r.2.mem ((c.tc : Thread nD τ).loc main_v3_1) = W7 m ρ c (Proc.devRef .tc main_v3_1) ∧
      r.2.mem ((c.tc : Thread nD τ).loc main_v3_2) = W7 m ρ c (Proc.devRef .tc main_v3_2) ∧
      r.2.mem ((c.tc : Thread nD τ).loc main_v3_3) = W7 m ρ c (Proc.devRef .tc main_v3_3) ∧
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) ∧
      r.2.mem ((c.tc : Thread nD τ).loc main_arg5) = m ((c.tc : Thread nD τ).loc main_arg5) ∧
      r.2.mem ((c.tc : Thread nD τ).loc main_arg6) = m ((c.tc : Thread nD τ).loc main_arg6))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz => ⟨(fun c => ⟨
       h c _ (mem_uc main_v3_0 (by decide)),
       h c _ (mem_uc main_v3_1 (by decide)),
       h c _ (mem_uc main_v3_2 (by decide)),
       h c _ (mem_uc main_v3_3 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c)⟩), funext fun g => hz g (.inr (no_unscoped g.2))⟩)

end Cert.Kernel10Ideal.Res

end
-- ==== Proof.Ff.Res10.lean ====
module

public import proofs.«01_k».proof.Proof.Ff.Arr10
public import proofs.«01_k».proof.Proof.Ff.Run10

@[expose] public section

set_option maxRecDepth 16384

noncomputable section

open Idealize.ShloMosaic Idealize.ShloMosaic.TcCoe Idealize.SL.Sem
open Cert.Ad (m1 v1 dl)

/- The four results after the run: every layer is written by its region and kept by the later ones. -/

namespace Cert.Kernel10Ideal.Res

open Cert.Kernel10Ideal Cert.Kernel10Ideal.Gen

variable (m : (ℓ : Loc nD τ sig) → Buf (Elt Ideal) ℓ) (ρ : Dev nD → PrngReg) (c : Dev nD)

/-- The layers' gradients, stacked. -/
def sel (g0 g1 g2 g3 : FVec Ideal S512x2048 .bf16) : FVec Ideal S4x512x2048 .f32 := fun i =>
  if (i 0 : ℕ) / 1 = 0 then g0 (at2 i) else if (i 0 : ℕ) / 1 = 1 then g1 (at2 i) else if (i 0 : ℕ) / 1 = 2 then g2 (at2 i) else g3 (at2 i)

/-- The last region to write an index is the one of its layer. -/
theorem pick {α : Type} (i : S4x512x2048.Idx) (a b d e x : α) :
    (if (i 0 : ℕ) / 1 = 0 then a else if (i 0 : ℕ) / 1 = 1 then b else if (i 0 : ℕ) / 1 = 2 then d else if (i 0 : ℕ) / 1 = 3 then e else x)
      = if (i 0 : ℕ) / 1 = 0 then a else if (i 0 : ℕ) / 1 = 1 then b else if (i 0 : ℕ) / 1 = 2 then d else e := by
  have h := (i 0).isLt
  change (i 0 : ℕ) < 4 at h
  split_ifs <;> first | rfl | omega

/-- Every region finds the arguments as they are at the launch. -/
theorem ar (a : Ref sig .tc) (h : a ∈ argRefs) : V0 m ρ c a = m ((c : Thread nD τ).loc a) ∧ V2 m ρ c a = m ((c : Thread nD τ).loc a)
    ∧ V4 m ρ c a = m ((c : Thread nD τ).loc a) ∧ V6 m ρ c a = m ((c : Thread nD τ).loc a) :=
  ⟨W0_args m ρ c a h, W2_args m ρ c a h, W4_args m ρ c a h, W6_args m ρ c a h⟩

theorem cp1_0 : V2 m ρ c main_v1_0 = V1 m ρ c main_v0_0 := by
  show StableHlo.after hostOps1 _ (Proc.devRef .tc main_v1_0) = _
  after_results; rfl
theorem cp1_1 : V2 m ρ c main_v1_1 = V1 m ρ c main_v0_1 := by
  show StableHlo.after hostOps1 _ (Proc.devRef .tc main_v1_1) = _
  after_results; rfl
theorem cp1_2 : V2 m ρ c main_v1_2 = V1 m ρ c main_v0_2 := by
  show StableHlo.after hostOps1 _ (Proc.devRef .tc main_v1_2) = _
  after_results; rfl
theorem cp1_3 : V2 m ρ c main_v1_3 = V1 m ρ c main_v0_3 := by
  show StableHlo.after hostOps1 _ (Proc.devRef .tc main_v1_3) = _
  after_results; rfl
theorem cp2_0 : V4 m ρ c main_v2_0 = V3 m ρ c main_v1_0 := by
  show StableHlo.after hostOps2 _ (Proc.devRef .tc main_v2_0) = _
  after_results; rfl
theorem cp2_1 : V4 m ρ c main_v2_1 = V3 m ρ c main_v1_1 := by
  show StableHlo.after hostOps2 _ (Proc.devRef .tc main_v2_1) = _
  after_results; rfl
theorem cp2_2 : V4 m ρ c main_v2_2 = V3 m ρ c main_v1_2 := by
  show StableHlo.after hostOps2 _ (Proc.devRef .tc main_v2_2) = _
  after_results; rfl
theorem cp2_3 : V4 m ρ c main_v2_3 = V3 m ρ c main_v1_3 := by
  show StableHlo.after hostOps2 _ (Proc.devRef .tc main_v2_3) = _
  after_results; rfl
theorem cp3_0 : V6 m ρ c main_v3_0 = V5 m ρ c main_v2_0 := by
  show StableHlo.after hostOps3 _ (Proc.devRef .tc main_v3_0) = _
  after_results; rfl
theorem cp3_1 : V6 m ρ c main_v3_1 = V5 m ρ c main_v2_1 := by
  show StableHlo.after hostOps3 _ (Proc.devRef .tc main_v3_1) = _
  after_results; rfl
theorem cp3_2 : V6 m ρ c main_v3_2 = V5 m ρ c main_v2_2 := by
  show StableHlo.after hostOps3 _ (Proc.devRef .tc main_v3_2) = _
  after_results; rfl
theorem cp3_3 : V6 m ρ c main_v3_3 = V5 m ρ c main_v2_3 := by
  show StableHlo.after hostOps3 _ (Proc.devRef .tc main_v3_3) = _
  after_results; rfl

theorem w7_0 : W7 m ρ c (Proc.devRef .tc main_v3_0) = fun i => sel (m ((c : Thread nD τ).loc main_arg1)) (m ((c : Thread nD τ).loc main_arg2)) (m ((c : Thread nD τ).loc main_arg3)) (m ((c : Thread nD τ).loc main_arg4)) i := by
  refine ((W7_arr m ρ c 4).trans (arr3_4 (V6 m ρ) c)).trans ?_
  funext i
  have c1 := congrFun ((cp1_0 m ρ c).trans ((W1_arr m ρ c 4).trans (arr0_4 (V0 m ρ) c))) i
  have c2 := congrFun ((cp2_0 m ρ c).trans ((W3_arr m ρ c 4).trans (arr1_4 (V2 m ρ) c))) i
  have c3 := congrFun ((cp3_0 m ρ c).trans ((W5_arr m ρ c 4).trans (arr2_4 (V4 m ρ) c))) i
  obtain ⟨a0_4, -, -, -⟩ := ar m ρ c main_arg4 (by decide)
  obtain ⟨-, a1_3, -, -⟩ := ar m ρ c main_arg3 (by decide)
  obtain ⟨-, -, a2_2, -⟩ := ar m ρ c main_arg2 (by decide)
  obtain ⟨-, -, -, a3_1⟩ := ar m ρ c main_arg1 (by decide)
  rw [a3_1]
  rw [c3, a2_2]
  rw [c2, a1_3]
  rw [c1, a0_4]
  refine (pick i _ _ _ _ _).trans ?_
  unfold aG sel
  split_ifs <;> rfl

theorem w7_1 : W7 m ρ c (Proc.devRef .tc main_v3_1) = fun i => dl ((m ((c : Thread nD τ).loc main_arg0)) i) (m1 ((m ((c : Thread nD τ).loc main_arg5)) i) (sel (m ((c : Thread nD τ).loc main_arg1)) (m ((c : Thread nD τ).loc main_arg2)) (m ((c : Thread nD τ).loc main_arg3)) (m ((c : Thread nD τ).loc main_arg4)) i)) (v1 ((m ((c : Thread nD τ).loc main_arg6)) i) (sel (m ((c : Thread nD τ).loc main_arg1)) (m ((c : Thread nD τ).loc main_arg2)) (m ((c : Thread nD τ).loc main_arg3)) (m ((c : Thread nD τ).loc main_arg4)) i)) := by
  refine ((W7_arr m ρ c 5).trans (arr3_5 (V6 m ρ) c)).trans ?_
  funext i
  have c1 := congrFun ((cp1_1 m ρ c).trans ((W1_arr m ρ c 5).trans (arr0_5 (V0 m ρ) c))) i
  have c2 := congrFun ((cp2_1 m ρ c).trans ((W3_arr m ρ c 5).trans (arr1_5 (V2 m ρ) c))) i
  have c3 := congrFun ((cp3_1 m ρ c).trans ((W5_arr m ρ c 5).trans (arr2_5 (V4 m ρ) c))) i
  obtain ⟨a0_4, -, -, -⟩ := ar m ρ c main_arg4 (by decide)
  obtain ⟨-, a1_3, -, -⟩ := ar m ρ c main_arg3 (by decide)
  obtain ⟨-, -, a2_2, -⟩ := ar m ρ c main_arg2 (by decide)
  obtain ⟨-, -, -, a3_1⟩ := ar m ρ c main_arg1 (by decide)
  obtain ⟨a0_0, a1_0, a2_0, a3_0⟩ := ar m ρ c main_arg0 (by decide)
  obtain ⟨a0_5, a1_5, a2_5, a3_5⟩ := ar m ρ c main_arg5 (by decide)
  obtain ⟨a0_6, a1_6, a2_6, a3_6⟩ := ar m ρ c main_arg6 (by decide)
  rw [a3_1, a3_0, a3_5, a3_6]
  rw [c3, a2_2, a2_0, a2_5, a2_6]
  rw [c2, a1_3, a1_0, a1_5, a1_6]
  rw [c1, a0_4, a0_0, a0_5, a0_6]
  refine (pick i _ _ _ _ _).trans ?_
  unfold aD sel
  split_ifs <;> rfl

theorem w7_2 : W7 m ρ c (Proc.devRef .tc main_v3_2) = fun i => m1 ((m ((c : Thread nD τ).loc main_arg5)) i) (sel (m ((c : Thread nD τ).loc main_arg1)) (m ((c : Thread nD τ).loc main_arg2)) (m ((c : Thread nD τ).loc main_arg3)) (m ((c : Thread nD τ).loc main_arg4)) i) := by
  refine ((W7_arr m ρ c 6).trans (arr3_6 (V6 m ρ) c)).trans ?_
  funext i
  have c1 := congrFun ((cp1_2 m ρ c).trans ((W1_arr m ρ c 6).trans (arr0_6 (V0 m ρ) c))) i
  have c2 := congrFun ((cp2_2 m ρ c).trans ((W3_arr m ρ c 6).trans (arr1_6 (V2 m ρ) c))) i
  have c3 := congrFun ((cp3_2 m ρ c).trans ((W5_arr m ρ c 6).trans (arr2_6 (V4 m ρ) c))) i
  obtain ⟨a0_4, -, -, -⟩ := ar m ρ c main_arg4 (by decide)
  obtain ⟨-, a1_3, -, -⟩ := ar m ρ c main_arg3 (by decide)
  obtain ⟨-, -, a2_2, -⟩ := ar m ρ c main_arg2 (by decide)
  obtain ⟨-, -, -, a3_1⟩ := ar m ρ c main_arg1 (by decide)
  obtain ⟨a0_5, a1_5, a2_5, a3_5⟩ := ar m ρ c main_arg5 (by decide)
  rw [a3_1, a3_5]
  rw [c3, a2_2, a2_5]
  rw [c2, a1_3, a1_5]
  rw [c1, a0_4, a0_5]
  refine (pick i _ _ _ _ _).trans ?_
  unfold aM sel
  split_ifs <;> rfl

theorem w7_3 : W7 m ρ c (Proc.devRef .tc main_v3_3) = fun i => v1 ((m ((c : Thread nD τ).loc main_arg6)) i) (sel (m ((c : Thread nD τ).loc main_arg1)) (m ((c : Thread nD τ).loc main_arg2)) (m ((c : Thread nD τ).loc main_arg3)) (m ((c : Thread nD τ).loc main_arg4)) i) := by
  refine ((W7_arr m ρ c 7).trans (arr3_7 (V6 m ρ) c)).trans ?_
  funext i
  have c1 := congrFun ((cp1_3 m ρ c).trans ((W1_arr m ρ c 7).trans (arr0_7 (V0 m ρ) c))) i
  have c2 := congrFun ((cp2_3 m ρ c).trans ((W3_arr m ρ c 7).trans (arr1_7 (V2 m ρ) c))) i
  have c3 := congrFun ((cp3_3 m ρ c).trans ((W5_arr m ρ c 7).trans (arr2_7 (V4 m ρ) c))) i
  obtain ⟨a0_4, -, -, -⟩ := ar m ρ c main_arg4 (by decide)
  obtain ⟨-, a1_3, -, -⟩ := ar m ρ c main_arg3 (by decide)
  obtain ⟨-, -, a2_2, -⟩ := ar m ρ c main_arg2 (by decide)
  obtain ⟨-, -, -, a3_1⟩ := ar m ρ c main_arg1 (by decide)
  obtain ⟨a0_6, a1_6, a2_6, a3_6⟩ := ar m ρ c main_arg6 (by decide)
  rw [a3_1, a3_6]
  rw [c3, a2_2, a2_6]
  rw [c2, a1_3, a1_6]
  rw [c1, a0_4, a0_6]
  refine (pick i _ _ _ _ _).trans ?_
  unfold aV sel
  split_ifs <;> rfl

end Cert.Kernel10Ideal.Res

end
-- ==== Proof.Ff.Alg10.lean ====
module

public import proofs.«01_k».proof.Defs
public import proofs.«01_k».proof.Proof.Ff.Res10
public import proofs.«01_k».proof.Proof.Gen.Reference10Ideal.Run
public import proofs.«01_k».proof.Proof.Gen.Reference10Ideal.Read
public import Idealize.ShloMosaic.Lib.Pointwise
public import Idealize.ShloMosaic.Lib.Claim

@[expose] public section

set_option maxRecDepth 16384

noncomputable section

open Idealize.ShloMosaic Idealize.ShloMosaic.TcCoe Idealize.SL.Sem
open Cert.Ad (m1 v1 dl)

/- A large weight's update over its layers: both programs end with the same four arrays. -/

namespace Cert.Reference10Ideal.Same

open Cert.Reference10Ideal Cert.Reference10Ideal.Read Cert.Kernel10Ideal.Res

variable (x0 : FVec Ideal S4x512x2048 .f32) (x1 x2 x3 x4 : FVec Ideal S512x2048 .bf16) (x5 x6 : FVec Ideal S4x512x2048 .f32)

theorem e4 : val_main_v4 (F := Ideal) x1 x2 x3 x4 = sel x1 x2 x3 x4 := by
  funext i
  unfold val_main_v4 sel
  obtain ⟨l, r, j, rfl⟩ : ∃ l r j, i = ix3 l r j := ⟨_, _, _, eq_ix3 i⟩
  have k0 (z : Fin 1) : val_main_v0 (F := Ideal) x1 (ix3 z r j) = x1 (ix2 r j) := (val_main_v0_apply (F := Ideal) x1 _).trans (congrArg x1 (by idx_ext))
  have k1 (z : Fin 1) : val_main_v1 (F := Ideal) x2 (ix3 z r j) = x2 (ix2 r j) := (val_main_v1_apply (F := Ideal) x2 _).trans (congrArg x2 (by idx_ext))
  have k2 (z : Fin 1) : val_main_v2 (F := Ideal) x3 (ix3 z r j) = x3 (ix2 r j) := (val_main_v2_apply (F := Ideal) x3 _).trans (congrArg x3 (by idx_ext))
  have k3 (z : Fin 1) : val_main_v3 (F := Ideal) x4 (ix3 z r j) = x4 (ix2 r j) := (val_main_v3_apply (F := Ideal) x4 _).trans (congrArg x4 (by idx_ext))
  generalize val_main_v0 (F := Ideal) x1 = y0 at k0 ⊢
  generalize val_main_v1 (F := Ideal) x2 = y1 at k1 ⊢
  generalize val_main_v2 (F := Ideal) x3 = y2 at k2 ⊢
  generalize val_main_v3 (F := Ideal) x4 = y3 at k3 ⊢
  pointwise []
  simp only [k0, k1, k2, k3]
  split_ifs <;> first | rfl | omega

theorem e5 : val_main_v5 (F := Ideal) x1 x2 x3 x4 = fun i => sel x1 x2 x3 x4 i := e4 x1 x2 x3 x4

theorem e29 : val_main_v29 (F := Ideal) x0 x1 x2 x3 x4 x5 x6
    = fun i => dl (x0 i) (m1 (x5 i) (sel x1 x2 x3 x4 i)) (v1 (x6 i) (sel x1 x2 x3 x4 i)) := by
  rw [← e4]
  rfl

theorem e10 : val_main_v10 (F := Ideal) x1 x2 x3 x4 x5 = fun i => m1 (x5 i) (sel x1 x2 x3 x4 i) := by
  rw [← e4]
  rfl

theorem e16 : val_main_v16 (F := Ideal) x1 x2 x3 x4 x6 = fun i => v1 (x6 i) (sel x1 x2 x3 x4 i) := by
  rw [← e4]
  rfl

theorem algebraic : Cert.algebraic_Kernel10Ideal_Reference10Ideal := by
  pair_intro
  · run_from Cert.Kernel10Ideal.Res.run m g
  · run_from Cert.Reference10Ideal.Value.run m' g'
    · obtain ⟨-, h1, h2, h3, h4, -⟩ := hagree c
      refine (val_main_v5_eq (F := Ideal) _ _ _ _).trans ((e5 _ _ _ _).trans ?_)
      rw [h1, h2, h3, h4]
      exact (w7_0 m g c).symm
    · obtain ⟨-, h1, h2, h3, h4, -⟩ := hagree c
      refine (val_main_v29_eq (F := Ideal) _ _ _ _ _ _ _).trans ((e29 _ _ _ _ _ _ _).trans ?_)
      rw [h1, h2, h3, h4]
      exact (w7_1 m g c).symm
    · obtain ⟨-, h1, h2, h3, h4, -⟩ := hagree c
      refine (val_main_v10_eq (F := Ideal) _ _ _ _ _).trans ((e10 _ _ _ _ _).trans ?_)
      rw [h1, h2, h3, h4]
      exact (w7_2 m g c).symm
    · obtain ⟨-, h1, h2, h3, h4, -⟩ := hagree c
      refine (val_main_v16_eq (F := Ideal) _ _ _ _ _).trans ((e16 _ _ _ _ _).trans ?_)
      rw [h1, h2, h3, h4]
      exact (w7_3 m g c).symm

end Cert.Reference10Ideal.Same

end
-- ==== Proof.Ff.Arr11.lean ====
module

public import proofs.«01_k».proof.Proof.Gen.Kernel11Ideal.Frame
public import proofs.«01_k».proof.Proof.Ff.Ad
public import Idealize.ShloMosaic.Lib.Pipeline.ValueKit
public import Idealize.ShloMosaic.Lib.Pipeline.ValueKit.Partial
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.Ad (m1 v1 dl)

/- Each region writes one layer of the four output arrays and leaves the rest. -/

namespace Cert.Kernel11Ideal.Res

open Cert.Kernel11Ideal Cert.Kernel11Ideal.Gen

variable (V : (c : Dev nD) → (b : Ref sig .tc) → Buf (Elt Ideal) ((c : Thread nD τ).loc b)) (c : Dev nD)

/-- The layer's place of an index. -/
def at2 (i : S4x2048x1280.Idx) : S2048x1280.Idx := ix2 ⟨(i 1).val, (i 1).isLt⟩ ⟨(i 2).val, (i 2).isLt⟩
def aG (g : FVec Ideal S2048x1280 .bf16) : FVec Ideal S4x2048x1280 .f32 := fun i => g (at2 i)
def aM (g : FVec Ideal S2048x1280 .bf16) (m : FVec Ideal S4x2048x1280 .f32) : FVec Ideal S4x2048x1280 .f32 := fun i => m1 (m i) (g (at2 i))
def aV (g : FVec Ideal S2048x1280 .bf16) (v : FVec Ideal S4x2048x1280 .f32) : FVec Ideal S4x2048x1280 .f32 := fun i => v1 (v i) (g (at2 i))
def aD (g : FVec Ideal S2048x1280 .bf16) (w m v : FVec Ideal S4x2048x1280 .f32) : FVec Ideal S4x2048x1280 .f32 :=
  fun i => dl (w i) (m1 (m i) (g (at2 i))) (v1 (v i) (g (at2 i)))

theorem p0_m (g : Vec Ideal S256x1280 .bf16) (m : Vec Ideal S1x256x1280 .f32) (r : Fin 256) (j : Fin 1280) :
    k0_pay5 g m (ix2 r j) = m1 (m (ix3 0 r j)) (g (ix2 r j)) := by
  unfold m1; pointwise [k0_pay5, k0_pay4]

theorem p0_v (g : Vec Ideal S256x1280 .bf16) (v : Vec Ideal S1x256x1280 .f32) (r : Fin 256) (j : Fin 1280) :
    k0_pay6 g v (ix2 r j) = v1 (v (ix3 0 r j)) (g (ix2 r j)) := by
  unfold v1; pointwise [k0_pay6, k0_pay4]

theorem p0_d (g : Vec Ideal S256x1280 .bf16) (w m v : Vec Ideal S1x256x1280 .f32) (r : Fin 256) (j : Fin 1280) :
    k0_pay7 g w m v (ix2 r j) = dl (w (ix3 0 r j)) (m1 (m (ix3 0 r j)) (g (ix2 r j))) (v1 (v (ix3 0 r j)) (g (ix2 r j))) := by
  rw [← p0_m, ← p0_v]
  unfold k0_pay7 dl
  generalize k0_pay5 g m = a
  generalize k0_pay6 g v = b
  pointwise

theorem p0_4 (g : Vec Ideal S256x1280 .bf16) (r : Fin 256) (j : Fin 1280) : k0_pay8 g (ix3 0 r j) = g (ix2 r j) := by
  pointwise [k0_pay8, k0_pay4]
theorem p0_5 (x : FVec Ideal S256x1280 .f32) (r : Fin 256) (j : Fin 1280) : k0_pay1 x (ix3 0 r j) = x (ix2 r j) := by
  pointwise [k0_pay1]
theorem p0_6 (x : FVec Ideal S256x1280 .f32) (r : Fin 256) (j : Fin 1280) : k0_pay2 x (ix3 0 r j) = x (ix2 r j) := by
  pointwise [k0_pay2]
theorem p0_7 (x : FVec Ideal S256x1280 .f32) (r : Fin 256) (j : Fin 1280) : k0_pay3 x (ix3 0 r j) = x (ix2 r j) := by
  pointwise [k0_pay3]

theorem idx0 : ∀ t : Fin cfg0.N,
    win0_0.index t (0 : Fin 3) = 3 ∧ win0_0.index t (1 : Fin 3) = t.val ∧ win0_0.index t (2 : Fin 3) = 0
    ∧ win0_1.index t (0 : Fin 2) = t.val ∧ win0_1.index t (1 : Fin 2) = 0
    ∧ win0_2.index t (0 : Fin 3) = 3 ∧ win0_2.index t (1 : Fin 3) = t.val ∧ win0_2.index t (2 : Fin 3) = 0
    ∧ win0_3.index t (0 : Fin 3) = 3 ∧ win0_3.index t (1 : Fin 3) = t.val ∧ win0_3.index t (2 : Fin 3) = 0
    ∧ win0_4.index t (0 : Fin 3) = 3 ∧ win0_4.index t (1 : Fin 3) = t.val ∧ win0_4.index t (2 : Fin 3) = 0 :=
  (by decide +kernel : ∀ t : Fin grid0.N, _)

theorem rd0 (t : Fin cfg0.N) (r : Fin 256) (j : Fin 1280) : iblk0 V c 1 t (ix2 r j) = V c main_arg4 (at2 ((win0_4.blk t).view.emb (ix3 0 r j)))
    ∧ iblk0 V c 0 t (ix3 0 r j) = V c main_arg0 ((win0_4.blk t).view.emb (ix3 0 r j))
    ∧ iblk0 V c 2 t (ix3 0 r j) = V c main_arg5 ((win0_4.blk t).view.emb (ix3 0 r j))
    ∧ iblk0 V c 3 t (ix3 0 r j) = V c main_arg6 ((win0_4.blk t).view.emb (ix3 0 r j)) := by
  have e := idx0 t
  refine ⟨?_, ?_, ?_, ?_⟩
  · blk_ext [iblk0, e, at2]
  all_goals blk_ext [iblk0, e]

theorem arr0_4 : (dat0 V c).arrAt 4 cfg0.N = fun i => if (i 0 : ℕ) / 1 = 3 then aG (V c main_arg4) i else V c main_v0_0 i := by
  refine (dat0 V c).arrAt_eq_of_coversWhere 4 _ (fun β => β (0 : Fin _) = 3) (by decide +kernel) (fun t hf y => ?_) (fun j => Iff.rfl)
  blk_simp; rw [after0_4]; frame_out
  obtain ⟨z, r, j, rfl⟩ : ∃ z r j, y = ix3 z r j := ⟨_, _, _, eq_ix3 y⟩
  obtain rfl : z = 0 := Subsingleton.elim _ _
  obtain ⟨e1, e0, e2, e3⟩ := rd0 V c t r j
  refine (p0_4 _ r j).trans ?_
  rw [e1]
  rfl

theorem arr0_5 : (dat0 V c).arrAt 5 cfg0.N = fun i => if (i 0 : ℕ) / 1 = 3 then aD (V c main_arg4) (V c main_arg0) (V c main_arg5) (V c main_arg6) i else V c main_v0_1 i := by
  refine (dat0 V c).arrAt_eq_of_coversWhere 5 _ (fun β => β (0 : Fin _) = 3) (by decide +kernel) (fun t hf y => ?_) (fun j => Iff.rfl)
  blk_simp; rw [after0_5]; frame_out
  obtain ⟨z, r, j, rfl⟩ : ∃ z r j, y = ix3 z r j := ⟨_, _, _, eq_ix3 y⟩
  obtain rfl : z = 0 := Subsingleton.elim _ _
  obtain ⟨e1, e0, e2, e3⟩ := rd0 V c t r j
  refine ((p0_5 _ r j).trans (p0_d _ _ _ _ r j)).trans ?_
  rw [e1, e0, e2, e3]
  rfl

theorem arr0_6 : (dat0 V c).arrAt 6 cfg0.N = fun i => if (i 0 : ℕ) / 1 = 3 then aM (V c main_arg4) (V c main_arg5) i else V c main_v0_2 i := by
  refine (dat0 V c).arrAt_eq_of_coversWhere 6 _ (fun β => β (0 : Fin _) = 3) (by decide +kernel) (fun t hf y => ?_) (fun j => Iff.rfl)
  blk_simp; rw [after0_6]; frame_out
  obtain ⟨z, r, j, rfl⟩ : ∃ z r j, y = ix3 z r j := ⟨_, _, _, eq_ix3 y⟩
  obtain rfl : z = 0 := Subsingleton.elim _ _
  obtain ⟨e1, e0, e2, e3⟩ := rd0 V c t r j
  refine ((p0_6 _ r j).trans (p0_m _ _ r j)).trans ?_
  rw [e1, e2]
  rfl

theorem arr0_7 : (dat0 V c).arrAt 7 cfg0.N = fun i => if (i 0 : ℕ) / 1 = 3 then aV (V c main_arg4) (V c main_arg6) i else V c main_v0_3 i := by
  refine (dat0 V c).arrAt_eq_of_coversWhere 7 _ (fun β => β (0 : Fin _) = 3) (by decide +kernel) (fun t hf y => ?_) (fun j => Iff.rfl)
  blk_simp; rw [after0_7]; frame_out
  obtain ⟨z, r, j, rfl⟩ : ∃ z r j, y = ix3 z r j := ⟨_, _, _, eq_ix3 y⟩
  obtain rfl : z = 0 := Subsingleton.elim _ _
  obtain ⟨e1, e0, e2, e3⟩ := rd0 V c t r j
  refine ((p0_7 _ r j).trans (p0_v _ _ r j)).trans ?_
  rw [e1, e3]
  rfl

theorem idx1 : ∀ t : Fin cfg1.N,
    win1_0.index t (0 : Fin 3) = 2 ∧ win1_0.index t (1 : Fin 3) = t.val ∧ win1_0.index t (2 : Fin 3) = 0
    ∧ win1_1.index t (0 : Fin 2) = t.val ∧ win1_1.index t (1 : Fin 2) = 0
    ∧ win1_2.index t (0 : Fin 3) = 2 ∧ win1_2.index t (1 : Fin 3) = t.val ∧ win1_2.index t (2 : Fin 3) = 0
    ∧ win1_3.index t (0 : Fin 3) = 2 ∧ win1_3.index t (1 : Fin 3) = t.val ∧ win1_3.index t (2 : Fin 3) = 0
    ∧ win1_4.index t (0 : Fin 3) = 2 ∧ win1_4.index t (1 : Fin 3) = t.val ∧ win1_4.index t (2 : Fin 3) = 0 :=
  (by decide +kernel : ∀ t : Fin grid1.N, _)

theorem rd1 (t : Fin cfg1.N) (r : Fin 256) (j : Fin 1280) : iblk1 V c 1 t (ix2 r j) = V c main_arg3 (at2 ((win1_4.blk t).view.emb (ix3 0 r j)))
    ∧ iblk1 V c 0 t (ix3 0 r j) = V c main_arg0 ((win1_4.blk t).view.emb (ix3 0 r j))
    ∧ iblk1 V c 2 t (ix3 0 r j) = V c main_arg5 ((win1_4.blk t).view.emb (ix3 0 r j))
    ∧ iblk1 V c 3 t (ix3 0 r j) = V c main_arg6 ((win1_4.blk t).view.emb (ix3 0 r j)) := by
  have e := idx1 t
  refine ⟨?_, ?_, ?_, ?_⟩
  · blk_ext [iblk1, e, at2]
  all_goals blk_ext [iblk1, e]

theorem arr1_4 : (dat1 V c).arrAt 4 cfg1.N = fun i => if (i 0 : ℕ) / 1 = 2 then aG (V c main_arg3) i else V c main_v1_0 i := by
  refine (dat1 V c).arrAt_eq_of_coversWhere 4 _ (fun β => β (0 : Fin _) = 2) (by decide +kernel) (fun t hf y => ?_) (fun j => Iff.rfl)
  blk_simp; rw [after1_4]; unfold outsAt1; frame_out
  obtain ⟨z, r, j, rfl⟩ : ∃ z r j, y = ix3 z r j := ⟨_, _, _, eq_ix3 y⟩
  obtain rfl : z = 0 := Subsingleton.elim _ _
  obtain ⟨e1, e0, e2, e3⟩ := rd1 V c t r j
  refine (p0_4 _ r j).trans ?_
  rw [e1]
  rfl

theorem arr1_5 : (dat1 V c).arrAt 5 cfg1.N = fun i => if (i 0 : ℕ) / 1 = 2 then aD (V c main_arg3) (V c main_arg0) (V c main_arg5) (V c main_arg6) i else V c main_v1_1 i := by
  refine (dat1 V c).arrAt_eq_of_coversWhere 5 _ (fun β => β (0 : Fin _) = 2) (by decide +kernel) (fun t hf y => ?_) (fun j => Iff.rfl)
  blk_simp; rw [after1_5]; unfold outsAt1; frame_out
  obtain ⟨z, r, j, rfl⟩ : ∃ z r j, y = ix3 z r j := ⟨_, _, _, eq_ix3 y⟩
  obtain rfl : z = 0 := Subsingleton.elim _ _
  obtain ⟨e1, e0, e2, e3⟩ := rd1 V c t r j
  refine ((p0_5 _ r j).trans (p0_d _ _ _ _ r j)).trans ?_
  rw [e1, e0, e2, e3]
  rfl

theorem arr1_6 : (dat1 V c).arrAt 6 cfg1.N = fun i => if (i 0 : ℕ) / 1 = 2 then aM (V c main_arg3) (V c main_arg5) i else V c main_v1_2 i := by
  refine (dat1 V c).arrAt_eq_of_coversWhere 6 _ (fun β => β (0 : Fin _) = 2) (by decide +kernel) (fun t hf y => ?_) (fun j => Iff.rfl)
  blk_simp; rw [after1_6]; unfold outsAt1; frame_out
  obtain ⟨z, r, j, rfl⟩ : ∃ z r j, y = ix3 z r j := ⟨_, _, _, eq_ix3 y⟩
  obtain rfl : z = 0 := Subsingleton.elim _ _
  obtain ⟨e1, e0, e2, e3⟩ := rd1 V c t r j
  refine ((p0_6 _ r j).trans (p0_m _ _ r j)).trans ?_
  rw [e1, e2]
  rfl

theorem arr1_7 : (dat1 V c).arrAt 7 cfg1.N = fun i => if (i 0 : ℕ) / 1 = 2 then aV (V c main_arg3) (V c main_arg6) i else V c main_v1_3 i := by
  refine (dat1 V c).arrAt_eq_of_coversWhere 7 _ (fun β => β (0 : Fin _) = 2) (by decide +kernel) (fun t hf y => ?_) (fun j => Iff.rfl)
  blk_simp; rw [after1_7]; unfold outsAt1; frame_out
  obtain ⟨z, r, j, rfl⟩ : ∃ z r j, y = ix3 z r j := ⟨_, _, _, eq_ix3 y⟩
  obtain rfl : z = 0 := Subsingleton.elim _ _
  obtain ⟨e1, e0, e2, e3⟩ := rd1 V c t r j
  refine ((p0_7 _ r j).trans (p0_v _ _ r j)).trans ?_
  rw [e1, e3]
  rfl

theorem idx2 : ∀ t : Fin cfg2.N,
    win2_0.index t (0 : Fin 3) = 1 ∧ win2_0.index t (1 : Fin 3) = t.val ∧ win2_0.index t (2 : Fin 3) = 0
    ∧ win2_1.index t (0 : Fin 2) = t.val ∧ win2_1.index t (1 : Fin 2) = 0
    ∧ win2_2.index t (0 : Fin 3) = 1 ∧ win2_2.index t (1 : Fin 3) = t.val ∧ win2_2.index t (2 : Fin 3) = 0
    ∧ win2_3.index t (0 : Fin 3) = 1 ∧ win2_3.index t (1 : Fin 3) = t.val ∧ win2_3.index t (2 : Fin 3) = 0
    ∧ win2_4.index t (0 : Fin 3) = 1 ∧ win2_4.index t (1 : Fin 3) = t.val ∧ win2_4.index t (2 : Fin 3) = 0 :=
  (by decide +kernel : ∀ t : Fin grid2.N, _)

theorem rd2 (t : Fin cfg2.N) (r : Fin 256) (j : Fin 1280) : iblk2 V c 1 t (ix2 r j) = V c main_arg2 (at2 ((win2_4.blk t).view.emb (ix3 0 r j)))
    ∧ iblk2 V c 0 t (ix3 0 r j) = V c main_arg0 ((win2_4.blk t).view.emb (ix3 0 r j))
    ∧ iblk2 V c 2 t (ix3 0 r j) = V c main_arg5 ((win2_4.blk t).view.emb (ix3 0 r j))
    ∧ iblk2 V c 3 t (ix3 0 r j) = V c main_arg6 ((win2_4.blk t).view.emb (ix3 0 r j)) := by
  have e := idx2 t
  refine ⟨?_, ?_, ?_, ?_⟩
  · blk_ext [iblk2, e, at2]
  all_goals blk_ext [iblk2, e]

theorem arr2_4 : (dat2 V c).arrAt 4 cfg2.N = fun i => if (i 0 : ℕ) / 1 = 1 then aG (V c main_arg2) i else V c main_v2_0 i := by
  refine (dat2 V c).arrAt_eq_of_coversWhere 4 _ (fun β => β (0 : Fin _) = 1) (by decide +kernel) (fun t hf y => ?_) (fun j => Iff.rfl)
  blk_simp; rw [after2_4]; unfold outsAt2; frame_out
  obtain ⟨z, r, j, rfl⟩ : ∃ z r j, y = ix3 z r j := ⟨_, _, _, eq_ix3 y⟩
  obtain rfl : z = 0 := Subsingleton.elim _ _
  obtain ⟨e1, e0, e2, e3⟩ := rd2 V c t r j
  refine (p0_4 _ r j).trans ?_
  rw [e1]
  rfl

theorem arr2_5 : (dat2 V c).arrAt 5 cfg2.N = fun i => if (i 0 : ℕ) / 1 = 1 then aD (V c main_arg2) (V c main_arg0) (V c main_arg5) (V c main_arg6) i else V c main_v2_1 i := by
  refine (dat2 V c).arrAt_eq_of_coversWhere 5 _ (fun β => β (0 : Fin _) = 1) (by decide +kernel) (fun t hf y => ?_) (fun j => Iff.rfl)
  blk_simp; rw [after2_5]; unfold outsAt2; frame_out
  obtain ⟨z, r, j, rfl⟩ : ∃ z r j, y = ix3 z r j := ⟨_, _, _, eq_ix3 y⟩
  obtain rfl : z = 0 := Subsingleton.elim _ _
  obtain ⟨e1, e0, e2, e3⟩ := rd2 V c t r j
  refine ((p0_5 _ r j).trans (p0_d _ _ _ _ r j)).trans ?_
  rw [e1, e0, e2, e3]
  rfl

theorem arr2_6 : (dat2 V c).arrAt 6 cfg2.N = fun i => if (i 0 : ℕ) / 1 = 1 then aM (V c main_arg2) (V c main_arg5) i else V c main_v2_2 i := by
  refine (dat2 V c).arrAt_eq_of_coversWhere 6 _ (fun β => β (0 : Fin _) = 1) (by decide +kernel) (fun t hf y => ?_) (fun j => Iff.rfl)
  blk_simp; rw [after2_6]; unfold outsAt2; frame_out
  obtain ⟨z, r, j, rfl⟩ : ∃ z r j, y = ix3 z r j := ⟨_, _, _, eq_ix3 y⟩
  obtain rfl : z = 0 := Subsingleton.elim _ _
  obtain ⟨e1, e0, e2, e3⟩ := rd2 V c t r j
  refine ((p0_6 _ r j).trans (p0_m _ _ r j)).trans ?_
  rw [e1, e2]
  rfl

theorem arr2_7 : (dat2 V c).arrAt 7 cfg2.N = fun i => if (i 0 : ℕ) / 1 = 1 then aV (V c main_arg2) (V c main_arg6) i else V c main_v2_3 i := by
  refine (dat2 V c).arrAt_eq_of_coversWhere 7 _ (fun β => β (0 : Fin _) = 1) (by decide +kernel) (fun t hf y => ?_) (fun j => Iff.rfl)
  blk_simp; rw [after2_7]; unfold outsAt2; frame_out
  obtain ⟨z, r, j, rfl⟩ : ∃ z r j, y = ix3 z r j := ⟨_, _, _, eq_ix3 y⟩
  obtain rfl : z = 0 := Subsingleton.elim _ _
  obtain ⟨e1, e0, e2, e3⟩ := rd2 V c t r j
  refine ((p0_7 _ r j).trans (p0_v _ _ r j)).trans ?_
  rw [e1, e3]
  rfl

theorem idx3 : ∀ t : Fin cfg3.N,
    win3_0.index t (0 : Fin 3) = 0 ∧ win3_0.index t (1 : Fin 3) = t.val ∧ win3_0.index t (2 : Fin 3) = 0
    ∧ win3_1.index t (0 : Fin 2) = t.val ∧ win3_1.index t (1 : Fin 2) = 0
    ∧ win3_2.index t (0 : Fin 3) = 0 ∧ win3_2.index t (1 : Fin 3) = t.val ∧ win3_2.index t (2 : Fin 3) = 0
    ∧ win3_3.index t (0 : Fin 3) = 0 ∧ win3_3.index t (1 : Fin 3) = t.val ∧ win3_3.index t (2 : Fin 3) = 0
    ∧ win3_4.index t (0 : Fin 3) = 0 ∧ win3_4.index t (1 : Fin 3) = t.val ∧ win3_4.index t (2 : Fin 3) = 0 :=
  (by decide +kernel : ∀ t : Fin grid3.N, _)

theorem rd3 (t : Fin cfg3.N) (r : Fin 256) (j : Fin 1280) : iblk3 V c 1 t (ix2 r j) = V c main_arg1 (at2 ((win3_4.blk t).view.emb (ix3 0 r j)))
    ∧ iblk3 V c 0 t (ix3 0 r j) = V c main_arg0 ((win3_4.blk t).view.emb (ix3 0 r j))
    ∧ iblk3 V c 2 t (ix3 0 r j) = V c main_arg5 ((win3_4.blk t).view.emb (ix3 0 r j))
    ∧ iblk3 V c 3 t (ix3 0 r j) = V c main_arg6 ((win3_4.blk t).view.emb (ix3 0 r j)) := by
  have e := idx3 t
  refine ⟨?_, ?_, ?_, ?_⟩
  · blk_ext [iblk3, e, at2]
  all_goals blk_ext [iblk3, e]

theorem arr3_4 : (dat3 V c).arrAt 4 cfg3.N = fun i => if (i 0 : ℕ) / 1 = 0 then aG (V c main_arg1) i else V c main_v3_0 i := by
  refine (dat3 V c).arrAt_eq_of_coversWhere 4 _ (fun β => β (0 : Fin _) = 0) (by decide +kernel) (fun t hf y => ?_) (fun j => Iff.rfl)
  blk_simp; rw [after3_4]; unfold outsAt3; frame_out
  obtain ⟨z, r, j, rfl⟩ : ∃ z r j, y = ix3 z r j := ⟨_, _, _, eq_ix3 y⟩
  obtain rfl : z = 0 := Subsingleton.elim _ _
  obtain ⟨e1, e0, e2, e3⟩ := rd3 V c t r j
  refine (p0_4 _ r j).trans ?_
  rw [e1]
  rfl

theorem arr3_5 : (dat3 V c).arrAt 5 cfg3.N = fun i => if (i 0 : ℕ) / 1 = 0 then aD (V c main_arg1) (V c main_arg0) (V c main_arg5) (V c main_arg6) i else V c main_v3_1 i := by
  refine (dat3 V c).arrAt_eq_of_coversWhere 5 _ (fun β => β (0 : Fin _) = 0) (by decide +kernel) (fun t hf y => ?_) (fun j => Iff.rfl)
  blk_simp; rw [after3_5]; unfold outsAt3; frame_out
  obtain ⟨z, r, j, rfl⟩ : ∃ z r j, y = ix3 z r j := ⟨_, _, _, eq_ix3 y⟩
  obtain rfl : z = 0 := Subsingleton.elim _ _
  obtain ⟨e1, e0, e2, e3⟩ := rd3 V c t r j
  refine ((p0_5 _ r j).trans (p0_d _ _ _ _ r j)).trans ?_
  rw [e1, e0, e2, e3]
  rfl

theorem arr3_6 : (dat3 V c).arrAt 6 cfg3.N = fun i => if (i 0 : ℕ) / 1 = 0 then aM (V c main_arg1) (V c main_arg5) i else V c main_v3_2 i := by
  refine (dat3 V c).arrAt_eq_of_coversWhere 6 _ (fun β => β (0 : Fin _) = 0) (by decide +kernel) (fun t hf y => ?_) (fun j => Iff.rfl)
  blk_simp; rw [after3_6]; unfold outsAt3; frame_out
  obtain ⟨z, r, j, rfl⟩ : ∃ z r j, y = ix3 z r j := ⟨_, _, _, eq_ix3 y⟩
  obtain rfl : z = 0 := Subsingleton.elim _ _
  obtain ⟨e1, e0, e2, e3⟩ := rd3 V c t r j
  refine ((p0_6 _ r j).trans (p0_m _ _ r j)).trans ?_
  rw [e1, e2]
  rfl

theorem arr3_7 : (dat3 V c).arrAt 7 cfg3.N = fun i => if (i 0 : ℕ) / 1 = 0 then aV (V c main_arg1) (V c main_arg6) i else V c main_v3_3 i := by
  refine (dat3 V c).arrAt_eq_of_coversWhere 7 _ (fun β => β (0 : Fin _) = 0) (by decide +kernel) (fun t hf y => ?_) (fun j => Iff.rfl)
  blk_simp; rw [after3_7]; unfold outsAt3; frame_out
  obtain ⟨z, r, j, rfl⟩ : ∃ z r j, y = ix3 z r j := ⟨_, _, _, eq_ix3 y⟩
  obtain rfl : z = 0 := Subsingleton.elim _ _
  obtain ⟨e1, e0, e2, e3⟩ := rd3 V c t r j
  refine ((p0_7 _ r j).trans (p0_v _ _ r j)).trans ?_
  rw [e1, e3]
  rfl

end Cert.Kernel11Ideal.Res

end
-- ==== Proof.Ff.Run11.lean ====
module

public import proofs.«01_k».proof.Proof.Gen.Kernel11Ideal.Frame
public import Idealize.ShloMosaic.Lib.Claim

@[expose] public section

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg)

/- The launch of the program's regions, ending with the results' arrays as the last region leaves them. -/

namespace Cert.Kernel11Ideal.Res

open Cert.Kernel11Ideal Cert.Kernel11Ideal.Gen

variable {F : FTy → Type} [FloatOps F]

/-- The state assertions are over this resource algebra. -/
local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run : θ_run defs (onTc (τ := τ) (main (F := F))) ⟨m, fun _ => 0, ρ⟩ (fun r => (∀ c : Dev nD,
      r.2.mem ((c.tc : Thread nD τ).loc main_v3_0) = W7 m ρ c (Proc.devRef .tc main_v3_0) ∧
      r.2.mem ((c.tc : Thread nD τ).loc main_v3_1) = W7 m ρ c (Proc.devRef .tc main_v3_1) ∧
      r.2.mem ((c.tc : Thread nD τ).loc main_v3_2) = W7 m ρ c (Proc.devRef .tc main_v3_2) ∧
      r.2.mem ((c.tc : Thread nD τ).loc main_v3_3) = W7 m ρ c (Proc.devRef .tc main_v3_3) ∧
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) ∧
      r.2.mem ((c.tc : Thread nD τ).loc main_arg5) = m ((c.tc : Thread nD τ).loc main_arg5) ∧
      r.2.mem ((c.tc : Thread nD τ).loc main_arg6) = m ((c.tc : Thread nD τ).loc main_arg6))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz => ⟨(fun c => ⟨
       h c _ (mem_uc main_v3_0 (by decide)),
       h c _ (mem_uc main_v3_1 (by decide)),
       h c _ (mem_uc main_v3_2 (by decide)),
       h c _ (mem_uc main_v3_3 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c)⟩), funext fun g => hz g (.inr (no_unscoped g.2))⟩)

end Cert.Kernel11Ideal.Res

end
-- ==== Proof.Ff.Res11.lean ====
module

public import proofs.«01_k».proof.Proof.Ff.Arr11
public import proofs.«01_k».proof.Proof.Ff.Run11

@[expose] public section

set_option maxRecDepth 16384

noncomputable section

open Idealize.ShloMosaic Idealize.ShloMosaic.TcCoe Idealize.SL.Sem
open Cert.Ad (m1 v1 dl)

/- The four results after the run: every layer is written by its region and kept by the later ones. -/

namespace Cert.Kernel11Ideal.Res

open Cert.Kernel11Ideal Cert.Kernel11Ideal.Gen

variable (m : (ℓ : Loc nD τ sig) → Buf (Elt Ideal) ℓ) (ρ : Dev nD → PrngReg) (c : Dev nD)

/-- The layers' gradients, stacked. -/
def sel (g0 g1 g2 g3 : FVec Ideal S2048x1280 .bf16) : FVec Ideal S4x2048x1280 .f32 := fun i =>
  if (i 0 : ℕ) / 1 = 0 then g0 (at2 i) else if (i 0 : ℕ) / 1 = 1 then g1 (at2 i) else if (i 0 : ℕ) / 1 = 2 then g2 (at2 i) else g3 (at2 i)

/-- The last region to write an index is the one of its layer. -/
theorem pick {α : Type} (i : S4x2048x1280.Idx) (a b d e x : α) :
    (if (i 0 : ℕ) / 1 = 0 then a else if (i 0 : ℕ) / 1 = 1 then b else if (i 0 : ℕ) / 1 = 2 then d else if (i 0 : ℕ) / 1 = 3 then e else x)
      = if (i 0 : ℕ) / 1 = 0 then a else if (i 0 : ℕ) / 1 = 1 then b else if (i 0 : ℕ) / 1 = 2 then d else e := by
  have h := (i 0).isLt
  change (i 0 : ℕ) < 4 at h
  split_ifs <;> first | rfl | omega

/-- Every region finds the arguments as they are at the launch. -/
theorem ar (a : Ref sig .tc) (h : a ∈ argRefs) : V0 m ρ c a = m ((c : Thread nD τ).loc a) ∧ V2 m ρ c a = m ((c : Thread nD τ).loc a)
    ∧ V4 m ρ c a = m ((c : Thread nD τ).loc a) ∧ V6 m ρ c a = m ((c : Thread nD τ).loc a) :=
  ⟨W0_args m ρ c a h, W2_args m ρ c a h, W4_args m ρ c a h, W6_args m ρ c a h⟩

theorem cp1_0 : V2 m ρ c main_v1_0 = V1 m ρ c main_v0_0 := by
  show StableHlo.after hostOps1 _ (Proc.devRef .tc main_v1_0) = _
  after_results; rfl
theorem cp1_1 : V2 m ρ c main_v1_1 = V1 m ρ c main_v0_1 := by
  show StableHlo.after hostOps1 _ (Proc.devRef .tc main_v1_1) = _
  after_results; rfl
theorem cp1_2 : V2 m ρ c main_v1_2 = V1 m ρ c main_v0_2 := by
  show StableHlo.after hostOps1 _ (Proc.devRef .tc main_v1_2) = _
  after_results; rfl
theorem cp1_3 : V2 m ρ c main_v1_3 = V1 m ρ c main_v0_3 := by
  show StableHlo.after hostOps1 _ (Proc.devRef .tc main_v1_3) = _
  after_results; rfl
theorem cp2_0 : V4 m ρ c main_v2_0 = V3 m ρ c main_v1_0 := by
  show StableHlo.after hostOps2 _ (Proc.devRef .tc main_v2_0) = _
  after_results; rfl
theorem cp2_1 : V4 m ρ c main_v2_1 = V3 m ρ c main_v1_1 := by
  show StableHlo.after hostOps2 _ (Proc.devRef .tc main_v2_1) = _
  after_results; rfl
theorem cp2_2 : V4 m ρ c main_v2_2 = V3 m ρ c main_v1_2 := by
  show StableHlo.after hostOps2 _ (Proc.devRef .tc main_v2_2) = _
  after_results; rfl
theorem cp2_3 : V4 m ρ c main_v2_3 = V3 m ρ c main_v1_3 := by
  show StableHlo.after hostOps2 _ (Proc.devRef .tc main_v2_3) = _
  after_results; rfl
theorem cp3_0 : V6 m ρ c main_v3_0 = V5 m ρ c main_v2_0 := by
  show StableHlo.after hostOps3 _ (Proc.devRef .tc main_v3_0) = _
  after_results; rfl
theorem cp3_1 : V6 m ρ c main_v3_1 = V5 m ρ c main_v2_1 := by
  show StableHlo.after hostOps3 _ (Proc.devRef .tc main_v3_1) = _
  after_results; rfl
theorem cp3_2 : V6 m ρ c main_v3_2 = V5 m ρ c main_v2_2 := by
  show StableHlo.after hostOps3 _ (Proc.devRef .tc main_v3_2) = _
  after_results; rfl
theorem cp3_3 : V6 m ρ c main_v3_3 = V5 m ρ c main_v2_3 := by
  show StableHlo.after hostOps3 _ (Proc.devRef .tc main_v3_3) = _
  after_results; rfl

theorem w7_0 : W7 m ρ c (Proc.devRef .tc main_v3_0) = fun i => sel (m ((c : Thread nD τ).loc main_arg1)) (m ((c : Thread nD τ).loc main_arg2)) (m ((c : Thread nD τ).loc main_arg3)) (m ((c : Thread nD τ).loc main_arg4)) i := by
  refine ((W7_arr m ρ c 4).trans (arr3_4 (V6 m ρ) c)).trans ?_
  funext i
  have c1 := congrFun ((cp1_0 m ρ c).trans ((W1_arr m ρ c 4).trans (arr0_4 (V0 m ρ) c))) i
  have c2 := congrFun ((cp2_0 m ρ c).trans ((W3_arr m ρ c 4).trans (arr1_4 (V2 m ρ) c))) i
  have c3 := congrFun ((cp3_0 m ρ c).trans ((W5_arr m ρ c 4).trans (arr2_4 (V4 m ρ) c))) i
  obtain ⟨a0_4, -, -, -⟩ := ar m ρ c main_arg4 (by decide)
  obtain ⟨-, a1_3, -, -⟩ := ar m ρ c main_arg3 (by decide)
  obtain ⟨-, -, a2_2, -⟩ := ar m ρ c main_arg2 (by decide)
  obtain ⟨-, -, -, a3_1⟩ := ar m ρ c main_arg1 (by decide)
  rw [a3_1]
  rw [c3, a2_2]
  rw [c2, a1_3]
  rw [c1, a0_4]
  refine (pick i _ _ _ _ _).trans ?_
  unfold aG sel
  split_ifs <;> rfl

theorem w7_1 : W7 m ρ c (Proc.devRef .tc main_v3_1) = fun i => dl ((m ((c : Thread nD τ).loc main_arg0)) i) (m1 ((m ((c : Thread nD τ).loc main_arg5)) i) (sel (m ((c : Thread nD τ).loc main_arg1)) (m ((c : Thread nD τ).loc main_arg2)) (m ((c : Thread nD τ).loc main_arg3)) (m ((c : Thread nD τ).loc main_arg4)) i)) (v1 ((m ((c : Thread nD τ).loc main_arg6)) i) (sel (m ((c : Thread nD τ).loc main_arg1)) (m ((c : Thread nD τ).loc main_arg2)) (m ((c : Thread nD τ).loc main_arg3)) (m ((c : Thread nD τ).loc main_arg4)) i)) := by
  refine ((W7_arr m ρ c 5).trans (arr3_5 (V6 m ρ) c)).trans ?_
  funext i
  have c1 := congrFun ((cp1_1 m ρ c).trans ((W1_arr m ρ c 5).trans (arr0_5 (V0 m ρ) c))) i
  have c2 := congrFun ((cp2_1 m ρ c).trans ((W3_arr m ρ c 5).trans (arr1_5 (V2 m ρ) c))) i
  have c3 := congrFun ((cp3_1 m ρ c).trans ((W5_arr m ρ c 5).trans (arr2_5 (V4 m ρ) c))) i
  obtain ⟨a0_4, -, -, -⟩ := ar m ρ c main_arg4 (by decide)
  obtain ⟨-, a1_3, -, -⟩ := ar m ρ c main_arg3 (by decide)
  obtain ⟨-, -, a2_2, -⟩ := ar m ρ c main_arg2 (by decide)
  obtain ⟨-, -, -, a3_1⟩ := ar m ρ c main_arg1 (by decide)
  obtain ⟨a0_0, a1_0, a2_0, a3_0⟩ := ar m ρ c main_arg0 (by decide)
  obtain ⟨a0_5, a1_5, a2_5, a3_5⟩ := ar m ρ c main_arg5 (by decide)
  obtain ⟨a0_6, a1_6, a2_6, a3_6⟩ := ar m ρ c main_arg6 (by decide)
  rw [a3_1, a3_0, a3_5, a3_6]
  rw [c3, a2_2, a2_0, a2_5, a2_6]
  rw [c2, a1_3, a1_0, a1_5, a1_6]
  rw [c1, a0_4, a0_0, a0_5, a0_6]
  refine (pick i _ _ _ _ _).trans ?_
  unfold aD sel
  split_ifs <;> rfl

theorem w7_2 : W7 m ρ c (Proc.devRef .tc main_v3_2) = fun i => m1 ((m ((c : Thread nD τ).loc main_arg5)) i) (sel (m ((c : Thread nD τ).loc main_arg1)) (m ((c : Thread nD τ).loc main_arg2)) (m ((c : Thread nD τ).loc main_arg3)) (m ((c : Thread nD τ).loc main_arg4)) i) := by
  refine ((W7_arr m ρ c 6).trans (arr3_6 (V6 m ρ) c)).trans ?_
  funext i
  have c1 := congrFun ((cp1_2 m ρ c).trans ((W1_arr m ρ c 6).trans (arr0_6 (V0 m ρ) c))) i
  have c2 := congrFun ((cp2_2 m ρ c).trans ((W3_arr m ρ c 6).trans (arr1_6 (V2 m ρ) c))) i
  have c3 := congrFun ((cp3_2 m ρ c).trans ((W5_arr m ρ c 6).trans (arr2_6 (V4 m ρ) c))) i
  obtain ⟨a0_4, -, -, -⟩ := ar m ρ c main_arg4 (by decide)
  obtain ⟨-, a1_3, -, -⟩ := ar m ρ c main_arg3 (by decide)
  obtain ⟨-, -, a2_2, -⟩ := ar m ρ c main_arg2 (by decide)
  obtain ⟨-, -, -, a3_1⟩ := ar m ρ c main_arg1 (by decide)
  obtain ⟨a0_5, a1_5, a2_5, a3_5⟩ := ar m ρ c main_arg5 (by decide)
  rw [a3_1, a3_5]
  rw [c3, a2_2, a2_5]
  rw [c2, a1_3, a1_5]
  rw [c1, a0_4, a0_5]
  refine (pick i _ _ _ _ _).trans ?_
  unfold aM sel
  split_ifs <;> rfl

theorem w7_3 : W7 m ρ c (Proc.devRef .tc main_v3_3) = fun i => v1 ((m ((c : Thread nD τ).loc main_arg6)) i) (sel (m ((c : Thread nD τ).loc main_arg1)) (m ((c : Thread nD τ).loc main_arg2)) (m ((c : Thread nD τ).loc main_arg3)) (m ((c : Thread nD τ).loc main_arg4)) i) := by
  refine ((W7_arr m ρ c 7).trans (arr3_7 (V6 m ρ) c)).trans ?_
  funext i
  have c1 := congrFun ((cp1_3 m ρ c).trans ((W1_arr m ρ c 7).trans (arr0_7 (V0 m ρ) c))) i
  have c2 := congrFun ((cp2_3 m ρ c).trans ((W3_arr m ρ c 7).trans (arr1_7 (V2 m ρ) c))) i
  have c3 := congrFun ((cp3_3 m ρ c).trans ((W5_arr m ρ c 7).trans (arr2_7 (V4 m ρ) c))) i
  obtain ⟨a0_4, -, -, -⟩ := ar m ρ c main_arg4 (by decide)
  obtain ⟨-, a1_3, -, -⟩ := ar m ρ c main_arg3 (by decide)
  obtain ⟨-, -, a2_2, -⟩ := ar m ρ c main_arg2 (by decide)
  obtain ⟨-, -, -, a3_1⟩ := ar m ρ c main_arg1 (by decide)
  obtain ⟨a0_6, a1_6, a2_6, a3_6⟩ := ar m ρ c main_arg6 (by decide)
  rw [a3_1, a3_6]
  rw [c3, a2_2, a2_6]
  rw [c2, a1_3, a1_6]
  rw [c1, a0_4, a0_6]
  refine (pick i _ _ _ _ _).trans ?_
  unfold aV sel
  split_ifs <;> rfl

end Cert.Kernel11Ideal.Res

end
-- ==== Proof.Ff.Alg11.lean ====
module

public import proofs.«01_k».proof.Defs
public import proofs.«01_k».proof.Proof.Ff.Res11
public import proofs.«01_k».proof.Proof.Gen.Reference11Ideal.Run
public import proofs.«01_k».proof.Proof.Gen.Reference11Ideal.Read
public import Idealize.ShloMosaic.Lib.Pointwise
public import Idealize.ShloMosaic.Lib.Claim

@[expose] public section

set_option maxRecDepth 16384

noncomputable section

open Idealize.ShloMosaic Idealize.ShloMosaic.TcCoe Idealize.SL.Sem
open Cert.Ad (m1 v1 dl)

/- A large weight's update over its layers: both programs end with the same four arrays. -/

namespace Cert.Reference11Ideal.Same

open Cert.Reference11Ideal Cert.Reference11Ideal.Read Cert.Kernel11Ideal.Res

variable (x0 : FVec Ideal S4x2048x1280 .f32) (x1 x2 x3 x4 : FVec Ideal S2048x1280 .bf16) (x5 x6 : FVec Ideal S4x2048x1280 .f32)

theorem e4 : val_main_v4 (F := Ideal) x1 x2 x3 x4 = sel x1 x2 x3 x4 := by
  funext i
  unfold val_main_v4 sel
  obtain ⟨l, r, j, rfl⟩ : ∃ l r j, i = ix3 l r j := ⟨_, _, _, eq_ix3 i⟩
  have k0 (z : Fin 1) : val_main_v0 (F := Ideal) x1 (ix3 z r j) = x1 (ix2 r j) := (val_main_v0_apply (F := Ideal) x1 _).trans (congrArg x1 (by idx_ext))
  have k1 (z : Fin 1) : val_main_v1 (F := Ideal) x2 (ix3 z r j) = x2 (ix2 r j) := (val_main_v1_apply (F := Ideal) x2 _).trans (congrArg x2 (by idx_ext))
  have k2 (z : Fin 1) : val_main_v2 (F := Ideal) x3 (ix3 z r j) = x3 (ix2 r j) := (val_main_v2_apply (F := Ideal) x3 _).trans (congrArg x3 (by idx_ext))
  have k3 (z : Fin 1) : val_main_v3 (F := Ideal) x4 (ix3 z r j) = x4 (ix2 r j) := (val_main_v3_apply (F := Ideal) x4 _).trans (congrArg x4 (by idx_ext))
  generalize val_main_v0 (F := Ideal) x1 = y0 at k0 ⊢
  generalize val_main_v1 (F := Ideal) x2 = y1 at k1 ⊢
  generalize val_main_v2 (F := Ideal) x3 = y2 at k2 ⊢
  generalize val_main_v3 (F := Ideal) x4 = y3 at k3 ⊢
  pointwise []
  simp only [k0, k1, k2, k3]
  split_ifs <;> first | rfl | omega

theorem e5 : val_main_v5 (F := Ideal) x1 x2 x3 x4 = fun i => sel x1 x2 x3 x4 i := e4 x1 x2 x3 x4

theorem e29 : val_main_v29 (F := Ideal) x0 x1 x2 x3 x4 x5 x6
    = fun i => dl (x0 i) (m1 (x5 i) (sel x1 x2 x3 x4 i)) (v1 (x6 i) (sel x1 x2 x3 x4 i)) := by
  rw [← e4]
  rfl

theorem e10 : val_main_v10 (F := Ideal) x1 x2 x3 x4 x5 = fun i => m1 (x5 i) (sel x1 x2 x3 x4 i) := by
  rw [← e4]
  rfl

theorem e16 : val_main_v16 (F := Ideal) x1 x2 x3 x4 x6 = fun i => v1 (x6 i) (sel x1 x2 x3 x4 i) := by
  rw [← e4]
  rfl

theorem algebraic : Cert.algebraic_Kernel11Ideal_Reference11Ideal := by
  pair_intro
  · run_from Cert.Kernel11Ideal.Res.run m g
  · run_from Cert.Reference11Ideal.Value.run m' g'
    · obtain ⟨-, h1, h2, h3, h4, -⟩ := hagree c
      refine (val_main_v5_eq (F := Ideal) _ _ _ _).trans ((e5 _ _ _ _).trans ?_)
      rw [h1, h2, h3, h4]
      exact (w7_0 m g c).symm
    · obtain ⟨-, h1, h2, h3, h4, -⟩ := hagree c
      refine (val_main_v29_eq (F := Ideal) _ _ _ _ _ _ _).trans ((e29 _ _ _ _ _ _ _).trans ?_)
      rw [h1, h2, h3, h4]
      exact (w7_1 m g c).symm
    · obtain ⟨-, h1, h2, h3, h4, -⟩ := hagree c
      refine (val_main_v10_eq (F := Ideal) _ _ _ _ _).trans ((e10 _ _ _ _ _).trans ?_)
      rw [h1, h2, h3, h4]
      exact (w7_2 m g c).symm
    · obtain ⟨-, h1, h2, h3, h4, -⟩ := hagree c
      refine (val_main_v16_eq (F := Ideal) _ _ _ _ _).trans ((e16 _ _ _ _ _).trans ?_)
      rw [h1, h2, h3, h4]
      exact (w7_3 m g c).symm

end Cert.Reference11Ideal.Same

end
-- ==== Proof.Ff.Arr12.lean ====
module

public import proofs.«01_k».proof.Proof.Gen.Kernel12Ideal.Frame
public import proofs.«01_k».proof.Proof.Ff.Ad
public import Idealize.ShloMosaic.Lib.Pipeline.ValueKit
public import Idealize.ShloMosaic.Lib.Pipeline.ValueKit.Partial
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.Ad (m1 v1 dl)

/- Each region writes one layer of the four output arrays and leaves the rest. -/

namespace Cert.Kernel12Ideal.Res

open Cert.Kernel12Ideal Cert.Kernel12Ideal.Gen

variable (V : (c : Dev nD) → (b : Ref sig .tc) → Buf (Elt Ideal) ((c : Thread nD τ).loc b)) (c : Dev nD)

/-- The layer's place of an index. -/
def at2 (i : S4x2048x1408.Idx) : S2048x1408.Idx := ix2 ⟨(i 1).val, (i 1).isLt⟩ ⟨(i 2).val, (i 2).isLt⟩
def aG (g : FVec Ideal S2048x1408 .bf16) : FVec Ideal S4x2048x1408 .f32 := fun i => g (at2 i)
def aM (g : FVec Ideal S2048x1408 .bf16) (m : FVec Ideal S4x2048x1408 .f32) : FVec Ideal S4x2048x1408 .f32 := fun i => m1 (m i) (g (at2 i))
def aV (g : FVec Ideal S2048x1408 .bf16) (v : FVec Ideal S4x2048x1408 .f32) : FVec Ideal S4x2048x1408 .f32 := fun i => v1 (v i) (g (at2 i))
def aD (g : FVec Ideal S2048x1408 .bf16) (w m v : FVec Ideal S4x2048x1408 .f32) : FVec Ideal S4x2048x1408 .f32 :=
  fun i => dl (w i) (m1 (m i) (g (at2 i))) (v1 (v i) (g (at2 i)))

theorem p0_m (g : Vec Ideal S256x1408 .bf16) (m : Vec Ideal S1x256x1408 .f32) (r : Fin 256) (j : Fin 1408) :
    k0_pay5 g m (ix2 r j) = m1 (m (ix3 0 r j)) (g (ix2 r j)) := by
  unfold m1; pointwise [k0_pay5, k0_pay4]

theorem p0_v (g : Vec Ideal S256x1408 .bf16) (v : Vec Ideal S1x256x1408 .f32) (r : Fin 256) (j : Fin 1408) :
    k0_pay6 g v (ix2 r j) = v1 (v (ix3 0 r j)) (g (ix2 r j)) := by
  unfold v1; pointwise [k0_pay6, k0_pay4]

theorem p0_d (g : Vec Ideal S256x1408 .bf16) (w m v : Vec Ideal S1x256x1408 .f32) (r : Fin 256) (j : Fin 1408) :
    k0_pay7 g w m v (ix2 r j) = dl (w (ix3 0 r j)) (m1 (m (ix3 0 r j)) (g (ix2 r j))) (v1 (v (ix3 0 r j)) (g (ix2 r j))) := by
  rw [← p0_m, ← p0_v]
  unfold k0_pay7 dl
  generalize k0_pay5 g m = a
  generalize k0_pay6 g v = b
  pointwise

theorem p0_4 (g : Vec Ideal S256x1408 .bf16) (r : Fin 256) (j : Fin 1408) : k0_pay8 g (ix3 0 r j) = g (ix2 r j) := by
  pointwise [k0_pay8, k0_pay4]
theorem p0_5 (x : FVec Ideal S256x1408 .f32) (r : Fin 256) (j : Fin 1408) : k0_pay1 x (ix3 0 r j) = x (ix2 r j) := by
  pointwise [k0_pay1]
theorem p0_6 (x : FVec Ideal S256x1408 .f32) (r : Fin 256) (j : Fin 1408) : k0_pay2 x (ix3 0 r j) = x (ix2 r j) := by
  pointwise [k0_pay2]
theorem p0_7 (x : FVec Ideal S256x1408 .f32) (r : Fin 256) (j : Fin 1408) : k0_pay3 x (ix3 0 r j) = x (ix2 r j) := by
  pointwise [k0_pay3]

theorem idx0 : ∀ t : Fin cfg0.N,
    win0_0.index t (0 : Fin 3) = 3 ∧ win0_0.index t (1 : Fin 3) = t.val ∧ win0_0.index t (2 : Fin 3) = 0
    ∧ win0_1.index t (0 : Fin 2) = t.val ∧ win0_1.index t (1 : Fin 2) = 0
    ∧ win0_2.index t (0 : Fin 3) = 3 ∧ win0_2.index t (1 : Fin 3) = t.val ∧ win0_2.index t (2 : Fin 3) = 0
    ∧ win0_3.index t (0 : Fin 3) = 3 ∧ win0_3.index t (1 : Fin 3) = t.val ∧ win0_3.index t (2 : Fin 3) = 0
    ∧ win0_4.index t (0 : Fin 3) = 3 ∧ win0_4.index t (1 : Fin 3) = t.val ∧ win0_4.index t (2 : Fin 3) = 0 :=
  (by decide +kernel : ∀ t : Fin grid0.N, _)

theorem rd0 (t : Fin cfg0.N) (r : Fin 256) (j : Fin 1408) : iblk0 V c 1 t (ix2 r j) = V c main_arg4 (at2 ((win0_4.blk t).view.emb (ix3 0 r j)))
    ∧ iblk0 V c 0 t (ix3 0 r j) = V c main_arg0 ((win0_4.blk t).view.emb (ix3 0 r j))
    ∧ iblk0 V c 2 t (ix3 0 r j) = V c main_arg5 ((win0_4.blk t).view.emb (ix3 0 r j))
    ∧ iblk0 V c 3 t (ix3 0 r j) = V c main_arg6 ((win0_4.blk t).view.emb (ix3 0 r j)) := by
  have e := idx0 t
  refine ⟨?_, ?_, ?_, ?_⟩
  · blk_ext [iblk0, e, at2]
  all_goals blk_ext [iblk0, e]

theorem arr0_4 : (dat0 V c).arrAt 4 cfg0.N = fun i => if (i 0 : ℕ) / 1 = 3 then aG (V c main_arg4) i else V c main_v0_0 i := by
  refine (dat0 V c).arrAt_eq_of_coversWhere 4 _ (fun β => β (0 : Fin _) = 3) (by decide +kernel) (fun t hf y => ?_) (fun j => Iff.rfl)
  blk_simp; rw [after0_4]; frame_out
  obtain ⟨z, r, j, rfl⟩ : ∃ z r j, y = ix3 z r j := ⟨_, _, _, eq_ix3 y⟩
  obtain rfl : z = 0 := Subsingleton.elim _ _
  obtain ⟨e1, e0, e2, e3⟩ := rd0 V c t r j
  refine (p0_4 _ r j).trans ?_
  rw [e1]
  rfl

theorem arr0_5 : (dat0 V c).arrAt 5 cfg0.N = fun i => if (i 0 : ℕ) / 1 = 3 then aD (V c main_arg4) (V c main_arg0) (V c main_arg5) (V c main_arg6) i else V c main_v0_1 i := by
  refine (dat0 V c).arrAt_eq_of_coversWhere 5 _ (fun β => β (0 : Fin _) = 3) (by decide +kernel) (fun t hf y => ?_) (fun j => Iff.rfl)
  blk_simp; rw [after0_5]; frame_out
  obtain ⟨z, r, j, rfl⟩ : ∃ z r j, y = ix3 z r j := ⟨_, _, _, eq_ix3 y⟩
  obtain rfl : z = 0 := Subsingleton.elim _ _
  obtain ⟨e1, e0, e2, e3⟩ := rd0 V c t r j
  refine ((p0_5 _ r j).trans (p0_d _ _ _ _ r j)).trans ?_
  rw [e1, e0, e2, e3]
  rfl

theorem arr0_6 : (dat0 V c).arrAt 6 cfg0.N = fun i => if (i 0 : ℕ) / 1 = 3 then aM (V c main_arg4) (V c main_arg5) i else V c main_v0_2 i := by
  refine (dat0 V c).arrAt_eq_of_coversWhere 6 _ (fun β => β (0 : Fin _) = 3) (by decide +kernel) (fun t hf y => ?_) (fun j => Iff.rfl)
  blk_simp; rw [after0_6]; frame_out
  obtain ⟨z, r, j, rfl⟩ : ∃ z r j, y = ix3 z r j := ⟨_, _, _, eq_ix3 y⟩
  obtain rfl : z = 0 := Subsingleton.elim _ _
  obtain ⟨e1, e0, e2, e3⟩ := rd0 V c t r j
  refine ((p0_6 _ r j).trans (p0_m _ _ r j)).trans ?_
  rw [e1, e2]
  rfl

theorem arr0_7 : (dat0 V c).arrAt 7 cfg0.N = fun i => if (i 0 : ℕ) / 1 = 3 then aV (V c main_arg4) (V c main_arg6) i else V c main_v0_3 i := by
  refine (dat0 V c).arrAt_eq_of_coversWhere 7 _ (fun β => β (0 : Fin _) = 3) (by decide +kernel) (fun t hf y => ?_) (fun j => Iff.rfl)
  blk_simp; rw [after0_7]; frame_out
  obtain ⟨z, r, j, rfl⟩ : ∃ z r j, y = ix3 z r j := ⟨_, _, _, eq_ix3 y⟩
  obtain rfl : z = 0 := Subsingleton.elim _ _
  obtain ⟨e1, e0, e2, e3⟩ := rd0 V c t r j
  refine ((p0_7 _ r j).trans (p0_v _ _ r j)).trans ?_
  rw [e1, e3]
  rfl

theorem idx1 : ∀ t : Fin cfg1.N,
    win1_0.index t (0 : Fin 3) = 2 ∧ win1_0.index t (1 : Fin 3) = t.val ∧ win1_0.index t (2 : Fin 3) = 0
    ∧ win1_1.index t (0 : Fin 2) = t.val ∧ win1_1.index t (1 : Fin 2) = 0
    ∧ win1_2.index t (0 : Fin 3) = 2 ∧ win1_2.index t (1 : Fin 3) = t.val ∧ win1_2.index t (2 : Fin 3) = 0
    ∧ win1_3.index t (0 : Fin 3) = 2 ∧ win1_3.index t (1 : Fin 3) = t.val ∧ win1_3.index t (2 : Fin 3) = 0
    ∧ win1_4.index t (0 : Fin 3) = 2 ∧ win1_4.index t (1 : Fin 3) = t.val ∧ win1_4.index t (2 : Fin 3) = 0 :=
  (by decide +kernel : ∀ t : Fin grid1.N, _)

theorem rd1 (t : Fin cfg1.N) (r : Fin 256) (j : Fin 1408) : iblk1 V c 1 t (ix2 r j) = V c main_arg3 (at2 ((win1_4.blk t).view.emb (ix3 0 r j)))
    ∧ iblk1 V c 0 t (ix3 0 r j) = V c main_arg0 ((win1_4.blk t).view.emb (ix3 0 r j))
    ∧ iblk1 V c 2 t (ix3 0 r j) = V c main_arg5 ((win1_4.blk t).view.emb (ix3 0 r j))
    ∧ iblk1 V c 3 t (ix3 0 r j) = V c main_arg6 ((win1_4.blk t).view.emb (ix3 0 r j)) := by
  have e := idx1 t
  refine ⟨?_, ?_, ?_, ?_⟩
  · blk_ext [iblk1, e, at2]
  all_goals blk_ext [iblk1, e]

theorem arr1_4 : (dat1 V c).arrAt 4 cfg1.N = fun i => if (i 0 : ℕ) / 1 = 2 then aG (V c main_arg3) i else V c main_v1_0 i := by
  refine (dat1 V c).arrAt_eq_of_coversWhere 4 _ (fun β => β (0 : Fin _) = 2) (by decide +kernel) (fun t hf y => ?_) (fun j => Iff.rfl)
  blk_simp; rw [after1_4]; unfold outsAt1; frame_out
  obtain ⟨z, r, j, rfl⟩ : ∃ z r j, y = ix3 z r j := ⟨_, _, _, eq_ix3 y⟩
  obtain rfl : z = 0 := Subsingleton.elim _ _
  obtain ⟨e1, e0, e2, e3⟩ := rd1 V c t r j
  refine (p0_4 _ r j).trans ?_
  rw [e1]
  rfl

theorem arr1_5 : (dat1 V c).arrAt 5 cfg1.N = fun i => if (i 0 : ℕ) / 1 = 2 then aD (V c main_arg3) (V c main_arg0) (V c main_arg5) (V c main_arg6) i else V c main_v1_1 i := by
  refine (dat1 V c).arrAt_eq_of_coversWhere 5 _ (fun β => β (0 : Fin _) = 2) (by decide +kernel) (fun t hf y => ?_) (fun j => Iff.rfl)
  blk_simp; rw [after1_5]; unfold outsAt1; frame_out
  obtain ⟨z, r, j, rfl⟩ : ∃ z r j, y = ix3 z r j := ⟨_, _, _, eq_ix3 y⟩
  obtain rfl : z = 0 := Subsingleton.elim _ _
  obtain ⟨e1, e0, e2, e3⟩ := rd1 V c t r j
  refine ((p0_5 _ r j).trans (p0_d _ _ _ _ r j)).trans ?_
  rw [e1, e0, e2, e3]
  rfl

theorem arr1_6 : (dat1 V c).arrAt 6 cfg1.N = fun i => if (i 0 : ℕ) / 1 = 2 then aM (V c main_arg3) (V c main_arg5) i else V c main_v1_2 i := by
  refine (dat1 V c).arrAt_eq_of_coversWhere 6 _ (fun β => β (0 : Fin _) = 2) (by decide +kernel) (fun t hf y => ?_) (fun j => Iff.rfl)
  blk_simp; rw [after1_6]; unfold outsAt1; frame_out
  obtain ⟨z, r, j, rfl⟩ : ∃ z r j, y = ix3 z r j := ⟨_, _, _, eq_ix3 y⟩
  obtain rfl : z = 0 := Subsingleton.elim _ _
  obtain ⟨e1, e0, e2, e3⟩ := rd1 V c t r j
  refine ((p0_6 _ r j).trans (p0_m _ _ r j)).trans ?_
  rw [e1, e2]
  rfl

theorem arr1_7 : (dat1 V c).arrAt 7 cfg1.N = fun i => if (i 0 : ℕ) / 1 = 2 then aV (V c main_arg3) (V c main_arg6) i else V c main_v1_3 i := by
  refine (dat1 V c).arrAt_eq_of_coversWhere 7 _ (fun β => β (0 : Fin _) = 2) (by decide +kernel) (fun t hf y => ?_) (fun j => Iff.rfl)
  blk_simp; rw [after1_7]; unfold outsAt1; frame_out
  obtain ⟨z, r, j, rfl⟩ : ∃ z r j, y = ix3 z r j := ⟨_, _, _, eq_ix3 y⟩
  obtain rfl : z = 0 := Subsingleton.elim _ _
  obtain ⟨e1, e0, e2, e3⟩ := rd1 V c t r j
  refine ((p0_7 _ r j).trans (p0_v _ _ r j)).trans ?_
  rw [e1, e3]
  rfl

theorem idx2 : ∀ t : Fin cfg2.N,
    win2_0.index t (0 : Fin 3) = 1 ∧ win2_0.index t (1 : Fin 3) = t.val ∧ win2_0.index t (2 : Fin 3) = 0
    ∧ win2_1.index t (0 : Fin 2) = t.val ∧ win2_1.index t (1 : Fin 2) = 0
    ∧ win2_2.index t (0 : Fin 3) = 1 ∧ win2_2.index t (1 : Fin 3) = t.val ∧ win2_2.index t (2 : Fin 3) = 0
    ∧ win2_3.index t (0 : Fin 3) = 1 ∧ win2_3.index t (1 : Fin 3) = t.val ∧ win2_3.index t (2 : Fin 3) = 0
    ∧ win2_4.index t (0 : Fin 3) = 1 ∧ win2_4.index t (1 : Fin 3) = t.val ∧ win2_4.index t (2 : Fin 3) = 0 :=
  (by decide +kernel : ∀ t : Fin grid2.N, _)

theorem rd2 (t : Fin cfg2.N) (r : Fin 256) (j : Fin 1408) : iblk2 V c 1 t (ix2 r j) = V c main_arg2 (at2 ((win2_4.blk t).view.emb (ix3 0 r j)))
    ∧ iblk2 V c 0 t (ix3 0 r j) = V c main_arg0 ((win2_4.blk t).view.emb (ix3 0 r j))
    ∧ iblk2 V c 2 t (ix3 0 r j) = V c main_arg5 ((win2_4.blk t).view.emb (ix3 0 r j))
    ∧ iblk2 V c 3 t (ix3 0 r j) = V c main_arg6 ((win2_4.blk t).view.emb (ix3 0 r j)) := by
  have e := idx2 t
  refine ⟨?_, ?_, ?_, ?_⟩
  · blk_ext [iblk2, e, at2]
  all_goals blk_ext [iblk2, e]

theorem arr2_4 : (dat2 V c).arrAt 4 cfg2.N = fun i => if (i 0 : ℕ) / 1 = 1 then aG (V c main_arg2) i else V c main_v2_0 i := by
  refine (dat2 V c).arrAt_eq_of_coversWhere 4 _ (fun β => β (0 : Fin _) = 1) (by decide +kernel) (fun t hf y => ?_) (fun j => Iff.rfl)
  blk_simp; rw [after2_4]; unfold outsAt2; frame_out
  obtain ⟨z, r, j, rfl⟩ : ∃ z r j, y = ix3 z r j := ⟨_, _, _, eq_ix3 y⟩
  obtain rfl : z = 0 := Subsingleton.elim _ _
  obtain ⟨e1, e0, e2, e3⟩ := rd2 V c t r j
  refine (p0_4 _ r j).trans ?_
  rw [e1]
  rfl

theorem arr2_5 : (dat2 V c).arrAt 5 cfg2.N = fun i => if (i 0 : ℕ) / 1 = 1 then aD (V c main_arg2) (V c main_arg0) (V c main_arg5) (V c main_arg6) i else V c main_v2_1 i := by
  refine (dat2 V c).arrAt_eq_of_coversWhere 5 _ (fun β => β (0 : Fin _) = 1) (by decide +kernel) (fun t hf y => ?_) (fun j => Iff.rfl)
  blk_simp; rw [after2_5]; unfold outsAt2; frame_out
  obtain ⟨z, r, j, rfl⟩ : ∃ z r j, y = ix3 z r j := ⟨_, _, _, eq_ix3 y⟩
  obtain rfl : z = 0 := Subsingleton.elim _ _
  obtain ⟨e1, e0, e2, e3⟩ := rd2 V c t r j
  refine ((p0_5 _ r j).trans (p0_d _ _ _ _ r j)).trans ?_
  rw [e1, e0, e2, e3]
  rfl

theorem arr2_6 : (dat2 V c).arrAt 6 cfg2.N = fun i => if (i 0 : ℕ) / 1 = 1 then aM (V c main_arg2) (V c main_arg5) i else V c main_v2_2 i := by
  refine (dat2 V c).arrAt_eq_of_coversWhere 6 _ (fun β => β (0 : Fin _) = 1) (by decide +kernel) (fun t hf y => ?_) (fun j => Iff.rfl)
  blk_simp; rw [after2_6]; unfold outsAt2; frame_out
  obtain ⟨z, r, j, rfl⟩ : ∃ z r j, y = ix3 z r j := ⟨_, _, _, eq_ix3 y⟩
  obtain rfl : z = 0 := Subsingleton.elim _ _
  obtain ⟨e1, e0, e2, e3⟩ := rd2 V c t r j
  refine ((p0_6 _ r j).trans (p0_m _ _ r j)).trans ?_
  rw [e1, e2]
  rfl

theorem arr2_7 : (dat2 V c).arrAt 7 cfg2.N = fun i => if (i 0 : ℕ) / 1 = 1 then aV (V c main_arg2) (V c main_arg6) i else V c main_v2_3 i := by
  refine (dat2 V c).arrAt_eq_of_coversWhere 7 _ (fun β => β (0 : Fin _) = 1) (by decide +kernel) (fun t hf y => ?_) (fun j => Iff.rfl)
  blk_simp; rw [after2_7]; unfold outsAt2; frame_out
  obtain ⟨z, r, j, rfl⟩ : ∃ z r j, y = ix3 z r j := ⟨_, _, _, eq_ix3 y⟩
  obtain rfl : z = 0 := Subsingleton.elim _ _
  obtain ⟨e1, e0, e2, e3⟩ := rd2 V c t r j
  refine ((p0_7 _ r j).trans (p0_v _ _ r j)).trans ?_
  rw [e1, e3]
  rfl

theorem idx3 : ∀ t : Fin cfg3.N,
    win3_0.index t (0 : Fin 3) = 0 ∧ win3_0.index t (1 : Fin 3) = t.val ∧ win3_0.index t (2 : Fin 3) = 0
    ∧ win3_1.index t (0 : Fin 2) = t.val ∧ win3_1.index t (1 : Fin 2) = 0
    ∧ win3_2.index t (0 : Fin 3) = 0 ∧ win3_2.index t (1 : Fin 3) = t.val ∧ win3_2.index t (2 : Fin 3) = 0
    ∧ win3_3.index t (0 : Fin 3) = 0 ∧ win3_3.index t (1 : Fin 3) = t.val ∧ win3_3.index t (2 : Fin 3) = 0
    ∧ win3_4.index t (0 : Fin 3) = 0 ∧ win3_4.index t (1 : Fin 3) = t.val ∧ win3_4.index t (2 : Fin 3) = 0 :=
  (by decide +kernel : ∀ t : Fin grid3.N, _)

theorem rd3 (t : Fin cfg3.N) (r : Fin 256) (j : Fin 1408) : iblk3 V c 1 t (ix2 r j) = V c main_arg1 (at2 ((win3_4.blk t).view.emb (ix3 0 r j)))
    ∧ iblk3 V c 0 t (ix3 0 r j) = V c main_arg0 ((win3_4.blk t).view.emb (ix3 0 r j))
    ∧ iblk3 V c 2 t (ix3 0 r j) = V c main_arg5 ((win3_4.blk t).view.emb (ix3 0 r j))
    ∧ iblk3 V c 3 t (ix3 0 r j) = V c main_arg6 ((win3_4.blk t).view.emb (ix3 0 r j)) := by
  have e := idx3 t
  refine ⟨?_, ?_, ?_, ?_⟩
  · blk_ext [iblk3, e, at2]
  all_goals blk_ext [iblk3, e]

theorem arr3_4 : (dat3 V c).arrAt 4 cfg3.N = fun i => if (i 0 : ℕ) / 1 = 0 then aG (V c main_arg1) i else V c main_v3_0 i := by
  refine (dat3 V c).arrAt_eq_of_coversWhere 4 _ (fun β => β (0 : Fin _) = 0) (by decide +kernel) (fun t hf y => ?_) (fun j => Iff.rfl)
  blk_simp; rw [after3_4]; unfold outsAt3; frame_out
  obtain ⟨z, r, j, rfl⟩ : ∃ z r j, y = ix3 z r j := ⟨_, _, _, eq_ix3 y⟩
  obtain rfl : z = 0 := Subsingleton.elim _ _
  obtain ⟨e1, e0, e2, e3⟩ := rd3 V c t r j
  refine (p0_4 _ r j).trans ?_
  rw [e1]
  rfl

theorem arr3_5 : (dat3 V c).arrAt 5 cfg3.N = fun i => if (i 0 : ℕ) / 1 = 0 then aD (V c main_arg1) (V c main_arg0) (V c main_arg5) (V c main_arg6) i else V c main_v3_1 i := by
  refine (dat3 V c).arrAt_eq_of_coversWhere 5 _ (fun β => β (0 : Fin _) = 0) (by decide +kernel) (fun t hf y => ?_) (fun j => Iff.rfl)
  blk_simp; rw [after3_5]; unfold outsAt3; frame_out
  obtain ⟨z, r, j, rfl⟩ : ∃ z r j, y = ix3 z r j := ⟨_, _, _, eq_ix3 y⟩
  obtain rfl : z = 0 := Subsingleton.elim _ _
  obtain ⟨e1, e0, e2, e3⟩ := rd3 V c t r j
  refine ((p0_5 _ r j).trans (p0_d _ _ _ _ r j)).trans ?_
  rw [e1, e0, e2, e3]
  rfl

theorem arr3_6 : (dat3 V c).arrAt 6 cfg3.N = fun i => if (i 0 : ℕ) / 1 = 0 then aM (V c main_arg1) (V c main_arg5) i else V c main_v3_2 i := by
  refine (dat3 V c).arrAt_eq_of_coversWhere 6 _ (fun β => β (0 : Fin _) = 0) (by decide +kernel) (fun t hf y => ?_) (fun j => Iff.rfl)
  blk_simp; rw [after3_6]; unfold outsAt3; frame_out
  obtain ⟨z, r, j, rfl⟩ : ∃ z r j, y = ix3 z r j := ⟨_, _, _, eq_ix3 y⟩
  obtain rfl : z = 0 := Subsingleton.elim _ _
  obtain ⟨e1, e0, e2, e3⟩ := rd3 V c t r j
  refine ((p0_6 _ r j).trans (p0_m _ _ r j)).trans ?_
  rw [e1, e2]
  rfl

theorem arr3_7 : (dat3 V c).arrAt 7 cfg3.N = fun i => if (i 0 : ℕ) / 1 = 0 then aV (V c main_arg1) (V c main_arg6) i else V c main_v3_3 i := by
  refine (dat3 V c).arrAt_eq_of_coversWhere 7 _ (fun β => β (0 : Fin _) = 0) (by decide +kernel) (fun t hf y => ?_) (fun j => Iff.rfl)
  blk_simp; rw [after3_7]; unfold outsAt3; frame_out
  obtain ⟨z, r, j, rfl⟩ : ∃ z r j, y = ix3 z r j := ⟨_, _, _, eq_ix3 y⟩
  obtain rfl : z = 0 := Subsingleton.elim _ _
  obtain ⟨e1, e0, e2, e3⟩ := rd3 V c t r j
  refine ((p0_7 _ r j).trans (p0_v _ _ r j)).trans ?_
  rw [e1, e3]
  rfl

end Cert.Kernel12Ideal.Res

end
-- ==== Proof.Ff.Run12.lean ====
module

public import proofs.«01_k».proof.Proof.Gen.Kernel12Ideal.Frame
public import Idealize.ShloMosaic.Lib.Claim

@[expose] public section

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg)

/- The launch of the program's regions, ending with the results' arrays as the last region leaves them. -/

namespace Cert.Kernel12Ideal.Res

open Cert.Kernel12Ideal Cert.Kernel12Ideal.Gen

variable {F : FTy → Type} [FloatOps F]

/-- The state assertions are over this resource algebra. -/
local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run : θ_run defs (onTc (τ := τ) (main (F := F))) ⟨m, fun _ => 0, ρ⟩ (fun r => (∀ c : Dev nD,
      r.2.mem ((c.tc : Thread nD τ).loc main_v3_0) = W7 m ρ c (Proc.devRef .tc main_v3_0) ∧
      r.2.mem ((c.tc : Thread nD τ).loc main_v3_1) = W7 m ρ c (Proc.devRef .tc main_v3_1) ∧
      r.2.mem ((c.tc : Thread nD τ).loc main_v3_2) = W7 m ρ c (Proc.devRef .tc main_v3_2) ∧
      r.2.mem ((c.tc : Thread nD τ).loc main_v3_3) = W7 m ρ c (Proc.devRef .tc main_v3_3) ∧
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) ∧
      r.2.mem ((c.tc : Thread nD τ).loc main_arg5) = m ((c.tc : Thread nD τ).loc main_arg5) ∧
      r.2.mem ((c.tc : Thread nD τ).loc main_arg6) = m ((c.tc : Thread nD τ).loc main_arg6))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz => ⟨(fun c => ⟨
       h c _ (mem_uc main_v3_0 (by decide)),
       h c _ (mem_uc main_v3_1 (by decide)),
       h c _ (mem_uc main_v3_2 (by decide)),
       h c _ (mem_uc main_v3_3 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c)⟩), funext fun g => hz g (.inr (no_unscoped g.2))⟩)

end Cert.Kernel12Ideal.Res

end
-- ==== Proof.Ff.Res12.lean ====
module

public import proofs.«01_k».proof.Proof.Ff.Arr12
public import proofs.«01_k».proof.Proof.Ff.Run12

@[expose] public section

set_option maxRecDepth 16384

noncomputable section

open Idealize.ShloMosaic Idealize.ShloMosaic.TcCoe Idealize.SL.Sem
open Cert.Ad (m1 v1 dl)

/- The four results after the run: every layer is written by its region and kept by the later ones. -/

namespace Cert.Kernel12Ideal.Res

open Cert.Kernel12Ideal Cert.Kernel12Ideal.Gen

variable (m : (ℓ : Loc nD τ sig) → Buf (Elt Ideal) ℓ) (ρ : Dev nD → PrngReg) (c : Dev nD)

/-- The layers' gradients, stacked. -/
def sel (g0 g1 g2 g3 : FVec Ideal S2048x1408 .bf16) : FVec Ideal S4x2048x1408 .f32 := fun i =>
  if (i 0 : ℕ) / 1 = 0 then g0 (at2 i) else if (i 0 : ℕ) / 1 = 1 then g1 (at2 i) else if (i 0 : ℕ) / 1 = 2 then g2 (at2 i) else g3 (at2 i)

/-- The last region to write an index is the one of its layer. -/
theorem pick {α : Type} (i : S4x2048x1408.Idx) (a b d e x : α) :
    (if (i 0 : ℕ) / 1 = 0 then a else if (i 0 : ℕ) / 1 = 1 then b else if (i 0 : ℕ) / 1 = 2 then d else if (i 0 : ℕ) / 1 = 3 then e else x)
      = if (i 0 : ℕ) / 1 = 0 then a else if (i 0 : ℕ) / 1 = 1 then b else if (i 0 : ℕ) / 1 = 2 then d else e := by
  have h := (i 0).isLt
  change (i 0 : ℕ) < 4 at h
  split_ifs <;> first | rfl | omega

/-- Every region finds the arguments as they are at the launch. -/
theorem ar (a : Ref sig .tc) (h : a ∈ argRefs) : V0 m ρ c a = m ((c : Thread nD τ).loc a) ∧ V2 m ρ c a = m ((c : Thread nD τ).loc a)
    ∧ V4 m ρ c a = m ((c : Thread nD τ).loc a) ∧ V6 m ρ c a = m ((c : Thread nD τ).loc a) :=
  ⟨W0_args m ρ c a h, W2_args m ρ c a h, W4_args m ρ c a h, W6_args m ρ c a h⟩

theorem cp1_0 : V2 m ρ c main_v1_0 = V1 m ρ c main_v0_0 := by
  show StableHlo.after hostOps1 _ (Proc.devRef .tc main_v1_0) = _
  after_results; rfl
theorem cp1_1 : V2 m ρ c main_v1_1 = V1 m ρ c main_v0_1 := by
  show StableHlo.after hostOps1 _ (Proc.devRef .tc main_v1_1) = _
  after_results; rfl
theorem cp1_2 : V2 m ρ c main_v1_2 = V1 m ρ c main_v0_2 := by
  show StableHlo.after hostOps1 _ (Proc.devRef .tc main_v1_2) = _
  after_results; rfl
theorem cp1_3 : V2 m ρ c main_v1_3 = V1 m ρ c main_v0_3 := by
  show StableHlo.after hostOps1 _ (Proc.devRef .tc main_v1_3) = _
  after_results; rfl
theorem cp2_0 : V4 m ρ c main_v2_0 = V3 m ρ c main_v1_0 := by
  show StableHlo.after hostOps2 _ (Proc.devRef .tc main_v2_0) = _
  after_results; rfl
theorem cp2_1 : V4 m ρ c main_v2_1 = V3 m ρ c main_v1_1 := by
  show StableHlo.after hostOps2 _ (Proc.devRef .tc main_v2_1) = _
  after_results; rfl
theorem cp2_2 : V4 m ρ c main_v2_2 = V3 m ρ c main_v1_2 := by
  show StableHlo.after hostOps2 _ (Proc.devRef .tc main_v2_2) = _
  after_results; rfl
theorem cp2_3 : V4 m ρ c main_v2_3 = V3 m ρ c main_v1_3 := by
  show StableHlo.after hostOps2 _ (Proc.devRef .tc main_v2_3) = _
  after_results; rfl
theorem cp3_0 : V6 m ρ c main_v3_0 = V5 m ρ c main_v2_0 := by
  show StableHlo.after hostOps3 _ (Proc.devRef .tc main_v3_0) = _
  after_results; rfl
theorem cp3_1 : V6 m ρ c main_v3_1 = V5 m ρ c main_v2_1 := by
  show StableHlo.after hostOps3 _ (Proc.devRef .tc main_v3_1) = _
  after_results; rfl
theorem cp3_2 : V6 m ρ c main_v3_2 = V5 m ρ c main_v2_2 := by
  show StableHlo.after hostOps3 _ (Proc.devRef .tc main_v3_2) = _
  after_results; rfl
theorem cp3_3 : V6 m ρ c main_v3_3 = V5 m ρ c main_v2_3 := by
  show StableHlo.after hostOps3 _ (Proc.devRef .tc main_v3_3) = _
  after_results; rfl

theorem w7_0 : W7 m ρ c (Proc.devRef .tc main_v3_0) = fun i => sel (m ((c : Thread nD τ).loc main_arg1)) (m ((c : Thread nD τ).loc main_arg2)) (m ((c : Thread nD τ).loc main_arg3)) (m ((c : Thread nD τ).loc main_arg4)) i := by
  refine ((W7_arr m ρ c 4).trans (arr3_4 (V6 m ρ) c)).trans ?_
  funext i
  have c1 := congrFun ((cp1_0 m ρ c).trans ((W1_arr m ρ c 4).trans (arr0_4 (V0 m ρ) c))) i
  have c2 := congrFun ((cp2_0 m ρ c).trans ((W3_arr m ρ c 4).trans (arr1_4 (V2 m ρ) c))) i
  have c3 := congrFun ((cp3_0 m ρ c).trans ((W5_arr m ρ c 4).trans (arr2_4 (V4 m ρ) c))) i
  obtain ⟨a0_4, -, -, -⟩ := ar m ρ c main_arg4 (by decide)
  obtain ⟨-, a1_3, -, -⟩ := ar m ρ c main_arg3 (by decide)
  obtain ⟨-, -, a2_2, -⟩ := ar m ρ c main_arg2 (by decide)
  obtain ⟨-, -, -, a3_1⟩ := ar m ρ c main_arg1 (by decide)
  rw [a3_1]
  rw [c3, a2_2]
  rw [c2, a1_3]
  rw [c1, a0_4]
  refine (pick i _ _ _ _ _).trans ?_
  unfold aG sel
  split_ifs <;> rfl

theorem w7_1 : W7 m ρ c (Proc.devRef .tc main_v3_1) = fun i => dl ((m ((c : Thread nD τ).loc main_arg0)) i) (m1 ((m ((c : Thread nD τ).loc main_arg5)) i) (sel (m ((c : Thread nD τ).loc main_arg1)) (m ((c : Thread nD τ).loc main_arg2)) (m ((c : Thread nD τ).loc main_arg3)) (m ((c : Thread nD τ).loc main_arg4)) i)) (v1 ((m ((c : Thread nD τ).loc main_arg6)) i) (sel (m ((c : Thread nD τ).loc main_arg1)) (m ((c : Thread nD τ).loc main_arg2)) (m ((c : Thread nD τ).loc main_arg3)) (m ((c : Thread nD τ).loc main_arg4)) i)) := by
  refine ((W7_arr m ρ c 5).trans (arr3_5 (V6 m ρ) c)).trans ?_
  funext i
  have c1 := congrFun ((cp1_1 m ρ c).trans ((W1_arr m ρ c 5).trans (arr0_5 (V0 m ρ) c))) i
  have c2 := congrFun ((cp2_1 m ρ c).trans ((W3_arr m ρ c 5).trans (arr1_5 (V2 m ρ) c))) i
  have c3 := congrFun ((cp3_1 m ρ c).trans ((W5_arr m ρ c 5).trans (arr2_5 (V4 m ρ) c))) i
  obtain ⟨a0_4, -, -, -⟩ := ar m ρ c main_arg4 (by decide)
  obtain ⟨-, a1_3, -, -⟩ := ar m ρ c main_arg3 (by decide)
  obtain ⟨-, -, a2_2, -⟩ := ar m ρ c main_arg2 (by decide)
  obtain ⟨-, -, -, a3_1⟩ := ar m ρ c main_arg1 (by decide)
  obtain ⟨a0_0, a1_0, a2_0, a3_0⟩ := ar m ρ c main_arg0 (by decide)
  obtain ⟨a0_5, a1_5, a2_5, a3_5⟩ := ar m ρ c main_arg5 (by decide)
  obtain ⟨a0_6, a1_6, a2_6, a3_6⟩ := ar m ρ c main_arg6 (by decide)
  rw [a3_1, a3_0, a3_5, a3_6]
  rw [c3, a2_2, a2_0, a2_5, a2_6]
  rw [c2, a1_3, a1_0, a1_5, a1_6]
  rw [c1, a0_4, a0_0, a0_5, a0_6]
  refine (pick i _ _ _ _ _).trans ?_
  unfold aD sel
  split_ifs <;> rfl

theorem w7_2 : W7 m ρ c (Proc.devRef .tc main_v3_2) = fun i => m1 ((m ((c : Thread nD τ).loc main_arg5)) i) (sel (m ((c : Thread nD τ).loc main_arg1)) (m ((c : Thread nD τ).loc main_arg2)) (m ((c : Thread nD τ).loc main_arg3)) (m ((c : Thread nD τ).loc main_arg4)) i) := by
  refine ((W7_arr m ρ c 6).trans (arr3_6 (V6 m ρ) c)).trans ?_
  funext i
  have c1 := congrFun ((cp1_2 m ρ c).trans ((W1_arr m ρ c 6).trans (arr0_6 (V0 m ρ) c))) i
  have c2 := congrFun ((cp2_2 m ρ c).trans ((W3_arr m ρ c 6).trans (arr1_6 (V2 m ρ) c))) i
  have c3 := congrFun ((cp3_2 m ρ c).trans ((W5_arr m ρ c 6).trans (arr2_6 (V4 m ρ) c))) i
  obtain ⟨a0_4, -, -, -⟩ := ar m ρ c main_arg4 (by decide)
  obtain ⟨-, a1_3, -, -⟩ := ar m ρ c main_arg3 (by decide)
  obtain ⟨-, -, a2_2, -⟩ := ar m ρ c main_arg2 (by decide)
  obtain ⟨-, -, -, a3_1⟩ := ar m ρ c main_arg1 (by decide)
  obtain ⟨a0_5, a1_5, a2_5, a3_5⟩ := ar m ρ c main_arg5 (by decide)
  rw [a3_1, a3_5]
  rw [c3, a2_2, a2_5]
  rw [c2, a1_3, a1_5]
  rw [c1, a0_4, a0_5]
  refine (pick i _ _ _ _ _).trans ?_
  unfold aM sel
  split_ifs <;> rfl

theorem w7_3 : W7 m ρ c (Proc.devRef .tc main_v3_3) = fun i => v1 ((m ((c : Thread nD τ).loc main_arg6)) i) (sel (m ((c : Thread nD τ).loc main_arg1)) (m ((c : Thread nD τ).loc main_arg2)) (m ((c : Thread nD τ).loc main_arg3)) (m ((c : Thread nD τ).loc main_arg4)) i) := by
  refine ((W7_arr m ρ c 7).trans (arr3_7 (V6 m ρ) c)).trans ?_
  funext i
  have c1 := congrFun ((cp1_3 m ρ c).trans ((W1_arr m ρ c 7).trans (arr0_7 (V0 m ρ) c))) i
  have c2 := congrFun ((cp2_3 m ρ c).trans ((W3_arr m ρ c 7).trans (arr1_7 (V2 m ρ) c))) i
  have c3 := congrFun ((cp3_3 m ρ c).trans ((W5_arr m ρ c 7).trans (arr2_7 (V4 m ρ) c))) i
  obtain ⟨a0_4, -, -, -⟩ := ar m ρ c main_arg4 (by decide)
  obtain ⟨-, a1_3, -, -⟩ := ar m ρ c main_arg3 (by decide)
  obtain ⟨-, -, a2_2, -⟩ := ar m ρ c main_arg2 (by decide)
  obtain ⟨-, -, -, a3_1⟩ := ar m ρ c main_arg1 (by decide)
  obtain ⟨a0_6, a1_6, a2_6, a3_6⟩ := ar m ρ c main_arg6 (by decide)
  rw [a3_1, a3_6]
  rw [c3, a2_2, a2_6]
  rw [c2, a1_3, a1_6]
  rw [c1, a0_4, a0_6]
  refine (pick i _ _ _ _ _).trans ?_
  unfold aV sel
  split_ifs <;> rfl

end Cert.Kernel12Ideal.Res

end
-- ==== Proof.Ff.Alg12.lean ====
module

public import proofs.«01_k».proof.Defs
public import proofs.«01_k».proof.Proof.Ff.Res12
public import proofs.«01_k».proof.Proof.Gen.Reference12Ideal.Run
public import proofs.«01_k».proof.Proof.Gen.Reference12Ideal.Read
public import Idealize.ShloMosaic.Lib.Pointwise
public import Idealize.ShloMosaic.Lib.Claim

@[expose] public section

set_option maxRecDepth 16384

noncomputable section

open Idealize.ShloMosaic Idealize.ShloMosaic.TcCoe Idealize.SL.Sem
open Cert.Ad (m1 v1 dl)

/- A large weight's update over its layers: both programs end with the same four arrays. -/

namespace Cert.Reference12Ideal.Same

open Cert.Reference12Ideal Cert.Reference12Ideal.Read Cert.Kernel12Ideal.Res

variable (x0 : FVec Ideal S4x2048x1408 .f32) (x1 x2 x3 x4 : FVec Ideal S2048x1408 .bf16) (x5 x6 : FVec Ideal S4x2048x1408 .f32)

theorem e4 : val_main_v4 (F := Ideal) x1 x2 x3 x4 = sel x1 x2 x3 x4 := by
  funext i
  unfold val_main_v4 sel
  obtain ⟨l, r, j, rfl⟩ : ∃ l r j, i = ix3 l r j := ⟨_, _, _, eq_ix3 i⟩
  have k0 (z : Fin 1) : val_main_v0 (F := Ideal) x1 (ix3 z r j) = x1 (ix2 r j) := (val_main_v0_apply (F := Ideal) x1 _).trans (congrArg x1 (by idx_ext))
  have k1 (z : Fin 1) : val_main_v1 (F := Ideal) x2 (ix3 z r j) = x2 (ix2 r j) := (val_main_v1_apply (F := Ideal) x2 _).trans (congrArg x2 (by idx_ext))
  have k2 (z : Fin 1) : val_main_v2 (F := Ideal) x3 (ix3 z r j) = x3 (ix2 r j) := (val_main_v2_apply (F := Ideal) x3 _).trans (congrArg x3 (by idx_ext))
  have k3 (z : Fin 1) : val_main_v3 (F := Ideal) x4 (ix3 z r j) = x4 (ix2 r j) := (val_main_v3_apply (F := Ideal) x4 _).trans (congrArg x4 (by idx_ext))
  generalize val_main_v0 (F := Ideal) x1 = y0 at k0 ⊢
  generalize val_main_v1 (F := Ideal) x2 = y1 at k1 ⊢
  generalize val_main_v2 (F := Ideal) x3 = y2 at k2 ⊢
  generalize val_main_v3 (F := Ideal) x4 = y3 at k3 ⊢
  pointwise []
  simp only [k0, k1, k2, k3]
  split_ifs <;> first | rfl | omega

theorem e5 : val_main_v5 (F := Ideal) x1 x2 x3 x4 = fun i => sel x1 x2 x3 x4 i := e4 x1 x2 x3 x4

theorem e29 : val_main_v29 (F := Ideal) x0 x1 x2 x3 x4 x5 x6
    = fun i => dl (x0 i) (m1 (x5 i) (sel x1 x2 x3 x4 i)) (v1 (x6 i) (sel x1 x2 x3 x4 i)) := by
  rw [← e4]
  rfl

theorem e10 : val_main_v10 (F := Ideal) x1 x2 x3 x4 x5 = fun i => m1 (x5 i) (sel x1 x2 x3 x4 i) := by
  rw [← e4]
  rfl

theorem e16 : val_main_v16 (F := Ideal) x1 x2 x3 x4 x6 = fun i => v1 (x6 i) (sel x1 x2 x3 x4 i) := by
  rw [← e4]
  rfl

theorem algebraic : Cert.algebraic_Kernel12Ideal_Reference12Ideal := by
  pair_intro
  · run_from Cert.Kernel12Ideal.Res.run m g
  · run_from Cert.Reference12Ideal.Value.run m' g'
    · obtain ⟨-, h1, h2, h3, h4, -⟩ := hagree c
      refine (val_main_v5_eq (F := Ideal) _ _ _ _).trans ((e5 _ _ _ _).trans ?_)
      rw [h1, h2, h3, h4]
      exact (w7_0 m g c).symm
    · obtain ⟨-, h1, h2, h3, h4, -⟩ := hagree c
      refine (val_main_v29_eq (F := Ideal) _ _ _ _ _ _ _).trans ((e29 _ _ _ _ _ _ _).trans ?_)
      rw [h1, h2, h3, h4]
      exact (w7_1 m g c).symm
    · obtain ⟨-, h1, h2, h3, h4, -⟩ := hagree c
      refine (val_main_v10_eq (F := Ideal) _ _ _ _ _).trans ((e10 _ _ _ _ _).trans ?_)
      rw [h1, h2, h3, h4]
      exact (w7_2 m g c).symm
    · obtain ⟨-, h1, h2, h3, h4, -⟩ := hagree c
      refine (val_main_v16_eq (F := Ideal) _ _ _ _ _).trans ((e16 _ _ _ _ _).trans ?_)
      rw [h1, h2, h3, h4]
      exact (w7_3 m g c).symm

end Cert.Reference12Ideal.Same

end
-- ==== Proof.Ff.Arr13.lean ====
module

public import proofs.«01_k».proof.Proof.Gen.Kernel13Ideal.Frame
public import proofs.«01_k».proof.Proof.Ff.Ad
public import Idealize.ShloMosaic.Lib.Pipeline.ValueKit
public import Idealize.ShloMosaic.Lib.Pipeline.ValueKit.Partial
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.Ad (m1 v1 dl)

/- Each region writes one layer of the four output arrays and leaves the rest. -/

namespace Cert.Kernel13Ideal.Res

open Cert.Kernel13Ideal Cert.Kernel13Ideal.Gen

variable (V : (c : Dev nD) → (b : Ref sig .tc) → Buf (Elt Ideal) ((c : Thread nD τ).loc b)) (c : Dev nD)

/-- The layer's place of an index. -/
def at2 (i : S4x1408x2048.Idx) : S1408x2048.Idx := ix2 ⟨(i 1).val, (i 1).isLt⟩ ⟨(i 2).val, (i 2).isLt⟩
def aG (g : FVec Ideal S1408x2048 .bf16) : FVec Ideal S4x1408x2048 .f32 := fun i => g (at2 i)
def aM (g : FVec Ideal S1408x2048 .bf16) (m : FVec Ideal S4x1408x2048 .f32) : FVec Ideal S4x1408x2048 .f32 := fun i => m1 (m i) (g (at2 i))
def aV (g : FVec Ideal S1408x2048 .bf16) (v : FVec Ideal S4x1408x2048 .f32) : FVec Ideal S4x1408x2048 .f32 := fun i => v1 (v i) (g (at2 i))
def aD (g : FVec Ideal S1408x2048 .bf16) (w m v : FVec Ideal S4x1408x2048 .f32) : FVec Ideal S4x1408x2048 .f32 :=
  fun i => dl (w i) (m1 (m i) (g (at2 i))) (v1 (v i) (g (at2 i)))

theorem p0_m (g : Vec Ideal S176x2048 .bf16) (m : Vec Ideal S1x176x2048 .f32) (r : Fin 176) (j : Fin 2048) :
    k0_pay5 g m (ix2 r j) = m1 (m (ix3 0 r j)) (g (ix2 r j)) := by
  unfold m1; pointwise [k0_pay5, k0_pay4]

theorem p0_v (g : Vec Ideal S176x2048 .bf16) (v : Vec Ideal S1x176x2048 .f32) (r : Fin 176) (j : Fin 2048) :
    k0_pay6 g v (ix2 r j) = v1 (v (ix3 0 r j)) (g (ix2 r j)) := by
  unfold v1; pointwise [k0_pay6, k0_pay4]

theorem p0_d (g : Vec Ideal S176x2048 .bf16) (w m v : Vec Ideal S1x176x2048 .f32) (r : Fin 176) (j : Fin 2048) :
    k0_pay7 g w m v (ix2 r j) = dl (w (ix3 0 r j)) (m1 (m (ix3 0 r j)) (g (ix2 r j))) (v1 (v (ix3 0 r j)) (g (ix2 r j))) := by
  rw [← p0_m, ← p0_v]
  unfold k0_pay7 dl
  generalize k0_pay5 g m = a
  generalize k0_pay6 g v = b
  pointwise

theorem p0_4 (g : Vec Ideal S176x2048 .bf16) (r : Fin 176) (j : Fin 2048) : k0_pay8 g (ix3 0 r j) = g (ix2 r j) := by
  pointwise [k0_pay8, k0_pay4]
theorem p0_5 (x : FVec Ideal S176x2048 .f32) (r : Fin 176) (j : Fin 2048) : k0_pay1 x (ix3 0 r j) = x (ix2 r j) := by
  pointwise [k0_pay1]
theorem p0_6 (x : FVec Ideal S176x2048 .f32) (r : Fin 176) (j : Fin 2048) : k0_pay2 x (ix3 0 r j) = x (ix2 r j) := by
  pointwise [k0_pay2]
theorem p0_7 (x : FVec Ideal S176x2048 .f32) (r : Fin 176) (j : Fin 2048) : k0_pay3 x (ix3 0 r j) = x (ix2 r j) := by
  pointwise [k0_pay3]

theorem idx0 : ∀ t : Fin cfg0.N,
    win0_0.index t (0 : Fin 3) = 3 ∧ win0_0.index t (1 : Fin 3) = t.val ∧ win0_0.index t (2 : Fin 3) = 0
    ∧ win0_1.index t (0 : Fin 2) = t.val ∧ win0_1.index t (1 : Fin 2) = 0
    ∧ win0_2.index t (0 : Fin 3) = 3 ∧ win0_2.index t (1 : Fin 3) = t.val ∧ win0_2.index t (2 : Fin 3) = 0
    ∧ win0_3.index t (0 : Fin 3) = 3 ∧ win0_3.index t (1 : Fin 3) = t.val ∧ win0_3.index t (2 : Fin 3) = 0
    ∧ win0_4.index t (0 : Fin 3) = 3 ∧ win0_4.index t (1 : Fin 3) = t.val ∧ win0_4.index t (2 : Fin 3) = 0 :=
  (by decide +kernel : ∀ t : Fin grid0.N, _)

theorem rd0 (t : Fin cfg0.N) (r : Fin 176) (j : Fin 2048) : iblk0 V c 1 t (ix2 r j) = V c main_arg4 (at2 ((win0_4.blk t).view.emb (ix3 0 r j)))
    ∧ iblk0 V c 0 t (ix3 0 r j) = V c main_arg0 ((win0_4.blk t).view.emb (ix3 0 r j))
    ∧ iblk0 V c 2 t (ix3 0 r j) = V c main_arg5 ((win0_4.blk t).view.emb (ix3 0 r j))
    ∧ iblk0 V c 3 t (ix3 0 r j) = V c main_arg6 ((win0_4.blk t).view.emb (ix3 0 r j)) := by
  have e := idx0 t
  refine ⟨?_, ?_, ?_, ?_⟩
  · blk_ext [iblk0, e, at2]
  all_goals blk_ext [iblk0, e]

theorem arr0_4 : (dat0 V c).arrAt 4 cfg0.N = fun i => if (i 0 : ℕ) / 1 = 3 then aG (V c main_arg4) i else V c main_v0_0 i := by
  refine (dat0 V c).arrAt_eq_of_coversWhere 4 _ (fun β => β (0 : Fin _) = 3) (by decide +kernel) (fun t hf y => ?_) (fun j => Iff.rfl)
  blk_simp; rw [after0_4]; frame_out
  obtain ⟨z, r, j, rfl⟩ : ∃ z r j, y = ix3 z r j := ⟨_, _, _, eq_ix3 y⟩
  obtain rfl : z = 0 := Subsingleton.elim _ _
  obtain ⟨e1, e0, e2, e3⟩ := rd0 V c t r j
  refine (p0_4 _ r j).trans ?_
  rw [e1]
  rfl

theorem arr0_5 : (dat0 V c).arrAt 5 cfg0.N = fun i => if (i 0 : ℕ) / 1 = 3 then aD (V c main_arg4) (V c main_arg0) (V c main_arg5) (V c main_arg6) i else V c main_v0_1 i := by
  refine (dat0 V c).arrAt_eq_of_coversWhere 5 _ (fun β => β (0 : Fin _) = 3) (by decide +kernel) (fun t hf y => ?_) (fun j => Iff.rfl)
  blk_simp; rw [after0_5]; frame_out
  obtain ⟨z, r, j, rfl⟩ : ∃ z r j, y = ix3 z r j := ⟨_, _, _, eq_ix3 y⟩
  obtain rfl : z = 0 := Subsingleton.elim _ _
  obtain ⟨e1, e0, e2, e3⟩ := rd0 V c t r j
  refine ((p0_5 _ r j).trans (p0_d _ _ _ _ r j)).trans ?_
  rw [e1, e0, e2, e3]
  rfl

theorem arr0_6 : (dat0 V c).arrAt 6 cfg0.N = fun i => if (i 0 : ℕ) / 1 = 3 then aM (V c main_arg4) (V c main_arg5) i else V c main_v0_2 i := by
  refine (dat0 V c).arrAt_eq_of_coversWhere 6 _ (fun β => β (0 : Fin _) = 3) (by decide +kernel) (fun t hf y => ?_) (fun j => Iff.rfl)
  blk_simp; rw [after0_6]; frame_out
  obtain ⟨z, r, j, rfl⟩ : ∃ z r j, y = ix3 z r j := ⟨_, _, _, eq_ix3 y⟩
  obtain rfl : z = 0 := Subsingleton.elim _ _
  obtain ⟨e1, e0, e2, e3⟩ := rd0 V c t r j
  refine ((p0_6 _ r j).trans (p0_m _ _ r j)).trans ?_
  rw [e1, e2]
  rfl

theorem arr0_7 : (dat0 V c).arrAt 7 cfg0.N = fun i => if (i 0 : ℕ) / 1 = 3 then aV (V c main_arg4) (V c main_arg6) i else V c main_v0_3 i := by
  refine (dat0 V c).arrAt_eq_of_coversWhere 7 _ (fun β => β (0 : Fin _) = 3) (by decide +kernel) (fun t hf y => ?_) (fun j => Iff.rfl)
  blk_simp; rw [after0_7]; frame_out
  obtain ⟨z, r, j, rfl⟩ : ∃ z r j, y = ix3 z r j := ⟨_, _, _, eq_ix3 y⟩
  obtain rfl : z = 0 := Subsingleton.elim _ _
  obtain ⟨e1, e0, e2, e3⟩ := rd0 V c t r j
  refine ((p0_7 _ r j).trans (p0_v _ _ r j)).trans ?_
  rw [e1, e3]
  rfl

theorem idx1 : ∀ t : Fin cfg1.N,
    win1_0.index t (0 : Fin 3) = 2 ∧ win1_0.index t (1 : Fin 3) = t.val ∧ win1_0.index t (2 : Fin 3) = 0
    ∧ win1_1.index t (0 : Fin 2) = t.val ∧ win1_1.index t (1 : Fin 2) = 0
    ∧ win1_2.index t (0 : Fin 3) = 2 ∧ win1_2.index t (1 : Fin 3) = t.val ∧ win1_2.index t (2 : Fin 3) = 0
    ∧ win1_3.index t (0 : Fin 3) = 2 ∧ win1_3.index t (1 : Fin 3) = t.val ∧ win1_3.index t (2 : Fin 3) = 0
    ∧ win1_4.index t (0 : Fin 3) = 2 ∧ win1_4.index t (1 : Fin 3) = t.val ∧ win1_4.index t (2 : Fin 3) = 0 :=
  (by decide +kernel : ∀ t : Fin grid1.N, _)

theorem rd1 (t : Fin cfg1.N) (r : Fin 176) (j : Fin 2048) : iblk1 V c 1 t (ix2 r j) = V c main_arg3 (at2 ((win1_4.blk t).view.emb (ix3 0 r j)))
    ∧ iblk1 V c 0 t (ix3 0 r j) = V c main_arg0 ((win1_4.blk t).view.emb (ix3 0 r j))
    ∧ iblk1 V c 2 t (ix3 0 r j) = V c main_arg5 ((win1_4.blk t).view.emb (ix3 0 r j))
    ∧ iblk1 V c 3 t (ix3 0 r j) = V c main_arg6 ((win1_4.blk t).view.emb (ix3 0 r j)) := by
  have e := idx1 t
  refine ⟨?_, ?_, ?_, ?_⟩
  · blk_ext [iblk1, e, at2]
  all_goals blk_ext [iblk1, e]

theorem arr1_4 : (dat1 V c).arrAt 4 cfg1.N = fun i => if (i 0 : ℕ) / 1 = 2 then aG (V c main_arg3) i else V c main_v1_0 i := by
  refine (dat1 V c).arrAt_eq_of_coversWhere 4 _ (fun β => β (0 : Fin _) = 2) (by decide +kernel) (fun t hf y => ?_) (fun j => Iff.rfl)
  blk_simp; rw [after1_4]; unfold outsAt1; frame_out
  obtain ⟨z, r, j, rfl⟩ : ∃ z r j, y = ix3 z r j := ⟨_, _, _, eq_ix3 y⟩
  obtain rfl : z = 0 := Subsingleton.elim _ _
  obtain ⟨e1, e0, e2, e3⟩ := rd1 V c t r j
  refine (p0_4 _ r j).trans ?_
  rw [e1]
  rfl

theorem arr1_5 : (dat1 V c).arrAt 5 cfg1.N = fun i => if (i 0 : ℕ) / 1 = 2 then aD (V c main_arg3) (V c main_arg0) (V c main_arg5) (V c main_arg6) i else V c main_v1_1 i := by
  refine (dat1 V c).arrAt_eq_of_coversWhere 5 _ (fun β => β (0 : Fin _) = 2) (by decide +kernel) (fun t hf y => ?_) (fun j => Iff.rfl)
  blk_simp; rw [after1_5]; unfold outsAt1; frame_out
  obtain ⟨z, r, j, rfl⟩ : ∃ z r j, y = ix3 z r j := ⟨_, _, _, eq_ix3 y⟩
  obtain rfl : z = 0 := Subsingleton.elim _ _
  obtain ⟨e1, e0, e2, e3⟩ := rd1 V c t r j
  refine ((p0_5 _ r j).trans (p0_d _ _ _ _ r j)).trans ?_
  rw [e1, e0, e2, e3]
  rfl

theorem arr1_6 : (dat1 V c).arrAt 6 cfg1.N = fun i => if (i 0 : ℕ) / 1 = 2 then aM (V c main_arg3) (V c main_arg5) i else V c main_v1_2 i := by
  refine (dat1 V c).arrAt_eq_of_coversWhere 6 _ (fun β => β (0 : Fin _) = 2) (by decide +kernel) (fun t hf y => ?_) (fun j => Iff.rfl)
  blk_simp; rw [after1_6]; unfold outsAt1; frame_out
  obtain ⟨z, r, j, rfl⟩ : ∃ z r j, y = ix3 z r j := ⟨_, _, _, eq_ix3 y⟩
  obtain rfl : z = 0 := Subsingleton.elim _ _
  obtain ⟨e1, e0, e2, e3⟩ := rd1 V c t r j
  refine ((p0_6 _ r j).trans (p0_m _ _ r j)).trans ?_
  rw [e1, e2]
  rfl

theorem arr1_7 : (dat1 V c).arrAt 7 cfg1.N = fun i => if (i 0 : ℕ) / 1 = 2 then aV (V c main_arg3) (V c main_arg6) i else V c main_v1_3 i := by
  refine (dat1 V c).arrAt_eq_of_coversWhere 7 _ (fun β => β (0 : Fin _) = 2) (by decide +kernel) (fun t hf y => ?_) (fun j => Iff.rfl)
  blk_simp; rw [after1_7]; unfold outsAt1; frame_out
  obtain ⟨z, r, j, rfl⟩ : ∃ z r j, y = ix3 z r j := ⟨_, _, _, eq_ix3 y⟩
  obtain rfl : z = 0 := Subsingleton.elim _ _
  obtain ⟨e1, e0, e2, e3⟩ := rd1 V c t r j
  refine ((p0_7 _ r j).trans (p0_v _ _ r j)).trans ?_
  rw [e1, e3]
  rfl

theorem idx2 : ∀ t : Fin cfg2.N,
    win2_0.index t (0 : Fin 3) = 1 ∧ win2_0.index t (1 : Fin 3) = t.val ∧ win2_0.index t (2 : Fin 3) = 0
    ∧ win2_1.index t (0 : Fin 2) = t.val ∧ win2_1.index t (1 : Fin 2) = 0
    ∧ win2_2.index t (0 : Fin 3) = 1 ∧ win2_2.index t (1 : Fin 3) = t.val ∧ win2_2.index t (2 : Fin 3) = 0
    ∧ win2_3.index t (0 : Fin 3) = 1 ∧ win2_3.index t (1 : Fin 3) = t.val ∧ win2_3.index t (2 : Fin 3) = 0
    ∧ win2_4.index t (0 : Fin 3) = 1 ∧ win2_4.index t (1 : Fin 3) = t.val ∧ win2_4.index t (2 : Fin 3) = 0 :=
  (by decide +kernel : ∀ t : Fin grid2.N, _)

theorem rd2 (t : Fin cfg2.N) (r : Fin 176) (j : Fin 2048) : iblk2 V c 1 t (ix2 r j) = V c main_arg2 (at2 ((win2_4.blk t).view.emb (ix3 0 r j)))
    ∧ iblk2 V c 0 t (ix3 0 r j) = V c main_arg0 ((win2_4.blk t).view.emb (ix3 0 r j))
    ∧ iblk2 V c 2 t (ix3 0 r j) = V c main_arg5 ((win2_4.blk t).view.emb (ix3 0 r j))
    ∧ iblk2 V c 3 t (ix3 0 r j) = V c main_arg6 ((win2_4.blk t).view.emb (ix3 0 r j)) := by
  have e := idx2 t
  refine ⟨?_, ?_, ?_, ?_⟩
  · blk_ext [iblk2, e, at2]
  all_goals blk_ext [iblk2, e]

theorem arr2_4 : (dat2 V c).arrAt 4 cfg2.N = fun i => if (i 0 : ℕ) / 1 = 1 then aG (V c main_arg2) i else V c main_v2_0 i := by
  refine (dat2 V c).arrAt_eq_of_coversWhere 4 _ (fun β => β (0 : Fin _) = 1) (by decide +kernel) (fun t hf y => ?_) (fun j => Iff.rfl)
  blk_simp; rw [after2_4]; unfold outsAt2; frame_out
  obtain ⟨z, r, j, rfl⟩ : ∃ z r j, y = ix3 z r j := ⟨_, _, _, eq_ix3 y⟩
  obtain rfl : z = 0 := Subsingleton.elim _ _
  obtain ⟨e1, e0, e2, e3⟩ := rd2 V c t r j
  refine (p0_4 _ r j).trans ?_
  rw [e1]
  rfl

theorem arr2_5 : (dat2 V c).arrAt 5 cfg2.N = fun i => if (i 0 : ℕ) / 1 = 1 then aD (V c main_arg2) (V c main_arg0) (V c main_arg5) (V c main_arg6) i else V c main_v2_1 i := by
  refine (dat2 V c).arrAt_eq_of_coversWhere 5 _ (fun β => β (0 : Fin _) = 1) (by decide +kernel) (fun t hf y => ?_) (fun j => Iff.rfl)
  blk_simp; rw [after2_5]; unfold outsAt2; frame_out
  obtain ⟨z, r, j, rfl⟩ : ∃ z r j, y = ix3 z r j := ⟨_, _, _, eq_ix3 y⟩
  obtain rfl : z = 0 := Subsingleton.elim _ _
  obtain ⟨e1, e0, e2, e3⟩ := rd2 V c t r j
  refine ((p0_5 _ r j).trans (p0_d _ _ _ _ r j)).trans ?_
  rw [e1, e0, e2, e3]
  rfl

theorem arr2_6 : (dat2 V c).arrAt 6 cfg2.N = fun i => if (i 0 : ℕ) / 1 = 1 then aM (V c main_arg2) (V c main_arg5) i else V c main_v2_2 i := by
  refine (dat2 V c).arrAt_eq_of_coversWhere 6 _ (fun β => β (0 : Fin _) = 1) (by decide +kernel) (fun t hf y => ?_) (fun j => Iff.rfl)
  blk_simp; rw [after2_6]; unfold outsAt2; frame_out
  obtain ⟨z, r, j, rfl⟩ : ∃ z r j, y = ix3 z r j := ⟨_, _, _, eq_ix3 y⟩
  obtain rfl : z = 0 := Subsingleton.elim _ _
  obtain ⟨e1, e0, e2, e3⟩ := rd2 V c t r j
  refine ((p0_6 _ r j).trans (p0_m _ _ r j)).trans ?_
  rw [e1, e2]
  rfl

theorem arr2_7 : (dat2 V c).arrAt 7 cfg2.N = fun i => if (i 0 : ℕ) / 1 = 1 then aV (V c main_arg2) (V c main_arg6) i else V c main_v2_3 i := by
  refine (dat2 V c).arrAt_eq_of_coversWhere 7 _ (fun β => β (0 : Fin _) = 1) (by decide +kernel) (fun t hf y => ?_) (fun j => Iff.rfl)
  blk_simp; rw [after2_7]; unfold outsAt2; frame_out
  obtain ⟨z, r, j, rfl⟩ : ∃ z r j, y = ix3 z r j := ⟨_, _, _, eq_ix3 y⟩
  obtain rfl : z = 0 := Subsingleton.elim _ _
  obtain ⟨e1, e0, e2, e3⟩ := rd2 V c t r j
  refine ((p0_7 _ r j).trans (p0_v _ _ r j)).trans ?_
  rw [e1, e3]
  rfl

theorem idx3 : ∀ t : Fin cfg3.N,
    win3_0.index t (0 : Fin 3) = 0 ∧ win3_0.index t (1 : Fin 3) = t.val ∧ win3_0.index t (2 : Fin 3) = 0
    ∧ win3_1.index t (0 : Fin 2) = t.val ∧ win3_1.index t (1 : Fin 2) = 0
    ∧ win3_2.index t (0 : Fin 3) = 0 ∧ win3_2.index t (1 : Fin 3) = t.val ∧ win3_2.index t (2 : Fin 3) = 0
    ∧ win3_3.index t (0 : Fin 3) = 0 ∧ win3_3.index t (1 : Fin 3) = t.val ∧ win3_3.index t (2 : Fin 3) = 0
    ∧ win3_4.index t (0 : Fin 3) = 0 ∧ win3_4.index t (1 : Fin 3) = t.val ∧ win3_4.index t (2 : Fin 3) = 0 :=
  (by decide +kernel : ∀ t : Fin grid3.N, _)

theorem rd3 (t : Fin cfg3.N) (r : Fin 176) (j : Fin 2048) : iblk3 V c 1 t (ix2 r j) = V c main_arg1 (at2 ((win3_4.blk t).view.emb (ix3 0 r j)))
    ∧ iblk3 V c 0 t (ix3 0 r j) = V c main_arg0 ((win3_4.blk t).view.emb (ix3 0 r j))
    ∧ iblk3 V c 2 t (ix3 0 r j) = V c main_arg5 ((win3_4.blk t).view.emb (ix3 0 r j))
    ∧ iblk3 V c 3 t (ix3 0 r j) = V c main_arg6 ((win3_4.blk t).view.emb (ix3 0 r j)) := by
  have e := idx3 t
  refine ⟨?_, ?_, ?_, ?_⟩
  · blk_ext [iblk3, e, at2]
  all_goals blk_ext [iblk3, e]

theorem arr3_4 : (dat3 V c).arrAt 4 cfg3.N = fun i => if (i 0 : ℕ) / 1 = 0 then aG (V c main_arg1) i else V c main_v3_0 i := by
  refine (dat3 V c).arrAt_eq_of_coversWhere 4 _ (fun β => β (0 : Fin _) = 0) (by decide +kernel) (fun t hf y => ?_) (fun j => Iff.rfl)
  blk_simp; rw [after3_4]; unfold outsAt3; frame_out
  obtain ⟨z, r, j, rfl⟩ : ∃ z r j, y = ix3 z r j := ⟨_, _, _, eq_ix3 y⟩
  obtain rfl : z = 0 := Subsingleton.elim _ _
  obtain ⟨e1, e0, e2, e3⟩ := rd3 V c t r j
  refine (p0_4 _ r j).trans ?_
  rw [e1]
  rfl

theorem arr3_5 : (dat3 V c).arrAt 5 cfg3.N = fun i => if (i 0 : ℕ) / 1 = 0 then aD (V c main_arg1) (V c main_arg0) (V c main_arg5) (V c main_arg6) i else V c main_v3_1 i := by
  refine (dat3 V c).arrAt_eq_of_coversWhere 5 _ (fun β => β (0 : Fin _) = 0) (by decide +kernel) (fun t hf y => ?_) (fun j => Iff.rfl)
  blk_simp; rw [after3_5]; unfold outsAt3; frame_out
  obtain ⟨z, r, j, rfl⟩ : ∃ z r j, y = ix3 z r j := ⟨_, _, _, eq_ix3 y⟩
  obtain rfl : z = 0 := Subsingleton.elim _ _
  obtain ⟨e1, e0, e2, e3⟩ := rd3 V c t r j
  refine ((p0_5 _ r j).trans (p0_d _ _ _ _ r j)).trans ?_
  rw [e1, e0, e2, e3]
  rfl

theorem arr3_6 : (dat3 V c).arrAt 6 cfg3.N = fun i => if (i 0 : ℕ) / 1 = 0 then aM (V c main_arg1) (V c main_arg5) i else V c main_v3_2 i := by
  refine (dat3 V c).arrAt_eq_of_coversWhere 6 _ (fun β => β (0 : Fin _) = 0) (by decide +kernel) (fun t hf y => ?_) (fun j => Iff.rfl)
  blk_simp; rw [after3_6]; unfold outsAt3; frame_out
  obtain ⟨z, r, j, rfl⟩ : ∃ z r j, y = ix3 z r j := ⟨_, _, _, eq_ix3 y⟩
  obtain rfl : z = 0 := Subsingleton.elim _ _
  obtain ⟨e1, e0, e2, e3⟩ := rd3 V c t r j
  refine ((p0_6 _ r j).trans (p0_m _ _ r j)).trans ?_
  rw [e1, e2]
  rfl

theorem arr3_7 : (dat3 V c).arrAt 7 cfg3.N = fun i => if (i 0 : ℕ) / 1 = 0 then aV (V c main_arg1) (V c main_arg6) i else V c main_v3_3 i := by
  refine (dat3 V c).arrAt_eq_of_coversWhere 7 _ (fun β => β (0 : Fin _) = 0) (by decide +kernel) (fun t hf y => ?_) (fun j => Iff.rfl)
  blk_simp; rw [after3_7]; unfold outsAt3; frame_out
  obtain ⟨z, r, j, rfl⟩ : ∃ z r j, y = ix3 z r j := ⟨_, _, _, eq_ix3 y⟩
  obtain rfl : z = 0 := Subsingleton.elim _ _
  obtain ⟨e1, e0, e2, e3⟩ := rd3 V c t r j
  refine ((p0_7 _ r j).trans (p0_v _ _ r j)).trans ?_
  rw [e1, e3]
  rfl

end Cert.Kernel13Ideal.Res

end
-- ==== Proof.Ff.Run13.lean ====
module

public import proofs.«01_k».proof.Proof.Gen.Kernel13Ideal.Frame
public import Idealize.ShloMosaic.Lib.Claim

@[expose] public section

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg)

/- The launch of the program's regions, ending with the results' arrays as the last region leaves them. -/

namespace Cert.Kernel13Ideal.Res

open Cert.Kernel13Ideal Cert.Kernel13Ideal.Gen

variable {F : FTy → Type} [FloatOps F]

/-- The state assertions are over this resource algebra. -/
local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run : θ_run defs (onTc (τ := τ) (main (F := F))) ⟨m, fun _ => 0, ρ⟩ (fun r => (∀ c : Dev nD,
      r.2.mem ((c.tc : Thread nD τ).loc main_v3_0) = W7 m ρ c (Proc.devRef .tc main_v3_0) ∧
      r.2.mem ((c.tc : Thread nD τ).loc main_v3_1) = W7 m ρ c (Proc.devRef .tc main_v3_1) ∧
      r.2.mem ((c.tc : Thread nD τ).loc main_v3_2) = W7 m ρ c (Proc.devRef .tc main_v3_2) ∧
      r.2.mem ((c.tc : Thread nD τ).loc main_v3_3) = W7 m ρ c (Proc.devRef .tc main_v3_3) ∧
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) ∧
      r.2.mem ((c.tc : Thread nD τ).loc main_arg5) = m ((c.tc : Thread nD τ).loc main_arg5) ∧
      r.2.mem ((c.tc : Thread nD τ).loc main_arg6) = m ((c.tc : Thread nD τ).loc main_arg6))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz => ⟨(fun c => ⟨
       h c _ (mem_uc main_v3_0 (by decide)),
       h c _ (mem_uc main_v3_1 (by decide)),
       h c _ (mem_uc main_v3_2 (by decide)),
       h c _ (mem_uc main_v3_3 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c)⟩), funext fun g => hz g (.inr (no_unscoped g.2))⟩)

end Cert.Kernel13Ideal.Res

end
-- ==== Proof.Ff.Res13.lean ====
module

public import proofs.«01_k».proof.Proof.Ff.Arr13
public import proofs.«01_k».proof.Proof.Ff.Run13

@[expose] public section

set_option maxRecDepth 16384

noncomputable section

open Idealize.ShloMosaic Idealize.ShloMosaic.TcCoe Idealize.SL.Sem
open Cert.Ad (m1 v1 dl)

/- The four results after the run: every layer is written by its region and kept by the later ones. -/

namespace Cert.Kernel13Ideal.Res

open Cert.Kernel13Ideal Cert.Kernel13Ideal.Gen

variable (m : (ℓ : Loc nD τ sig) → Buf (Elt Ideal) ℓ) (ρ : Dev nD → PrngReg) (c : Dev nD)

/-- The layers' gradients, stacked. -/
def sel (g0 g1 g2 g3 : FVec Ideal S1408x2048 .bf16) : FVec Ideal S4x1408x2048 .f32 := fun i =>
  if (i 0 : ℕ) / 1 = 0 then g0 (at2 i) else if (i 0 : ℕ) / 1 = 1 then g1 (at2 i) else if (i 0 : ℕ) / 1 = 2 then g2 (at2 i) else g3 (at2 i)

/-- The last region to write an index is the one of its layer. -/
theorem pick {α : Type} (i : S4x1408x2048.Idx) (a b d e x : α) :
    (if (i 0 : ℕ) / 1 = 0 then a else if (i 0 : ℕ) / 1 = 1 then b else if (i 0 : ℕ) / 1 = 2 then d else if (i 0 : ℕ) / 1 = 3 then e else x)
      = if (i 0 : ℕ) / 1 = 0 then a else if (i 0 : ℕ) / 1 = 1 then b else if (i 0 : ℕ) / 1 = 2 then d else e := by
  have h := (i 0).isLt
  change (i 0 : ℕ) < 4 at h
  split_ifs <;> first | rfl | omega

/-- Every region finds the arguments as they are at the launch. -/
theorem ar (a : Ref sig .tc) (h : a ∈ argRefs) : V0 m ρ c a = m ((c : Thread nD τ).loc a) ∧ V2 m ρ c a = m ((c : Thread nD τ).loc a)
    ∧ V4 m ρ c a = m ((c : Thread nD τ).loc a) ∧ V6 m ρ c a = m ((c : Thread nD τ).loc a) :=
  ⟨W0_args m ρ c a h, W2_args m ρ c a h, W4_args m ρ c a h, W6_args m ρ c a h⟩

theorem cp1_0 : V2 m ρ c main_v1_0 = V1 m ρ c main_v0_0 := by
  show StableHlo.after hostOps1 _ (Proc.devRef .tc main_v1_0) = _
  after_results; rfl
theorem cp1_1 : V2 m ρ c main_v1_1 = V1 m ρ c main_v0_1 := by
  show StableHlo.after hostOps1 _ (Proc.devRef .tc main_v1_1) = _
  after_results; rfl
theorem cp1_2 : V2 m ρ c main_v1_2 = V1 m ρ c main_v0_2 := by
  show StableHlo.after hostOps1 _ (Proc.devRef .tc main_v1_2) = _
  after_results; rfl
theorem cp1_3 : V2 m ρ c main_v1_3 = V1 m ρ c main_v0_3 := by
  show StableHlo.after hostOps1 _ (Proc.devRef .tc main_v1_3) = _
  after_results; rfl
theorem cp2_0 : V4 m ρ c main_v2_0 = V3 m ρ c main_v1_0 := by
  show StableHlo.after hostOps2 _ (Proc.devRef .tc main_v2_0) = _
  after_results; rfl
theorem cp2_1 : V4 m ρ c main_v2_1 = V3 m ρ c main_v1_1 := by
  show StableHlo.after hostOps2 _ (Proc.devRef .tc main_v2_1) = _
  after_results; rfl
theorem cp2_2 : V4 m ρ c main_v2_2 = V3 m ρ c main_v1_2 := by
  show StableHlo.after hostOps2 _ (Proc.devRef .tc main_v2_2) = _
  after_results; rfl
theorem cp2_3 : V4 m ρ c main_v2_3 = V3 m ρ c main_v1_3 := by
  show StableHlo.after hostOps2 _ (Proc.devRef .tc main_v2_3) = _
  after_results; rfl
theorem cp3_0 : V6 m ρ c main_v3_0 = V5 m ρ c main_v2_0 := by
  show StableHlo.after hostOps3 _ (Proc.devRef .tc main_v3_0) = _
  after_results; rfl
theorem cp3_1 : V6 m ρ c main_v3_1 = V5 m ρ c main_v2_1 := by
  show StableHlo.after hostOps3 _ (Proc.devRef .tc main_v3_1) = _
  after_results; rfl
theorem cp3_2 : V6 m ρ c main_v3_2 = V5 m ρ c main_v2_2 := by
  show StableHlo.after hostOps3 _ (Proc.devRef .tc main_v3_2) = _
  after_results; rfl
theorem cp3_3 : V6 m ρ c main_v3_3 = V5 m ρ c main_v2_3 := by
  show StableHlo.after hostOps3 _ (Proc.devRef .tc main_v3_3) = _
  after_results; rfl

theorem w7_0 : W7 m ρ c (Proc.devRef .tc main_v3_0) = fun i => sel (m ((c : Thread nD τ).loc main_arg1)) (m ((c : Thread nD τ).loc main_arg2)) (m ((c : Thread nD τ).loc main_arg3)) (m ((c : Thread nD τ).loc main_arg4)) i := by
  refine ((W7_arr m ρ c 4).trans (arr3_4 (V6 m ρ) c)).trans ?_
  funext i
  have c1 := congrFun ((cp1_0 m ρ c).trans ((W1_arr m ρ c 4).trans (arr0_4 (V0 m ρ) c))) i
  have c2 := congrFun ((cp2_0 m ρ c).trans ((W3_arr m ρ c 4).trans (arr1_4 (V2 m ρ) c))) i
  have c3 := congrFun ((cp3_0 m ρ c).trans ((W5_arr m ρ c 4).trans (arr2_4 (V4 m ρ) c))) i
  obtain ⟨a0_4, -, -, -⟩ := ar m ρ c main_arg4 (by decide)
  obtain ⟨-, a1_3, -, -⟩ := ar m ρ c main_arg3 (by decide)
  obtain ⟨-, -, a2_2, -⟩ := ar m ρ c main_arg2 (by decide)
  obtain ⟨-, -, -, a3_1⟩ := ar m ρ c main_arg1 (by decide)
  rw [a3_1]
  rw [c3, a2_2]
  rw [c2, a1_3]
  rw [c1, a0_4]
  refine (pick i _ _ _ _ _).trans ?_
  unfold aG sel
  split_ifs <;> rfl

theorem w7_1 : W7 m ρ c (Proc.devRef .tc main_v3_1) = fun i => dl ((m ((c : Thread nD τ).loc main_arg0)) i) (m1 ((m ((c : Thread nD τ).loc main_arg5)) i) (sel (m ((c : Thread nD τ).loc main_arg1)) (m ((c : Thread nD τ).loc main_arg2)) (m ((c : Thread nD τ).loc main_arg3)) (m ((c : Thread nD τ).loc main_arg4)) i)) (v1 ((m ((c : Thread nD τ).loc main_arg6)) i) (sel (m ((c : Thread nD τ).loc main_arg1)) (m ((c : Thread nD τ).loc main_arg2)) (m ((c : Thread nD τ).loc main_arg3)) (m ((c : Thread nD τ).loc main_arg4)) i)) := by
  refine ((W7_arr m ρ c 5).trans (arr3_5 (V6 m ρ) c)).trans ?_
  funext i
  have c1 := congrFun ((cp1_1 m ρ c).trans ((W1_arr m ρ c 5).trans (arr0_5 (V0 m ρ) c))) i
  have c2 := congrFun ((cp2_1 m ρ c).trans ((W3_arr m ρ c 5).trans (arr1_5 (V2 m ρ) c))) i
  have c3 := congrFun ((cp3_1 m ρ c).trans ((W5_arr m ρ c 5).trans (arr2_5 (V4 m ρ) c))) i
  obtain ⟨a0_4, -, -, -⟩ := ar m ρ c main_arg4 (by decide)
  obtain ⟨-, a1_3, -, -⟩ := ar m ρ c main_arg3 (by decide)
  obtain ⟨-, -, a2_2, -⟩ := ar m ρ c main_arg2 (by decide)
  obtain ⟨-, -, -, a3_1⟩ := ar m ρ c main_arg1 (by decide)
  obtain ⟨a0_0, a1_0, a2_0, a3_0⟩ := ar m ρ c main_arg0 (by decide)
  obtain ⟨a0_5, a1_5, a2_5, a3_5⟩ := ar m ρ c main_arg5 (by decide)
  obtain ⟨a0_6, a1_6, a2_6, a3_6⟩ := ar m ρ c main_arg6 (by decide)
  rw [a3_1, a3_0, a3_5, a3_6]
  rw [c3, a2_2, a2_0, a2_5, a2_6]
  rw [c2, a1_3, a1_0, a1_5, a1_6]
  rw [c1, a0_4, a0_0, a0_5, a0_6]
  refine (pick i _ _ _ _ _).trans ?_
  unfold aD sel
  split_ifs <;> rfl

theorem w7_2 : W7 m ρ c (Proc.devRef .tc main_v3_2) = fun i => m1 ((m ((c : Thread nD τ).loc main_arg5)) i) (sel (m ((c : Thread nD τ).loc main_arg1)) (m ((c : Thread nD τ).loc main_arg2)) (m ((c : Thread nD τ).loc main_arg3)) (m ((c : Thread nD τ).loc main_arg4)) i) := by
  refine ((W7_arr m ρ c 6).trans (arr3_6 (V6 m ρ) c)).trans ?_
  funext i
  have c1 := congrFun ((cp1_2 m ρ c).trans ((W1_arr m ρ c 6).trans (arr0_6 (V0 m ρ) c))) i
  have c2 := congrFun ((cp2_2 m ρ c).trans ((W3_arr m ρ c 6).trans (arr1_6 (V2 m ρ) c))) i
  have c3 := congrFun ((cp3_2 m ρ c).trans ((W5_arr m ρ c 6).trans (arr2_6 (V4 m ρ) c))) i
  obtain ⟨a0_4, -, -, -⟩ := ar m ρ c main_arg4 (by decide)
  obtain ⟨-, a1_3, -, -⟩ := ar m ρ c main_arg3 (by decide)
  obtain ⟨-, -, a2_2, -⟩ := ar m ρ c main_arg2 (by decide)
  obtain ⟨-, -, -, a3_1⟩ := ar m ρ c main_arg1 (by decide)
  obtain ⟨a0_5, a1_5, a2_5, a3_5⟩ := ar m ρ c main_arg5 (by decide)
  rw [a3_1, a3_5]
  rw [c3, a2_2, a2_5]
  rw [c2, a1_3, a1_5]
  rw [c1, a0_4, a0_5]
  refine (pick i _ _ _ _ _).trans ?_
  unfold aM sel
  split_ifs <;> rfl

theorem w7_3 : W7 m ρ c (Proc.devRef .tc main_v3_3) = fun i => v1 ((m ((c : Thread nD τ).loc main_arg6)) i) (sel (m ((c : Thread nD τ).loc main_arg1)) (m ((c : Thread nD τ).loc main_arg2)) (m ((c : Thread nD τ).loc main_arg3)) (m ((c : Thread nD τ).loc main_arg4)) i) := by
  refine ((W7_arr m ρ c 7).trans (arr3_7 (V6 m ρ) c)).trans ?_
  funext i
  have c1 := congrFun ((cp1_3 m ρ c).trans ((W1_arr m ρ c 7).trans (arr0_7 (V0 m ρ) c))) i
  have c2 := congrFun ((cp2_3 m ρ c).trans ((W3_arr m ρ c 7).trans (arr1_7 (V2 m ρ) c))) i
  have c3 := congrFun ((cp3_3 m ρ c).trans ((W5_arr m ρ c 7).trans (arr2_7 (V4 m ρ) c))) i
  obtain ⟨a0_4, -, -, -⟩ := ar m ρ c main_arg4 (by decide)
  obtain ⟨-, a1_3, -, -⟩ := ar m ρ c main_arg3 (by decide)
  obtain ⟨-, -, a2_2, -⟩ := ar m ρ c main_arg2 (by decide)
  obtain ⟨-, -, -, a3_1⟩ := ar m ρ c main_arg1 (by decide)
  obtain ⟨a0_6, a1_6, a2_6, a3_6⟩ := ar m ρ c main_arg6 (by decide)
  rw [a3_1, a3_6]
  rw [c3, a2_2, a2_6]
  rw [c2, a1_3, a1_6]
  rw [c1, a0_4, a0_6]
  refine (pick i _ _ _ _ _).trans ?_
  unfold aV sel
  split_ifs <;> rfl

end Cert.Kernel13Ideal.Res

end
-- ==== Proof.Ff.Alg13.lean ====
module

public import proofs.«01_k».proof.Defs
public import proofs.«01_k».proof.Proof.Ff.Res13
public import proofs.«01_k».proof.Proof.Gen.Reference13Ideal.Run
public import proofs.«01_k».proof.Proof.Gen.Reference13Ideal.Read
public import Idealize.ShloMosaic.Lib.Pointwise
public import Idealize.ShloMosaic.Lib.Claim

@[expose] public section

set_option maxRecDepth 16384

noncomputable section

open Idealize.ShloMosaic Idealize.ShloMosaic.TcCoe Idealize.SL.Sem
open Cert.Ad (m1 v1 dl)

/- A large weight's update over its layers: both programs end with the same four arrays. -/

namespace Cert.Reference13Ideal.Same

open Cert.Reference13Ideal Cert.Reference13Ideal.Read Cert.Kernel13Ideal.Res

variable (x0 : FVec Ideal S4x1408x2048 .f32) (x1 x2 x3 x4 : FVec Ideal S1408x2048 .bf16) (x5 x6 : FVec Ideal S4x1408x2048 .f32)

theorem e4 : val_main_v4 (F := Ideal) x1 x2 x3 x4 = sel x1 x2 x3 x4 := by
  funext i
  unfold val_main_v4 sel
  obtain ⟨l, r, j, rfl⟩ : ∃ l r j, i = ix3 l r j := ⟨_, _, _, eq_ix3 i⟩
  have k0 (z : Fin 1) : val_main_v0 (F := Ideal) x1 (ix3 z r j) = x1 (ix2 r j) := (val_main_v0_apply (F := Ideal) x1 _).trans (congrArg x1 (by idx_ext))
  have k1 (z : Fin 1) : val_main_v1 (F := Ideal) x2 (ix3 z r j) = x2 (ix2 r j) := (val_main_v1_apply (F := Ideal) x2 _).trans (congrArg x2 (by idx_ext))
  have k2 (z : Fin 1) : val_main_v2 (F := Ideal) x3 (ix3 z r j) = x3 (ix2 r j) := (val_main_v2_apply (F := Ideal) x3 _).trans (congrArg x3 (by idx_ext))
  have k3 (z : Fin 1) : val_main_v3 (F := Ideal) x4 (ix3 z r j) = x4 (ix2 r j) := (val_main_v3_apply (F := Ideal) x4 _).trans (congrArg x4 (by idx_ext))
  generalize val_main_v0 (F := Ideal) x1 = y0 at k0 ⊢
  generalize val_main_v1 (F := Ideal) x2 = y1 at k1 ⊢
  generalize val_main_v2 (F := Ideal) x3 = y2 at k2 ⊢
  generalize val_main_v3 (F := Ideal) x4 = y3 at k3 ⊢
  pointwise []
  simp only [k0, k1, k2, k3]
  split_ifs <;> first | rfl | omega

theorem e5 : val_main_v5 (F := Ideal) x1 x2 x3 x4 = fun i => sel x1 x2 x3 x4 i := e4 x1 x2 x3 x4

theorem e29 : val_main_v29 (F := Ideal) x0 x1 x2 x3 x4 x5 x6
    = fun i => dl (x0 i) (m1 (x5 i) (sel x1 x2 x3 x4 i)) (v1 (x6 i) (sel x1 x2 x3 x4 i)) := by
  rw [← e4]
  rfl

theorem e10 : val_main_v10 (F := Ideal) x1 x2 x3 x4 x5 = fun i => m1 (x5 i) (sel x1 x2 x3 x4 i) := by
  rw [← e4]
  rfl

theorem e16 : val_main_v16 (F := Ideal) x1 x2 x3 x4 x6 = fun i => v1 (x6 i) (sel x1 x2 x3 x4 i) := by
  rw [← e4]
  rfl

theorem algebraic : Cert.algebraic_Kernel13Ideal_Reference13Ideal := by
  pair_intro
  · run_from Cert.Kernel13Ideal.Res.run m g
  · run_from Cert.Reference13Ideal.Value.run m' g'
    · obtain ⟨-, h1, h2, h3, h4, -⟩ := hagree c
      refine (val_main_v5_eq (F := Ideal) _ _ _ _).trans ((e5 _ _ _ _).trans ?_)
      rw [h1, h2, h3, h4]
      exact (w7_0 m g c).symm
    · obtain ⟨-, h1, h2, h3, h4, -⟩ := hagree c
      refine (val_main_v29_eq (F := Ideal) _ _ _ _ _ _ _).trans ((e29 _ _ _ _ _ _ _).trans ?_)
      rw [h1, h2, h3, h4]
      exact (w7_1 m g c).symm
    · obtain ⟨-, h1, h2, h3, h4, -⟩ := hagree c
      refine (val_main_v10_eq (F := Ideal) _ _ _ _ _).trans ((e10 _ _ _ _ _).trans ?_)
      rw [h1, h2, h3, h4]
      exact (w7_2 m g c).symm
    · obtain ⟨-, h1, h2, h3, h4, -⟩ := hagree c
      refine (val_main_v16_eq (F := Ideal) _ _ _ _ _).trans ((e16 _ _ _ _ _).trans ?_)
      rw [h1, h2, h3, h4]
      exact (w7_3 m g c).symm

end Cert.Reference13Ideal.Same

end
-- ==== Proof.Ff.Arr14.lean ====
module

public import proofs.«01_k».proof.Proof.Ff.Rms
public import proofs.«01_k».proof.Proof.Gen.Kernel14Ideal.Value
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

/- The gradient of the norm after the attention: what the points leave in the two output arrays. -/

namespace Cert.Kernel14Ideal.Res

open Cert.Kernel14Ideal Cert.Kernel14Ideal.Gen Cert.Rms

variable (m : (ℓ : Loc nD τ sig) → Buf (Elt Ideal) ℓ) (c : Dev nD)

/-! ## The arrays -/

abbrev row (x : FVec Ideal S4096x1024 .bf16) (r : Fin 4096) : Fin 1024 → EReal := fun k => x (ix2 r k)
abbrev at0 (d : FVec Ideal S4096x2048 .bf16) (r : Fin 4096) (k : Fin 1024) : EReal := d (ix2 r ⟨k.val, by omega⟩)
abbrev drow (d : FVec Ideal S4096x2048 .bf16) (g : FVec Ideal S1024 .f32) (r : Fin 4096) : Fin 1024 → EReal :=
  fun k => at0 d r k * g (ix1 k)

def daA (d : FVec Ideal S4096x2048 .bf16) (x : FVec Ideal S4096x1024 .bf16) (g : FVec Ideal S1024 .f32) :
    FVec Ideal S1x4096x1024 .bf16 := fun i =>
  (gr (row x ⟨(i 1).val, (i 1).isLt⟩) (drow d g ⟨(i 1).val, (i 1).isLt⟩) ⟨(i 2).val, (i 2).isLt⟩ : EReal)

def dgA (d : FVec Ideal S4096x2048 .bf16) (x : FVec Ideal S4096x1024 .bf16) : FVec Ideal S1x1024 .f32 := fun i =>
  (∑ r : Fin 4096, at0 d r ⟨(i 1).val, (i 1).isLt⟩ * (x (ix2 r ⟨(i 1).val, (i 1).isLt⟩) * rn (row x r)) : EReal)

/-! ## One block -/

abbrev brow (x : Vec Ideal S256x1024 .bf16) (r : Fin 256) : Fin 1024 → EReal := fun k => x (ix2 r k)
abbrev bdrow (d : Vec Ideal S256x1024 .bf16) (g : Vec Ideal S1x1024 .f32) (r : Fin 256) : Fin 1024 → EReal :=
  fun k => d (ix2 r k) * g (ix2 0 k)

def bdg (x d : Vec Ideal S256x1024 .bf16) : FVec Ideal S1x1024 .f32 := fun y =>
  (∑ r : Fin 256, d (ix2 r ⟨(y 1).val, (y 1).isLt⟩) * (x (ix2 r ⟨(y 1).val, (y 1).isLt⟩) * rn (brow x r)) : EReal)

theorem pay9 (x d : Vec Ideal S256x1024 .bf16) (g : Vec Ideal S1x1024 .f32) (r : Fin 256) (j : Fin 1024) :
    k0_pay9 x d g (ix2 r j) = gr (brow x r) (bdrow d g r) j := by
  unfold gr rn ms mean
  pointwise [k0_pay9, k0_pay7, k0_pay6, k0_pay5, k0_pay4]
  rfl

theorem pay10 (v : FVec Ideal S256x1024 .bf16) (z : Fin 1) (r : Fin 256) (j : Fin 1024) :
    k0_pay10 v (ix3 z r j) = v (ix2 r j) := by
  pointwise [k0_pay10]

theorem pay3 (y : S1x1024.Idx) : k0_pay3 (F := Ideal) y = (0 : EReal) := by
  idx_vars y
  pointwise [k0_pay3]

theorem pay8 (x d : Vec Ideal S256x1024 .bf16) (v : Vec Ideal S1x1024 .f32) (y : S1x1024.Idx) :
    k0_pay8 x d v y = (v y + bdg x d y : EReal) := by
  idx_vars y
  unfold bdg rn ms mean
  pointwise [k0_pay8, k0_pay7, k0_pay6, k0_pay5, k0_pay4]
  rfl

/-! ## The points -/

theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_3.index t (0 : Fin 2) = 0 ∧ win0_3.index t (1 : Fin 2) = 0
    ∧ win0_6.index t (0 : Fin 3) = 0 ∧ win0_6.index t (1 : Fin 3) = t.val ∧ win0_6.index t (2 : Fin 3) = 0
    ∧ win0_13.index t (0 : Fin 2) = 0 ∧ win0_13.index t (1 : Fin 2) = 0 :=
  (by decide +kernel : ∀ t : Fin grid0.N, _)

theorem t_lt (t : Fin cfg0.N) : t.val < 16 := lt_of_lt_of_eq t.isLt (by decide)

theorem b0 (t : Fin cfg0.N) (r : Fin 256) (j : Fin 1024) :
    iblk m c 0 t (ix2 r j) = at0 (m ((c : Thread nD τ).loc main_arg0)) ⟨256 * t.val + r.val, by have := t_lt t; omega⟩ j := by
  blk_ext [iblk, V, idx0 t]
theorem b1 (t : Fin cfg0.N) (r : Fin 256) (j : Fin 1024) :
    iblk m c 1 t (ix2 r j) = m ((c : Thread nD τ).loc main_arg1) (ix2 ⟨256 * t.val + r.val, by have := t_lt t; omega⟩ j) := by
  blk_ext [iblk, V, idx0 t]
theorem b3 (t : Fin cfg0.N) (j : Fin 1024) :
    iblk m c 3 t (ix2 0 j) = m ((c : Thread nD τ).loc main_arg3) (ix1 j) := by
  have e : iblk m c 3 t (ix2 0 j) = V m c main_v0 (ix2 0 j) := by blk_ext [iblk, idx0 t]
  rw [e]; entry_read; pointwise

theorem out6 (t : Fin cfg0.N) (z : Fin 1) (r : Fin 256) (j : Fin 1024) :
    (outsAt0 m c t.val t.isLt).1 (ix3 z r j) = gr (brow (iblk m c 1 t) r) (bdrow (iblk m c 0 t) (iblk m c 3 t) r) j := by
  by_cases h : t.val % 16 = 0
  · rw [outsAt0_A m c t h]
    frame_out
    exact (pay10 _ z r j).trans (pay9 _ _ _ r j)
  · rw [outsAt0_B m c t h]
    frame_out
    exact (pay10 _ z r j).trans (pay9 _ _ _ r j)

theorem start (t : Fin cfg0.N) (h : t.val % 16 = 0) (y : S1x1024.Idx) :
    (outsAt0 m c t.val t.isLt).2.2.2.2.2.2.2 y = ((fun _ => 0 : S1x1024.Idx → EReal) y + bdg (iblk m c 1 t) (iblk m c 0 t) y : EReal) := by
  rw [outsAt0_A m c t h]
  frame_out
  rw [pay8, pay3]

theorem step (t : Fin cfg0.N) (h : ¬t.val % 16 = 0) (y : S1x1024.Idx) :
    (outsAt0 m c t.val t.isLt).2.2.2.2.2.2.2 y = ((outsAt0 m c (t.val - 1) (Nat.lt_of_le_of_lt (Nat.sub_le _ _) t.isLt)).2.2.2.2.2.2.2 y
      + bdg (iblk m c 1 t) (iblk m c 0 t) y : EReal) := by
  rw [outsAt0_B m c t h]
  frame_out
  rw [pay8]

/-! ## The arrays after the run -/

theorem arr6 : (dats m 0 c).arrAt 6 cfg0.N = daA (m ((c : Thread nD τ).loc main_arg0)) (m ((c : Thread nD τ).loc main_arg1))
    (m ((c : Thread nD τ).loc main_arg3)) := by
  refine (dats m 0 c).arrAt_eq_of_covers 6 _ (by decide +kernel) fun t hf y => ?_
  have e := idx0
  blk_simp; rw [after0_6]
  obtain ⟨z, r, j, rfl⟩ : ∃ z r j, y = ix3 z r j := ⟨_, _, _, eq_ix3 y⟩
  rw [out6 m c t]
  have ex : brow (iblk m c 1 t) r = row (m ((c : Thread nD τ).loc main_arg1)) ⟨256 * t.val + r.val, by have := t_lt t; omega⟩ :=
    funext fun k => b1 m c t r k
  have ed : bdrow (iblk m c 0 t) (iblk m c 3 t) r = drow (m ((c : Thread nD τ).loc main_arg0)) (m ((c : Thread nD τ).loc main_arg3))
      ⟨256 * t.val + r.val, by have := t_lt t; omega⟩ :=
    funext fun k => congrArg₂ (fun p q : EReal => p * q) (b0 m c t r k) (b3 m c t k)
  rw [ex, ed]
  show daA (m ((c : Thread nD τ).loc main_arg0)) (m ((c : Thread nD τ).loc main_arg1)) (m ((c : Thread nD τ).loc main_arg3))
    (ix3 z ⟨256 * t.val + r.val, by have := t_lt t; omega⟩ j) = _
  blk_ext [e]

theorem arr13 : (dats m 0 c).arrAt 13 cfg0.N = dgA (m ((c : Thread nD τ).loc main_arg0)) (m ((c : Thread nD τ).loc main_arg1)) := by
  refine (dats m 0 c).arrAt_eq_of_covers 13 _ (by decide +kernel) fun t hf y => ?_
  have hm : t.val % 16 = 15 := (flush0_13 t).mp hf
  have e := idx0
  have ht := t_lt t
  blk_simp; rw [after0_13]
  rw [Pipeline.eq_sum_fin_of_reset_step_apply_of_flush (M := EReal) (fun n h => (outsAt0 m c n h).2.2.2.2.2.2.2) 16 (fun _ => 0)
    (fun t => bdg (iblk m c 1 t) (iblk m c 0 t)) (start m c) (step m c) t hm y]
  obtain ⟨r, j, rfl⟩ : ∃ r j, y = ix2 r j := ⟨_, _, eq_ix2 y⟩
  refine (zero_add (M := EReal) _).trans ?_
  unfold bdg dgA
  refine Fin.sum_mul_add_congr (M := EReal) fun s k hl => ?_
  have e' := idx0 ⟨16 * (t.val / 16) + s.val, Pipeline.run_point_lt_of_flush t hm s⟩
  refine congrArg₂ (fun p q : EReal => p * q) ?_ (congrArg₂ (fun p q : EReal => p * q) ?_ (congrArg rn (funext fun l => ?_)))
  · blk_ext [iblk, V, e, e']
  · blk_ext [iblk, V, e, e']
  · show iblk m c 1 ⟨16 * (t.val / 16) + s.val, Pipeline.run_point_lt_of_flush t hm s⟩ (ix2 k l)
      = m ((c : Thread nD τ).loc main_arg1) (ix2 ⟨s.val * 256 + k.val, hl⟩ l)
    blk_ext [iblk, V, e, e']

end Cert.Kernel14Ideal.Res

end
-- ==== Proof.Ff.Alg14.lean ====
module

public import proofs.«01_k».proof.Defs
public import proofs.«01_k».proof.Proof.Ff.Arr14
public import proofs.«01_k».proof.Proof.Gen.Reference14Ideal.Run
public import proofs.«01_k».proof.Proof.Gen.Reference14Ideal.Read
public import Idealize.ShloMosaic.Lib.Pointwise
public import Idealize.ShloMosaic.Lib.Claim

@[expose] public section

set_option maxRecDepth 16384

noncomputable section

open Idealize.ShloMosaic Idealize.ShloMosaic.TcCoe Idealize.SL.Sem

/- The gradient of the norm after the attention: both programs end with the same arrays. -/

namespace Cert.Reference14Ideal.Same

open Cert.Reference14Ideal Cert.Reference14Ideal.Read Cert.Kernel14Ideal.Res Cert.Rms

section
variable (d : FVec Ideal S4096x2048 .bf16) (x : FVec Ideal S4096x1024 .bf16) (g : FVec Ideal S1024 .f32)

theorem from_zero {a b : EReal} (h : a = b) : Ideal.ofBits .f32 0x00000000#32 + a = b := by
  rw [Cert.Gm.w_zero, zero_add, h]

theorem e7 (r : Fin 4096) : val_main_v7 (F := Ideal) x (ix2 r 0) = ms (row x r) := by
  rw [val_main_v7_apply, val_main_v5_apply, val_main_v3_apply, val_main_v2_apply]
  unfold ms mean
  refine congrArg₂ (fun p q : EReal => p + q) (congrArg₂ (fun p q : EReal => Ideal.div p q) ?_ ?_) ?_
  · refine from_zero (Finset.sum_congr (M := EReal) rfl fun k _ => ?_)
    rw [val_main_v1_apply, val_main_v0_apply]
    refine congrArg (fun p => (x p * x p : EReal)) ?_
    idx_ext
  · rw [val_main_v4_apply]; rfl
  · rw [val_main_v6_apply]; rfl

theorem e8 (r : Fin 4096) : val_main_v8 (F := Ideal) x (ix2 r 0) = rn (row x r) :=
  congrArg Ideal.rsqrt (e7 x r)

theorem e13 (r : Fin 4096) (j : Fin 1024) : val_main_v13 (F := Ideal) x (ix2 r j) = (x (ix2 r j) * rn (row x r) : EReal) := by
  rw [val_main_v13_apply, val_main_v12_apply]
  refine congrArg (fun p : EReal => (x (ix2 r j) * p : EReal)) (Eq.trans (congrArg _ ?_) (e8 x r))
  idx_ext

theorem e18 (r : Fin 4096) (j : Fin 1024) : val_main_v18 (F := Ideal) d (ix2 r j) = at0 d r j := by
  rw [val_main_v18_apply, val_main_v17_apply]
  refine congrArg d ?_
  idx_ext

theorem e23 (r : Fin 4096) (j : Fin 1024) : val_main_v23 (F := Ideal) d g (ix2 r j) = drow d g r j := by
  rw [val_main_v23_apply, val_main_v22_apply, val_main_v14_apply, e18]
  refine congrArg₂ (fun p q : EReal => p * q) rfl (congrArg g ?_)
  idx_ext

theorem e26 (r : Fin 4096) : val_main_v26 (F := Ideal) d x g (ix1 r) = (∑ k, row x r k * drow d g r k : EReal) := by
  rw [val_main_v26_apply]
  refine from_zero (Finset.sum_congr (M := EReal) rfl fun k _ => ?_)
  have h : idx_main_v26 (ix1 r) k = ix2 r k := by idx_ext
  rw [h, val_main_v25_apply, e23]
  rfl

theorem e33 (r : Fin 4096) : val_main_v33 (F := Ideal) d x g (ix1 r) = fa (row x r) (drow d g r) := by
  rw [val_main_v33_apply]
  refine from_zero ?_
  rw [Fin.sum_univ_one]
  have h : idx_main_v33 (ix1 r) 0 = ix2 r 0 := by idx_ext
  have h' : idx_main_v27 (ix2 r 0) = ix1 r := by idx_ext
  rw [h, val_main_v32_apply, val_main_v31_apply, val_main_v30_apply, val_main_v27_apply, val_main_v11_apply, val_main_v10_apply,
    val_main_v9_apply, e7, e8, h', e26]
  rfl

theorem e40 : val_main_v40 (F := Ideal) d x g = daA d x g := by
  funext i
  obtain ⟨z, r, j, rfl⟩ : ∃ z r j, i = ix3 z r j := ⟨_, _, _, eq_ix3 i⟩
  have h40 : idx_main_v40 (ix3 z r j) = ix2 r j := by idx_ext
  have h28 : idx_main_v28 (ix2 r j) = ix2 r 0 := by idx_ext
  have h34 : idx_main_v34 (ix2 r j) = ix1 r := by idx_ext
  rw [val_main_v40_apply, h40, val_main_v39_apply, val_main_v38_apply, val_main_v37_apply, val_main_v36_apply, val_main_v35_apply,
    val_main_v34_apply, val_main_v29_apply, val_main_v28_apply, h28, h34, e8, e33, e23]
  have h := gr_eq (row x r) (drow d g r) 0 j
  rw [zero_add, zero_add] at h
  exact h

theorem e41 : val_main_v41 (F := Ideal) d x = dgA d x := by
  funext i
  obtain ⟨z, j, rfl⟩ : ∃ r j, i = ix2 r j := ⟨_, _, eq_ix2 i⟩
  have h41 : idx_main_v41 (ix2 z j) = ix1 j := by idx_ext
  have h24 : idx_main_v24 (ix1 j) 0 = ix2 0 j := by idx_ext
  have h21 : idx_main_v21 (ix2 0 j) = ix1 j := by idx_ext
  rw [val_main_v41_apply, h41, val_main_v24_apply]
  refine from_zero ?_
  rw [Fin.sum_univ_one, h24, val_main_v21_apply, h21, val_main_v20_apply]
  refine from_zero (Finset.sum_congr (M := EReal) rfl fun k _ => ?_)
  have h20 : idx_main_v20 (ix1 j) k = ix2 k j := by idx_ext
  rw [h20, val_main_v19_apply, e13, e18]
  exact mul_comm (G := EReal) _ _

end

theorem algebraic : Cert.algebraic_Kernel14Ideal_Reference14Ideal := by
  pair_intro
  · run_from Cert.Kernel14Ideal.Value.run_blocks m g
  · run_from Cert.Reference14Ideal.Value.run m' g'
    · refine (val_main_v40_eq (F := Ideal) m' c).trans ((e40 _ _ _).trans (Eq.trans ?_ (arr6 m c).symm))
      obtain ⟨h0, h1, -, h3, -⟩ := hagree c
      rw [h0, h1, h3]
    · exact (val_main_v41_eq (F := Ideal) _ _).trans ((e41 _ _).trans (arr13 m c).symm)

end Cert.Reference14Ideal.Same

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Kernel2
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal.Run
public import proofs.«01_k».proof.Proof.Gen.Reference2Ideal.Read
public import proofs.«01_k».proof.Proof.Gen.Kernel3
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Reference6Ideal.Read
public import proofs.«01_k».proof.Proof.Gen.ReferenceIdeal.Read
public import proofs.«01_k».proof.Proof.Gen.Kernel7
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gm.Fin
public import proofs.«01_k».proof.Proof.Gm.Alg
public import proofs.«01_k».proof.Proof.Ff.Alg2
public import proofs.«01_k».proof.Proof.Ff.Frames
public import proofs.«01_k».proof.Proof.Ff.Alg3
public import proofs.«01_k».proof.Proof.Ff.Alg4
public import proofs.«01_k».proof.Proof.Ff.Alg5
public import proofs.«01_k».proof.Proof.Ff.Alg6
public import proofs.«01_k».proof.Proof.Gen.Kernel10
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Ff.Alg7
public import proofs.«01_k».proof.Proof.Ff.Alg8
public import proofs.«01_k».proof.Proof.Ff.Alg9
public import proofs.«01_k».proof.Proof.Ff.Fr10
public import proofs.«01_k».proof.Proof.Ff.Fr11
public import proofs.«01_k».proof.Proof.Ff.Fr12
public import proofs.«01_k».proof.Proof.Ff.Fr13
public import proofs.«01_k».proof.Proof.Ff.Fr14
public import proofs.«01_k».proof.Proof.Ff.Alg10
public import proofs.«01_k».proof.Proof.Ff.Alg11
public import proofs.«01_k».proof.Proof.Ff.Alg12
public import proofs.«01_k».proof.Proof.Ff.Alg13
public import proofs.«01_k».proof.Proof.Ff.Alg14
public import Idealize.ShloMosaic.Lib.Claim
public import Idealize.ShloMosaic.Adequacy
public import Idealize.ShloMosaic.Init

@[expose] public section

noncomputable section

namespace Cert.Proof

open Idealize.ShloMosaic Idealize.SL.Sem Cert.Kernel

theorem frame_kernel : Cert.quiescent_Kernel := fun m ρ _ => Cert.Kernel.Gen.frame m ρ

theorem frame_kernelIdeal : Cert.quiescent_KernelIdeal := fun m ρ _ => Cert.KernelIdeal.Gen.frame m ρ

theorem frame_kernelIdeal_finite : Cert.quiescent_KernelIdeal_pre_finite := fun m ρ _ => Cert.KernelIdeal.Gen.frame m ρ

theorem frame_reference : Cert.quiescent_ReferenceIdeal := fun m ρ _ =>
  (θ_run Cert.ReferenceIdeal.defs _ _).mono
    (fun r h => ⟨fun c => (h c).2.2.2.2.2, sem_eq_zero_of_no_sems (by decide) r.2⟩) (Cert.ReferenceIdeal.Value.run (F := Ideal) m ρ)

theorem frame_reference_finite : Cert.quiescent_ReferenceIdeal_pre_finite := fun m ρ _ => frame_reference m ρ trivial

theorem preserves : Cert.preserves_Kernel_KernelIdeal :=
  ⟨IdealRules.named_const.statement Cert.KernelIdeal.κ "inv_sqrt2" .f32 0x3F3504F3#32 _ rfl,
    IdealRules.named_const.statement Cert.KernelIdeal.κ "inv_sqrt2pi" .f32 0x3ECC422A#32 _ rfl⟩

theorem frame_kernel2Ideal : Cert.quiescent_Kernel2Ideal := fun m ρ _ => Cert.Kernel2Ideal.Gen.frame m ρ

theorem frame_reference2 : Cert.quiescent_Reference2Ideal := fun m ρ _ =>
  (θ_run Cert.Reference2Ideal.defs _ _).mono
    (fun r h => ⟨fun c => (h c).2.2.2, sem_eq_zero_of_no_sems (by decide) r.2⟩) (Cert.Reference2Ideal.Value.run (F := Ideal) m ρ)

theorem frame_kernel2Ideal_finite : Cert.quiescent_Kernel2Ideal_pre_finite2 := fun m ρ _ => Cert.Kernel2Ideal.Gen.frame m ρ

theorem frame_reference2_finite : Cert.quiescent_Reference2Ideal_pre_finite2 := fun m ρ _ => frame_reference2 m ρ trivial

theorem preserves2 : Cert.preserves_Kernel2_Kernel2Ideal := trivial

theorem frame_kernel3Ideal : Cert.quiescent_Kernel3Ideal := fun m ρ _ => Cert.Kernel3Ideal.Gen.frame m ρ

theorem frame_reference3 : Cert.quiescent_Reference3Ideal := fun m ρ _ =>
  (θ_run Cert.Reference3Ideal.defs _ _).mono
    (fun r h => ⟨fun c => (h c).2, sem_eq_zero_of_no_sems (by decide) r.2⟩) (Cert.Reference3Ideal.Value.run (F := Ideal) m ρ)

theorem preserves3 : Cert.preserves_Kernel3_Kernel3Ideal := trivial

theorem frame_kernel4Ideal : Cert.quiescent_Kernel4Ideal := fun m ρ _ => Cert.Kernel4Ideal.Gen.frame m ρ

theorem frame_reference4 : Cert.quiescent_Reference4Ideal := fun m ρ _ =>
  (θ_run Cert.Reference4Ideal.defs _ _).mono
    (fun r h => ⟨fun c => (h c).2.2, sem_eq_zero_of_no_sems (by decide) r.2⟩) (Cert.Reference4Ideal.Value.run (F := Ideal) m ρ)

theorem preserves4 : Cert.preserves_Kernel4_Kernel4Ideal := trivial

theorem frame_kernel5Ideal : Cert.quiescent_Kernel5Ideal := fun m ρ _ => Cert.Kernel5Ideal.Gen.frame m ρ

theorem frame_reference5 : Cert.quiescent_Reference5Ideal := fun m ρ _ =>
  (θ_run Cert.Reference5Ideal.defs _ _).mono
    (fun r h => ⟨fun c => (h c).2, sem_eq_zero_of_no_sems (by decide) r.2⟩) (Cert.Reference5Ideal.Value.run (F := Ideal) m ρ)

theorem preserves5 : Cert.preserves_Kernel5_Kernel5Ideal := trivial

theorem frame_kernel6Ideal : Cert.quiescent_Kernel6Ideal := fun m ρ _ => Cert.Kernel6Ideal.Gen.frame m ρ

theorem frame_reference6 : Cert.quiescent_Reference6Ideal := fun m ρ _ =>
  (θ_run Cert.Reference6Ideal.defs _ _).mono
    (fun r h => ⟨fun c => (h c).2.2.2, sem_eq_zero_of_no_sems (by decide) r.2⟩) (Cert.Reference6Ideal.Value.run (F := Ideal) m ρ)

theorem preserves6 : Cert.preserves_Kernel6_Kernel6Ideal := trivial

theorem frame_kernel7Ideal : Cert.quiescent_Kernel7Ideal := fun m ρ _ => Cert.Kernel7Ideal.Gen.frame m ρ

theorem frame_reference7 : Cert.quiescent_Reference7Ideal := fun m ρ _ =>
  (θ_run Cert.Reference7Ideal.defs _ _).mono
    (fun r h => ⟨fun c => (h c).2.2.2, sem_eq_zero_of_no_sems (by decide) r.2⟩) (Cert.Reference7Ideal.Value.run (F := Ideal) m ρ)

theorem preserves7 : Cert.preserves_Kernel7_Kernel7Ideal := trivial

theorem frame_kernel8Ideal : Cert.quiescent_Kernel8Ideal := fun m ρ _ => Cert.Kernel8Ideal.Gen.frame m ρ

theorem frame_reference8 : Cert.quiescent_Reference8Ideal := fun m ρ _ =>
  (θ_run Cert.Reference8Ideal.defs _ _).mono
    (fun r h => ⟨fun c => (h c).2.2.2.2, sem_eq_zero_of_no_sems (by decide) r.2⟩) (Cert.Reference8Ideal.Value.run (F := Ideal) m ρ)

theorem preserves8 : Cert.preserves_Kernel8_Kernel8Ideal := trivial

theorem frame_kernel9Ideal : Cert.quiescent_Kernel9Ideal := fun m ρ _ => Cert.Kernel9Ideal.Gen.frame m ρ

theorem frame_reference9 : Cert.quiescent_Reference9Ideal := fun m ρ _ =>
  (θ_run Cert.Reference9Ideal.defs _ _).mono
    (fun r h => ⟨fun c => (h c).2.2.2, sem_eq_zero_of_no_sems (by decide) r.2⟩) (Cert.Reference9Ideal.Value.run (F := Ideal) m ρ)

theorem preserves9 : Cert.preserves_Kernel9_Kernel9Ideal := trivial

theorem frame_kernel10Ideal : Cert.quiescent_Kernel10Ideal := fun m ρ _ => Cert.Kernel10Ideal.Gen.frame m ρ

theorem frame_reference10 : Cert.quiescent_Reference10Ideal := fun m ρ _ =>
  (θ_run Cert.Reference10Ideal.defs _ _).mono
    (fun r h => ⟨fun c => (h c).2.2.2.2, sem_eq_zero_of_no_sems (by decide) r.2⟩) (Cert.Reference10Ideal.Value.run (F := Ideal) m ρ)

theorem preserves10 : Cert.preserves_Kernel10_Kernel10Ideal := trivial

theorem frame_kernel11Ideal : Cert.quiescent_Kernel11Ideal := fun m ρ _ => Cert.Kernel11Ideal.Gen.frame m ρ

theorem frame_reference11 : Cert.quiescent_Reference11Ideal := fun m ρ _ =>
  (θ_run Cert.Reference11Ideal.defs _ _).mono
    (fun r h => ⟨fun c => (h c).2.2.2.2, sem_eq_zero_of_no_sems (by decide) r.2⟩) (Cert.Reference11Ideal.Value.run (F := Ideal) m ρ)

theorem preserves11 : Cert.preserves_Kernel11_Kernel11Ideal := trivial

theorem frame_kernel12Ideal : Cert.quiescent_Kernel12Ideal := fun m ρ _ => Cert.Kernel12Ideal.Gen.frame m ρ

theorem frame_reference12 : Cert.quiescent_Reference12Ideal := fun m ρ _ =>
  (θ_run Cert.Reference12Ideal.defs _ _).mono
    (fun r h => ⟨fun c => (h c).2.2.2.2, sem_eq_zero_of_no_sems (by decide) r.2⟩) (Cert.Reference12Ideal.Value.run (F := Ideal) m ρ)

theorem preserves12 : Cert.preserves_Kernel12_Kernel12Ideal := trivial

theorem frame_kernel13Ideal : Cert.quiescent_Kernel13Ideal := fun m ρ _ => Cert.Kernel13Ideal.Gen.frame m ρ

theorem frame_reference13 : Cert.quiescent_Reference13Ideal := fun m ρ _ =>
  (θ_run Cert.Reference13Ideal.defs _ _).mono
    (fun r h => ⟨fun c => (h c).2.2.2.2, sem_eq_zero_of_no_sems (by decide) r.2⟩) (Cert.Reference13Ideal.Value.run (F := Ideal) m ρ)

theorem preserves13 : Cert.preserves_Kernel13_Kernel13Ideal := trivial

theorem frame_kernel14Ideal : Cert.quiescent_Kernel14Ideal := fun m ρ _ => Cert.Kernel14Ideal.Gen.frame m ρ

theorem frame_reference14 : Cert.quiescent_Reference14Ideal := fun m ρ _ =>
  (θ_run Cert.Reference14Ideal.defs _ _).mono
    (fun r h => ⟨fun c => (h c).2.2, sem_eq_zero_of_no_sems (by decide) r.2⟩) (Cert.Reference14Ideal.Value.run (F := Ideal) m ρ)

theorem preserves14 : Cert.preserves_Kernel14_Kernel14Ideal := trivial

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Gm.preFacts, Cert.Reference2Ideal.Same.preFacts,
    frame_kernel, frame_kernelIdeal, frame_kernelIdeal_finite, frame_reference, frame_reference_finite,
    frame_kernel2, frame_kernel2Ideal, frame_kernel2Ideal_finite, frame_reference2, frame_reference2_finite,
    frame_kernel3, frame_kernel3Ideal, frame_reference3,
    frame_kernel4, frame_kernel4Ideal, frame_reference4,
    frame_kernel5, frame_kernel5Ideal, frame_reference5,
    frame_kernel6, frame_kernel6Ideal, frame_reference6,
    frame_kernel7, frame_kernel7Ideal, frame_reference7,
    frame_kernel8, frame_kernel8Ideal, frame_reference8,
    frame_kernel9, frame_kernel9Ideal, frame_reference9,
    frame_kernel10, frame_kernel10Ideal, frame_reference10,
    frame_kernel11, frame_kernel11Ideal, frame_reference11,
    frame_kernel12, frame_kernel12Ideal, frame_reference12,
    frame_kernel13, frame_kernel13Ideal, frame_reference13,
    frame_kernel14, frame_kernel14Ideal, frame_reference14,
    preserves, Cert.Gm.Alg.algebraic,
    preserves2, Cert.Reference2Ideal.Same.algebraic,
    preserves3, Cert.Reference3Ideal.Same.algebraic,
    preserves4, Cert.Reference4Ideal.Same.algebraic,
    preserves5, Cert.Reference5Ideal.Same.algebraic,
    preserves6, Cert.Reference6Ideal.Same.algebraic,
    preserves7, Cert.Reference7Ideal.Same.algebraic,
    preserves8, Cert.Reference8Ideal.Same.algebraic,
    preserves9, Cert.Reference9Ideal.Same.algebraic,
    preserves10, Cert.Reference10Ideal.Same.algebraic,
    preserves11, Cert.Reference11Ideal.Same.algebraic,
    preserves12, Cert.Reference12Ideal.Same.algebraic,
    preserves13, Cert.Reference13Ideal.Same.algebraic,
    preserves14, Cert.Reference14Ideal.Same.algebraic⟩

end Cert.Proof

end
